-- ==== Defs.lean ====
def Pre_Kernel [hPre_sources_in_range : Cert.Pre_sources_in_range.Facts] (m : (ℓ : Loc Cert.Kernel.nD Cert.Kernel.τ Cert.Kernel.sig) → Buf (Elt Bits) ℓ) : Prop :=
  ∀ c : Dev Cert.Kernel.nD,
    (Cert.Pre_sources_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_sources_in_range : Cert.Pre_sources_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_sources_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_sources_in_range_finite [hPre_sources_in_range_finite : Cert.Pre_sources_in_range_finite.Facts] (m : (ℓ : Loc Cert.KernelIdeal.nD Cert.KernelIdeal.τ Cert.KernelIdeal.sig) → Buf (Elt Ideal) ℓ) : Prop :=
  ∀ c : Dev Cert.KernelIdeal.nD,
    (Cert.Pre_sources_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sources_in_range_finite [hPre_sources_in_range_finite : Cert.Pre_sources_in_range_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sources_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_sources_in_range : Cert.Pre_sources_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_sources_in_range : Cert.Pre_sources_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_sources_in_range_finite [hKernelIdeal : Cert.KernelIdeal.Facts] [hPre_sources_in_range_finite : Cert.Pre_sources_in_range_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sources_in_range_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_sources_in_range_finite [hReferenceIdeal : Cert.ReferenceIdeal.Facts] [hPre_sources_in_range_finite : Cert.Pre_sources_in_range_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sources_in_range_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "neg" .f32 0xFF61B1E6#32 ⊥

def algebraic_KernelIdeal_ReferenceIdeal_pre_sources_in_range_finite [hKernelIdeal : Cert.KernelIdeal.Facts] [hReferenceIdeal : Cert.ReferenceIdeal.Facts] [hPre_sources_in_range_finite : Cert.Pre_sources_in_range_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sources_in_range_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_sources_in_range : Cert.Pre_sources_in_range.Facts) (hPre_sources_in_range_finite : Cert.Pre_sources_in_range_finite.Facts),
    quiescent_Kernel (hKernel := hKernel) (hPre_sources_in_range := hPre_sources_in_range)
    ∧ quiescent_KernelIdeal (hKernelIdeal := hKernelIdeal) (hPre_sources_in_range := hPre_sources_in_range)
    ∧ quiescent_KernelIdeal_pre_sources_in_range_finite (hKernelIdeal := hKernelIdeal) (hPre_sources_in_range_finite := hPre_sources_in_range_finite)
    ∧ quiescent_ReferenceIdeal (hReferenceIdeal := hReferenceIdeal)
    ∧ quiescent_ReferenceIdeal_pre_sources_in_range_finite (hReferenceIdeal := hReferenceIdeal) (hPre_sources_in_range_finite := hPre_sources_in_range_finite)
    ∧ preserves_Kernel_KernelIdeal
    ∧ algebraic_KernelIdeal_ReferenceIdeal_pre_sources_in_range_finite (hKernelIdeal := hKernelIdeal) (hReferenceIdeal := hReferenceIdeal) (hPre_sources_in_range_finite := hPre_sources_in_range_finite)
-- ==== Pre_sources_in_range.lean ====
abbrev S1x128x10000x1 : Shape := ⟨4, ![1, 128, 10000, 1]⟩
abbrev S2x1x10000x32 : Shape := ⟨4, ![2, 1, 10000, 32]⟩
abbrev S256x128 : Shape := ⟨2, ![256, 128]⟩
abbrev S128 : Shape := ⟨1, ![128]⟩
abbrev S1x1x10000x32 : Shape := ⟨4, ![1, 1, 10000, 32]⟩
abbrev S1x10000x32 : Shape := ⟨3, ![1, 10000, 32]⟩
abbrev S_ : Shape := ⟨0, ![]⟩

class Facts : Prop where
  slices_S2x1x10000x32_S1x1x10000x32_0_0_0_0 : S2x1x10000x32.Slices ![0, 0, 0, 0] S1x1x10000x32
  shapeCasts_S1x1x10000x32_S1x10000x32 : S1x1x10000x32.ShapeCasts S1x10000x32
  bcast_S_S1x10000x32 : S_.BroadcastsInDim S1x10000x32 (![] : Fin 0 → Fin S1x10000x32.rank)
  reducesTo_S1x10000x32_S_d0_1_2 : S1x10000x32.ReducesTo [0, 1, 2] S_
  h_S_ : 0 < S_.numel

variable [Facts]

def fn {F : FTy → Type} [FloatOps F] (main_arg0 : FVec F S1x128x10000x1 .f32) (main_arg1 : IVec S2x1x10000x32 32) (main_arg2 : FVec F S256x128 .f32) (main_arg3 : FVec F S128 .f32) : IVec S_ 1 :=
  let main_v0 : IVec S1x1x10000x32 32 := (extractStridedSlice S1x1x10000x32 ![0, 0, 0, 0] · slices_S2x1x10000x32_S1x1x10000x32_0_0_0_0) main_arg1
  let main_v1 : IVec S1x10000x32 32 := shapeCast S1x10000x32 main_v0 shapeCasts_S1x1x10000x32_S1x10000x32
  let main_c : IVec S_ 32 := constantI S_ 32 0#32
  let main_v2 : IVec S1x10000x32 32 := broadcastInDim S1x10000x32 ![] bcast_S_S1x10000x32 main_c
  let main_v3 : IVec S1x10000x32 1 := cmpi .sge main_v1 main_v2
  let main_v4 : IVec S1x1x10000x32 32 := (extractStridedSlice S1x1x10000x32 ![0, 0, 0, 0] · slices_S2x1x10000x32_S1x1x10000x32_0_0_0_0) main_arg1
  let main_v5 : IVec S1x10000x32 32 := shapeCast S1x10000x32 main_v4 shapeCasts_S1x1x10000x32_S1x10000x32
  let main_c_0 : IVec S_ 32 := constantI S_ 32 10000#32
  let main_v6 : IVec S1x10000x32 32 := broadcastInDim S1x10000x32 ![] bcast_S_S1x10000x32 main_c_0
  let main_v7 : IVec S1x10000x32 1 := cmpi .slt main_v5 main_v6
  let main_v8 : IVec S1x10000x32 1 := andi main_v3 main_v7
  let main_c_1 : IVec S_ 1 := constantI S_ 1 1#1
  let main_v9 : IVec S_ 1 := (fun x v => Host.reduce IntOp.andi x v reducesTo_S1x10000x32_S_d0_1_2 h_S_) main_v8 main_c_1
  main_v9
-- ==== Pre_sources_in_range_finite.lean ====
abbrev S1x128x10000x1 : Shape := ⟨4, ![1, 128, 10000, 1]⟩
abbrev S2x1x10000x32 : Shape := ⟨4, ![2, 1, 10000, 32]⟩
abbrev S256x128 : Shape := ⟨2, ![256, 128]⟩
abbrev S128 : Shape := ⟨1, ![128]⟩
abbrev S1x1x10000x32 : Shape := ⟨4, ![1, 1, 10000, 32]⟩
abbrev S1x10000x32 : Shape := ⟨3, ![1, 10000, 32]⟩
abbrev S_ : Shape := ⟨0, ![]⟩

class Facts : Prop where
  slices_S2x1x10000x32_S1x1x10000x32_0_0_0_0 : S2x1x10000x32.Slices ![0, 0, 0, 0] S1x1x10000x32
  shapeCasts_S1x1x10000x32_S1x10000x32 : S1x1x10000x32.ShapeCasts S1x10000x32
  bcast_S_S1x10000x32 : S_.BroadcastsInDim S1x10000x32 (![] : Fin 0 → Fin S1x10000x32.rank)
  reducesTo_S1x10000x32_S_d0_1_2 : S1x10000x32.ReducesTo [0, 1, 2] S_
  h_S_ : 0 < S_.numel
  bcast_S_S1x128x10000x1 : S_.BroadcastsInDim S1x128x10000x1 (![] : Fin 0 → Fin S1x128x10000x1.rank)
  reducesTo_S1x128x10000x1_S_d0_1_2_3 : S1x128x10000x1.ReducesTo [0, 1, 2, 3] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_v14 : IVec S_ 1) (main_v17 : IVec S256x128 1) : IVec S_ 1 :=
  let main_c_4 : IVec S_ 1 := constantI S_ 1 1#1
  let main_v18 : IVec S_ 1 := (fun x v => Host.reduce IntOp.andi x v reducesTo_S256x128_S_d0_1 h_S_) main_v17 main_c_4
  let main_v19 : IVec S_ 1 := andi main_v14 main_v18
  main_v19

def fn {F : FTy → Type} [FloatOps F] (main_arg0 : FVec F S1x128x10000x1 .f32) (main_arg1 : IVec S2x1x10000x32 32) (main_arg2 : FVec F S256x128 .f32) (main_arg3 : FVec F S128 .f32) : IVec S_ 1 :=
  let main_v0 : IVec S1x1x10000x32 32 := (extractStridedSlice S1x1x10000x32 ![0, 0, 0, 0] · slices_S2x1x10000x32_S1x1x10000x32_0_0_0_0) main_arg1
  let main_v1 : IVec S1x10000x32 32 := shapeCast S1x10000x32 main_v0 shapeCasts_S1x1x10000x32_S1x10000x32
  let main_c : IVec S_ 32 := constantI S_ 32 0#32
  let main_v2 : IVec S1x10000x32 32 := broadcastInDim S1x10000x32 ![] bcast_S_S1x10000x32 main_c
  let main_v3 : IVec S1x10000x32 1 := cmpi .sge main_v1 main_v2
  let main_v4 : IVec S1x1x10000x32 32 := (extractStridedSlice S1x1x10000x32 ![0, 0, 0, 0] · slices_S2x1x10000x32_S1x1x10000x32_0_0_0_0) main_arg1
  let main_v5 : IVec S1x10000x32 32 := shapeCast S1x10000x32 main_v4 shapeCasts_S1x1x10000x32_S1x10000x32
  let main_c_0 : IVec S_ 32 := constantI S_ 32 10000#32
  let main_v6 : IVec S1x10000x32 32 := broadcastInDim S1x10000x32 ![] bcast_S_S1x10000x32 main_c_0
  let main_v7 : IVec S1x10000x32 1 := cmpi .slt main_v5 main_v6
  let main_v8 : IVec S1x10000x32 1 := andi main_v3 main_v7
  let main_c_1 : IVec S_ 1 := constantI S_ 1 1#1
  let main_v9 : IVec S_ 1 := (fun x v => Host.reduce IntOp.andi x v reducesTo_S1x10000x32_S_d0_1_2 h_S_) main_v8 main_c_1
  let main_v10 : FVec F S1x128x10000x1 .f32 := Host.absf main_arg0
  let main_cst : FVec F S_ .f32 := constant S_ .f32 0x7F800000#32
  let main_v11 : FVec F S1x128x10000x1 .f32 := broadcastInDim S1x128x10000x1 ![] bcast_S_S1x128x10000x1 main_cst
  let main_v12 : IVec S1x128x10000x1 1 := cmpf .olt main_v10 main_v11
  let main_c_2 : IVec S_ 1 := constantI S_ 1 1#1
  let main_v13 : IVec S_ 1 := (fun x v => Host.reduce IntOp.andi x v reducesTo_S1x128x10000x1_S_d0_1_2_3 h_S_) main_v12 main_c_2
  let main_v14 : IVec S_ 1 := andi main_v9 main_v13
  let main_v15 : FVec F S256x128 .f32 := Host.absf main_arg2
  let main_cst_3 : FVec F S_ .f32 := constant S_ .f32 0x7F800000#32
  let main_v16 : FVec F S256x128 .f32 := broadcastInDim S256x128 ![] bcast_S_S256x128 main_cst_3
  let main_v17 : IVec S256x128 1 := cmpf .olt main_v15 main_v16
  fn_part1 (F := F) main_v14 main_v17
-- ==== Kernel.lean ====
abbrev S1x128x10000x1 : Shape := ⟨4, ![1, 128, 10000, 1]⟩
abbrev S2x1x10000x32 : Shape := ⟨4, ![2, 1, 10000, 32]⟩
abbrev S256x128 : Shape := ⟨2, ![256, 128]⟩
abbrev S128 : Shape := ⟨1, ![128]⟩
abbrev S128x10000 : Shape := ⟨2, ![128, 10000]⟩
abbrev S_ : Shape := ⟨0, ![]⟩
abbrev S128x10240 : Shape := ⟨2, ![128, 10240]⟩
abbrev S2x320000 : Shape := ⟨2, ![2, 320000]⟩
abbrev S1x320000 : Shape := ⟨2, ![1, 320000]⟩
abbrev S320000 : Shape := ⟨1, ![320000]⟩
abbrev S320256 : Shape := ⟨1, ![320256]⟩
abbrev S1x128 : Shape := ⟨2, ![1, 128]⟩
abbrev S10240x128 : Shape := ⟨2, ![10240, 128]⟩
abbrev S128x1024 : Shape := ⟨2, ![128, 1024]⟩
abbrev S1024x128 : Shape := ⟨2, ![1024, 128]⟩
abbrev S128x128 : Shape := ⟨2, ![128, 128]⟩
abbrev S10000x128 : Shape := ⟨2, ![10000, 128]⟩
abbrev S1310720 : Shape := ⟨1, ![1310720]⟩
abbrev S40960 : Shape := ⟨1, ![40960]⟩
abbrev S2x768 : Shape := ⟨2, ![2, 768]⟩
abbrev S784 : Shape := ⟨1, ![784]⟩
abbrev S2x16x128 : Shape := ⟨3, ![2, 16, 128]⟩
abbrev S640x128 : Shape := ⟨2, ![640, 128]⟩
abbrev S400x128 : Shape := ⟨2, ![400, 128]⟩
abbrev S16 : Shape := ⟨1, ![16]⟩
abbrev S1x768 : Shape := ⟨2, ![1, 768]⟩
abbrev S768 : Shape := ⟨1, ![768]⟩
abbrev S1x16 : Shape := ⟨2, ![1, 16]⟩
abbrev S1 : Shape := ⟨1, ![1]⟩
abbrev S1x16x128 : Shape := ⟨3, ![1, 16, 128]⟩
abbrev S16x128 : Shape := ⟨2, ![16, 128]⟩
abbrev S1x1x16 : Shape := ⟨3, ![1, 1, 16]⟩

abbrev nBuf : Table → Nat
  | .hbm => 27
  | .local .tc .vmem => 13
  | .shared => 1
  | .local .scVector .vmem => 6
  | _ => 0

abbrev bufTy : (tb : Table) → Fin (nBuf tb) → BufTy
  | .hbm, ⟨0, _⟩ => ⟨S1x128x10000x1, .f32⟩
  | .hbm, ⟨1, _⟩ => ⟨S2x1x10000x32, .i32⟩
  | .hbm, ⟨2, _⟩ => ⟨S256x128, .f32⟩
  | .hbm, ⟨3, _⟩ => ⟨S128, .f32⟩
  | .hbm, ⟨4, _⟩ => ⟨S128x10000, .f32⟩
  | .hbm, ⟨5, _⟩ => ⟨S_, .i32⟩
  | .hbm, ⟨6, _⟩ => ⟨S_, .f32⟩
  | .hbm, ⟨7, _⟩ => ⟨S128x10240, .f32⟩
  | .hbm, ⟨8, _⟩ => ⟨S2x320000, .i32⟩
  | .hbm, ⟨9, _⟩ => ⟨S1x320000, .i32⟩
  | .hbm, ⟨10, _⟩ => ⟨S320000, .i32⟩
  | .hbm, ⟨11, _⟩ => ⟨S_, .i32⟩
  | .hbm, ⟨12, _⟩ => ⟨S_, .i32⟩
  | .hbm, ⟨13, _⟩ => ⟨S320256, .i32⟩
  | .hbm, ⟨14, _⟩ => ⟨S1x320000, .i32⟩
  | .hbm, ⟨15, _⟩ => ⟨S320000, .i32⟩
  | .hbm, ⟨16, _⟩ => ⟨S_, .i32⟩
  | .hbm, ⟨17, _⟩ => ⟨S320256, .i32⟩
  | .hbm, ⟨18, _⟩ => ⟨S1x128, .f32⟩
  | .hbm, ⟨19, _⟩ => ⟨S10240x128, .f32⟩
  | .hbm, ⟨20, _⟩ => ⟨S10000x128, .f32⟩
  | .hbm, ⟨21, _⟩ => ⟨S1310720, .f32⟩
  | .hbm, ⟨22, _⟩ => ⟨S10240x128, .f32⟩
  | .hbm, ⟨23, _⟩ => ⟨S10240x128, .f32⟩
  | .hbm, ⟨24, _⟩ => ⟨S10000x128, .f32⟩
  | .hbm, ⟨25, _⟩ => ⟨S128x10000, .f32⟩
  | .hbm, ⟨26, _⟩ => ⟨S1x128x10000x1, .f32⟩
  | .local .tc .vmem, ⟨0, _⟩ => ⟨S128x1024, .f32⟩
  | .local .tc .vmem, ⟨1, _⟩ => ⟨S128x1024, .f32⟩
  | .local .tc .vmem, ⟨2, _⟩ => ⟨S256x128, .f32⟩
  | .local .tc .vmem, ⟨3, _⟩ => ⟨S1024x128, .f32⟩
  | .local .tc .vmem, ⟨4, _⟩ => ⟨S1024x128, .f32⟩
  | .local .tc .vmem, ⟨5, _⟩ => ⟨S128x1024, .f32⟩
  | .local .tc .vmem, ⟨6, _⟩ => ⟨S128x1024, .f32⟩
  | .local .tc .vmem, ⟨7, _⟩ => ⟨S256x128, .f32⟩
  | .local .tc .vmem, ⟨8, _⟩ => ⟨S1x128, .f32⟩
  | .local .tc .vmem, ⟨9, _⟩ => ⟨S1024x128, .f32⟩
  | .local .tc .vmem, ⟨10, _⟩ => ⟨S1024x128, .f32⟩
  | .local .tc .vmem, ⟨11, _⟩ => ⟨S1024x128, .f32⟩
  | .local .tc .vmem, ⟨12, _⟩ => ⟨S1024x128, .f32⟩
  | .shared, ⟨0, _⟩ => ⟨S10000x128, .f32⟩
  | .local .scVector .vmem, ⟨0, _⟩ => ⟨S40960, .f32⟩
  | .local .scVector .vmem, ⟨1, _⟩ => ⟨S2x768, .i32⟩
  | .local .scVector .vmem, ⟨2, _⟩ => ⟨S2x768, .i32⟩
  | .local .scVector .vmem, ⟨3, _⟩ => ⟨S784, .i32⟩
  | .local .scVector .vmem, ⟨4, _⟩ => ⟨S784, .i32⟩
  | .local .scVector .vmem, ⟨5, _⟩ => ⟨S2x16x128, .f32⟩
  | _, _ => ⟨S1x128x10000x1, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTables nBuf rfl bufTy 5 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v5_scv : Ref sig .scVector := ⟨.hbm, 13, rfl⟩
abbrev main_v8_scv : Ref sig .scVector := ⟨.hbm, 17, rfl⟩
abbrev main_v11_scv : Ref sig .scVector := ⟨.hbm, 20, rfl⟩
abbrev main_v12_scv : Ref sig .scVector := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc2_stg0_0 : Ref sig .tc := ⟨.vmem, 5, rfl⟩
abbrev cc2_stg0_1 : Ref sig .tc := ⟨.vmem, 6, rfl⟩
abbrev cc2_stg1_0 : Ref sig .tc := ⟨.vmem, 7, rfl⟩
abbrev cc2_stg2_0 : Ref sig .tc := ⟨.vmem, 8, rfl⟩
abbrev cc2_stg3_0 : Ref sig .tc := ⟨.vmem, 9, rfl⟩
abbrev cc2_stg3_1 : Ref sig .tc := ⟨.vmem, 10, rfl⟩
abbrev cc2_stg4_0 : Ref sig .tc := ⟨.vmem, 11, rfl⟩
abbrev cc2_stg4_1 : Ref sig .tc := ⟨.vmem, 12, rfl⟩
abbrev cc1_scratch6 : Ref sig .scVector := ⟨.shared, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc2_sem4_0 : DmaSem sig := 18
abbrev cc2_sem4_1 : DmaSem sig := 19
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_cond1 (i : grid1.Coords) : BitVec 1 :=
  let arg1 : BitVec 32 := BitVec.ofNat 32 (i 1).val
  let c15_i32 : BitVec 32 := 15#32
  let v3 : BitVec 1 := Scalar.cmpi .slt arg1 c15_i32
  let v4 : BitVec 32 := Scalar.extui v3
  let c0_i32 : BitVec 32 := 0#32
  let v5 : BitVec 1 := Scalar.cmpi .ne v4 c0_i32
  v5

def k1_off1 (i : grid1.Coords) : Fin 2 → Nat :=
  let arg1 : BitVec 32 := BitVec.ofNat 32 (i 1).val
  let c640_i32_26 : BitVec 32 := 640#32
  let v45 : BitVec 32 := Scalar.muli arg1 c640_i32_26
  let c0_i32_27_r0 : BitVec 32 := 0#32
  ![v45.toNat, 0]
@[reducible] def k1_t1_loop : Scf.Loop 32 :=
  let c0_i32_5 : BitVec 32 := 0#32
  let c320_i32_6 : BitVec 32 := 320#32
  let v28 : BitVec 32 := Scalar.addi c0_i32_5 c320_i32_6
  let c1_i32 : BitVec 32 := 1#32
  ⟨c0_i32_5, v28, c1_i32⟩
def k1_off2 (k1_t1 : Fin k1_t1_loop.trips) (c0_i32_27 : BitVec 32) : Fin 1 → Nat :=
  let c0_i32_5 : BitVec 32 := 0#32
  let c1_i32 : BitVec 32 := 1#32
  let arg17 : BitVec 32 := Scf.iv c0_i32_5 c1_i32 k1_t1
  let c128_i32_26 : BitVec 32 := 128#32
  let v44 : BitVec 32 := Scalar.muli arg17 c128_i32_26
  let v45 : BitVec 32 := Scalar.addi v44 c0_i32_27
  let v46 : Index := Scalar.indexCast v45
  ![v46.toNat]
@[reducible] def k1_t2_loop : Scf.Loop 32 :=
  let c0_i32_9 : BitVec 32 := 0#32
  let c49_i32 : BitVec 32 := 49#32
  let v29 : BitVec 32 := Scalar.addi c0_i32_9 c49_i32
  let c1_i32_10 : BitVec 32 := 1#32
  ⟨c0_i32_9, v29, c1_i32_10⟩
def k1_off3 (k1_t2 : Fin k1_t2_loop.trips) : Fin 1 → Nat :=
  let c0_i32_9 : BitVec 32 := 0#32
  let c1_i32_10 : BitVec 32 := 1#32
  let arg17 : BitVec 32 := Scf.iv c0_i32_9 c1_i32_10 k1_t2
  let c16_i32_26 : BitVec 32 := 16#32
  let v44 : BitVec 32 := Scalar.muli arg17 c16_i32_26
  let v45 : Index := Scalar.indexCast v44
  ![v45.toNat]
@[reducible] def k1_t3_loop : Scf.Loop 32 :=
  let c0_i32_23 : BitVec 32 := 0#32
  let c417_i32 : BitVec 32 := 417#32
  let v42 : BitVec 32 := Scalar.addi c0_i32_23 c417_i32
  let c1_i32_24 : BitVec 32 := 1#32
  ⟨c0_i32_23, v42, c1_i32_24⟩
def k1_cond3 (k1_t3 : Fin k1_t3_loop.trips) : BitVec 1 :=
  let c0_i32_23 : BitVec 32 := 0#32
  let c1_i32_24 : BitVec 32 := 1#32
  let arg17 : BitVec 32 := Scf.iv c0_i32_23 c1_i32_24 k1_t3
  let c1_i32_27 : BitVec 32 := 1#32
  let v45 : BitVec 32 := Scalar.addi arg17 c1_i32_27
  let c417_i32_28 : BitVec 32 := 417#32
  let v46 : BitVec 1 := Scalar.cmpi .slt v45 c417_i32_28
  let c1_i32_26 : BitVec 32 := 1#32
  let v44 : BitVec 32 := Scalar.andi arg17 c1_i32_26
  let c1_i32_29 : BitVec 32 := 1#32
  let v47 : BitVec 1 := Scalar.cmpi .eq v44 c1_i32_29
  let v48 : BitVec 1 := Scalar.andi v46 v47
  let v49 : BitVec 32 := Scalar.extui v48
  let c0_i32_30 : BitVec 32 := 0#32
  let v50 : BitVec 1 := Scalar.cmpi .ne v49 c0_i32_30
  v50

def k1_off4 (k1_t3 : Fin k1_t3_loop.trips) : Fin 1 → Nat :=
  let c0_i32_23 : BitVec 32 := 0#32
  let c1_i32_24 : BitVec 32 := 1#32
  let arg17 : BitVec 32 := Scf.iv c0_i32_23 c1_i32_24 k1_t3
  let c1_i32_27 : BitVec 32 := 1#32
  let v45 : BitVec 32 := Scalar.addi arg17 c1_i32_27
  let c768_i32 : BitVec 32 := 768#32
  let v91 : BitVec 32 := Scalar.muli v45 c768_i32
  ![v91.toNat]
def k1_cond4 (k1_t3 : Fin k1_t3_loop.trips) : BitVec 1 :=
  let c0_i32_23 : BitVec 32 := 0#32
  let c1_i32_24 : BitVec 32 := 1#32
  let arg17 : BitVec 32 := Scf.iv c0_i32_23 c1_i32_24 k1_t3
  let c1_i32_27 : BitVec 32 := 1#32
  let v45 : BitVec 32 := Scalar.addi arg17 c1_i32_27
  let c417_i32_31 : BitVec 32 := 417#32
  let v51 : BitVec 1 := Scalar.cmpi .slt v45 c417_i32_31
  let c1_i32_26 : BitVec 32 := 1#32
  let v44 : BitVec 32 := Scalar.andi arg17 c1_i32_26
  let c0_i32_32 : BitVec 32 := 0#32
  let v52 : BitVec 1 := Scalar.cmpi .eq v44 c0_i32_32
  let v53 : BitVec 1 := Scalar.andi v51 v52
  let v54 : BitVec 32 := Scalar.extui v53
  let c0_i32_33 : BitVec 32 := 0#32
  let v55 : BitVec 1 := Scalar.cmpi .ne v54 c0_i32_33
  v55

def k1_off5 (k1_t3 : Fin k1_t3_loop.trips) : Fin 1 → Nat :=
  let c0_i32_23 : BitVec 32 := 0#32
  let c1_i32_24 : BitVec 32 := 1#32
  let arg17 : BitVec 32 := Scf.iv c0_i32_23 c1_i32_24 k1_t3
  let c1_i32_27 : BitVec 32 := 1#32
  let v45 : BitVec 32 := Scalar.addi arg17 c1_i32_27
  let c768_i32 : BitVec 32 := 768#32
  let v91 : BitVec 32 := Scalar.muli v45 c768_i32
  ![v91.toNat]
def k1_cond5 (k1_t3 : Fin k1_t3_loop.trips) : BitVec 1 :=
  let c0_i32_23 : BitVec 32 := 0#32
  let c1_i32_24 : BitVec 32 := 1#32
  let arg17 : BitVec 32 := Scf.iv c0_i32_23 c1_i32_24 k1_t3
  let c1_i32_26 : BitVec 32 := 1#32
  let v44 : BitVec 32 := Scalar.andi arg17 c1_i32_26
  let c0_i32_34 : BitVec 32 := 0#32
  let v56 : BitVec 1 := Scalar.cmpi .eq v44 c0_i32_34
  let v57 : BitVec 32 := Scalar.extui v56
  let c0_i32_35 : BitVec 32 := 0#32
  let v58 : BitVec 1 := Scalar.cmpi .ne v57 c0_i32_35
  v58

def k1_off6 (k1_t3 : Fin k1_t3_loop.trips) : Fin 1 → Nat :=
  let c0_i32_23 : BitVec 32 := 0#32
  let c1_i32_24 : BitVec 32 := 1#32
  let arg17 : BitVec 32 := Scf.iv c0_i32_23 c1_i32_24 k1_t3
  let c768_i32 : BitVec 32 := 768#32
  let v91 : BitVec 32 := Scalar.muli arg17 c768_i32
  ![v91.toNat]
def k1_cond6 (k1_t3 : Fin k1_t3_loop.trips) : BitVec 1 :=
  let c0_i32_23 : BitVec 32 := 0#32
  let c1_i32_24 : BitVec 32 := 1#32
  let arg17 : BitVec 32 := Scf.iv c0_i32_23 c1_i32_24 k1_t3
  let c1_i32_26 : BitVec 32 := 1#32
  let v44 : BitVec 32 := Scalar.andi arg17 c1_i32_26
  let c1_i32_36 : BitVec 32 := 1#32
  let v59 : BitVec 1 := Scalar.cmpi .eq v44 c1_i32_36
  let v60 : BitVec 32 := Scalar.extui v59
  let c0_i32_37 : BitVec 32 := 0#32
  let v61 : BitVec 1 := Scalar.cmpi .ne v60 c0_i32_37
  v61

def k1_off7 (k1_t3 : Fin k1_t3_loop.trips) : Fin 1 → Nat :=
  let c0_i32_23 : BitVec 32 := 0#32
  let c1_i32_24 : BitVec 32 := 1#32
  let arg17 : BitVec 32 := Scf.iv c0_i32_23 c1_i32_24 k1_t3
  let c768_i32 : BitVec 32 := 768#32
  let v91 : BitVec 32 := Scalar.muli arg17 c768_i32
  ![v91.toNat]
@[reducible] def k1_t4_loop : Scf.Loop 32 :=
  let c0_i32_39 : BitVec 32 := 0#32
  let c12_i32 : BitVec 32 := 12#32
  let v62 : BitVec 32 := Scalar.addi c0_i32_39 c12_i32
  let c1_i32_40 : BitVec 32 := 1#32
  ⟨c0_i32_39, v62, c1_i32_40⟩
def k1_off8 (k1_t3 : Fin k1_t3_loop.trips) (k1_t4 : Fin k1_t4_loop.trips) (c0_i32_58 : BitVec 32) : Fin 2 → Nat :=
  let c0_i32_23 : BitVec 32 := 0#32
  let c1_i32_24 : BitVec 32 := 1#32
  let arg17 : BitVec 32 := Scf.iv c0_i32_23 c1_i32_24 k1_t3
  let c1_i32_26 : BitVec 32 := 1#32
  let v44 : BitVec 32 := Scalar.andi arg17 c1_i32_26
  let v94 : Index := Scalar.indexCast v44
  let c4_i32 : BitVec 32 := 4#32
  let c0_i32_39 : BitVec 32 := 0#32
  let c1_i32_40 : BitVec 32 := 1#32
  let arg18 : BitVec 32 := Scf.iv c0_i32_39 c1_i32_40 k1_t4
  let v91 : BitVec 32 := Scalar.muli c4_i32 arg18
  let v92 : BitVec 32 := Scalar.addi v91 c0_i32_58
  let c16_i32_59 : BitVec 32 := 16#32
  let v93 : BitVec 32 := Scalar.muli v92 c16_i32_59
  let v95 : Index := Scalar.indexCast v93
  ![v94.toNat, v95.toNat]

def k1_chk1 (v184 : IVec S16 32) : Prop :=
  (∀ a x, ((![v184] : Fin 1 → IVec S16 32) a x).toNat < S784.size a) ∧
  (∀ a x, ((![v184] : Fin 1 → IVec S16 32) a x).toNat < S784.size a)
theorem k1_idx1_inb : ∀ (v184 : IVec S16 32) (k1_hw1 : k1_chk1 v184), ∀ a x, ((![v184] : Fin 1 → IVec S16 32) a x).toNat < S784.size a := fun v184 k1_hw1 => k1_hw1.1
theorem k1_idx2_inb : ∀ (v184 : IVec S16 32) (k1_hw1 : k1_chk1 v184), ∀ a x, ((![v184] : Fin 1 → IVec S16 32) a x).toNat < S784.size a := fun v184 k1_hw1 => k1_hw1.2

def k1_chk2 (v193 : IVec S16 32) : Prop :=
  (∀ a x, ((![v193] : Fin 1 → IVec S16 32) a x).toNat < S784.size a) ∧
  (∀ a x, ((![v193] : Fin 1 → IVec S16 32) a x).toNat < S784.size a)
theorem k1_idx3_inb : ∀ (v193 : IVec S16 32) (k1_hw2 : k1_chk2 v193), ∀ a x, ((![v193] : Fin 1 → IVec S16 32) a x).toNat < S784.size a := fun v193 k1_hw2 => k1_hw2.1
theorem k1_idx4_inb : ∀ (v193 : IVec S16 32) (k1_hw2 : k1_chk2 v193), ∀ a x, ((![v193] : Fin 1 → IVec S16 32) a x).toNat < S784.size a := fun v193 k1_hw2 => k1_hw2.2

def k1_chk3 (v202 : IVec S16 32) : Prop :=
  (∀ a x, ((![v202] : Fin 1 → IVec S16 32) a x).toNat < S784.size a) ∧
  (∀ a x, ((![v202] : Fin 1 → IVec S16 32) a x).toNat < S784.size a)
theorem k1_idx5_inb : ∀ (v202 : IVec S16 32) (k1_hw3 : k1_chk3 v202), ∀ a x, ((![v202] : Fin 1 → IVec S16 32) a x).toNat < S784.size a := fun v202 k1_hw3 => k1_hw3.1
theorem k1_idx6_inb : ∀ (v202 : IVec S16 32) (k1_hw3 : k1_chk3 v202), ∀ a x, ((![v202] : Fin 1 → IVec S16 32) a x).toNat < S784.size a := fun v202 k1_hw3 => k1_hw3.2

def k1_chk4 (v211 : IVec S16 32) : Prop :=
  (∀ a x, ((![v211] : Fin 1 → IVec S16 32) a x).toNat < S784.size a) ∧
  (∀ a x, ((![v211] : Fin 1 → IVec S16 32) a x).toNat < S784.size a)
theorem k1_idx7_inb : ∀ (v211 : IVec S16 32) (k1_hw4 : k1_chk4 v211), ∀ a x, ((![v211] : Fin 1 → IVec S16 32) a x).toNat < S784.size a := fun v211 k1_hw4 => k1_hw4.1
theorem k1_idx8_inb : ∀ (v211 : IVec S16 32) (k1_hw4 : k1_chk4 v211), ∀ a x, ((![v211] : Fin 1 → IVec S16 32) a x).toNat < S784.size a := fun v211 k1_hw4 => k1_hw4.2
@[reducible] def k1_t5_loop (v63 : BitVec 32) : Scf.Loop 32 :=
  let c0_i32_54 : BitVec 32 := 0#32
  let c16_i32_42 : BitVec 32 := 16#32
  let v64 : BitVec 32 := Scalar.addi v63 c16_i32_42
  let c1_i32_43 : BitVec 32 := 1#32
  let v65 : BitVec 32 := Scalar.subi v64 c1_i32_43
  let c0_i32_45 : BitVec 32 := 0#32
  let v67 : BitVec 1 := Scalar.cmpi .sgt v65 c0_i32_45
  let v68 : BitVec 32 := Scalar.extui v67
  let c0_i32_46 : BitVec 32 := 0#32
  let v69 : BitVec 1 := Scalar.cmpi .slt v65 c0_i32_46
  let v70 : BitVec 32 := Scalar.extui v69
  let v71 : BitVec 32 := Scalar.subi v68 v70
  let c16_i32_44 : BitVec 32 := 16#32
  let c0_i32_47 : BitVec 32 := 0#32
  let v72 : BitVec 1 := Scalar.cmpi .sgt c16_i32_44 c0_i32_47
  let v73 : BitVec 32 := Scalar.extui v72
  let c0_i32_48 : BitVec 32 := 0#32
  let v74 : BitVec 1 := Scalar.cmpi .slt c16_i32_44 c0_i32_48
  let v75 : BitVec 32 := Scalar.extui v74
  let v76 : BitVec 32 := Scalar.subi v73 v75
  let v77 : BitVec 1 := Scalar.cmpi .ne v71 v76
  let v78 : BitVec 32 := Scalar.remsi v65 c16_i32_44
  let c0_i32_49 : BitVec 32 := 0#32
  let v79 : BitVec 1 := Scalar.cmpi .ne v78 c0_i32_49
  let v80 : BitVec 1 := Scalar.andi v77 v79
  let v66 : BitVec 32 := Scalar.divsi v65 c16_i32_44
  let c1_i32_50 : BitVec 32 := 1#32
  let v81 : BitVec 32 := Scalar.subi v66 c1_i32_50
  let v82 : BitVec 32 := Scalar.select v80 v81 v66
  let v86 : BitVec 32 := Scalar.subi v82 c0_i32_54
  let c1_i32_55 : BitVec 32 := 1#32
  let v88 : BitVec 32 := Scalar.divsi v86 c1_i32_55
  let v89 : BitVec 32 := Scalar.muli v88 c1_i32_55
  let v90 : BitVec 32 := Scalar.addi c0_i32_54 v89
  let c1_i32_56 : BitVec 32 := 1#32
  ⟨c0_i32_54, v90, c1_i32_56⟩

def k1_off9 (v63 : BitVec 32) (k1_t5 : Fin (k1_t5_loop v63).trips) : Fin 1 → Nat :=
  let c0_i32_54 : BitVec 32 := 0#32
  let c1_i32_56 : BitVec 32 := 1#32
  let arg18 : BitVec 32 := Scf.iv c0_i32_54 c1_i32_56 k1_t5
  let c1_i32_59 : BitVec 32 := 1#32
  let v92 : BitVec 32 := Scalar.addi arg18 c1_i32_59
  let c16_i32_83 : BitVec 32 := 16#32
  let v135 : BitVec 32 := Scalar.muli v92 c16_i32_83
  ![v135.toNat]
def k1_cond8 (v63 : BitVec 32) (k1_t5 : Fin (k1_t5_loop v63).trips) : BitVec 1 :=
  let c0_i32_54 : BitVec 32 := 0#32
  let c1_i32_56 : BitVec 32 := 1#32
  let arg18 : BitVec 32 := Scf.iv c0_i32_54 c1_i32_56 k1_t5
  let c1_i32_59 : BitVec 32 := 1#32
  let v92 : BitVec 32 := Scalar.addi arg18 c1_i32_59
  let c16_i32_42 : BitVec 32 := 16#32
  let v64 : BitVec 32 := Scalar.addi v63 c16_i32_42
  let c1_i32_43 : BitVec 32 := 1#32
  let v65 : BitVec 32 := Scalar.subi v64 c1_i32_43
  let c0_i32_45 : BitVec 32 := 0#32
  let v67 : BitVec 1 := Scalar.cmpi .sgt v65 c0_i32_45
  let v68 : BitVec 32 := Scalar.extui v67
  let c0_i32_46 : BitVec 32 := 0#32
  let v69 : BitVec 1 := Scalar.cmpi .slt v65 c0_i32_46
  let v70 : BitVec 32 := Scalar.extui v69
  let v71 : BitVec 32 := Scalar.subi v68 v70
  let c16_i32_44 : BitVec 32 := 16#32
  let c0_i32_47 : BitVec 32 := 0#32
  let v72 : BitVec 1 := Scalar.cmpi .sgt c16_i32_44 c0_i32_47
  let v73 : BitVec 32 := Scalar.extui v72
  let c0_i32_48 : BitVec 32 := 0#32
  let v74 : BitVec 1 := Scalar.cmpi .slt c16_i32_44 c0_i32_48
  let v75 : BitVec 32 := Scalar.extui v74
  let v76 : BitVec 32 := Scalar.subi v73 v75
  let v77 : BitVec 1 := Scalar.cmpi .ne v71 v76
  let v78 : BitVec 32 := Scalar.remsi v65 c16_i32_44
  let c0_i32_49 : BitVec 32 := 0#32
  let v79 : BitVec 1 := Scalar.cmpi .ne v78 c0_i32_49
  let v80 : BitVec 1 := Scalar.andi v77 v79
  let v66 : BitVec 32 := Scalar.divsi v65 c16_i32_44
  let c1_i32_50 : BitVec 32 := 1#32
  let v81 : BitVec 32 := Scalar.subi v66 c1_i32_50
  let v82 : BitVec 32 := Scalar.select v80 v81 v66
  let v93 : BitVec 1 := Scalar.cmpi .slt v92 v82
  let c1_i32_58 : BitVec 32 := 1#32
  let v91 : BitVec 32 := Scalar.andi arg18 c1_i32_58
  let c1_i32_60 : BitVec 32 := 1#32
  let v94 : BitVec 1 := Scalar.cmpi .eq v91 c1_i32_60
  let v95 : BitVec 1 := Scalar.andi v93 v94
  let v96 : BitVec 32 := Scalar.extui v95
  let c0_i32_61 : BitVec 32 := 0#32
  let v97 : BitVec 1 := Scalar.cmpi .ne v96 c0_i32_61
  v97

def k1_off10 (v63 : BitVec 32) (k1_t5 : Fin (k1_t5_loop v63).trips) : Fin 1 → Nat :=
  let c0_i32_54 : BitVec 32 := 0#32
  let c1_i32_56 : BitVec 32 := 1#32
  let arg18 : BitVec 32 := Scf.iv c0_i32_54 c1_i32_56 k1_t5
  let c1_i32_59 : BitVec 32 := 1#32
  let v92 : BitVec 32 := Scalar.addi arg18 c1_i32_59
  let c16_i32_83 : BitVec 32 := 16#32
  let v135 : BitVec 32 := Scalar.muli v92 c16_i32_83
  ![v135.toNat]
def k1_cond9 (v63 : BitVec 32) (k1_t5 : Fin (k1_t5_loop v63).trips) : BitVec 1 :=
  let c0_i32_54 : BitVec 32 := 0#32
  let c1_i32_56 : BitVec 32 := 1#32
  let arg18 : BitVec 32 := Scf.iv c0_i32_54 c1_i32_56 k1_t5
  let c1_i32_59 : BitVec 32 := 1#32
  let v92 : BitVec 32 := Scalar.addi arg18 c1_i32_59
  let c16_i32_42 : BitVec 32 := 16#32
  let v64 : BitVec 32 := Scalar.addi v63 c16_i32_42
  let c1_i32_43 : BitVec 32 := 1#32
  let v65 : BitVec 32 := Scalar.subi v64 c1_i32_43
  let c0_i32_45 : BitVec 32 := 0#32
  let v67 : BitVec 1 := Scalar.cmpi .sgt v65 c0_i32_45
  let v68 : BitVec 32 := Scalar.extui v67
  let c0_i32_46 : BitVec 32 := 0#32
  let v69 : BitVec 1 := Scalar.cmpi .slt v65 c0_i32_46
  let v70 : BitVec 32 := Scalar.extui v69
  let v71 : BitVec 32 := Scalar.subi v68 v70
  let c16_i32_44 : BitVec 32 := 16#32
  let c0_i32_47 : BitVec 32 := 0#32
  let v72 : BitVec 1 := Scalar.cmpi .sgt c16_i32_44 c0_i32_47
  let v73 : BitVec 32 := Scalar.extui v72
  let c0_i32_48 : BitVec 32 := 0#32
  let v74 : BitVec 1 := Scalar.cmpi .slt c16_i32_44 c0_i32_48
  let v75 : BitVec 32 := Scalar.extui v74
  let v76 : BitVec 32 := Scalar.subi v73 v75
  let v77 : BitVec 1 := Scalar.cmpi .ne v71 v76
  let v78 : BitVec 32 := Scalar.remsi v65 c16_i32_44
  let c0_i32_49 : BitVec 32 := 0#32
  let v79 : BitVec 1 := Scalar.cmpi .ne v78 c0_i32_49
  let v80 : BitVec 1 := Scalar.andi v77 v79
  let v66 : BitVec 32 := Scalar.divsi v65 c16_i32_44
  let c1_i32_50 : BitVec 32 := 1#32
  let v81 : BitVec 32 := Scalar.subi v66 c1_i32_50
  let v82 : BitVec 32 := Scalar.select v80 v81 v66
  let v98 : BitVec 1 := Scalar.cmpi .slt v92 v82
  let c1_i32_58 : BitVec 32 := 1#32
  let v91 : BitVec 32 := Scalar.andi arg18 c1_i32_58
  let c0_i32_62 : BitVec 32 := 0#32
  let v99 : BitVec 1 := Scalar.cmpi .eq v91 c0_i32_62
  let v100 : BitVec 1 := Scalar.andi v98 v99
  let v101 : BitVec 32 := Scalar.extui v100
  let c0_i32_63 : BitVec 32 := 0#32
  let v102 : BitVec 1 := Scalar.cmpi .ne v101 c0_i32_63
  v102

def k1_cond10 (v63 : BitVec 32) (k1_t5 : Fin (k1_t5_loop v63).trips) : BitVec 1 :=
  let c0_i32_54 : BitVec 32 := 0#32
  let c1_i32_56 : BitVec 32 := 1#32
  let arg18 : BitVec 32 := Scf.iv c0_i32_54 c1_i32_56 k1_t5
  let c1_i32_58 : BitVec 32 := 1#32
  let v91 : BitVec 32 := Scalar.andi arg18 c1_i32_58
  let c0_i32_64 : BitVec 32 := 0#32
  let v103 : BitVec 1 := Scalar.cmpi .eq v91 c0_i32_64
  let v104 : BitVec 32 := Scalar.extui v103
  let c0_i32_65 : BitVec 32 := 0#32
  let v105 : BitVec 1 := Scalar.cmpi .ne v104 c0_i32_65
  v105

def k1_off11 (v63 : BitVec 32) (k1_t5 : Fin (k1_t5_loop v63).trips) : Fin 1 → Nat :=
  let c0_i32_54 : BitVec 32 := 0#32
  let c1_i32_56 : BitVec 32 := 1#32
  let arg18 : BitVec 32 := Scf.iv c0_i32_54 c1_i32_56 k1_t5
  let c16_i32_83 : BitVec 32 := 16#32
  let v135 : BitVec 32 := Scalar.muli arg18 c16_i32_83
  ![v135.toNat]
def k1_cond11 (v63 : BitVec 32) (k1_t5 : Fin (k1_t5_loop v63).trips) : BitVec 1 :=
  let c0_i32_54 : BitVec 32 := 0#32
  let c1_i32_56 : BitVec 32 := 1#32
  let arg18 : BitVec 32 := Scf.iv c0_i32_54 c1_i32_56 k1_t5
  let c1_i32_58 : BitVec 32 := 1#32
  let v91 : BitVec 32 := Scalar.andi arg18 c1_i32_58
  let c1_i32_66 : BitVec 32 := 1#32
  let v106 : BitVec 1 := Scalar.cmpi .eq v91 c1_i32_66
  let v107 : BitVec 32 := Scalar.extui v106
  let c0_i32_67 : BitVec 32 := 0#32
  let v108 : BitVec 1 := Scalar.cmpi .ne v107 c0_i32_67
  v108

def k1_off12 (v63 : BitVec 32) (k1_t5 : Fin (k1_t5_loop v63).trips) : Fin 1 → Nat :=
  let c0_i32_54 : BitVec 32 := 0#32
  let c1_i32_56 : BitVec 32 := 1#32
  let arg18 : BitVec 32 := Scf.iv c0_i32_54 c1_i32_56 k1_t5
  let c16_i32_83 : BitVec 32 := 16#32
  let v135 : BitVec 32 := Scalar.muli arg18 c16_i32_83
  ![v135.toNat]
@[reducible] def k1_t6_loop (v63 : BitVec 32) (k1_t5 : Fin (k1_t5_loop v63).trips) : Scf.Loop 32 :=
  let c0_i32_79 : BitVec 32 := 0#32
  let c0_i32_54 : BitVec 32 := 0#32
  let c1_i32_56 : BitVec 32 := 1#32
  let arg18 : BitVec 32 := Scf.iv c0_i32_54 c1_i32_56 k1_t5
  let c16_i32_68 : BitVec 32 := 16#32
  let v109 : BitVec 32 := Scalar.muli arg18 c16_i32_68
  let v110 : BitVec 32 := Scalar.subi v63 v109
  let c16_i32_69 : BitVec 32 := 16#32
  let v111 : BitVec 32 := Scalar.minsi v110 c16_i32_69
  let c1_i32_70 : BitVec 32 := 1#32
  let v112 : BitVec 32 := Scalar.addi v111 c1_i32_70
  let c0_i32_72 : BitVec 32 := 0#32
  let v114 : BitVec 1 := Scalar.cmpi .sgt v112 c0_i32_72
  let v115 : BitVec 32 := Scalar.extui v114
  let c0_i32_73 : BitVec 32 := 0#32
  let v116 : BitVec 1 := Scalar.cmpi .slt v112 c0_i32_73
  let v117 : BitVec 32 := Scalar.extui v116
  let v118 : BitVec 32 := Scalar.subi v115 v117
  let c2_i32_71 : BitVec 32 := 2#32
  let c0_i32_74 : BitVec 32 := 0#32
  let v119 : BitVec 1 := Scalar.cmpi .sgt c2_i32_71 c0_i32_74
  let v120 : BitVec 32 := Scalar.extui v119
  let c0_i32_75 : BitVec 32 := 0#32
  let v121 : BitVec 1 := Scalar.cmpi .slt c2_i32_71 c0_i32_75
  let v122 : BitVec 32 := Scalar.extui v121
  let v123 : BitVec 32 := Scalar.subi v120 v122
  let v124 : BitVec 1 := Scalar.cmpi .ne v118 v123
  let v125 : BitVec 32 := Scalar.remsi v112 c2_i32_71
  let c0_i32_76 : BitVec 32 := 0#32
  let v126 : BitVec 1 := Scalar.cmpi .ne v125 c0_i32_76
  let v127 : BitVec 1 := Scalar.andi v124 v126
  let v113 : BitVec 32 := Scalar.divsi v112 c2_i32_71
  let c1_i32_77 : BitVec 32 := 1#32
  let v128 : BitVec 32 := Scalar.subi v113 c1_i32_77
  let v129 : BitVec 32 := Scalar.select v127 v128 v113
  let v130 : BitVec 32 := Scalar.subi v129 c0_i32_79
  let c1_i32_80 : BitVec 32 := 1#32
  let v132 : BitVec 32 := Scalar.divsi v130 c1_i32_80
  let v133 : BitVec 32 := Scalar.muli v132 c1_i32_80
  let v134 : BitVec 32 := Scalar.addi c0_i32_79 v133
  let c1_i32_81 : BitVec 32 := 1#32
  ⟨c0_i32_79, v134, c1_i32_81⟩

def k1_chk6 (v140 : IVec S16 32) : Prop :=
  (∀ a x, ((![v140] : Fin 1 → IVec S16 32) a x).toNat < S784.size a)
theorem k1_idx9_inb : ∀ (v140 : IVec S16 32) (k1_hw6 : k1_chk6 v140), ∀ a x, ((![v140] : Fin 1 → IVec S16 32) a x).toNat < S784.size a := fun v140 k1_hw6 => k1_hw6

def k1_chk7 (v143 : IVec S16 32) : Prop :=
  (∀ a x, ((![v143] : Fin 1 → IVec S16 32) a x).toNat < S784.size a)
theorem k1_idx10_inb : ∀ (v143 : IVec S16 32) (k1_hw7 : k1_chk7 v143), ∀ a x, ((![v143] : Fin 1 → IVec S16 32) a x).toNat < S784.size a := fun v143 k1_hw7 => k1_hw7
def k1_off13 (v63 : BitVec 32) (k1_t5 : Fin (k1_t5_loop v63).trips) (k1_t6 : Fin (k1_t6_loop v63 k1_t5).trips) : Fin 3 → Nat :=
  let c0_i32_54 : BitVec 32 := 0#32
  let c1_i32_56 : BitVec 32 := 1#32
  let arg18 : BitVec 32 := Scf.iv c0_i32_54 c1_i32_56 k1_t5
  let c1_i32_58 : BitVec 32 := 1#32
  let v91 : BitVec 32 := Scalar.andi arg18 c1_i32_58
  let v154 : Index := Scalar.indexCast v91
  let c2_i32_83 : BitVec 32 := 2#32
  let c0_i32_79 : BitVec 32 := 0#32
  let c1_i32_81 : BitVec 32 := 1#32
  let arg19 : BitVec 32 := Scf.iv c0_i32_79 c1_i32_81 k1_t6
  let v135 : BitVec 32 := Scalar.muli c2_i32_83 arg19
  let v155 : Index := Scalar.indexCast v135
  let c0_90 : Index := 0#32
  ![v154.toNat, v155.toNat, 0]

def k1_chk8 (v151 : IVec S16 32) : Prop :=
  (∀ a x, ((![v151] : Fin 1 → IVec S16 32) a x).toNat < S40960.size a) ∧
  (∀ a x, ((![v151] : Fin 1 → IVec S16 32) a x).toNat < S40960.size a)
theorem k1_idx11_inb : ∀ (v151 : IVec S16 32) (k1_hw8 : k1_chk8 v151), ∀ a x, ((![v151] : Fin 1 → IVec S16 32) a x).toNat < S40960.size a := fun v151 k1_hw8 => k1_hw8.1
theorem k1_idx12_inb : ∀ (v151 : IVec S16 32) (k1_hw8 : k1_chk8 v151), ∀ a x, ((![v151] : Fin 1 → IVec S16 32) a x).toNat < S40960.size a := fun v151 k1_hw8 => k1_hw8.2
def k1_off14 (v63 : BitVec 32) (k1_t5 : Fin (k1_t5_loop v63).trips) (k1_t6 : Fin (k1_t6_loop v63 k1_t5).trips) : Fin 3 → Nat :=
  let c0_i32_54 : BitVec 32 := 0#32
  let c1_i32_56 : BitVec 32 := 1#32
  let arg18 : BitVec 32 := Scf.iv c0_i32_54 c1_i32_56 k1_t5
  let c1_i32_58 : BitVec 32 := 1#32
  let v91 : BitVec 32 := Scalar.andi arg18 c1_i32_58
  let v159 : Index := Scalar.indexCast v91
  let c2_i32_84 : BitVec 32 := 2#32
  let c0_i32_79 : BitVec 32 := 0#32
  let c1_i32_81 : BitVec 32 := 1#32
  let arg19 : BitVec 32 := Scf.iv c0_i32_79 c1_i32_81 k1_t6
  let v136 : BitVec 32 := Scalar.muli c2_i32_84 arg19
  let c1_i32_85 : BitVec 32 := 1#32
  let v137 : BitVec 32 := Scalar.addi v136 c1_i32_85
  let v160 : Index := Scalar.indexCast v137
  let c0_91 : Index := 0#32
  ![v159.toNat, v160.toNat, 0]

def k1_chk9 (v152 : IVec S16 32) : Prop :=
  (∀ a x, ((![v152] : Fin 1 → IVec S16 32) a x).toNat < S40960.size a) ∧
  (∀ a x, ((![v152] : Fin 1 → IVec S16 32) a x).toNat < S40960.size a)
theorem k1_idx13_inb : ∀ (v152 : IVec S16 32) (k1_hw9 : k1_chk9 v152), ∀ a x, ((![v152] : Fin 1 → IVec S16 32) a x).toNat < S40960.size a := fun v152 k1_hw9 => k1_hw9.1
theorem k1_idx14_inb : ∀ (v152 : IVec S16 32) (k1_hw9 : k1_chk9 v152), ∀ a x, ((![v152] : Fin 1 → IVec S16 32) a x).toNat < S40960.size a := fun v152 k1_hw9 => k1_hw9.2
def k1_off15 (v63 : BitVec 32) (k1_t5 : Fin (k1_t5_loop v63).trips) (k1_t6 : Fin (k1_t6_loop v63 k1_t5).trips) : Fin 3 → Nat :=
  let c0_i32_54 : BitVec 32 := 0#32
  let c1_i32_56 : BitVec 32 := 1#32
  let arg18 : BitVec 32 := Scf.iv c0_i32_54 c1_i32_56 k1_t5
  let c1_i32_58 : BitVec 32 := 1#32
  let v91 : BitVec 32 := Scalar.andi arg18 c1_i32_58
  let v166 : Index := Scalar.indexCast v91
  let c2_i32_83 : BitVec 32 := 2#32
  let c0_i32_79 : BitVec 32 := 0#32
  let c1_i32_81 : BitVec 32 := 1#32
  let arg19 : BitVec 32 := Scf.iv c0_i32_79 c1_i32_81 k1_t6
  let v135 : BitVec 32 := Scalar.muli c2_i32_83 arg19
  let v167 : Index := Scalar.indexCast v135
  let c16 : Index := 16#32
  ![v166.toNat, v167.toNat, 16]

def k1_chk10 (v163 : IVec S16 32) : Prop :=
  (∀ a x, ((![v163] : Fin 1 → IVec S16 32) a x).toNat < S40960.size a) ∧
  (∀ a x, ((![v163] : Fin 1 → IVec S16 32) a x).toNat < S40960.size a)
theorem k1_idx15_inb : ∀ (v163 : IVec S16 32) (k1_hw10 : k1_chk10 v163), ∀ a x, ((![v163] : Fin 1 → IVec S16 32) a x).toNat < S40960.size a := fun v163 k1_hw10 => k1_hw10.1
theorem k1_idx16_inb : ∀ (v163 : IVec S16 32) (k1_hw10 : k1_chk10 v163), ∀ a x, ((![v163] : Fin 1 → IVec S16 32) a x).toNat < S40960.size a := fun v163 k1_hw10 => k1_hw10.2
def k1_off16 (v63 : BitVec 32) (k1_t5 : Fin (k1_t5_loop v63).trips) (k1_t6 : Fin (k1_t6_loop v63 k1_t5).trips) : Fin 3 → Nat :=
  let c0_i32_54 : BitVec 32 := 0#32
  let c1_i32_56 : BitVec 32 := 1#32
  let arg18 : BitVec 32 := Scf.iv c0_i32_54 c1_i32_56 k1_t5
  let c1_i32_58 : BitVec 32 := 1#32
  let v91 : BitVec 32 := Scalar.andi arg18 c1_i32_58
  let v171 : Index := Scalar.indexCast v91
  let c2_i32_84 : BitVec 32 := 2#32
  let c0_i32_79 : BitVec 32 := 0#32
  let c1_i32_81 : BitVec 32 := 1#32
  let arg19 : BitVec 32 := Scf.iv c0_i32_79 c1_i32_81 k1_t6
  let v136 : BitVec 32 := Scalar.muli c2_i32_84 arg19
  let c1_i32_85 : BitVec 32 := 1#32
  let v137 : BitVec 32 := Scalar.addi v136 c1_i32_85
  let v172 : Index := Scalar.indexCast v137
  let c16_92 : Index := 16#32
  ![v171.toNat, v172.toNat, 16]

def k1_chk11 (v164 : IVec S16 32) : Prop :=
  (∀ a x, ((![v164] : Fin 1 → IVec S16 32) a x).toNat < S40960.size a) ∧
  (∀ a x, ((![v164] : Fin 1 → IVec S16 32) a x).toNat < S40960.size a)
theorem k1_idx17_inb : ∀ (v164 : IVec S16 32) (k1_hw11 : k1_chk11 v164), ∀ a x, ((![v164] : Fin 1 → IVec S16 32) a x).toNat < S40960.size a := fun v164 k1_hw11 => k1_hw11.1
theorem k1_idx18_inb : ∀ (v164 : IVec S16 32) (k1_hw11 : k1_chk11 v164), ∀ a x, ((![v164] : Fin 1 → IVec S16 32) a x).toNat < S40960.size a := fun v164 k1_hw11 => k1_hw11.2
def k1_off17 (v63 : BitVec 32) (k1_t5 : Fin (k1_t5_loop v63).trips) (k1_t6 : Fin (k1_t6_loop v63 k1_t5).trips) : Fin 3 → Nat :=
  let c0_i32_54 : BitVec 32 := 0#32
  let c1_i32_56 : BitVec 32 := 1#32
  let arg18 : BitVec 32 := Scf.iv c0_i32_54 c1_i32_56 k1_t5
  let c1_i32_58 : BitVec 32 := 1#32
  let v91 : BitVec 32 := Scalar.andi arg18 c1_i32_58
  let v178 : Index := Scalar.indexCast v91
  let c2_i32_83 : BitVec 32 := 2#32
  let c0_i32_79 : BitVec 32 := 0#32
  let c1_i32_81 : BitVec 32 := 1#32
  let arg19 : BitVec 32 := Scf.iv c0_i32_79 c1_i32_81 k1_t6
  let v135 : BitVec 32 := Scalar.muli c2_i32_83 arg19
  let v179 : Index := Scalar.indexCast v135
  let c32 : Index := 32#32
  ![v178.toNat, v179.toNat, 32]

def k1_chk12 (v175 : IVec S16 32) : Prop :=
  (∀ a x, ((![v175] : Fin 1 → IVec S16 32) a x).toNat < S40960.size a) ∧
  (∀ a x, ((![v175] : Fin 1 → IVec S16 32) a x).toNat < S40960.size a)
theorem k1_idx19_inb : ∀ (v175 : IVec S16 32) (k1_hw12 : k1_chk12 v175), ∀ a x, ((![v175] : Fin 1 → IVec S16 32) a x).toNat < S40960.size a := fun v175 k1_hw12 => k1_hw12.1
theorem k1_idx20_inb : ∀ (v175 : IVec S16 32) (k1_hw12 : k1_chk12 v175), ∀ a x, ((![v175] : Fin 1 → IVec S16 32) a x).toNat < S40960.size a := fun v175 k1_hw12 => k1_hw12.2
def k1_off18 (v63 : BitVec 32) (k1_t5 : Fin (k1_t5_loop v63).trips) (k1_t6 : Fin (k1_t6_loop v63 k1_t5).trips) : Fin 3 → Nat :=
  let c0_i32_54 : BitVec 32 := 0#32
  let c1_i32_56 : BitVec 32 := 1#32
  let arg18 : BitVec 32 := Scf.iv c0_i32_54 c1_i32_56 k1_t5
  let c1_i32_58 : BitVec 32 := 1#32
  let v91 : BitVec 32 := Scalar.andi arg18 c1_i32_58
  let v183 : Index := Scalar.indexCast v91
  let c2_i32_84 : BitVec 32 := 2#32
  let c0_i32_79 : BitVec 32 := 0#32
  let c1_i32_81 : BitVec 32 := 1#32
  let arg19 : BitVec 32 := Scf.iv c0_i32_79 c1_i32_81 k1_t6
  let v136 : BitVec 32 := Scalar.muli c2_i32_84 arg19
  let c1_i32_85 : BitVec 32 := 1#32
  let v137 : BitVec 32 := Scalar.addi v136 c1_i32_85
  let v184 : Index := Scalar.indexCast v137
  let c32_93 : Index := 32#32
  ![v183.toNat, v184.toNat, 32]

def k1_chk13 (v176 : IVec S16 32) : Prop :=
  (∀ a x, ((![v176] : Fin 1 → IVec S16 32) a x).toNat < S40960.size a) ∧
  (∀ a x, ((![v176] : Fin 1 → IVec S16 32) a x).toNat < S40960.size a)
theorem k1_idx21_inb : ∀ (v176 : IVec S16 32) (k1_hw13 : k1_chk13 v176), ∀ a x, ((![v176] : Fin 1 → IVec S16 32) a x).toNat < S40960.size a := fun v176 k1_hw13 => k1_hw13.1
theorem k1_idx22_inb : ∀ (v176 : IVec S16 32) (k1_hw13 : k1_chk13 v176), ∀ a x, ((![v176] : Fin 1 → IVec S16 32) a x).toNat < S40960.size a := fun v176 k1_hw13 => k1_hw13.2
def k1_off19 (v63 : BitVec 32) (k1_t5 : Fin (k1_t5_loop v63).trips) (k1_t6 : Fin (k1_t6_loop v63 k1_t5).trips) : Fin 3 → Nat :=
  let c0_i32_54 : BitVec 32 := 0#32
  let c1_i32_56 : BitVec 32 := 1#32
  let arg18 : BitVec 32 := Scf.iv c0_i32_54 c1_i32_56 k1_t5
  let c1_i32_58 : BitVec 32 := 1#32
  let v91 : BitVec 32 := Scalar.andi arg18 c1_i32_58
  let v190 : Index := Scalar.indexCast v91
  let c2_i32_83 : BitVec 32 := 2#32
  let c0_i32_79 : BitVec 32 := 0#32
  let c1_i32_81 : BitVec 32 := 1#32
  let arg19 : BitVec 32 := Scf.iv c0_i32_79 c1_i32_81 k1_t6
  let v135 : BitVec 32 := Scalar.muli c2_i32_83 arg19
  let v191 : Index := Scalar.indexCast v135
  let c48 : Index := 48#32
  ![v190.toNat, v191.toNat, 48]

def k1_chk14 (v187 : IVec S16 32) : Prop :=
  (∀ a x, ((![v187] : Fin 1 → IVec S16 32) a x).toNat < S40960.size a) ∧
  (∀ a x, ((![v187] : Fin 1 → IVec S16 32) a x).toNat < S40960.size a)
theorem k1_idx23_inb : ∀ (v187 : IVec S16 32) (k1_hw14 : k1_chk14 v187), ∀ a x, ((![v187] : Fin 1 → IVec S16 32) a x).toNat < S40960.size a := fun v187 k1_hw14 => k1_hw14.1
theorem k1_idx24_inb : ∀ (v187 : IVec S16 32) (k1_hw14 : k1_chk14 v187), ∀ a x, ((![v187] : Fin 1 → IVec S16 32) a x).toNat < S40960.size a := fun v187 k1_hw14 => k1_hw14.2
def k1_off20 (v63 : BitVec 32) (k1_t5 : Fin (k1_t5_loop v63).trips) (k1_t6 : Fin (k1_t6_loop v63 k1_t5).trips) : Fin 3 → Nat :=
  let c0_i32_54 : BitVec 32 := 0#32
  let c1_i32_56 : BitVec 32 := 1#32
  let arg18 : BitVec 32 := Scf.iv c0_i32_54 c1_i32_56 k1_t5
  let c1_i32_58 : BitVec 32 := 1#32
  let v91 : BitVec 32 := Scalar.andi arg18 c1_i32_58
  let v195 : Index := Scalar.indexCast v91
  let c2_i32_84 : BitVec 32 := 2#32
  let c0_i32_79 : BitVec 32 := 0#32
  let c1_i32_81 : BitVec 32 := 1#32
  let arg19 : BitVec 32 := Scf.iv c0_i32_79 c1_i32_81 k1_t6
  let v136 : BitVec 32 := Scalar.muli c2_i32_84 arg19
  let c1_i32_85 : BitVec 32 := 1#32
  let v137 : BitVec 32 := Scalar.addi v136 c1_i32_85
  let v196 : Index := Scalar.indexCast v137
  let c48_94 : Index := 48#32
  ![v195.toNat, v196.toNat, 48]

def k1_chk15 (v188 : IVec S16 32) : Prop :=
  (∀ a x, ((![v188] : Fin 1 → IVec S16 32) a x).toNat < S40960.size a) ∧
  (∀ a x, ((![v188] : Fin 1 → IVec S16 32) a x).toNat < S40960.size a)
theorem k1_idx25_inb : ∀ (v188 : IVec S16 32) (k1_hw15 : k1_chk15 v188), ∀ a x, ((![v188] : Fin 1 → IVec S16 32) a x).toNat < S40960.size a := fun v188 k1_hw15 => k1_hw15.1
theorem k1_idx26_inb : ∀ (v188 : IVec S16 32) (k1_hw15 : k1_chk15 v188), ∀ a x, ((![v188] : Fin 1 → IVec S16 32) a x).toNat < S40960.size a := fun v188 k1_hw15 => k1_hw15.2
def k1_off21 (v63 : BitVec 32) (k1_t5 : Fin (k1_t5_loop v63).trips) (k1_t6 : Fin (k1_t6_loop v63 k1_t5).trips) : Fin 3 → Nat :=
  let c0_i32_54 : BitVec 32 := 0#32
  let c1_i32_56 : BitVec 32 := 1#32
  let arg18 : BitVec 32 := Scf.iv c0_i32_54 c1_i32_56 k1_t5
  let c1_i32_58 : BitVec 32 := 1#32
  let v91 : BitVec 32 := Scalar.andi arg18 c1_i32_58
  let v202 : Index := Scalar.indexCast v91
  let c2_i32_83 : BitVec 32 := 2#32
  let c0_i32_79 : BitVec 32 := 0#32
  let c1_i32_81 : BitVec 32 := 1#32
  let arg19 : BitVec 32 := Scf.iv c0_i32_79 c1_i32_81 k1_t6
  let v135 : BitVec 32 := Scalar.muli c2_i32_83 arg19
  let v203 : Index := Scalar.indexCast v135
  let c64 : Index := 64#32
  ![v202.toNat, v203.toNat, 64]

def k1_chk16 (v199 : IVec S16 32) : Prop :=
  (∀ a x, ((![v199] : Fin 1 → IVec S16 32) a x).toNat < S40960.size a) ∧
  (∀ a x, ((![v199] : Fin 1 → IVec S16 32) a x).toNat < S40960.size a)
theorem k1_idx27_inb : ∀ (v199 : IVec S16 32) (k1_hw16 : k1_chk16 v199), ∀ a x, ((![v199] : Fin 1 → IVec S16 32) a x).toNat < S40960.size a := fun v199 k1_hw16 => k1_hw16.1
theorem k1_idx28_inb : ∀ (v199 : IVec S16 32) (k1_hw16 : k1_chk16 v199), ∀ a x, ((![v199] : Fin 1 → IVec S16 32) a x).toNat < S40960.size a := fun v199 k1_hw16 => k1_hw16.2
def k1_off22 (v63 : BitVec 32) (k1_t5 : Fin (k1_t5_loop v63).trips) (k1_t6 : Fin (k1_t6_loop v63 k1_t5).trips) : Fin 3 → Nat :=
  let c0_i32_54 : BitVec 32 := 0#32
  let c1_i32_56 : BitVec 32 := 1#32
  let arg18 : BitVec 32 := Scf.iv c0_i32_54 c1_i32_56 k1_t5
  let c1_i32_58 : BitVec 32 := 1#32
  let v91 : BitVec 32 := Scalar.andi arg18 c1_i32_58
  let v207 : Index := Scalar.indexCast v91
  let c2_i32_84 : BitVec 32 := 2#32
  let c0_i32_79 : BitVec 32 := 0#32
  let c1_i32_81 : BitVec 32 := 1#32
  let arg19 : BitVec 32 := Scf.iv c0_i32_79 c1_i32_81 k1_t6
  let v136 : BitVec 32 := Scalar.muli c2_i32_84 arg19
  let c1_i32_85 : BitVec 32 := 1#32
  let v137 : BitVec 32 := Scalar.addi v136 c1_i32_85
  let v208 : Index := Scalar.indexCast v137
  let c64_95 : Index := 64#32
  ![v207.toNat, v208.toNat, 64]

def k1_chk17 (v200 : IVec S16 32) : Prop :=
  (∀ a x, ((![v200] : Fin 1 → IVec S16 32) a x).toNat < S40960.size a) ∧
  (∀ a x, ((![v200] : Fin 1 → IVec S16 32) a x).toNat < S40960.size a)
theorem k1_idx29_inb : ∀ (v200 : IVec S16 32) (k1_hw17 : k1_chk17 v200), ∀ a x, ((![v200] : Fin 1 → IVec S16 32) a x).toNat < S40960.size a := fun v200 k1_hw17 => k1_hw17.1
theorem k1_idx30_inb : ∀ (v200 : IVec S16 32) (k1_hw17 : k1_chk17 v200), ∀ a x, ((![v200] : Fin 1 → IVec S16 32) a x).toNat < S40960.size a := fun v200 k1_hw17 => k1_hw17.2
def k1_off23 (v63 : BitVec 32) (k1_t5 : Fin (k1_t5_loop v63).trips) (k1_t6 : Fin (k1_t6_loop v63 k1_t5).trips) : Fin 3 → Nat :=
  let c0_i32_54 : BitVec 32 := 0#32
  let c1_i32_56 : BitVec 32 := 1#32
  let arg18 : BitVec 32 := Scf.iv c0_i32_54 c1_i32_56 k1_t5
  let c1_i32_58 : BitVec 32 := 1#32
  let v91 : BitVec 32 := Scalar.andi arg18 c1_i32_58
  let v214 : Index := Scalar.indexCast v91
  let c2_i32_83 : BitVec 32 := 2#32
  let c0_i32_79 : BitVec 32 := 0#32
  let c1_i32_81 : BitVec 32 := 1#32
  let arg19 : BitVec 32 := Scf.iv c0_i32_79 c1_i32_81 k1_t6
  let v135 : BitVec 32 := Scalar.muli c2_i32_83 arg19
  let v215 : Index := Scalar.indexCast v135
  let c80 : Index := 80#32
  ![v214.toNat, v215.toNat, 80]

def k1_chk18 (v211 : IVec S16 32) : Prop :=
  (∀ a x, ((![v211] : Fin 1 → IVec S16 32) a x).toNat < S40960.size a) ∧
  (∀ a x, ((![v211] : Fin 1 → IVec S16 32) a x).toNat < S40960.size a)
theorem k1_idx31_inb : ∀ (v211 : IVec S16 32) (k1_hw18 : k1_chk18 v211), ∀ a x, ((![v211] : Fin 1 → IVec S16 32) a x).toNat < S40960.size a := fun v211 k1_hw18 => k1_hw18.1
theorem k1_idx32_inb : ∀ (v211 : IVec S16 32) (k1_hw18 : k1_chk18 v211), ∀ a x, ((![v211] : Fin 1 → IVec S16 32) a x).toNat < S40960.size a := fun v211 k1_hw18 => k1_hw18.2
def k1_off24 (v63 : BitVec 32) (k1_t5 : Fin (k1_t5_loop v63).trips) (k1_t6 : Fin (k1_t6_loop v63 k1_t5).trips) : Fin 3 → Nat :=
  let c0_i32_54 : BitVec 32 := 0#32
  let c1_i32_56 : BitVec 32 := 1#32
  let arg18 : BitVec 32 := Scf.iv c0_i32_54 c1_i32_56 k1_t5
  let c1_i32_58 : BitVec 32 := 1#32
  let v91 : BitVec 32 := Scalar.andi arg18 c1_i32_58
  let v219 : Index := Scalar.indexCast v91
  let c2_i32_84 : BitVec 32 := 2#32
  let c0_i32_79 : BitVec 32 := 0#32
  let c1_i32_81 : BitVec 32 := 1#32
  let arg19 : BitVec 32 := Scf.iv c0_i32_79 c1_i32_81 k1_t6
  let v136 : BitVec 32 := Scalar.muli c2_i32_84 arg19
  let c1_i32_85 : BitVec 32 := 1#32
  let v137 : BitVec 32 := Scalar.addi v136 c1_i32_85
  let v220 : Index := Scalar.indexCast v137
  let c80_96 : Index := 80#32
  ![v219.toNat, v220.toNat, 80]

def k1_chk19 (v212 : IVec S16 32) : Prop :=
  (∀ a x, ((![v212] : Fin 1 → IVec S16 32) a x).toNat < S40960.size a) ∧
  (∀ a x, ((![v212] : Fin 1 → IVec S16 32) a x).toNat < S40960.size a)
theorem k1_idx33_inb : ∀ (v212 : IVec S16 32) (k1_hw19 : k1_chk19 v212), ∀ a x, ((![v212] : Fin 1 → IVec S16 32) a x).toNat < S40960.size a := fun v212 k1_hw19 => k1_hw19.1
theorem k1_idx34_inb : ∀ (v212 : IVec S16 32) (k1_hw19 : k1_chk19 v212), ∀ a x, ((![v212] : Fin 1 → IVec S16 32) a x).toNat < S40960.size a := fun v212 k1_hw19 => k1_hw19.2
def k1_off25 (v63 : BitVec 32) (k1_t5 : Fin (k1_t5_loop v63).trips) (k1_t6 : Fin (k1_t6_loop v63 k1_t5).trips) : Fin 3 → Nat :=
  let c0_i32_54 : BitVec 32 := 0#32
  let c1_i32_56 : BitVec 32 := 1#32
  let arg18 : BitVec 32 := Scf.iv c0_i32_54 c1_i32_56 k1_t5
  let c1_i32_58 : BitVec 32 := 1#32
  let v91 : BitVec 32 := Scalar.andi arg18 c1_i32_58
  let v226 : Index := Scalar.indexCast v91
  let c2_i32_83 : BitVec 32 := 2#32
  let c0_i32_79 : BitVec 32 := 0#32
  let c1_i32_81 : BitVec 32 := 1#32
  let arg19 : BitVec 32 := Scf.iv c0_i32_79 c1_i32_81 k1_t6
  let v135 : BitVec 32 := Scalar.muli c2_i32_83 arg19
  let v227 : Index := Scalar.indexCast v135
  let c96 : Index := 96#32
  ![v226.toNat, v227.toNat, 96]

def k1_chk20 (v223 : IVec S16 32) : Prop :=
  (∀ a x, ((![v223] : Fin 1 → IVec S16 32) a x).toNat < S40960.size a) ∧
  (∀ a x, ((![v223] : Fin 1 → IVec S16 32) a x).toNat < S40960.size a)
theorem k1_idx35_inb : ∀ (v223 : IVec S16 32) (k1_hw20 : k1_chk20 v223), ∀ a x, ((![v223] : Fin 1 → IVec S16 32) a x).toNat < S40960.size a := fun v223 k1_hw20 => k1_hw20.1
theorem k1_idx36_inb : ∀ (v223 : IVec S16 32) (k1_hw20 : k1_chk20 v223), ∀ a x, ((![v223] : Fin 1 → IVec S16 32) a x).toNat < S40960.size a := fun v223 k1_hw20 => k1_hw20.2
def k1_off26 (v63 : BitVec 32) (k1_t5 : Fin (k1_t5_loop v63).trips) (k1_t6 : Fin (k1_t6_loop v63 k1_t5).trips) : Fin 3 → Nat :=
  let c0_i32_54 : BitVec 32 := 0#32
  let c1_i32_56 : BitVec 32 := 1#32
  let arg18 : BitVec 32 := Scf.iv c0_i32_54 c1_i32_56 k1_t5
  let c1_i32_58 : BitVec 32 := 1#32
  let v91 : BitVec 32 := Scalar.andi arg18 c1_i32_58
  let v231 : Index := Scalar.indexCast v91
  let c2_i32_84 : BitVec 32 := 2#32
  let c0_i32_79 : BitVec 32 := 0#32
  let c1_i32_81 : BitVec 32 := 1#32
  let arg19 : BitVec 32 := Scf.iv c0_i32_79 c1_i32_81 k1_t6
  let v136 : BitVec 32 := Scalar.muli c2_i32_84 arg19
  let c1_i32_85 : BitVec 32 := 1#32
  let v137 : BitVec 32 := Scalar.addi v136 c1_i32_85
  let v232 : Index := Scalar.indexCast v137
  let c96_97 : Index := 96#32
  ![v231.toNat, v232.toNat, 96]

def k1_chk21 (v224 : IVec S16 32) : Prop :=
  (∀ a x, ((![v224] : Fin 1 → IVec S16 32) a x).toNat < S40960.size a) ∧
  (∀ a x, ((![v224] : Fin 1 → IVec S16 32) a x).toNat < S40960.size a)
theorem k1_idx37_inb : ∀ (v224 : IVec S16 32) (k1_hw21 : k1_chk21 v224), ∀ a x, ((![v224] : Fin 1 → IVec S16 32) a x).toNat < S40960.size a := fun v224 k1_hw21 => k1_hw21.1
theorem k1_idx38_inb : ∀ (v224 : IVec S16 32) (k1_hw21 : k1_chk21 v224), ∀ a x, ((![v224] : Fin 1 → IVec S16 32) a x).toNat < S40960.size a := fun v224 k1_hw21 => k1_hw21.2
def k1_off27 (v63 : BitVec 32) (k1_t5 : Fin (k1_t5_loop v63).trips) (k1_t6 : Fin (k1_t6_loop v63 k1_t5).trips) : Fin 3 → Nat :=
  let c0_i32_54 : BitVec 32 := 0#32
  let c1_i32_56 : BitVec 32 := 1#32
  let arg18 : BitVec 32 := Scf.iv c0_i32_54 c1_i32_56 k1_t5
  let c1_i32_58 : BitVec 32 := 1#32
  let v91 : BitVec 32 := Scalar.andi arg18 c1_i32_58
  let v238 : Index := Scalar.indexCast v91
  let c2_i32_83 : BitVec 32 := 2#32
  let c0_i32_79 : BitVec 32 := 0#32
  let c1_i32_81 : BitVec 32 := 1#32
  let arg19 : BitVec 32 := Scf.iv c0_i32_79 c1_i32_81 k1_t6
  let v135 : BitVec 32 := Scalar.muli c2_i32_83 arg19
  let v239 : Index := Scalar.indexCast v135
  let c112 : Index := 112#32
  ![v238.toNat, v239.toNat, 112]

def k1_chk22 (v235 : IVec S16 32) : Prop :=
  (∀ a x, ((![v235] : Fin 1 → IVec S16 32) a x).toNat < S40960.size a) ∧
  (∀ a x, ((![v235] : Fin 1 → IVec S16 32) a x).toNat < S40960.size a)
theorem k1_idx39_inb : ∀ (v235 : IVec S16 32) (k1_hw22 : k1_chk22 v235), ∀ a x, ((![v235] : Fin 1 → IVec S16 32) a x).toNat < S40960.size a := fun v235 k1_hw22 => k1_hw22.1
theorem k1_idx40_inb : ∀ (v235 : IVec S16 32) (k1_hw22 : k1_chk22 v235), ∀ a x, ((![v235] : Fin 1 → IVec S16 32) a x).toNat < S40960.size a := fun v235 k1_hw22 => k1_hw22.2
def k1_off28 (v63 : BitVec 32) (k1_t5 : Fin (k1_t5_loop v63).trips) (k1_t6 : Fin (k1_t6_loop v63 k1_t5).trips) : Fin 3 → Nat :=
  let c0_i32_54 : BitVec 32 := 0#32
  let c1_i32_56 : BitVec 32 := 1#32
  let arg18 : BitVec 32 := Scf.iv c0_i32_54 c1_i32_56 k1_t5
  let c1_i32_58 : BitVec 32 := 1#32
  let v91 : BitVec 32 := Scalar.andi arg18 c1_i32_58
  let v243 : Index := Scalar.indexCast v91
  let c2_i32_84 : BitVec 32 := 2#32
  let c0_i32_79 : BitVec 32 := 0#32
  let c1_i32_81 : BitVec 32 := 1#32
  let arg19 : BitVec 32 := Scf.iv c0_i32_79 c1_i32_81 k1_t6
  let v136 : BitVec 32 := Scalar.muli c2_i32_84 arg19
  let c1_i32_85 : BitVec 32 := 1#32
  let v137 : BitVec 32 := Scalar.addi v136 c1_i32_85
  let v244 : Index := Scalar.indexCast v137
  let c112_98 : Index := 112#32
  ![v243.toNat, v244.toNat, 112]

def k1_chk23 (v236 : IVec S16 32) : Prop :=
  (∀ a x, ((![v236] : Fin 1 → IVec S16 32) a x).toNat < S40960.size a) ∧
  (∀ a x, ((![v236] : Fin 1 → IVec S16 32) a x).toNat < S40960.size a)
theorem k1_idx41_inb : ∀ (v236 : IVec S16 32) (k1_hw23 : k1_chk23 v236), ∀ a x, ((![v236] : Fin 1 → IVec S16 32) a x).toNat < S40960.size a := fun v236 k1_hw23 => k1_hw23.1
theorem k1_idx42_inb : ∀ (v236 : IVec S16 32) (k1_hw23 : k1_chk23 v236), ∀ a x, ((![v236] : Fin 1 → IVec S16 32) a x).toNat < S40960.size a := fun v236 k1_hw23 => k1_hw23.2
@[reducible] def k1_t7_loop (v63 : BitVec 32) (k1_t5 : Fin (k1_t5_loop v63).trips) : Scf.Loop 32 :=
  let c0_i32_79 : BitVec 32 := 0#32
  let c0_i32_54 : BitVec 32 := 0#32
  let c1_i32_56 : BitVec 32 := 1#32
  let arg18 : BitVec 32 := Scf.iv c0_i32_54 c1_i32_56 k1_t5
  let c16_i32_68 : BitVec 32 := 16#32
  let v109 : BitVec 32 := Scalar.muli arg18 c16_i32_68
  let v110 : BitVec 32 := Scalar.subi v63 v109
  let c16_i32_69 : BitVec 32 := 16#32
  let v111 : BitVec 32 := Scalar.minsi v110 c16_i32_69
  let c1_i32_70 : BitVec 32 := 1#32
  let v112 : BitVec 32 := Scalar.addi v111 c1_i32_70
  let c0_i32_72 : BitVec 32 := 0#32
  let v114 : BitVec 1 := Scalar.cmpi .sgt v112 c0_i32_72
  let v115 : BitVec 32 := Scalar.extui v114
  let c0_i32_73 : BitVec 32 := 0#32
  let v116 : BitVec 1 := Scalar.cmpi .slt v112 c0_i32_73
  let v117 : BitVec 32 := Scalar.extui v116
  let v118 : BitVec 32 := Scalar.subi v115 v117
  let c2_i32_71 : BitVec 32 := 2#32
  let c0_i32_74 : BitVec 32 := 0#32
  let v119 : BitVec 1 := Scalar.cmpi .sgt c2_i32_71 c0_i32_74
  let v120 : BitVec 32 := Scalar.extui v119
  let c0_i32_75 : BitVec 32 := 0#32
  let v121 : BitVec 1 := Scalar.cmpi .slt c2_i32_71 c0_i32_75
  let v122 : BitVec 32 := Scalar.extui v121
  let v123 : BitVec 32 := Scalar.subi v120 v122
  let v124 : BitVec 1 := Scalar.cmpi .ne v118 v123
  let v125 : BitVec 32 := Scalar.remsi v112 c2_i32_71
  let c0_i32_76 : BitVec 32 := 0#32
  let v126 : BitVec 1 := Scalar.cmpi .ne v125 c0_i32_76
  let v127 : BitVec 1 := Scalar.andi v124 v126
  let v113 : BitVec 32 := Scalar.divsi v112 c2_i32_71
  let c1_i32_77 : BitVec 32 := 1#32
  let v128 : BitVec 32 := Scalar.subi v113 c1_i32_77
  let v129 : BitVec 32 := Scalar.select v127 v128 v113
  let v130 : BitVec 32 := Scalar.subi v129 c0_i32_79
  let c1_i32_80 : BitVec 32 := 1#32
  let v132 : BitVec 32 := Scalar.divsi v130 c1_i32_80
  let v133 : BitVec 32 := Scalar.muli v132 c1_i32_80
  let v134 : BitVec 32 := Scalar.addi c0_i32_79 v133
  let v131 : BitVec 32 := Scalar.addi c0_i32_79 v130
  let c1_i32_82 : BitVec 32 := 1#32
  ⟨v134, v131, c1_i32_82⟩

def k1_chk24 (v140 : IVec S16 32) : Prop :=
  (∀ a x, ((![v140] : Fin 1 → IVec S16 32) a x).toNat < S784.size a)
theorem k1_idx43_inb : ∀ (v140 : IVec S16 32) (k1_hw24 : k1_chk24 v140), ∀ a x, ((![v140] : Fin 1 → IVec S16 32) a x).toNat < S784.size a := fun v140 k1_hw24 => k1_hw24

def k1_chk25 (v143 : IVec S16 32) : Prop :=
  (∀ a x, ((![v143] : Fin 1 → IVec S16 32) a x).toNat < S784.size a)
theorem k1_idx44_inb : ∀ (v143 : IVec S16 32) (k1_hw25 : k1_chk25 v143), ∀ a x, ((![v143] : Fin 1 → IVec S16 32) a x).toNat < S784.size a := fun v143 k1_hw25 => k1_hw25
def k1_off29 (v63 : BitVec 32) (k1_t5 : Fin (k1_t5_loop v63).trips) (k1_t7 : Fin (k1_t7_loop v63 k1_t5).trips) : Fin 3 → Nat :=
  let c0_i32_54 : BitVec 32 := 0#32
  let c1_i32_56 : BitVec 32 := 1#32
  let arg18 : BitVec 32 := Scf.iv c0_i32_54 c1_i32_56 k1_t5
  let c1_i32_58 : BitVec 32 := 1#32
  let v91 : BitVec 32 := Scalar.andi arg18 c1_i32_58
  let v154 : Index := Scalar.indexCast v91
  let c2_i32_83 : BitVec 32 := 2#32
  let c0_i32_79 : BitVec 32 := 0#32
  let c16_i32_68 : BitVec 32 := 16#32
  let v109 : BitVec 32 := Scalar.muli arg18 c16_i32_68
  let v110 : BitVec 32 := Scalar.subi v63 v109
  let c16_i32_69 : BitVec 32 := 16#32
  let v111 : BitVec 32 := Scalar.minsi v110 c16_i32_69
  let c1_i32_70 : BitVec 32 := 1#32
  let v112 : BitVec 32 := Scalar.addi v111 c1_i32_70
  let c0_i32_72 : BitVec 32 := 0#32
  let v114 : BitVec 1 := Scalar.cmpi .sgt v112 c0_i32_72
  let v115 : BitVec 32 := Scalar.extui v114
  let c0_i32_73 : BitVec 32 := 0#32
  let v116 : BitVec 1 := Scalar.cmpi .slt v112 c0_i32_73
  let v117 : BitVec 32 := Scalar.extui v116
  let v118 : BitVec 32 := Scalar.subi v115 v117
  let c2_i32_71 : BitVec 32 := 2#32
  let c0_i32_74 : BitVec 32 := 0#32
  let v119 : BitVec 1 := Scalar.cmpi .sgt c2_i32_71 c0_i32_74
  let v120 : BitVec 32 := Scalar.extui v119
  let c0_i32_75 : BitVec 32 := 0#32
  let v121 : BitVec 1 := Scalar.cmpi .slt c2_i32_71 c0_i32_75
  let v122 : BitVec 32 := Scalar.extui v121
  let v123 : BitVec 32 := Scalar.subi v120 v122
  let v124 : BitVec 1 := Scalar.cmpi .ne v118 v123
  let v125 : BitVec 32 := Scalar.remsi v112 c2_i32_71
  let c0_i32_76 : BitVec 32 := 0#32
  let v126 : BitVec 1 := Scalar.cmpi .ne v125 c0_i32_76
  let v127 : BitVec 1 := Scalar.andi v124 v126
  let v113 : BitVec 32 := Scalar.divsi v112 c2_i32_71
  let c1_i32_77 : BitVec 32 := 1#32
  let v128 : BitVec 32 := Scalar.subi v113 c1_i32_77
  let v129 : BitVec 32 := Scalar.select v127 v128 v113
  let v130 : BitVec 32 := Scalar.subi v129 c0_i32_79
  let c1_i32_80 : BitVec 32 := 1#32
  let v132 : BitVec 32 := Scalar.divsi v130 c1_i32_80
  let v133 : BitVec 32 := Scalar.muli v132 c1_i32_80
  let v134 : BitVec 32 := Scalar.addi c0_i32_79 v133
  let c1_i32_82 : BitVec 32 := 1#32
  let arg19 : BitVec 32 := Scf.iv v134 c1_i32_82 k1_t7
  let v135 : BitVec 32 := Scalar.muli c2_i32_83 arg19
  let v155 : Index := Scalar.indexCast v135
  let c0_90 : Index := 0#32
  ![v154.toNat, v155.toNat, 0]

def k1_chk26 (v151 : IVec S16 32) : Prop :=
  (∀ a x, ((![v151] : Fin 1 → IVec S16 32) a x).toNat < S40960.size a) ∧
  (∀ a x, ((![v151] : Fin 1 → IVec S16 32) a x).toNat < S40960.size a)
theorem k1_idx45_inb : ∀ (v151 : IVec S16 32) (k1_hw26 : k1_chk26 v151), ∀ a x, ((![v151] : Fin 1 → IVec S16 32) a x).toNat < S40960.size a := fun v151 k1_hw26 => k1_hw26.1
theorem k1_idx46_inb : ∀ (v151 : IVec S16 32) (k1_hw26 : k1_chk26 v151), ∀ a x, ((![v151] : Fin 1 → IVec S16 32) a x).toNat < S40960.size a := fun v151 k1_hw26 => k1_hw26.2
def k1_off30 (v63 : BitVec 32) (k1_t5 : Fin (k1_t5_loop v63).trips) (k1_t7 : Fin (k1_t7_loop v63 k1_t5).trips) : Fin 3 → Nat :=
  let c0_i32_54 : BitVec 32 := 0#32
  let c1_i32_56 : BitVec 32 := 1#32
  let arg18 : BitVec 32 := Scf.iv c0_i32_54 c1_i32_56 k1_t5
  let c1_i32_58 : BitVec 32 := 1#32
  let v91 : BitVec 32 := Scalar.andi arg18 c1_i32_58
  let v159 : Index := Scalar.indexCast v91
  let c2_i32_84 : BitVec 32 := 2#32
  let c0_i32_79 : BitVec 32 := 0#32
  let c16_i32_68 : BitVec 32 := 16#32
  let v109 : BitVec 32 := Scalar.muli arg18 c16_i32_68
  let v110 : BitVec 32 := Scalar.subi v63 v109
  let c16_i32_69 : BitVec 32 := 16#32
  let v111 : BitVec 32 := Scalar.minsi v110 c16_i32_69
  let c1_i32_70 : BitVec 32 := 1#32
  let v112 : BitVec 32 := Scalar.addi v111 c1_i32_70
  let c0_i32_72 : BitVec 32 := 0#32
  let v114 : BitVec 1 := Scalar.cmpi .sgt v112 c0_i32_72
  let v115 : BitVec 32 := Scalar.extui v114
  let c0_i32_73 : BitVec 32 := 0#32
  let v116 : BitVec 1 := Scalar.cmpi .slt v112 c0_i32_73
  let v117 : BitVec 32 := Scalar.extui v116
  let v118 : BitVec 32 := Scalar.subi v115 v117
  let c2_i32_71 : BitVec 32 := 2#32
  let c0_i32_74 : BitVec 32 := 0#32
  let v119 : BitVec 1 := Scalar.cmpi .sgt c2_i32_71 c0_i32_74
  let v120 : BitVec 32 := Scalar.extui v119
  let c0_i32_75 : BitVec 32 := 0#32
  let v121 : BitVec 1 := Scalar.cmpi .slt c2_i32_71 c0_i32_75
  let v122 : BitVec 32 := Scalar.extui v121
  let v123 : BitVec 32 := Scalar.subi v120 v122
  let v124 : BitVec 1 := Scalar.cmpi .ne v118 v123
  let v125 : BitVec 32 := Scalar.remsi v112 c2_i32_71
  let c0_i32_76 : BitVec 32 := 0#32
  let v126 : BitVec 1 := Scalar.cmpi .ne v125 c0_i32_76
  let v127 : BitVec 1 := Scalar.andi v124 v126
  let v113 : BitVec 32 := Scalar.divsi v112 c2_i32_71
  let c1_i32_77 : BitVec 32 := 1#32
  let v128 : BitVec 32 := Scalar.subi v113 c1_i32_77
  let v129 : BitVec 32 := Scalar.select v127 v128 v113
  let v130 : BitVec 32 := Scalar.subi v129 c0_i32_79
  let c1_i32_80 : BitVec 32 := 1#32
  let v132 : BitVec 32 := Scalar.divsi v130 c1_i32_80
  let v133 : BitVec 32 := Scalar.muli v132 c1_i32_80
  let v134 : BitVec 32 := Scalar.addi c0_i32_79 v133
  let c1_i32_82 : BitVec 32 := 1#32
  let arg19 : BitVec 32 := Scf.iv v134 c1_i32_82 k1_t7
  let v136 : BitVec 32 := Scalar.muli c2_i32_84 arg19
  let c1_i32_85 : BitVec 32 := 1#32
  let v137 : BitVec 32 := Scalar.addi v136 c1_i32_85
  let v160 : Index := Scalar.indexCast v137
  let c0_91 : Index := 0#32
  ![v159.toNat, v160.toNat, 0]

def k1_chk27 (v152 : IVec S16 32) : Prop :=
  (∀ a x, ((![v152] : Fin 1 → IVec S16 32) a x).toNat < S40960.size a) ∧
  (∀ a x, ((![v152] : Fin 1 → IVec S16 32) a x).toNat < S40960.size a)
theorem k1_idx47_inb : ∀ (v152 : IVec S16 32) (k1_hw27 : k1_chk27 v152), ∀ a x, ((![v152] : Fin 1 → IVec S16 32) a x).toNat < S40960.size a := fun v152 k1_hw27 => k1_hw27.1
theorem k1_idx48_inb : ∀ (v152 : IVec S16 32) (k1_hw27 : k1_chk27 v152), ∀ a x, ((![v152] : Fin 1 → IVec S16 32) a x).toNat < S40960.size a := fun v152 k1_hw27 => k1_hw27.2
def k1_off31 (v63 : BitVec 32) (k1_t5 : Fin (k1_t5_loop v63).trips) (k1_t7 : Fin (k1_t7_loop v63 k1_t5).trips) : Fin 3 → Nat :=
  let c0_i32_54 : BitVec 32 := 0#32
  let c1_i32_56 : BitVec 32 := 1#32
  let arg18 : BitVec 32 := Scf.iv c0_i32_54 c1_i32_56 k1_t5
  let c1_i32_58 : BitVec 32 := 1#32
  let v91 : BitVec 32 := Scalar.andi arg18 c1_i32_58
  let v166 : Index := Scalar.indexCast v91
  let c2_i32_83 : BitVec 32 := 2#32
  let c0_i32_79 : BitVec 32 := 0#32
  let c16_i32_68 : BitVec 32 := 16#32
  let v109 : BitVec 32 := Scalar.muli arg18 c16_i32_68
  let v110 : BitVec 32 := Scalar.subi v63 v109
  let c16_i32_69 : BitVec 32 := 16#32
  let v111 : BitVec 32 := Scalar.minsi v110 c16_i32_69
  let c1_i32_70 : BitVec 32 := 1#32
  let v112 : BitVec 32 := Scalar.addi v111 c1_i32_70
  let c0_i32_72 : BitVec 32 := 0#32
  let v114 : BitVec 1 := Scalar.cmpi .sgt v112 c0_i32_72
  let v115 : BitVec 32 := Scalar.extui v114
  let c0_i32_73 : BitVec 32 := 0#32
  let v116 : BitVec 1 := Scalar.cmpi .slt v112 c0_i32_73
  let v117 : BitVec 32 := Scalar.extui v116
  let v118 : BitVec 32 := Scalar.subi v115 v117
  let c2_i32_71 : BitVec 32 := 2#32
  let c0_i32_74 : BitVec 32 := 0#32
  let v119 : BitVec 1 := Scalar.cmpi .sgt c2_i32_71 c0_i32_74
  let v120 : BitVec 32 := Scalar.extui v119
  let c0_i32_75 : BitVec 32 := 0#32
  let v121 : BitVec 1 := Scalar.cmpi .slt c2_i32_71 c0_i32_75
  let v122 : BitVec 32 := Scalar.extui v121
  let v123 : BitVec 32 := Scalar.subi v120 v122
  let v124 : BitVec 1 := Scalar.cmpi .ne v118 v123
  let v125 : BitVec 32 := Scalar.remsi v112 c2_i32_71
  let c0_i32_76 : BitVec 32 := 0#32
  let v126 : BitVec 1 := Scalar.cmpi .ne v125 c0_i32_76
  let v127 : BitVec 1 := Scalar.andi v124 v126
  let v113 : BitVec 32 := Scalar.divsi v112 c2_i32_71
  let c1_i32_77 : BitVec 32 := 1#32
  let v128 : BitVec 32 := Scalar.subi v113 c1_i32_77
  let v129 : BitVec 32 := Scalar.select v127 v128 v113
  let v130 : BitVec 32 := Scalar.subi v129 c0_i32_79
  let c1_i32_80 : BitVec 32 := 1#32
  let v132 : BitVec 32 := Scalar.divsi v130 c1_i32_80
  let v133 : BitVec 32 := Scalar.muli v132 c1_i32_80
  let v134 : BitVec 32 := Scalar.addi c0_i32_79 v133
  let c1_i32_82 : BitVec 32 := 1#32
  let arg19 : BitVec 32 := Scf.iv v134 c1_i32_82 k1_t7
  let v135 : BitVec 32 := Scalar.muli c2_i32_83 arg19
  let v167 : Index := Scalar.indexCast v135
  let c16 : Index := 16#32
  ![v166.toNat, v167.toNat, 16]

def k1_chk28 (v163 : IVec S16 32) : Prop :=
  (∀ a x, ((![v163] : Fin 1 → IVec S16 32) a x).toNat < S40960.size a) ∧
  (∀ a x, ((![v163] : Fin 1 → IVec S16 32) a x).toNat < S40960.size a)
theorem k1_idx49_inb : ∀ (v163 : IVec S16 32) (k1_hw28 : k1_chk28 v163), ∀ a x, ((![v163] : Fin 1 → IVec S16 32) a x).toNat < S40960.size a := fun v163 k1_hw28 => k1_hw28.1
theorem k1_idx50_inb : ∀ (v163 : IVec S16 32) (k1_hw28 : k1_chk28 v163), ∀ a x, ((![v163] : Fin 1 → IVec S16 32) a x).toNat < S40960.size a := fun v163 k1_hw28 => k1_hw28.2
def k1_off32 (v63 : BitVec 32) (k1_t5 : Fin (k1_t5_loop v63).trips) (k1_t7 : Fin (k1_t7_loop v63 k1_t5).trips) : Fin 3 → Nat :=
  let c0_i32_54 : BitVec 32 := 0#32
  let c1_i32_56 : BitVec 32 := 1#32
  let arg18 : BitVec 32 := Scf.iv c0_i32_54 c1_i32_56 k1_t5
  let c1_i32_58 : BitVec 32 := 1#32
  let v91 : BitVec 32 := Scalar.andi arg18 c1_i32_58
  let v171 : Index := Scalar.indexCast v91
  let c2_i32_84 : BitVec 32 := 2#32
  let c0_i32_79 : BitVec 32 := 0#32
  let c16_i32_68 : BitVec 32 := 16#32
  let v109 : BitVec 32 := Scalar.muli arg18 c16_i32_68
  let v110 : BitVec 32 := Scalar.subi v63 v109
  let c16_i32_69 : BitVec 32 := 16#32
  let v111 : BitVec 32 := Scalar.minsi v110 c16_i32_69
  let c1_i32_70 : BitVec 32 := 1#32
  let v112 : BitVec 32 := Scalar.addi v111 c1_i32_70
  let c0_i32_72 : BitVec 32 := 0#32
  let v114 : BitVec 1 := Scalar.cmpi .sgt v112 c0_i32_72
  let v115 : BitVec 32 := Scalar.extui v114
  let c0_i32_73 : BitVec 32 := 0#32
  let v116 : BitVec 1 := Scalar.cmpi .slt v112 c0_i32_73
  let v117 : BitVec 32 := Scalar.extui v116
  let v118 : BitVec 32 := Scalar.subi v115 v117
  let c2_i32_71 : BitVec 32 := 2#32
  let c0_i32_74 : BitVec 32 := 0#32
  let v119 : BitVec 1 := Scalar.cmpi .sgt c2_i32_71 c0_i32_74
  let v120 : BitVec 32 := Scalar.extui v119
  let c0_i32_75 : BitVec 32 := 0#32
  let v121 : BitVec 1 := Scalar.cmpi .slt c2_i32_71 c0_i32_75
  let v122 : BitVec 32 := Scalar.extui v121
  let v123 : BitVec 32 := Scalar.subi v120 v122
  let v124 : BitVec 1 := Scalar.cmpi .ne v118 v123
  let v125 : BitVec 32 := Scalar.remsi v112 c2_i32_71
  let c0_i32_76 : BitVec 32 := 0#32
  let v126 : BitVec 1 := Scalar.cmpi .ne v125 c0_i32_76
  let v127 : BitVec 1 := Scalar.andi v124 v126
  let v113 : BitVec 32 := Scalar.divsi v112 c2_i32_71
  let c1_i32_77 : BitVec 32 := 1#32
  let v128 : BitVec 32 := Scalar.subi v113 c1_i32_77
  let v129 : BitVec 32 := Scalar.select v127 v128 v113
  let v130 : BitVec 32 := Scalar.subi v129 c0_i32_79
  let c1_i32_80 : BitVec 32 := 1#32
  let v132 : BitVec 32 := Scalar.divsi v130 c1_i32_80
  let v133 : BitVec 32 := Scalar.muli v132 c1_i32_80
  let v134 : BitVec 32 := Scalar.addi c0_i32_79 v133
  let c1_i32_82 : BitVec 32 := 1#32
  let arg19 : BitVec 32 := Scf.iv v134 c1_i32_82 k1_t7
  let v136 : BitVec 32 := Scalar.muli c2_i32_84 arg19
  let c1_i32_85 : BitVec 32 := 1#32
  let v137 : BitVec 32 := Scalar.addi v136 c1_i32_85
  let v172 : Index := Scalar.indexCast v137
  let c16_92 : Index := 16#32
  ![v171.toNat, v172.toNat, 16]

def k1_chk29 (v164 : IVec S16 32) : Prop :=
  (∀ a x, ((![v164] : Fin 1 → IVec S16 32) a x).toNat < S40960.size a) ∧
  (∀ a x, ((![v164] : Fin 1 → IVec S16 32) a x).toNat < S40960.size a)
theorem k1_idx51_inb : ∀ (v164 : IVec S16 32) (k1_hw29 : k1_chk29 v164), ∀ a x, ((![v164] : Fin 1 → IVec S16 32) a x).toNat < S40960.size a := fun v164 k1_hw29 => k1_hw29.1
theorem k1_idx52_inb : ∀ (v164 : IVec S16 32) (k1_hw29 : k1_chk29 v164), ∀ a x, ((![v164] : Fin 1 → IVec S16 32) a x).toNat < S40960.size a := fun v164 k1_hw29 => k1_hw29.2
def k1_off33 (v63 : BitVec 32) (k1_t5 : Fin (k1_t5_loop v63).trips) (k1_t7 : Fin (k1_t7_loop v63 k1_t5).trips) : Fin 3 → Nat :=
  let c0_i32_54 : BitVec 32 := 0#32
  let c1_i32_56 : BitVec 32 := 1#32
  let arg18 : BitVec 32 := Scf.iv c0_i32_54 c1_i32_56 k1_t5
  let c1_i32_58 : BitVec 32 := 1#32
  let v91 : BitVec 32 := Scalar.andi arg18 c1_i32_58
  let v178 : Index := Scalar.indexCast v91
  let c2_i32_83 : BitVec 32 := 2#32
  let c0_i32_79 : BitVec 32 := 0#32
  let c16_i32_68 : BitVec 32 := 16#32
  let v109 : BitVec 32 := Scalar.muli arg18 c16_i32_68
  let v110 : BitVec 32 := Scalar.subi v63 v109
  let c16_i32_69 : BitVec 32 := 16#32
  let v111 : BitVec 32 := Scalar.minsi v110 c16_i32_69
  let c1_i32_70 : BitVec 32 := 1#32
  let v112 : BitVec 32 := Scalar.addi v111 c1_i32_70
  let c0_i32_72 : BitVec 32 := 0#32
  let v114 : BitVec 1 := Scalar.cmpi .sgt v112 c0_i32_72
  let v115 : BitVec 32 := Scalar.extui v114
  let c0_i32_73 : BitVec 32 := 0#32
  let v116 : BitVec 1 := Scalar.cmpi .slt v112 c0_i32_73
  let v117 : BitVec 32 := Scalar.extui v116
  let v118 : BitVec 32 := Scalar.subi v115 v117
  let c2_i32_71 : BitVec 32 := 2#32
  let c0_i32_74 : BitVec 32 := 0#32
  let v119 : BitVec 1 := Scalar.cmpi .sgt c2_i32_71 c0_i32_74
  let v120 : BitVec 32 := Scalar.extui v119
  let c0_i32_75 : BitVec 32 := 0#32
  let v121 : BitVec 1 := Scalar.cmpi .slt c2_i32_71 c0_i32_75
  let v122 : BitVec 32 := Scalar.extui v121
  let v123 : BitVec 32 := Scalar.subi v120 v122
  let v124 : BitVec 1 := Scalar.cmpi .ne v118 v123
  let v125 : BitVec 32 := Scalar.remsi v112 c2_i32_71
  let c0_i32_76 : BitVec 32 := 0#32
  let v126 : BitVec 1 := Scalar.cmpi .ne v125 c0_i32_76
  let v127 : BitVec 1 := Scalar.andi v124 v126
  let v113 : BitVec 32 := Scalar.divsi v112 c2_i32_71
  let c1_i32_77 : BitVec 32 := 1#32
  let v128 : BitVec 32 := Scalar.subi v113 c1_i32_77
  let v129 : BitVec 32 := Scalar.select v127 v128 v113
  let v130 : BitVec 32 := Scalar.subi v129 c0_i32_79
  let c1_i32_80 : BitVec 32 := 1#32
  let v132 : BitVec 32 := Scalar.divsi v130 c1_i32_80
  let v133 : BitVec 32 := Scalar.muli v132 c1_i32_80
  let v134 : BitVec 32 := Scalar.addi c0_i32_79 v133
  let c1_i32_82 : BitVec 32 := 1#32
  let arg19 : BitVec 32 := Scf.iv v134 c1_i32_82 k1_t7
  let v135 : BitVec 32 := Scalar.muli c2_i32_83 arg19
  let v179 : Index := Scalar.indexCast v135
  let c32 : Index := 32#32
  ![v178.toNat, v179.toNat, 32]

def k1_chk30 (v175 : IVec S16 32) : Prop :=
  (∀ a x, ((![v175] : Fin 1 → IVec S16 32) a x).toNat < S40960.size a) ∧
  (∀ a x, ((![v175] : Fin 1 → IVec S16 32) a x).toNat < S40960.size a)
theorem k1_idx53_inb : ∀ (v175 : IVec S16 32) (k1_hw30 : k1_chk30 v175), ∀ a x, ((![v175] : Fin 1 → IVec S16 32) a x).toNat < S40960.size a := fun v175 k1_hw30 => k1_hw30.1
theorem k1_idx54_inb : ∀ (v175 : IVec S16 32) (k1_hw30 : k1_chk30 v175), ∀ a x, ((![v175] : Fin 1 → IVec S16 32) a x).toNat < S40960.size a := fun v175 k1_hw30 => k1_hw30.2
def k1_off34 (v63 : BitVec 32) (k1_t5 : Fin (k1_t5_loop v63).trips) (k1_t7 : Fin (k1_t7_loop v63 k1_t5).trips) : Fin 3 → Nat :=
  let c0_i32_54 : BitVec 32 := 0#32
  let c1_i32_56 : BitVec 32 := 1#32
  let arg18 : BitVec 32 := Scf.iv c0_i32_54 c1_i32_56 k1_t5
  let c1_i32_58 : BitVec 32 := 1#32
  let v91 : BitVec 32 := Scalar.andi arg18 c1_i32_58
  let v183 : Index := Scalar.indexCast v91
  let c2_i32_84 : BitVec 32 := 2#32
  let c0_i32_79 : BitVec 32 := 0#32
  let c16_i32_68 : BitVec 32 := 16#32
  let v109 : BitVec 32 := Scalar.muli arg18 c16_i32_68
  let v110 : BitVec 32 := Scalar.subi v63 v109
  let c16_i32_69 : BitVec 32 := 16#32
  let v111 : BitVec 32 := Scalar.minsi v110 c16_i32_69
  let c1_i32_70 : BitVec 32 := 1#32
  let v112 : BitVec 32 := Scalar.addi v111 c1_i32_70
  let c0_i32_72 : BitVec 32 := 0#32
  let v114 : BitVec 1 := Scalar.cmpi .sgt v112 c0_i32_72
  let v115 : BitVec 32 := Scalar.extui v114
  let c0_i32_73 : BitVec 32 := 0#32
  let v116 : BitVec 1 := Scalar.cmpi .slt v112 c0_i32_73
  let v117 : BitVec 32 := Scalar.extui v116
  let v118 : BitVec 32 := Scalar.subi v115 v117
  let c2_i32_71 : BitVec 32 := 2#32
  let c0_i32_74 : BitVec 32 := 0#32
  let v119 : BitVec 1 := Scalar.cmpi .sgt c2_i32_71 c0_i32_74
  let v120 : BitVec 32 := Scalar.extui v119
  let c0_i32_75 : BitVec 32 := 0#32
  let v121 : BitVec 1 := Scalar.cmpi .slt c2_i32_71 c0_i32_75
  let v122 : BitVec 32 := Scalar.extui v121
  let v123 : BitVec 32 := Scalar.subi v120 v122
  let v124 : BitVec 1 := Scalar.cmpi .ne v118 v123
  let v125 : BitVec 32 := Scalar.remsi v112 c2_i32_71
  let c0_i32_76 : BitVec 32 := 0#32
  let v126 : BitVec 1 := Scalar.cmpi .ne v125 c0_i32_76
  let v127 : BitVec 1 := Scalar.andi v124 v126
  let v113 : BitVec 32 := Scalar.divsi v112 c2_i32_71
  let c1_i32_77 : BitVec 32 := 1#32
  let v128 : BitVec 32 := Scalar.subi v113 c1_i32_77
  let v129 : BitVec 32 := Scalar.select v127 v128 v113
  let v130 : BitVec 32 := Scalar.subi v129 c0_i32_79
  let c1_i32_80 : BitVec 32 := 1#32
  let v132 : BitVec 32 := Scalar.divsi v130 c1_i32_80
  let v133 : BitVec 32 := Scalar.muli v132 c1_i32_80
  let v134 : BitVec 32 := Scalar.addi c0_i32_79 v133
  let c1_i32_82 : BitVec 32 := 1#32
  let arg19 : BitVec 32 := Scf.iv v134 c1_i32_82 k1_t7
  let v136 : BitVec 32 := Scalar.muli c2_i32_84 arg19
  let c1_i32_85 : BitVec 32 := 1#32
  let v137 : BitVec 32 := Scalar.addi v136 c1_i32_85
  let v184 : Index := Scalar.indexCast v137
  let c32_93 : Index := 32#32
  ![v183.toNat, v184.toNat, 32]

def k1_chk31 (v176 : IVec S16 32) : Prop :=
  (∀ a x, ((![v176] : Fin 1 → IVec S16 32) a x).toNat < S40960.size a) ∧
  (∀ a x, ((![v176] : Fin 1 → IVec S16 32) a x).toNat < S40960.size a)
theorem k1_idx55_inb : ∀ (v176 : IVec S16 32) (k1_hw31 : k1_chk31 v176), ∀ a x, ((![v176] : Fin 1 → IVec S16 32) a x).toNat < S40960.size a := fun v176 k1_hw31 => k1_hw31.1
theorem k1_idx56_inb : ∀ (v176 : IVec S16 32) (k1_hw31 : k1_chk31 v176), ∀ a x, ((![v176] : Fin 1 → IVec S16 32) a x).toNat < S40960.size a := fun v176 k1_hw31 => k1_hw31.2
def k1_off35 (v63 : BitVec 32) (k1_t5 : Fin (k1_t5_loop v63).trips) (k1_t7 : Fin (k1_t7_loop v63 k1_t5).trips) : Fin 3 → Nat :=
  let c0_i32_54 : BitVec 32 := 0#32
  let c1_i32_56 : BitVec 32 := 1#32
  let arg18 : BitVec 32 := Scf.iv c0_i32_54 c1_i32_56 k1_t5
  let c1_i32_58 : BitVec 32 := 1#32
  let v91 : BitVec 32 := Scalar.andi arg18 c1_i32_58
  let v190 : Index := Scalar.indexCast v91
  let c2_i32_83 : BitVec 32 := 2#32
  let c0_i32_79 : BitVec 32 := 0#32
  let c16_i32_68 : BitVec 32 := 16#32
  let v109 : BitVec 32 := Scalar.muli arg18 c16_i32_68
  let v110 : BitVec 32 := Scalar.subi v63 v109
  let c16_i32_69 : BitVec 32 := 16#32
  let v111 : BitVec 32 := Scalar.minsi v110 c16_i32_69
  let c1_i32_70 : BitVec 32 := 1#32
  let v112 : BitVec 32 := Scalar.addi v111 c1_i32_70
  let c0_i32_72 : BitVec 32 := 0#32
  let v114 : BitVec 1 := Scalar.cmpi .sgt v112 c0_i32_72
  let v115 : BitVec 32 := Scalar.extui v114
  let c0_i32_73 : BitVec 32 := 0#32
  let v116 : BitVec 1 := Scalar.cmpi .slt v112 c0_i32_73
  let v117 : BitVec 32 := Scalar.extui v116
  let v118 : BitVec 32 := Scalar.subi v115 v117
  let c2_i32_71 : BitVec 32 := 2#32
  let c0_i32_74 : BitVec 32 := 0#32
  let v119 : BitVec 1 := Scalar.cmpi .sgt c2_i32_71 c0_i32_74
  let v120 : BitVec 32 := Scalar.extui v119
  let c0_i32_75 : BitVec 32 := 0#32
  let v121 : BitVec 1 := Scalar.cmpi .slt c2_i32_71 c0_i32_75
  let v122 : BitVec 32 := Scalar.extui v121
  let v123 : BitVec 32 := Scalar.subi v120 v122
  let v124 : BitVec 1 := Scalar.cmpi .ne v118 v123
  let v125 : BitVec 32 := Scalar.remsi v112 c2_i32_71
  let c0_i32_76 : BitVec 32 := 0#32
  let v126 : BitVec 1 := Scalar.cmpi .ne v125 c0_i32_76
  let v127 : BitVec 1 := Scalar.andi v124 v126
  let v113 : BitVec 32 := Scalar.divsi v112 c2_i32_71
  let c1_i32_77 : BitVec 32 := 1#32
  let v128 : BitVec 32 := Scalar.subi v113 c1_i32_77
  let v129 : BitVec 32 := Scalar.select v127 v128 v113
  let v130 : BitVec 32 := Scalar.subi v129 c0_i32_79
  let c1_i32_80 : BitVec 32 := 1#32
  let v132 : BitVec 32 := Scalar.divsi v130 c1_i32_80
  let v133 : BitVec 32 := Scalar.muli v132 c1_i32_80
  let v134 : BitVec 32 := Scalar.addi c0_i32_79 v133
  let c1_i32_82 : BitVec 32 := 1#32
  let arg19 : BitVec 32 := Scf.iv v134 c1_i32_82 k1_t7
  let v135 : BitVec 32 := Scalar.muli c2_i32_83 arg19
  let v191 : Index := Scalar.indexCast v135
  let c48 : Index := 48#32
  ![v190.toNat, v191.toNat, 48]

def k1_chk32 (v187 : IVec S16 32) : Prop :=
  (∀ a x, ((![v187] : Fin 1 → IVec S16 32) a x).toNat < S40960.size a) ∧
  (∀ a x, ((![v187] : Fin 1 → IVec S16 32) a x).toNat < S40960.size a)
theorem k1_idx57_inb : ∀ (v187 : IVec S16 32) (k1_hw32 : k1_chk32 v187), ∀ a x, ((![v187] : Fin 1 → IVec S16 32) a x).toNat < S40960.size a := fun v187 k1_hw32 => k1_hw32.1
theorem k1_idx58_inb : ∀ (v187 : IVec S16 32) (k1_hw32 : k1_chk32 v187), ∀ a x, ((![v187] : Fin 1 → IVec S16 32) a x).toNat < S40960.size a := fun v187 k1_hw32 => k1_hw32.2
def k1_off36 (v63 : BitVec 32) (k1_t5 : Fin (k1_t5_loop v63).trips) (k1_t7 : Fin (k1_t7_loop v63 k1_t5).trips) : Fin 3 → Nat :=
  let c0_i32_54 : BitVec 32 := 0#32
  let c1_i32_56 : BitVec 32 := 1#32
  let arg18 : BitVec 32 := Scf.iv c0_i32_54 c1_i32_56 k1_t5
  let c1_i32_58 : BitVec 32 := 1#32
  let v91 : BitVec 32 := Scalar.andi arg18 c1_i32_58
  let v195 : Index := Scalar.indexCast v91
  let c2_i32_84 : BitVec 32 := 2#32
  let c0_i32_79 : BitVec 32 := 0#32
  let c16_i32_68 : BitVec 32 := 16#32
  let v109 : BitVec 32 := Scalar.muli arg18 c16_i32_68
  let v110 : BitVec 32 := Scalar.subi v63 v109
  let c16_i32_69 : BitVec 32 := 16#32
  let v111 : BitVec 32 := Scalar.minsi v110 c16_i32_69
  let c1_i32_70 : BitVec 32 := 1#32
  let v112 : BitVec 32 := Scalar.addi v111 c1_i32_70
  let c0_i32_72 : BitVec 32 := 0#32
  let v114 : BitVec 1 := Scalar.cmpi .sgt v112 c0_i32_72
  let v115 : BitVec 32 := Scalar.extui v114
  let c0_i32_73 : BitVec 32 := 0#32
  let v116 : BitVec 1 := Scalar.cmpi .slt v112 c0_i32_73
  let v117 : BitVec 32 := Scalar.extui v116
  let v118 : BitVec 32 := Scalar.subi v115 v117
  let c2_i32_71 : BitVec 32 := 2#32
  let c0_i32_74 : BitVec 32 := 0#32
  let v119 : BitVec 1 := Scalar.cmpi .sgt c2_i32_71 c0_i32_74
  let v120 : BitVec 32 := Scalar.extui v119
  let c0_i32_75 : BitVec 32 := 0#32
  let v121 : BitVec 1 := Scalar.cmpi .slt c2_i32_71 c0_i32_75
  let v122 : BitVec 32 := Scalar.extui v121
  let v123 : BitVec 32 := Scalar.subi v120 v122
  let v124 : BitVec 1 := Scalar.cmpi .ne v118 v123
  let v125 : BitVec 32 := Scalar.remsi v112 c2_i32_71
  let c0_i32_76 : BitVec 32 := 0#32
  let v126 : BitVec 1 := Scalar.cmpi .ne v125 c0_i32_76
  let v127 : BitVec 1 := Scalar.andi v124 v126
  let v113 : BitVec 32 := Scalar.divsi v112 c2_i32_71
  let c1_i32_77 : BitVec 32 := 1#32
  let v128 : BitVec 32 := Scalar.subi v113 c1_i32_77
  let v129 : BitVec 32 := Scalar.select v127 v128 v113
  let v130 : BitVec 32 := Scalar.subi v129 c0_i32_79
  let c1_i32_80 : BitVec 32 := 1#32
  let v132 : BitVec 32 := Scalar.divsi v130 c1_i32_80
  let v133 : BitVec 32 := Scalar.muli v132 c1_i32_80
  let v134 : BitVec 32 := Scalar.addi c0_i32_79 v133
  let c1_i32_82 : BitVec 32 := 1#32
  let arg19 : BitVec 32 := Scf.iv v134 c1_i32_82 k1_t7
  let v136 : BitVec 32 := Scalar.muli c2_i32_84 arg19
  let c1_i32_85 : BitVec 32 := 1#32
  let v137 : BitVec 32 := Scalar.addi v136 c1_i32_85
  let v196 : Index := Scalar.indexCast v137
  let c48_94 : Index := 48#32
  ![v195.toNat, v196.toNat, 48]

def k1_chk33 (v188 : IVec S16 32) : Prop :=
  (∀ a x, ((![v188] : Fin 1 → IVec S16 32) a x).toNat < S40960.size a) ∧
  (∀ a x, ((![v188] : Fin 1 → IVec S16 32) a x).toNat < S40960.size a)
theorem k1_idx59_inb : ∀ (v188 : IVec S16 32) (k1_hw33 : k1_chk33 v188), ∀ a x, ((![v188] : Fin 1 → IVec S16 32) a x).toNat < S40960.size a := fun v188 k1_hw33 => k1_hw33.1
theorem k1_idx60_inb : ∀ (v188 : IVec S16 32) (k1_hw33 : k1_chk33 v188), ∀ a x, ((![v188] : Fin 1 → IVec S16 32) a x).toNat < S40960.size a := fun v188 k1_hw33 => k1_hw33.2
def k1_off37 (v63 : BitVec 32) (k1_t5 : Fin (k1_t5_loop v63).trips) (k1_t7 : Fin (k1_t7_loop v63 k1_t5).trips) : Fin 3 → Nat :=
  let c0_i32_54 : BitVec 32 := 0#32
  let c1_i32_56 : BitVec 32 := 1#32
  let arg18 : BitVec 32 := Scf.iv c0_i32_54 c1_i32_56 k1_t5
  let c1_i32_58 : BitVec 32 := 1#32
  let v91 : BitVec 32 := Scalar.andi arg18 c1_i32_58
  let v202 : Index := Scalar.indexCast v91
  let c2_i32_83 : BitVec 32 := 2#32
  let c0_i32_79 : BitVec 32 := 0#32
  let c16_i32_68 : BitVec 32 := 16#32
  let v109 : BitVec 32 := Scalar.muli arg18 c16_i32_68
  let v110 : BitVec 32 := Scalar.subi v63 v109
  let c16_i32_69 : BitVec 32 := 16#32
  let v111 : BitVec 32 := Scalar.minsi v110 c16_i32_69
  let c1_i32_70 : BitVec 32 := 1#32
  let v112 : BitVec 32 := Scalar.addi v111 c1_i32_70
  let c0_i32_72 : BitVec 32 := 0#32
  let v114 : BitVec 1 := Scalar.cmpi .sgt v112 c0_i32_72
  let v115 : BitVec 32 := Scalar.extui v114
  let c0_i32_73 : BitVec 32 := 0#32
  let v116 : BitVec 1 := Scalar.cmpi .slt v112 c0_i32_73
  let v117 : BitVec 32 := Scalar.extui v116
  let v118 : BitVec 32 := Scalar.subi v115 v117
  let c2_i32_71 : BitVec 32 := 2#32
  let c0_i32_74 : BitVec 32 := 0#32
  let v119 : BitVec 1 := Scalar.cmpi .sgt c2_i32_71 c0_i32_74
  let v120 : BitVec 32 := Scalar.extui v119
  let c0_i32_75 : BitVec 32 := 0#32
  let v121 : BitVec 1 := Scalar.cmpi .slt c2_i32_71 c0_i32_75
  let v122 : BitVec 32 := Scalar.extui v121
  let v123 : BitVec 32 := Scalar.subi v120 v122
  let v124 : BitVec 1 := Scalar.cmpi .ne v118 v123
  let v125 : BitVec 32 := Scalar.remsi v112 c2_i32_71
  let c0_i32_76 : BitVec 32 := 0#32
  let v126 : BitVec 1 := Scalar.cmpi .ne v125 c0_i32_76
  let v127 : BitVec 1 := Scalar.andi v124 v126
  let v113 : BitVec 32 := Scalar.divsi v112 c2_i32_71
  let c1_i32_77 : BitVec 32 := 1#32
  let v128 : BitVec 32 := Scalar.subi v113 c1_i32_77
  let v129 : BitVec 32 := Scalar.select v127 v128 v113
  let v130 : BitVec 32 := Scalar.subi v129 c0_i32_79
  let c1_i32_80 : BitVec 32 := 1#32
  let v132 : BitVec 32 := Scalar.divsi v130 c1_i32_80
  let v133 : BitVec 32 := Scalar.muli v132 c1_i32_80
  let v134 : BitVec 32 := Scalar.addi c0_i32_79 v133
  let c1_i32_82 : BitVec 32 := 1#32
  let arg19 : BitVec 32 := Scf.iv v134 c1_i32_82 k1_t7
  let v135 : BitVec 32 := Scalar.muli c2_i32_83 arg19
  let v203 : Index := Scalar.indexCast v135
  let c64 : Index := 64#32
  ![v202.toNat, v203.toNat, 64]

def k1_chk34 (v199 : IVec S16 32) : Prop :=
  (∀ a x, ((![v199] : Fin 1 → IVec S16 32) a x).toNat < S40960.size a) ∧
  (∀ a x, ((![v199] : Fin 1 → IVec S16 32) a x).toNat < S40960.size a)
theorem k1_idx61_inb : ∀ (v199 : IVec S16 32) (k1_hw34 : k1_chk34 v199), ∀ a x, ((![v199] : Fin 1 → IVec S16 32) a x).toNat < S40960.size a := fun v199 k1_hw34 => k1_hw34.1
theorem k1_idx62_inb : ∀ (v199 : IVec S16 32) (k1_hw34 : k1_chk34 v199), ∀ a x, ((![v199] : Fin 1 → IVec S16 32) a x).toNat < S40960.size a := fun v199 k1_hw34 => k1_hw34.2
def k1_off38 (v63 : BitVec 32) (k1_t5 : Fin (k1_t5_loop v63).trips) (k1_t7 : Fin (k1_t7_loop v63 k1_t5).trips) : Fin 3 → Nat :=
  let c0_i32_54 : BitVec 32 := 0#32
  let c1_i32_56 : BitVec 32 := 1#32
  let arg18 : BitVec 32 := Scf.iv c0_i32_54 c1_i32_56 k1_t5
  let c1_i32_58 : BitVec 32 := 1#32
  let v91 : BitVec 32 := Scalar.andi arg18 c1_i32_58
  let v207 : Index := Scalar.indexCast v91
  let c2_i32_84 : BitVec 32 := 2#32
  let c0_i32_79 : BitVec 32 := 0#32
  let c16_i32_68 : BitVec 32 := 16#32
  let v109 : BitVec 32 := Scalar.muli arg18 c16_i32_68
  let v110 : BitVec 32 := Scalar.subi v63 v109
  let c16_i32_69 : BitVec 32 := 16#32
  let v111 : BitVec 32 := Scalar.minsi v110 c16_i32_69
  let c1_i32_70 : BitVec 32 := 1#32
  let v112 : BitVec 32 := Scalar.addi v111 c1_i32_70
  let c0_i32_72 : BitVec 32 := 0#32
  let v114 : BitVec 1 := Scalar.cmpi .sgt v112 c0_i32_72
  let v115 : BitVec 32 := Scalar.extui v114
  let c0_i32_73 : BitVec 32 := 0#32
  let v116 : BitVec 1 := Scalar.cmpi .slt v112 c0_i32_73
  let v117 : BitVec 32 := Scalar.extui v116
  let v118 : BitVec 32 := Scalar.subi v115 v117
  let c2_i32_71 : BitVec 32 := 2#32
  let c0_i32_74 : BitVec 32 := 0#32
  let v119 : BitVec 1 := Scalar.cmpi .sgt c2_i32_71 c0_i32_74
  let v120 : BitVec 32 := Scalar.extui v119
  let c0_i32_75 : BitVec 32 := 0#32
  let v121 : BitVec 1 := Scalar.cmpi .slt c2_i32_71 c0_i32_75
  let v122 : BitVec 32 := Scalar.extui v121
  let v123 : BitVec 32 := Scalar.subi v120 v122
  let v124 : BitVec 1 := Scalar.cmpi .ne v118 v123
  let v125 : BitVec 32 := Scalar.remsi v112 c2_i32_71
  let c0_i32_76 : BitVec 32 := 0#32
  let v126 : BitVec 1 := Scalar.cmpi .ne v125 c0_i32_76
  let v127 : BitVec 1 := Scalar.andi v124 v126
  let v113 : BitVec 32 := Scalar.divsi v112 c2_i32_71
  let c1_i32_77 : BitVec 32 := 1#32
  let v128 : BitVec 32 := Scalar.subi v113 c1_i32_77
  let v129 : BitVec 32 := Scalar.select v127 v128 v113
  let v130 : BitVec 32 := Scalar.subi v129 c0_i32_79
  let c1_i32_80 : BitVec 32 := 1#32
  let v132 : BitVec 32 := Scalar.divsi v130 c1_i32_80
  let v133 : BitVec 32 := Scalar.muli v132 c1_i32_80
  let v134 : BitVec 32 := Scalar.addi c0_i32_79 v133
  let c1_i32_82 : BitVec 32 := 1#32
  let arg19 : BitVec 32 := Scf.iv v134 c1_i32_82 k1_t7
  let v136 : BitVec 32 := Scalar.muli c2_i32_84 arg19
  let c1_i32_85 : BitVec 32 := 1#32
  let v137 : BitVec 32 := Scalar.addi v136 c1_i32_85
  let v208 : Index := Scalar.indexCast v137
  let c64_95 : Index := 64#32
  ![v207.toNat, v208.toNat, 64]

def k1_chk35 (v200 : IVec S16 32) : Prop :=
  (∀ a x, ((![v200] : Fin 1 → IVec S16 32) a x).toNat < S40960.size a) ∧
  (∀ a x, ((![v200] : Fin 1 → IVec S16 32) a x).toNat < S40960.size a)
theorem k1_idx63_inb : ∀ (v200 : IVec S16 32) (k1_hw35 : k1_chk35 v200), ∀ a x, ((![v200] : Fin 1 → IVec S16 32) a x).toNat < S40960.size a := fun v200 k1_hw35 => k1_hw35.1
theorem k1_idx64_inb : ∀ (v200 : IVec S16 32) (k1_hw35 : k1_chk35 v200), ∀ a x, ((![v200] : Fin 1 → IVec S16 32) a x).toNat < S40960.size a := fun v200 k1_hw35 => k1_hw35.2
def k1_off39 (v63 : BitVec 32) (k1_t5 : Fin (k1_t5_loop v63).trips) (k1_t7 : Fin (k1_t7_loop v63 k1_t5).trips) : Fin 3 → Nat :=
  let c0_i32_54 : BitVec 32 := 0#32
  let c1_i32_56 : BitVec 32 := 1#32
  let arg18 : BitVec 32 := Scf.iv c0_i32_54 c1_i32_56 k1_t5
  let c1_i32_58 : BitVec 32 := 1#32
  let v91 : BitVec 32 := Scalar.andi arg18 c1_i32_58
  let v214 : Index := Scalar.indexCast v91
  let c2_i32_83 : BitVec 32 := 2#32
  let c0_i32_79 : BitVec 32 := 0#32
  let c16_i32_68 : BitVec 32 := 16#32
  let v109 : BitVec 32 := Scalar.muli arg18 c16_i32_68
  let v110 : BitVec 32 := Scalar.subi v63 v109
  let c16_i32_69 : BitVec 32 := 16#32
  let v111 : BitVec 32 := Scalar.minsi v110 c16_i32_69
  let c1_i32_70 : BitVec 32 := 1#32
  let v112 : BitVec 32 := Scalar.addi v111 c1_i32_70
  let c0_i32_72 : BitVec 32 := 0#32
  let v114 : BitVec 1 := Scalar.cmpi .sgt v112 c0_i32_72
  let v115 : BitVec 32 := Scalar.extui v114
  let c0_i32_73 : BitVec 32 := 0#32
  let v116 : BitVec 1 := Scalar.cmpi .slt v112 c0_i32_73
  let v117 : BitVec 32 := Scalar.extui v116
  let v118 : BitVec 32 := Scalar.subi v115 v117
  let c2_i32_71 : BitVec 32 := 2#32
  let c0_i32_74 : BitVec 32 := 0#32
  let v119 : BitVec 1 := Scalar.cmpi .sgt c2_i32_71 c0_i32_74
  let v120 : BitVec 32 := Scalar.extui v119
  let c0_i32_75 : BitVec 32 := 0#32
  let v121 : BitVec 1 := Scalar.cmpi .slt c2_i32_71 c0_i32_75
  let v122 : BitVec 32 := Scalar.extui v121
  let v123 : BitVec 32 := Scalar.subi v120 v122
  let v124 : BitVec 1 := Scalar.cmpi .ne v118 v123
  let v125 : BitVec 32 := Scalar.remsi v112 c2_i32_71
  let c0_i32_76 : BitVec 32 := 0#32
  let v126 : BitVec 1 := Scalar.cmpi .ne v125 c0_i32_76
  let v127 : BitVec 1 := Scalar.andi v124 v126
  let v113 : BitVec 32 := Scalar.divsi v112 c2_i32_71
  let c1_i32_77 : BitVec 32 := 1#32
  let v128 : BitVec 32 := Scalar.subi v113 c1_i32_77
  let v129 : BitVec 32 := Scalar.select v127 v128 v113
  let v130 : BitVec 32 := Scalar.subi v129 c0_i32_79
  let c1_i32_80 : BitVec 32 := 1#32
  let v132 : BitVec 32 := Scalar.divsi v130 c1_i32_80
  let v133 : BitVec 32 := Scalar.muli v132 c1_i32_80
  let v134 : BitVec 32 := Scalar.addi c0_i32_79 v133
  let c1_i32_82 : BitVec 32 := 1#32
  let arg19 : BitVec 32 := Scf.iv v134 c1_i32_82 k1_t7
  let v135 : BitVec 32 := Scalar.muli c2_i32_83 arg19
  let v215 : Index := Scalar.indexCast v135
  let c80 : Index := 80#32
  ![v214.toNat, v215.toNat, 80]

def k1_chk36 (v211 : IVec S16 32) : Prop :=
  (∀ a x, ((![v211] : Fin 1 → IVec S16 32) a x).toNat < S40960.size a) ∧
  (∀ a x, ((![v211] : Fin 1 → IVec S16 32) a x).toNat < S40960.size a)
theorem k1_idx65_inb : ∀ (v211 : IVec S16 32) (k1_hw36 : k1_chk36 v211), ∀ a x, ((![v211] : Fin 1 → IVec S16 32) a x).toNat < S40960.size a := fun v211 k1_hw36 => k1_hw36.1
theorem k1_idx66_inb : ∀ (v211 : IVec S16 32) (k1_hw36 : k1_chk36 v211), ∀ a x, ((![v211] : Fin 1 → IVec S16 32) a x).toNat < S40960.size a := fun v211 k1_hw36 => k1_hw36.2
def k1_off40 (v63 : BitVec 32) (k1_t5 : Fin (k1_t5_loop v63).trips) (k1_t7 : Fin (k1_t7_loop v63 k1_t5).trips) : Fin 3 → Nat :=
  let c0_i32_54 : BitVec 32 := 0#32
  let c1_i32_56 : BitVec 32 := 1#32
  let arg18 : BitVec 32 := Scf.iv c0_i32_54 c1_i32_56 k1_t5
  let c1_i32_58 : BitVec 32 := 1#32
  let v91 : BitVec 32 := Scalar.andi arg18 c1_i32_58
  let v219 : Index := Scalar.indexCast v91
  let c2_i32_84 : BitVec 32 := 2#32
  let c0_i32_79 : BitVec 32 := 0#32
  let c16_i32_68 : BitVec 32 := 16#32
  let v109 : BitVec 32 := Scalar.muli arg18 c16_i32_68
  let v110 : BitVec 32 := Scalar.subi v63 v109
  let c16_i32_69 : BitVec 32 := 16#32
  let v111 : BitVec 32 := Scalar.minsi v110 c16_i32_69
  let c1_i32_70 : BitVec 32 := 1#32
  let v112 : BitVec 32 := Scalar.addi v111 c1_i32_70
  let c0_i32_72 : BitVec 32 := 0#32
  let v114 : BitVec 1 := Scalar.cmpi .sgt v112 c0_i32_72
  let v115 : BitVec 32 := Scalar.extui v114
  let c0_i32_73 : BitVec 32 := 0#32
  let v116 : BitVec 1 := Scalar.cmpi .slt v112 c0_i32_73
  let v117 : BitVec 32 := Scalar.extui v116
  let v118 : BitVec 32 := Scalar.subi v115 v117
  let c2_i32_71 : BitVec 32 := 2#32
  let c0_i32_74 : BitVec 32 := 0#32
  let v119 : BitVec 1 := Scalar.cmpi .sgt c2_i32_71 c0_i32_74
  let v120 : BitVec 32 := Scalar.extui v119
  let c0_i32_75 : BitVec 32 := 0#32
  let v121 : BitVec 1 := Scalar.cmpi .slt c2_i32_71 c0_i32_75
  let v122 : BitVec 32 := Scalar.extui v121
  let v123 : BitVec 32 := Scalar.subi v120 v122
  let v124 : BitVec 1 := Scalar.cmpi .ne v118 v123
  let v125 : BitVec 32 := Scalar.remsi v112 c2_i32_71
  let c0_i32_76 : BitVec 32 := 0#32
  let v126 : BitVec 1 := Scalar.cmpi .ne v125 c0_i32_76
  let v127 : BitVec 1 := Scalar.andi v124 v126
  let v113 : BitVec 32 := Scalar.divsi v112 c2_i32_71
  let c1_i32_77 : BitVec 32 := 1#32
  let v128 : BitVec 32 := Scalar.subi v113 c1_i32_77
  let v129 : BitVec 32 := Scalar.select v127 v128 v113
  let v130 : BitVec 32 := Scalar.subi v129 c0_i32_79
  let c1_i32_80 : BitVec 32 := 1#32
  let v132 : BitVec 32 := Scalar.divsi v130 c1_i32_80
  let v133 : BitVec 32 := Scalar.muli v132 c1_i32_80
  let v134 : BitVec 32 := Scalar.addi c0_i32_79 v133
  let c1_i32_82 : BitVec 32 := 1#32
  let arg19 : BitVec 32 := Scf.iv v134 c1_i32_82 k1_t7
  let v136 : BitVec 32 := Scalar.muli c2_i32_84 arg19
  let c1_i32_85 : BitVec 32 := 1#32
  let v137 : BitVec 32 := Scalar.addi v136 c1_i32_85
  let v220 : Index := Scalar.indexCast v137
  let c80_96 : Index := 80#32
  ![v219.toNat, v220.toNat, 80]

def k1_chk37 (v212 : IVec S16 32) : Prop :=
  (∀ a x, ((![v212] : Fin 1 → IVec S16 32) a x).toNat < S40960.size a) ∧
  (∀ a x, ((![v212] : Fin 1 → IVec S16 32) a x).toNat < S40960.size a)
theorem k1_idx67_inb : ∀ (v212 : IVec S16 32) (k1_hw37 : k1_chk37 v212), ∀ a x, ((![v212] : Fin 1 → IVec S16 32) a x).toNat < S40960.size a := fun v212 k1_hw37 => k1_hw37.1
theorem k1_idx68_inb : ∀ (v212 : IVec S16 32) (k1_hw37 : k1_chk37 v212), ∀ a x, ((![v212] : Fin 1 → IVec S16 32) a x).toNat < S40960.size a := fun v212 k1_hw37 => k1_hw37.2
def k1_off41 (v63 : BitVec 32) (k1_t5 : Fin (k1_t5_loop v63).trips) (k1_t7 : Fin (k1_t7_loop v63 k1_t5).trips) : Fin 3 → Nat :=
  let c0_i32_54 : BitVec 32 := 0#32
  let c1_i32_56 : BitVec 32 := 1#32
  let arg18 : BitVec 32 := Scf.iv c0_i32_54 c1_i32_56 k1_t5
  let c1_i32_58 : BitVec 32 := 1#32
  let v91 : BitVec 32 := Scalar.andi arg18 c1_i32_58
  let v226 : Index := Scalar.indexCast v91
  let c2_i32_83 : BitVec 32 := 2#32
  let c0_i32_79 : BitVec 32 := 0#32
  let c16_i32_68 : BitVec 32 := 16#32
  let v109 : BitVec 32 := Scalar.muli arg18 c16_i32_68
  let v110 : BitVec 32 := Scalar.subi v63 v109
  let c16_i32_69 : BitVec 32 := 16#32
  let v111 : BitVec 32 := Scalar.minsi v110 c16_i32_69
  let c1_i32_70 : BitVec 32 := 1#32
  let v112 : BitVec 32 := Scalar.addi v111 c1_i32_70
  let c0_i32_72 : BitVec 32 := 0#32
  let v114 : BitVec 1 := Scalar.cmpi .sgt v112 c0_i32_72
  let v115 : BitVec 32 := Scalar.extui v114
  let c0_i32_73 : BitVec 32 := 0#32
  let v116 : BitVec 1 := Scalar.cmpi .slt v112 c0_i32_73
  let v117 : BitVec 32 := Scalar.extui v116
  let v118 : BitVec 32 := Scalar.subi v115 v117
  let c2_i32_71 : BitVec 32 := 2#32
  let c0_i32_74 : BitVec 32 := 0#32
  let v119 : BitVec 1 := Scalar.cmpi .sgt c2_i32_71 c0_i32_74
  let v120 : BitVec 32 := Scalar.extui v119
  let c0_i32_75 : BitVec 32 := 0#32
  let v121 : BitVec 1 := Scalar.cmpi .slt c2_i32_71 c0_i32_75
  let v122 : BitVec 32 := Scalar.extui v121
  let v123 : BitVec 32 := Scalar.subi v120 v122
  let v124 : BitVec 1 := Scalar.cmpi .ne v118 v123
  let v125 : BitVec 32 := Scalar.remsi v112 c2_i32_71
  let c0_i32_76 : BitVec 32 := 0#32
  let v126 : BitVec 1 := Scalar.cmpi .ne v125 c0_i32_76
  let v127 : BitVec 1 := Scalar.andi v124 v126
  let v113 : BitVec 32 := Scalar.divsi v112 c2_i32_71
  let c1_i32_77 : BitVec 32 := 1#32
  let v128 : BitVec 32 := Scalar.subi v113 c1_i32_77
  let v129 : BitVec 32 := Scalar.select v127 v128 v113
  let v130 : BitVec 32 := Scalar.subi v129 c0_i32_79
  let c1_i32_80 : BitVec 32 := 1#32
  let v132 : BitVec 32 := Scalar.divsi v130 c1_i32_80
  let v133 : BitVec 32 := Scalar.muli v132 c1_i32_80
  let v134 : BitVec 32 := Scalar.addi c0_i32_79 v133
  let c1_i32_82 : BitVec 32 := 1#32
  let arg19 : BitVec 32 := Scf.iv v134 c1_i32_82 k1_t7
  let v135 : BitVec 32 := Scalar.muli c2_i32_83 arg19
  let v227 : Index := Scalar.indexCast v135
  let c96 : Index := 96#32
  ![v226.toNat, v227.toNat, 96]

def k1_chk38 (v223 : IVec S16 32) : Prop :=
  (∀ a x, ((![v223] : Fin 1 → IVec S16 32) a x).toNat < S40960.size a) ∧
  (∀ a x, ((![v223] : Fin 1 → IVec S16 32) a x).toNat < S40960.size a)
theorem k1_idx69_inb : ∀ (v223 : IVec S16 32) (k1_hw38 : k1_chk38 v223), ∀ a x, ((![v223] : Fin 1 → IVec S16 32) a x).toNat < S40960.size a := fun v223 k1_hw38 => k1_hw38.1
theorem k1_idx70_inb : ∀ (v223 : IVec S16 32) (k1_hw38 : k1_chk38 v223), ∀ a x, ((![v223] : Fin 1 → IVec S16 32) a x).toNat < S40960.size a := fun v223 k1_hw38 => k1_hw38.2
def k1_off42 (v63 : BitVec 32) (k1_t5 : Fin (k1_t5_loop v63).trips) (k1_t7 : Fin (k1_t7_loop v63 k1_t5).trips) : Fin 3 → Nat :=
  let c0_i32_54 : BitVec 32 := 0#32
  let c1_i32_56 : BitVec 32 := 1#32
  let arg18 : BitVec 32 := Scf.iv c0_i32_54 c1_i32_56 k1_t5
  let c1_i32_58 : BitVec 32 := 1#32
  let v91 : BitVec 32 := Scalar.andi arg18 c1_i32_58
  let v231 : Index := Scalar.indexCast v91
  let c2_i32_84 : BitVec 32 := 2#32
  let c0_i32_79 : BitVec 32 := 0#32
  let c16_i32_68 : BitVec 32 := 16#32
  let v109 : BitVec 32 := Scalar.muli arg18 c16_i32_68
  let v110 : BitVec 32 := Scalar.subi v63 v109
  let c16_i32_69 : BitVec 32 := 16#32
  let v111 : BitVec 32 := Scalar.minsi v110 c16_i32_69
  let c1_i32_70 : BitVec 32 := 1#32
  let v112 : BitVec 32 := Scalar.addi v111 c1_i32_70
  let c0_i32_72 : BitVec 32 := 0#32
  let v114 : BitVec 1 := Scalar.cmpi .sgt v112 c0_i32_72
  let v115 : BitVec 32 := Scalar.extui v114
  let c0_i32_73 : BitVec 32 := 0#32
  let v116 : BitVec 1 := Scalar.cmpi .slt v112 c0_i32_73
  let v117 : BitVec 32 := Scalar.extui v116
  let v118 : BitVec 32 := Scalar.subi v115 v117
  let c2_i32_71 : BitVec 32 := 2#32
  let c0_i32_74 : BitVec 32 := 0#32
  let v119 : BitVec 1 := Scalar.cmpi .sgt c2_i32_71 c0_i32_74
  let v120 : BitVec 32 := Scalar.extui v119
  let c0_i32_75 : BitVec 32 := 0#32
  let v121 : BitVec 1 := Scalar.cmpi .slt c2_i32_71 c0_i32_75
  let v122 : BitVec 32 := Scalar.extui v121
  let v123 : BitVec 32 := Scalar.subi v120 v122
  let v124 : BitVec 1 := Scalar.cmpi .ne v118 v123
  let v125 : BitVec 32 := Scalar.remsi v112 c2_i32_71
  let c0_i32_76 : BitVec 32 := 0#32
  let v126 : BitVec 1 := Scalar.cmpi .ne v125 c0_i32_76
  let v127 : BitVec 1 := Scalar.andi v124 v126
  let v113 : BitVec 32 := Scalar.divsi v112 c2_i32_71
  let c1_i32_77 : BitVec 32 := 1#32
  let v128 : BitVec 32 := Scalar.subi v113 c1_i32_77
  let v129 : BitVec 32 := Scalar.select v127 v128 v113
  let v130 : BitVec 32 := Scalar.subi v129 c0_i32_79
  let c1_i32_80 : BitVec 32 := 1#32
  let v132 : BitVec 32 := Scalar.divsi v130 c1_i32_80
  let v133 : BitVec 32 := Scalar.muli v132 c1_i32_80
  let v134 : BitVec 32 := Scalar.addi c0_i32_79 v133
  let c1_i32_82 : BitVec 32 := 1#32
  let arg19 : BitVec 32 := Scf.iv v134 c1_i32_82 k1_t7
  let v136 : BitVec 32 := Scalar.muli c2_i32_84 arg19
  let c1_i32_85 : BitVec 32 := 1#32
  let v137 : BitVec 32 := Scalar.addi v136 c1_i32_85
  let v232 : Index := Scalar.indexCast v137
  let c96_97 : Index := 96#32
  ![v231.toNat, v232.toNat, 96]

def k1_chk39 (v224 : IVec S16 32) : Prop :=
  (∀ a x, ((![v224] : Fin 1 → IVec S16 32) a x).toNat < S40960.size a) ∧
  (∀ a x, ((![v224] : Fin 1 → IVec S16 32) a x).toNat < S40960.size a)
theorem k1_idx71_inb : ∀ (v224 : IVec S16 32) (k1_hw39 : k1_chk39 v224), ∀ a x, ((![v224] : Fin 1 → IVec S16 32) a x).toNat < S40960.size a := fun v224 k1_hw39 => k1_hw39.1
theorem k1_idx72_inb : ∀ (v224 : IVec S16 32) (k1_hw39 : k1_chk39 v224), ∀ a x, ((![v224] : Fin 1 → IVec S16 32) a x).toNat < S40960.size a := fun v224 k1_hw39 => k1_hw39.2
def k1_off43 (v63 : BitVec 32) (k1_t5 : Fin (k1_t5_loop v63).trips) (k1_t7 : Fin (k1_t7_loop v63 k1_t5).trips) : Fin 3 → Nat :=
  let c0_i32_54 : BitVec 32 := 0#32
  let c1_i32_56 : BitVec 32 := 1#32
  let arg18 : BitVec 32 := Scf.iv c0_i32_54 c1_i32_56 k1_t5
  let c1_i32_58 : BitVec 32 := 1#32
  let v91 : BitVec 32 := Scalar.andi arg18 c1_i32_58
  let v238 : Index := Scalar.indexCast v91
  let c2_i32_83 : BitVec 32 := 2#32
  let c0_i32_79 : BitVec 32 := 0#32
  let c16_i32_68 : BitVec 32 := 16#32
  let v109 : BitVec 32 := Scalar.muli arg18 c16_i32_68
  let v110 : BitVec 32 := Scalar.subi v63 v109
  let c16_i32_69 : BitVec 32 := 16#32
  let v111 : BitVec 32 := Scalar.minsi v110 c16_i32_69
  let c1_i32_70 : BitVec 32 := 1#32
  let v112 : BitVec 32 := Scalar.addi v111 c1_i32_70
  let c0_i32_72 : BitVec 32 := 0#32
  let v114 : BitVec 1 := Scalar.cmpi .sgt v112 c0_i32_72
  let v115 : BitVec 32 := Scalar.extui v114
  let c0_i32_73 : BitVec 32 := 0#32
  let v116 : BitVec 1 := Scalar.cmpi .slt v112 c0_i32_73
  let v117 : BitVec 32 := Scalar.extui v116
  let v118 : BitVec 32 := Scalar.subi v115 v117
  let c2_i32_71 : BitVec 32 := 2#32
  let c0_i32_74 : BitVec 32 := 0#32
  let v119 : BitVec 1 := Scalar.cmpi .sgt c2_i32_71 c0_i32_74
  let v120 : BitVec 32 := Scalar.extui v119
  let c0_i32_75 : BitVec 32 := 0#32
  let v121 : BitVec 1 := Scalar.cmpi .slt c2_i32_71 c0_i32_75
  let v122 : BitVec 32 := Scalar.extui v121
  let v123 : BitVec 32 := Scalar.subi v120 v122
  let v124 : BitVec 1 := Scalar.cmpi .ne v118 v123
  let v125 : BitVec 32 := Scalar.remsi v112 c2_i32_71
  let c0_i32_76 : BitVec 32 := 0#32
  let v126 : BitVec 1 := Scalar.cmpi .ne v125 c0_i32_76
  let v127 : BitVec 1 := Scalar.andi v124 v126
  let v113 : BitVec 32 := Scalar.divsi v112 c2_i32_71
  let c1_i32_77 : BitVec 32 := 1#32
  let v128 : BitVec 32 := Scalar.subi v113 c1_i32_77
  let v129 : BitVec 32 := Scalar.select v127 v128 v113
  let v130 : BitVec 32 := Scalar.subi v129 c0_i32_79
  let c1_i32_80 : BitVec 32 := 1#32
  let v132 : BitVec 32 := Scalar.divsi v130 c1_i32_80
  let v133 : BitVec 32 := Scalar.muli v132 c1_i32_80
  let v134 : BitVec 32 := Scalar.addi c0_i32_79 v133
  let c1_i32_82 : BitVec 32 := 1#32
  let arg19 : BitVec 32 := Scf.iv v134 c1_i32_82 k1_t7
  let v135 : BitVec 32 := Scalar.muli c2_i32_83 arg19
  let v239 : Index := Scalar.indexCast v135
  let c112 : Index := 112#32
  ![v238.toNat, v239.toNat, 112]

def k1_chk40 (v235 : IVec S16 32) : Prop :=
  (∀ a x, ((![v235] : Fin 1 → IVec S16 32) a x).toNat < S40960.size a) ∧
  (∀ a x, ((![v235] : Fin 1 → IVec S16 32) a x).toNat < S40960.size a)
theorem k1_idx73_inb : ∀ (v235 : IVec S16 32) (k1_hw40 : k1_chk40 v235), ∀ a x, ((![v235] : Fin 1 → IVec S16 32) a x).toNat < S40960.size a := fun v235 k1_hw40 => k1_hw40.1
theorem k1_idx74_inb : ∀ (v235 : IVec S16 32) (k1_hw40 : k1_chk40 v235), ∀ a x, ((![v235] : Fin 1 → IVec S16 32) a x).toNat < S40960.size a := fun v235 k1_hw40 => k1_hw40.2
def k1_off44 (v63 : BitVec 32) (k1_t5 : Fin (k1_t5_loop v63).trips) (k1_t7 : Fin (k1_t7_loop v63 k1_t5).trips) : Fin 3 → Nat :=
  let c0_i32_54 : BitVec 32 := 0#32
  let c1_i32_56 : BitVec 32 := 1#32
  let arg18 : BitVec 32 := Scf.iv c0_i32_54 c1_i32_56 k1_t5
  let c1_i32_58 : BitVec 32 := 1#32
  let v91 : BitVec 32 := Scalar.andi arg18 c1_i32_58
  let v243 : Index := Scalar.indexCast v91
  let c2_i32_84 : BitVec 32 := 2#32
  let c0_i32_79 : BitVec 32 := 0#32
  let c16_i32_68 : BitVec 32 := 16#32
  let v109 : BitVec 32 := Scalar.muli arg18 c16_i32_68
  let v110 : BitVec 32 := Scalar.subi v63 v109
  let c16_i32_69 : BitVec 32 := 16#32
  let v111 : BitVec 32 := Scalar.minsi v110 c16_i32_69
  let c1_i32_70 : BitVec 32 := 1#32
  let v112 : BitVec 32 := Scalar.addi v111 c1_i32_70
  let c0_i32_72 : BitVec 32 := 0#32
  let v114 : BitVec 1 := Scalar.cmpi .sgt v112 c0_i32_72
  let v115 : BitVec 32 := Scalar.extui v114
  let c0_i32_73 : BitVec 32 := 0#32
  let v116 : BitVec 1 := Scalar.cmpi .slt v112 c0_i32_73
  let v117 : BitVec 32 := Scalar.extui v116
  let v118 : BitVec 32 := Scalar.subi v115 v117
  let c2_i32_71 : BitVec 32 := 2#32
  let c0_i32_74 : BitVec 32 := 0#32
  let v119 : BitVec 1 := Scalar.cmpi .sgt c2_i32_71 c0_i32_74
  let v120 : BitVec 32 := Scalar.extui v119
  let c0_i32_75 : BitVec 32 := 0#32
  let v121 : BitVec 1 := Scalar.cmpi .slt c2_i32_71 c0_i32_75
  let v122 : BitVec 32 := Scalar.extui v121
  let v123 : BitVec 32 := Scalar.subi v120 v122
  let v124 : BitVec 1 := Scalar.cmpi .ne v118 v123
  let v125 : BitVec 32 := Scalar.remsi v112 c2_i32_71
  let c0_i32_76 : BitVec 32 := 0#32
  let v126 : BitVec 1 := Scalar.cmpi .ne v125 c0_i32_76
  let v127 : BitVec 1 := Scalar.andi v124 v126
  let v113 : BitVec 32 := Scalar.divsi v112 c2_i32_71
  let c1_i32_77 : BitVec 32 := 1#32
  let v128 : BitVec 32 := Scalar.subi v113 c1_i32_77
  let v129 : BitVec 32 := Scalar.select v127 v128 v113
  let v130 : BitVec 32 := Scalar.subi v129 c0_i32_79
  let c1_i32_80 : BitVec 32 := 1#32
  let v132 : BitVec 32 := Scalar.divsi v130 c1_i32_80
  let v133 : BitVec 32 := Scalar.muli v132 c1_i32_80
  let v134 : BitVec 32 := Scalar.addi c0_i32_79 v133
  let c1_i32_82 : BitVec 32 := 1#32
  let arg19 : BitVec 32 := Scf.iv v134 c1_i32_82 k1_t7
  let v136 : BitVec 32 := Scalar.muli c2_i32_84 arg19
  let c1_i32_85 : BitVec 32 := 1#32
  let v137 : BitVec 32 := Scalar.addi v136 c1_i32_85
  let v244 : Index := Scalar.indexCast v137
  let c112_98 : Index := 112#32
  ![v243.toNat, v244.toNat, 112]

def k1_chk41 (v236 : IVec S16 32) : Prop :=
  (∀ a x, ((![v236] : Fin 1 → IVec S16 32) a x).toNat < S40960.size a) ∧
  (∀ a x, ((![v236] : Fin 1 → IVec S16 32) a x).toNat < S40960.size a)
theorem k1_idx75_inb : ∀ (v236 : IVec S16 32) (k1_hw41 : k1_chk41 v236), ∀ a x, ((![v236] : Fin 1 → IVec S16 32) a x).toNat < S40960.size a := fun v236 k1_hw41 => k1_hw41.1
theorem k1_idx76_inb : ∀ (v236 : IVec S16 32) (k1_hw41 : k1_chk41 v236), ∀ a x, ((![v236] : Fin 1 → IVec S16 32) a x).toNat < S40960.size a := fun v236 k1_hw41 => k1_hw41.2
@[reducible] def k1_t8_loop (v63 : BitVec 32) : Scf.Loop 32 :=
  let c0_i32_54 : BitVec 32 := 0#32
  let c16_i32_42 : BitVec 32 := 16#32
  let v64 : BitVec 32 := Scalar.addi v63 c16_i32_42
  let c1_i32_43 : BitVec 32 := 1#32
  let v65 : BitVec 32 := Scalar.subi v64 c1_i32_43
  let c0_i32_45 : BitVec 32 := 0#32
  let v67 : BitVec 1 := Scalar.cmpi .sgt v65 c0_i32_45
  let v68 : BitVec 32 := Scalar.extui v67
  let c0_i32_46 : BitVec 32 := 0#32
  let v69 : BitVec 1 := Scalar.cmpi .slt v65 c0_i32_46
  let v70 : BitVec 32 := Scalar.extui v69
  let v71 : BitVec 32 := Scalar.subi v68 v70
  let c16_i32_44 : BitVec 32 := 16#32
  let c0_i32_47 : BitVec 32 := 0#32
  let v72 : BitVec 1 := Scalar.cmpi .sgt c16_i32_44 c0_i32_47
  let v73 : BitVec 32 := Scalar.extui v72
  let c0_i32_48 : BitVec 32 := 0#32
  let v74 : BitVec 1 := Scalar.cmpi .slt c16_i32_44 c0_i32_48
  let v75 : BitVec 32 := Scalar.extui v74
  let v76 : BitVec 32 := Scalar.subi v73 v75
  let v77 : BitVec 1 := Scalar.cmpi .ne v71 v76
  let v78 : BitVec 32 := Scalar.remsi v65 c16_i32_44
  let c0_i32_49 : BitVec 32 := 0#32
  let v79 : BitVec 1 := Scalar.cmpi .ne v78 c0_i32_49
  let v80 : BitVec 1 := Scalar.andi v77 v79
  let v66 : BitVec 32 := Scalar.divsi v65 c16_i32_44
  let c1_i32_50 : BitVec 32 := 1#32
  let v81 : BitVec 32 := Scalar.subi v66 c1_i32_50
  let v82 : BitVec 32 := Scalar.select v80 v81 v66
  let v86 : BitVec 32 := Scalar.subi v82 c0_i32_54
  let c1_i32_55 : BitVec 32 := 1#32
  let v88 : BitVec 32 := Scalar.divsi v86 c1_i32_55
  let v89 : BitVec 32 := Scalar.muli v88 c1_i32_55
  let v90 : BitVec 32 := Scalar.addi c0_i32_54 v89
  let v87 : BitVec 32 := Scalar.addi c0_i32_54 v86
  let c1_i32_57 : BitVec 32 := 1#32
  ⟨v90, v87, c1_i32_57⟩
def k1_off45 (v63 : BitVec 32) (k1_t8 : Fin (k1_t8_loop v63).trips) : Fin 1 → Nat :=
  let c0_i32_54 : BitVec 32 := 0#32
  let c16_i32_42 : BitVec 32 := 16#32
  let v64 : BitVec 32 := Scalar.addi v63 c16_i32_42
  let c1_i32_43 : BitVec 32 := 1#32
  let v65 : BitVec 32 := Scalar.subi v64 c1_i32_43
  let c0_i32_45 : BitVec 32 := 0#32
  let v67 : BitVec 1 := Scalar.cmpi .sgt v65 c0_i32_45
  let v68 : BitVec 32 := Scalar.extui v67
  let c0_i32_46 : BitVec 32 := 0#32
  let v69 : BitVec 1 := Scalar.cmpi .slt v65 c0_i32_46
  let v70 : BitVec 32 := Scalar.extui v69
  let v71 : BitVec 32 := Scalar.subi v68 v70
  let c16_i32_44 : BitVec 32 := 16#32
  let c0_i32_47 : BitVec 32 := 0#32
  let v72 : BitVec 1 := Scalar.cmpi .sgt c16_i32_44 c0_i32_47
  let v73 : BitVec 32 := Scalar.extui v72
  let c0_i32_48 : BitVec 32 := 0#32
  let v74 : BitVec 1 := Scalar.cmpi .slt c16_i32_44 c0_i32_48
  let v75 : BitVec 32 := Scalar.extui v74
  let v76 : BitVec 32 := Scalar.subi v73 v75
  let v77 : BitVec 1 := Scalar.cmpi .ne v71 v76
  let v78 : BitVec 32 := Scalar.remsi v65 c16_i32_44
  let c0_i32_49 : BitVec 32 := 0#32
  let v79 : BitVec 1 := Scalar.cmpi .ne v78 c0_i32_49
  let v80 : BitVec 1 := Scalar.andi v77 v79
  let v66 : BitVec 32 := Scalar.divsi v65 c16_i32_44
  let c1_i32_50 : BitVec 32 := 1#32
  let v81 : BitVec 32 := Scalar.subi v66 c1_i32_50
  let v82 : BitVec 32 := Scalar.select v80 v81 v66
  let v86 : BitVec 32 := Scalar.subi v82 c0_i32_54
  let c1_i32_55 : BitVec 32 := 1#32
  let v88 : BitVec 32 := Scalar.divsi v86 c1_i32_55
  let v89 : BitVec 32 := Scalar.muli v88 c1_i32_55
  let v90 : BitVec 32 := Scalar.addi c0_i32_54 v89
  let c1_i32_57 : BitVec 32 := 1#32
  let arg18 : BitVec 32 := Scf.iv v90 c1_i32_57 k1_t8
  let c1_i32_59 : BitVec 32 := 1#32
  let v92 : BitVec 32 := Scalar.addi arg18 c1_i32_59
  let c16_i32_83 : BitVec 32 := 16#32
  let v135 : BitVec 32 := Scalar.muli v92 c16_i32_83
  ![v135.toNat]
def k1_cond12 (v63 : BitVec 32) (k1_t8 : Fin (k1_t8_loop v63).trips) : BitVec 1 :=
  let c0_i32_54 : BitVec 32 := 0#32
  let c16_i32_42 : BitVec 32 := 16#32
  let v64 : BitVec 32 := Scalar.addi v63 c16_i32_42
  let c1_i32_43 : BitVec 32 := 1#32
  let v65 : BitVec 32 := Scalar.subi v64 c1_i32_43
  let c0_i32_45 : BitVec 32 := 0#32
  let v67 : BitVec 1 := Scalar.cmpi .sgt v65 c0_i32_45
  let v68 : BitVec 32 := Scalar.extui v67
  let c0_i32_46 : BitVec 32 := 0#32
  let v69 : BitVec 1 := Scalar.cmpi .slt v65 c0_i32_46
  let v70 : BitVec 32 := Scalar.extui v69
  let v71 : BitVec 32 := Scalar.subi v68 v70
  let c16_i32_44 : BitVec 32 := 16#32
  let c0_i32_47 : BitVec 32 := 0#32
  let v72 : BitVec 1 := Scalar.cmpi .sgt c16_i32_44 c0_i32_47
  let v73 : BitVec 32 := Scalar.extui v72
  let c0_i32_48 : BitVec 32 := 0#32
  let v74 : BitVec 1 := Scalar.cmpi .slt c16_i32_44 c0_i32_48
  let v75 : BitVec 32 := Scalar.extui v74
  let v76 : BitVec 32 := Scalar.subi v73 v75
  let v77 : BitVec 1 := Scalar.cmpi .ne v71 v76
  let v78 : BitVec 32 := Scalar.remsi v65 c16_i32_44
  let c0_i32_49 : BitVec 32 := 0#32
  let v79 : BitVec 1 := Scalar.cmpi .ne v78 c0_i32_49
  let v80 : BitVec 1 := Scalar.andi v77 v79
  let v66 : BitVec 32 := Scalar.divsi v65 c16_i32_44
  let c1_i32_50 : BitVec 32 := 1#32
  let v81 : BitVec 32 := Scalar.subi v66 c1_i32_50
  let v82 : BitVec 32 := Scalar.select v80 v81 v66
  let v86 : BitVec 32 := Scalar.subi v82 c0_i32_54
  let c1_i32_55 : BitVec 32 := 1#32
  let v88 : BitVec 32 := Scalar.divsi v86 c1_i32_55
  let v89 : BitVec 32 := Scalar.muli v88 c1_i32_55
  let v90 : BitVec 32 := Scalar.addi c0_i32_54 v89
  let c1_i32_57 : BitVec 32 := 1#32
  let arg18 : BitVec 32 := Scf.iv v90 c1_i32_57 k1_t8
  let c1_i32_59 : BitVec 32 := 1#32
  let v92 : BitVec 32 := Scalar.addi arg18 c1_i32_59
  let v93 : BitVec 1 := Scalar.cmpi .slt v92 v82
  let c1_i32_58 : BitVec 32 := 1#32
  let v91 : BitVec 32 := Scalar.andi arg18 c1_i32_58
  let c1_i32_60 : BitVec 32 := 1#32
  let v94 : BitVec 1 := Scalar.cmpi .eq v91 c1_i32_60
  let v95 : BitVec 1 := Scalar.andi v93 v94
  let v96 : BitVec 32 := Scalar.extui v95
  let c0_i32_61 : BitVec 32 := 0#32
  let v97 : BitVec 1 := Scalar.cmpi .ne v96 c0_i32_61
  v97

def k1_off46 (v63 : BitVec 32) (k1_t8 : Fin (k1_t8_loop v63).trips) : Fin 1 → Nat :=
  let c0_i32_54 : BitVec 32 := 0#32
  let c16_i32_42 : BitVec 32 := 16#32
  let v64 : BitVec 32 := Scalar.addi v63 c16_i32_42
  let c1_i32_43 : BitVec 32 := 1#32
  let v65 : BitVec 32 := Scalar.subi v64 c1_i32_43
  let c0_i32_45 : BitVec 32 := 0#32
  let v67 : BitVec 1 := Scalar.cmpi .sgt v65 c0_i32_45
  let v68 : BitVec 32 := Scalar.extui v67
  let c0_i32_46 : BitVec 32 := 0#32
  let v69 : BitVec 1 := Scalar.cmpi .slt v65 c0_i32_46
  let v70 : BitVec 32 := Scalar.extui v69
  let v71 : BitVec 32 := Scalar.subi v68 v70
  let c16_i32_44 : BitVec 32 := 16#32
  let c0_i32_47 : BitVec 32 := 0#32
  let v72 : BitVec 1 := Scalar.cmpi .sgt c16_i32_44 c0_i32_47
  let v73 : BitVec 32 := Scalar.extui v72
  let c0_i32_48 : BitVec 32 := 0#32
  let v74 : BitVec 1 := Scalar.cmpi .slt c16_i32_44 c0_i32_48
  let v75 : BitVec 32 := Scalar.extui v74
  let v76 : BitVec 32 := Scalar.subi v73 v75
  let v77 : BitVec 1 := Scalar.cmpi .ne v71 v76
  let v78 : BitVec 32 := Scalar.remsi v65 c16_i32_44
  let c0_i32_49 : BitVec 32 := 0#32
  let v79 : BitVec 1 := Scalar.cmpi .ne v78 c0_i32_49
  let v80 : BitVec 1 := Scalar.andi v77 v79
  let v66 : BitVec 32 := Scalar.divsi v65 c16_i32_44
  let c1_i32_50 : BitVec 32 := 1#32
  let v81 : BitVec 32 := Scalar.subi v66 c1_i32_50
  let v82 : BitVec 32 := Scalar.select v80 v81 v66
  let v86 : BitVec 32 := Scalar.subi v82 c0_i32_54
  let c1_i32_55 : BitVec 32 := 1#32
  let v88 : BitVec 32 := Scalar.divsi v86 c1_i32_55
  let v89 : BitVec 32 := Scalar.muli v88 c1_i32_55
  let v90 : BitVec 32 := Scalar.addi c0_i32_54 v89
  let c1_i32_57 : BitVec 32 := 1#32
  let arg18 : BitVec 32 := Scf.iv v90 c1_i32_57 k1_t8
  let c1_i32_59 : BitVec 32 := 1#32
  let v92 : BitVec 32 := Scalar.addi arg18 c1_i32_59
  let c16_i32_83 : BitVec 32 := 16#32
  let v135 : BitVec 32 := Scalar.muli v92 c16_i32_83
  ![v135.toNat]
def k1_cond13 (v63 : BitVec 32) (k1_t8 : Fin (k1_t8_loop v63).trips) : BitVec 1 :=
  let c0_i32_54 : BitVec 32 := 0#32
  let c16_i32_42 : BitVec 32 := 16#32
  let v64 : BitVec 32 := Scalar.addi v63 c16_i32_42
  let c1_i32_43 : BitVec 32 := 1#32
  let v65 : BitVec 32 := Scalar.subi v64 c1_i32_43
  let c0_i32_45 : BitVec 32 := 0#32
  let v67 : BitVec 1 := Scalar.cmpi .sgt v65 c0_i32_45
  let v68 : BitVec 32 := Scalar.extui v67
  let c0_i32_46 : BitVec 32 := 0#32
  let v69 : BitVec 1 := Scalar.cmpi .slt v65 c0_i32_46
  let v70 : BitVec 32 := Scalar.extui v69
  let v71 : BitVec 32 := Scalar.subi v68 v70
  let c16_i32_44 : BitVec 32 := 16#32
  let c0_i32_47 : BitVec 32 := 0#32
  let v72 : BitVec 1 := Scalar.cmpi .sgt c16_i32_44 c0_i32_47
  let v73 : BitVec 32 := Scalar.extui v72
  let c0_i32_48 : BitVec 32 := 0#32
  let v74 : BitVec 1 := Scalar.cmpi .slt c16_i32_44 c0_i32_48
  let v75 : BitVec 32 := Scalar.extui v74
  let v76 : BitVec 32 := Scalar.subi v73 v75
  let v77 : BitVec 1 := Scalar.cmpi .ne v71 v76
  let v78 : BitVec 32 := Scalar.remsi v65 c16_i32_44
  let c0_i32_49 : BitVec 32 := 0#32
  let v79 : BitVec 1 := Scalar.cmpi .ne v78 c0_i32_49
  let v80 : BitVec 1 := Scalar.andi v77 v79
  let v66 : BitVec 32 := Scalar.divsi v65 c16_i32_44
  let c1_i32_50 : BitVec 32 := 1#32
  let v81 : BitVec 32 := Scalar.subi v66 c1_i32_50
  let v82 : BitVec 32 := Scalar.select v80 v81 v66
  let v86 : BitVec 32 := Scalar.subi v82 c0_i32_54
  let c1_i32_55 : BitVec 32 := 1#32
  let v88 : BitVec 32 := Scalar.divsi v86 c1_i32_55
  let v89 : BitVec 32 := Scalar.muli v88 c1_i32_55
  let v90 : BitVec 32 := Scalar.addi c0_i32_54 v89
  let c1_i32_57 : BitVec 32 := 1#32
  let arg18 : BitVec 32 := Scf.iv v90 c1_i32_57 k1_t8
  let c1_i32_59 : BitVec 32 := 1#32
  let v92 : BitVec 32 := Scalar.addi arg18 c1_i32_59
  let v98 : BitVec 1 := Scalar.cmpi .slt v92 v82
  let c1_i32_58 : BitVec 32 := 1#32
  let v91 : BitVec 32 := Scalar.andi arg18 c1_i32_58
  let c0_i32_62 : BitVec 32 := 0#32
  let v99 : BitVec 1 := Scalar.cmpi .eq v91 c0_i32_62
  let v100 : BitVec 1 := Scalar.andi v98 v99
  let v101 : BitVec 32 := Scalar.extui v100
  let c0_i32_63 : BitVec 32 := 0#32
  let v102 : BitVec 1 := Scalar.cmpi .ne v101 c0_i32_63
  v102

def k1_off47 (v63 : BitVec 32) (k1_t8 : Fin (k1_t8_loop v63).trips) : Fin 1 → Nat :=
  let c0_i32_54 : BitVec 32 := 0#32
  let c16_i32_42 : BitVec 32 := 16#32
  let v64 : BitVec 32 := Scalar.addi v63 c16_i32_42
  let c1_i32_43 : BitVec 32 := 1#32
  let v65 : BitVec 32 := Scalar.subi v64 c1_i32_43
  let c0_i32_45 : BitVec 32 := 0#32
  let v67 : BitVec 1 := Scalar.cmpi .sgt v65 c0_i32_45
  let v68 : BitVec 32 := Scalar.extui v67
  let c0_i32_46 : BitVec 32 := 0#32
  let v69 : BitVec 1 := Scalar.cmpi .slt v65 c0_i32_46
  let v70 : BitVec 32 := Scalar.extui v69
  let v71 : BitVec 32 := Scalar.subi v68 v70
  let c16_i32_44 : BitVec 32 := 16#32
  let c0_i32_47 : BitVec 32 := 0#32
  let v72 : BitVec 1 := Scalar.cmpi .sgt c16_i32_44 c0_i32_47
  let v73 : BitVec 32 := Scalar.extui v72
  let c0_i32_48 : BitVec 32 := 0#32
  let v74 : BitVec 1 := Scalar.cmpi .slt c16_i32_44 c0_i32_48
  let v75 : BitVec 32 := Scalar.extui v74
  let v76 : BitVec 32 := Scalar.subi v73 v75
  let v77 : BitVec 1 := Scalar.cmpi .ne v71 v76
  let v78 : BitVec 32 := Scalar.remsi v65 c16_i32_44
  let c0_i32_49 : BitVec 32 := 0#32
  let v79 : BitVec 1 := Scalar.cmpi .ne v78 c0_i32_49
  let v80 : BitVec 1 := Scalar.andi v77 v79
  let v66 : BitVec 32 := Scalar.divsi v65 c16_i32_44
  let c1_i32_50 : BitVec 32 := 1#32
  let v81 : BitVec 32 := Scalar.subi v66 c1_i32_50
  let v82 : BitVec 32 := Scalar.select v80 v81 v66
  let v86 : BitVec 32 := Scalar.subi v82 c0_i32_54
  let c1_i32_55 : BitVec 32 := 1#32
  let v88 : BitVec 32 := Scalar.divsi v86 c1_i32_55
  let v89 : BitVec 32 := Scalar.muli v88 c1_i32_55
  let v90 : BitVec 32 := Scalar.addi c0_i32_54 v89
  let c1_i32_57 : BitVec 32 := 1#32
  let arg18 : BitVec 32 := Scf.iv v90 c1_i32_57 k1_t8
  let c16_i32_83 : BitVec 32 := 16#32
  let v135 : BitVec 32 := Scalar.muli arg18 c16_i32_83
  ![v135.toNat]
def k1_cond14 (v63 : BitVec 32) (k1_t8 : Fin (k1_t8_loop v63).trips) : BitVec 1 :=
  let c0_i32_54 : BitVec 32 := 0#32
  let c16_i32_42 : BitVec 32 := 16#32
  let v64 : BitVec 32 := Scalar.addi v63 c16_i32_42
  let c1_i32_43 : BitVec 32 := 1#32
  let v65 : BitVec 32 := Scalar.subi v64 c1_i32_43
  let c0_i32_45 : BitVec 32 := 0#32
  let v67 : BitVec 1 := Scalar.cmpi .sgt v65 c0_i32_45
  let v68 : BitVec 32 := Scalar.extui v67
  let c0_i32_46 : BitVec 32 := 0#32
  let v69 : BitVec 1 := Scalar.cmpi .slt v65 c0_i32_46
  let v70 : BitVec 32 := Scalar.extui v69
  let v71 : BitVec 32 := Scalar.subi v68 v70
  let c16_i32_44 : BitVec 32 := 16#32
  let c0_i32_47 : BitVec 32 := 0#32
  let v72 : BitVec 1 := Scalar.cmpi .sgt c16_i32_44 c0_i32_47
  let v73 : BitVec 32 := Scalar.extui v72
  let c0_i32_48 : BitVec 32 := 0#32
  let v74 : BitVec 1 := Scalar.cmpi .slt c16_i32_44 c0_i32_48
  let v75 : BitVec 32 := Scalar.extui v74
  let v76 : BitVec 32 := Scalar.subi v73 v75
  let v77 : BitVec 1 := Scalar.cmpi .ne v71 v76
  let v78 : BitVec 32 := Scalar.remsi v65 c16_i32_44
  let c0_i32_49 : BitVec 32 := 0#32
  let v79 : BitVec 1 := Scalar.cmpi .ne v78 c0_i32_49
  let v80 : BitVec 1 := Scalar.andi v77 v79
  let v66 : BitVec 32 := Scalar.divsi v65 c16_i32_44
  let c1_i32_50 : BitVec 32 := 1#32
  let v81 : BitVec 32 := Scalar.subi v66 c1_i32_50
  let v82 : BitVec 32 := Scalar.select v80 v81 v66
  let v86 : BitVec 32 := Scalar.subi v82 c0_i32_54
  let c1_i32_55 : BitVec 32 := 1#32
  let v88 : BitVec 32 := Scalar.divsi v86 c1_i32_55
  let v89 : BitVec 32 := Scalar.muli v88 c1_i32_55
  let v90 : BitVec 32 := Scalar.addi c0_i32_54 v89
  let c1_i32_57 : BitVec 32 := 1#32
  let arg18 : BitVec 32 := Scf.iv v90 c1_i32_57 k1_t8
  let c1_i32_58 : BitVec 32 := 1#32
  let v91 : BitVec 32 := Scalar.andi arg18 c1_i32_58
  let c0_i32_64 : BitVec 32 := 0#32
  let v103 : BitVec 1 := Scalar.cmpi .eq v91 c0_i32_64
  let v104 : BitVec 32 := Scalar.extui v103
  let c0_i32_65 : BitVec 32 := 0#32
  let v105 : BitVec 1 := Scalar.cmpi .ne v104 c0_i32_65
  v105

def k1_off48 (v63 : BitVec 32) (k1_t8 : Fin (k1_t8_loop v63).trips) : Fin 1 → Nat :=
  let c0_i32_54 : BitVec 32 := 0#32
  let c16_i32_42 : BitVec 32 := 16#32
  let v64 : BitVec 32 := Scalar.addi v63 c16_i32_42
  let c1_i32_43 : BitVec 32 := 1#32
  let v65 : BitVec 32 := Scalar.subi v64 c1_i32_43
  let c0_i32_45 : BitVec 32 := 0#32
  let v67 : BitVec 1 := Scalar.cmpi .sgt v65 c0_i32_45
  let v68 : BitVec 32 := Scalar.extui v67
  let c0_i32_46 : BitVec 32 := 0#32
  let v69 : BitVec 1 := Scalar.cmpi .slt v65 c0_i32_46
  let v70 : BitVec 32 := Scalar.extui v69
  let v71 : BitVec 32 := Scalar.subi v68 v70
  let c16_i32_44 : BitVec 32 := 16#32
  let c0_i32_47 : BitVec 32 := 0#32
  let v72 : BitVec 1 := Scalar.cmpi .sgt c16_i32_44 c0_i32_47
  let v73 : BitVec 32 := Scalar.extui v72
  let c0_i32_48 : BitVec 32 := 0#32
  let v74 : BitVec 1 := Scalar.cmpi .slt c16_i32_44 c0_i32_48
  let v75 : BitVec 32 := Scalar.extui v74
  let v76 : BitVec 32 := Scalar.subi v73 v75
  let v77 : BitVec 1 := Scalar.cmpi .ne v71 v76
  let v78 : BitVec 32 := Scalar.remsi v65 c16_i32_44
  let c0_i32_49 : BitVec 32 := 0#32
  let v79 : BitVec 1 := Scalar.cmpi .ne v78 c0_i32_49
  let v80 : BitVec 1 := Scalar.andi v77 v79
  let v66 : BitVec 32 := Scalar.divsi v65 c16_i32_44
  let c1_i32_50 : BitVec 32 := 1#32
  let v81 : BitVec 32 := Scalar.subi v66 c1_i32_50
  let v82 : BitVec 32 := Scalar.select v80 v81 v66
  let v86 : BitVec 32 := Scalar.subi v82 c0_i32_54
  let c1_i32_55 : BitVec 32 := 1#32
  let v88 : BitVec 32 := Scalar.divsi v86 c1_i32_55
  let v89 : BitVec 32 := Scalar.muli v88 c1_i32_55
  let v90 : BitVec 32 := Scalar.addi c0_i32_54 v89
  let c1_i32_57 : BitVec 32 := 1#32
  let arg18 : BitVec 32 := Scf.iv v90 c1_i32_57 k1_t8
  let c16_i32_83 : BitVec 32 := 16#32
  let v135 : BitVec 32 := Scalar.muli arg18 c16_i32_83
  ![v135.toNat]
def k1_cond15 (v63 : BitVec 32) (k1_t8 : Fin (k1_t8_loop v63).trips) : BitVec 1 :=
  let c0_i32_54 : BitVec 32 := 0#32
  let c16_i32_42 : BitVec 32 := 16#32
  let v64 : BitVec 32 := Scalar.addi v63 c16_i32_42
  let c1_i32_43 : BitVec 32 := 1#32
  let v65 : BitVec 32 := Scalar.subi v64 c1_i32_43
  let c0_i32_45 : BitVec 32 := 0#32
  let v67 : BitVec 1 := Scalar.cmpi .sgt v65 c0_i32_45
  let v68 : BitVec 32 := Scalar.extui v67
  let c0_i32_46 : BitVec 32 := 0#32
  let v69 : BitVec 1 := Scalar.cmpi .slt v65 c0_i32_46
  let v70 : BitVec 32 := Scalar.extui v69
  let v71 : BitVec 32 := Scalar.subi v68 v70
  let c16_i32_44 : BitVec 32 := 16#32
  let c0_i32_47 : BitVec 32 := 0#32
  let v72 : BitVec 1 := Scalar.cmpi .sgt c16_i32_44 c0_i32_47
  let v73 : BitVec 32 := Scalar.extui v72
  let c0_i32_48 : BitVec 32 := 0#32
  let v74 : BitVec 1 := Scalar.cmpi .slt c16_i32_44 c0_i32_48
  let v75 : BitVec 32 := Scalar.extui v74
  let v76 : BitVec 32 := Scalar.subi v73 v75
  let v77 : BitVec 1 := Scalar.cmpi .ne v71 v76
  let v78 : BitVec 32 := Scalar.remsi v65 c16_i32_44
  let c0_i32_49 : BitVec 32 := 0#32
  let v79 : BitVec 1 := Scalar.cmpi .ne v78 c0_i32_49
  let v80 : BitVec 1 := Scalar.andi v77 v79
  let v66 : BitVec 32 := Scalar.divsi v65 c16_i32_44
  let c1_i32_50 : BitVec 32 := 1#32
  let v81 : BitVec 32 := Scalar.subi v66 c1_i32_50
  let v82 : BitVec 32 := Scalar.select v80 v81 v66
  let v86 : BitVec 32 := Scalar.subi v82 c0_i32_54
  let c1_i32_55 : BitVec 32 := 1#32
  let v88 : BitVec 32 := Scalar.divsi v86 c1_i32_55
  let v89 : BitVec 32 := Scalar.muli v88 c1_i32_55
  let v90 : BitVec 32 := Scalar.addi c0_i32_54 v89
  let c1_i32_57 : BitVec 32 := 1#32
  let arg18 : BitVec 32 := Scf.iv v90 c1_i32_57 k1_t8
  let c1_i32_58 : BitVec 32 := 1#32
  let v91 : BitVec 32 := Scalar.andi arg18 c1_i32_58
  let c1_i32_66 : BitVec 32 := 1#32
  let v106 : BitVec 1 := Scalar.cmpi .eq v91 c1_i32_66
  let v107 : BitVec 32 := Scalar.extui v106
  let c0_i32_67 : BitVec 32 := 0#32
  let v108 : BitVec 1 := Scalar.cmpi .ne v107 c0_i32_67
  v108

@[reducible] def k1_t9_loop (v63 : BitVec 32) (k1_t8 : Fin (k1_t8_loop v63).trips) : Scf.Loop 32 :=
  let c0_i32_79 : BitVec 32 := 0#32
  let c0_i32_54 : BitVec 32 := 0#32
  let c16_i32_42 : BitVec 32 := 16#32
  let v64 : BitVec 32 := Scalar.addi v63 c16_i32_42
  let c1_i32_43 : BitVec 32 := 1#32
  let v65 : BitVec 32 := Scalar.subi v64 c1_i32_43
  let c0_i32_45 : BitVec 32 := 0#32
  let v67 : BitVec 1 := Scalar.cmpi .sgt v65 c0_i32_45
  let v68 : BitVec 32 := Scalar.extui v67
  let c0_i32_46 : BitVec 32 := 0#32
  let v69 : BitVec 1 := Scalar.cmpi .slt v65 c0_i32_46
  let v70 : BitVec 32 := Scalar.extui v69
  let v71 : BitVec 32 := Scalar.subi v68 v70
  let c16_i32_44 : BitVec 32 := 16#32
  let c0_i32_47 : BitVec 32 := 0#32
  let v72 : BitVec 1 := Scalar.cmpi .sgt c16_i32_44 c0_i32_47
  let v73 : BitVec 32 := Scalar.extui v72
  let c0_i32_48 : BitVec 32 := 0#32
  let v74 : BitVec 1 := Scalar.cmpi .slt c16_i32_44 c0_i32_48
  let v75 : BitVec 32 := Scalar.extui v74
  let v76 : BitVec 32 := Scalar.subi v73 v75
  let v77 : BitVec 1 := Scalar.cmpi .ne v71 v76
  let v78 : BitVec 32 := Scalar.remsi v65 c16_i32_44
  let c0_i32_49 : BitVec 32 := 0#32
  let v79 : BitVec 1 := Scalar.cmpi .ne v78 c0_i32_49
  let v80 : BitVec 1 := Scalar.andi v77 v79
  let v66 : BitVec 32 := Scalar.divsi v65 c16_i32_44
  let c1_i32_50 : BitVec 32 := 1#32
  let v81 : BitVec 32 := Scalar.subi v66 c1_i32_50
  let v82 : BitVec 32 := Scalar.select v80 v81 v66
  let v86 : BitVec 32 := Scalar.subi v82 c0_i32_54
  let c1_i32_55 : BitVec 32 := 1#32
  let v88 : BitVec 32 := Scalar.divsi v86 c1_i32_55
  let v89 : BitVec 32 := Scalar.muli v88 c1_i32_55
  let v90 : BitVec 32 := Scalar.addi c0_i32_54 v89
  let c1_i32_57 : BitVec 32 := 1#32
  let arg18 : BitVec 32 := Scf.iv v90 c1_i32_57 k1_t8
  let c16_i32_68 : BitVec 32 := 16#32
  let v109 : BitVec 32 := Scalar.muli arg18 c16_i32_68
  let v110 : BitVec 32 := Scalar.subi v63 v109
  let c16_i32_69 : BitVec 32 := 16#32
  let v111 : BitVec 32 := Scalar.minsi v110 c16_i32_69
  let c1_i32_70 : BitVec 32 := 1#32
  let v112 : BitVec 32 := Scalar.addi v111 c1_i32_70
  let c0_i32_72 : BitVec 32 := 0#32
  let v114 : BitVec 1 := Scalar.cmpi .sgt v112 c0_i32_72
  let v115 : BitVec 32 := Scalar.extui v114
  let c0_i32_73 : BitVec 32 := 0#32
  let v116 : BitVec 1 := Scalar.cmpi .slt v112 c0_i32_73
  let v117 : BitVec 32 := Scalar.extui v116
  let v118 : BitVec 32 := Scalar.subi v115 v117
  let c2_i32_71 : BitVec 32 := 2#32
  let c0_i32_74 : BitVec 32 := 0#32
  let v119 : BitVec 1 := Scalar.cmpi .sgt c2_i32_71 c0_i32_74
  let v120 : BitVec 32 := Scalar.extui v119
  let c0_i32_75 : BitVec 32 := 0#32
  let v121 : BitVec 1 := Scalar.cmpi .slt c2_i32_71 c0_i32_75
  let v122 : BitVec 32 := Scalar.extui v121
  let v123 : BitVec 32 := Scalar.subi v120 v122
  let v124 : BitVec 1 := Scalar.cmpi .ne v118 v123
  let v125 : BitVec 32 := Scalar.remsi v112 c2_i32_71
  let c0_i32_76 : BitVec 32 := 0#32
  let v126 : BitVec 1 := Scalar.cmpi .ne v125 c0_i32_76
  let v127 : BitVec 1 := Scalar.andi v124 v126
  let v113 : BitVec 32 := Scalar.divsi v112 c2_i32_71
  let c1_i32_77 : BitVec 32 := 1#32
  let v128 : BitVec 32 := Scalar.subi v113 c1_i32_77
  let v129 : BitVec 32 := Scalar.select v127 v128 v113
  let v130 : BitVec 32 := Scalar.subi v129 c0_i32_79
  let c1_i32_80 : BitVec 32 := 1#32
  let v132 : BitVec 32 := Scalar.divsi v130 c1_i32_80
  let v133 : BitVec 32 := Scalar.muli v132 c1_i32_80
  let v134 : BitVec 32 := Scalar.addi c0_i32_79 v133
  let c1_i32_81 : BitVec 32 := 1#32
  ⟨c0_i32_79, v134, c1_i32_81⟩

def k1_chk42 (v140 : IVec S16 32) : Prop :=
  (∀ a x, ((![v140] : Fin 1 → IVec S16 32) a x).toNat < S784.size a)
theorem k1_idx77_inb : ∀ (v140 : IVec S16 32) (k1_hw42 : k1_chk42 v140), ∀ a x, ((![v140] : Fin 1 → IVec S16 32) a x).toNat < S784.size a := fun v140 k1_hw42 => k1_hw42

def k1_chk43 (v143 : IVec S16 32) : Prop :=
  (∀ a x, ((![v143] : Fin 1 → IVec S16 32) a x).toNat < S784.size a)
theorem k1_idx78_inb : ∀ (v143 : IVec S16 32) (k1_hw43 : k1_chk43 v143), ∀ a x, ((![v143] : Fin 1 → IVec S16 32) a x).toNat < S784.size a := fun v143 k1_hw43 => k1_hw43
def k1_off49 (v63 : BitVec 32) (k1_t8 : Fin (k1_t8_loop v63).trips) (k1_t9 : Fin (k1_t9_loop v63 k1_t8).trips) : Fin 3 → Nat :=
  let c0_i32_54 : BitVec 32 := 0#32
  let c16_i32_42 : BitVec 32 := 16#32
  let v64 : BitVec 32 := Scalar.addi v63 c16_i32_42
  let c1_i32_43 : BitVec 32 := 1#32
  let v65 : BitVec 32 := Scalar.subi v64 c1_i32_43
  let c0_i32_45 : BitVec 32 := 0#32
  let v67 : BitVec 1 := Scalar.cmpi .sgt v65 c0_i32_45
  let v68 : BitVec 32 := Scalar.extui v67
  let c0_i32_46 : BitVec 32 := 0#32
  let v69 : BitVec 1 := Scalar.cmpi .slt v65 c0_i32_46
  let v70 : BitVec 32 := Scalar.extui v69
  let v71 : BitVec 32 := Scalar.subi v68 v70
  let c16_i32_44 : BitVec 32 := 16#32
  let c0_i32_47 : BitVec 32 := 0#32
  let v72 : BitVec 1 := Scalar.cmpi .sgt c16_i32_44 c0_i32_47
  let v73 : BitVec 32 := Scalar.extui v72
  let c0_i32_48 : BitVec 32 := 0#32
  let v74 : BitVec 1 := Scalar.cmpi .slt c16_i32_44 c0_i32_48
  let v75 : BitVec 32 := Scalar.extui v74
  let v76 : BitVec 32 := Scalar.subi v73 v75
  let v77 : BitVec 1 := Scalar.cmpi .ne v71 v76
  let v78 : BitVec 32 := Scalar.remsi v65 c16_i32_44
  let c0_i32_49 : BitVec 32 := 0#32
  let v79 : BitVec 1 := Scalar.cmpi .ne v78 c0_i32_49
  let v80 : BitVec 1 := Scalar.andi v77 v79
  let v66 : BitVec 32 := Scalar.divsi v65 c16_i32_44
  let c1_i32_50 : BitVec 32 := 1#32
  let v81 : BitVec 32 := Scalar.subi v66 c1_i32_50
  let v82 : BitVec 32 := Scalar.select v80 v81 v66
  let v86 : BitVec 32 := Scalar.subi v82 c0_i32_54
  let c1_i32_55 : BitVec 32 := 1#32
  let v88 : BitVec 32 := Scalar.divsi v86 c1_i32_55
  let v89 : BitVec 32 := Scalar.muli v88 c1_i32_55
  let v90 : BitVec 32 := Scalar.addi c0_i32_54 v89
  let c1_i32_57 : BitVec 32 := 1#32
  let arg18 : BitVec 32 := Scf.iv v90 c1_i32_57 k1_t8
  let c1_i32_58 : BitVec 32 := 1#32
  let v91 : BitVec 32 := Scalar.andi arg18 c1_i32_58
  let v154 : Index := Scalar.indexCast v91
  let c2_i32_83 : BitVec 32 := 2#32
  let c0_i32_79 : BitVec 32 := 0#32
  let c1_i32_81 : BitVec 32 := 1#32
  let arg19 : BitVec 32 := Scf.iv c0_i32_79 c1_i32_81 k1_t9
  let v135 : BitVec 32 := Scalar.muli c2_i32_83 arg19
  let v155 : Index := Scalar.indexCast v135
  let c0_90 : Index := 0#32
  ![v154.toNat, v155.toNat, 0]

def k1_chk44 (v151 : IVec S16 32) : Prop :=
  (∀ a x, ((![v151] : Fin 1 → IVec S16 32) a x).toNat < S40960.size a) ∧
  (∀ a x, ((![v151] : Fin 1 → IVec S16 32) a x).toNat < S40960.size a)
theorem k1_idx79_inb : ∀ (v151 : IVec S16 32) (k1_hw44 : k1_chk44 v151), ∀ a x, ((![v151] : Fin 1 → IVec S16 32) a x).toNat < S40960.size a := fun v151 k1_hw44 => k1_hw44.1
theorem k1_idx80_inb : ∀ (v151 : IVec S16 32) (k1_hw44 : k1_chk44 v151), ∀ a x, ((![v151] : Fin 1 → IVec S16 32) a x).toNat < S40960.size a := fun v151 k1_hw44 => k1_hw44.2
def k1_off50 (v63 : BitVec 32) (k1_t8 : Fin (k1_t8_loop v63).trips) (k1_t9 : Fin (k1_t9_loop v63 k1_t8).trips) : Fin 3 → Nat :=
  let c0_i32_54 : BitVec 32 := 0#32
  let c16_i32_42 : BitVec 32 := 16#32
  let v64 : BitVec 32 := Scalar.addi v63 c16_i32_42
  let c1_i32_43 : BitVec 32 := 1#32
  let v65 : BitVec 32 := Scalar.subi v64 c1_i32_43
  let c0_i32_45 : BitVec 32 := 0#32
  let v67 : BitVec 1 := Scalar.cmpi .sgt v65 c0_i32_45
  let v68 : BitVec 32 := Scalar.extui v67
  let c0_i32_46 : BitVec 32 := 0#32
  let v69 : BitVec 1 := Scalar.cmpi .slt v65 c0_i32_46
  let v70 : BitVec 32 := Scalar.extui v69
  let v71 : BitVec 32 := Scalar.subi v68 v70
  let c16_i32_44 : BitVec 32 := 16#32
  let c0_i32_47 : BitVec 32 := 0#32
  let v72 : BitVec 1 := Scalar.cmpi .sgt c16_i32_44 c0_i32_47
  let v73 : BitVec 32 := Scalar.extui v72
  let c0_i32_48 : BitVec 32 := 0#32
  let v74 : BitVec 1 := Scalar.cmpi .slt c16_i32_44 c0_i32_48
  let v75 : BitVec 32 := Scalar.extui v74
  let v76 : BitVec 32 := Scalar.subi v73 v75
  let v77 : BitVec 1 := Scalar.cmpi .ne v71 v76
  let v78 : BitVec 32 := Scalar.remsi v65 c16_i32_44
  let c0_i32_49 : BitVec 32 := 0#32
  let v79 : BitVec 1 := Scalar.cmpi .ne v78 c0_i32_49
  let v80 : BitVec 1 := Scalar.andi v77 v79
  let v66 : BitVec 32 := Scalar.divsi v65 c16_i32_44
  let c1_i32_50 : BitVec 32 := 1#32
  let v81 : BitVec 32 := Scalar.subi v66 c1_i32_50
  let v82 : BitVec 32 := Scalar.select v80 v81 v66
  let v86 : BitVec 32 := Scalar.subi v82 c0_i32_54
  let c1_i32_55 : BitVec 32 := 1#32
  let v88 : BitVec 32 := Scalar.divsi v86 c1_i32_55
  let v89 : BitVec 32 := Scalar.muli v88 c1_i32_55
  let v90 : BitVec 32 := Scalar.addi c0_i32_54 v89
  let c1_i32_57 : BitVec 32 := 1#32
  let arg18 : BitVec 32 := Scf.iv v90 c1_i32_57 k1_t8
  let c1_i32_58 : BitVec 32 := 1#32
  let v91 : BitVec 32 := Scalar.andi arg18 c1_i32_58
  let v159 : Index := Scalar.indexCast v91
  let c2_i32_84 : BitVec 32 := 2#32
  let c0_i32_79 : BitVec 32 := 0#32
  let c1_i32_81 : BitVec 32 := 1#32
  let arg19 : BitVec 32 := Scf.iv c0_i32_79 c1_i32_81 k1_t9
  let v136 : BitVec 32 := Scalar.muli c2_i32_84 arg19
  let c1_i32_85 : BitVec 32 := 1#32
  let v137 : BitVec 32 := Scalar.addi v136 c1_i32_85
  let v160 : Index := Scalar.indexCast v137
  let c0_91 : Index := 0#32
  ![v159.toNat, v160.toNat, 0]

def k1_chk45 (v152 : IVec S16 32) : Prop :=
  (∀ a x, ((![v152] : Fin 1 → IVec S16 32) a x).toNat < S40960.size a) ∧
  (∀ a x, ((![v152] : Fin 1 → IVec S16 32) a x).toNat < S40960.size a)
theorem k1_idx81_inb : ∀ (v152 : IVec S16 32) (k1_hw45 : k1_chk45 v152), ∀ a x, ((![v152] : Fin 1 → IVec S16 32) a x).toNat < S40960.size a := fun v152 k1_hw45 => k1_hw45.1
theorem k1_idx82_inb : ∀ (v152 : IVec S16 32) (k1_hw45 : k1_chk45 v152), ∀ a x, ((![v152] : Fin 1 → IVec S16 32) a x).toNat < S40960.size a := fun v152 k1_hw45 => k1_hw45.2
def k1_off51 (v63 : BitVec 32) (k1_t8 : Fin (k1_t8_loop v63).trips) (k1_t9 : Fin (k1_t9_loop v63 k1_t8).trips) : Fin 3 → Nat :=
  let c0_i32_54 : BitVec 32 := 0#32
  let c16_i32_42 : BitVec 32 := 16#32
  let v64 : BitVec 32 := Scalar.addi v63 c16_i32_42
  let c1_i32_43 : BitVec 32 := 1#32
  let v65 : BitVec 32 := Scalar.subi v64 c1_i32_43
  let c0_i32_45 : BitVec 32 := 0#32
  let v67 : BitVec 1 := Scalar.cmpi .sgt v65 c0_i32_45
  let v68 : BitVec 32 := Scalar.extui v67
  let c0_i32_46 : BitVec 32 := 0#32
  let v69 : BitVec 1 := Scalar.cmpi .slt v65 c0_i32_46
  let v70 : BitVec 32 := Scalar.extui v69
  let v71 : BitVec 32 := Scalar.subi v68 v70
  let c16_i32_44 : BitVec 32 := 16#32
  let c0_i32_47 : BitVec 32 := 0#32
  let v72 : BitVec 1 := Scalar.cmpi .sgt c16_i32_44 c0_i32_47
  let v73 : BitVec 32 := Scalar.extui v72
  let c0_i32_48 : BitVec 32 := 0#32
  let v74 : BitVec 1 := Scalar.cmpi .slt c16_i32_44 c0_i32_48
  let v75 : BitVec 32 := Scalar.extui v74
  let v76 : BitVec 32 := Scalar.subi v73 v75
  let v77 : BitVec 1 := Scalar.cmpi .ne v71 v76
  let v78 : BitVec 32 := Scalar.remsi v65 c16_i32_44
  let c0_i32_49 : BitVec 32 := 0#32
  let v79 : BitVec 1 := Scalar.cmpi .ne v78 c0_i32_49
  let v80 : BitVec 1 := Scalar.andi v77 v79
  let v66 : BitVec 32 := Scalar.divsi v65 c16_i32_44
  let c1_i32_50 : BitVec 32 := 1#32
  let v81 : BitVec 32 := Scalar.subi v66 c1_i32_50
  let v82 : BitVec 32 := Scalar.select v80 v81 v66
  let v86 : BitVec 32 := Scalar.subi v82 c0_i32_54
  let c1_i32_55 : BitVec 32 := 1#32
  let v88 : BitVec 32 := Scalar.divsi v86 c1_i32_55
  let v89 : BitVec 32 := Scalar.muli v88 c1_i32_55
  let v90 : BitVec 32 := Scalar.addi c0_i32_54 v89
  let c1_i32_57 : BitVec 32 := 1#32
  let arg18 : BitVec 32 := Scf.iv v90 c1_i32_57 k1_t8
  let c1_i32_58 : BitVec 32 := 1#32
  let v91 : BitVec 32 := Scalar.andi arg18 c1_i32_58
  let v166 : Index := Scalar.indexCast v91
  let c2_i32_83 : BitVec 32 := 2#32
  let c0_i32_79 : BitVec 32 := 0#32
  let c1_i32_81 : BitVec 32 := 1#32
  let arg19 : BitVec 32 := Scf.iv c0_i32_79 c1_i32_81 k1_t9
  let v135 : BitVec 32 := Scalar.muli c2_i32_83 arg19
  let v167 : Index := Scalar.indexCast v135
  let c16 : Index := 16#32
  ![v166.toNat, v167.toNat, 16]

def k1_chk46 (v163 : IVec S16 32) : Prop :=
  (∀ a x, ((![v163] : Fin 1 → IVec S16 32) a x).toNat < S40960.size a) ∧
  (∀ a x, ((![v163] : Fin 1 → IVec S16 32) a x).toNat < S40960.size a)
theorem k1_idx83_inb : ∀ (v163 : IVec S16 32) (k1_hw46 : k1_chk46 v163), ∀ a x, ((![v163] : Fin 1 → IVec S16 32) a x).toNat < S40960.size a := fun v163 k1_hw46 => k1_hw46.1
theorem k1_idx84_inb : ∀ (v163 : IVec S16 32) (k1_hw46 : k1_chk46 v163), ∀ a x, ((![v163] : Fin 1 → IVec S16 32) a x).toNat < S40960.size a := fun v163 k1_hw46 => k1_hw46.2
def k1_off52 (v63 : BitVec 32) (k1_t8 : Fin (k1_t8_loop v63).trips) (k1_t9 : Fin (k1_t9_loop v63 k1_t8).trips) : Fin 3 → Nat :=
  let c0_i32_54 : BitVec 32 := 0#32
  let c16_i32_42 : BitVec 32 := 16#32
  let v64 : BitVec 32 := Scalar.addi v63 c16_i32_42
  let c1_i32_43 : BitVec 32 := 1#32
  let v65 : BitVec 32 := Scalar.subi v64 c1_i32_43
  let c0_i32_45 : BitVec 32 := 0#32
  let v67 : BitVec 1 := Scalar.cmpi .sgt v65 c0_i32_45
  let v68 : BitVec 32 := Scalar.extui v67
  let c0_i32_46 : BitVec 32 := 0#32
  let v69 : BitVec 1 := Scalar.cmpi .slt v65 c0_i32_46
  let v70 : BitVec 32 := Scalar.extui v69
  let v71 : BitVec 32 := Scalar.subi v68 v70
  let c16_i32_44 : BitVec 32 := 16#32
  let c0_i32_47 : BitVec 32 := 0#32
  let v72 : BitVec 1 := Scalar.cmpi .sgt c16_i32_44 c0_i32_47
  let v73 : BitVec 32 := Scalar.extui v72
  let c0_i32_48 : BitVec 32 := 0#32
  let v74 : BitVec 1 := Scalar.cmpi .slt c16_i32_44 c0_i32_48
  let v75 : BitVec 32 := Scalar.extui v74
  let v76 : BitVec 32 := Scalar.subi v73 v75
  let v77 : BitVec 1 := Scalar.cmpi .ne v71 v76
  let v78 : BitVec 32 := Scalar.remsi v65 c16_i32_44
  let c0_i32_49 : BitVec 32 := 0#32
  let v79 : BitVec 1 := Scalar.cmpi .ne v78 c0_i32_49
  let v80 : BitVec 1 := Scalar.andi v77 v79
  let v66 : BitVec 32 := Scalar.divsi v65 c16_i32_44
  let c1_i32_50 : BitVec 32 := 1#32
  let v81 : BitVec 32 := Scalar.subi v66 c1_i32_50
  let v82 : BitVec 32 := Scalar.select v80 v81 v66
  let v86 : BitVec 32 := Scalar.subi v82 c0_i32_54
  let c1_i32_55 : BitVec 32 := 1#32
  let v88 : BitVec 32 := Scalar.divsi v86 c1_i32_55
  let v89 : BitVec 32 := Scalar.muli v88 c1_i32_55
  let v90 : BitVec 32 := Scalar.addi c0_i32_54 v89
  let c1_i32_57 : BitVec 32 := 1#32
  let arg18 : BitVec 32 := Scf.iv v90 c1_i32_57 k1_t8
  let c1_i32_58 : BitVec 32 := 1#32
  let v91 : BitVec 32 := Scalar.andi arg18 c1_i32_58
  let v171 : Index := Scalar.indexCast v91
  let c2_i32_84 : BitVec 32 := 2#32
  let c0_i32_79 : BitVec 32 := 0#32
  let c1_i32_81 : BitVec 32 := 1#32
  let arg19 : BitVec 32 := Scf.iv c0_i32_79 c1_i32_81 k1_t9
  let v136 : BitVec 32 := Scalar.muli c2_i32_84 arg19
  let c1_i32_85 : BitVec 32 := 1#32
  let v137 : BitVec 32 := Scalar.addi v136 c1_i32_85
  let v172 : Index := Scalar.indexCast v137
  let c16_92 : Index := 16#32
  ![v171.toNat, v172.toNat, 16]

def k1_chk47 (v164 : IVec S16 32) : Prop :=
  (∀ a x, ((![v164] : Fin 1 → IVec S16 32) a x).toNat < S40960.size a) ∧
  (∀ a x, ((![v164] : Fin 1 → IVec S16 32) a x).toNat < S40960.size a)
theorem k1_idx85_inb : ∀ (v164 : IVec S16 32) (k1_hw47 : k1_chk47 v164), ∀ a x, ((![v164] : Fin 1 → IVec S16 32) a x).toNat < S40960.size a := fun v164 k1_hw47 => k1_hw47.1
theorem k1_idx86_inb : ∀ (v164 : IVec S16 32) (k1_hw47 : k1_chk47 v164), ∀ a x, ((![v164] : Fin 1 → IVec S16 32) a x).toNat < S40960.size a := fun v164 k1_hw47 => k1_hw47.2
def k1_off53 (v63 : BitVec 32) (k1_t8 : Fin (k1_t8_loop v63).trips) (k1_t9 : Fin (k1_t9_loop v63 k1_t8).trips) : Fin 3 → Nat :=
  let c0_i32_54 : BitVec 32 := 0#32
  let c16_i32_42 : BitVec 32 := 16#32
  let v64 : BitVec 32 := Scalar.addi v63 c16_i32_42
  let c1_i32_43 : BitVec 32 := 1#32
  let v65 : BitVec 32 := Scalar.subi v64 c1_i32_43
  let c0_i32_45 : BitVec 32 := 0#32
  let v67 : BitVec 1 := Scalar.cmpi .sgt v65 c0_i32_45
  let v68 : BitVec 32 := Scalar.extui v67
  let c0_i32_46 : BitVec 32 := 0#32
  let v69 : BitVec 1 := Scalar.cmpi .slt v65 c0_i32_46
  let v70 : BitVec 32 := Scalar.extui v69
  let v71 : BitVec 32 := Scalar.subi v68 v70
  let c16_i32_44 : BitVec 32 := 16#32
  let c0_i32_47 : BitVec 32 := 0#32
  let v72 : BitVec 1 := Scalar.cmpi .sgt c16_i32_44 c0_i32_47
  let v73 : BitVec 32 := Scalar.extui v72
  let c0_i32_48 : BitVec 32 := 0#32
  let v74 : BitVec 1 := Scalar.cmpi .slt c16_i32_44 c0_i32_48
  let v75 : BitVec 32 := Scalar.extui v74
  let v76 : BitVec 32 := Scalar.subi v73 v75
  let v77 : BitVec 1 := Scalar.cmpi .ne v71 v76
  let v78 : BitVec 32 := Scalar.remsi v65 c16_i32_44
  let c0_i32_49 : BitVec 32 := 0#32
  let v79 : BitVec 1 := Scalar.cmpi .ne v78 c0_i32_49
  let v80 : BitVec 1 := Scalar.andi v77 v79
  let v66 : BitVec 32 := Scalar.divsi v65 c16_i32_44
  let c1_i32_50 : BitVec 32 := 1#32
  let v81 : BitVec 32 := Scalar.subi v66 c1_i32_50
  let v82 : BitVec 32 := Scalar.select v80 v81 v66
  let v86 : BitVec 32 := Scalar.subi v82 c0_i32_54
  let c1_i32_55 : BitVec 32 := 1#32
  let v88 : BitVec 32 := Scalar.divsi v86 c1_i32_55
  let v89 : BitVec 32 := Scalar.muli v88 c1_i32_55
  let v90 : BitVec 32 := Scalar.addi c0_i32_54 v89
  let c1_i32_57 : BitVec 32 := 1#32
  let arg18 : BitVec 32 := Scf.iv v90 c1_i32_57 k1_t8
  let c1_i32_58 : BitVec 32 := 1#32
  let v91 : BitVec 32 := Scalar.andi arg18 c1_i32_58
  let v178 : Index := Scalar.indexCast v91
  let c2_i32_83 : BitVec 32 := 2#32
  let c0_i32_79 : BitVec 32 := 0#32
  let c1_i32_81 : BitVec 32 := 1#32
  let arg19 : BitVec 32 := Scf.iv c0_i32_79 c1_i32_81 k1_t9
  let v135 : BitVec 32 := Scalar.muli c2_i32_83 arg19
  let v179 : Index := Scalar.indexCast v135
  let c32 : Index := 32#32
  ![v178.toNat, v179.toNat, 32]

def k1_chk48 (v175 : IVec S16 32) : Prop :=
  (∀ a x, ((![v175] : Fin 1 → IVec S16 32) a x).toNat < S40960.size a) ∧
  (∀ a x, ((![v175] : Fin 1 → IVec S16 32) a x).toNat < S40960.size a)
theorem k1_idx87_inb : ∀ (v175 : IVec S16 32) (k1_hw48 : k1_chk48 v175), ∀ a x, ((![v175] : Fin 1 → IVec S16 32) a x).toNat < S40960.size a := fun v175 k1_hw48 => k1_hw48.1
theorem k1_idx88_inb : ∀ (v175 : IVec S16 32) (k1_hw48 : k1_chk48 v175), ∀ a x, ((![v175] : Fin 1 → IVec S16 32) a x).toNat < S40960.size a := fun v175 k1_hw48 => k1_hw48.2
def k1_off54 (v63 : BitVec 32) (k1_t8 : Fin (k1_t8_loop v63).trips) (k1_t9 : Fin (k1_t9_loop v63 k1_t8).trips) : Fin 3 → Nat :=
  let c0_i32_54 : BitVec 32 := 0#32
  let c16_i32_42 : BitVec 32 := 16#32
  let v64 : BitVec 32 := Scalar.addi v63 c16_i32_42
  let c1_i32_43 : BitVec 32 := 1#32
  let v65 : BitVec 32 := Scalar.subi v64 c1_i32_43
  let c0_i32_45 : BitVec 32 := 0#32
  let v67 : BitVec 1 := Scalar.cmpi .sgt v65 c0_i32_45
  let v68 : BitVec 32 := Scalar.extui v67
  let c0_i32_46 : BitVec 32 := 0#32
  let v69 : BitVec 1 := Scalar.cmpi .slt v65 c0_i32_46
  let v70 : BitVec 32 := Scalar.extui v69
  let v71 : BitVec 32 := Scalar.subi v68 v70
  let c16_i32_44 : BitVec 32 := 16#32
  let c0_i32_47 : BitVec 32 := 0#32
  let v72 : BitVec 1 := Scalar.cmpi .sgt c16_i32_44 c0_i32_47
  let v73 : BitVec 32 := Scalar.extui v72
  let c0_i32_48 : BitVec 32 := 0#32
  let v74 : BitVec 1 := Scalar.cmpi .slt c16_i32_44 c0_i32_48
  let v75 : BitVec 32 := Scalar.extui v74
  let v76 : BitVec 32 := Scalar.subi v73 v75
  let v77 : BitVec 1 := Scalar.cmpi .ne v71 v76
  let v78 : BitVec 32 := Scalar.remsi v65 c16_i32_44
  let c0_i32_49 : BitVec 32 := 0#32
  let v79 : BitVec 1 := Scalar.cmpi .ne v78 c0_i32_49
  let v80 : BitVec 1 := Scalar.andi v77 v79
  let v66 : BitVec 32 := Scalar.divsi v65 c16_i32_44
  let c1_i32_50 : BitVec 32 := 1#32
  let v81 : BitVec 32 := Scalar.subi v66 c1_i32_50
  let v82 : BitVec 32 := Scalar.select v80 v81 v66
  let v86 : BitVec 32 := Scalar.subi v82 c0_i32_54
  let c1_i32_55 : BitVec 32 := 1#32
  let v88 : BitVec 32 := Scalar.divsi v86 c1_i32_55
  let v89 : BitVec 32 := Scalar.muli v88 c1_i32_55
  let v90 : BitVec 32 := Scalar.addi c0_i32_54 v89
  let c1_i32_57 : BitVec 32 := 1#32
  let arg18 : BitVec 32 := Scf.iv v90 c1_i32_57 k1_t8
  let c1_i32_58 : BitVec 32 := 1#32
  let v91 : BitVec 32 := Scalar.andi arg18 c1_i32_58
  let v183 : Index := Scalar.indexCast v91
  let c2_i32_84 : BitVec 32 := 2#32
  let c0_i32_79 : BitVec 32 := 0#32
  let c1_i32_81 : BitVec 32 := 1#32
  let arg19 : BitVec 32 := Scf.iv c0_i32_79 c1_i32_81 k1_t9
  let v136 : BitVec 32 := Scalar.muli c2_i32_84 arg19
  let c1_i32_85 : BitVec 32 := 1#32
  let v137 : BitVec 32 := Scalar.addi v136 c1_i32_85
  let v184 : Index := Scalar.indexCast v137
  let c32_93 : Index := 32#32
  ![v183.toNat, v184.toNat, 32]

def k1_chk49 (v176 : IVec S16 32) : Prop :=
  (∀ a x, ((![v176] : Fin 1 → IVec S16 32) a x).toNat < S40960.size a) ∧
  (∀ a x, ((![v176] : Fin 1 → IVec S16 32) a x).toNat < S40960.size a)
theorem k1_idx89_inb : ∀ (v176 : IVec S16 32) (k1_hw49 : k1_chk49 v176), ∀ a x, ((![v176] : Fin 1 → IVec S16 32) a x).toNat < S40960.size a := fun v176 k1_hw49 => k1_hw49.1
theorem k1_idx90_inb : ∀ (v176 : IVec S16 32) (k1_hw49 : k1_chk49 v176), ∀ a x, ((![v176] : Fin 1 → IVec S16 32) a x).toNat < S40960.size a := fun v176 k1_hw49 => k1_hw49.2
def k1_off55 (v63 : BitVec 32) (k1_t8 : Fin (k1_t8_loop v63).trips) (k1_t9 : Fin (k1_t9_loop v63 k1_t8).trips) : Fin 3 → Nat :=
  let c0_i32_54 : BitVec 32 := 0#32
  let c16_i32_42 : BitVec 32 := 16#32
  let v64 : BitVec 32 := Scalar.addi v63 c16_i32_42
  let c1_i32_43 : BitVec 32 := 1#32
  let v65 : BitVec 32 := Scalar.subi v64 c1_i32_43
  let c0_i32_45 : BitVec 32 := 0#32
  let v67 : BitVec 1 := Scalar.cmpi .sgt v65 c0_i32_45
  let v68 : BitVec 32 := Scalar.extui v67
  let c0_i32_46 : BitVec 32 := 0#32
  let v69 : BitVec 1 := Scalar.cmpi .slt v65 c0_i32_46
  let v70 : BitVec 32 := Scalar.extui v69
  let v71 : BitVec 32 := Scalar.subi v68 v70
  let c16_i32_44 : BitVec 32 := 16#32
  let c0_i32_47 : BitVec 32 := 0#32
  let v72 : BitVec 1 := Scalar.cmpi .sgt c16_i32_44 c0_i32_47
  let v73 : BitVec 32 := Scalar.extui v72
  let c0_i32_48 : BitVec 32 := 0#32
  let v74 : BitVec 1 := Scalar.cmpi .slt c16_i32_44 c0_i32_48
  let v75 : BitVec 32 := Scalar.extui v74
  let v76 : BitVec 32 := Scalar.subi v73 v75
  let v77 : BitVec 1 := Scalar.cmpi .ne v71 v76
  let v78 : BitVec 32 := Scalar.remsi v65 c16_i32_44
  let c0_i32_49 : BitVec 32 := 0#32
  let v79 : BitVec 1 := Scalar.cmpi .ne v78 c0_i32_49
  let v80 : BitVec 1 := Scalar.andi v77 v79
  let v66 : BitVec 32 := Scalar.divsi v65 c16_i32_44
  let c1_i32_50 : BitVec 32 := 1#32
  let v81 : BitVec 32 := Scalar.subi v66 c1_i32_50
  let v82 : BitVec 32 := Scalar.select v80 v81 v66
  let v86 : BitVec 32 := Scalar.subi v82 c0_i32_54
  let c1_i32_55 : BitVec 32 := 1#32
  let v88 : BitVec 32 := Scalar.divsi v86 c1_i32_55
  let v89 : BitVec 32 := Scalar.muli v88 c1_i32_55
  let v90 : BitVec 32 := Scalar.addi c0_i32_54 v89
  let c1_i32_57 : BitVec 32 := 1#32
  let arg18 : BitVec 32 := Scf.iv v90 c1_i32_57 k1_t8
  let c1_i32_58 : BitVec 32 := 1#32
  let v91 : BitVec 32 := Scalar.andi arg18 c1_i32_58
  let v190 : Index := Scalar.indexCast v91
  let c2_i32_83 : BitVec 32 := 2#32
  let c0_i32_79 : BitVec 32 := 0#32
  let c1_i32_81 : BitVec 32 := 1#32
  let arg19 : BitVec 32 := Scf.iv c0_i32_79 c1_i32_81 k1_t9
  let v135 : BitVec 32 := Scalar.muli c2_i32_83 arg19
  let v191 : Index := Scalar.indexCast v135
  let c48 : Index := 48#32
  ![v190.toNat, v191.toNat, 48]

def k1_chk50 (v187 : IVec S16 32) : Prop :=
  (∀ a x, ((![v187] : Fin 1 → IVec S16 32) a x).toNat < S40960.size a) ∧
  (∀ a x, ((![v187] : Fin 1 → IVec S16 32) a x).toNat < S40960.size a)
theorem k1_idx91_inb : ∀ (v187 : IVec S16 32) (k1_hw50 : k1_chk50 v187), ∀ a x, ((![v187] : Fin 1 → IVec S16 32) a x).toNat < S40960.size a := fun v187 k1_hw50 => k1_hw50.1
theorem k1_idx92_inb : ∀ (v187 : IVec S16 32) (k1_hw50 : k1_chk50 v187), ∀ a x, ((![v187] : Fin 1 → IVec S16 32) a x).toNat < S40960.size a := fun v187 k1_hw50 => k1_hw50.2
def k1_off56 (v63 : BitVec 32) (k1_t8 : Fin (k1_t8_loop v63).trips) (k1_t9 : Fin (k1_t9_loop v63 k1_t8).trips) : Fin 3 → Nat :=
  let c0_i32_54 : BitVec 32 := 0#32
  let c16_i32_42 : BitVec 32 := 16#32
  let v64 : BitVec 32 := Scalar.addi v63 c16_i32_42
  let c1_i32_43 : BitVec 32 := 1#32
  let v65 : BitVec 32 := Scalar.subi v64 c1_i32_43
  let c0_i32_45 : BitVec 32 := 0#32
  let v67 : BitVec 1 := Scalar.cmpi .sgt v65 c0_i32_45
  let v68 : BitVec 32 := Scalar.extui v67
  let c0_i32_46 : BitVec 32 := 0#32
  let v69 : BitVec 1 := Scalar.cmpi .slt v65 c0_i32_46
  let v70 : BitVec 32 := Scalar.extui v69
  let v71 : BitVec 32 := Scalar.subi v68 v70
  let c16_i32_44 : BitVec 32 := 16#32
  let c0_i32_47 : BitVec 32 := 0#32
  let v72 : BitVec 1 := Scalar.cmpi .sgt c16_i32_44 c0_i32_47
  let v73 : BitVec 32 := Scalar.extui v72
  let c0_i32_48 : BitVec 32 := 0#32
  let v74 : BitVec 1 := Scalar.cmpi .slt c16_i32_44 c0_i32_48
  let v75 : BitVec 32 := Scalar.extui v74
  let v76 : BitVec 32 := Scalar.subi v73 v75
  let v77 : BitVec 1 := Scalar.cmpi .ne v71 v76
  let v78 : BitVec 32 := Scalar.remsi v65 c16_i32_44
  let c0_i32_49 : BitVec 32 := 0#32
  let v79 : BitVec 1 := Scalar.cmpi .ne v78 c0_i32_49
  let v80 : BitVec 1 := Scalar.andi v77 v79
  let v66 : BitVec 32 := Scalar.divsi v65 c16_i32_44
  let c1_i32_50 : BitVec 32 := 1#32
  let v81 : BitVec 32 := Scalar.subi v66 c1_i32_50
  let v82 : BitVec 32 := Scalar.select v80 v81 v66
  let v86 : BitVec 32 := Scalar.subi v82 c0_i32_54
  let c1_i32_55 : BitVec 32 := 1#32
  let v88 : BitVec 32 := Scalar.divsi v86 c1_i32_55
  let v89 : BitVec 32 := Scalar.muli v88 c1_i32_55
  let v90 : BitVec 32 := Scalar.addi c0_i32_54 v89
  let c1_i32_57 : BitVec 32 := 1#32
  let arg18 : BitVec 32 := Scf.iv v90 c1_i32_57 k1_t8
  let c1_i32_58 : BitVec 32 := 1#32
  let v91 : BitVec 32 := Scalar.andi arg18 c1_i32_58
  let v195 : Index := Scalar.indexCast v91
  let c2_i32_84 : BitVec 32 := 2#32
  let c0_i32_79 : BitVec 32 := 0#32
  let c1_i32_81 : BitVec 32 := 1#32
  let arg19 : BitVec 32 := Scf.iv c0_i32_79 c1_i32_81 k1_t9
  let v136 : BitVec 32 := Scalar.muli c2_i32_84 arg19
  let c1_i32_85 : BitVec 32 := 1#32
  let v137 : BitVec 32 := Scalar.addi v136 c1_i32_85
  let v196 : Index := Scalar.indexCast v137
  let c48_94 : Index := 48#32
  ![v195.toNat, v196.toNat, 48]

def k1_chk51 (v188 : IVec S16 32) : Prop :=
  (∀ a x, ((![v188] : Fin 1 → IVec S16 32) a x).toNat < S40960.size a) ∧
  (∀ a x, ((![v188] : Fin 1 → IVec S16 32) a x).toNat < S40960.size a)
theorem k1_idx93_inb : ∀ (v188 : IVec S16 32) (k1_hw51 : k1_chk51 v188), ∀ a x, ((![v188] : Fin 1 → IVec S16 32) a x).toNat < S40960.size a := fun v188 k1_hw51 => k1_hw51.1
theorem k1_idx94_inb : ∀ (v188 : IVec S16 32) (k1_hw51 : k1_chk51 v188), ∀ a x, ((![v188] : Fin 1 → IVec S16 32) a x).toNat < S40960.size a := fun v188 k1_hw51 => k1_hw51.2
def k1_off57 (v63 : BitVec 32) (k1_t8 : Fin (k1_t8_loop v63).trips) (k1_t9 : Fin (k1_t9_loop v63 k1_t8).trips) : Fin 3 → Nat :=
  let c0_i32_54 : BitVec 32 := 0#32
  let c16_i32_42 : BitVec 32 := 16#32
  let v64 : BitVec 32 := Scalar.addi v63 c16_i32_42
  let c1_i32_43 : BitVec 32 := 1#32
  let v65 : BitVec 32 := Scalar.subi v64 c1_i32_43
  let c0_i32_45 : BitVec 32 := 0#32
  let v67 : BitVec 1 := Scalar.cmpi .sgt v65 c0_i32_45
  let v68 : BitVec 32 := Scalar.extui v67
  let c0_i32_46 : BitVec 32 := 0#32
  let v69 : BitVec 1 := Scalar.cmpi .slt v65 c0_i32_46
  let v70 : BitVec 32 := Scalar.extui v69
  let v71 : BitVec 32 := Scalar.subi v68 v70
  let c16_i32_44 : BitVec 32 := 16#32
  let c0_i32_47 : BitVec 32 := 0#32
  let v72 : BitVec 1 := Scalar.cmpi .sgt c16_i32_44 c0_i32_47
  let v73 : BitVec 32 := Scalar.extui v72
  let c0_i32_48 : BitVec 32 := 0#32
  let v74 : BitVec 1 := Scalar.cmpi .slt c16_i32_44 c0_i32_48
  let v75 : BitVec 32 := Scalar.extui v74
  let v76 : BitVec 32 := Scalar.subi v73 v75
  let v77 : BitVec 1 := Scalar.cmpi .ne v71 v76
  let v78 : BitVec 32 := Scalar.remsi v65 c16_i32_44
  let c0_i32_49 : BitVec 32 := 0#32
  let v79 : BitVec 1 := Scalar.cmpi .ne v78 c0_i32_49
  let v80 : BitVec 1 := Scalar.andi v77 v79
  let v66 : BitVec 32 := Scalar.divsi v65 c16_i32_44
  let c1_i32_50 : BitVec 32 := 1#32
  let v81 : BitVec 32 := Scalar.subi v66 c1_i32_50
  let v82 : BitVec 32 := Scalar.select v80 v81 v66
  let v86 : BitVec 32 := Scalar.subi v82 c0_i32_54
  let c1_i32_55 : BitVec 32 := 1#32
  let v88 : BitVec 32 := Scalar.divsi v86 c1_i32_55
  let v89 : BitVec 32 := Scalar.muli v88 c1_i32_55
  let v90 : BitVec 32 := Scalar.addi c0_i32_54 v89
  let c1_i32_57 : BitVec 32 := 1#32
  let arg18 : BitVec 32 := Scf.iv v90 c1_i32_57 k1_t8
  let c1_i32_58 : BitVec 32 := 1#32
  let v91 : BitVec 32 := Scalar.andi arg18 c1_i32_58
  let v202 : Index := Scalar.indexCast v91
  let c2_i32_83 : BitVec 32 := 2#32
  let c0_i32_79 : BitVec 32 := 0#32
  let c1_i32_81 : BitVec 32 := 1#32
  let arg19 : BitVec 32 := Scf.iv c0_i32_79 c1_i32_81 k1_t9
  let v135 : BitVec 32 := Scalar.muli c2_i32_83 arg19
  let v203 : Index := Scalar.indexCast v135
  let c64 : Index := 64#32
  ![v202.toNat, v203.toNat, 64]

def k1_chk52 (v199 : IVec S16 32) : Prop :=
  (∀ a x, ((![v199] : Fin 1 → IVec S16 32) a x).toNat < S40960.size a) ∧
  (∀ a x, ((![v199] : Fin 1 → IVec S16 32) a x).toNat < S40960.size a)
theorem k1_idx95_inb : ∀ (v199 : IVec S16 32) (k1_hw52 : k1_chk52 v199), ∀ a x, ((![v199] : Fin 1 → IVec S16 32) a x).toNat < S40960.size a := fun v199 k1_hw52 => k1_hw52.1
theorem k1_idx96_inb : ∀ (v199 : IVec S16 32) (k1_hw52 : k1_chk52 v199), ∀ a x, ((![v199] : Fin 1 → IVec S16 32) a x).toNat < S40960.size a := fun v199 k1_hw52 => k1_hw52.2
def k1_off58 (v63 : BitVec 32) (k1_t8 : Fin (k1_t8_loop v63).trips) (k1_t9 : Fin (k1_t9_loop v63 k1_t8).trips) : Fin 3 → Nat :=
  let c0_i32_54 : BitVec 32 := 0#32
  let c16_i32_42 : BitVec 32 := 16#32
  let v64 : BitVec 32 := Scalar.addi v63 c16_i32_42
  let c1_i32_43 : BitVec 32 := 1#32
  let v65 : BitVec 32 := Scalar.subi v64 c1_i32_43
  let c0_i32_45 : BitVec 32 := 0#32
  let v67 : BitVec 1 := Scalar.cmpi .sgt v65 c0_i32_45
  let v68 : BitVec 32 := Scalar.extui v67
  let c0_i32_46 : BitVec 32 := 0#32
  let v69 : BitVec 1 := Scalar.cmpi .slt v65 c0_i32_46
  let v70 : BitVec 32 := Scalar.extui v69
  let v71 : BitVec 32 := Scalar.subi v68 v70
  let c16_i32_44 : BitVec 32 := 16#32
  let c0_i32_47 : BitVec 32 := 0#32
  let v72 : BitVec 1 := Scalar.cmpi .sgt c16_i32_44 c0_i32_47
  let v73 : BitVec 32 := Scalar.extui v72
  let c0_i32_48 : BitVec 32 := 0#32
  let v74 : BitVec 1 := Scalar.cmpi .slt c16_i32_44 c0_i32_48
  let v75 : BitVec 32 := Scalar.extui v74
  let v76 : BitVec 32 := Scalar.subi v73 v75
  let v77 : BitVec 1 := Scalar.cmpi .ne v71 v76
  let v78 : BitVec 32 := Scalar.remsi v65 c16_i32_44
  let c0_i32_49 : BitVec 32 := 0#32
  let v79 : BitVec 1 := Scalar.cmpi .ne v78 c0_i32_49
  let v80 : BitVec 1 := Scalar.andi v77 v79
  let v66 : BitVec 32 := Scalar.divsi v65 c16_i32_44
  let c1_i32_50 : BitVec 32 := 1#32
  let v81 : BitVec 32 := Scalar.subi v66 c1_i32_50
  let v82 : BitVec 32 := Scalar.select v80 v81 v66
  let v86 : BitVec 32 := Scalar.subi v82 c0_i32_54
  let c1_i32_55 : BitVec 32 := 1#32
  let v88 : BitVec 32 := Scalar.divsi v86 c1_i32_55
  let v89 : BitVec 32 := Scalar.muli v88 c1_i32_55
  let v90 : BitVec 32 := Scalar.addi c0_i32_54 v89
  let c1_i32_57 : BitVec 32 := 1#32
  let arg18 : BitVec 32 := Scf.iv v90 c1_i32_57 k1_t8
  let c1_i32_58 : BitVec 32 := 1#32
  let v91 : BitVec 32 := Scalar.andi arg18 c1_i32_58
  let v207 : Index := Scalar.indexCast v91
  let c2_i32_84 : BitVec 32 := 2#32
  let c0_i32_79 : BitVec 32 := 0#32
  let c1_i32_81 : BitVec 32 := 1#32
  let arg19 : BitVec 32 := Scf.iv c0_i32_79 c1_i32_81 k1_t9
  let v136 : BitVec 32 := Scalar.muli c2_i32_84 arg19
  let c1_i32_85 : BitVec 32 := 1#32
  let v137 : BitVec 32 := Scalar.addi v136 c1_i32_85
  let v208 : Index := Scalar.indexCast v137
  let c64_95 : Index := 64#32
  ![v207.toNat, v208.toNat, 64]

def k1_chk53 (v200 : IVec S16 32) : Prop :=
  (∀ a x, ((![v200] : Fin 1 → IVec S16 32) a x).toNat < S40960.size a) ∧
  (∀ a x, ((![v200] : Fin 1 → IVec S16 32) a x).toNat < S40960.size a)
theorem k1_idx97_inb : ∀ (v200 : IVec S16 32) (k1_hw53 : k1_chk53 v200), ∀ a x, ((![v200] : Fin 1 → IVec S16 32) a x).toNat < S40960.size a := fun v200 k1_hw53 => k1_hw53.1
theorem k1_idx98_inb : ∀ (v200 : IVec S16 32) (k1_hw53 : k1_chk53 v200), ∀ a x, ((![v200] : Fin 1 → IVec S16 32) a x).toNat < S40960.size a := fun v200 k1_hw53 => k1_hw53.2
def k1_off59 (v63 : BitVec 32) (k1_t8 : Fin (k1_t8_loop v63).trips) (k1_t9 : Fin (k1_t9_loop v63 k1_t8).trips) : Fin 3 → Nat :=
  let c0_i32_54 : BitVec 32 := 0#32
  let c16_i32_42 : BitVec 32 := 16#32
  let v64 : BitVec 32 := Scalar.addi v63 c16_i32_42
  let c1_i32_43 : BitVec 32 := 1#32
  let v65 : BitVec 32 := Scalar.subi v64 c1_i32_43
  let c0_i32_45 : BitVec 32 := 0#32
  let v67 : BitVec 1 := Scalar.cmpi .sgt v65 c0_i32_45
  let v68 : BitVec 32 := Scalar.extui v67
  let c0_i32_46 : BitVec 32 := 0#32
  let v69 : BitVec 1 := Scalar.cmpi .slt v65 c0_i32_46
  let v70 : BitVec 32 := Scalar.extui v69
  let v71 : BitVec 32 := Scalar.subi v68 v70
  let c16_i32_44 : BitVec 32 := 16#32
  let c0_i32_47 : BitVec 32 := 0#32
  let v72 : BitVec 1 := Scalar.cmpi .sgt c16_i32_44 c0_i32_47
  let v73 : BitVec 32 := Scalar.extui v72
  let c0_i32_48 : BitVec 32 := 0#32
  let v74 : BitVec 1 := Scalar.cmpi .slt c16_i32_44 c0_i32_48
  let v75 : BitVec 32 := Scalar.extui v74
  let v76 : BitVec 32 := Scalar.subi v73 v75
  let v77 : BitVec 1 := Scalar.cmpi .ne v71 v76
  let v78 : BitVec 32 := Scalar.remsi v65 c16_i32_44
  let c0_i32_49 : BitVec 32 := 0#32
  let v79 : BitVec 1 := Scalar.cmpi .ne v78 c0_i32_49
  let v80 : BitVec 1 := Scalar.andi v77 v79
  let v66 : BitVec 32 := Scalar.divsi v65 c16_i32_44
  let c1_i32_50 : BitVec 32 := 1#32
  let v81 : BitVec 32 := Scalar.subi v66 c1_i32_50
  let v82 : BitVec 32 := Scalar.select v80 v81 v66
  let v86 : BitVec 32 := Scalar.subi v82 c0_i32_54
  let c1_i32_55 : BitVec 32 := 1#32
  let v88 : BitVec 32 := Scalar.divsi v86 c1_i32_55
  let v89 : BitVec 32 := Scalar.muli v88 c1_i32_55
  let v90 : BitVec 32 := Scalar.addi c0_i32_54 v89
  let c1_i32_57 : BitVec 32 := 1#32
  let arg18 : BitVec 32 := Scf.iv v90 c1_i32_57 k1_t8
  let c1_i32_58 : BitVec 32 := 1#32
  let v91 : BitVec 32 := Scalar.andi arg18 c1_i32_58
  let v214 : Index := Scalar.indexCast v91
  let c2_i32_83 : BitVec 32 := 2#32
  let c0_i32_79 : BitVec 32 := 0#32
  let c1_i32_81 : BitVec 32 := 1#32
  let arg19 : BitVec 32 := Scf.iv c0_i32_79 c1_i32_81 k1_t9
  let v135 : BitVec 32 := Scalar.muli c2_i32_83 arg19
  let v215 : Index := Scalar.indexCast v135
  let c80 : Index := 80#32
  ![v214.toNat, v215.toNat, 80]

def k1_chk54 (v211 : IVec S16 32) : Prop :=
  (∀ a x, ((![v211] : Fin 1 → IVec S16 32) a x).toNat < S40960.size a) ∧
  (∀ a x, ((![v211] : Fin 1 → IVec S16 32) a x).toNat < S40960.size a)
theorem k1_idx99_inb : ∀ (v211 : IVec S16 32) (k1_hw54 : k1_chk54 v211), ∀ a x, ((![v211] : Fin 1 → IVec S16 32) a x).toNat < S40960.size a := fun v211 k1_hw54 => k1_hw54.1
theorem k1_idx100_inb : ∀ (v211 : IVec S16 32) (k1_hw54 : k1_chk54 v211), ∀ a x, ((![v211] : Fin 1 → IVec S16 32) a x).toNat < S40960.size a := fun v211 k1_hw54 => k1_hw54.2
def k1_off60 (v63 : BitVec 32) (k1_t8 : Fin (k1_t8_loop v63).trips) (k1_t9 : Fin (k1_t9_loop v63 k1_t8).trips) : Fin 3 → Nat :=
  let c0_i32_54 : BitVec 32 := 0#32
  let c16_i32_42 : BitVec 32 := 16#32
  let v64 : BitVec 32 := Scalar.addi v63 c16_i32_42
  let c1_i32_43 : BitVec 32 := 1#32
  let v65 : BitVec 32 := Scalar.subi v64 c1_i32_43
  let c0_i32_45 : BitVec 32 := 0#32
  let v67 : BitVec 1 := Scalar.cmpi .sgt v65 c0_i32_45
  let v68 : BitVec 32 := Scalar.extui v67
  let c0_i32_46 : BitVec 32 := 0#32
  let v69 : BitVec 1 := Scalar.cmpi .slt v65 c0_i32_46
  let v70 : BitVec 32 := Scalar.extui v69
  let v71 : BitVec 32 := Scalar.subi v68 v70
  let c16_i32_44 : BitVec 32 := 16#32
  let c0_i32_47 : BitVec 32 := 0#32
  let v72 : BitVec 1 := Scalar.cmpi .sgt c16_i32_44 c0_i32_47
  let v73 : BitVec 32 := Scalar.extui v72
  let c0_i32_48 : BitVec 32 := 0#32
  let v74 : BitVec 1 := Scalar.cmpi .slt c16_i32_44 c0_i32_48
  let v75 : BitVec 32 := Scalar.extui v74
  let v76 : BitVec 32 := Scalar.subi v73 v75
  let v77 : BitVec 1 := Scalar.cmpi .ne v71 v76
  let v78 : BitVec 32 := Scalar.remsi v65 c16_i32_44
  let c0_i32_49 : BitVec 32 := 0#32
  let v79 : BitVec 1 := Scalar.cmpi .ne v78 c0_i32_49
  let v80 : BitVec 1 := Scalar.andi v77 v79
  let v66 : BitVec 32 := Scalar.divsi v65 c16_i32_44
  let c1_i32_50 : BitVec 32 := 1#32
  let v81 : BitVec 32 := Scalar.subi v66 c1_i32_50
  let v82 : BitVec 32 := Scalar.select v80 v81 v66
  let v86 : BitVec 32 := Scalar.subi v82 c0_i32_54
  let c1_i32_55 : BitVec 32 := 1#32
  let v88 : BitVec 32 := Scalar.divsi v86 c1_i32_55
  let v89 : BitVec 32 := Scalar.muli v88 c1_i32_55
  let v90 : BitVec 32 := Scalar.addi c0_i32_54 v89
  let c1_i32_57 : BitVec 32 := 1#32
  let arg18 : BitVec 32 := Scf.iv v90 c1_i32_57 k1_t8
  let c1_i32_58 : BitVec 32 := 1#32
  let v91 : BitVec 32 := Scalar.andi arg18 c1_i32_58
  let v219 : Index := Scalar.indexCast v91
  let c2_i32_84 : BitVec 32 := 2#32
  let c0_i32_79 : BitVec 32 := 0#32
  let c1_i32_81 : BitVec 32 := 1#32
  let arg19 : BitVec 32 := Scf.iv c0_i32_79 c1_i32_81 k1_t9
  let v136 : BitVec 32 := Scalar.muli c2_i32_84 arg19
  let c1_i32_85 : BitVec 32 := 1#32
  let v137 : BitVec 32 := Scalar.addi v136 c1_i32_85
  let v220 : Index := Scalar.indexCast v137
  let c80_96 : Index := 80#32
  ![v219.toNat, v220.toNat, 80]

def k1_chk55 (v212 : IVec S16 32) : Prop :=
  (∀ a x, ((![v212] : Fin 1 → IVec S16 32) a x).toNat < S40960.size a) ∧
  (∀ a x, ((![v212] : Fin 1 → IVec S16 32) a x).toNat < S40960.size a)
theorem k1_idx101_inb : ∀ (v212 : IVec S16 32) (k1_hw55 : k1_chk55 v212), ∀ a x, ((![v212] : Fin 1 → IVec S16 32) a x).toNat < S40960.size a := fun v212 k1_hw55 => k1_hw55.1
theorem k1_idx102_inb : ∀ (v212 : IVec S16 32) (k1_hw55 : k1_chk55 v212), ∀ a x, ((![v212] : Fin 1 → IVec S16 32) a x).toNat < S40960.size a := fun v212 k1_hw55 => k1_hw55.2
def k1_off61 (v63 : BitVec 32) (k1_t8 : Fin (k1_t8_loop v63).trips) (k1_t9 : Fin (k1_t9_loop v63 k1_t8).trips) : Fin 3 → Nat :=
  let c0_i32_54 : BitVec 32 := 0#32
  let c16_i32_42 : BitVec 32 := 16#32
  let v64 : BitVec 32 := Scalar.addi v63 c16_i32_42
  let c1_i32_43 : BitVec 32 := 1#32
  let v65 : BitVec 32 := Scalar.subi v64 c1_i32_43
  let c0_i32_45 : BitVec 32 := 0#32
  let v67 : BitVec 1 := Scalar.cmpi .sgt v65 c0_i32_45
  let v68 : BitVec 32 := Scalar.extui v67
  let c0_i32_46 : BitVec 32 := 0#32
  let v69 : BitVec 1 := Scalar.cmpi .slt v65 c0_i32_46
  let v70 : BitVec 32 := Scalar.extui v69
  let v71 : BitVec 32 := Scalar.subi v68 v70
  let c16_i32_44 : BitVec 32 := 16#32
  let c0_i32_47 : BitVec 32 := 0#32
  let v72 : BitVec 1 := Scalar.cmpi .sgt c16_i32_44 c0_i32_47
  let v73 : BitVec 32 := Scalar.extui v72
  let c0_i32_48 : BitVec 32 := 0#32
  let v74 : BitVec 1 := Scalar.cmpi .slt c16_i32_44 c0_i32_48
  let v75 : BitVec 32 := Scalar.extui v74
  let v76 : BitVec 32 := Scalar.subi v73 v75
  let v77 : BitVec 1 := Scalar.cmpi .ne v71 v76
  let v78 : BitVec 32 := Scalar.remsi v65 c16_i32_44
  let c0_i32_49 : BitVec 32 := 0#32
  let v79 : BitVec 1 := Scalar.cmpi .ne v78 c0_i32_49
  let v80 : BitVec 1 := Scalar.andi v77 v79
  let v66 : BitVec 32 := Scalar.divsi v65 c16_i32_44
  let c1_i32_50 : BitVec 32 := 1#32
  let v81 : BitVec 32 := Scalar.subi v66 c1_i32_50
  let v82 : BitVec 32 := Scalar.select v80 v81 v66
  let v86 : BitVec 32 := Scalar.subi v82 c0_i32_54
  let c1_i32_55 : BitVec 32 := 1#32
  let v88 : BitVec 32 := Scalar.divsi v86 c1_i32_55
  let v89 : BitVec 32 := Scalar.muli v88 c1_i32_55
  let v90 : BitVec 32 := Scalar.addi c0_i32_54 v89
  let c1_i32_57 : BitVec 32 := 1#32
  let arg18 : BitVec 32 := Scf.iv v90 c1_i32_57 k1_t8
  let c1_i32_58 : BitVec 32 := 1#32
  let v91 : BitVec 32 := Scalar.andi arg18 c1_i32_58
  let v226 : Index := Scalar.indexCast v91
  let c2_i32_83 : BitVec 32 := 2#32
  let c0_i32_79 : BitVec 32 := 0#32
  let c1_i32_81 : BitVec 32 := 1#32
  let arg19 : BitVec 32 := Scf.iv c0_i32_79 c1_i32_81 k1_t9
  let v135 : BitVec 32 := Scalar.muli c2_i32_83 arg19
  let v227 : Index := Scalar.indexCast v135
  let c96 : Index := 96#32
  ![v226.toNat, v227.toNat, 96]

def k1_chk56 (v223 : IVec S16 32) : Prop :=
  (∀ a x, ((![v223] : Fin 1 → IVec S16 32) a x).toNat < S40960.size a) ∧
  (∀ a x, ((![v223] : Fin 1 → IVec S16 32) a x).toNat < S40960.size a)
theorem k1_idx103_inb : ∀ (v223 : IVec S16 32) (k1_hw56 : k1_chk56 v223), ∀ a x, ((![v223] : Fin 1 → IVec S16 32) a x).toNat < S40960.size a := fun v223 k1_hw56 => k1_hw56.1
theorem k1_idx104_inb : ∀ (v223 : IVec S16 32) (k1_hw56 : k1_chk56 v223), ∀ a x, ((![v223] : Fin 1 → IVec S16 32) a x).toNat < S40960.size a := fun v223 k1_hw56 => k1_hw56.2
def k1_off62 (v63 : BitVec 32) (k1_t8 : Fin (k1_t8_loop v63).trips) (k1_t9 : Fin (k1_t9_loop v63 k1_t8).trips) : Fin 3 → Nat :=
  let c0_i32_54 : BitVec 32 := 0#32
  let c16_i32_42 : BitVec 32 := 16#32
  let v64 : BitVec 32 := Scalar.addi v63 c16_i32_42
  let c1_i32_43 : BitVec 32 := 1#32
  let v65 : BitVec 32 := Scalar.subi v64 c1_i32_43
  let c0_i32_45 : BitVec 32 := 0#32
  let v67 : BitVec 1 := Scalar.cmpi .sgt v65 c0_i32_45
  let v68 : BitVec 32 := Scalar.extui v67
  let c0_i32_46 : BitVec 32 := 0#32
  let v69 : BitVec 1 := Scalar.cmpi .slt v65 c0_i32_46
  let v70 : BitVec 32 := Scalar.extui v69
  let v71 : BitVec 32 := Scalar.subi v68 v70
  let c16_i32_44 : BitVec 32 := 16#32
  let c0_i32_47 : BitVec 32 := 0#32
  let v72 : BitVec 1 := Scalar.cmpi .sgt c16_i32_44 c0_i32_47
  let v73 : BitVec 32 := Scalar.extui v72
  let c0_i32_48 : BitVec 32 := 0#32
  let v74 : BitVec 1 := Scalar.cmpi .slt c16_i32_44 c0_i32_48
  let v75 : BitVec 32 := Scalar.extui v74
  let v76 : BitVec 32 := Scalar.subi v73 v75
  let v77 : BitVec 1 := Scalar.cmpi .ne v71 v76
  let v78 : BitVec 32 := Scalar.remsi v65 c16_i32_44
  let c0_i32_49 : BitVec 32 := 0#32
  let v79 : BitVec 1 := Scalar.cmpi .ne v78 c0_i32_49
  let v80 : BitVec 1 := Scalar.andi v77 v79
  let v66 : BitVec 32 := Scalar.divsi v65 c16_i32_44
  let c1_i32_50 : BitVec 32 := 1#32
  let v81 : BitVec 32 := Scalar.subi v66 c1_i32_50
  let v82 : BitVec 32 := Scalar.select v80 v81 v66
  let v86 : BitVec 32 := Scalar.subi v82 c0_i32_54
  let c1_i32_55 : BitVec 32 := 1#32
  let v88 : BitVec 32 := Scalar.divsi v86 c1_i32_55
  let v89 : BitVec 32 := Scalar.muli v88 c1_i32_55
  let v90 : BitVec 32 := Scalar.addi c0_i32_54 v89
  let c1_i32_57 : BitVec 32 := 1#32
  let arg18 : BitVec 32 := Scf.iv v90 c1_i32_57 k1_t8
  let c1_i32_58 : BitVec 32 := 1#32
  let v91 : BitVec 32 := Scalar.andi arg18 c1_i32_58
  let v231 : Index := Scalar.indexCast v91
  let c2_i32_84 : BitVec 32 := 2#32
  let c0_i32_79 : BitVec 32 := 0#32
  let c1_i32_81 : BitVec 32 := 1#32
  let arg19 : BitVec 32 := Scf.iv c0_i32_79 c1_i32_81 k1_t9
  let v136 : BitVec 32 := Scalar.muli c2_i32_84 arg19
  let c1_i32_85 : BitVec 32 := 1#32
  let v137 : BitVec 32 := Scalar.addi v136 c1_i32_85
  let v232 : Index := Scalar.indexCast v137
  let c96_97 : Index := 96#32
  ![v231.toNat, v232.toNat, 96]

def k1_chk57 (v224 : IVec S16 32) : Prop :=
  (∀ a x, ((![v224] : Fin 1 → IVec S16 32) a x).toNat < S40960.size a) ∧
  (∀ a x, ((![v224] : Fin 1 → IVec S16 32) a x).toNat < S40960.size a)
theorem k1_idx105_inb : ∀ (v224 : IVec S16 32) (k1_hw57 : k1_chk57 v224), ∀ a x, ((![v224] : Fin 1 → IVec S16 32) a x).toNat < S40960.size a := fun v224 k1_hw57 => k1_hw57.1
theorem k1_idx106_inb : ∀ (v224 : IVec S16 32) (k1_hw57 : k1_chk57 v224), ∀ a x, ((![v224] : Fin 1 → IVec S16 32) a x).toNat < S40960.size a := fun v224 k1_hw57 => k1_hw57.2
def k1_off63 (v63 : BitVec 32) (k1_t8 : Fin (k1_t8_loop v63).trips) (k1_t9 : Fin (k1_t9_loop v63 k1_t8).trips) : Fin 3 → Nat :=
  let c0_i32_54 : BitVec 32 := 0#32
  let c16_i32_42 : BitVec 32 := 16#32
  let v64 : BitVec 32 := Scalar.addi v63 c16_i32_42
  let c1_i32_43 : BitVec 32 := 1#32
  let v65 : BitVec 32 := Scalar.subi v64 c1_i32_43
  let c0_i32_45 : BitVec 32 := 0#32
  let v67 : BitVec 1 := Scalar.cmpi .sgt v65 c0_i32_45
  let v68 : BitVec 32 := Scalar.extui v67
  let c0_i32_46 : BitVec 32 := 0#32
  let v69 : BitVec 1 := Scalar.cmpi .slt v65 c0_i32_46
  let v70 : BitVec 32 := Scalar.extui v69
  let v71 : BitVec 32 := Scalar.subi v68 v70
  let c16_i32_44 : BitVec 32 := 16#32
  let c0_i32_47 : BitVec 32 := 0#32
  let v72 : BitVec 1 := Scalar.cmpi .sgt c16_i32_44 c0_i32_47
  let v73 : BitVec 32 := Scalar.extui v72
  let c0_i32_48 : BitVec 32 := 0#32
  let v74 : BitVec 1 := Scalar.cmpi .slt c16_i32_44 c0_i32_48
  let v75 : BitVec 32 := Scalar.extui v74
  let v76 : BitVec 32 := Scalar.subi v73 v75
  let v77 : BitVec 1 := Scalar.cmpi .ne v71 v76
  let v78 : BitVec 32 := Scalar.remsi v65 c16_i32_44
  let c0_i32_49 : BitVec 32 := 0#32
  let v79 : BitVec 1 := Scalar.cmpi .ne v78 c0_i32_49
  let v80 : BitVec 1 := Scalar.andi v77 v79
  let v66 : BitVec 32 := Scalar.divsi v65 c16_i32_44
  let c1_i32_50 : BitVec 32 := 1#32
  let v81 : BitVec 32 := Scalar.subi v66 c1_i32_50
  let v82 : BitVec 32 := Scalar.select v80 v81 v66
  let v86 : BitVec 32 := Scalar.subi v82 c0_i32_54
  let c1_i32_55 : BitVec 32 := 1#32
  let v88 : BitVec 32 := Scalar.divsi v86 c1_i32_55
  let v89 : BitVec 32 := Scalar.muli v88 c1_i32_55
  let v90 : BitVec 32 := Scalar.addi c0_i32_54 v89
  let c1_i32_57 : BitVec 32 := 1#32
  let arg18 : BitVec 32 := Scf.iv v90 c1_i32_57 k1_t8
  let c1_i32_58 : BitVec 32 := 1#32
  let v91 : BitVec 32 := Scalar.andi arg18 c1_i32_58
  let v238 : Index := Scalar.indexCast v91
  let c2_i32_83 : BitVec 32 := 2#32
  let c0_i32_79 : BitVec 32 := 0#32
  let c1_i32_81 : BitVec 32 := 1#32
  let arg19 : BitVec 32 := Scf.iv c0_i32_79 c1_i32_81 k1_t9
  let v135 : BitVec 32 := Scalar.muli c2_i32_83 arg19
  let v239 : Index := Scalar.indexCast v135
  let c112 : Index := 112#32
  ![v238.toNat, v239.toNat, 112]

def k1_chk58 (v235 : IVec S16 32) : Prop :=
  (∀ a x, ((![v235] : Fin 1 → IVec S16 32) a x).toNat < S40960.size a) ∧
  (∀ a x, ((![v235] : Fin 1 → IVec S16 32) a x).toNat < S40960.size a)
theorem k1_idx107_inb : ∀ (v235 : IVec S16 32) (k1_hw58 : k1_chk58 v235), ∀ a x, ((![v235] : Fin 1 → IVec S16 32) a x).toNat < S40960.size a := fun v235 k1_hw58 => k1_hw58.1
theorem k1_idx108_inb : ∀ (v235 : IVec S16 32) (k1_hw58 : k1_chk58 v235), ∀ a x, ((![v235] : Fin 1 → IVec S16 32) a x).toNat < S40960.size a := fun v235 k1_hw58 => k1_hw58.2
def k1_off64 (v63 : BitVec 32) (k1_t8 : Fin (k1_t8_loop v63).trips) (k1_t9 : Fin (k1_t9_loop v63 k1_t8).trips) : Fin 3 → Nat :=
  let c0_i32_54 : BitVec 32 := 0#32
  let c16_i32_42 : BitVec 32 := 16#32
  let v64 : BitVec 32 := Scalar.addi v63 c16_i32_42
  let c1_i32_43 : BitVec 32 := 1#32
  let v65 : BitVec 32 := Scalar.subi v64 c1_i32_43
  let c0_i32_45 : BitVec 32 := 0#32
  let v67 : BitVec 1 := Scalar.cmpi .sgt v65 c0_i32_45
  let v68 : BitVec 32 := Scalar.extui v67
  let c0_i32_46 : BitVec 32 := 0#32
  let v69 : BitVec 1 := Scalar.cmpi .slt v65 c0_i32_46
  let v70 : BitVec 32 := Scalar.extui v69
  let v71 : BitVec 32 := Scalar.subi v68 v70
  let c16_i32_44 : BitVec 32 := 16#32
  let c0_i32_47 : BitVec 32 := 0#32
  let v72 : BitVec 1 := Scalar.cmpi .sgt c16_i32_44 c0_i32_47
  let v73 : BitVec 32 := Scalar.extui v72
  let c0_i32_48 : BitVec 32 := 0#32
  let v74 : BitVec 1 := Scalar.cmpi .slt c16_i32_44 c0_i32_48
  let v75 : BitVec 32 := Scalar.extui v74
  let v76 : BitVec 32 := Scalar.subi v73 v75
  let v77 : BitVec 1 := Scalar.cmpi .ne v71 v76
  let v78 : BitVec 32 := Scalar.remsi v65 c16_i32_44
  let c0_i32_49 : BitVec 32 := 0#32
  let v79 : BitVec 1 := Scalar.cmpi .ne v78 c0_i32_49
  let v80 : BitVec 1 := Scalar.andi v77 v79
  let v66 : BitVec 32 := Scalar.divsi v65 c16_i32_44
  let c1_i32_50 : BitVec 32 := 1#32
  let v81 : BitVec 32 := Scalar.subi v66 c1_i32_50
  let v82 : BitVec 32 := Scalar.select v80 v81 v66
  let v86 : BitVec 32 := Scalar.subi v82 c0_i32_54
  let c1_i32_55 : BitVec 32 := 1#32
  let v88 : BitVec 32 := Scalar.divsi v86 c1_i32_55
  let v89 : BitVec 32 := Scalar.muli v88 c1_i32_55
  let v90 : BitVec 32 := Scalar.addi c0_i32_54 v89
  let c1_i32_57 : BitVec 32 := 1#32
  let arg18 : BitVec 32 := Scf.iv v90 c1_i32_57 k1_t8
  let c1_i32_58 : BitVec 32 := 1#32
  let v91 : BitVec 32 := Scalar.andi arg18 c1_i32_58
  let v243 : Index := Scalar.indexCast v91
  let c2_i32_84 : BitVec 32 := 2#32
  let c0_i32_79 : BitVec 32 := 0#32
  let c1_i32_81 : BitVec 32 := 1#32
  let arg19 : BitVec 32 := Scf.iv c0_i32_79 c1_i32_81 k1_t9
  let v136 : BitVec 32 := Scalar.muli c2_i32_84 arg19
  let c1_i32_85 : BitVec 32 := 1#32
  let v137 : BitVec 32 := Scalar.addi v136 c1_i32_85
  let v244 : Index := Scalar.indexCast v137
  let c112_98 : Index := 112#32
  ![v243.toNat, v244.toNat, 112]

def k1_chk59 (v236 : IVec S16 32) : Prop :=
  (∀ a x, ((![v236] : Fin 1 → IVec S16 32) a x).toNat < S40960.size a) ∧
  (∀ a x, ((![v236] : Fin 1 → IVec S16 32) a x).toNat < S40960.size a)
theorem k1_idx109_inb : ∀ (v236 : IVec S16 32) (k1_hw59 : k1_chk59 v236), ∀ a x, ((![v236] : Fin 1 → IVec S16 32) a x).toNat < S40960.size a := fun v236 k1_hw59 => k1_hw59.1
theorem k1_idx110_inb : ∀ (v236 : IVec S16 32) (k1_hw59 : k1_chk59 v236), ∀ a x, ((![v236] : Fin 1 → IVec S16 32) a x).toNat < S40960.size a := fun v236 k1_hw59 => k1_hw59.2
@[reducible] def k1_t10_loop (v63 : BitVec 32) (k1_t8 : Fin (k1_t8_loop v63).trips) : Scf.Loop 32 :=
  let c0_i32_79 : BitVec 32 := 0#32
  let c0_i32_54 : BitVec 32 := 0#32
  let c16_i32_42 : BitVec 32 := 16#32
  let v64 : BitVec 32 := Scalar.addi v63 c16_i32_42
  let c1_i32_43 : BitVec 32 := 1#32
  let v65 : BitVec 32 := Scalar.subi v64 c1_i32_43
  let c0_i32_45 : BitVec 32 := 0#32
  let v67 : BitVec 1 := Scalar.cmpi .sgt v65 c0_i32_45
  let v68 : BitVec 32 := Scalar.extui v67
  let c0_i32_46 : BitVec 32 := 0#32
  let v69 : BitVec 1 := Scalar.cmpi .slt v65 c0_i32_46
  let v70 : BitVec 32 := Scalar.extui v69
  let v71 : BitVec 32 := Scalar.subi v68 v70
  let c16_i32_44 : BitVec 32 := 16#32
  let c0_i32_47 : BitVec 32 := 0#32
  let v72 : BitVec 1 := Scalar.cmpi .sgt c16_i32_44 c0_i32_47
  let v73 : BitVec 32 := Scalar.extui v72
  let c0_i32_48 : BitVec 32 := 0#32
  let v74 : BitVec 1 := Scalar.cmpi .slt c16_i32_44 c0_i32_48
  let v75 : BitVec 32 := Scalar.extui v74
  let v76 : BitVec 32 := Scalar.subi v73 v75
  let v77 : BitVec 1 := Scalar.cmpi .ne v71 v76
  let v78 : BitVec 32 := Scalar.remsi v65 c16_i32_44
  let c0_i32_49 : BitVec 32 := 0#32
  let v79 : BitVec 1 := Scalar.cmpi .ne v78 c0_i32_49
  let v80 : BitVec 1 := Scalar.andi v77 v79
  let v66 : BitVec 32 := Scalar.divsi v65 c16_i32_44
  let c1_i32_50 : BitVec 32 := 1#32
  let v81 : BitVec 32 := Scalar.subi v66 c1_i32_50
  let v82 : BitVec 32 := Scalar.select v80 v81 v66
  let v86 : BitVec 32 := Scalar.subi v82 c0_i32_54
  let c1_i32_55 : BitVec 32 := 1#32
  let v88 : BitVec 32 := Scalar.divsi v86 c1_i32_55
  let v89 : BitVec 32 := Scalar.muli v88 c1_i32_55
  let v90 : BitVec 32 := Scalar.addi c0_i32_54 v89
  let c1_i32_57 : BitVec 32 := 1#32
  let arg18 : BitVec 32 := Scf.iv v90 c1_i32_57 k1_t8
  let c16_i32_68 : BitVec 32 := 16#32
  let v109 : BitVec 32 := Scalar.muli arg18 c16_i32_68
  let v110 : BitVec 32 := Scalar.subi v63 v109
  let c16_i32_69 : BitVec 32 := 16#32
  let v111 : BitVec 32 := Scalar.minsi v110 c16_i32_69
  let c1_i32_70 : BitVec 32 := 1#32
  let v112 : BitVec 32 := Scalar.addi v111 c1_i32_70
  let c0_i32_72 : BitVec 32 := 0#32
  let v114 : BitVec 1 := Scalar.cmpi .sgt v112 c0_i32_72
  let v115 : BitVec 32 := Scalar.extui v114
  let c0_i32_73 : BitVec 32 := 0#32
  let v116 : BitVec 1 := Scalar.cmpi .slt v112 c0_i32_73
  let v117 : BitVec 32 := Scalar.extui v116
  let v118 : BitVec 32 := Scalar.subi v115 v117
  let c2_i32_71 : BitVec 32 := 2#32
  let c0_i32_74 : BitVec 32 := 0#32
  let v119 : BitVec 1 := Scalar.cmpi .sgt c2_i32_71 c0_i32_74
  let v120 : BitVec 32 := Scalar.extui v119
  let c0_i32_75 : BitVec 32 := 0#32
  let v121 : BitVec 1 := Scalar.cmpi .slt c2_i32_71 c0_i32_75
  let v122 : BitVec 32 := Scalar.extui v121
  let v123 : BitVec 32 := Scalar.subi v120 v122
  let v124 : BitVec 1 := Scalar.cmpi .ne v118 v123
  let v125 : BitVec 32 := Scalar.remsi v112 c2_i32_71
  let c0_i32_76 : BitVec 32 := 0#32
  let v126 : BitVec 1 := Scalar.cmpi .ne v125 c0_i32_76
  let v127 : BitVec 1 := Scalar.andi v124 v126
  let v113 : BitVec 32 := Scalar.divsi v112 c2_i32_71
  let c1_i32_77 : BitVec 32 := 1#32
  let v128 : BitVec 32 := Scalar.subi v113 c1_i32_77
  let v129 : BitVec 32 := Scalar.select v127 v128 v113
  let v130 : BitVec 32 := Scalar.subi v129 c0_i32_79
  let c1_i32_80 : BitVec 32 := 1#32
  let v132 : BitVec 32 := Scalar.divsi v130 c1_i32_80
  let v133 : BitVec 32 := Scalar.muli v132 c1_i32_80
  let v134 : BitVec 32 := Scalar.addi c0_i32_79 v133
  let v131 : BitVec 32 := Scalar.addi c0_i32_79 v130
  let c1_i32_82 : BitVec 32 := 1#32
  ⟨v134, v131, c1_i32_82⟩

def k1_chk60 (v140 : IVec S16 32) : Prop :=
  (∀ a x, ((![v140] : Fin 1 → IVec S16 32) a x).toNat < S784.size a)
theorem k1_idx111_inb : ∀ (v140 : IVec S16 32) (k1_hw60 : k1_chk60 v140), ∀ a x, ((![v140] : Fin 1 → IVec S16 32) a x).toNat < S784.size a := fun v140 k1_hw60 => k1_hw60

def k1_chk61 (v143 : IVec S16 32) : Prop :=
  (∀ a x, ((![v143] : Fin 1 → IVec S16 32) a x).toNat < S784.size a)
theorem k1_idx112_inb : ∀ (v143 : IVec S16 32) (k1_hw61 : k1_chk61 v143), ∀ a x, ((![v143] : Fin 1 → IVec S16 32) a x).toNat < S784.size a := fun v143 k1_hw61 => k1_hw61
def k1_off65 (v63 : BitVec 32) (k1_t8 : Fin (k1_t8_loop v63).trips) (k1_t10 : Fin (k1_t10_loop v63 k1_t8).trips) : Fin 3 → Nat :=
  let c0_i32_54 : BitVec 32 := 0#32
  let c16_i32_42 : BitVec 32 := 16#32
  let v64 : BitVec 32 := Scalar.addi v63 c16_i32_42
  let c1_i32_43 : BitVec 32 := 1#32
  let v65 : BitVec 32 := Scalar.subi v64 c1_i32_43
  let c0_i32_45 : BitVec 32 := 0#32
  let v67 : BitVec 1 := Scalar.cmpi .sgt v65 c0_i32_45
  let v68 : BitVec 32 := Scalar.extui v67
  let c0_i32_46 : BitVec 32 := 0#32
  let v69 : BitVec 1 := Scalar.cmpi .slt v65 c0_i32_46
  let v70 : BitVec 32 := Scalar.extui v69
  let v71 : BitVec 32 := Scalar.subi v68 v70
  let c16_i32_44 : BitVec 32 := 16#32
  let c0_i32_47 : BitVec 32 := 0#32
  let v72 : BitVec 1 := Scalar.cmpi .sgt c16_i32_44 c0_i32_47
  let v73 : BitVec 32 := Scalar.extui v72
  let c0_i32_48 : BitVec 32 := 0#32
  let v74 : BitVec 1 := Scalar.cmpi .slt c16_i32_44 c0_i32_48
  let v75 : BitVec 32 := Scalar.extui v74
  let v76 : BitVec 32 := Scalar.subi v73 v75
  let v77 : BitVec 1 := Scalar.cmpi .ne v71 v76
  let v78 : BitVec 32 := Scalar.remsi v65 c16_i32_44
  let c0_i32_49 : BitVec 32 := 0#32
  let v79 : BitVec 1 := Scalar.cmpi .ne v78 c0_i32_49
  let v80 : BitVec 1 := Scalar.andi v77 v79
  let v66 : BitVec 32 := Scalar.divsi v65 c16_i32_44
  let c1_i32_50 : BitVec 32 := 1#32
  let v81 : BitVec 32 := Scalar.subi v66 c1_i32_50
  let v82 : BitVec 32 := Scalar.select v80 v81 v66
  let v86 : BitVec 32 := Scalar.subi v82 c0_i32_54
  let c1_i32_55 : BitVec 32 := 1#32
  let v88 : BitVec 32 := Scalar.divsi v86 c1_i32_55
  let v89 : BitVec 32 := Scalar.muli v88 c1_i32_55
  let v90 : BitVec 32 := Scalar.addi c0_i32_54 v89
  let c1_i32_57 : BitVec 32 := 1#32
  let arg18 : BitVec 32 := Scf.iv v90 c1_i32_57 k1_t8
  let c1_i32_58 : BitVec 32 := 1#32
  let v91 : BitVec 32 := Scalar.andi arg18 c1_i32_58
  let v154 : Index := Scalar.indexCast v91
  let c2_i32_83 : BitVec 32 := 2#32
  let c0_i32_79 : BitVec 32 := 0#32
  let c16_i32_68 : BitVec 32 := 16#32
  let v109 : BitVec 32 := Scalar.muli arg18 c16_i32_68
  let v110 : BitVec 32 := Scalar.subi v63 v109
  let c16_i32_69 : BitVec 32 := 16#32
  let v111 : BitVec 32 := Scalar.minsi v110 c16_i32_69
  let c1_i32_70 : BitVec 32 := 1#32
  let v112 : BitVec 32 := Scalar.addi v111 c1_i32_70
  let c0_i32_72 : BitVec 32 := 0#32
  let v114 : BitVec 1 := Scalar.cmpi .sgt v112 c0_i32_72
  let v115 : BitVec 32 := Scalar.extui v114
  let c0_i32_73 : BitVec 32 := 0#32
  let v116 : BitVec 1 := Scalar.cmpi .slt v112 c0_i32_73
  let v117 : BitVec 32 := Scalar.extui v116
  let v118 : BitVec 32 := Scalar.subi v115 v117
  let c2_i32_71 : BitVec 32 := 2#32
  let c0_i32_74 : BitVec 32 := 0#32
  let v119 : BitVec 1 := Scalar.cmpi .sgt c2_i32_71 c0_i32_74
  let v120 : BitVec 32 := Scalar.extui v119
  let c0_i32_75 : BitVec 32 := 0#32
  let v121 : BitVec 1 := Scalar.cmpi .slt c2_i32_71 c0_i32_75
  let v122 : BitVec 32 := Scalar.extui v121
  let v123 : BitVec 32 := Scalar.subi v120 v122
  let v124 : BitVec 1 := Scalar.cmpi .ne v118 v123
  let v125 : BitVec 32 := Scalar.remsi v112 c2_i32_71
  let c0_i32_76 : BitVec 32 := 0#32
  let v126 : BitVec 1 := Scalar.cmpi .ne v125 c0_i32_76
  let v127 : BitVec 1 := Scalar.andi v124 v126
  let v113 : BitVec 32 := Scalar.divsi v112 c2_i32_71
  let c1_i32_77 : BitVec 32 := 1#32
  let v128 : BitVec 32 := Scalar.subi v113 c1_i32_77
  let v129 : BitVec 32 := Scalar.select v127 v128 v113
  let v130 : BitVec 32 := Scalar.subi v129 c0_i32_79
  let c1_i32_80 : BitVec 32 := 1#32
  let v132 : BitVec 32 := Scalar.divsi v130 c1_i32_80
  let v133 : BitVec 32 := Scalar.muli v132 c1_i32_80
  let v134 : BitVec 32 := Scalar.addi c0_i32_79 v133
  let c1_i32_82 : BitVec 32 := 1#32
  let arg19 : BitVec 32 := Scf.iv v134 c1_i32_82 k1_t10
  let v135 : BitVec 32 := Scalar.muli c2_i32_83 arg19
  let v155 : Index := Scalar.indexCast v135
  let c0_90 : Index := 0#32
  ![v154.toNat, v155.toNat, 0]

def k1_chk62 (v151 : IVec S16 32) : Prop :=
  (∀ a x, ((![v151] : Fin 1 → IVec S16 32) a x).toNat < S40960.size a) ∧
  (∀ a x, ((![v151] : Fin 1 → IVec S16 32) a x).toNat < S40960.size a)
theorem k1_idx113_inb : ∀ (v151 : IVec S16 32) (k1_hw62 : k1_chk62 v151), ∀ a x, ((![v151] : Fin 1 → IVec S16 32) a x).toNat < S40960.size a := fun v151 k1_hw62 => k1_hw62.1
theorem k1_idx114_inb : ∀ (v151 : IVec S16 32) (k1_hw62 : k1_chk62 v151), ∀ a x, ((![v151] : Fin 1 → IVec S16 32) a x).toNat < S40960.size a := fun v151 k1_hw62 => k1_hw62.2
def k1_off66 (v63 : BitVec 32) (k1_t8 : Fin (k1_t8_loop v63).trips) (k1_t10 : Fin (k1_t10_loop v63 k1_t8).trips) : Fin 3 → Nat :=
  let c0_i32_54 : BitVec 32 := 0#32
  let c16_i32_42 : BitVec 32 := 16#32
  let v64 : BitVec 32 := Scalar.addi v63 c16_i32_42
  let c1_i32_43 : BitVec 32 := 1#32
  let v65 : BitVec 32 := Scalar.subi v64 c1_i32_43
  let c0_i32_45 : BitVec 32 := 0#32
  let v67 : BitVec 1 := Scalar.cmpi .sgt v65 c0_i32_45
  let v68 : BitVec 32 := Scalar.extui v67
  let c0_i32_46 : BitVec 32 := 0#32
  let v69 : BitVec 1 := Scalar.cmpi .slt v65 c0_i32_46
  let v70 : BitVec 32 := Scalar.extui v69
  let v71 : BitVec 32 := Scalar.subi v68 v70
  let c16_i32_44 : BitVec 32 := 16#32
  let c0_i32_47 : BitVec 32 := 0#32
  let v72 : BitVec 1 := Scalar.cmpi .sgt c16_i32_44 c0_i32_47
  let v73 : BitVec 32 := Scalar.extui v72
  let c0_i32_48 : BitVec 32 := 0#32
  let v74 : BitVec 1 := Scalar.cmpi .slt c16_i32_44 c0_i32_48
  let v75 : BitVec 32 := Scalar.extui v74
  let v76 : BitVec 32 := Scalar.subi v73 v75
  let v77 : BitVec 1 := Scalar.cmpi .ne v71 v76
  let v78 : BitVec 32 := Scalar.remsi v65 c16_i32_44
  let c0_i32_49 : BitVec 32 := 0#32
  let v79 : BitVec 1 := Scalar.cmpi .ne v78 c0_i32_49
  let v80 : BitVec 1 := Scalar.andi v77 v79
  let v66 : BitVec 32 := Scalar.divsi v65 c16_i32_44
  let c1_i32_50 : BitVec 32 := 1#32
  let v81 : BitVec 32 := Scalar.subi v66 c1_i32_50
  let v82 : BitVec 32 := Scalar.select v80 v81 v66
  let v86 : BitVec 32 := Scalar.subi v82 c0_i32_54
  let c1_i32_55 : BitVec 32 := 1#32
  let v88 : BitVec 32 := Scalar.divsi v86 c1_i32_55
  let v89 : BitVec 32 := Scalar.muli v88 c1_i32_55
  let v90 : BitVec 32 := Scalar.addi c0_i32_54 v89
  let c1_i32_57 : BitVec 32 := 1#32
  let arg18 : BitVec 32 := Scf.iv v90 c1_i32_57 k1_t8
  let c1_i32_58 : BitVec 32 := 1#32
  let v91 : BitVec 32 := Scalar.andi arg18 c1_i32_58
  let v159 : Index := Scalar.indexCast v91
  let c2_i32_84 : BitVec 32 := 2#32
  let c0_i32_79 : BitVec 32 := 0#32
  let c16_i32_68 : BitVec 32 := 16#32
  let v109 : BitVec 32 := Scalar.muli arg18 c16_i32_68
  let v110 : BitVec 32 := Scalar.subi v63 v109
  let c16_i32_69 : BitVec 32 := 16#32
  let v111 : BitVec 32 := Scalar.minsi v110 c16_i32_69
  let c1_i32_70 : BitVec 32 := 1#32
  let v112 : BitVec 32 := Scalar.addi v111 c1_i32_70
  let c0_i32_72 : BitVec 32 := 0#32
  let v114 : BitVec 1 := Scalar.cmpi .sgt v112 c0_i32_72
  let v115 : BitVec 32 := Scalar.extui v114
  let c0_i32_73 : BitVec 32 := 0#32
  let v116 : BitVec 1 := Scalar.cmpi .slt v112 c0_i32_73
  let v117 : BitVec 32 := Scalar.extui v116
  let v118 : BitVec 32 := Scalar.subi v115 v117
  let c2_i32_71 : BitVec 32 := 2#32
  let c0_i32_74 : BitVec 32 := 0#32
  let v119 : BitVec 1 := Scalar.cmpi .sgt c2_i32_71 c0_i32_74
  let v120 : BitVec 32 := Scalar.extui v119
  let c0_i32_75 : BitVec 32 := 0#32
  let v121 : BitVec 1 := Scalar.cmpi .slt c2_i32_71 c0_i32_75
  let v122 : BitVec 32 := Scalar.extui v121
  let v123 : BitVec 32 := Scalar.subi v120 v122
  let v124 : BitVec 1 := Scalar.cmpi .ne v118 v123
  let v125 : BitVec 32 := Scalar.remsi v112 c2_i32_71
  let c0_i32_76 : BitVec 32 := 0#32
  let v126 : BitVec 1 := Scalar.cmpi .ne v125 c0_i32_76
  let v127 : BitVec 1 := Scalar.andi v124 v126
  let v113 : BitVec 32 := Scalar.divsi v112 c2_i32_71
  let c1_i32_77 : BitVec 32 := 1#32
  let v128 : BitVec 32 := Scalar.subi v113 c1_i32_77
  let v129 : BitVec 32 := Scalar.select v127 v128 v113
  let v130 : BitVec 32 := Scalar.subi v129 c0_i32_79
  let c1_i32_80 : BitVec 32 := 1#32
  let v132 : BitVec 32 := Scalar.divsi v130 c1_i32_80
  let v133 : BitVec 32 := Scalar.muli v132 c1_i32_80
  let v134 : BitVec 32 := Scalar.addi c0_i32_79 v133
  let c1_i32_82 : BitVec 32 := 1#32
  let arg19 : BitVec 32 := Scf.iv v134 c1_i32_82 k1_t10
  let v136 : BitVec 32 := Scalar.muli c2_i32_84 arg19
  let c1_i32_85 : BitVec 32 := 1#32
  let v137 : BitVec 32 := Scalar.addi v136 c1_i32_85
  let v160 : Index := Scalar.indexCast v137
  let c0_91 : Index := 0#32
  ![v159.toNat, v160.toNat, 0]

def k1_chk63 (v152 : IVec S16 32) : Prop :=
  (∀ a x, ((![v152] : Fin 1 → IVec S16 32) a x).toNat < S40960.size a) ∧
  (∀ a x, ((![v152] : Fin 1 → IVec S16 32) a x).toNat < S40960.size a)
theorem k1_idx115_inb : ∀ (v152 : IVec S16 32) (k1_hw63 : k1_chk63 v152), ∀ a x, ((![v152] : Fin 1 → IVec S16 32) a x).toNat < S40960.size a := fun v152 k1_hw63 => k1_hw63.1
theorem k1_idx116_inb : ∀ (v152 : IVec S16 32) (k1_hw63 : k1_chk63 v152), ∀ a x, ((![v152] : Fin 1 → IVec S16 32) a x).toNat < S40960.size a := fun v152 k1_hw63 => k1_hw63.2
def k1_off67 (v63 : BitVec 32) (k1_t8 : Fin (k1_t8_loop v63).trips) (k1_t10 : Fin (k1_t10_loop v63 k1_t8).trips) : Fin 3 → Nat :=
  let c0_i32_54 : BitVec 32 := 0#32
  let c16_i32_42 : BitVec 32 := 16#32
  let v64 : BitVec 32 := Scalar.addi v63 c16_i32_42
  let c1_i32_43 : BitVec 32 := 1#32
  let v65 : BitVec 32 := Scalar.subi v64 c1_i32_43
  let c0_i32_45 : BitVec 32 := 0#32
  let v67 : BitVec 1 := Scalar.cmpi .sgt v65 c0_i32_45
  let v68 : BitVec 32 := Scalar.extui v67
  let c0_i32_46 : BitVec 32 := 0#32
  let v69 : BitVec 1 := Scalar.cmpi .slt v65 c0_i32_46
  let v70 : BitVec 32 := Scalar.extui v69
  let v71 : BitVec 32 := Scalar.subi v68 v70
  let c16_i32_44 : BitVec 32 := 16#32
  let c0_i32_47 : BitVec 32 := 0#32
  let v72 : BitVec 1 := Scalar.cmpi .sgt c16_i32_44 c0_i32_47
  let v73 : BitVec 32 := Scalar.extui v72
  let c0_i32_48 : BitVec 32 := 0#32
  let v74 : BitVec 1 := Scalar.cmpi .slt c16_i32_44 c0_i32_48
  let v75 : BitVec 32 := Scalar.extui v74
  let v76 : BitVec 32 := Scalar.subi v73 v75
  let v77 : BitVec 1 := Scalar.cmpi .ne v71 v76
  let v78 : BitVec 32 := Scalar.remsi v65 c16_i32_44
  let c0_i32_49 : BitVec 32 := 0#32
  let v79 : BitVec 1 := Scalar.cmpi .ne v78 c0_i32_49
  let v80 : BitVec 1 := Scalar.andi v77 v79
  let v66 : BitVec 32 := Scalar.divsi v65 c16_i32_44
  let c1_i32_50 : BitVec 32 := 1#32
  let v81 : BitVec 32 := Scalar.subi v66 c1_i32_50
  let v82 : BitVec 32 := Scalar.select v80 v81 v66
  let v86 : BitVec 32 := Scalar.subi v82 c0_i32_54
  let c1_i32_55 : BitVec 32 := 1#32
  let v88 : BitVec 32 := Scalar.divsi v86 c1_i32_55
  let v89 : BitVec 32 := Scalar.muli v88 c1_i32_55
  let v90 : BitVec 32 := Scalar.addi c0_i32_54 v89
  let c1_i32_57 : BitVec 32 := 1#32
  let arg18 : BitVec 32 := Scf.iv v90 c1_i32_57 k1_t8
  let c1_i32_58 : BitVec 32 := 1#32
  let v91 : BitVec 32 := Scalar.andi arg18 c1_i32_58
  let v166 : Index := Scalar.indexCast v91
  let c2_i32_83 : BitVec 32 := 2#32
  let c0_i32_79 : BitVec 32 := 0#32
  let c16_i32_68 : BitVec 32 := 16#32
  let v109 : BitVec 32 := Scalar.muli arg18 c16_i32_68
  let v110 : BitVec 32 := Scalar.subi v63 v109
  let c16_i32_69 : BitVec 32 := 16#32
  let v111 : BitVec 32 := Scalar.minsi v110 c16_i32_69
  let c1_i32_70 : BitVec 32 := 1#32
  let v112 : BitVec 32 := Scalar.addi v111 c1_i32_70
  let c0_i32_72 : BitVec 32 := 0#32
  let v114 : BitVec 1 := Scalar.cmpi .sgt v112 c0_i32_72
  let v115 : BitVec 32 := Scalar.extui v114
  let c0_i32_73 : BitVec 32 := 0#32
  let v116 : BitVec 1 := Scalar.cmpi .slt v112 c0_i32_73
  let v117 : BitVec 32 := Scalar.extui v116
  let v118 : BitVec 32 := Scalar.subi v115 v117
  let c2_i32_71 : BitVec 32 := 2#32
  let c0_i32_74 : BitVec 32 := 0#32
  let v119 : BitVec 1 := Scalar.cmpi .sgt c2_i32_71 c0_i32_74
  let v120 : BitVec 32 := Scalar.extui v119
  let c0_i32_75 : BitVec 32 := 0#32
  let v121 : BitVec 1 := Scalar.cmpi .slt c2_i32_71 c0_i32_75
  let v122 : BitVec 32 := Scalar.extui v121
  let v123 : BitVec 32 := Scalar.subi v120 v122
  let v124 : BitVec 1 := Scalar.cmpi .ne v118 v123
  let v125 : BitVec 32 := Scalar.remsi v112 c2_i32_71
  let c0_i32_76 : BitVec 32 := 0#32
  let v126 : BitVec 1 := Scalar.cmpi .ne v125 c0_i32_76
  let v127 : BitVec 1 := Scalar.andi v124 v126
  let v113 : BitVec 32 := Scalar.divsi v112 c2_i32_71
  let c1_i32_77 : BitVec 32 := 1#32
  let v128 : BitVec 32 := Scalar.subi v113 c1_i32_77
  let v129 : BitVec 32 := Scalar.select v127 v128 v113
  let v130 : BitVec 32 := Scalar.subi v129 c0_i32_79
  let c1_i32_80 : BitVec 32 := 1#32
  let v132 : BitVec 32 := Scalar.divsi v130 c1_i32_80
  let v133 : BitVec 32 := Scalar.muli v132 c1_i32_80
  let v134 : BitVec 32 := Scalar.addi c0_i32_79 v133
  let c1_i32_82 : BitVec 32 := 1#32
  let arg19 : BitVec 32 := Scf.iv v134 c1_i32_82 k1_t10
  let v135 : BitVec 32 := Scalar.muli c2_i32_83 arg19
  let v167 : Index := Scalar.indexCast v135
  let c16 : Index := 16#32
  ![v166.toNat, v167.toNat, 16]

def k1_chk64 (v163 : IVec S16 32) : Prop :=
  (∀ a x, ((![v163] : Fin 1 → IVec S16 32) a x).toNat < S40960.size a) ∧
  (∀ a x, ((![v163] : Fin 1 → IVec S16 32) a x).toNat < S40960.size a)
theorem k1_idx117_inb : ∀ (v163 : IVec S16 32) (k1_hw64 : k1_chk64 v163), ∀ a x, ((![v163] : Fin 1 → IVec S16 32) a x).toNat < S40960.size a := fun v163 k1_hw64 => k1_hw64.1
theorem k1_idx118_inb : ∀ (v163 : IVec S16 32) (k1_hw64 : k1_chk64 v163), ∀ a x, ((![v163] : Fin 1 → IVec S16 32) a x).toNat < S40960.size a := fun v163 k1_hw64 => k1_hw64.2
def k1_off68 (v63 : BitVec 32) (k1_t8 : Fin (k1_t8_loop v63).trips) (k1_t10 : Fin (k1_t10_loop v63 k1_t8).trips) : Fin 3 → Nat :=
  let c0_i32_54 : BitVec 32 := 0#32
  let c16_i32_42 : BitVec 32 := 16#32
  let v64 : BitVec 32 := Scalar.addi v63 c16_i32_42
  let c1_i32_43 : BitVec 32 := 1#32
  let v65 : BitVec 32 := Scalar.subi v64 c1_i32_43
  let c0_i32_45 : BitVec 32 := 0#32
  let v67 : BitVec 1 := Scalar.cmpi .sgt v65 c0_i32_45
  let v68 : BitVec 32 := Scalar.extui v67
  let c0_i32_46 : BitVec 32 := 0#32
  let v69 : BitVec 1 := Scalar.cmpi .slt v65 c0_i32_46
  let v70 : BitVec 32 := Scalar.extui v69
  let v71 : BitVec 32 := Scalar.subi v68 v70
  let c16_i32_44 : BitVec 32 := 16#32
  let c0_i32_47 : BitVec 32 := 0#32
  let v72 : BitVec 1 := Scalar.cmpi .sgt c16_i32_44 c0_i32_47
  let v73 : BitVec 32 := Scalar.extui v72
  let c0_i32_48 : BitVec 32 := 0#32
  let v74 : BitVec 1 := Scalar.cmpi .slt c16_i32_44 c0_i32_48
  let v75 : BitVec 32 := Scalar.extui v74
  let v76 : BitVec 32 := Scalar.subi v73 v75
  let v77 : BitVec 1 := Scalar.cmpi .ne v71 v76
  let v78 : BitVec 32 := Scalar.remsi v65 c16_i32_44
  let c0_i32_49 : BitVec 32 := 0#32
  let v79 : BitVec 1 := Scalar.cmpi .ne v78 c0_i32_49
  let v80 : BitVec 1 := Scalar.andi v77 v79
  let v66 : BitVec 32 := Scalar.divsi v65 c16_i32_44
  let c1_i32_50 : BitVec 32 := 1#32
  let v81 : BitVec 32 := Scalar.subi v66 c1_i32_50
  let v82 : BitVec 32 := Scalar.select v80 v81 v66
  let v86 : BitVec 32 := Scalar.subi v82 c0_i32_54
  let c1_i32_55 : BitVec 32 := 1#32
  let v88 : BitVec 32 := Scalar.divsi v86 c1_i32_55
  let v89 : BitVec 32 := Scalar.muli v88 c1_i32_55
  let v90 : BitVec 32 := Scalar.addi c0_i32_54 v89
  let c1_i32_57 : BitVec 32 := 1#32
  let arg18 : BitVec 32 := Scf.iv v90 c1_i32_57 k1_t8
  let c1_i32_58 : BitVec 32 := 1#32
  let v91 : BitVec 32 := Scalar.andi arg18 c1_i32_58
  let v171 : Index := Scalar.indexCast v91
  let c2_i32_84 : BitVec 32 := 2#32
  let c0_i32_79 : BitVec 32 := 0#32
  let c16_i32_68 : BitVec 32 := 16#32
  let v109 : BitVec 32 := Scalar.muli arg18 c16_i32_68
  let v110 : BitVec 32 := Scalar.subi v63 v109
  let c16_i32_69 : BitVec 32 := 16#32
  let v111 : BitVec 32 := Scalar.minsi v110 c16_i32_69
  let c1_i32_70 : BitVec 32 := 1#32
  let v112 : BitVec 32 := Scalar.addi v111 c1_i32_70
  let c0_i32_72 : BitVec 32 := 0#32
  let v114 : BitVec 1 := Scalar.cmpi .sgt v112 c0_i32_72
  let v115 : BitVec 32 := Scalar.extui v114
  let c0_i32_73 : BitVec 32 := 0#32
  let v116 : BitVec 1 := Scalar.cmpi .slt v112 c0_i32_73
  let v117 : BitVec 32 := Scalar.extui v116
  let v118 : BitVec 32 := Scalar.subi v115 v117
  let c2_i32_71 : BitVec 32 := 2#32
  let c0_i32_74 : BitVec 32 := 0#32
  let v119 : BitVec 1 := Scalar.cmpi .sgt c2_i32_71 c0_i32_74
  let v120 : BitVec 32 := Scalar.extui v119
  let c0_i32_75 : BitVec 32 := 0#32
  let v121 : BitVec 1 := Scalar.cmpi .slt c2_i32_71 c0_i32_75
  let v122 : BitVec 32 := Scalar.extui v121
  let v123 : BitVec 32 := Scalar.subi v120 v122
  let v124 : BitVec 1 := Scalar.cmpi .ne v118 v123
  let v125 : BitVec 32 := Scalar.remsi v112 c2_i32_71
  let c0_i32_76 : BitVec 32 := 0#32
  let v126 : BitVec 1 := Scalar.cmpi .ne v125 c0_i32_76
  let v127 : BitVec 1 := Scalar.andi v124 v126
  let v113 : BitVec 32 := Scalar.divsi v112 c2_i32_71
  let c1_i32_77 : BitVec 32 := 1#32
  let v128 : BitVec 32 := Scalar.subi v113 c1_i32_77
  let v129 : BitVec 32 := Scalar.select v127 v128 v113
  let v130 : BitVec 32 := Scalar.subi v129 c0_i32_79
  let c1_i32_80 : BitVec 32 := 1#32
  let v132 : BitVec 32 := Scalar.divsi v130 c1_i32_80
  let v133 : BitVec 32 := Scalar.muli v132 c1_i32_80
  let v134 : BitVec 32 := Scalar.addi c0_i32_79 v133
  let c1_i32_82 : BitVec 32 := 1#32
  let arg19 : BitVec 32 := Scf.iv v134 c1_i32_82 k1_t10
  let v136 : BitVec 32 := Scalar.muli c2_i32_84 arg19
  let c1_i32_85 : BitVec 32 := 1#32
  let v137 : BitVec 32 := Scalar.addi v136 c1_i32_85
  let v172 : Index := Scalar.indexCast v137
  let c16_92 : Index := 16#32
  ![v171.toNat, v172.toNat, 16]

def k1_chk65 (v164 : IVec S16 32) : Prop :=
  (∀ a x, ((![v164] : Fin 1 → IVec S16 32) a x).toNat < S40960.size a) ∧
  (∀ a x, ((![v164] : Fin 1 → IVec S16 32) a x).toNat < S40960.size a)
theorem k1_idx119_inb : ∀ (v164 : IVec S16 32) (k1_hw65 : k1_chk65 v164), ∀ a x, ((![v164] : Fin 1 → IVec S16 32) a x).toNat < S40960.size a := fun v164 k1_hw65 => k1_hw65.1
theorem k1_idx120_inb : ∀ (v164 : IVec S16 32) (k1_hw65 : k1_chk65 v164), ∀ a x, ((![v164] : Fin 1 → IVec S16 32) a x).toNat < S40960.size a := fun v164 k1_hw65 => k1_hw65.2
def k1_off69 (v63 : BitVec 32) (k1_t8 : Fin (k1_t8_loop v63).trips) (k1_t10 : Fin (k1_t10_loop v63 k1_t8).trips) : Fin 3 → Nat :=
  let c0_i32_54 : BitVec 32 := 0#32
  let c16_i32_42 : BitVec 32 := 16#32
  let v64 : BitVec 32 := Scalar.addi v63 c16_i32_42
  let c1_i32_43 : BitVec 32 := 1#32
  let v65 : BitVec 32 := Scalar.subi v64 c1_i32_43
  let c0_i32_45 : BitVec 32 := 0#32
  let v67 : BitVec 1 := Scalar.cmpi .sgt v65 c0_i32_45
  let v68 : BitVec 32 := Scalar.extui v67
  let c0_i32_46 : BitVec 32 := 0#32
  let v69 : BitVec 1 := Scalar.cmpi .slt v65 c0_i32_46
  let v70 : BitVec 32 := Scalar.extui v69
  let v71 : BitVec 32 := Scalar.subi v68 v70
  let c16_i32_44 : BitVec 32 := 16#32
  let c0_i32_47 : BitVec 32 := 0#32
  let v72 : BitVec 1 := Scalar.cmpi .sgt c16_i32_44 c0_i32_47
  let v73 : BitVec 32 := Scalar.extui v72
  let c0_i32_48 : BitVec 32 := 0#32
  let v74 : BitVec 1 := Scalar.cmpi .slt c16_i32_44 c0_i32_48
  let v75 : BitVec 32 := Scalar.extui v74
  let v76 : BitVec 32 := Scalar.subi v73 v75
  let v77 : BitVec 1 := Scalar.cmpi .ne v71 v76
  let v78 : BitVec 32 := Scalar.remsi v65 c16_i32_44
  let c0_i32_49 : BitVec 32 := 0#32
  let v79 : BitVec 1 := Scalar.cmpi .ne v78 c0_i32_49
  let v80 : BitVec 1 := Scalar.andi v77 v79
  let v66 : BitVec 32 := Scalar.divsi v65 c16_i32_44
  let c1_i32_50 : BitVec 32 := 1#32
  let v81 : BitVec 32 := Scalar.subi v66 c1_i32_50
  let v82 : BitVec 32 := Scalar.select v80 v81 v66
  let v86 : BitVec 32 := Scalar.subi v82 c0_i32_54
  let c1_i32_55 : BitVec 32 := 1#32
  let v88 : BitVec 32 := Scalar.divsi v86 c1_i32_55
  let v89 : BitVec 32 := Scalar.muli v88 c1_i32_55
  let v90 : BitVec 32 := Scalar.addi c0_i32_54 v89
  let c1_i32_57 : BitVec 32 := 1#32
  let arg18 : BitVec 32 := Scf.iv v90 c1_i32_57 k1_t8
  let c1_i32_58 : BitVec 32 := 1#32
  let v91 : BitVec 32 := Scalar.andi arg18 c1_i32_58
  let v178 : Index := Scalar.indexCast v91
  let c2_i32_83 : BitVec 32 := 2#32
  let c0_i32_79 : BitVec 32 := 0#32
  let c16_i32_68 : BitVec 32 := 16#32
  let v109 : BitVec 32 := Scalar.muli arg18 c16_i32_68
  let v110 : BitVec 32 := Scalar.subi v63 v109
  let c16_i32_69 : BitVec 32 := 16#32
  let v111 : BitVec 32 := Scalar.minsi v110 c16_i32_69
  let c1_i32_70 : BitVec 32 := 1#32
  let v112 : BitVec 32 := Scalar.addi v111 c1_i32_70
  let c0_i32_72 : BitVec 32 := 0#32
  let v114 : BitVec 1 := Scalar.cmpi .sgt v112 c0_i32_72
  let v115 : BitVec 32 := Scalar.extui v114
  let c0_i32_73 : BitVec 32 := 0#32
  let v116 : BitVec 1 := Scalar.cmpi .slt v112 c0_i32_73
  let v117 : BitVec 32 := Scalar.extui v116
  let v118 : BitVec 32 := Scalar.subi v115 v117
  let c2_i32_71 : BitVec 32 := 2#32
  let c0_i32_74 : BitVec 32 := 0#32
  let v119 : BitVec 1 := Scalar.cmpi .sgt c2_i32_71 c0_i32_74
  let v120 : BitVec 32 := Scalar.extui v119
  let c0_i32_75 : BitVec 32 := 0#32
  let v121 : BitVec 1 := Scalar.cmpi .slt c2_i32_71 c0_i32_75
  let v122 : BitVec 32 := Scalar.extui v121
  let v123 : BitVec 32 := Scalar.subi v120 v122
  let v124 : BitVec 1 := Scalar.cmpi .ne v118 v123
  let v125 : BitVec 32 := Scalar.remsi v112 c2_i32_71
  let c0_i32_76 : BitVec 32 := 0#32
  let v126 : BitVec 1 := Scalar.cmpi .ne v125 c0_i32_76
  let v127 : BitVec 1 := Scalar.andi v124 v126
  let v113 : BitVec 32 := Scalar.divsi v112 c2_i32_71
  let c1_i32_77 : BitVec 32 := 1#32
  let v128 : BitVec 32 := Scalar.subi v113 c1_i32_77
  let v129 : BitVec 32 := Scalar.select v127 v128 v113
  let v130 : BitVec 32 := Scalar.subi v129 c0_i32_79
  let c1_i32_80 : BitVec 32 := 1#32
  let v132 : BitVec 32 := Scalar.divsi v130 c1_i32_80
  let v133 : BitVec 32 := Scalar.muli v132 c1_i32_80
  let v134 : BitVec 32 := Scalar.addi c0_i32_79 v133
  let c1_i32_82 : BitVec 32 := 1#32
  let arg19 : BitVec 32 := Scf.iv v134 c1_i32_82 k1_t10
  let v135 : BitVec 32 := Scalar.muli c2_i32_83 arg19
  let v179 : Index := Scalar.indexCast v135
  let c32 : Index := 32#32
  ![v178.toNat, v179.toNat, 32]

def k1_chk66 (v175 : IVec S16 32) : Prop :=
  (∀ a x, ((![v175] : Fin 1 → IVec S16 32) a x).toNat < S40960.size a) ∧
  (∀ a x, ((![v175] : Fin 1 → IVec S16 32) a x).toNat < S40960.size a)
theorem k1_idx121_inb : ∀ (v175 : IVec S16 32) (k1_hw66 : k1_chk66 v175), ∀ a x, ((![v175] : Fin 1 → IVec S16 32) a x).toNat < S40960.size a := fun v175 k1_hw66 => k1_hw66.1
theorem k1_idx122_inb : ∀ (v175 : IVec S16 32) (k1_hw66 : k1_chk66 v175), ∀ a x, ((![v175] : Fin 1 → IVec S16 32) a x).toNat < S40960.size a := fun v175 k1_hw66 => k1_hw66.2
def k1_off70 (v63 : BitVec 32) (k1_t8 : Fin (k1_t8_loop v63).trips) (k1_t10 : Fin (k1_t10_loop v63 k1_t8).trips) : Fin 3 → Nat :=
  let c0_i32_54 : BitVec 32 := 0#32
  let c16_i32_42 : BitVec 32 := 16#32
  let v64 : BitVec 32 := Scalar.addi v63 c16_i32_42
  let c1_i32_43 : BitVec 32 := 1#32
  let v65 : BitVec 32 := Scalar.subi v64 c1_i32_43
  let c0_i32_45 : BitVec 32 := 0#32
  let v67 : BitVec 1 := Scalar.cmpi .sgt v65 c0_i32_45
  let v68 : BitVec 32 := Scalar.extui v67
  let c0_i32_46 : BitVec 32 := 0#32
  let v69 : BitVec 1 := Scalar.cmpi .slt v65 c0_i32_46
  let v70 : BitVec 32 := Scalar.extui v69
  let v71 : BitVec 32 := Scalar.subi v68 v70
  let c16_i32_44 : BitVec 32 := 16#32
  let c0_i32_47 : BitVec 32 := 0#32
  let v72 : BitVec 1 := Scalar.cmpi .sgt c16_i32_44 c0_i32_47
  let v73 : BitVec 32 := Scalar.extui v72
  let c0_i32_48 : BitVec 32 := 0#32
  let v74 : BitVec 1 := Scalar.cmpi .slt c16_i32_44 c0_i32_48
  let v75 : BitVec 32 := Scalar.extui v74
  let v76 : BitVec 32 := Scalar.subi v73 v75
  let v77 : BitVec 1 := Scalar.cmpi .ne v71 v76
  let v78 : BitVec 32 := Scalar.remsi v65 c16_i32_44
  let c0_i32_49 : BitVec 32 := 0#32
  let v79 : BitVec 1 := Scalar.cmpi .ne v78 c0_i32_49
  let v80 : BitVec 1 := Scalar.andi v77 v79
  let v66 : BitVec 32 := Scalar.divsi v65 c16_i32_44
  let c1_i32_50 : BitVec 32 := 1#32
  let v81 : BitVec 32 := Scalar.subi v66 c1_i32_50
  let v82 : BitVec 32 := Scalar.select v80 v81 v66
  let v86 : BitVec 32 := Scalar.subi v82 c0_i32_54
  let c1_i32_55 : BitVec 32 := 1#32
  let v88 : BitVec 32 := Scalar.divsi v86 c1_i32_55
  let v89 : BitVec 32 := Scalar.muli v88 c1_i32_55
  let v90 : BitVec 32 := Scalar.addi c0_i32_54 v89
  let c1_i32_57 : BitVec 32 := 1#32
  let arg18 : BitVec 32 := Scf.iv v90 c1_i32_57 k1_t8
  let c1_i32_58 : BitVec 32 := 1#32
  let v91 : BitVec 32 := Scalar.andi arg18 c1_i32_58
  let v183 : Index := Scalar.indexCast v91
  let c2_i32_84 : BitVec 32 := 2#32
  let c0_i32_79 : BitVec 32 := 0#32
  let c16_i32_68 : BitVec 32 := 16#32
  let v109 : BitVec 32 := Scalar.muli arg18 c16_i32_68
  let v110 : BitVec 32 := Scalar.subi v63 v109
  let c16_i32_69 : BitVec 32 := 16#32
  let v111 : BitVec 32 := Scalar.minsi v110 c16_i32_69
  let c1_i32_70 : BitVec 32 := 1#32
  let v112 : BitVec 32 := Scalar.addi v111 c1_i32_70
  let c0_i32_72 : BitVec 32 := 0#32
  let v114 : BitVec 1 := Scalar.cmpi .sgt v112 c0_i32_72
  let v115 : BitVec 32 := Scalar.extui v114
  let c0_i32_73 : BitVec 32 := 0#32
  let v116 : BitVec 1 := Scalar.cmpi .slt v112 c0_i32_73
  let v117 : BitVec 32 := Scalar.extui v116
  let v118 : BitVec 32 := Scalar.subi v115 v117
  let c2_i32_71 : BitVec 32 := 2#32
  let c0_i32_74 : BitVec 32 := 0#32
  let v119 : BitVec 1 := Scalar.cmpi .sgt c2_i32_71 c0_i32_74
  let v120 : BitVec 32 := Scalar.extui v119
  let c0_i32_75 : BitVec 32 := 0#32
  let v121 : BitVec 1 := Scalar.cmpi .slt c2_i32_71 c0_i32_75
  let v122 : BitVec 32 := Scalar.extui v121
  let v123 : BitVec 32 := Scalar.subi v120 v122
  let v124 : BitVec 1 := Scalar.cmpi .ne v118 v123
  let v125 : BitVec 32 := Scalar.remsi v112 c2_i32_71
  let c0_i32_76 : BitVec 32 := 0#32
  let v126 : BitVec 1 := Scalar.cmpi .ne v125 c0_i32_76
  let v127 : BitVec 1 := Scalar.andi v124 v126
  let v113 : BitVec 32 := Scalar.divsi v112 c2_i32_71
  let c1_i32_77 : BitVec 32 := 1#32
  let v128 : BitVec 32 := Scalar.subi v113 c1_i32_77
  let v129 : BitVec 32 := Scalar.select v127 v128 v113
  let v130 : BitVec 32 := Scalar.subi v129 c0_i32_79
  let c1_i32_80 : BitVec 32 := 1#32
  let v132 : BitVec 32 := Scalar.divsi v130 c1_i32_80
  let v133 : BitVec 32 := Scalar.muli v132 c1_i32_80
  let v134 : BitVec 32 := Scalar.addi c0_i32_79 v133
  let c1_i32_82 : BitVec 32 := 1#32
  let arg19 : BitVec 32 := Scf.iv v134 c1_i32_82 k1_t10
  let v136 : BitVec 32 := Scalar.muli c2_i32_84 arg19
  let c1_i32_85 : BitVec 32 := 1#32
  let v137 : BitVec 32 := Scalar.addi v136 c1_i32_85
  let v184 : Index := Scalar.indexCast v137
  let c32_93 : Index := 32#32
  ![v183.toNat, v184.toNat, 32]

def k1_chk67 (v176 : IVec S16 32) : Prop :=
  (∀ a x, ((![v176] : Fin 1 → IVec S16 32) a x).toNat < S40960.size a) ∧
  (∀ a x, ((![v176] : Fin 1 → IVec S16 32) a x).toNat < S40960.size a)
theorem k1_idx123_inb : ∀ (v176 : IVec S16 32) (k1_hw67 : k1_chk67 v176), ∀ a x, ((![v176] : Fin 1 → IVec S16 32) a x).toNat < S40960.size a := fun v176 k1_hw67 => k1_hw67.1
theorem k1_idx124_inb : ∀ (v176 : IVec S16 32) (k1_hw67 : k1_chk67 v176), ∀ a x, ((![v176] : Fin 1 → IVec S16 32) a x).toNat < S40960.size a := fun v176 k1_hw67 => k1_hw67.2
def k1_off71 (v63 : BitVec 32) (k1_t8 : Fin (k1_t8_loop v63).trips) (k1_t10 : Fin (k1_t10_loop v63 k1_t8).trips) : Fin 3 → Nat :=
  let c0_i32_54 : BitVec 32 := 0#32
  let c16_i32_42 : BitVec 32 := 16#32
  let v64 : BitVec 32 := Scalar.addi v63 c16_i32_42
  let c1_i32_43 : BitVec 32 := 1#32
  let v65 : BitVec 32 := Scalar.subi v64 c1_i32_43
  let c0_i32_45 : BitVec 32 := 0#32
  let v67 : BitVec 1 := Scalar.cmpi .sgt v65 c0_i32_45
  let v68 : BitVec 32 := Scalar.extui v67
  let c0_i32_46 : BitVec 32 := 0#32
  let v69 : BitVec 1 := Scalar.cmpi .slt v65 c0_i32_46
  let v70 : BitVec 32 := Scalar.extui v69
  let v71 : BitVec 32 := Scalar.subi v68 v70
  let c16_i32_44 : BitVec 32 := 16#32
  let c0_i32_47 : BitVec 32 := 0#32
  let v72 : BitVec 1 := Scalar.cmpi .sgt c16_i32_44 c0_i32_47
  let v73 : BitVec 32 := Scalar.extui v72
  let c0_i32_48 : BitVec 32 := 0#32
  let v74 : BitVec 1 := Scalar.cmpi .slt c16_i32_44 c0_i32_48
  let v75 : BitVec 32 := Scalar.extui v74
  let v76 : BitVec 32 := Scalar.subi v73 v75
  let v77 : BitVec 1 := Scalar.cmpi .ne v71 v76
  let v78 : BitVec 32 := Scalar.remsi v65 c16_i32_44
  let c0_i32_49 : BitVec 32 := 0#32
  let v79 : BitVec 1 := Scalar.cmpi .ne v78 c0_i32_49
  let v80 : BitVec 1 := Scalar.andi v77 v79
  let v66 : BitVec 32 := Scalar.divsi v65 c16_i32_44
  let c1_i32_50 : BitVec 32 := 1#32
  let v81 : BitVec 32 := Scalar.subi v66 c1_i32_50
  let v82 : BitVec 32 := Scalar.select v80 v81 v66
  let v86 : BitVec 32 := Scalar.subi v82 c0_i32_54
  let c1_i32_55 : BitVec 32 := 1#32
  let v88 : BitVec 32 := Scalar.divsi v86 c1_i32_55
  let v89 : BitVec 32 := Scalar.muli v88 c1_i32_55
  let v90 : BitVec 32 := Scalar.addi c0_i32_54 v89
  let c1_i32_57 : BitVec 32 := 1#32
  let arg18 : BitVec 32 := Scf.iv v90 c1_i32_57 k1_t8
  let c1_i32_58 : BitVec 32 := 1#32
  let v91 : BitVec 32 := Scalar.andi arg18 c1_i32_58
  let v190 : Index := Scalar.indexCast v91
  let c2_i32_83 : BitVec 32 := 2#32
  let c0_i32_79 : BitVec 32 := 0#32
  let c16_i32_68 : BitVec 32 := 16#32
  let v109 : BitVec 32 := Scalar.muli arg18 c16_i32_68
  let v110 : BitVec 32 := Scalar.subi v63 v109
  let c16_i32_69 : BitVec 32 := 16#32
  let v111 : BitVec 32 := Scalar.minsi v110 c16_i32_69
  let c1_i32_70 : BitVec 32 := 1#32
  let v112 : BitVec 32 := Scalar.addi v111 c1_i32_70
  let c0_i32_72 : BitVec 32 := 0#32
  let v114 : BitVec 1 := Scalar.cmpi .sgt v112 c0_i32_72
  let v115 : BitVec 32 := Scalar.extui v114
  let c0_i32_73 : BitVec 32 := 0#32
  let v116 : BitVec 1 := Scalar.cmpi .slt v112 c0_i32_73
  let v117 : BitVec 32 := Scalar.extui v116
  let v118 : BitVec 32 := Scalar.subi v115 v117
  let c2_i32_71 : BitVec 32 := 2#32
  let c0_i32_74 : BitVec 32 := 0#32
  let v119 : BitVec 1 := Scalar.cmpi .sgt c2_i32_71 c0_i32_74
  let v120 : BitVec 32 := Scalar.extui v119
  let c0_i32_75 : BitVec 32 := 0#32
  let v121 : BitVec 1 := Scalar.cmpi .slt c2_i32_71 c0_i32_75
  let v122 : BitVec 32 := Scalar.extui v121
  let v123 : BitVec 32 := Scalar.subi v120 v122
  let v124 : BitVec 1 := Scalar.cmpi .ne v118 v123
  let v125 : BitVec 32 := Scalar.remsi v112 c2_i32_71
  let c0_i32_76 : BitVec 32 := 0#32
  let v126 : BitVec 1 := Scalar.cmpi .ne v125 c0_i32_76
  let v127 : BitVec 1 := Scalar.andi v124 v126
  let v113 : BitVec 32 := Scalar.divsi v112 c2_i32_71
  let c1_i32_77 : BitVec 32 := 1#32
  let v128 : BitVec 32 := Scalar.subi v113 c1_i32_77
  let v129 : BitVec 32 := Scalar.select v127 v128 v113
  let v130 : BitVec 32 := Scalar.subi v129 c0_i32_79
  let c1_i32_80 : BitVec 32 := 1#32
  let v132 : BitVec 32 := Scalar.divsi v130 c1_i32_80
  let v133 : BitVec 32 := Scalar.muli v132 c1_i32_80
  let v134 : BitVec 32 := Scalar.addi c0_i32_79 v133
  let c1_i32_82 : BitVec 32 := 1#32
  let arg19 : BitVec 32 := Scf.iv v134 c1_i32_82 k1_t10
  let v135 : BitVec 32 := Scalar.muli c2_i32_83 arg19
  let v191 : Index := Scalar.indexCast v135
  let c48 : Index := 48#32
  ![v190.toNat, v191.toNat, 48]

def k1_chk68 (v187 : IVec S16 32) : Prop :=
  (∀ a x, ((![v187] : Fin 1 → IVec S16 32) a x).toNat < S40960.size a) ∧
  (∀ a x, ((![v187] : Fin 1 → IVec S16 32) a x).toNat < S40960.size a)
theorem k1_idx125_inb : ∀ (v187 : IVec S16 32) (k1_hw68 : k1_chk68 v187), ∀ a x, ((![v187] : Fin 1 → IVec S16 32) a x).toNat < S40960.size a := fun v187 k1_hw68 => k1_hw68.1
theorem k1_idx126_inb : ∀ (v187 : IVec S16 32) (k1_hw68 : k1_chk68 v187), ∀ a x, ((![v187] : Fin 1 → IVec S16 32) a x).toNat < S40960.size a := fun v187 k1_hw68 => k1_hw68.2
def k1_off72 (v63 : BitVec 32) (k1_t8 : Fin (k1_t8_loop v63).trips) (k1_t10 : Fin (k1_t10_loop v63 k1_t8).trips) : Fin 3 → Nat :=
  let c0_i32_54 : BitVec 32 := 0#32
  let c16_i32_42 : BitVec 32 := 16#32
  let v64 : BitVec 32 := Scalar.addi v63 c16_i32_42
  let c1_i32_43 : BitVec 32 := 1#32
  let v65 : BitVec 32 := Scalar.subi v64 c1_i32_43
  let c0_i32_45 : BitVec 32 := 0#32
  let v67 : BitVec 1 := Scalar.cmpi .sgt v65 c0_i32_45
  let v68 : BitVec 32 := Scalar.extui v67
  let c0_i32_46 : BitVec 32 := 0#32
  let v69 : BitVec 1 := Scalar.cmpi .slt v65 c0_i32_46
  let v70 : BitVec 32 := Scalar.extui v69
  let v71 : BitVec 32 := Scalar.subi v68 v70
  let c16_i32_44 : BitVec 32 := 16#32
  let c0_i32_47 : BitVec 32 := 0#32
  let v72 : BitVec 1 := Scalar.cmpi .sgt c16_i32_44 c0_i32_47
  let v73 : BitVec 32 := Scalar.extui v72
  let c0_i32_48 : BitVec 32 := 0#32
  let v74 : BitVec 1 := Scalar.cmpi .slt c16_i32_44 c0_i32_48
  let v75 : BitVec 32 := Scalar.extui v74
  let v76 : BitVec 32 := Scalar.subi v73 v75
  let v77 : BitVec 1 := Scalar.cmpi .ne v71 v76
  let v78 : BitVec 32 := Scalar.remsi v65 c16_i32_44
  let c0_i32_49 : BitVec 32 := 0#32
  let v79 : BitVec 1 := Scalar.cmpi .ne v78 c0_i32_49
  let v80 : BitVec 1 := Scalar.andi v77 v79
  let v66 : BitVec 32 := Scalar.divsi v65 c16_i32_44
  let c1_i32_50 : BitVec 32 := 1#32
  let v81 : BitVec 32 := Scalar.subi v66 c1_i32_50
  let v82 : BitVec 32 := Scalar.select v80 v81 v66
  let v86 : BitVec 32 := Scalar.subi v82 c0_i32_54
  let c1_i32_55 : BitVec 32 := 1#32
  let v88 : BitVec 32 := Scalar.divsi v86 c1_i32_55
  let v89 : BitVec 32 := Scalar.muli v88 c1_i32_55
  let v90 : BitVec 32 := Scalar.addi c0_i32_54 v89
  let c1_i32_57 : BitVec 32 := 1#32
  let arg18 : BitVec 32 := Scf.iv v90 c1_i32_57 k1_t8
  let c1_i32_58 : BitVec 32 := 1#32
  let v91 : BitVec 32 := Scalar.andi arg18 c1_i32_58
  let v195 : Index := Scalar.indexCast v91
  let c2_i32_84 : BitVec 32 := 2#32
  let c0_i32_79 : BitVec 32 := 0#32
  let c16_i32_68 : BitVec 32 := 16#32
  let v109 : BitVec 32 := Scalar.muli arg18 c16_i32_68
  let v110 : BitVec 32 := Scalar.subi v63 v109
  let c16_i32_69 : BitVec 32 := 16#32
  let v111 : BitVec 32 := Scalar.minsi v110 c16_i32_69
  let c1_i32_70 : BitVec 32 := 1#32
  let v112 : BitVec 32 := Scalar.addi v111 c1_i32_70
  let c0_i32_72 : BitVec 32 := 0#32
  let v114 : BitVec 1 := Scalar.cmpi .sgt v112 c0_i32_72
  let v115 : BitVec 32 := Scalar.extui v114
  let c0_i32_73 : BitVec 32 := 0#32
  let v116 : BitVec 1 := Scalar.cmpi .slt v112 c0_i32_73
  let v117 : BitVec 32 := Scalar.extui v116
  let v118 : BitVec 32 := Scalar.subi v115 v117
  let c2_i32_71 : BitVec 32 := 2#32
  let c0_i32_74 : BitVec 32 := 0#32
  let v119 : BitVec 1 := Scalar.cmpi .sgt c2_i32_71 c0_i32_74
  let v120 : BitVec 32 := Scalar.extui v119
  let c0_i32_75 : BitVec 32 := 0#32
  let v121 : BitVec 1 := Scalar.cmpi .slt c2_i32_71 c0_i32_75
  let v122 : BitVec 32 := Scalar.extui v121
  let v123 : BitVec 32 := Scalar.subi v120 v122
  let v124 : BitVec 1 := Scalar.cmpi .ne v118 v123
  let v125 : BitVec 32 := Scalar.remsi v112 c2_i32_71
  let c0_i32_76 : BitVec 32 := 0#32
  let v126 : BitVec 1 := Scalar.cmpi .ne v125 c0_i32_76
  let v127 : BitVec 1 := Scalar.andi v124 v126
  let v113 : BitVec 32 := Scalar.divsi v112 c2_i32_71
  let c1_i32_77 : BitVec 32 := 1#32
  let v128 : BitVec 32 := Scalar.subi v113 c1_i32_77
  let v129 : BitVec 32 := Scalar.select v127 v128 v113
  let v130 : BitVec 32 := Scalar.subi v129 c0_i32_79
  let c1_i32_80 : BitVec 32 := 1#32
  let v132 : BitVec 32 := Scalar.divsi v130 c1_i32_80
  let v133 : BitVec 32 := Scalar.muli v132 c1_i32_80
  let v134 : BitVec 32 := Scalar.addi c0_i32_79 v133
  let c1_i32_82 : BitVec 32 := 1#32
  let arg19 : BitVec 32 := Scf.iv v134 c1_i32_82 k1_t10
  let v136 : BitVec 32 := Scalar.muli c2_i32_84 arg19
  let c1_i32_85 : BitVec 32 := 1#32
  let v137 : BitVec 32 := Scalar.addi v136 c1_i32_85
  let v196 : Index := Scalar.indexCast v137
  let c48_94 : Index := 48#32
  ![v195.toNat, v196.toNat, 48]

def k1_chk69 (v188 : IVec S16 32) : Prop :=
  (∀ a x, ((![v188] : Fin 1 → IVec S16 32) a x).toNat < S40960.size a) ∧
  (∀ a x, ((![v188] : Fin 1 → IVec S16 32) a x).toNat < S40960.size a)
theorem k1_idx127_inb : ∀ (v188 : IVec S16 32) (k1_hw69 : k1_chk69 v188), ∀ a x, ((![v188] : Fin 1 → IVec S16 32) a x).toNat < S40960.size a := fun v188 k1_hw69 => k1_hw69.1
theorem k1_idx128_inb : ∀ (v188 : IVec S16 32) (k1_hw69 : k1_chk69 v188), ∀ a x, ((![v188] : Fin 1 → IVec S16 32) a x).toNat < S40960.size a := fun v188 k1_hw69 => k1_hw69.2
def k1_off73 (v63 : BitVec 32) (k1_t8 : Fin (k1_t8_loop v63).trips) (k1_t10 : Fin (k1_t10_loop v63 k1_t8).trips) : Fin 3 → Nat :=
  let c0_i32_54 : BitVec 32 := 0#32
  let c16_i32_42 : BitVec 32 := 16#32
  let v64 : BitVec 32 := Scalar.addi v63 c16_i32_42
  let c1_i32_43 : BitVec 32 := 1#32
  let v65 : BitVec 32 := Scalar.subi v64 c1_i32_43
  let c0_i32_45 : BitVec 32 := 0#32
  let v67 : BitVec 1 := Scalar.cmpi .sgt v65 c0_i32_45
  let v68 : BitVec 32 := Scalar.extui v67
  let c0_i32_46 : BitVec 32 := 0#32
  let v69 : BitVec 1 := Scalar.cmpi .slt v65 c0_i32_46
  let v70 : BitVec 32 := Scalar.extui v69
  let v71 : BitVec 32 := Scalar.subi v68 v70
  let c16_i32_44 : BitVec 32 := 16#32
  let c0_i32_47 : BitVec 32 := 0#32
  let v72 : BitVec 1 := Scalar.cmpi .sgt c16_i32_44 c0_i32_47
  let v73 : BitVec 32 := Scalar.extui v72
  let c0_i32_48 : BitVec 32 := 0#32
  let v74 : BitVec 1 := Scalar.cmpi .slt c16_i32_44 c0_i32_48
  let v75 : BitVec 32 := Scalar.extui v74
  let v76 : BitVec 32 := Scalar.subi v73 v75
  let v77 : BitVec 1 := Scalar.cmpi .ne v71 v76
  let v78 : BitVec 32 := Scalar.remsi v65 c16_i32_44
  let c0_i32_49 : BitVec 32 := 0#32
  let v79 : BitVec 1 := Scalar.cmpi .ne v78 c0_i32_49
  let v80 : BitVec 1 := Scalar.andi v77 v79
  let v66 : BitVec 32 := Scalar.divsi v65 c16_i32_44
  let c1_i32_50 : BitVec 32 := 1#32
  let v81 : BitVec 32 := Scalar.subi v66 c1_i32_50
  let v82 : BitVec 32 := Scalar.select v80 v81 v66
  let v86 : BitVec 32 := Scalar.subi v82 c0_i32_54
  let c1_i32_55 : BitVec 32 := 1#32
  let v88 : BitVec 32 := Scalar.divsi v86 c1_i32_55
  let v89 : BitVec 32 := Scalar.muli v88 c1_i32_55
  let v90 : BitVec 32 := Scalar.addi c0_i32_54 v89
  let c1_i32_57 : BitVec 32 := 1#32
  let arg18 : BitVec 32 := Scf.iv v90 c1_i32_57 k1_t8
  let c1_i32_58 : BitVec 32 := 1#32
  let v91 : BitVec 32 := Scalar.andi arg18 c1_i32_58
  let v202 : Index := Scalar.indexCast v91
  let c2_i32_83 : BitVec 32 := 2#32
  let c0_i32_79 : BitVec 32 := 0#32
  let c16_i32_68 : BitVec 32 := 16#32
  let v109 : BitVec 32 := Scalar.muli arg18 c16_i32_68
  let v110 : BitVec 32 := Scalar.subi v63 v109
  let c16_i32_69 : BitVec 32 := 16#32
  let v111 : BitVec 32 := Scalar.minsi v110 c16_i32_69
  let c1_i32_70 : BitVec 32 := 1#32
  let v112 : BitVec 32 := Scalar.addi v111 c1_i32_70
  let c0_i32_72 : BitVec 32 := 0#32
  let v114 : BitVec 1 := Scalar.cmpi .sgt v112 c0_i32_72
  let v115 : BitVec 32 := Scalar.extui v114
  let c0_i32_73 : BitVec 32 := 0#32
  let v116 : BitVec 1 := Scalar.cmpi .slt v112 c0_i32_73
  let v117 : BitVec 32 := Scalar.extui v116
  let v118 : BitVec 32 := Scalar.subi v115 v117
  let c2_i32_71 : BitVec 32 := 2#32
  let c0_i32_74 : BitVec 32 := 0#32
  let v119 : BitVec 1 := Scalar.cmpi .sgt c2_i32_71 c0_i32_74
  let v120 : BitVec 32 := Scalar.extui v119
  let c0_i32_75 : BitVec 32 := 0#32
  let v121 : BitVec 1 := Scalar.cmpi .slt c2_i32_71 c0_i32_75
  let v122 : BitVec 32 := Scalar.extui v121
  let v123 : BitVec 32 := Scalar.subi v120 v122
  let v124 : BitVec 1 := Scalar.cmpi .ne v118 v123
  let v125 : BitVec 32 := Scalar.remsi v112 c2_i32_71
  let c0_i32_76 : BitVec 32 := 0#32
  let v126 : BitVec 1 := Scalar.cmpi .ne v125 c0_i32_76
  let v127 : BitVec 1 := Scalar.andi v124 v126
  let v113 : BitVec 32 := Scalar.divsi v112 c2_i32_71
  let c1_i32_77 : BitVec 32 := 1#32
  let v128 : BitVec 32 := Scalar.subi v113 c1_i32_77
  let v129 : BitVec 32 := Scalar.select v127 v128 v113
  let v130 : BitVec 32 := Scalar.subi v129 c0_i32_79
  let c1_i32_80 : BitVec 32 := 1#32
  let v132 : BitVec 32 := Scalar.divsi v130 c1_i32_80
  let v133 : BitVec 32 := Scalar.muli v132 c1_i32_80
  let v134 : BitVec 32 := Scalar.addi c0_i32_79 v133
  let c1_i32_82 : BitVec 32 := 1#32
  let arg19 : BitVec 32 := Scf.iv v134 c1_i32_82 k1_t10
  let v135 : BitVec 32 := Scalar.muli c2_i32_83 arg19
  let v203 : Index := Scalar.indexCast v135
  let c64 : Index := 64#32
  ![v202.toNat, v203.toNat, 64]

def k1_chk70 (v199 : IVec S16 32) : Prop :=
  (∀ a x, ((![v199] : Fin 1 → IVec S16 32) a x).toNat < S40960.size a) ∧
  (∀ a x, ((![v199] : Fin 1 → IVec S16 32) a x).toNat < S40960.size a)
theorem k1_idx129_inb : ∀ (v199 : IVec S16 32) (k1_hw70 : k1_chk70 v199), ∀ a x, ((![v199] : Fin 1 → IVec S16 32) a x).toNat < S40960.size a := fun v199 k1_hw70 => k1_hw70.1
theorem k1_idx130_inb : ∀ (v199 : IVec S16 32) (k1_hw70 : k1_chk70 v199), ∀ a x, ((![v199] : Fin 1 → IVec S16 32) a x).toNat < S40960.size a := fun v199 k1_hw70 => k1_hw70.2
def k1_off74 (v63 : BitVec 32) (k1_t8 : Fin (k1_t8_loop v63).trips) (k1_t10 : Fin (k1_t10_loop v63 k1_t8).trips) : Fin 3 → Nat :=
  let c0_i32_54 : BitVec 32 := 0#32
  let c16_i32_42 : BitVec 32 := 16#32
  let v64 : BitVec 32 := Scalar.addi v63 c16_i32_42
  let c1_i32_43 : BitVec 32 := 1#32
  let v65 : BitVec 32 := Scalar.subi v64 c1_i32_43
  let c0_i32_45 : BitVec 32 := 0#32
  let v67 : BitVec 1 := Scalar.cmpi .sgt v65 c0_i32_45
  let v68 : BitVec 32 := Scalar.extui v67
  let c0_i32_46 : BitVec 32 := 0#32
  let v69 : BitVec 1 := Scalar.cmpi .slt v65 c0_i32_46
  let v70 : BitVec 32 := Scalar.extui v69
  let v71 : BitVec 32 := Scalar.subi v68 v70
  let c16_i32_44 : BitVec 32 := 16#32
  let c0_i32_47 : BitVec 32 := 0#32
  let v72 : BitVec 1 := Scalar.cmpi .sgt c16_i32_44 c0_i32_47
  let v73 : BitVec 32 := Scalar.extui v72
  let c0_i32_48 : BitVec 32 := 0#32
  let v74 : BitVec 1 := Scalar.cmpi .slt c16_i32_44 c0_i32_48
  let v75 : BitVec 32 := Scalar.extui v74
  let v76 : BitVec 32 := Scalar.subi v73 v75
  let v77 : BitVec 1 := Scalar.cmpi .ne v71 v76
  let v78 : BitVec 32 := Scalar.remsi v65 c16_i32_44
  let c0_i32_49 : BitVec 32 := 0#32
  let v79 : BitVec 1 := Scalar.cmpi .ne v78 c0_i32_49
  let v80 : BitVec 1 := Scalar.andi v77 v79
  let v66 : BitVec 32 := Scalar.divsi v65 c16_i32_44
  let c1_i32_50 : BitVec 32 := 1#32
  let v81 : BitVec 32 := Scalar.subi v66 c1_i32_50
  let v82 : BitVec 32 := Scalar.select v80 v81 v66
  let v86 : BitVec 32 := Scalar.subi v82 c0_i32_54
  let c1_i32_55 : BitVec 32 := 1#32
  let v88 : BitVec 32 := Scalar.divsi v86 c1_i32_55
  let v89 : BitVec 32 := Scalar.muli v88 c1_i32_55
  let v90 : BitVec 32 := Scalar.addi c0_i32_54 v89
  let c1_i32_57 : BitVec 32 := 1#32
  let arg18 : BitVec 32 := Scf.iv v90 c1_i32_57 k1_t8
  let c1_i32_58 : BitVec 32 := 1#32
  let v91 : BitVec 32 := Scalar.andi arg18 c1_i32_58
  let v207 : Index := Scalar.indexCast v91
  let c2_i32_84 : BitVec 32 := 2#32
  let c0_i32_79 : BitVec 32 := 0#32
  let c16_i32_68 : BitVec 32 := 16#32
  let v109 : BitVec 32 := Scalar.muli arg18 c16_i32_68
  let v110 : BitVec 32 := Scalar.subi v63 v109
  let c16_i32_69 : BitVec 32 := 16#32
  let v111 : BitVec 32 := Scalar.minsi v110 c16_i32_69
  let c1_i32_70 : BitVec 32 := 1#32
  let v112 : BitVec 32 := Scalar.addi v111 c1_i32_70
  let c0_i32_72 : BitVec 32 := 0#32
  let v114 : BitVec 1 := Scalar.cmpi .sgt v112 c0_i32_72
  let v115 : BitVec 32 := Scalar.extui v114
  let c0_i32_73 : BitVec 32 := 0#32
  let v116 : BitVec 1 := Scalar.cmpi .slt v112 c0_i32_73
  let v117 : BitVec 32 := Scalar.extui v116
  let v118 : BitVec 32 := Scalar.subi v115 v117
  let c2_i32_71 : BitVec 32 := 2#32
  let c0_i32_74 : BitVec 32 := 0#32
  let v119 : BitVec 1 := Scalar.cmpi .sgt c2_i32_71 c0_i32_74
  let v120 : BitVec 32 := Scalar.extui v119
  let c0_i32_75 : BitVec 32 := 0#32
  let v121 : BitVec 1 := Scalar.cmpi .slt c2_i32_71 c0_i32_75
  let v122 : BitVec 32 := Scalar.extui v121
  let v123 : BitVec 32 := Scalar.subi v120 v122
  let v124 : BitVec 1 := Scalar.cmpi .ne v118 v123
  let v125 : BitVec 32 := Scalar.remsi v112 c2_i32_71
  let c0_i32_76 : BitVec 32 := 0#32
  let v126 : BitVec 1 := Scalar.cmpi .ne v125 c0_i32_76
  let v127 : BitVec 1 := Scalar.andi v124 v126
  let v113 : BitVec 32 := Scalar.divsi v112 c2_i32_71
  let c1_i32_77 : BitVec 32 := 1#32
  let v128 : BitVec 32 := Scalar.subi v113 c1_i32_77
  let v129 : BitVec 32 := Scalar.select v127 v128 v113
  let v130 : BitVec 32 := Scalar.subi v129 c0_i32_79
  let c1_i32_80 : BitVec 32 := 1#32
  let v132 : BitVec 32 := Scalar.divsi v130 c1_i32_80
  let v133 : BitVec 32 := Scalar.muli v132 c1_i32_80
  let v134 : BitVec 32 := Scalar.addi c0_i32_79 v133
  let c1_i32_82 : BitVec 32 := 1#32
  let arg19 : BitVec 32 := Scf.iv v134 c1_i32_82 k1_t10
  let v136 : BitVec 32 := Scalar.muli c2_i32_84 arg19
  let c1_i32_85 : BitVec 32 := 1#32
  let v137 : BitVec 32 := Scalar.addi v136 c1_i32_85
  let v208 : Index := Scalar.indexCast v137
  let c64_95 : Index := 64#32
  ![v207.toNat, v208.toNat, 64]

def k1_chk71 (v200 : IVec S16 32) : Prop :=
  (∀ a x, ((![v200] : Fin 1 → IVec S16 32) a x).toNat < S40960.size a) ∧
  (∀ a x, ((![v200] : Fin 1 → IVec S16 32) a x).toNat < S40960.size a)
theorem k1_idx131_inb : ∀ (v200 : IVec S16 32) (k1_hw71 : k1_chk71 v200), ∀ a x, ((![v200] : Fin 1 → IVec S16 32) a x).toNat < S40960.size a := fun v200 k1_hw71 => k1_hw71.1
theorem k1_idx132_inb : ∀ (v200 : IVec S16 32) (k1_hw71 : k1_chk71 v200), ∀ a x, ((![v200] : Fin 1 → IVec S16 32) a x).toNat < S40960.size a := fun v200 k1_hw71 => k1_hw71.2
def k1_off75 (v63 : BitVec 32) (k1_t8 : Fin (k1_t8_loop v63).trips) (k1_t10 : Fin (k1_t10_loop v63 k1_t8).trips) : Fin 3 → Nat :=
  let c0_i32_54 : BitVec 32 := 0#32
  let c16_i32_42 : BitVec 32 := 16#32
  let v64 : BitVec 32 := Scalar.addi v63 c16_i32_42
  let c1_i32_43 : BitVec 32 := 1#32
  let v65 : BitVec 32 := Scalar.subi v64 c1_i32_43
  let c0_i32_45 : BitVec 32 := 0#32
  let v67 : BitVec 1 := Scalar.cmpi .sgt v65 c0_i32_45
  let v68 : BitVec 32 := Scalar.extui v67
  let c0_i32_46 : BitVec 32 := 0#32
  let v69 : BitVec 1 := Scalar.cmpi .slt v65 c0_i32_46
  let v70 : BitVec 32 := Scalar.extui v69
  let v71 : BitVec 32 := Scalar.subi v68 v70
  let c16_i32_44 : BitVec 32 := 16#32
  let c0_i32_47 : BitVec 32 := 0#32
  let v72 : BitVec 1 := Scalar.cmpi .sgt c16_i32_44 c0_i32_47
  let v73 : BitVec 32 := Scalar.extui v72
  let c0_i32_48 : BitVec 32 := 0#32
  let v74 : BitVec 1 := Scalar.cmpi .slt c16_i32_44 c0_i32_48
  let v75 : BitVec 32 := Scalar.extui v74
  let v76 : BitVec 32 := Scalar.subi v73 v75
  let v77 : BitVec 1 := Scalar.cmpi .ne v71 v76
  let v78 : BitVec 32 := Scalar.remsi v65 c16_i32_44
  let c0_i32_49 : BitVec 32 := 0#32
  let v79 : BitVec 1 := Scalar.cmpi .ne v78 c0_i32_49
  let v80 : BitVec 1 := Scalar.andi v77 v79
  let v66 : BitVec 32 := Scalar.divsi v65 c16_i32_44
  let c1_i32_50 : BitVec 32 := 1#32
  let v81 : BitVec 32 := Scalar.subi v66 c1_i32_50
  let v82 : BitVec 32 := Scalar.select v80 v81 v66
  let v86 : BitVec 32 := Scalar.subi v82 c0_i32_54
  let c1_i32_55 : BitVec 32 := 1#32
  let v88 : BitVec 32 := Scalar.divsi v86 c1_i32_55
  let v89 : BitVec 32 := Scalar.muli v88 c1_i32_55
  let v90 : BitVec 32 := Scalar.addi c0_i32_54 v89
  let c1_i32_57 : BitVec 32 := 1#32
  let arg18 : BitVec 32 := Scf.iv v90 c1_i32_57 k1_t8
  let c1_i32_58 : BitVec 32 := 1#32
  let v91 : BitVec 32 := Scalar.andi arg18 c1_i32_58
  let v214 : Index := Scalar.indexCast v91
  let c2_i32_83 : BitVec 32 := 2#32
  let c0_i32_79 : BitVec 32 := 0#32
  let c16_i32_68 : BitVec 32 := 16#32
  let v109 : BitVec 32 := Scalar.muli arg18 c16_i32_68
  let v110 : BitVec 32 := Scalar.subi v63 v109
  let c16_i32_69 : BitVec 32 := 16#32
  let v111 : BitVec 32 := Scalar.minsi v110 c16_i32_69
  let c1_i32_70 : BitVec 32 := 1#32
  let v112 : BitVec 32 := Scalar.addi v111 c1_i32_70
  let c0_i32_72 : BitVec 32 := 0#32
  let v114 : BitVec 1 := Scalar.cmpi .sgt v112 c0_i32_72
  let v115 : BitVec 32 := Scalar.extui v114
  let c0_i32_73 : BitVec 32 := 0#32
  let v116 : BitVec 1 := Scalar.cmpi .slt v112 c0_i32_73
  let v117 : BitVec 32 := Scalar.extui v116
  let v118 : BitVec 32 := Scalar.subi v115 v117
  let c2_i32_71 : BitVec 32 := 2#32
  let c0_i32_74 : BitVec 32 := 0#32
  let v119 : BitVec 1 := Scalar.cmpi .sgt c2_i32_71 c0_i32_74
  let v120 : BitVec 32 := Scalar.extui v119
  let c0_i32_75 : BitVec 32 := 0#32
  let v121 : BitVec 1 := Scalar.cmpi .slt c2_i32_71 c0_i32_75
  let v122 : BitVec 32 := Scalar.extui v121
  let v123 : BitVec 32 := Scalar.subi v120 v122
  let v124 : BitVec 1 := Scalar.cmpi .ne v118 v123
  let v125 : BitVec 32 := Scalar.remsi v112 c2_i32_71
  let c0_i32_76 : BitVec 32 := 0#32
  let v126 : BitVec 1 := Scalar.cmpi .ne v125 c0_i32_76
  let v127 : BitVec 1 := Scalar.andi v124 v126
  let v113 : BitVec 32 := Scalar.divsi v112 c2_i32_71
  let c1_i32_77 : BitVec 32 := 1#32
  let v128 : BitVec 32 := Scalar.subi v113 c1_i32_77
  let v129 : BitVec 32 := Scalar.select v127 v128 v113
  let v130 : BitVec 32 := Scalar.subi v129 c0_i32_79
  let c1_i32_80 : BitVec 32 := 1#32
  let v132 : BitVec 32 := Scalar.divsi v130 c1_i32_80
  let v133 : BitVec 32 := Scalar.muli v132 c1_i32_80
  let v134 : BitVec 32 := Scalar.addi c0_i32_79 v133
  let c1_i32_82 : BitVec 32 := 1#32
  let arg19 : BitVec 32 := Scf.iv v134 c1_i32_82 k1_t10
  let v135 : BitVec 32 := Scalar.muli c2_i32_83 arg19
  let v215 : Index := Scalar.indexCast v135
  let c80 : Index := 80#32
  ![v214.toNat, v215.toNat, 80]

def k1_chk72 (v211 : IVec S16 32) : Prop :=
  (∀ a x, ((![v211] : Fin 1 → IVec S16 32) a x).toNat < S40960.size a) ∧
  (∀ a x, ((![v211] : Fin 1 → IVec S16 32) a x).toNat < S40960.size a)
theorem k1_idx133_inb : ∀ (v211 : IVec S16 32) (k1_hw72 : k1_chk72 v211), ∀ a x, ((![v211] : Fin 1 → IVec S16 32) a x).toNat < S40960.size a := fun v211 k1_hw72 => k1_hw72.1
theorem k1_idx134_inb : ∀ (v211 : IVec S16 32) (k1_hw72 : k1_chk72 v211), ∀ a x, ((![v211] : Fin 1 → IVec S16 32) a x).toNat < S40960.size a := fun v211 k1_hw72 => k1_hw72.2
def k1_off76 (v63 : BitVec 32) (k1_t8 : Fin (k1_t8_loop v63).trips) (k1_t10 : Fin (k1_t10_loop v63 k1_t8).trips) : Fin 3 → Nat :=
  let c0_i32_54 : BitVec 32 := 0#32
  let c16_i32_42 : BitVec 32 := 16#32
  let v64 : BitVec 32 := Scalar.addi v63 c16_i32_42
  let c1_i32_43 : BitVec 32 := 1#32
  let v65 : BitVec 32 := Scalar.subi v64 c1_i32_43
  let c0_i32_45 : BitVec 32 := 0#32
  let v67 : BitVec 1 := Scalar.cmpi .sgt v65 c0_i32_45
  let v68 : BitVec 32 := Scalar.extui v67
  let c0_i32_46 : BitVec 32 := 0#32
  let v69 : BitVec 1 := Scalar.cmpi .slt v65 c0_i32_46
  let v70 : BitVec 32 := Scalar.extui v69
  let v71 : BitVec 32 := Scalar.subi v68 v70
  let c16_i32_44 : BitVec 32 := 16#32
  let c0_i32_47 : BitVec 32 := 0#32
  let v72 : BitVec 1 := Scalar.cmpi .sgt c16_i32_44 c0_i32_47
  let v73 : BitVec 32 := Scalar.extui v72
  let c0_i32_48 : BitVec 32 := 0#32
  let v74 : BitVec 1 := Scalar.cmpi .slt c16_i32_44 c0_i32_48
  let v75 : BitVec 32 := Scalar.extui v74
  let v76 : BitVec 32 := Scalar.subi v73 v75
  let v77 : BitVec 1 := Scalar.cmpi .ne v71 v76
  let v78 : BitVec 32 := Scalar.remsi v65 c16_i32_44
  let c0_i32_49 : BitVec 32 := 0#32
  let v79 : BitVec 1 := Scalar.cmpi .ne v78 c0_i32_49
  let v80 : BitVec 1 := Scalar.andi v77 v79
  let v66 : BitVec 32 := Scalar.divsi v65 c16_i32_44
  let c1_i32_50 : BitVec 32 := 1#32
  let v81 : BitVec 32 := Scalar.subi v66 c1_i32_50
  let v82 : BitVec 32 := Scalar.select v80 v81 v66
  let v86 : BitVec 32 := Scalar.subi v82 c0_i32_54
  let c1_i32_55 : BitVec 32 := 1#32
  let v88 : BitVec 32 := Scalar.divsi v86 c1_i32_55
  let v89 : BitVec 32 := Scalar.muli v88 c1_i32_55
  let v90 : BitVec 32 := Scalar.addi c0_i32_54 v89
  let c1_i32_57 : BitVec 32 := 1#32
  let arg18 : BitVec 32 := Scf.iv v90 c1_i32_57 k1_t8
  let c1_i32_58 : BitVec 32 := 1#32
  let v91 : BitVec 32 := Scalar.andi arg18 c1_i32_58
  let v219 : Index := Scalar.indexCast v91
  let c2_i32_84 : BitVec 32 := 2#32
  let c0_i32_79 : BitVec 32 := 0#32
  let c16_i32_68 : BitVec 32 := 16#32
  let v109 : BitVec 32 := Scalar.muli arg18 c16_i32_68
  let v110 : BitVec 32 := Scalar.subi v63 v109
  let c16_i32_69 : BitVec 32 := 16#32
  let v111 : BitVec 32 := Scalar.minsi v110 c16_i32_69
  let c1_i32_70 : BitVec 32 := 1#32
  let v112 : BitVec 32 := Scalar.addi v111 c1_i32_70
  let c0_i32_72 : BitVec 32 := 0#32
  let v114 : BitVec 1 := Scalar.cmpi .sgt v112 c0_i32_72
  let v115 : BitVec 32 := Scalar.extui v114
  let c0_i32_73 : BitVec 32 := 0#32
  let v116 : BitVec 1 := Scalar.cmpi .slt v112 c0_i32_73
  let v117 : BitVec 32 := Scalar.extui v116
  let v118 : BitVec 32 := Scalar.subi v115 v117
  let c2_i32_71 : BitVec 32 := 2#32
  let c0_i32_74 : BitVec 32 := 0#32
  let v119 : BitVec 1 := Scalar.cmpi .sgt c2_i32_71 c0_i32_74
  let v120 : BitVec 32 := Scalar.extui v119
  let c0_i32_75 : BitVec 32 := 0#32
  let v121 : BitVec 1 := Scalar.cmpi .slt c2_i32_71 c0_i32_75
  let v122 : BitVec 32 := Scalar.extui v121
  let v123 : BitVec 32 := Scalar.subi v120 v122
  let v124 : BitVec 1 := Scalar.cmpi .ne v118 v123
  let v125 : BitVec 32 := Scalar.remsi v112 c2_i32_71
  let c0_i32_76 : BitVec 32 := 0#32
  let v126 : BitVec 1 := Scalar.cmpi .ne v125 c0_i32_76
  let v127 : BitVec 1 := Scalar.andi v124 v126
  let v113 : BitVec 32 := Scalar.divsi v112 c2_i32_71
  let c1_i32_77 : BitVec 32 := 1#32
  let v128 : BitVec 32 := Scalar.subi v113 c1_i32_77
  let v129 : BitVec 32 := Scalar.select v127 v128 v113
  let v130 : BitVec 32 := Scalar.subi v129 c0_i32_79
  let c1_i32_80 : BitVec 32 := 1#32
  let v132 : BitVec 32 := Scalar.divsi v130 c1_i32_80
  let v133 : BitVec 32 := Scalar.muli v132 c1_i32_80
  let v134 : BitVec 32 := Scalar.addi c0_i32_79 v133
  let c1_i32_82 : BitVec 32 := 1#32
  let arg19 : BitVec 32 := Scf.iv v134 c1_i32_82 k1_t10
  let v136 : BitVec 32 := Scalar.muli c2_i32_84 arg19
  let c1_i32_85 : BitVec 32 := 1#32
  let v137 : BitVec 32 := Scalar.addi v136 c1_i32_85
  let v220 : Index := Scalar.indexCast v137
  let c80_96 : Index := 80#32
  ![v219.toNat, v220.toNat, 80]

def k1_chk73 (v212 : IVec S16 32) : Prop :=
  (∀ a x, ((![v212] : Fin 1 → IVec S16 32) a x).toNat < S40960.size a) ∧
  (∀ a x, ((![v212] : Fin 1 → IVec S16 32) a x).toNat < S40960.size a)
theorem k1_idx135_inb : ∀ (v212 : IVec S16 32) (k1_hw73 : k1_chk73 v212), ∀ a x, ((![v212] : Fin 1 → IVec S16 32) a x).toNat < S40960.size a := fun v212 k1_hw73 => k1_hw73.1
theorem k1_idx136_inb : ∀ (v212 : IVec S16 32) (k1_hw73 : k1_chk73 v212), ∀ a x, ((![v212] : Fin 1 → IVec S16 32) a x).toNat < S40960.size a := fun v212 k1_hw73 => k1_hw73.2
def k1_off77 (v63 : BitVec 32) (k1_t8 : Fin (k1_t8_loop v63).trips) (k1_t10 : Fin (k1_t10_loop v63 k1_t8).trips) : Fin 3 → Nat :=
  let c0_i32_54 : BitVec 32 := 0#32
  let c16_i32_42 : BitVec 32 := 16#32
  let v64 : BitVec 32 := Scalar.addi v63 c16_i32_42
  let c1_i32_43 : BitVec 32 := 1#32
  let v65 : BitVec 32 := Scalar.subi v64 c1_i32_43
  let c0_i32_45 : BitVec 32 := 0#32
  let v67 : BitVec 1 := Scalar.cmpi .sgt v65 c0_i32_45
  let v68 : BitVec 32 := Scalar.extui v67
  let c0_i32_46 : BitVec 32 := 0#32
  let v69 : BitVec 1 := Scalar.cmpi .slt v65 c0_i32_46
  let v70 : BitVec 32 := Scalar.extui v69
  let v71 : BitVec 32 := Scalar.subi v68 v70
  let c16_i32_44 : BitVec 32 := 16#32
  let c0_i32_47 : BitVec 32 := 0#32
  let v72 : BitVec 1 := Scalar.cmpi .sgt c16_i32_44 c0_i32_47
  let v73 : BitVec 32 := Scalar.extui v72
  let c0_i32_48 : BitVec 32 := 0#32
  let v74 : BitVec 1 := Scalar.cmpi .slt c16_i32_44 c0_i32_48
  let v75 : BitVec 32 := Scalar.extui v74
  let v76 : BitVec 32 := Scalar.subi v73 v75
  let v77 : BitVec 1 := Scalar.cmpi .ne v71 v76
  let v78 : BitVec 32 := Scalar.remsi v65 c16_i32_44
  let c0_i32_49 : BitVec 32 := 0#32
  let v79 : BitVec 1 := Scalar.cmpi .ne v78 c0_i32_49
  let v80 : BitVec 1 := Scalar.andi v77 v79
  let v66 : BitVec 32 := Scalar.divsi v65 c16_i32_44
  let c1_i32_50 : BitVec 32 := 1#32
  let v81 : BitVec 32 := Scalar.subi v66 c1_i32_50
  let v82 : BitVec 32 := Scalar.select v80 v81 v66
  let v86 : BitVec 32 := Scalar.subi v82 c0_i32_54
  let c1_i32_55 : BitVec 32 := 1#32
  let v88 : BitVec 32 := Scalar.divsi v86 c1_i32_55
  let v89 : BitVec 32 := Scalar.muli v88 c1_i32_55
  let v90 : BitVec 32 := Scalar.addi c0_i32_54 v89
  let c1_i32_57 : BitVec 32 := 1#32
  let arg18 : BitVec 32 := Scf.iv v90 c1_i32_57 k1_t8
  let c1_i32_58 : BitVec 32 := 1#32
  let v91 : BitVec 32 := Scalar.andi arg18 c1_i32_58
  let v226 : Index := Scalar.indexCast v91
  let c2_i32_83 : BitVec 32 := 2#32
  let c0_i32_79 : BitVec 32 := 0#32
  let c16_i32_68 : BitVec 32 := 16#32
  let v109 : BitVec 32 := Scalar.muli arg18 c16_i32_68
  let v110 : BitVec 32 := Scalar.subi v63 v109
  let c16_i32_69 : BitVec 32 := 16#32
  let v111 : BitVec 32 := Scalar.minsi v110 c16_i32_69
  let c1_i32_70 : BitVec 32 := 1#32
  let v112 : BitVec 32 := Scalar.addi v111 c1_i32_70
  let c0_i32_72 : BitVec 32 := 0#32
  let v114 : BitVec 1 := Scalar.cmpi .sgt v112 c0_i32_72
  let v115 : BitVec 32 := Scalar.extui v114
  let c0_i32_73 : BitVec 32 := 0#32
  let v116 : BitVec 1 := Scalar.cmpi .slt v112 c0_i32_73
  let v117 : BitVec 32 := Scalar.extui v116
  let v118 : BitVec 32 := Scalar.subi v115 v117
  let c2_i32_71 : BitVec 32 := 2#32
  let c0_i32_74 : BitVec 32 := 0#32
  let v119 : BitVec 1 := Scalar.cmpi .sgt c2_i32_71 c0_i32_74
  let v120 : BitVec 32 := Scalar.extui v119
  let c0_i32_75 : BitVec 32 := 0#32
  let v121 : BitVec 1 := Scalar.cmpi .slt c2_i32_71 c0_i32_75
  let v122 : BitVec 32 := Scalar.extui v121
  let v123 : BitVec 32 := Scalar.subi v120 v122
  let v124 : BitVec 1 := Scalar.cmpi .ne v118 v123
  let v125 : BitVec 32 := Scalar.remsi v112 c2_i32_71
  let c0_i32_76 : BitVec 32 := 0#32
  let v126 : BitVec 1 := Scalar.cmpi .ne v125 c0_i32_76
  let v127 : BitVec 1 := Scalar.andi v124 v126
  let v113 : BitVec 32 := Scalar.divsi v112 c2_i32_71
  let c1_i32_77 : BitVec 32 := 1#32
  let v128 : BitVec 32 := Scalar.subi v113 c1_i32_77
  let v129 : BitVec 32 := Scalar.select v127 v128 v113
  let v130 : BitVec 32 := Scalar.subi v129 c0_i32_79
  let c1_i32_80 : BitVec 32 := 1#32
  let v132 : BitVec 32 := Scalar.divsi v130 c1_i32_80
  let v133 : BitVec 32 := Scalar.muli v132 c1_i32_80
  let v134 : BitVec 32 := Scalar.addi c0_i32_79 v133
  let c1_i32_82 : BitVec 32 := 1#32
  let arg19 : BitVec 32 := Scf.iv v134 c1_i32_82 k1_t10
  let v135 : BitVec 32 := Scalar.muli c2_i32_83 arg19
  let v227 : Index := Scalar.indexCast v135
  let c96 : Index := 96#32
  ![v226.toNat, v227.toNat, 96]

def k1_chk74 (v223 : IVec S16 32) : Prop :=
  (∀ a x, ((![v223] : Fin 1 → IVec S16 32) a x).toNat < S40960.size a) ∧
  (∀ a x, ((![v223] : Fin 1 → IVec S16 32) a x).toNat < S40960.size a)
theorem k1_idx137_inb : ∀ (v223 : IVec S16 32) (k1_hw74 : k1_chk74 v223), ∀ a x, ((![v223] : Fin 1 → IVec S16 32) a x).toNat < S40960.size a := fun v223 k1_hw74 => k1_hw74.1
theorem k1_idx138_inb : ∀ (v223 : IVec S16 32) (k1_hw74 : k1_chk74 v223), ∀ a x, ((![v223] : Fin 1 → IVec S16 32) a x).toNat < S40960.size a := fun v223 k1_hw74 => k1_hw74.2
def k1_off78 (v63 : BitVec 32) (k1_t8 : Fin (k1_t8_loop v63).trips) (k1_t10 : Fin (k1_t10_loop v63 k1_t8).trips) : Fin 3 → Nat :=
  let c0_i32_54 : BitVec 32 := 0#32
  let c16_i32_42 : BitVec 32 := 16#32
  let v64 : BitVec 32 := Scalar.addi v63 c16_i32_42
  let c1_i32_43 : BitVec 32 := 1#32
  let v65 : BitVec 32 := Scalar.subi v64 c1_i32_43
  let c0_i32_45 : BitVec 32 := 0#32
  let v67 : BitVec 1 := Scalar.cmpi .sgt v65 c0_i32_45
  let v68 : BitVec 32 := Scalar.extui v67
  let c0_i32_46 : BitVec 32 := 0#32
  let v69 : BitVec 1 := Scalar.cmpi .slt v65 c0_i32_46
  let v70 : BitVec 32 := Scalar.extui v69
  let v71 : BitVec 32 := Scalar.subi v68 v70
  let c16_i32_44 : BitVec 32 := 16#32
  let c0_i32_47 : BitVec 32 := 0#32
  let v72 : BitVec 1 := Scalar.cmpi .sgt c16_i32_44 c0_i32_47
  let v73 : BitVec 32 := Scalar.extui v72
  let c0_i32_48 : BitVec 32 := 0#32
  let v74 : BitVec 1 := Scalar.cmpi .slt c16_i32_44 c0_i32_48
  let v75 : BitVec 32 := Scalar.extui v74
  let v76 : BitVec 32 := Scalar.subi v73 v75
  let v77 : BitVec 1 := Scalar.cmpi .ne v71 v76
  let v78 : BitVec 32 := Scalar.remsi v65 c16_i32_44
  let c0_i32_49 : BitVec 32 := 0#32
  let v79 : BitVec 1 := Scalar.cmpi .ne v78 c0_i32_49
  let v80 : BitVec 1 := Scalar.andi v77 v79
  let v66 : BitVec 32 := Scalar.divsi v65 c16_i32_44
  let c1_i32_50 : BitVec 32 := 1#32
  let v81 : BitVec 32 := Scalar.subi v66 c1_i32_50
  let v82 : BitVec 32 := Scalar.select v80 v81 v66
  let v86 : BitVec 32 := Scalar.subi v82 c0_i32_54
  let c1_i32_55 : BitVec 32 := 1#32
  let v88 : BitVec 32 := Scalar.divsi v86 c1_i32_55
  let v89 : BitVec 32 := Scalar.muli v88 c1_i32_55
  let v90 : BitVec 32 := Scalar.addi c0_i32_54 v89
  let c1_i32_57 : BitVec 32 := 1#32
  let arg18 : BitVec 32 := Scf.iv v90 c1_i32_57 k1_t8
  let c1_i32_58 : BitVec 32 := 1#32
  let v91 : BitVec 32 := Scalar.andi arg18 c1_i32_58
  let v231 : Index := Scalar.indexCast v91
  let c2_i32_84 : BitVec 32 := 2#32
  let c0_i32_79 : BitVec 32 := 0#32
  let c16_i32_68 : BitVec 32 := 16#32
  let v109 : BitVec 32 := Scalar.muli arg18 c16_i32_68
  let v110 : BitVec 32 := Scalar.subi v63 v109
  let c16_i32_69 : BitVec 32 := 16#32
  let v111 : BitVec 32 := Scalar.minsi v110 c16_i32_69
  let c1_i32_70 : BitVec 32 := 1#32
  let v112 : BitVec 32 := Scalar.addi v111 c1_i32_70
  let c0_i32_72 : BitVec 32 := 0#32
  let v114 : BitVec 1 := Scalar.cmpi .sgt v112 c0_i32_72
  let v115 : BitVec 32 := Scalar.extui v114
  let c0_i32_73 : BitVec 32 := 0#32
  let v116 : BitVec 1 := Scalar.cmpi .slt v112 c0_i32_73
  let v117 : BitVec 32 := Scalar.extui v116
  let v118 : BitVec 32 := Scalar.subi v115 v117
  let c2_i32_71 : BitVec 32 := 2#32
  let c0_i32_74 : BitVec 32 := 0#32
  let v119 : BitVec 1 := Scalar.cmpi .sgt c2_i32_71 c0_i32_74
  let v120 : BitVec 32 := Scalar.extui v119
  let c0_i32_75 : BitVec 32 := 0#32
  let v121 : BitVec 1 := Scalar.cmpi .slt c2_i32_71 c0_i32_75
  let v122 : BitVec 32 := Scalar.extui v121
  let v123 : BitVec 32 := Scalar.subi v120 v122
  let v124 : BitVec 1 := Scalar.cmpi .ne v118 v123
  let v125 : BitVec 32 := Scalar.remsi v112 c2_i32_71
  let c0_i32_76 : BitVec 32 := 0#32
  let v126 : BitVec 1 := Scalar.cmpi .ne v125 c0_i32_76
  let v127 : BitVec 1 := Scalar.andi v124 v126
  let v113 : BitVec 32 := Scalar.divsi v112 c2_i32_71
  let c1_i32_77 : BitVec 32 := 1#32
  let v128 : BitVec 32 := Scalar.subi v113 c1_i32_77
  let v129 : BitVec 32 := Scalar.select v127 v128 v113
  let v130 : BitVec 32 := Scalar.subi v129 c0_i32_79
  let c1_i32_80 : BitVec 32 := 1#32
  let v132 : BitVec 32 := Scalar.divsi v130 c1_i32_80
  let v133 : BitVec 32 := Scalar.muli v132 c1_i32_80
  let v134 : BitVec 32 := Scalar.addi c0_i32_79 v133
  let c1_i32_82 : BitVec 32 := 1#32
  let arg19 : BitVec 32 := Scf.iv v134 c1_i32_82 k1_t10
  let v136 : BitVec 32 := Scalar.muli c2_i32_84 arg19
  let c1_i32_85 : BitVec 32 := 1#32
  let v137 : BitVec 32 := Scalar.addi v136 c1_i32_85
  let v232 : Index := Scalar.indexCast v137
  let c96_97 : Index := 96#32
  ![v231.toNat, v232.toNat, 96]

def k1_chk75 (v224 : IVec S16 32) : Prop :=
  (∀ a x, ((![v224] : Fin 1 → IVec S16 32) a x).toNat < S40960.size a) ∧
  (∀ a x, ((![v224] : Fin 1 → IVec S16 32) a x).toNat < S40960.size a)
theorem k1_idx139_inb : ∀ (v224 : IVec S16 32) (k1_hw75 : k1_chk75 v224), ∀ a x, ((![v224] : Fin 1 → IVec S16 32) a x).toNat < S40960.size a := fun v224 k1_hw75 => k1_hw75.1
theorem k1_idx140_inb : ∀ (v224 : IVec S16 32) (k1_hw75 : k1_chk75 v224), ∀ a x, ((![v224] : Fin 1 → IVec S16 32) a x).toNat < S40960.size a := fun v224 k1_hw75 => k1_hw75.2
def k1_off79 (v63 : BitVec 32) (k1_t8 : Fin (k1_t8_loop v63).trips) (k1_t10 : Fin (k1_t10_loop v63 k1_t8).trips) : Fin 3 → Nat :=
  let c0_i32_54 : BitVec 32 := 0#32
  let c16_i32_42 : BitVec 32 := 16#32
  let v64 : BitVec 32 := Scalar.addi v63 c16_i32_42
  let c1_i32_43 : BitVec 32 := 1#32
  let v65 : BitVec 32 := Scalar.subi v64 c1_i32_43
  let c0_i32_45 : BitVec 32 := 0#32
  let v67 : BitVec 1 := Scalar.cmpi .sgt v65 c0_i32_45
  let v68 : BitVec 32 := Scalar.extui v67
  let c0_i32_46 : BitVec 32 := 0#32
  let v69 : BitVec 1 := Scalar.cmpi .slt v65 c0_i32_46
  let v70 : BitVec 32 := Scalar.extui v69
  let v71 : BitVec 32 := Scalar.subi v68 v70
  let c16_i32_44 : BitVec 32 := 16#32
  let c0_i32_47 : BitVec 32 := 0#32
  let v72 : BitVec 1 := Scalar.cmpi .sgt c16_i32_44 c0_i32_47
  let v73 : BitVec 32 := Scalar.extui v72
  let c0_i32_48 : BitVec 32 := 0#32
  let v74 : BitVec 1 := Scalar.cmpi .slt c16_i32_44 c0_i32_48
  let v75 : BitVec 32 := Scalar.extui v74
  let v76 : BitVec 32 := Scalar.subi v73 v75
  let v77 : BitVec 1 := Scalar.cmpi .ne v71 v76
  let v78 : BitVec 32 := Scalar.remsi v65 c16_i32_44
  let c0_i32_49 : BitVec 32 := 0#32
  let v79 : BitVec 1 := Scalar.cmpi .ne v78 c0_i32_49
  let v80 : BitVec 1 := Scalar.andi v77 v79
  let v66 : BitVec 32 := Scalar.divsi v65 c16_i32_44
  let c1_i32_50 : BitVec 32 := 1#32
  let v81 : BitVec 32 := Scalar.subi v66 c1_i32_50
  let v82 : BitVec 32 := Scalar.select v80 v81 v66
  let v86 : BitVec 32 := Scalar.subi v82 c0_i32_54
  let c1_i32_55 : BitVec 32 := 1#32
  let v88 : BitVec 32 := Scalar.divsi v86 c1_i32_55
  let v89 : BitVec 32 := Scalar.muli v88 c1_i32_55
  let v90 : BitVec 32 := Scalar.addi c0_i32_54 v89
  let c1_i32_57 : BitVec 32 := 1#32
  let arg18 : BitVec 32 := Scf.iv v90 c1_i32_57 k1_t8
  let c1_i32_58 : BitVec 32 := 1#32
  let v91 : BitVec 32 := Scalar.andi arg18 c1_i32_58
  let v238 : Index := Scalar.indexCast v91
  let c2_i32_83 : BitVec 32 := 2#32
  let c0_i32_79 : BitVec 32 := 0#32
  let c16_i32_68 : BitVec 32 := 16#32
  let v109 : BitVec 32 := Scalar.muli arg18 c16_i32_68
  let v110 : BitVec 32 := Scalar.subi v63 v109
  let c16_i32_69 : BitVec 32 := 16#32
  let v111 : BitVec 32 := Scalar.minsi v110 c16_i32_69
  let c1_i32_70 : BitVec 32 := 1#32
  let v112 : BitVec 32 := Scalar.addi v111 c1_i32_70
  let c0_i32_72 : BitVec 32 := 0#32
  let v114 : BitVec 1 := Scalar.cmpi .sgt v112 c0_i32_72
  let v115 : BitVec 32 := Scalar.extui v114
  let c0_i32_73 : BitVec 32 := 0#32
  let v116 : BitVec 1 := Scalar.cmpi .slt v112 c0_i32_73
  let v117 : BitVec 32 := Scalar.extui v116
  let v118 : BitVec 32 := Scalar.subi v115 v117
  let c2_i32_71 : BitVec 32 := 2#32
  let c0_i32_74 : BitVec 32 := 0#32
  let v119 : BitVec 1 := Scalar.cmpi .sgt c2_i32_71 c0_i32_74
  let v120 : BitVec 32 := Scalar.extui v119
  let c0_i32_75 : BitVec 32 := 0#32
  let v121 : BitVec 1 := Scalar.cmpi .slt c2_i32_71 c0_i32_75
  let v122 : BitVec 32 := Scalar.extui v121
  let v123 : BitVec 32 := Scalar.subi v120 v122
  let v124 : BitVec 1 := Scalar.cmpi .ne v118 v123
  let v125 : BitVec 32 := Scalar.remsi v112 c2_i32_71
  let c0_i32_76 : BitVec 32 := 0#32
  let v126 : BitVec 1 := Scalar.cmpi .ne v125 c0_i32_76
  let v127 : BitVec 1 := Scalar.andi v124 v126
  let v113 : BitVec 32 := Scalar.divsi v112 c2_i32_71
  let c1_i32_77 : BitVec 32 := 1#32
  let v128 : BitVec 32 := Scalar.subi v113 c1_i32_77
  let v129 : BitVec 32 := Scalar.select v127 v128 v113
  let v130 : BitVec 32 := Scalar.subi v129 c0_i32_79
  let c1_i32_80 : BitVec 32 := 1#32
  let v132 : BitVec 32 := Scalar.divsi v130 c1_i32_80
  let v133 : BitVec 32 := Scalar.muli v132 c1_i32_80
  let v134 : BitVec 32 := Scalar.addi c0_i32_79 v133
  let c1_i32_82 : BitVec 32 := 1#32
  let arg19 : BitVec 32 := Scf.iv v134 c1_i32_82 k1_t10
  let v135 : BitVec 32 := Scalar.muli c2_i32_83 arg19
  let v239 : Index := Scalar.indexCast v135
  let c112 : Index := 112#32
  ![v238.toNat, v239.toNat, 112]

def k1_chk76 (v235 : IVec S16 32) : Prop :=
  (∀ a x, ((![v235] : Fin 1 → IVec S16 32) a x).toNat < S40960.size a) ∧
  (∀ a x, ((![v235] : Fin 1 → IVec S16 32) a x).toNat < S40960.size a)
theorem k1_idx141_inb : ∀ (v235 : IVec S16 32) (k1_hw76 : k1_chk76 v235), ∀ a x, ((![v235] : Fin 1 → IVec S16 32) a x).toNat < S40960.size a := fun v235 k1_hw76 => k1_hw76.1
theorem k1_idx142_inb : ∀ (v235 : IVec S16 32) (k1_hw76 : k1_chk76 v235), ∀ a x, ((![v235] : Fin 1 → IVec S16 32) a x).toNat < S40960.size a := fun v235 k1_hw76 => k1_hw76.2
def k1_off80 (v63 : BitVec 32) (k1_t8 : Fin (k1_t8_loop v63).trips) (k1_t10 : Fin (k1_t10_loop v63 k1_t8).trips) : Fin 3 → Nat :=
  let c0_i32_54 : BitVec 32 := 0#32
  let c16_i32_42 : BitVec 32 := 16#32
  let v64 : BitVec 32 := Scalar.addi v63 c16_i32_42
  let c1_i32_43 : BitVec 32 := 1#32
  let v65 : BitVec 32 := Scalar.subi v64 c1_i32_43
  let c0_i32_45 : BitVec 32 := 0#32
  let v67 : BitVec 1 := Scalar.cmpi .sgt v65 c0_i32_45
  let v68 : BitVec 32 := Scalar.extui v67
  let c0_i32_46 : BitVec 32 := 0#32
  let v69 : BitVec 1 := Scalar.cmpi .slt v65 c0_i32_46
  let v70 : BitVec 32 := Scalar.extui v69
  let v71 : BitVec 32 := Scalar.subi v68 v70
  let c16_i32_44 : BitVec 32 := 16#32
  let c0_i32_47 : BitVec 32 := 0#32
  let v72 : BitVec 1 := Scalar.cmpi .sgt c16_i32_44 c0_i32_47
  let v73 : BitVec 32 := Scalar.extui v72
  let c0_i32_48 : BitVec 32 := 0#32
  let v74 : BitVec 1 := Scalar.cmpi .slt c16_i32_44 c0_i32_48
  let v75 : BitVec 32 := Scalar.extui v74
  let v76 : BitVec 32 := Scalar.subi v73 v75
  let v77 : BitVec 1 := Scalar.cmpi .ne v71 v76
  let v78 : BitVec 32 := Scalar.remsi v65 c16_i32_44
  let c0_i32_49 : BitVec 32 := 0#32
  let v79 : BitVec 1 := Scalar.cmpi .ne v78 c0_i32_49
  let v80 : BitVec 1 := Scalar.andi v77 v79
  let v66 : BitVec 32 := Scalar.divsi v65 c16_i32_44
  let c1_i32_50 : BitVec 32 := 1#32
  let v81 : BitVec 32 := Scalar.subi v66 c1_i32_50
  let v82 : BitVec 32 := Scalar.select v80 v81 v66
  let v86 : BitVec 32 := Scalar.subi v82 c0_i32_54
  let c1_i32_55 : BitVec 32 := 1#32
  let v88 : BitVec 32 := Scalar.divsi v86 c1_i32_55
  let v89 : BitVec 32 := Scalar.muli v88 c1_i32_55
  let v90 : BitVec 32 := Scalar.addi c0_i32_54 v89
  let c1_i32_57 : BitVec 32 := 1#32
  let arg18 : BitVec 32 := Scf.iv v90 c1_i32_57 k1_t8
  let c1_i32_58 : BitVec 32 := 1#32
  let v91 : BitVec 32 := Scalar.andi arg18 c1_i32_58
  let v243 : Index := Scalar.indexCast v91
  let c2_i32_84 : BitVec 32 := 2#32
  let c0_i32_79 : BitVec 32 := 0#32
  let c16_i32_68 : BitVec 32 := 16#32
  let v109 : BitVec 32 := Scalar.muli arg18 c16_i32_68
  let v110 : BitVec 32 := Scalar.subi v63 v109
  let c16_i32_69 : BitVec 32 := 16#32
  let v111 : BitVec 32 := Scalar.minsi v110 c16_i32_69
  let c1_i32_70 : BitVec 32 := 1#32
  let v112 : BitVec 32 := Scalar.addi v111 c1_i32_70
  let c0_i32_72 : BitVec 32 := 0#32
  let v114 : BitVec 1 := Scalar.cmpi .sgt v112 c0_i32_72
  let v115 : BitVec 32 := Scalar.extui v114
  let c0_i32_73 : BitVec 32 := 0#32
  let v116 : BitVec 1 := Scalar.cmpi .slt v112 c0_i32_73
  let v117 : BitVec 32 := Scalar.extui v116
  let v118 : BitVec 32 := Scalar.subi v115 v117
  let c2_i32_71 : BitVec 32 := 2#32
  let c0_i32_74 : BitVec 32 := 0#32
  let v119 : BitVec 1 := Scalar.cmpi .sgt c2_i32_71 c0_i32_74
  let v120 : BitVec 32 := Scalar.extui v119
  let c0_i32_75 : BitVec 32 := 0#32
  let v121 : BitVec 1 := Scalar.cmpi .slt c2_i32_71 c0_i32_75
  let v122 : BitVec 32 := Scalar.extui v121
  let v123 : BitVec 32 := Scalar.subi v120 v122
  let v124 : BitVec 1 := Scalar.cmpi .ne v118 v123
  let v125 : BitVec 32 := Scalar.remsi v112 c2_i32_71
  let c0_i32_76 : BitVec 32 := 0#32
  let v126 : BitVec 1 := Scalar.cmpi .ne v125 c0_i32_76
  let v127 : BitVec 1 := Scalar.andi v124 v126
  let v113 : BitVec 32 := Scalar.divsi v112 c2_i32_71
  let c1_i32_77 : BitVec 32 := 1#32
  let v128 : BitVec 32 := Scalar.subi v113 c1_i32_77
  let v129 : BitVec 32 := Scalar.select v127 v128 v113
  let v130 : BitVec 32 := Scalar.subi v129 c0_i32_79
  let c1_i32_80 : BitVec 32 := 1#32
  let v132 : BitVec 32 := Scalar.divsi v130 c1_i32_80
  let v133 : BitVec 32 := Scalar.muli v132 c1_i32_80
  let v134 : BitVec 32 := Scalar.addi c0_i32_79 v133
  let c1_i32_82 : BitVec 32 := 1#32
  let arg19 : BitVec 32 := Scf.iv v134 c1_i32_82 k1_t10
  let v136 : BitVec 32 := Scalar.muli c2_i32_84 arg19
  let c1_i32_85 : BitVec 32 := 1#32
  let v137 : BitVec 32 := Scalar.addi v136 c1_i32_85
  let v244 : Index := Scalar.indexCast v137
  let c112_98 : Index := 112#32
  ![v243.toNat, v244.toNat, 112]

def k1_chk5_0 (v63 : BitVec 32) : Prop :=
  ((k1_t5_loop v63).OK) ∧
  (∀ k1_t5 : Fin (k1_t5_loop v63).trips, ∀ (k1_h8 : k1_cond8 v63 k1_t5 = 1#1), ∀ a, (k1_off9 v63 k1_t5) a + S16.size a ≤ S784.size a) ∧
  (∀ k1_t5 : Fin (k1_t5_loop v63).trips, ∀ (k1_h9 : k1_cond9 v63 k1_t5 = 1#1), ∀ a, (k1_off10 v63 k1_t5) a + S16.size a ≤ S784.size a) ∧
  (∀ k1_t5 : Fin (k1_t5_loop v63).trips, ∀ (k1_h10 : k1_cond10 v63 k1_t5 = 1#1), ∀ a, (k1_off11 v63 k1_t5) a + S16.size a ≤ S784.size a) ∧
  (∀ k1_t5 : Fin (k1_t5_loop v63).trips, ∀ (k1_h11 : k1_cond11 v63 k1_t5 = 1#1), ∀ a, (k1_off12 v63 k1_t5) a + S16.size a ≤ S784.size a) ∧
  (∀ k1_t5 : Fin (k1_t5_loop v63).trips, (k1_t6_loop v63 k1_t5).OK) ∧
  (∀ (k1_t5 : Fin (k1_t5_loop v63).trips) (k1_t6 : Fin (k1_t6_loop v63 k1_t5).trips), ∀ a, (k1_off13 v63 k1_t5 k1_t6) a + S1x1x16.size a ≤ S2x16x128.size a) ∧
  (∀ (k1_t5 : Fin (k1_t5_loop v63).trips) (k1_t6 : Fin (k1_t6_loop v63 k1_t5).trips), ∀ a, (k1_off14 v63 k1_t5 k1_t6) a + S1x1x16.size a ≤ S2x16x128.size a) ∧
  (∀ (k1_t5 : Fin (k1_t5_loop v63).trips) (k1_t6 : Fin (k1_t6_loop v63 k1_t5).trips), ∀ a, (k1_off15 v63 k1_t5 k1_t6) a + S1x1x16.size a ≤ S2x16x128.size a) ∧
  (∀ (k1_t5 : Fin (k1_t5_loop v63).trips) (k1_t6 : Fin (k1_t6_loop v63 k1_t5).trips), ∀ a, (k1_off16 v63 k1_t5 k1_t6) a + S1x1x16.size a ≤ S2x16x128.size a) ∧
  (∀ (k1_t5 : Fin (k1_t5_loop v63).trips) (k1_t6 : Fin (k1_t6_loop v63 k1_t5).trips), ∀ a, (k1_off17 v63 k1_t5 k1_t6) a + S1x1x16.size a ≤ S2x16x128.size a) ∧
  (∀ (k1_t5 : Fin (k1_t5_loop v63).trips) (k1_t6 : Fin (k1_t6_loop v63 k1_t5).trips), ∀ a, (k1_off18 v63 k1_t5 k1_t6) a + S1x1x16.size a ≤ S2x16x128.size a) ∧
  (∀ (k1_t5 : Fin (k1_t5_loop v63).trips) (k1_t6 : Fin (k1_t6_loop v63 k1_t5).trips), ∀ a, (k1_off19 v63 k1_t5 k1_t6) a + S1x1x16.size a ≤ S2x16x128.size a) ∧
  (∀ (k1_t5 : Fin (k1_t5_loop v63).trips) (k1_t6 : Fin (k1_t6_loop v63 k1_t5).trips), ∀ a, (k1_off20 v63 k1_t5 k1_t6) a + S1x1x16.size a ≤ S2x16x128.size a) ∧
  (∀ (k1_t5 : Fin (k1_t5_loop v63).trips) (k1_t6 : Fin (k1_t6_loop v63 k1_t5).trips), ∀ a, (k1_off21 v63 k1_t5 k1_t6) a + S1x1x16.size a ≤ S2x16x128.size a) ∧
  (∀ (k1_t5 : Fin (k1_t5_loop v63).trips) (k1_t6 : Fin (k1_t6_loop v63 k1_t5).trips), ∀ a, (k1_off22 v63 k1_t5 k1_t6) a + S1x1x16.size a ≤ S2x16x128.size a) ∧
  (∀ (k1_t5 : Fin (k1_t5_loop v63).trips) (k1_t6 : Fin (k1_t6_loop v63 k1_t5).trips), ∀ a, (k1_off23 v63 k1_t5 k1_t6) a + S1x1x16.size a ≤ S2x16x128.size a) ∧
  (∀ (k1_t5 : Fin (k1_t5_loop v63).trips) (k1_t6 : Fin (k1_t6_loop v63 k1_t5).trips), ∀ a, (k1_off24 v63 k1_t5 k1_t6) a + S1x1x16.size a ≤ S2x16x128.size a) ∧
  (∀ (k1_t5 : Fin (k1_t5_loop v63).trips) (k1_t6 : Fin (k1_t6_loop v63 k1_t5).trips), ∀ a, (k1_off25 v63 k1_t5 k1_t6) a + S1x1x16.size a ≤ S2x16x128.size a) ∧
  (∀ (k1_t5 : Fin (k1_t5_loop v63).trips) (k1_t6 : Fin (k1_t6_loop v63 k1_t5).trips), ∀ a, (k1_off26 v63 k1_t5 k1_t6) a + S1x1x16.size a ≤ S2x16x128.size a) ∧
  (∀ (k1_t5 : Fin (k1_t5_loop v63).trips) (k1_t6 : Fin (k1_t6_loop v63 k1_t5).trips), ∀ a, (k1_off27 v63 k1_t5 k1_t6) a + S1x1x16.size a ≤ S2x16x128.size a) ∧
  (∀ (k1_t5 : Fin (k1_t5_loop v63).trips) (k1_t6 : Fin (k1_t6_loop v63 k1_t5).trips), ∀ a, (k1_off28 v63 k1_t5 k1_t6) a + S1x1x16.size a ≤ S2x16x128.size a) ∧
  (∀ k1_t5 : Fin (k1_t5_loop v63).trips, (k1_t7_loop v63 k1_t5).OK) ∧
  (∀ (k1_t5 : Fin (k1_t5_loop v63).trips) (k1_t7 : Fin (k1_t7_loop v63 k1_t5).trips), ∀ a, (k1_off29 v63 k1_t5 k1_t7) a + S1x1x16.size a ≤ S2x16x128.size a) ∧
  (∀ (k1_t5 : Fin (k1_t5_loop v63).trips) (k1_t7 : Fin (k1_t7_loop v63 k1_t5).trips), ∀ a, (k1_off30 v63 k1_t5 k1_t7) a + S1x1x16.size a ≤ S2x16x128.size a) ∧
  (∀ (k1_t5 : Fin (k1_t5_loop v63).trips) (k1_t7 : Fin (k1_t7_loop v63 k1_t5).trips), ∀ a, (k1_off31 v63 k1_t5 k1_t7) a + S1x1x16.size a ≤ S2x16x128.size a) ∧
  (∀ (k1_t5 : Fin (k1_t5_loop v63).trips) (k1_t7 : Fin (k1_t7_loop v63 k1_t5).trips), ∀ a, (k1_off32 v63 k1_t5 k1_t7) a + S1x1x16.size a ≤ S2x16x128.size a) ∧
  (∀ (k1_t5 : Fin (k1_t5_loop v63).trips) (k1_t7 : Fin (k1_t7_loop v63 k1_t5).trips), ∀ a, (k1_off33 v63 k1_t5 k1_t7) a + S1x1x16.size a ≤ S2x16x128.size a) ∧
  (∀ (k1_t5 : Fin (k1_t5_loop v63).trips) (k1_t7 : Fin (k1_t7_loop v63 k1_t5).trips), ∀ a, (k1_off34 v63 k1_t5 k1_t7) a + S1x1x16.size a ≤ S2x16x128.size a) ∧
  (∀ (k1_t5 : Fin (k1_t5_loop v63).trips) (k1_t7 : Fin (k1_t7_loop v63 k1_t5).trips), ∀ a, (k1_off35 v63 k1_t5 k1_t7) a + S1x1x16.size a ≤ S2x16x128.size a) ∧
  (∀ (k1_t5 : Fin (k1_t5_loop v63).trips) (k1_t7 : Fin (k1_t7_loop v63 k1_t5).trips), ∀ a, (k1_off36 v63 k1_t5 k1_t7) a + S1x1x16.size a ≤ S2x16x128.size a) ∧
  (∀ (k1_t5 : Fin (k1_t5_loop v63).trips) (k1_t7 : Fin (k1_t7_loop v63 k1_t5).trips), ∀ a, (k1_off37 v63 k1_t5 k1_t7) a + S1x1x16.size a ≤ S2x16x128.size a)
def k1_chk5_1 (v63 : BitVec 32) : Prop :=
  (∀ (k1_t5 : Fin (k1_t5_loop v63).trips) (k1_t7 : Fin (k1_t7_loop v63 k1_t5).trips), ∀ a, (k1_off38 v63 k1_t5 k1_t7) a + S1x1x16.size a ≤ S2x16x128.size a) ∧
  (∀ (k1_t5 : Fin (k1_t5_loop v63).trips) (k1_t7 : Fin (k1_t7_loop v63 k1_t5).trips), ∀ a, (k1_off39 v63 k1_t5 k1_t7) a + S1x1x16.size a ≤ S2x16x128.size a) ∧
  (∀ (k1_t5 : Fin (k1_t5_loop v63).trips) (k1_t7 : Fin (k1_t7_loop v63 k1_t5).trips), ∀ a, (k1_off40 v63 k1_t5 k1_t7) a + S1x1x16.size a ≤ S2x16x128.size a) ∧
  (∀ (k1_t5 : Fin (k1_t5_loop v63).trips) (k1_t7 : Fin (k1_t7_loop v63 k1_t5).trips), ∀ a, (k1_off41 v63 k1_t5 k1_t7) a + S1x1x16.size a ≤ S2x16x128.size a) ∧
  (∀ (k1_t5 : Fin (k1_t5_loop v63).trips) (k1_t7 : Fin (k1_t7_loop v63 k1_t5).trips), ∀ a, (k1_off42 v63 k1_t5 k1_t7) a + S1x1x16.size a ≤ S2x16x128.size a) ∧
  (∀ (k1_t5 : Fin (k1_t5_loop v63).trips) (k1_t7 : Fin (k1_t7_loop v63 k1_t5).trips), ∀ a, (k1_off43 v63 k1_t5 k1_t7) a + S1x1x16.size a ≤ S2x16x128.size a) ∧
  (∀ (k1_t5 : Fin (k1_t5_loop v63).trips) (k1_t7 : Fin (k1_t7_loop v63 k1_t5).trips), ∀ a, (k1_off44 v63 k1_t5 k1_t7) a + S1x1x16.size a ≤ S2x16x128.size a) ∧
  ((k1_t8_loop v63).OK) ∧
  (∀ k1_t8 : Fin (k1_t8_loop v63).trips, ∀ (k1_h12 : k1_cond12 v63 k1_t8 = 1#1), ∀ a, (k1_off45 v63 k1_t8) a + S16.size a ≤ S784.size a) ∧
  (∀ k1_t8 : Fin (k1_t8_loop v63).trips, ∀ (k1_h13 : k1_cond13 v63 k1_t8 = 1#1), ∀ a, (k1_off46 v63 k1_t8) a + S16.size a ≤ S784.size a) ∧
  (∀ k1_t8 : Fin (k1_t8_loop v63).trips, ∀ (k1_h14 : k1_cond14 v63 k1_t8 = 1#1), ∀ a, (k1_off47 v63 k1_t8) a + S16.size a ≤ S784.size a) ∧
  (∀ k1_t8 : Fin (k1_t8_loop v63).trips, ∀ (k1_h15 : k1_cond15 v63 k1_t8 = 1#1), ∀ a, (k1_off48 v63 k1_t8) a + S16.size a ≤ S784.size a) ∧
  (∀ k1_t8 : Fin (k1_t8_loop v63).trips, (k1_t9_loop v63 k1_t8).OK) ∧
  (∀ (k1_t8 : Fin (k1_t8_loop v63).trips) (k1_t9 : Fin (k1_t9_loop v63 k1_t8).trips), ∀ a, (k1_off49 v63 k1_t8 k1_t9) a + S1x1x16.size a ≤ S2x16x128.size a) ∧
  (∀ (k1_t8 : Fin (k1_t8_loop v63).trips) (k1_t9 : Fin (k1_t9_loop v63 k1_t8).trips), ∀ a, (k1_off50 v63 k1_t8 k1_t9) a + S1x1x16.size a ≤ S2x16x128.size a) ∧
  (∀ (k1_t8 : Fin (k1_t8_loop v63).trips) (k1_t9 : Fin (k1_t9_loop v63 k1_t8).trips), ∀ a, (k1_off51 v63 k1_t8 k1_t9) a + S1x1x16.size a ≤ S2x16x128.size a) ∧
  (∀ (k1_t8 : Fin (k1_t8_loop v63).trips) (k1_t9 : Fin (k1_t9_loop v63 k1_t8).trips), ∀ a, (k1_off52 v63 k1_t8 k1_t9) a + S1x1x16.size a ≤ S2x16x128.size a) ∧
  (∀ (k1_t8 : Fin (k1_t8_loop v63).trips) (k1_t9 : Fin (k1_t9_loop v63 k1_t8).trips), ∀ a, (k1_off53 v63 k1_t8 k1_t9) a + S1x1x16.size a ≤ S2x16x128.size a) ∧
  (∀ (k1_t8 : Fin (k1_t8_loop v63).trips) (k1_t9 : Fin (k1_t9_loop v63 k1_t8).trips), ∀ a, (k1_off54 v63 k1_t8 k1_t9) a + S1x1x16.size a ≤ S2x16x128.size a) ∧
  (∀ (k1_t8 : Fin (k1_t8_loop v63).trips) (k1_t9 : Fin (k1_t9_loop v63 k1_t8).trips), ∀ a, (k1_off55 v63 k1_t8 k1_t9) a + S1x1x16.size a ≤ S2x16x128.size a) ∧
  (∀ (k1_t8 : Fin (k1_t8_loop v63).trips) (k1_t9 : Fin (k1_t9_loop v63 k1_t8).trips), ∀ a, (k1_off56 v63 k1_t8 k1_t9) a + S1x1x16.size a ≤ S2x16x128.size a) ∧
  (∀ (k1_t8 : Fin (k1_t8_loop v63).trips) (k1_t9 : Fin (k1_t9_loop v63 k1_t8).trips), ∀ a, (k1_off57 v63 k1_t8 k1_t9) a + S1x1x16.size a ≤ S2x16x128.size a) ∧
  (∀ (k1_t8 : Fin (k1_t8_loop v63).trips) (k1_t9 : Fin (k1_t9_loop v63 k1_t8).trips), ∀ a, (k1_off58 v63 k1_t8 k1_t9) a + S1x1x16.size a ≤ S2x16x128.size a) ∧
  (∀ (k1_t8 : Fin (k1_t8_loop v63).trips) (k1_t9 : Fin (k1_t9_loop v63 k1_t8).trips), ∀ a, (k1_off59 v63 k1_t8 k1_t9) a + S1x1x16.size a ≤ S2x16x128.size a) ∧
  (∀ (k1_t8 : Fin (k1_t8_loop v63).trips) (k1_t9 : Fin (k1_t9_loop v63 k1_t8).trips), ∀ a, (k1_off60 v63 k1_t8 k1_t9) a + S1x1x16.size a ≤ S2x16x128.size a) ∧
  (∀ (k1_t8 : Fin (k1_t8_loop v63).trips) (k1_t9 : Fin (k1_t9_loop v63 k1_t8).trips), ∀ a, (k1_off61 v63 k1_t8 k1_t9) a + S1x1x16.size a ≤ S2x16x128.size a) ∧
  (∀ (k1_t8 : Fin (k1_t8_loop v63).trips) (k1_t9 : Fin (k1_t9_loop v63 k1_t8).trips), ∀ a, (k1_off62 v63 k1_t8 k1_t9) a + S1x1x16.size a ≤ S2x16x128.size a) ∧
  (∀ (k1_t8 : Fin (k1_t8_loop v63).trips) (k1_t9 : Fin (k1_t9_loop v63 k1_t8).trips), ∀ a, (k1_off63 v63 k1_t8 k1_t9) a + S1x1x16.size a ≤ S2x16x128.size a) ∧
  (∀ (k1_t8 : Fin (k1_t8_loop v63).trips) (k1_t9 : Fin (k1_t9_loop v63 k1_t8).trips), ∀ a, (k1_off64 v63 k1_t8 k1_t9) a + S1x1x16.size a ≤ S2x16x128.size a) ∧
  (∀ k1_t8 : Fin (k1_t8_loop v63).trips, (k1_t10_loop v63 k1_t8).OK) ∧
  (∀ (k1_t8 : Fin (k1_t8_loop v63).trips) (k1_t10 : Fin (k1_t10_loop v63 k1_t8).trips), ∀ a, (k1_off65 v63 k1_t8 k1_t10) a + S1x1x16.size a ≤ S2x16x128.size a) ∧
  (∀ (k1_t8 : Fin (k1_t8_loop v63).trips) (k1_t10 : Fin (k1_t10_loop v63 k1_t8).trips), ∀ a, (k1_off66 v63 k1_t8 k1_t10) a + S1x1x16.size a ≤ S2x16x128.size a)
def k1_chk5_2 (v63 : BitVec 32) : Prop :=
  (∀ (k1_t8 : Fin (k1_t8_loop v63).trips) (k1_t10 : Fin (k1_t10_loop v63 k1_t8).trips), ∀ a, (k1_off67 v63 k1_t8 k1_t10) a + S1x1x16.size a ≤ S2x16x128.size a) ∧
  (∀ (k1_t8 : Fin (k1_t8_loop v63).trips) (k1_t10 : Fin (k1_t10_loop v63 k1_t8).trips), ∀ a, (k1_off68 v63 k1_t8 k1_t10) a + S1x1x16.size a ≤ S2x16x128.size a) ∧
  (∀ (k1_t8 : Fin (k1_t8_loop v63).trips) (k1_t10 : Fin (k1_t10_loop v63 k1_t8).trips), ∀ a, (k1_off69 v63 k1_t8 k1_t10) a + S1x1x16.size a ≤ S2x16x128.size a) ∧
  (∀ (k1_t8 : Fin (k1_t8_loop v63).trips) (k1_t10 : Fin (k1_t10_loop v63 k1_t8).trips), ∀ a, (k1_off70 v63 k1_t8 k1_t10) a + S1x1x16.size a ≤ S2x16x128.size a) ∧
  (∀ (k1_t8 : Fin (k1_t8_loop v63).trips) (k1_t10 : Fin (k1_t10_loop v63 k1_t8).trips), ∀ a, (k1_off71 v63 k1_t8 k1_t10) a + S1x1x16.size a ≤ S2x16x128.size a) ∧
  (∀ (k1_t8 : Fin (k1_t8_loop v63).trips) (k1_t10 : Fin (k1_t10_loop v63 k1_t8).trips), ∀ a, (k1_off72 v63 k1_t8 k1_t10) a + S1x1x16.size a ≤ S2x16x128.size a) ∧
  (∀ (k1_t8 : Fin (k1_t8_loop v63).trips) (k1_t10 : Fin (k1_t10_loop v63 k1_t8).trips), ∀ a, (k1_off73 v63 k1_t8 k1_t10) a + S1x1x16.size a ≤ S2x16x128.size a) ∧
  (∀ (k1_t8 : Fin (k1_t8_loop v63).trips) (k1_t10 : Fin (k1_t10_loop v63 k1_t8).trips), ∀ a, (k1_off74 v63 k1_t8 k1_t10) a + S1x1x16.size a ≤ S2x16x128.size a) ∧
  (∀ (k1_t8 : Fin (k1_t8_loop v63).trips) (k1_t10 : Fin (k1_t10_loop v63 k1_t8).trips), ∀ a, (k1_off75 v63 k1_t8 k1_t10) a + S1x1x16.size a ≤ S2x16x128.size a) ∧
  (∀ (k1_t8 : Fin (k1_t8_loop v63).trips) (k1_t10 : Fin (k1_t10_loop v63 k1_t8).trips), ∀ a, (k1_off76 v63 k1_t8 k1_t10) a + S1x1x16.size a ≤ S2x16x128.size a) ∧
  (∀ (k1_t8 : Fin (k1_t8_loop v63).trips) (k1_t10 : Fin (k1_t10_loop v63 k1_t8).trips), ∀ a, (k1_off77 v63 k1_t8 k1_t10) a + S1x1x16.size a ≤ S2x16x128.size a) ∧
  (∀ (k1_t8 : Fin (k1_t8_loop v63).trips) (k1_t10 : Fin (k1_t10_loop v63 k1_t8).trips), ∀ a, (k1_off78 v63 k1_t8 k1_t10) a + S1x1x16.size a ≤ S2x16x128.size a) ∧
  (∀ (k1_t8 : Fin (k1_t8_loop v63).trips) (k1_t10 : Fin (k1_t10_loop v63 k1_t8).trips), ∀ a, (k1_off79 v63 k1_t8 k1_t10) a + S1x1x16.size a ≤ S2x16x128.size a) ∧
  (∀ (k1_t8 : Fin (k1_t8_loop v63).trips) (k1_t10 : Fin (k1_t10_loop v63 k1_t8).trips), ∀ a, (k1_off80 v63 k1_t8 k1_t10) a + S1x1x16.size a ≤ S2x16x128.size a)
def k1_chk5 (v63 : BitVec 32) : Prop :=
  k1_chk5_0 v63 ∧
  k1_chk5_1 v63 ∧
  k1_chk5_2 v63
theorem k1_t5_ok : ∀ (v63 : BitVec 32) (k1_hw5 : k1_chk5 v63), (k1_t5_loop v63).OK := fun v63 k1_hw5 => k1_hw5.1.1
theorem k1_off9_inb : ∀ (v63 : BitVec 32) (k1_hw5 : k1_chk5 v63) (k1_t5 : Fin (k1_t5_loop v63).trips), ∀ (k1_h8 : k1_cond8 v63 k1_t5 = 1#1), ∀ a, (k1_off9 v63 k1_t5) a + S16.size a ≤ S784.size a := fun v63 k1_hw5 k1_t5 k1_h8 => k1_hw5.1.2.1 k1_t5 k1_h8
theorem k1_off10_inb : ∀ (v63 : BitVec 32) (k1_hw5 : k1_chk5 v63) (k1_t5 : Fin (k1_t5_loop v63).trips), ∀ (k1_h9 : k1_cond9 v63 k1_t5 = 1#1), ∀ a, (k1_off10 v63 k1_t5) a + S16.size a ≤ S784.size a := fun v63 k1_hw5 k1_t5 k1_h9 => k1_hw5.1.2.2.1 k1_t5 k1_h9
theorem k1_off11_inb : ∀ (v63 : BitVec 32) (k1_hw5 : k1_chk5 v63) (k1_t5 : Fin (k1_t5_loop v63).trips), ∀ (k1_h10 : k1_cond10 v63 k1_t5 = 1#1), ∀ a, (k1_off11 v63 k1_t5) a + S16.size a ≤ S784.size a := fun v63 k1_hw5 k1_t5 k1_h10 => k1_hw5.1.2.2.2.1 k1_t5 k1_h10
theorem k1_off12_inb : ∀ (v63 : BitVec 32) (k1_hw5 : k1_chk5 v63) (k1_t5 : Fin (k1_t5_loop v63).trips), ∀ (k1_h11 : k1_cond11 v63 k1_t5 = 1#1), ∀ a, (k1_off12 v63 k1_t5) a + S16.size a ≤ S784.size a := fun v63 k1_hw5 k1_t5 k1_h11 => k1_hw5.1.2.2.2.2.1 k1_t5 k1_h11
theorem k1_t6_ok : ∀ (v63 : BitVec 32) (k1_hw5 : k1_chk5 v63) (k1_t5 : Fin (k1_t5_loop v63).trips), (k1_t6_loop v63 k1_t5).OK := fun v63 k1_hw5 k1_t5 => k1_hw5.1.2.2.2.2.2.1 k1_t5
theorem k1_off13_inb : ∀ (v63 : BitVec 32) (k1_hw5 : k1_chk5 v63) (k1_t5 : Fin (k1_t5_loop v63).trips) (k1_t6 : Fin (k1_t6_loop v63 k1_t5).trips), ∀ a, (k1_off13 v63 k1_t5 k1_t6) a + S1x1x16.size a ≤ S2x16x128.size a := fun v63 k1_hw5 k1_t5 k1_t6 => k1_hw5.1.2.2.2.2.2.2.1 k1_t5 k1_t6
theorem k1_off14_inb : ∀ (v63 : BitVec 32) (k1_hw5 : k1_chk5 v63) (k1_t5 : Fin (k1_t5_loop v63).trips) (k1_t6 : Fin (k1_t6_loop v63 k1_t5).trips), ∀ a, (k1_off14 v63 k1_t5 k1_t6) a + S1x1x16.size a ≤ S2x16x128.size a := fun v63 k1_hw5 k1_t5 k1_t6 => k1_hw5.1.2.2.2.2.2.2.2.1 k1_t5 k1_t6
theorem k1_off15_inb : ∀ (v63 : BitVec 32) (k1_hw5 : k1_chk5 v63) (k1_t5 : Fin (k1_t5_loop v63).trips) (k1_t6 : Fin (k1_t6_loop v63 k1_t5).trips), ∀ a, (k1_off15 v63 k1_t5 k1_t6) a + S1x1x16.size a ≤ S2x16x128.size a := fun v63 k1_hw5 k1_t5 k1_t6 => k1_hw5.1.2.2.2.2.2.2.2.2.1 k1_t5 k1_t6
theorem k1_off16_inb : ∀ (v63 : BitVec 32) (k1_hw5 : k1_chk5 v63) (k1_t5 : Fin (k1_t5_loop v63).trips) (k1_t6 : Fin (k1_t6_loop v63 k1_t5).trips), ∀ a, (k1_off16 v63 k1_t5 k1_t6) a + S1x1x16.size a ≤ S2x16x128.size a := fun v63 k1_hw5 k1_t5 k1_t6 => k1_hw5.1.2.2.2.2.2.2.2.2.2.1 k1_t5 k1_t6
theorem k1_off17_inb : ∀ (v63 : BitVec 32) (k1_hw5 : k1_chk5 v63) (k1_t5 : Fin (k1_t5_loop v63).trips) (k1_t6 : Fin (k1_t6_loop v63 k1_t5).trips), ∀ a, (k1_off17 v63 k1_t5 k1_t6) a + S1x1x16.size a ≤ S2x16x128.size a := fun v63 k1_hw5 k1_t5 k1_t6 => k1_hw5.1.2.2.2.2.2.2.2.2.2.2.1 k1_t5 k1_t6
theorem k1_off18_inb : ∀ (v63 : BitVec 32) (k1_hw5 : k1_chk5 v63) (k1_t5 : Fin (k1_t5_loop v63).trips) (k1_t6 : Fin (k1_t6_loop v63 k1_t5).trips), ∀ a, (k1_off18 v63 k1_t5 k1_t6) a + S1x1x16.size a ≤ S2x16x128.size a := fun v63 k1_hw5 k1_t5 k1_t6 => k1_hw5.1.2.2.2.2.2.2.2.2.2.2.2.1 k1_t5 k1_t6
theorem k1_off19_inb : ∀ (v63 : BitVec 32) (k1_hw5 : k1_chk5 v63) (k1_t5 : Fin (k1_t5_loop v63).trips) (k1_t6 : Fin (k1_t6_loop v63 k1_t5).trips), ∀ a, (k1_off19 v63 k1_t5 k1_t6) a + S1x1x16.size a ≤ S2x16x128.size a := fun v63 k1_hw5 k1_t5 k1_t6 => k1_hw5.1.2.2.2.2.2.2.2.2.2.2.2.2.1 k1_t5 k1_t6
theorem k1_off20_inb : ∀ (v63 : BitVec 32) (k1_hw5 : k1_chk5 v63) (k1_t5 : Fin (k1_t5_loop v63).trips) (k1_t6 : Fin (k1_t6_loop v63 k1_t5).trips), ∀ a, (k1_off20 v63 k1_t5 k1_t6) a + S1x1x16.size a ≤ S2x16x128.size a := fun v63 k1_hw5 k1_t5 k1_t6 => k1_hw5.1.2.2.2.2.2.2.2.2.2.2.2.2.2.1 k1_t5 k1_t6
theorem k1_off21_inb : ∀ (v63 : BitVec 32) (k1_hw5 : k1_chk5 v63) (k1_t5 : Fin (k1_t5_loop v63).trips) (k1_t6 : Fin (k1_t6_loop v63 k1_t5).trips), ∀ a, (k1_off21 v63 k1_t5 k1_t6) a + S1x1x16.size a ≤ S2x16x128.size a := fun v63 k1_hw5 k1_t5 k1_t6 => k1_hw5.1.2.2.2.2.2.2.2.2.2.2.2.2.2.2.1 k1_t5 k1_t6
theorem k1_off22_inb : ∀ (v63 : BitVec 32) (k1_hw5 : k1_chk5 v63) (k1_t5 : Fin (k1_t5_loop v63).trips) (k1_t6 : Fin (k1_t6_loop v63 k1_t5).trips), ∀ a, (k1_off22 v63 k1_t5 k1_t6) a + S1x1x16.size a ≤ S2x16x128.size a := fun v63 k1_hw5 k1_t5 k1_t6 => k1_hw5.1.2.2.2.2.2.2.2.2.2.2.2.2.2.2.2.1 k1_t5 k1_t6
theorem k1_off23_inb : ∀ (v63 : BitVec 32) (k1_hw5 : k1_chk5 v63) (k1_t5 : Fin (k1_t5_loop v63).trips) (k1_t6 : Fin (k1_t6_loop v63 k1_t5).trips), ∀ a, (k1_off23 v63 k1_t5 k1_t6) a + S1x1x16.size a ≤ S2x16x128.size a := fun v63 k1_hw5 k1_t5 k1_t6 => k1_hw5.1.2.2.2.2.2.2.2.2.2.2.2.2.2.2.2.2.1 k1_t5 k1_t6
theorem k1_off24_inb : ∀ (v63 : BitVec 32) (k1_hw5 : k1_chk5 v63) (k1_t5 : Fin (k1_t5_loop v63).trips) (k1_t6 : Fin (k1_t6_loop v63 k1_t5).trips), ∀ a, (k1_off24 v63 k1_t5 k1_t6) a + S1x1x16.size a ≤ S2x16x128.size a := fun v63 k1_hw5 k1_t5 k1_t6 => k1_hw5.1.2.2.2.2.2.2.2.2.2.2.2.2.2.2.2.2.2.1 k1_t5 k1_t6
theorem k1_off25_inb : ∀ (v63 : BitVec 32) (k1_hw5 : k1_chk5 v63) (k1_t5 : Fin (k1_t5_loop v63).trips) (k1_t6 : Fin (k1_t6_loop v63 k1_t5).trips), ∀ a, (k1_off25 v63 k1_t5 k1_t6) a + S1x1x16.size a ≤ S2x16x128.size a := fun v63 k1_hw5 k1_t5 k1_t6 => k1_hw5.1.2.2.2.2.2.2.2.2.2.2.2.2.2.2.2.2.2.2.1 k1_t5 k1_t6
theorem k1_off26_inb : ∀ (v63 : BitVec 32) (k1_hw5 : k1_chk5 v63) (k1_t5 : Fin (k1_t5_loop v63).trips) (k1_t6 : Fin (k1_t6_loop v63 k1_t5).trips), ∀ a, (k1_off26 v63 k1_t5 k1_t6) a + S1x1x16.size a ≤ S2x16x128.size a := fun v63 k1_hw5 k1_t5 k1_t6 => k1_hw5.1.2.2.2.2.2.2.2.2.2.2.2.2.2.2.2.2.2.2.2.1 k1_t5 k1_t6
theorem k1_off27_inb : ∀ (v63 : BitVec 32) (k1_hw5 : k1_chk5 v63) (k1_t5 : Fin (k1_t5_loop v63).trips) (k1_t6 : Fin (k1_t6_loop v63 k1_t5).trips), ∀ a, (k1_off27 v63 k1_t5 k1_t6) a + S1x1x16.size a ≤ S2x16x128.size a := fun v63 k1_hw5 k1_t5 k1_t6 => k1_hw5.1.2.2.2.2.2.2.2.2.2.2.2.2.2.2.2.2.2.2.2.2.1 k1_t5 k1_t6
theorem k1_off28_inb : ∀ (v63 : BitVec 32) (k1_hw5 : k1_chk5 v63) (k1_t5 : Fin (k1_t5_loop v63).trips) (k1_t6 : Fin (k1_t6_loop v63 k1_t5).trips), ∀ a, (k1_off28 v63 k1_t5 k1_t6) a + S1x1x16.size a ≤ S2x16x128.size a := fun v63 k1_hw5 k1_t5 k1_t6 => k1_hw5.1.2.2.2.2.2.2.2.2.2.2.2.2.2.2.2.2.2.2.2.2.2.1 k1_t5 k1_t6
theorem k1_t7_ok : ∀ (v63 : BitVec 32) (k1_hw5 : k1_chk5 v63) (k1_t5 : Fin (k1_t5_loop v63).trips), (k1_t7_loop v63 k1_t5).OK := fun v63 k1_hw5 k1_t5 => k1_hw5.1.2.2.2.2.2.2.2.2.2.2.2.2.2.2.2.2.2.2.2.2.2.2.1 k1_t5
theorem k1_off29_inb : ∀ (v63 : BitVec 32) (k1_hw5 : k1_chk5 v63) (k1_t5 : Fin (k1_t5_loop v63).trips) (k1_t7 : Fin (k1_t7_loop v63 k1_t5).trips), ∀ a, (k1_off29 v63 k1_t5 k1_t7) a + S1x1x16.size a ≤ S2x16x128.size a := fun v63 k1_hw5 k1_t5 k1_t7 => k1_hw5.1.2.2.2.2.2.2.2.2.2.2.2.2.2.2.2.2.2.2.2.2.2.2.2.1 k1_t5 k1_t7
theorem k1_off30_inb : ∀ (v63 : BitVec 32) (k1_hw5 : k1_chk5 v63) (k1_t5 : Fin (k1_t5_loop v63).trips) (k1_t7 : Fin (k1_t7_loop v63 k1_t5).trips), ∀ a, (k1_off30 v63 k1_t5 k1_t7) a + S1x1x16.size a ≤ S2x16x128.size a := fun v63 k1_hw5 k1_t5 k1_t7 => k1_hw5.1.2.2.2.2.2.2.2.2.2.2.2.2.2.2.2.2.2.2.2.2.2.2.2.2.1 k1_t5 k1_t7
theorem k1_off31_inb : ∀ (v63 : BitVec 32) (k1_hw5 : k1_chk5 v63) (k1_t5 : Fin (k1_t5_loop v63).trips) (k1_t7 : Fin (k1_t7_loop v63 k1_t5).trips), ∀ a, (k1_off31 v63 k1_t5 k1_t7) a + S1x1x16.size a ≤ S2x16x128.size a := fun v63 k1_hw5 k1_t5 k1_t7 => k1_hw5.1.2.2.2.2.2.2.2.2.2.2.2.2.2.2.2.2.2.2.2.2.2.2.2.2.2.1 k1_t5 k1_t7
theorem k1_off32_inb : ∀ (v63 : BitVec 32) (k1_hw5 : k1_chk5 v63) (k1_t5 : Fin (k1_t5_loop v63).trips) (k1_t7 : Fin (k1_t7_loop v63 k1_t5).trips), ∀ a, (k1_off32 v63 k1_t5 k1_t7) a + S1x1x16.size a ≤ S2x16x128.size a := fun v63 k1_hw5 k1_t5 k1_t7 => k1_hw5.1.2.2.2.2.2.2.2.2.2.2.2.2.2.2.2.2.2.2.2.2.2.2.2.2.2.2.1 k1_t5 k1_t7
theorem k1_off33_inb : ∀ (v63 : BitVec 32) (k1_hw5 : k1_chk5 v63) (k1_t5 : Fin (k1_t5_loop v63).trips) (k1_t7 : Fin (k1_t7_loop v63 k1_t5).trips), ∀ a, (k1_off33 v63 k1_t5 k1_t7) a + S1x1x16.size a ≤ S2x16x128.size a := fun v63 k1_hw5 k1_t5 k1_t7 => k1_hw5.1.2.2.2.2.2.2.2.2.2.2.2.2.2.2.2.2.2.2.2.2.2.2.2.2.2.2.2.1 k1_t5 k1_t7
theorem k1_off34_inb : ∀ (v63 : BitVec 32) (k1_hw5 : k1_chk5 v63) (k1_t5 : Fin (k1_t5_loop v63).trips) (k1_t7 : Fin (k1_t7_loop v63 k1_t5).trips), ∀ a, (k1_off34 v63 k1_t5 k1_t7) a + S1x1x16.size a ≤ S2x16x128.size a := fun v63 k1_hw5 k1_t5 k1_t7 => k1_hw5.1.2.2.2.2.2.2.2.2.2.2.2.2.2.2.2.2.2.2.2.2.2.2.2.2.2.2.2.2.1 k1_t5 k1_t7
theorem k1_off35_inb : ∀ (v63 : BitVec 32) (k1_hw5 : k1_chk5 v63) (k1_t5 : Fin (k1_t5_loop v63).trips) (k1_t7 : Fin (k1_t7_loop v63 k1_t5).trips), ∀ a, (k1_off35 v63 k1_t5 k1_t7) a + S1x1x16.size a ≤ S2x16x128.size a := fun v63 k1_hw5 k1_t5 k1_t7 => k1_hw5.1.2.2.2.2.2.2.2.2.2.2.2.2.2.2.2.2.2.2.2.2.2.2.2.2.2.2.2.2.2.1 k1_t5 k1_t7
theorem k1_off36_inb : ∀ (v63 : BitVec 32) (k1_hw5 : k1_chk5 v63) (k1_t5 : Fin (k1_t5_loop v63).trips) (k1_t7 : Fin (k1_t7_loop v63 k1_t5).trips), ∀ a, (k1_off36 v63 k1_t5 k1_t7) a + S1x1x16.size a ≤ S2x16x128.size a := fun v63 k1_hw5 k1_t5 k1_t7 => k1_hw5.1.2.2.2.2.2.2.2.2.2.2.2.2.2.2.2.2.2.2.2.2.2.2.2.2.2.2.2.2.2.2.1 k1_t5 k1_t7
theorem k1_off37_inb : ∀ (v63 : BitVec 32) (k1_hw5 : k1_chk5 v63) (k1_t5 : Fin (k1_t5_loop v63).trips) (k1_t7 : Fin (k1_t7_loop v63 k1_t5).trips), ∀ a, (k1_off37 v63 k1_t5 k1_t7) a + S1x1x16.size a ≤ S2x16x128.size a := fun v63 k1_hw5 k1_t5 k1_t7 => k1_hw5.1.2.2.2.2.2.2.2.2.2.2.2.2.2.2.2.2.2.2.2.2.2.2.2.2.2.2.2.2.2.2.2 k1_t5 k1_t7
theorem k1_off38_inb : ∀ (v63 : BitVec 32) (k1_hw5 : k1_chk5 v63) (k1_t5 : Fin (k1_t5_loop v63).trips) (k1_t7 : Fin (k1_t7_loop v63 k1_t5).trips), ∀ a, (k1_off38 v63 k1_t5 k1_t7) a + S1x1x16.size a ≤ S2x16x128.size a := fun v63 k1_hw5 k1_t5 k1_t7 => k1_hw5.2.1.1 k1_t5 k1_t7
theorem k1_off39_inb : ∀ (v63 : BitVec 32) (k1_hw5 : k1_chk5 v63) (k1_t5 : Fin (k1_t5_loop v63).trips) (k1_t7 : Fin (k1_t7_loop v63 k1_t5).trips), ∀ a, (k1_off39 v63 k1_t5 k1_t7) a + S1x1x16.size a ≤ S2x16x128.size a := fun v63 k1_hw5 k1_t5 k1_t7 => k1_hw5.2.1.2.1 k1_t5 k1_t7
theorem k1_off40_inb : ∀ (v63 : BitVec 32) (k1_hw5 : k1_chk5 v63) (k1_t5 : Fin (k1_t5_loop v63).trips) (k1_t7 : Fin (k1_t7_loop v63 k1_t5).trips), ∀ a, (k1_off40 v63 k1_t5 k1_t7) a + S1x1x16.size a ≤ S2x16x128.size a := fun v63 k1_hw5 k1_t5 k1_t7 => k1_hw5.2.1.2.2.1 k1_t5 k1_t7
theorem k1_off41_inb : ∀ (v63 : BitVec 32) (k1_hw5 : k1_chk5 v63) (k1_t5 : Fin (k1_t5_loop v63).trips) (k1_t7 : Fin (k1_t7_loop v63 k1_t5).trips), ∀ a, (k1_off41 v63 k1_t5 k1_t7) a + S1x1x16.size a ≤ S2x16x128.size a := fun v63 k1_hw5 k1_t5 k1_t7 => k1_hw5.2.1.2.2.2.1 k1_t5 k1_t7
theorem k1_off42_inb : ∀ (v63 : BitVec 32) (k1_hw5 : k1_chk5 v63) (k1_t5 : Fin (k1_t5_loop v63).trips) (k1_t7 : Fin (k1_t7_loop v63 k1_t5).trips), ∀ a, (k1_off42 v63 k1_t5 k1_t7) a + S1x1x16.size a ≤ S2x16x128.size a := fun v63 k1_hw5 k1_t5 k1_t7 => k1_hw5.2.1.2.2.2.2.1 k1_t5 k1_t7
theorem k1_off43_inb : ∀ (v63 : BitVec 32) (k1_hw5 : k1_chk5 v63) (k1_t5 : Fin (k1_t5_loop v63).trips) (k1_t7 : Fin (k1_t7_loop v63 k1_t5).trips), ∀ a, (k1_off43 v63 k1_t5 k1_t7) a + S1x1x16.size a ≤ S2x16x128.size a := fun v63 k1_hw5 k1_t5 k1_t7 => k1_hw5.2.1.2.2.2.2.2.1 k1_t5 k1_t7
theorem k1_off44_inb : ∀ (v63 : BitVec 32) (k1_hw5 : k1_chk5 v63) (k1_t5 : Fin (k1_t5_loop v63).trips) (k1_t7 : Fin (k1_t7_loop v63 k1_t5).trips), ∀ a, (k1_off44 v63 k1_t5 k1_t7) a + S1x1x16.size a ≤ S2x16x128.size a := fun v63 k1_hw5 k1_t5 k1_t7 => k1_hw5.2.1.2.2.2.2.2.2.1 k1_t5 k1_t7
theorem k1_t8_ok : ∀ (v63 : BitVec 32) (k1_hw5 : k1_chk5 v63), (k1_t8_loop v63).OK := fun v63 k1_hw5 => k1_hw5.2.1.2.2.2.2.2.2.2.1
theorem k1_off45_inb : ∀ (v63 : BitVec 32) (k1_hw5 : k1_chk5 v63) (k1_t8 : Fin (k1_t8_loop v63).trips), ∀ (k1_h12 : k1_cond12 v63 k1_t8 = 1#1), ∀ a, (k1_off45 v63 k1_t8) a + S16.size a ≤ S784.size a := fun v63 k1_hw5 k1_t8 k1_h12 => k1_hw5.2.1.2.2.2.2.2.2.2.2.1 k1_t8 k1_h12
theorem k1_off46_inb : ∀ (v63 : BitVec 32) (k1_hw5 : k1_chk5 v63) (k1_t8 : Fin (k1_t8_loop v63).trips), ∀ (k1_h13 : k1_cond13 v63 k1_t8 = 1#1), ∀ a, (k1_off46 v63 k1_t8) a + S16.size a ≤ S784.size a := fun v63 k1_hw5 k1_t8 k1_h13 => k1_hw5.2.1.2.2.2.2.2.2.2.2.2.1 k1_t8 k1_h13
theorem k1_off47_inb : ∀ (v63 : BitVec 32) (k1_hw5 : k1_chk5 v63) (k1_t8 : Fin (k1_t8_loop v63).trips), ∀ (k1_h14 : k1_cond14 v63 k1_t8 = 1#1), ∀ a, (k1_off47 v63 k1_t8) a + S16.size a ≤ S784.size a := fun v63 k1_hw5 k1_t8 k1_h14 => k1_hw5.2.1.2.2.2.2.2.2.2.2.2.2.1 k1_t8 k1_h14
theorem k1_off48_inb : ∀ (v63 : BitVec 32) (k1_hw5 : k1_chk5 v63) (k1_t8 : Fin (k1_t8_loop v63).trips), ∀ (k1_h15 : k1_cond15 v63 k1_t8 = 1#1), ∀ a, (k1_off48 v63 k1_t8) a + S16.size a ≤ S784.size a := fun v63 k1_hw5 k1_t8 k1_h15 => k1_hw5.2.1.2.2.2.2.2.2.2.2.2.2.2.1 k1_t8 k1_h15
theorem k1_t9_ok : ∀ (v63 : BitVec 32) (k1_hw5 : k1_chk5 v63) (k1_t8 : Fin (k1_t8_loop v63).trips), (k1_t9_loop v63 k1_t8).OK := fun v63 k1_hw5 k1_t8 => k1_hw5.2.1.2.2.2.2.2.2.2.2.2.2.2.2.1 k1_t8
theorem k1_off49_inb : ∀ (v63 : BitVec 32) (k1_hw5 : k1_chk5 v63) (k1_t8 : Fin (k1_t8_loop v63).trips) (k1_t9 : Fin (k1_t9_loop v63 k1_t8).trips), ∀ a, (k1_off49 v63 k1_t8 k1_t9) a + S1x1x16.size a ≤ S2x16x128.size a := fun v63 k1_hw5 k1_t8 k1_t9 => k1_hw5.2.1.2.2.2.2.2.2.2.2.2.2.2.2.2.1 k1_t8 k1_t9
theorem k1_off50_inb : ∀ (v63 : BitVec 32) (k1_hw5 : k1_chk5 v63) (k1_t8 : Fin (k1_t8_loop v63).trips) (k1_t9 : Fin (k1_t9_loop v63 k1_t8).trips), ∀ a, (k1_off50 v63 k1_t8 k1_t9) a + S1x1x16.size a ≤ S2x16x128.size a := fun v63 k1_hw5 k1_t8 k1_t9 => k1_hw5.2.1.2.2.2.2.2.2.2.2.2.2.2.2.2.2.1 k1_t8 k1_t9
theorem k1_off51_inb : ∀ (v63 : BitVec 32) (k1_hw5 : k1_chk5 v63) (k1_t8 : Fin (k1_t8_loop v63).trips) (k1_t9 : Fin (k1_t9_loop v63 k1_t8).trips), ∀ a, (k1_off51 v63 k1_t8 k1_t9) a + S1x1x16.size a ≤ S2x16x128.size a := fun v63 k1_hw5 k1_t8 k1_t9 => k1_hw5.2.1.2.2.2.2.2.2.2.2.2.2.2.2.2.2.2.1 k1_t8 k1_t9
theorem k1_off52_inb : ∀ (v63 : BitVec 32) (k1_hw5 : k1_chk5 v63) (k1_t8 : Fin (k1_t8_loop v63).trips) (k1_t9 : Fin (k1_t9_loop v63 k1_t8).trips), ∀ a, (k1_off52 v63 k1_t8 k1_t9) a + S1x1x16.size a ≤ S2x16x128.size a := fun v63 k1_hw5 k1_t8 k1_t9 => k1_hw5.2.1.2.2.2.2.2.2.2.2.2.2.2.2.2.2.2.2.1 k1_t8 k1_t9
theorem k1_off53_inb : ∀ (v63 : BitVec 32) (k1_hw5 : k1_chk5 v63) (k1_t8 : Fin (k1_t8_loop v63).trips) (k1_t9 : Fin (k1_t9_loop v63 k1_t8).trips), ∀ a, (k1_off53 v63 k1_t8 k1_t9) a + S1x1x16.size a ≤ S2x16x128.size a := fun v63 k1_hw5 k1_t8 k1_t9 => k1_hw5.2.1.2.2.2.2.2.2.2.2.2.2.2.2.2.2.2.2.2.1 k1_t8 k1_t9
theorem k1_off54_inb : ∀ (v63 : BitVec 32) (k1_hw5 : k1_chk5 v63) (k1_t8 : Fin (k1_t8_loop v63).trips) (k1_t9 : Fin (k1_t9_loop v63 k1_t8).trips), ∀ a, (k1_off54 v63 k1_t8 k1_t9) a + S1x1x16.size a ≤ S2x16x128.size a := fun v63 k1_hw5 k1_t8 k1_t9 => k1_hw5.2.1.2.2.2.2.2.2.2.2.2.2.2.2.2.2.2.2.2.2.1 k1_t8 k1_t9
theorem k1_off55_inb : ∀ (v63 : BitVec 32) (k1_hw5 : k1_chk5 v63) (k1_t8 : Fin (k1_t8_loop v63).trips) (k1_t9 : Fin (k1_t9_loop v63 k1_t8).trips), ∀ a, (k1_off55 v63 k1_t8 k1_t9) a + S1x1x16.size a ≤ S2x16x128.size a := fun v63 k1_hw5 k1_t8 k1_t9 => k1_hw5.2.1.2.2.2.2.2.2.2.2.2.2.2.2.2.2.2.2.2.2.2.1 k1_t8 k1_t9
theorem k1_off56_inb : ∀ (v63 : BitVec 32) (k1_hw5 : k1_chk5 v63) (k1_t8 : Fin (k1_t8_loop v63).trips) (k1_t9 : Fin (k1_t9_loop v63 k1_t8).trips), ∀ a, (k1_off56 v63 k1_t8 k1_t9) a + S1x1x16.size a ≤ S2x16x128.size a := fun v63 k1_hw5 k1_t8 k1_t9 => k1_hw5.2.1.2.2.2.2.2.2.2.2.2.2.2.2.2.2.2.2.2.2.2.2.1 k1_t8 k1_t9
theorem k1_off57_inb : ∀ (v63 : BitVec 32) (k1_hw5 : k1_chk5 v63) (k1_t8 : Fin (k1_t8_loop v63).trips) (k1_t9 : Fin (k1_t9_loop v63 k1_t8).trips), ∀ a, (k1_off57 v63 k1_t8 k1_t9) a + S1x1x16.size a ≤ S2x16x128.size a := fun v63 k1_hw5 k1_t8 k1_t9 => k1_hw5.2.1.2.2.2.2.2.2.2.2.2.2.2.2.2.2.2.2.2.2.2.2.2.1 k1_t8 k1_t9
theorem k1_off58_inb : ∀ (v63 : BitVec 32) (k1_hw5 : k1_chk5 v63) (k1_t8 : Fin (k1_t8_loop v63).trips) (k1_t9 : Fin (k1_t9_loop v63 k1_t8).trips), ∀ a, (k1_off58 v63 k1_t8 k1_t9) a + S1x1x16.size a ≤ S2x16x128.size a := fun v63 k1_hw5 k1_t8 k1_t9 => k1_hw5.2.1.2.2.2.2.2.2.2.2.2.2.2.2.2.2.2.2.2.2.2.2.2.2.1 k1_t8 k1_t9
theorem k1_off59_inb : ∀ (v63 : BitVec 32) (k1_hw5 : k1_chk5 v63) (k1_t8 : Fin (k1_t8_loop v63).trips) (k1_t9 : Fin (k1_t9_loop v63 k1_t8).trips), ∀ a, (k1_off59 v63 k1_t8 k1_t9) a + S1x1x16.size a ≤ S2x16x128.size a := fun v63 k1_hw5 k1_t8 k1_t9 => k1_hw5.2.1.2.2.2.2.2.2.2.2.2.2.2.2.2.2.2.2.2.2.2.2.2.2.2.1 k1_t8 k1_t9
theorem k1_off60_inb : ∀ (v63 : BitVec 32) (k1_hw5 : k1_chk5 v63) (k1_t8 : Fin (k1_t8_loop v63).trips) (k1_t9 : Fin (k1_t9_loop v63 k1_t8).trips), ∀ a, (k1_off60 v63 k1_t8 k1_t9) a + S1x1x16.size a ≤ S2x16x128.size a := fun v63 k1_hw5 k1_t8 k1_t9 => k1_hw5.2.1.2.2.2.2.2.2.2.2.2.2.2.2.2.2.2.2.2.2.2.2.2.2.2.2.1 k1_t8 k1_t9
theorem k1_off61_inb : ∀ (v63 : BitVec 32) (k1_hw5 : k1_chk5 v63) (k1_t8 : Fin (k1_t8_loop v63).trips) (k1_t9 : Fin (k1_t9_loop v63 k1_t8).trips), ∀ a, (k1_off61 v63 k1_t8 k1_t9) a + S1x1x16.size a ≤ S2x16x128.size a := fun v63 k1_hw5 k1_t8 k1_t9 => k1_hw5.2.1.2.2.2.2.2.2.2.2.2.2.2.2.2.2.2.2.2.2.2.2.2.2.2.2.2.1 k1_t8 k1_t9
theorem k1_off62_inb : ∀ (v63 : BitVec 32) (k1_hw5 : k1_chk5 v63) (k1_t8 : Fin (k1_t8_loop v63).trips) (k1_t9 : Fin (k1_t9_loop v63 k1_t8).trips), ∀ a, (k1_off62 v63 k1_t8 k1_t9) a + S1x1x16.size a ≤ S2x16x128.size a := fun v63 k1_hw5 k1_t8 k1_t9 => k1_hw5.2.1.2.2.2.2.2.2.2.2.2.2.2.2.2.2.2.2.2.2.2.2.2.2.2.2.2.2.1 k1_t8 k1_t9
theorem k1_off63_inb : ∀ (v63 : BitVec 32) (k1_hw5 : k1_chk5 v63) (k1_t8 : Fin (k1_t8_loop v63).trips) (k1_t9 : Fin (k1_t9_loop v63 k1_t8).trips), ∀ a, (k1_off63 v63 k1_t8 k1_t9) a + S1x1x16.size a ≤ S2x16x128.size a := fun v63 k1_hw5 k1_t8 k1_t9 => k1_hw5.2.1.2.2.2.2.2.2.2.2.2.2.2.2.2.2.2.2.2.2.2.2.2.2.2.2.2.2.2.1 k1_t8 k1_t9
theorem k1_off64_inb : ∀ (v63 : BitVec 32) (k1_hw5 : k1_chk5 v63) (k1_t8 : Fin (k1_t8_loop v63).trips) (k1_t9 : Fin (k1_t9_loop v63 k1_t8).trips), ∀ a, (k1_off64 v63 k1_t8 k1_t9) a + S1x1x16.size a ≤ S2x16x128.size a := fun v63 k1_hw5 k1_t8 k1_t9 => k1_hw5.2.1.2.2.2.2.2.2.2.2.2.2.2.2.2.2.2.2.2.2.2.2.2.2.2.2.2.2.2.2.1 k1_t8 k1_t9
theorem k1_t10_ok : ∀ (v63 : BitVec 32) (k1_hw5 : k1_chk5 v63) (k1_t8 : Fin (k1_t8_loop v63).trips), (k1_t10_loop v63 k1_t8).OK := fun v63 k1_hw5 k1_t8 => k1_hw5.2.1.2.2.2.2.2.2.2.2.2.2.2.2.2.2.2.2.2.2.2.2.2.2.2.2.2.2.2.2.2.1 k1_t8
theorem k1_off65_inb : ∀ (v63 : BitVec 32) (k1_hw5 : k1_chk5 v63) (k1_t8 : Fin (k1_t8_loop v63).trips) (k1_t10 : Fin (k1_t10_loop v63 k1_t8).trips), ∀ a, (k1_off65 v63 k1_t8 k1_t10) a + S1x1x16.size a ≤ S2x16x128.size a := fun v63 k1_hw5 k1_t8 k1_t10 => k1_hw5.2.1.2.2.2.2.2.2.2.2.2.2.2.2.2.2.2.2.2.2.2.2.2.2.2.2.2.2.2.2.2.2.1 k1_t8 k1_t10
theorem k1_off66_inb : ∀ (v63 : BitVec 32) (k1_hw5 : k1_chk5 v63) (k1_t8 : Fin (k1_t8_loop v63).trips) (k1_t10 : Fin (k1_t10_loop v63 k1_t8).trips), ∀ a, (k1_off66 v63 k1_t8 k1_t10) a + S1x1x16.size a ≤ S2x16x128.size a := fun v63 k1_hw5 k1_t8 k1_t10 => k1_hw5.2.1.2.2.2.2.2.2.2.2.2.2.2.2.2.2.2.2.2.2.2.2.2.2.2.2.2.2.2.2.2.2.2 k1_t8 k1_t10
theorem k1_off67_inb : ∀ (v63 : BitVec 32) (k1_hw5 : k1_chk5 v63) (k1_t8 : Fin (k1_t8_loop v63).trips) (k1_t10 : Fin (k1_t10_loop v63 k1_t8).trips), ∀ a, (k1_off67 v63 k1_t8 k1_t10) a + S1x1x16.size a ≤ S2x16x128.size a := fun v63 k1_hw5 k1_t8 k1_t10 => k1_hw5.2.2.1 k1_t8 k1_t10
theorem k1_off68_inb : ∀ (v63 : BitVec 32) (k1_hw5 : k1_chk5 v63) (k1_t8 : Fin (k1_t8_loop v63).trips) (k1_t10 : Fin (k1_t10_loop v63 k1_t8).trips), ∀ a, (k1_off68 v63 k1_t8 k1_t10) a + S1x1x16.size a ≤ S2x16x128.size a := fun v63 k1_hw5 k1_t8 k1_t10 => k1_hw5.2.2.2.1 k1_t8 k1_t10
theorem k1_off69_inb : ∀ (v63 : BitVec 32) (k1_hw5 : k1_chk5 v63) (k1_t8 : Fin (k1_t8_loop v63).trips) (k1_t10 : Fin (k1_t10_loop v63 k1_t8).trips), ∀ a, (k1_off69 v63 k1_t8 k1_t10) a + S1x1x16.size a ≤ S2x16x128.size a := fun v63 k1_hw5 k1_t8 k1_t10 => k1_hw5.2.2.2.2.1 k1_t8 k1_t10
theorem k1_off70_inb : ∀ (v63 : BitVec 32) (k1_hw5 : k1_chk5 v63) (k1_t8 : Fin (k1_t8_loop v63).trips) (k1_t10 : Fin (k1_t10_loop v63 k1_t8).trips), ∀ a, (k1_off70 v63 k1_t8 k1_t10) a + S1x1x16.size a ≤ S2x16x128.size a := fun v63 k1_hw5 k1_t8 k1_t10 => k1_hw5.2.2.2.2.2.1 k1_t8 k1_t10
theorem k1_off71_inb : ∀ (v63 : BitVec 32) (k1_hw5 : k1_chk5 v63) (k1_t8 : Fin (k1_t8_loop v63).trips) (k1_t10 : Fin (k1_t10_loop v63 k1_t8).trips), ∀ a, (k1_off71 v63 k1_t8 k1_t10) a + S1x1x16.size a ≤ S2x16x128.size a := fun v63 k1_hw5 k1_t8 k1_t10 => k1_hw5.2.2.2.2.2.2.1 k1_t8 k1_t10
theorem k1_off72_inb : ∀ (v63 : BitVec 32) (k1_hw5 : k1_chk5 v63) (k1_t8 : Fin (k1_t8_loop v63).trips) (k1_t10 : Fin (k1_t10_loop v63 k1_t8).trips), ∀ a, (k1_off72 v63 k1_t8 k1_t10) a + S1x1x16.size a ≤ S2x16x128.size a := fun v63 k1_hw5 k1_t8 k1_t10 => k1_hw5.2.2.2.2.2.2.2.1 k1_t8 k1_t10
theorem k1_off73_inb : ∀ (v63 : BitVec 32) (k1_hw5 : k1_chk5 v63) (k1_t8 : Fin (k1_t8_loop v63).trips) (k1_t10 : Fin (k1_t10_loop v63 k1_t8).trips), ∀ a, (k1_off73 v63 k1_t8 k1_t10) a + S1x1x16.size a ≤ S2x16x128.size a := fun v63 k1_hw5 k1_t8 k1_t10 => k1_hw5.2.2.2.2.2.2.2.2.1 k1_t8 k1_t10
theorem k1_off74_inb : ∀ (v63 : BitVec 32) (k1_hw5 : k1_chk5 v63) (k1_t8 : Fin (k1_t8_loop v63).trips) (k1_t10 : Fin (k1_t10_loop v63 k1_t8).trips), ∀ a, (k1_off74 v63 k1_t8 k1_t10) a + S1x1x16.size a ≤ S2x16x128.size a := fun v63 k1_hw5 k1_t8 k1_t10 => k1_hw5.2.2.2.2.2.2.2.2.2.1 k1_t8 k1_t10
theorem k1_off75_inb : ∀ (v63 : BitVec 32) (k1_hw5 : k1_chk5 v63) (k1_t8 : Fin (k1_t8_loop v63).trips) (k1_t10 : Fin (k1_t10_loop v63 k1_t8).trips), ∀ a, (k1_off75 v63 k1_t8 k1_t10) a + S1x1x16.size a ≤ S2x16x128.size a := fun v63 k1_hw5 k1_t8 k1_t10 => k1_hw5.2.2.2.2.2.2.2.2.2.2.1 k1_t8 k1_t10
theorem k1_off76_inb : ∀ (v63 : BitVec 32) (k1_hw5 : k1_chk5 v63) (k1_t8 : Fin (k1_t8_loop v63).trips) (k1_t10 : Fin (k1_t10_loop v63 k1_t8).trips), ∀ a, (k1_off76 v63 k1_t8 k1_t10) a + S1x1x16.size a ≤ S2x16x128.size a := fun v63 k1_hw5 k1_t8 k1_t10 => k1_hw5.2.2.2.2.2.2.2.2.2.2.2.1 k1_t8 k1_t10
theorem k1_off77_inb : ∀ (v63 : BitVec 32) (k1_hw5 : k1_chk5 v63) (k1_t8 : Fin (k1_t8_loop v63).trips) (k1_t10 : Fin (k1_t10_loop v63 k1_t8).trips), ∀ a, (k1_off77 v63 k1_t8 k1_t10) a + S1x1x16.size a ≤ S2x16x128.size a := fun v63 k1_hw5 k1_t8 k1_t10 => k1_hw5.2.2.2.2.2.2.2.2.2.2.2.2.1 k1_t8 k1_t10
theorem k1_off78_inb : ∀ (v63 : BitVec 32) (k1_hw5 : k1_chk5 v63) (k1_t8 : Fin (k1_t8_loop v63).trips) (k1_t10 : Fin (k1_t10_loop v63 k1_t8).trips), ∀ a, (k1_off78 v63 k1_t8 k1_t10) a + S1x1x16.size a ≤ S2x16x128.size a := fun v63 k1_hw5 k1_t8 k1_t10 => k1_hw5.2.2.2.2.2.2.2.2.2.2.2.2.2.1 k1_t8 k1_t10
theorem k1_off79_inb : ∀ (v63 : BitVec 32) (k1_hw5 : k1_chk5 v63) (k1_t8 : Fin (k1_t8_loop v63).trips) (k1_t10 : Fin (k1_t10_loop v63 k1_t8).trips), ∀ a, (k1_off79 v63 k1_t8 k1_t10) a + S1x1x16.size a ≤ S2x16x128.size a := fun v63 k1_hw5 k1_t8 k1_t10 => k1_hw5.2.2.2.2.2.2.2.2.2.2.2.2.2.2.1 k1_t8 k1_t10
theorem k1_off80_inb : ∀ (v63 : BitVec 32) (k1_hw5 : k1_chk5 v63) (k1_t8 : Fin (k1_t8_loop v63).trips) (k1_t10 : Fin (k1_t10_loop v63 k1_t8).trips), ∀ a, (k1_off80 v63 k1_t8 k1_t10) a + S1x1x16.size a ≤ S2x16x128.size a := fun v63 k1_hw5 k1_t8 k1_t10 => k1_hw5.2.2.2.2.2.2.2.2.2.2.2.2.2.2.2 k1_t8 k1_t10

def k1_chk77 (v236 : IVec S16 32) : Prop :=
  (∀ a x, ((![v236] : Fin 1 → IVec S16 32) a x).toNat < S40960.size a) ∧
  (∀ a x, ((![v236] : Fin 1 → IVec S16 32) a x).toNat < S40960.size a)
theorem k1_idx143_inb : ∀ (v236 : IVec S16 32) (k1_hw77 : k1_chk77 v236), ∀ a x, ((![v236] : Fin 1 → IVec S16 32) a x).toNat < S40960.size a := fun v236 k1_hw77 => k1_hw77.1
theorem k1_idx144_inb : ∀ (v236 : IVec S16 32) (k1_hw77 : k1_chk77 v236), ∀ a x, ((![v236] : Fin 1 → IVec S16 32) a x).toNat < S40960.size a := fun v236 k1_hw77 => k1_hw77.2
def k1_off81 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c128_i32 : BitVec 32 := 128#32
  let v43 : BitVec 32 := Scalar.muli v2 c128_i32
  ![v43.toNat]
abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1024x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "neg" => some ⊥
  | _ => none
-- ==== ReferenceIdeal.lean ====
abbrev S1x128x10000x1 : Shape := ⟨4, ![1, 128, 10000, 1]⟩
abbrev S2x1x10000x32 : Shape := ⟨4, ![2, 1, 10000, 32]⟩
abbrev S256x128 : Shape := ⟨2, ![256, 128]⟩
abbrev S128 : Shape := ⟨1, ![128]⟩
abbrev S1x128x10000 : Shape := ⟨3, ![1, 128, 10000]⟩
abbrev S1x10000x128 : Shape := ⟨3, ![1, 10000, 128]⟩
abbrev S10000x128 : Shape := ⟨2, ![10000, 128]⟩
abbrev S2x320000 : Shape := ⟨2, ![2, 320000]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S320000x128 : Shape := ⟨2, ![320000, 128]⟩
abbrev S320000x256 : Shape := ⟨2, ![320000, 256]⟩
abbrev S1x128 : Shape := ⟨2, ![1, 128]⟩
abbrev S1x320000x1 : Shape := ⟨3, ![1, 320000, 1]⟩
abbrev S10000 : Shape := ⟨1, ![10000]⟩
abbrev S10000x1x1 : Shape := ⟨3, ![10000, 1, 1]⟩
abbrev S10000x320000x1 : Shape := ⟨3, ![10000, 320000, 1]⟩
abbrev S1x320000x128 : Shape := ⟨3, ![1, 320000, 128]⟩
abbrev S10000x320000x128 : Shape := ⟨3, ![10000, 320000, 128]⟩

abbrev nBuf : Space → Nat
  | .hbm => 85
  | .vmem => 0
  | .smem => 0
  | _ => 0

abbrev bufTy : (tb : Table) → Fin (tcTables nBuf tb) → BufTy
  | .hbm, ⟨0, _⟩ => ⟨S1x128x10000x1, .f32⟩
  | .hbm, ⟨1, _⟩ => ⟨S2x1x10000x32, .i32⟩
  | .hbm, ⟨2, _⟩ => ⟨S256x128, .f32⟩
  | .hbm, ⟨3, _⟩ => ⟨S128, .f32⟩
  | .hbm, ⟨4, _⟩ => ⟨S1x128x10000, .f32⟩
  | .hbm, ⟨5, _⟩ => ⟨S1x10000x128, .f32⟩
  | .hbm, ⟨6, _⟩ => ⟨S10000x128, .f32⟩
  | .hbm, ⟨7, _⟩ => ⟨S2x320000, .i32⟩
  | .hbm, ⟨8, _⟩ => ⟨S1x320000, .i32⟩
  | .hbm, ⟨9, _⟩ => ⟨S320000, .i32⟩
  | .hbm, ⟨10, _⟩ => ⟨S1x320000, .i32⟩
  | .hbm, ⟨11, _⟩ => ⟨S320000, .i32⟩
  | .hbm, ⟨12, _⟩ => ⟨S_, .i32⟩
  | .hbm, ⟨13, _⟩ => ⟨S320000, .i32⟩
  | .hbm, ⟨14, _⟩ => ⟨S320000, .i1⟩
  | .hbm, ⟨15, _⟩ => ⟨S_, .i32⟩
  | .hbm, ⟨16, _⟩ => ⟨S320000, .i32⟩
  | .hbm, ⟨17, _⟩ => ⟨S320000, .i32⟩
  | .hbm, ⟨18, _⟩ => ⟨S320000, .i32⟩
  | .hbm, ⟨19, _⟩ => ⟨S320000x1, .i32⟩
  | .hbm, ⟨20, _⟩ => ⟨S1, .i32⟩
  | .hbm, ⟨21, _⟩ => ⟨S_, .i32⟩
  | .hbm, ⟨22, _⟩ => ⟨S320000x1, .i32⟩
  | .hbm, ⟨23, _⟩ => ⟨S320000x1, .i1⟩
  | .hbm, ⟨24, _⟩ => ⟨S1x1, .i32⟩
  | .hbm, ⟨25, _⟩ => ⟨S320000x1, .i32⟩
  | .hbm, ⟨26, _⟩ => ⟨S320000x1, .i1⟩
  | .hbm, ⟨27, _⟩ => ⟨S320000x1, .i1⟩
  | .hbm, ⟨28, _⟩ => ⟨S_, .i1⟩
  | .hbm, ⟨29, _⟩ => ⟨S320000, .i1⟩
  | .hbm, ⟨30, _⟩ => ⟨S320000x128, .f32⟩
  | .hbm, ⟨31, _⟩ => ⟨S320000x128, .i1⟩
  | .hbm, ⟨32, _⟩ => ⟨S_, .f32⟩
  | .hbm, ⟨33, _⟩ => ⟨S320000x128, .f32⟩
  | .hbm, ⟨34, _⟩ => ⟨S320000x128, .f32⟩
  | .hbm, ⟨35, _⟩ => ⟨S_, .i32⟩
  | .hbm, ⟨36, _⟩ => ⟨S320000, .i32⟩
  | .hbm, ⟨37, _⟩ => ⟨S320000, .i1⟩
  | .hbm, ⟨38, _⟩ => ⟨S_, .i32⟩
  | .hbm, ⟨39, _⟩ => ⟨S320000, .i32⟩
  | .hbm, ⟨40, _⟩ => ⟨S320000, .i32⟩
  | .hbm, ⟨41, _⟩ => ⟨S320000, .i32⟩
  | .hbm, ⟨42, _⟩ => ⟨S320000x1, .i32⟩
  | .hbm, ⟨43, _⟩ => ⟨S1, .i32⟩
  | .hbm, ⟨44, _⟩ => ⟨S_, .i32⟩
  | .hbm, ⟨45, _⟩ => ⟨S320000x1, .i32⟩
  | .hbm, ⟨46, _⟩ => ⟨S320000x1, .i1⟩
  | .hbm, ⟨47, _⟩ => ⟨S1x1, .i32⟩
  | .hbm, ⟨48, _⟩ => ⟨S320000x1, .i32⟩
  | .hbm, ⟨49, _⟩ => ⟨S320000x1, .i1⟩
  | .hbm, ⟨50, _⟩ => ⟨S320000x1, .i1⟩
  | .hbm, ⟨51, _⟩ => ⟨S_, .i1⟩
  | .hbm, ⟨52, _⟩ => ⟨S320000, .i1⟩
  | .hbm, ⟨53, _⟩ => ⟨S320000x128, .f32⟩
  | .hbm, ⟨54, _⟩ => ⟨S320000x128, .i1⟩
  | .hbm, ⟨55, _⟩ => ⟨S_, .f32⟩
  | .hbm, ⟨56, _⟩ => ⟨S320000x128, .f32⟩
  | .hbm, ⟨57, _⟩ => ⟨S320000x128, .f32⟩
  | .hbm, ⟨58, _⟩ => ⟨S320000x128, .f32⟩
  | .hbm, ⟨59, _⟩ => ⟨S320000x256, .f32⟩
  | .hbm, ⟨60, _⟩ => ⟨S320000x128, .f32⟩
  | .hbm, ⟨61, _⟩ => ⟨S1x128, .f32⟩
  | .hbm, ⟨62, _⟩ => ⟨S320000x128, .f32⟩
  | .hbm, ⟨63, _⟩ => ⟨S320000x128, .f32⟩
  | .hbm, ⟨64, _⟩ => ⟨S_, .f32⟩
  | .hbm, ⟨65, _⟩ => ⟨S320000x128, .f32⟩
  | .hbm, ⟨66, _⟩ => ⟨S320000x128, .f32⟩
  | .hbm, ⟨67, _⟩ => ⟨S1x320000x1, .i32⟩
  | .hbm, ⟨68, _⟩ => ⟨S10000, .i32⟩
  | .hbm, ⟨69, _⟩ => ⟨S10000x1x1, .i32⟩
  | .hbm, ⟨70, _⟩ => ⟨S10000x320000x1, .i32⟩
  | .hbm, ⟨71, _⟩ => ⟨S10000x320000x1, .i32⟩
  | .hbm, ⟨72, _⟩ => ⟨S10000x320000x1, .i1⟩
  | .hbm, ⟨73, _⟩ => ⟨S1x320000x128, .f32⟩
  | .hbm, ⟨74, _⟩ => ⟨S_, .f32⟩
  | .hbm, ⟨75, _⟩ => ⟨S_, .f32⟩
  | .hbm, ⟨76, _⟩ => ⟨S10000x320000x128, .i1⟩
  | .hbm, ⟨77, _⟩ => ⟨S10000x320000x128, .f32⟩
  | .hbm, ⟨78, _⟩ => ⟨S10000x320000x128, .f32⟩
  | .hbm, ⟨79, _⟩ => ⟨S10000x320000x128, .f32⟩
  | .hbm, ⟨80, _⟩ => ⟨S_, .f32⟩
  | .hbm, ⟨81, _⟩ => ⟨S10000x128, .f32⟩
  | .hbm, ⟨82, _⟩ => ⟨S1x10000x128, .f32⟩
  | .hbm, ⟨83, _⟩ => ⟨S1x128x10000, .f32⟩
  | .hbm, ⟨84, _⟩ => ⟨S1x128x10000x1, .f32⟩
  | _, _ => ⟨S1x128x10000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v8 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_cst : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_cst_0 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_v25 : Ref sig .tc := ⟨.hbm, 79, rfl⟩
abbrev main_cst_1 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩

abbrev nD : Nat := 1
abbrev τ : Topo := Topo.v7x

variable {F : FTy → Type} [FloatOps F]
-- ==== Proof.Assume.lean ====
module

public import proofs.«01_k».proof.Pre_sources_in_range
public import proofs.«01_k».proof.Proof.Gen.Pre_sources_in_range
public import proofs.«01_k».proof.Pre_sources_in_range_finite
public import Idealize.ShloMosaic.PureOps.Ideal
public import Idealize.ShloMosaic.PureOps.Ideal.Laws
public import Idealize.ShloMosaic.Lib.ValueIdxCore
public import Idealize.ShloMosaic.Lib.IdealHost
public import Idealize.ShloMosaic.Lib.ReduceAll
public import Idealize.ShloMosaic.Lib.Pipeline.Value
public import Idealize.ShloMosaic.Lib.Decide

/-! # What the preconditions say

The shapes' facts of the precondition that also asks for finite features and weights, and what it says of each feature and each weight. -/

@[expose] public section

namespace Cert.Proof.Assume

open Idealize.ShloMosaic
open Idealize.ShloMosaic.ValueIdx (ix0)

instance facts : Cert.Pre_sources_in_range_finite.Facts where
  slices_S2x1x10000x32_S1x1x10000x32_0_0_0_0 := by decide
  shapeCasts_S1x1x10000x32_S1x10000x32 := by decide
  bcast_S_S1x10000x32 := by decide
  reducesTo_S1x10000x32_S_d0_1_2 := by decide
  h_S_ := by decide
  bcast_S_S1x128x10000x1 := by decide
  reducesTo_S1x128x10000x1_S_d0_1_2_3 := by decide
  bcast_S_S256x128 := by decide
  reducesTo_S256x128_S_d0_1 := by decide

noncomputable section

open Cert.Pre_sources_in_range_finite

variable (x : FVec Ideal S1x128x10000x1 .f32) (ei : IVec S2x1x10000x32 32) (W : FVec Ideal S256x128 .f32) (b : FVec Ideal S128 .f32)

theorem and_one : ∀ p q : BitVec 1, IntOp.andi p q = 1#1 → p = 1#1 ∧ q = 1#1 := by decide

/-- Its three parts. -/
theorem parts (h : fn x ei W b = fun _ => 1#1) :
    Cert.Pre_sources_in_range.fn x ei W b ix0 = 1#1
      ∧ Host.reduce IntOp.andi (cmpf .olt (Host.absf x) (broadcastInDim S1x128x10000x1 ![] Facts.bcast_S_S1x128x10000x1 (constant S_ .f32 0x7F800000#32))) (constantI S_ 1 1#1) Facts.reducesTo_S1x128x10000x1_S_d0_1_2_3 Facts.h_S_ ix0 = 1#1
      ∧ Host.reduce IntOp.andi (cmpf .olt (Host.absf W) (broadcastInDim S256x128 ![] Facts.bcast_S_S256x128 (constant S_ .f32 0x7F800000#32))) (constantI S_ 1 1#1) Facts.reducesTo_S256x128_S_d0_1 Facts.h_S_ ix0 = 1#1 := by
  have h0 := congrFun h ix0
  have h1 := and_one _ _ h0
  have h2 := and_one _ _ h1.1
  exact ⟨h2.1, h2.2, h1.2⟩

theorem in_range (h : fn x ei W b = fun _ => 1#1) : Cert.Pre_sources_in_range.fn x ei W b = fun _ => 1#1 := by
  funext j
  rw [show j = ix0 from funext fun a => a.elim0]
  exact (parts x ei W b h).1

theorem real_of_lt (a : EReal) (h : Ideal.cmp .olt (max a (-a)) (Ideal.ofBits .f32 0x7F800000#32) = 1#1) : ∃ r : ℝ, a = (r : EReal) := by
  have ht : Ideal.ofBits .f32 0x7F800000#32 = (⊤ : EReal) := by simp [Ideal.ofBits, Ideal.ieee]
  rw [ht] at h
  have h1 : ∀ c : Bool, BitVec.ofBool c = 1#1 → c = true := by decide
  have h2 : max a (-a) < ⊤ := of_decide_eq_true (h1 _ h)
  induction a with
  | bot => simp at h2
  | top => simp at h2
  | coe r => exact ⟨r, rfl⟩

theorem x_real (h : fn x ei W b = fun _ => 1#1) (i : S1x128x10000x1.Idx) : ∃ r : ℝ, (x i : EReal) = (r : EReal) :=
  real_of_lt _ (Host.reduce_andi_all _ _ _ _ ix0 (parts x ei W b h).2.1 i)

theorem W_real (h : fn x ei W b = fun _ => 1#1) (i : S256x128.Idx) : ∃ r : ℝ, (W i : EReal) = (r : EReal) :=
  real_of_lt _ (Host.reduce_andi_all _ _ _ _ ix0 (parts x ei W b h).2.2 i)

end

end Cert.Proof.Assume
-- ==== Proof.Base.lean ====
module

public import proofs.«01_k».proof.Defs
public import proofs.«01_k».proof.Proof.Gen.KernelIdeal.Skeleton
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Batch
public import Idealize.ShloMosaic.Lib.LoopRemainder

/-! # The set-up of the segment-maximum kernel's proof

The launch, the algebra of resources, and names for the buffers a tile works on. -/

@[expose] public section

namespace Cert.Proof.Seg

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI Idealize.SL.Sem
open Idealize.ShloMosaic.Tactic
open Idealize.ShloMosaic.Rounds

noncomputable section

variable {F : FTy → Type} [FloatOps F] [Named F]

abbrev ΛP : Labels := Pipeline.Sig Λ₀ (Fin 2) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handoffs' rounds, the subcore barriers' rounds, the rounds of the dense kernels' blocks, and the counts of the tiles' own
    copies. -/
abbrev UH : Type := URounds (GSem nD τ sig) ℕ
abbrev UB : Type := URounds (GSem nD τ sig) ℕ
abbrev UP : Type := URounds (GSem nD τ sig) Unit
abbrev UU : Type := UH × ((UB × UP) × Counters)
/-- The resources the proof is about. -/
abbrev RR (F : FTy → Type) : Type := MT nD τ sig (HIx 1) (Elt F) ℕ UU ℕ

abbrev EH : Emb UH (RR F) := embL
/-- The barriers' component, and the blocks'. -/
def EB : Emb UB (RR F) :=
  (((Emb.inl : Emb UB (UB × UP)).trans (Emb.inl : Emb (UB × UP) ((UB × UP) × Counters))).trans (Emb.inr : Emb ((UB × UP) × Counters) UU)).trans
    (uEmb (nD := nD) (sig := sig) (Ix := HIx 1) (Val := Elt F) (Name := ℕ) (U := UU) (Lvl := ℕ)).toEmb
instance EB_landsIn : (EB : Emb UB (RR F)).LandsIn (upEmb : UEmb _ (RR F)) := by unfold EB; infer_instance
def EP : Emb UP (RR F) :=
  (((Emb.inr : Emb UP (UB × UP)).trans (Emb.inl : Emb (UB × UP) ((UB × UP) × Counters))).trans (Emb.inr : Emb ((UB × UP) × Counters) UU)).trans
    (uEmb (nD := nD) (sig := sig) (Ix := HIx 1) (Val := Elt F) (Name := ℕ) (U := UU) (Lvl := ℕ)).toEmb
instance EP_landsIn : (EP : Emb UP (RR F)).LandsIn (upEmb : UEmb _ (RR F)) := by unfold EP; infer_instance

/-! ### The buffers a tile works on -/

abbrev srcA : Memref sig .scVector .hbm S320256 .i32 := Memref.whole main_v5_scv
abbrev dstA : Memref sig .scVector .hbm S320256 .i32 := Memref.whole main_v8_scv
abbrev gA : Memref sig .scVector .hbm S10000x128 .f32 := Memref.whole main_v11_scv
abbrev outA : Memref sig .scVector .hbm S1310720 .f32 := Memref.whole main_v12_scv
/-- The running maxima. -/
abbrev mV : Memref sig .scVector .vmem S40960 .f32 := Memref.whole cc1_scratch0
/-- The two chunks of sources. -/
abbrev sV : Memref sig .scVector .vmem S2x768 .i32 := Memref.whole cc1_scratch1
/-- The two chunks of destinations. -/
abbrev tV : Memref sig .scVector .vmem S2x768 .i32 := Memref.whole cc1_scratch2
/-- The matching edges' sources. -/
abbrev lV : Memref sig .scVector .vmem S784 .i32 := Memref.whole cc1_scratch3
/-- The matching edges' local destinations. -/
abbrev dV : Memref sig .scVector .vmem S784 .i32 := Memref.whole cc1_scratch4
/-- The two batches of gathered rows. -/
abbrev rV : Memref sig .scVector .vmem S2x16x128 .f32 := Memref.whole cc1_scratch5
/-- The rows in the SparseCore's shared memory. -/
abbrev gV : Memref sig .scVector .shared S10000x128 .f32 := Memref.whole cc1_scratch6

/-- The operations of the tile at `i`. -/
abbrev Eff (F : FTy → Type) (i : grid1.Coords) : Type → Type :=
  TpuEff nD τ sig (Elt F) Λ₀ (.scVector ((i 0).castLE hcore1) ((i 1).castLE hsub1))

end

end Cert.Proof.Seg
-- ==== Proof.Chain.lean ====
module

public import proofs.«01_k».proof.Proof.Base

/-! # The loop bodies as chains of equal pieces

A pair of edges updates the maxima in eight blocks of sixteen lanes, and a trip of the scan appends
four vectors of sixteen edges. Both are written here from one piece each. -/

@[expose] public section

namespace Cert.Proof.Seg

open Cert.KernelIdeal Cert.KernelIdeal.Gen
open Idealize.ShloMosaic Idealize.SL.Sem

noncomputable section

variable {F : FTy → Type} [FloatOps F] [Named F]

/-- Sixteen lanes `ix` of the maxima take the maximum with sixteen lanes of the gathered rows. -/
def rmw (i : grid1.Coords) (ix : IVec S16 32) (mk : IVec S16 1)
    (h : ∀ a x, ((![ix] : Fin 1 → IVec S16 32) a x).toNat < S40960.size a)
    (h' : ∀ a x, ((![ix] : Fin 1 → IVec S16 32) a x).toNat < S40960.size a)
    (o : Fin 3 → ℕ) (ho : ∀ a, o a + S1x1x16.size a ≤ S2x16x128.size a) :
    Prog (Eff F i) Unit := do
  let v : Vec F S16 .f32 ← SparseCore.vectorLoadIdx mV ![ix] h (View.loads_vmem h_S40960)
  let w : Vec F S1x1x16 .f32 ← Prog.lift (.load rV
    (Rect.unit (s := S2x16x128) o S1x1x16.size ho).toLoadRect (View.loadsAt_vmem h_S1x1x16))
  SparseCore.vectorStoreIdx mV ![ix] (maximumf (φ := .f32) v (shapeCast S16 w shapeCasts_S1x1x16_S16)) mk
    false h' (View.stores_vmem_bits_univ h_S40960 rfl)

/-- One block of a pair: the first edge's lanes, then the second's. -/
def blk (i : grid1.Coords) (A B : IVec S16 32 → Prop) (dA : ∀ v, Decidable (A v))
    (dB : ∀ v, Decidable (B v)) (a b : IVec S16 32) (mk : IVec S16 1)
    (hA hA' : ∀ v, A v → ∀ a x, ((![v] : Fin 1 → IVec S16 32) a x).toNat < S40960.size a)
    (hB hB' : ∀ v, B v → ∀ a x, ((![v] : Fin 1 → IVec S16 32) a x).toNat < S40960.size a)
    (oA : Fin 3 → ℕ) (hoA : ∀ a, oA a + S1x1x16.size a ≤ S2x16x128.size a)
    (oB : Fin 3 → ℕ) (hoB : ∀ a, oB a + S1x1x16.size a ≤ S2x16x128.size a) :
    Prog (Eff F i) Unit := do
  have wa : A a := (← Prog.lift (TpuEff.assume (A a) (dA a))).down
  have wb : B b := (← Prog.lift (TpuEff.assume (B b) (dB b))).down
  rmw i a (fun _ => 1#1) (hA a wa) (hA' a wa) oA hoA
  rmw i b mk (hB b wb) (hB' b wb) oB hoB

/-- The body of a pair of edges: two destinations from the list, then eight blocks. -/
def pair (i : grid1.Coords) (v13 v15 v17 v19 v21 v23 v25 v27 : IVec S16 32)
    (v63 : BitVec 32) (w : k1_chk5 v63) (b : Fin (k1_t5_loop v63).trips) (arg18 v111 : BitVec 32)
    (t : Fin (k1_t6_loop v63 b).trips) : Prog (Eff F i) Unit := do
  have e0 : IVec S16 32 := broadcast S16 (Scalar.addi (Scalar.muli arg18 16#32) (Scalar.muli 2#32 (Scf.iv 0#32 1#32 t)))
  have e1 : IVec S16 32 := broadcast S16 (Scalar.addi (Scalar.addi (Scalar.muli arg18 16#32) (Scalar.muli 2#32 (Scf.iv 0#32 1#32 t))) 1#32)
  have h6 : k1_chk6 e0 := (← Prog.lift (TpuEff.assume (k1_chk6 e0) (k1_chk6.dec e0))).down
  let x : Vec F S16 .i32 ← SparseCore.vectorLoadIdx dV ![e0] (k1_idx9_inb e0 h6) (View.loads_vmem h_S784)
  have h7 : k1_chk7 e1 := (← Prog.lift (TpuEff.assume (k1_chk7 e1) (k1_chk7.dec e1))).down
  let y : Vec F S16 .i32 ← SparseCore.vectorLoadIdx dV ![e1] (k1_idx10_inb e1 h7) (View.loads_vmem h_S784)
  let mk : IVec S16 1 := k1_pay33 v63 b v111 0#32 1#32 t
  blk i k1_chk8 k1_chk9 k1_chk8.dec k1_chk9.dec (addi (k1_pay34 (F := F) x) v13) (addi (k1_pay35 (F := F) y) v13) mk
    k1_idx11_inb k1_idx12_inb k1_idx13_inb k1_idx14_inb
    (k1_off13 v63 b t) (k1_off13_inb v63 w b t) (k1_off14 v63 b t) (k1_off14_inb v63 w b t)
  blk i k1_chk10 k1_chk11 k1_chk10.dec k1_chk11.dec (addi (k1_pay34 (F := F) x) v15) (addi (k1_pay35 (F := F) y) v15) mk
    k1_idx15_inb k1_idx16_inb k1_idx17_inb k1_idx18_inb
    (k1_off15 v63 b t) (k1_off15_inb v63 w b t) (k1_off16 v63 b t) (k1_off16_inb v63 w b t)
  blk i k1_chk12 k1_chk13 k1_chk12.dec k1_chk13.dec (addi (k1_pay34 (F := F) x) v17) (addi (k1_pay35 (F := F) y) v17) mk
    k1_idx19_inb k1_idx20_inb k1_idx21_inb k1_idx22_inb
    (k1_off17 v63 b t) (k1_off17_inb v63 w b t) (k1_off18 v63 b t) (k1_off18_inb v63 w b t)
  blk i k1_chk14 k1_chk15 k1_chk14.dec k1_chk15.dec (addi (k1_pay34 (F := F) x) v19) (addi (k1_pay35 (F := F) y) v19) mk
    k1_idx23_inb k1_idx24_inb k1_idx25_inb k1_idx26_inb
    (k1_off19 v63 b t) (k1_off19_inb v63 w b t) (k1_off20 v63 b t) (k1_off20_inb v63 w b t)
  blk i k1_chk16 k1_chk17 k1_chk16.dec k1_chk17.dec (addi (k1_pay34 (F := F) x) v21) (addi (k1_pay35 (F := F) y) v21) mk
    k1_idx27_inb k1_idx28_inb k1_idx29_inb k1_idx30_inb
    (k1_off21 v63 b t) (k1_off21_inb v63 w b t) (k1_off22 v63 b t) (k1_off22_inb v63 w b t)
  blk i k1_chk18 k1_chk19 k1_chk18.dec k1_chk19.dec (addi (k1_pay34 (F := F) x) v23) (addi (k1_pay35 (F := F) y) v23) mk
    k1_idx31_inb k1_idx32_inb k1_idx33_inb k1_idx34_inb
    (k1_off23 v63 b t) (k1_off23_inb v63 w b t) (k1_off24 v63 b t) (k1_off24_inb v63 w b t)
  blk i k1_chk20 k1_chk21 k1_chk20.dec k1_chk21.dec (addi (k1_pay34 (F := F) x) v25) (addi (k1_pay35 (F := F) y) v25) mk
    k1_idx35_inb k1_idx36_inb k1_idx37_inb k1_idx38_inb
    (k1_off25 v63 b t) (k1_off25_inb v63 w b t) (k1_off26 v63 b t) (k1_off26_inb v63 w b t)
  blk i k1_chk22 k1_chk23 k1_chk22.dec k1_chk23.dec (addi (k1_pay34 (F := F) x) v27) (addi (k1_pay35 (F := F) y) v27) mk
    k1_idx39_inb k1_idx40_inb k1_idx41_inb k1_idx42_inb
    (k1_off27 v63 b t) (k1_off27_inb v63 w b t) (k1_off28 v63 b t) (k1_off28_inb v63 w b t)
  pure ⟨⟩

theorem t6_body_eq (i : grid1.Coords) (v13 v15 v17 v19 v21 v23 v25 v27 : IVec S16 32)
    (v63 : BitVec 32) (w : k1_chk5 v63) (b : Fin (k1_t5_loop v63).trips) (arg18 v91 v111 : BitVec 32)
    (t : Fin (k1_t6_loop v63 b).trips) (u : Unit) :
    k1_t6_body (F := F) i srcA (Memref.isWhole_whole _) dstA (Memref.isWhole_whole _) gA (Memref.isWhole_whole _) outA (Memref.isWhole_whole _) mV (Memref.isWhole_whole _) sV (Memref.isWhole_whole _) tV (Memref.isWhole_whole _) lV (Memref.isWhole_whole _) dV (Memref.isWhole_whole _) rV (Memref.isWhole_whole _) gV (Memref.isWhole_whole _) cc1_scratch7 cc1_scratch8 cc1_scratch9 cc1_scratch10 cc1_scoped0 cc1_scoped1 cc1_scoped2 v13 v15 v17 v19 v21 v23 v25 v27 v63 w b arg18 v91 v111 t u
      = pair i v13 v15 v17 v19 v21 v23 v25 v27 v63 w b arg18 v111 t := rfl

/-- One vector of the scan: the lanes of `mk` append a source and a local destination. -/
def app (i : grid1.Coords) (A : IVec S16 32 → Prop) (dA : ∀ v, Decidable (A v)) (p : IVec S16 32)
    (mk : IVec S16 1) (x y : Vec F S16 .i32)
    (h h' : ∀ v, A v → ∀ a x, ((![v] : Fin 1 → IVec S16 32) a x).toNat < S784.size a) :
    Prog (Eff F i) Unit := do
  have w : A p := (← Prog.lift (TpuEff.assume (A p) (dA p))).down
  SparseCore.vectorStoreIdx lV ![p] x mk false (h p w) (View.stores_vmem_bits_univ h_S784 rfl)
  SparseCore.vectorStoreIdx dV ![p] y mk false (h' p w) (View.stores_vmem_bits_univ h_S784 rfl)

/-- Sixteen lanes of a chunk buffer. -/
def ld (i : grid1.Coords) (m : Memref sig .scVector .vmem S2x768 .i32) (c : Fin k1_t3_loop.trips)
    (t : Fin k1_t4_loop.trips) (k : Fin 4) : Prog (Eff F i) (Vec F S1x16 .i32) :=
  Prog.lift (.load m (Rect.unit (s := S2x768) (k1_off8 c t (BitVec.ofNat 32 k.val)) S1x16.size (k1_off8_inb c t k)).toLoadRect
    (View.loadsAt_vmem h_S1x16))

/-- The running count after the lanes of `mk`. -/
def cntAfter (r : BitVec 32) (mk : IVec S16 1) : BitVec 32 :=
  Scalar.addi r (extractAt ![0] (extractStridedSlice S1 ![15] (scan .sum (extui 32 mk natLt_1_32)) slices_S16_o15_S1) inpos_S1_p0)

/-- The places the lanes of `mk` append at, from the running count; place 0 for the other lanes. -/
def places (r : BitVec 32) (mk : IVec S16 1) : IVec S16 32 :=
  select mk (subi (addi (broadcast S16 r) (scan .sum (extui 32 mk natLt_1_32))) (broadcast S16 1#32))
    (broadcast S16 0#32)

/-- The lanes of a load. -/
def lanes (d : Vec F S1x16 .i32) : Vec F S16 .i32 := shapeCast S16 d shapeCasts_S1x16_S16

/-- A trip of the scan: eight loads, then the four vectors appended one after another. -/
def scanTrip (i : grid1.Coords) (v2 : BitVec 32) (c : Fin k1_t3_loop.trips)
    (t : Fin k1_t4_loop.trips) (r : BitVec 32) : Prog (Eff F i) (BitVec 32) := do
  let d0 ← ld (F := F) i tV c t 0
  let d1 ← ld (F := F) i tV c t 1
  let d2 ← ld (F := F) i tV c t 2
  let d3 ← ld (F := F) i tV c t 3
  let s0 ← ld (F := F) i sV c t 0
  let s1 ← ld (F := F) i sV c t 1
  let s2 ← ld (F := F) i sV c t 2
  let s3 ← ld (F := F) i sV c t 3
  let m0 := k1_pay17 (F := F) v2 (lanes d0)
  let m1 := k1_pay17 (F := F) v2 (lanes d1)
  let m2 := k1_pay17 (F := F) v2 (lanes d2)
  let m3 := k1_pay17 (F := F) v2 (lanes d3)
  let r1 := cntAfter r m0
  let r2 := cntAfter r1 m1
  let r3 := cntAfter r2 m2
  app i k1_chk1 k1_chk1.dec (places r m0) m0 (lanes s0) (k1_pay13 (F := F) v2 (lanes d0)) k1_idx1_inb k1_idx2_inb
  app i k1_chk2 k1_chk2.dec (places r1 m1) m1 (lanes s1) (k1_pay13 (F := F) v2 (lanes d1)) k1_idx3_inb k1_idx4_inb
  app i k1_chk3 k1_chk3.dec (places r2 m2) m2 (lanes s2) (k1_pay13 (F := F) v2 (lanes d2)) k1_idx5_inb k1_idx6_inb
  app i k1_chk4 k1_chk4.dec (places r3 m3) m3 (lanes s3) (k1_pay13 (F := F) v2 (lanes d3)) k1_idx7_inb k1_idx8_inb
  pure (cntAfter r3 m3)

theorem t4_body_eq (i : grid1.Coords) (v2 a b : BitVec 32) (c : Fin k1_t3_loop.trips) (v44 : BitVec 32)
    (t : Fin k1_t4_loop.trips) (r : BitVec 32) :
    k1_t4_body (F := F) i srcA (Memref.isWhole_whole _) dstA (Memref.isWhole_whole _) gA (Memref.isWhole_whole _) outA (Memref.isWhole_whole _) mV (Memref.isWhole_whole _) sV (Memref.isWhole_whole _) tV (Memref.isWhole_whole _) lV (Memref.isWhole_whole _) dV (Memref.isWhole_whole _) rV (Memref.isWhole_whole _) gV (Memref.isWhole_whole _) cc1_scratch7 cc1_scratch8 cc1_scratch9 cc1_scratch10 cc1_scoped0 cc1_scoped1 cc1_scoped2 v2 a b c v44 t r = scanTrip i v2 c t r := rfl

end

end Cert.Proof.Seg
-- ==== Proof.Lanes.lean ====
module

public import proofs.«01_k».proof.Proof.Chain

/-! # Lanes: what the indexed loads and stores and the running count of a mask compute -/

@[expose] public section

namespace Cert.Proof.Seg

open Cert.KernelIdeal Cert.KernelIdeal.Gen
open Idealize.ShloMosaic Idealize.SL.Sem

noncomputable section

variable {F : FTy → Type} [FloatOps F] [Named F]

/-- The lane `l` of a vector of sixteen. -/
abbrev lane (l : Fin 16) : S16.Idx := Shape.ofLane (d := ![16]) l

theorem lane_val (l : Fin 16) : ((lane l) 0).val = l.val := rfl

theorem idx_eq_lane (x : S16.Idx) : x = lane ⟨(x 0).val, (x 0).isLt⟩ := by
  funext a
  have : a = 0 := Fin.eq_zero a
  subst this
  rfl

theorem exists_lane (x : S16.Idx) : ∃ l : Fin 16, x = lane l := ⟨_, idx_eq_lane x⟩

section Store

variable {n : ℕ} {e : EltTy}

theorem foldl_miss (ix : IVec S16 32) (v : Vec F S16 e) (mk : IVec S16 1)
    (h : ∀ a x, ((![ix] : Fin 1 → IVec S16 32) a x).toNat < (⟨1, ![n]⟩ : Shape).size a)
    (j : (⟨1, ![n]⟩ : Shape).Idx) (L : List (Fin 16)) :
    ∀ f : Vec F ⟨1, ![n]⟩ e, (∀ l ∈ L, mk (lane l) = 1 → (ix (lane l)).toNat ≠ (j 0).val) →
    L.foldl (fun g k =>
      if mk (lane k) = 1 then
        fun j => if (∀ a, (j a).val = (idxAt ![ix] h (lane k) a).val) then v (lane k) else g j
      else g) f j = f j := by
  induction L with
  | nil => intro f _; rfl
  | cons k L ih =>
    intro f hm
    rw [List.foldl_cons, ih _ fun l hl => hm l (List.mem_cons_of_mem _ hl)]
    by_cases hk : mk (lane k) = 1
    · rw [if_pos hk, if_neg]
      intro hj
      exact hm k List.mem_cons_self hk (hj 0).symm
    · rw [if_neg hk]

theorem foldl_hit (ix : IVec S16 32) (v : Vec F S16 e) (mk : IVec S16 1)
    (h : ∀ a x, ((![ix] : Fin 1 → IVec S16 32) a x).toNat < (⟨1, ![n]⟩ : Shape).size a)
    (j : (⟨1, ![n]⟩ : Shape).Idx) (l : Fin 16) (hl : mk (lane l) = 1)
    (hj : (ix (lane l)).toNat = (j 0).val)
    (hu : ∀ l', mk (lane l') = 1 → (ix (lane l')).toNat = (j 0).val → l' = l) (L : List (Fin 16)) :
    ∀ f : Vec F ⟨1, ![n]⟩ e, l ∈ L →
    L.foldl (fun g k =>
      if mk (lane k) = 1 then
        fun j => if (∀ a, (j a).val = (idxAt ![ix] h (lane k) a).val) then v (lane k) else g j
      else g) f j = v (lane l) := by
  induction L with
  | nil => intro f hm; exact absurd hm List.not_mem_nil
  | cons k L ih =>
    intro f hm
    rw [List.foldl_cons]
    by_cases hL : l ∈ L
    · exact ih _ hL
    · have hk : l = k := by
        rcases List.mem_cons.mp hm with h | h
        · exact h
        · exact absurd h hL
      subst hk
      rw [foldl_miss ix v mk h j L _ fun l' hl' hm' he => hL (hu l' hm' he ▸ hl'), if_pos hl, if_pos]
      intro a
      have : a = 0 := Fin.eq_zero a
      subst this
      exact hj.symm

/-- An element that no set lane names keeps its value. -/
theorem storeIdx_miss (f : Vec F ⟨1, ![n]⟩ e) (ix : IVec S16 32) (v : Vec F S16 e) (mk : IVec S16 1)
    (h : ∀ a x, ((![ix] : Fin 1 → IVec S16 32) a x).toNat < (⟨1, ![n]⟩ : Shape).size a)
    (j : (⟨1, ![n]⟩ : Shape).Idx)
    (hm : ∀ l : Fin 16, mk (lane l) = 1 → (ix (lane l)).toNat ≠ (j 0).val) :
    storeIdx (F := F) (s := ⟨1, ![n]⟩) (d := ![16]) f ![ix] v mk false h j = f j := by
  unfold storeIdx
  simp only [Bool.false_eq_true, if_false]
  exact foldl_miss ix v mk h j (List.finRange 16) f fun l _ => hm l

/-- An element that exactly one set lane names takes that lane's value. -/
theorem storeIdx_hit (f : Vec F ⟨1, ![n]⟩ e) (ix : IVec S16 32) (v : Vec F S16 e) (mk : IVec S16 1)
    (h : ∀ a x, ((![ix] : Fin 1 → IVec S16 32) a x).toNat < (⟨1, ![n]⟩ : Shape).size a)
    (j : (⟨1, ![n]⟩ : Shape).Idx) (l : Fin 16) (hl : mk (lane l) = 1)
    (hj : (ix (lane l)).toNat = (j 0).val)
    (hu : ∀ l', mk (lane l') = 1 → (ix (lane l')).toNat = (j 0).val → l' = l) :
    storeIdx (F := F) (s := ⟨1, ![n]⟩) (d := ![16]) f ![ix] v mk false h j = v (lane l) := by
  unfold storeIdx
  simp only [Bool.false_eq_true, if_false]
  exact foldl_hit ix v mk h j l hl hj hu (List.finRange 16) f (List.mem_finRange l)

end Store

/-! ### The running count of a mask -/

/-- The lanes of `mk`, as a predicate on numbers. -/
def on (mk : IVec S16 1) (k : ℕ) : Prop := ∃ h : k < 16, mk (lane ⟨k, h⟩) = 1

instance (mk : IVec S16 1) : DecidablePred (on mk) := fun k => by unfold on; infer_instance

theorem bit_cases (b : BitVec 1) : b = 0 ∨ b = 1 := by
  revert b; decide

theorem extui_lane (mk : IVec S16 1) (l : Fin 16) :
    extui 32 mk natLt_1_32 (lane l) = BitVec.ofNat 32 (if on mk l.val then 1 else 0) := by
  have : on mk l.val ↔ mk (lane l) = 1 := ⟨fun ⟨_, h⟩ => h, fun h => ⟨l.isLt, h⟩⟩
  rcases bit_cases (mk (lane l)) with h | h
  · rw [if_neg (by rw [this, h]; decide)]
    show (mk (lane l)).setWidth 32 = _
    rw [h]; rfl
  · rw [if_pos (this.mpr h)]
    show (mk (lane l)).setWidth 32 = _
    rw [h]; rfl

theorem filter_succ : ∀ k : Fin 15, ((List.finRange 16).filter fun i : Fin 16 => decide (0 < i.val ∧ i.val ≤ k.val + 1))
    = ((List.finRange 16).filter fun i : Fin 16 => decide (0 < i.val ∧ i.val ≤ k.val)) ++ [⟨k.val + 1, by omega⟩] := by
  decide

theorem filter_zero : ((List.finRange 16).filter fun i : Fin 16 => decide (0 < i.val ∧ i.val ≤ 0)) = [] := by
  decide

theorem foldl_count (mk : IVec S16 1) : ∀ k : ℕ, (hk : k < 16) →
    ((List.finRange 16).filter fun i : Fin 16 => decide (0 < i.val ∧ i.val ≤ k)).foldl
      (fun r i => r + extui 32 mk natLt_1_32 (lane i)) (extui 32 mk natLt_1_32 (lane ⟨0, by omega⟩))
    = BitVec.ofNat 32 (Nat.count (on mk) (k + 1)) := by
  intro k
  induction k with
  | zero =>
    intro _
    rw [filter_zero, List.foldl_nil, extui_lane, Nat.count_succ (p := on mk)]
    simp
  | succ k ih =>
    intro hk
    rw [filter_succ ⟨k, by omega⟩, List.foldl_append, ih (by omega), List.foldl_cons, List.foldl_nil, extui_lane,
      Nat.count_succ (p := on mk) (n := k + 1), BitVec.ofNat_add]

theorem scan_lane (mk : IVec S16 1) (l : Fin 16) :
    scan .sum (extui 32 mk natLt_1_32) (lane l) = BitVec.ofNat 32 (Nat.count (on mk) (l.val + 1)) :=
  foldl_count mk l.val l.isLt

theorem cntAfter_eq (r : BitVec 32) (mk : IVec S16 1) :
    cntAfter r mk = r + BitVec.ofNat 32 (Nat.count (on mk) 16) := by
  unfold cntAfter
  show r + _ = _
  congr 1
  exact scan_lane mk 15

theorem places_on (r : BitVec 32) (mk : IVec S16 1) (l : Fin 16) (h : mk (lane l) = 1) :
    places r mk (lane l) = r + BitVec.ofNat 32 (Nat.count (on mk) l.val) := by
  have : on mk l.val := ⟨l.isLt, h⟩
  show (if mk (lane l) = 1 then (r + scan .sum (extui 32 mk natLt_1_32) (lane l)) - 1#32 else 0#32) = _
  rw [if_pos h, scan_lane, Nat.count_succ, if_pos this, BitVec.ofNat_add, ← BitVec.add_assoc]
  exact BitVec.add_sub_cancel _ _

theorem places_off (r : BitVec 32) (mk : IVec S16 1) (l : Fin 16) (h : ¬ mk (lane l) = 1) :
    places r mk (lane l) = 0#32 := by
  show (if mk (lane l) = 1 then _ else 0#32) = _
  rw [if_neg h]

/-! ### The destinations that are a tile's -/

/-- The destination `d` is one of the 320 from `v2` on. -/
def hitW (v2 d : BitVec 32) : Prop := (d - v2).toNat < 320

instance (v2 d : BitVec 32) : Decidable (hitW v2 d) := by unfold hitW; infer_instance

theorem cmp_hit (z : BitVec 32) : (IntOp.cmpi .sge z 0#32 &&& IntOp.cmpi .slt z 320#32 : BitVec 1) = 1 ↔ z.toNat < 320 := by
  have h1 : IntOp.cmpi .sge z 0#32 = BitVec.ofBool (BitVec.sle 0#32 z) := rfl
  have h2 : IntOp.cmpi .slt z 320#32 = BitVec.ofBool (BitVec.slt z 320#32) := rfl
  rw [h1, h2]
  have e1 : (BitVec.sle 0#32 z = true) ↔ 0 ≤ z.toInt := by
    rw [BitVec.sle_iff_toInt_le]; simp
  have e2 : (BitVec.slt z 320#32 = true) ↔ z.toInt < 320 := by
    rw [BitVec.slt_iff_toInt_lt]; simp
  have e3 : (BitVec.ofBool (BitVec.sle 0#32 z) &&& BitVec.ofBool (BitVec.slt z 320#32) = 1)
      ↔ (BitVec.sle 0#32 z = true ∧ BitVec.slt z 320#32 = true) := by
    cases BitVec.sle 0#32 z <;> cases BitVec.slt z 320#32 <;> decide
  rw [e3, e1, e2]
  have := z.isLt
  rw [BitVec.toInt_eq_toNat_cond]
  split <;> omega

theorem pay17_iff (v2 : BitVec 32) (x : Vec F S16 .i32) (l : Fin 16) :
    k1_pay17 (F := F) v2 x (lane l) = 1 ↔ hitW v2 (x (lane l)) := cmp_hit _

theorem pay13_lane (v2 : BitVec 32) (x : Vec F S16 .i32) (l : Fin 16) :
    k1_pay13 (F := F) v2 x (lane l) = (x (lane l) : BitVec 32) - v2 := rfl

end

end Cert.Proof.Seg
-- ==== Proof.Fold.lean ====
module

public import proofs.«01_k».proof.Proof.Lanes

/-! # The maxima as a fold over edges

`fold` takes edges in order, each that matches putting its row into the maxima of its destination. The
kernel's tile computes it three times over: over all edges, over a chunk, and over the list of a
chunk's matches. -/

@[expose] public section

namespace Cert.Proof.Seg

open Cert.KernelIdeal Cert.KernelIdeal.Gen
open Idealize.ShloMosaic Idealize.SL.Sem

noncomputable section

variable {F : FTy → Type} [FloatOps F] [Named F]

/-- The contents of a tile's maxima: 320 nodes of 128 features, one after another. -/
abbrev MB (F : FTy → Type) : Type := S40960.Idx → F .f32

/-- Node `d`'s maxima take the maximum with the row `R`. -/
def upd (m : MB F) (d : ℕ) (R : ℕ → F .f32) : MB F :=
  fun j => if (j 0).val / 128 = d then FloatOps.maximumf (m j) (R ((j 0).val % 128)) else m j

/-- The first `n` edges, in order. -/
def fold (hit : ℕ → Prop) [DecidablePred hit] (D : ℕ → ℕ) (R : ℕ → ℕ → F .f32) (m : MB F) : ℕ → MB F
  | 0 => m
  | n + 1 => if hit n then upd (fold hit D R m n) (D n) (R n) else fold hit D R m n

theorem fold_add (hit : ℕ → Prop) [DecidablePred hit] (D : ℕ → ℕ) (R : ℕ → ℕ → F .f32) (m : MB F) (a n : ℕ) :
    fold hit D R m (a + n)
      = fold (fun e => hit (a + e)) (fun e => D (a + e)) (fun e => R (a + e)) (fold hit D R m a) n := by
  induction n with
  | zero => rfl
  | succ n ih =>
    show (if hit (a + n) then upd (fold hit D R m (a + n)) (D (a + n)) (R (a + n)) else fold hit D R m (a + n)) = _
    rw [ih]; rfl

/-- A fold depends on its edges' data only. -/
theorem fold_congr (hit hit' : ℕ → Prop) [DecidablePred hit] [DecidablePred hit'] (D D' : ℕ → ℕ)
    (R R' : ℕ → ℕ → F .f32) (m : MB F) (n : ℕ) (h : ∀ e < n, (hit e ↔ hit' e) ∧ D e = D' e ∧ R e = R' e) :
    fold hit D R m n = fold hit' D' R' m n := by
  induction n with
  | zero => rfl
  | succ n ih =>
    obtain ⟨h1, h2, h3⟩ := h n (Nat.lt_succ_self n)
    have ih := ih fun e he => h e (Nat.lt_succ_of_lt he)
    show (if hit n then _ else _) = (if hit' n then _ else _)
    by_cases hn : hit n
    · rw [if_pos hn, if_pos (h1.mp hn), ih, h2, h3]
    · rw [if_neg hn, if_neg (fun h => hn (h1.mpr h)), ih]

/-- The list of the matches gives the same maxima as the edges themselves. -/
theorem fold_list (hit : ℕ → Prop) [DecidablePred hit] (D Dl : ℕ → ℕ) (R Rl : ℕ → ℕ → F .f32) (m : MB F) (T : ℕ)
    (h : ∀ e < T, hit e → Dl (Nat.count hit e) = D e ∧ Rl (Nat.count hit e) = R e) :
    fold (fun _ => True) Dl Rl m (Nat.count hit T) = fold hit D R m T := by
  induction T with
  | zero => rfl
  | succ n ih =>
    have ih := ih fun e he => h e (Nat.lt_succ_of_lt he)
    rw [Nat.count_succ]
    show _ = (if hit n then _ else _)
    by_cases hn : hit n
    · obtain ⟨h2, h3⟩ := h n (Nat.lt_succ_self n) hn
      rw [if_pos hn, if_pos hn]
      show (if True then upd (fold (fun _ => True) Dl Rl m (Nat.count hit n)) _ _ else _) = _
      rw [if_pos trivial, ih, h2, h3]
    · rw [if_neg hn, if_neg hn, Nat.add_zero, ih]

/-! ### One block of sixteen lanes -/

/-- The first `n` blocks of every node's features from `m'`, the others from `m`. -/
def mid (m m' : MB F) (n : ℕ) : MB F := fun j => if (j 0).val % 128 / 16 < n then m' j else m j

theorem mid_zero (m m' : MB F) : mid m m' 0 = m := by
  funext j; exact if_neg (Nat.not_lt_zero _)

theorem mid_eight (m m' : MB F) : mid m m' 8 = m' := by
  funext j; exact if_pos (by omega)

/-- What `rmw` leaves in the maxima. -/
def rmwVal (f : MB F) (ix : IVec S16 32) (mk : IVec S16 1)
    (h h' : ∀ a x, ((![ix] : Fin 1 → IVec S16 32) a x).toNat < S40960.size a) (w : Vec F S16 .f32) : MB F :=
  storeIdx (F := F) (e := .f32) (s := S40960) (d := ![16]) f ![ix] (maximumf (φ := .f32) (loadIdx (F := F) (e := .f32) f ![ix] h) w) mk false h'

theorem rmwVal_apply (f : MB F) (ix : IVec S16 32) (c : BitVec 1)
    (h h' : ∀ a x, ((![ix] : Fin 1 → IVec S16 32) a x).toNat < S40960.size a) (w : Vec F S16 .f32) (d n : ℕ) (hn : n < 8)
    (hix : ∀ l : Fin 16, (ix (lane l)).toNat = 128 * d + 16 * n + l.val) (j : S40960.Idx) :
    rmwVal f ix (fun _ => c) h h' w j
      = if c = 1 ∧ (j 0).val / 128 = d ∧ (j 0).val % 128 / 16 = n then
          FloatOps.maximumf (f j) (w (lane ⟨(j 0).val % 16, Nat.mod_lt _ (by decide)⟩))
        else f j := by
  unfold rmwVal
  by_cases hc : c = 1 ∧ (j 0).val / 128 = d ∧ (j 0).val % 128 / 16 = n
  · rw [if_pos hc]
    obtain ⟨hc, h1, h2⟩ := hc
    have hj : (ix (lane ⟨(j 0).val % 16, Nat.mod_lt _ (by decide)⟩)).toNat = (j 0).val := by
      rw [hix]; show 128 * d + 16 * n + (j 0).val % 16 = _; omega
    rw [storeIdx_hit (n := 40960) (e := .f32) f ix _ _ h' j ⟨(j 0).val % 16, Nat.mod_lt _ (by decide)⟩ hc hj]
    · show FloatOps.maximumf (f (idxAt ![ix] h (lane _))) _ = _
      have : idxAt ![ix] h (lane ⟨(j 0).val % 16, Nat.mod_lt _ (by decide)⟩) = j := by
        funext a
        have : a = 0 := Fin.eq_zero a
        subst this
        exact Fin.ext hj
      rw [this]
    · intro l' _ hl'
      rw [hix] at hl'
      apply Fin.ext
      show l'.val = (j 0).val % 16
      have := l'.isLt
      omega
  · rw [if_neg hc]
    apply storeIdx_miss (n := 40960) (e := .f32)
    intro l hl hj
    apply hc
    rw [hix] at hj
    have := l.isLt
    exact ⟨hl, by omega, by omega⟩

/-- A block of a pair takes the maxima one block further. -/
theorem block_step (m : MB F) (a b : IVec S16 32) (c : BitVec 1)
    (ha ha' : ∀ x y, ((![a] : Fin 1 → IVec S16 32) x y).toNat < S40960.size x)
    (hb hb' : ∀ x y, ((![b] : Fin 1 → IVec S16 32) x y).toNat < S40960.size x)
    (wa wb : Vec F S16 .f32) (d0 d1 n : ℕ) (R0 R1 : ℕ → F .f32) (hn : n < 8)
    (hia : ∀ l : Fin 16, (a (lane l)).toNat = 128 * d0 + 16 * n + l.val)
    (hib : ∀ l : Fin 16, (b (lane l)).toNat = 128 * d1 + 16 * n + l.val)
    (hwa : ∀ l : Fin 16, wa (lane l) = R0 (16 * n + l.val))
    (hwb : ∀ l : Fin 16, wb (lane l) = R1 (16 * n + l.val)) :
    rmwVal (rmwVal (mid m (if c = 1 then upd (upd m d0 R0) d1 R1 else upd m d0 R0) n) a (fun _ => 1#1) ha ha' wa)
        b (fun _ => c) hb hb' wb
      = mid m (if c = 1 then upd (upd m d0 R0) d1 R1 else upd m d0 R0) (n + 1) := by
  funext j
  rw [rmwVal_apply _ b c hb hb' wb d1 n hn hib, rmwVal_apply _ a 1#1 ha ha' wa d0 n hn hia, hwa, hwb]
  have hj : ∀ h : (j 0).val % 128 / 16 = n, 16 * n + (j 0).val % 16 = (j 0).val % 128 := by omega
  unfold mid
  by_cases h1 : (j 0).val % 128 / 16 = n
  · have e1 : ((1#1 : BitVec 1) = 1) = True := eq_true rfl
    simp only [hj h1, h1, Nat.lt_irrefl, Nat.lt_succ_self, if_true, if_false, e1, and_true, true_and]
    unfold upd
    by_cases hc : c = 1
    · simp only [hc, true_and, if_true]
    · simp only [hc, false_and, if_false]
  · have h3 : ((j 0).val % 128 / 16 < n + 1) ↔ ((j 0).val % 128 / 16 < n) := by omega
    simp only [h1, and_false, if_false, h3]

end

end Cert.Proof.Seg
-- ==== Proof.Pair.lean ====
module

public import proofs.«01_k».proof.Proof.Fold
public import Idealize.ShloMosaic.Lib.Pipeline.Value

/-! # A pair of edges: the rules of its pieces -/

@[expose] public section

namespace Cert.Proof.Seg

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

noncomputable section

variable {F : FTy → Type} [FloatOps F] [Named F]

/-- The tile at `i`. -/
abbrev thr (d : Dev nD) (i : grid1.Coords) : Thread nD τ := V d ((i 0).castLE hcore1) ((i 1).castLE hsub1)

/-- A tile's running proposition. -/
abbrev wpT (d : Dev nD) (i : grid1.Coords) {α : Type} (p : Prog (Eff F i) α) (Q : α → sProp (RR F)) : sProp (RR F) :=
  wp frame (wpE (defs₀ (F := F)) 𝒱₀ (thr d i) none) Set.univ p Q

section Rules

variable (d : Dev nD) (i : grid1.Coords) {α : Type}

/-- An indexed load from a whole buffer. -/
theorem wp_loadIdx {s t : Shape} {e : EltTy} (m : Memref sig .scVector .vmem s e)
    (hset : (m.access (.whole s)).set = Finset.univ)
    {idxs : Fin s.rank → IVec t 32} {h : ∀ a x, (idxs a x).toNat < s.size a} {hl : m.view.Loads}
    {k : Vec F t e → Prog (Eff F i) α} {q : PosShare TreeShare} {f : Buf (Elt F) (m.view.loc (thr d i))} {Q : α → sProp (RR F)}
    {g : Vec F s e} (hg : (m.access (.whole s)).read (Elt F) f = g) :
    (m.view.loc (thr d i) ↦{q} f : sProp (RR F))
      ⊢ iprop(((m.view.loc (thr d i) ↦{q} f) -∗ wpT d i (k (loadIdx g idxs h)) Q)
        -∗ wpT d i (SparseCore.vectorLoadIdx m idxs h hl >>= k) Q) := by
  subst hg
  exact SparseCore.wp_vectorLoadIdx 𝒱₀ (thr d i) none Set.univ (base := m) (S := Finset.univ) (q := q) (Finset.subset_univ _)

/-- An indexed store to a whole buffer. -/
theorem wp_storeIdx {s : Shape} {e : EltTy} (m : Memref sig .scVector .vmem s e)
    (hset : (m.access (.whole s)).set = Finset.univ)
    {n : Fin 1 → ℕ} {idxs : Fin s.rank → IVec ⟨1, n⟩ 32} {v : Vec F ⟨1, n⟩ e} {mk : IVec ⟨1, n⟩ 1}
    {h : ∀ a x, (idxs a x).toNat < s.size a} {hs : (m.access (.whole s)).Stores Finset.univ}
    {k : PUnit → Prog (Eff F i) α} {f f' : Buf (Elt F) (m.view.loc (thr d i))} {Q : α → sProp (RR F)}
    {g : Vec F s e} (hg : (m.access (.whole s)).read (Elt F) f = g)
    (hw : (m.access (.whole s)).write (Elt F) f (storeIdx g idxs v mk false h) Finset.univ = f') :
    (m.view.loc (thr d i) ↦{fullShare} f : sProp (RR F))
      ⊢ iprop(((m.view.loc (thr d i) ↦{fullShare} f') -∗ wpT d i (k ⟨⟩) Q)
        -∗ wpT d i (SparseCore.vectorStoreIdx m idxs v mk false h hs >>= k) Q) := by
  subst hg
  subst hw
  have := SparseCore.wp_vectorStoreIdx (defs := defs₀ (F := F)) 𝒱₀ (thr d i) none Set.univ (base := m) (idxs := idxs) (v := v) (mask := mk)
    (add := false) (h := h) (hs := hs) (k := k) (f := f) (Q := Q)
  rw [hset] at this
  exact this

/-- Of the gathered rows, one of the two halves. -/
def half (h : ℕ) : Finset S2x16x128.Idx := Finset.univ.filter fun x => (x 0).val = h

/-- Sixteen lanes of the gathered rows from `o` on. -/
def rowLanes (fr : S2x16x128.Idx → F .f32) (o : Fin 3 → ℕ) (ho : ∀ a, o a + S1x1x16.size a ≤ S2x16x128.size a) : Vec F S16 .f32 :=
  shapeCast S16 ((rV.access (Rect.unit (s := S2x16x128) o S1x1x16.size ho)).read (Elt F) fr) shapeCasts_S1x1x16_S16

theorem rowLanes_lane (fr : S2x16x128.Idx → F .f32) (o : Fin 3 → ℕ) (ho : ∀ a, o a + S1x1x16.size a ≤ S2x16x128.size a)
    (l : Fin 16) (x : S2x16x128.Idx) (h0 : (x 0).val = o 0) (h1 : (x 1).val = o 1) (h2 : (x 2).val = o 2 + l.val) :
    rowLanes (F := F) fr o ho (lane l) = fr x := by
  unfold rowLanes
  rw [shapeCast_apply _ _ (lane l) (show S1x1x16.Idx from fun a => match a with | 0 => ⟨0, by decide⟩ | 1 => ⟨0, by decide⟩ | 2 => ⟨l.val, l.isLt⟩)
    (by rw [Shape.rowMajor_val_three, Shape.rowMajor_val_one]; simp; rfl)]
  show fr _ = fr x
  congr 1
  funext a
  apply Fin.ext
  fin_cases a
  · show o 0 + 1 * 0 = (x 0).val; omega
  · show o 1 + 1 * 0 = (x 1).val; omega
  · show o 2 + 1 * l.val = (x 2).val; omega

theorem rows_subset (o : Fin 3 → ℕ) (ho : ∀ a, o a + S1x1x16.size a ≤ S2x16x128.size a) (h : ℕ) (hh : o 0 = h) :
    (rV.access (Rect.unit (s := S2x16x128) o S1x1x16.size ho)).set ⊆ half h := by
  rw [show (rV.access (Rect.unit (s := S2x16x128) o S1x1x16.size ho)).set = (Rect.unit (s := S2x16x128) o S1x1x16.size ho).set from
    View.set_slice_whole _ _]
  intro x hx
  rw [half, Finset.mem_filter]
  refine ⟨Finset.mem_univ _, ?_⟩
  have := Rect.mem_set_unit.mp hx 0
  have e : S1x1x16.size 0 = 1 := rfl
  omega

/-- `rmw`: the maxima become `rmwVal` of what they were. -/
theorem wp_rmw {ix : IVec S16 32} {mk : IVec S16 1}
    {h h' : ∀ a x, ((![ix] : Fin 1 → IVec S16 32) a x).toNat < S40960.size a}
    {o : Fin 3 → ℕ} {ho : ∀ a, o a + S1x1x16.size a ≤ S2x16x128.size a}
    {k : Unit → Prog (Eff F i) α} {f : Buf (Elt F) (mV.view.loc (thr d i))} {fr : Buf (Elt F) (rV.view.loc (thr d i))}
    {q : PosShare TreeShare} {H : ℕ} (hH : o 0 = H) {Q : α → sProp (RR F)} :
    iprop((mV.view.loc (thr d i) ↦{fullShare} f) ∗ (rV.view.loc (thr d i) ↦[half H]{q} fr))
      ⊢ iprop((((mV.view.loc (thr d i) ↦{fullShare} (rmwVal (F := F) f ix mk h h' (rowLanes (F := F) fr o ho)))
            ∗ (rV.view.loc (thr d i) ↦[half H]{q} fr)) -∗ wpT d i (k ⟨⟩) Q)
        -∗ wpT d i (rmw i ix mk h h' o ho >>= k) Q) := by
  iintro ⟨Hm, Hr⟩ Hk
  unfold rmw
  rw [Prog.bind_assoc]
  iapply (wp_loadIdx d i mV (Memref.set_access_whole _) (q := fullShare) (g := f) (Memref.read_access_whole (Elt F) cc1_scratch0 f)) $$ Hm
  iintro Hm
  simp only [Prog.lift, Prog.bind_op, Prog.bind_ret]
  iapply (wp_load_rect 𝒱₀ (thr d i) none Set.univ (m := rV) (r := Rect.unit (s := S2x16x128) o S1x1x16.size ho) (S := half H) (q := q) (rows_subset o ho H hH)) $$ Hr
  iintro Hr
  iapply (wp_storeIdx d i mV (Memref.set_access_whole _) (g := f)
    (f' := rmwVal (F := F) f ix mk h h' (rowLanes (F := F) fr o ho))
    (Memref.read_access_whole (Elt F) cc1_scratch0 f) (Memref.write_access_whole_univ (Elt F) cc1_scratch0 f _)) $$ Hm
  iintro Hm
  iapply Hk
  isplitl [Hm] <;> iassumption

end Rules

end

end Cert.Proof.Seg
-- ==== Proof.Words.lean ====
/-
  The scalar facts of the tile program: the run-time loops' trip counts, the branch conditions and the offsets, for a
  chunk's match count `n` of at most 768. Each is written as a word of the number of batches, the batch and the pair,
  and checked over those.
-/
module

public import proofs.«01_k».proof.Proof.Gen.KernelIdeal.Skeleton
public import Idealize.ShloMosaic.Lib.LoopRemainder

@[expose] public section

namespace Cert.Proof.Seg

open Cert.KernelIdeal Cert.KernelIdeal.Gen
open Idealize.ShloMosaic Idealize.SL.Sem

/-- A number as the program holds it. -/
abbrev word (n : ℕ) : BitVec 32 := BitVec.ofNat 32 n

theorem iv_word (k : ℕ) : Scf.iv 0#32 1#32 k = word k := by
  unfold Scf.iv; rw [BitVec.mul_one, BitVec.zero_add]

/-- The batches of a count: the loop over them runs the count divided by 16, rounded up. -/
theorem t5_trips : ∀ n : Fin 769, (k1_t5_loop (word n)).trips = (n.val + 15) / 16 := by decide +kernel
theorem t5_ok : ∀ n : Fin 769, (k1_t5_loop (word n)).OK := by decide +kernel
theorem t5_ub : ∀ n : Fin 769, (k1_t5_loop (word n)).ub = word ((n.val + 15) / 16) := by decide +kernel

/-- The count divided by 16, rounded up, as the program computes it. -/
def batches (v63 : BitVec 32) : BitVec 32 :=
  let v65 : BitVec 32 := Scalar.subi (Scalar.addi v63 16#32) 1#32
  let v71 : BitVec 32 := Scalar.subi (Scalar.extui (Scalar.cmpi .sgt v65 0#32)) (Scalar.extui (Scalar.cmpi .slt v65 0#32))
  let v76 : BitVec 32 := Scalar.subi (Scalar.extui (Scalar.cmpi .sgt 16#32 0#32)) (Scalar.extui (Scalar.cmpi .slt 16#32 0#32))
  let v77 : BitVec 1 := Scalar.cmpi .ne v71 v76
  let v78 : BitVec 32 := Scalar.remsi v65 16#32
  let v79 : BitVec 1 := Scalar.cmpi .ne v78 0#32
  let v80 : BitVec 1 := Scalar.andi v77 v79
  let v66 : BitVec 32 := Scalar.divsi v65 16#32
  let v81 : BitVec 32 := Scalar.subi v66 1#32
  Scalar.select v80 v81 v66

theorem batches_eq : ∀ n : Fin 769, batches (word n) = word ((n.val + 15) / 16) := by decide +kernel

/-- The batch after this one exists, and this one's number has the parity `p`. -/
def nextWord (nb b p : BitVec 32) : BitVec 1 :=
  Scalar.cmpi .ne (Scalar.extui (Scalar.andi (Scalar.cmpi .slt (Scalar.addi b 1#32) nb)
    (Scalar.cmpi .eq (Scalar.andi b 1#32) p)) : BitVec 32) 0#32

theorem nextWord_iff : ∀ k b : Fin 50, ∀ p : Fin 2,
    (nextWord (word k) (word b) (word p) = 1#1 ↔ b.val + 1 < k.val ∧ b.val % 2 = p.val) := by decide +kernel

/-- The batch's number has the parity `p`. -/
def parWord (b p : BitVec 32) : BitVec 1 :=
  Scalar.cmpi .ne (Scalar.extui (Scalar.cmpi .eq (Scalar.andi b 1#32) p) : BitVec 32) 0#32

theorem parWord_iff : ∀ b : Fin 50, ∀ p : Fin 2, (parWord (word b) (word p) = 1#1 ↔ b.val % 2 = p.val) := by
  decide +kernel

section Batch

variable (n : Fin 769) (b : Fin (k1_t5_loop (word n)).trips)

theorem batch_lt : b.val < (n.val + 15) / 16 := lt_of_lt_of_eq b.isLt (t5_trips n)

theorem cond8 : k1_cond8 (word n) b = 1#1 ↔ b.val + 1 < (n.val + 15) / 16 ∧ b.val % 2 = 1 := by
  have hb := batch_lt n b
  have hn := n.isLt
  rw [show k1_cond8 (word n) b = nextWord (batches (word n)) (Scf.iv 0#32 1#32 b) (word 1) from rfl, batches_eq, iv_word]
  exact nextWord_iff ⟨(n.val + 15) / 16, by omega⟩ ⟨b.val, by omega⟩ 1
theorem cond9 : k1_cond9 (word n) b = 1#1 ↔ b.val + 1 < (n.val + 15) / 16 ∧ b.val % 2 = 0 := by
  have hb := batch_lt n b
  have hn := n.isLt
  rw [show k1_cond9 (word n) b = nextWord (batches (word n)) (Scf.iv 0#32 1#32 b) (word 0) from rfl, batches_eq, iv_word]
  exact nextWord_iff ⟨(n.val + 15) / 16, by omega⟩ ⟨b.val, by omega⟩ 0
theorem cond10 : k1_cond10 (word n) b = 1#1 ↔ b.val % 2 = 0 := by
  have hb := batch_lt n b
  have hn := n.isLt
  rw [show k1_cond10 (word n) b = parWord (Scf.iv 0#32 1#32 b) (word 0) from rfl, iv_word]
  exact parWord_iff ⟨b.val, by omega⟩ 0
theorem cond11 : k1_cond11 (word n) b = 1#1 ↔ b.val % 2 = 1 := by
  have hb := batch_lt n b
  have hn := n.isLt
  rw [show k1_cond11 (word n) b = parWord (Scf.iv 0#32 1#32 b) (word 1) from rfl, iv_word]
  exact parWord_iff ⟨b.val, by omega⟩ 1

theorem next_off : ∀ b : Fin 50, (Scalar.muli (Scalar.addi (word b) 1#32) 16#32 : BitVec 32).toNat = 16 * (b.val + 1) := by
  decide +kernel
theorem this_off : ∀ b : Fin 50, (Scalar.muli (word b) 16#32 : BitVec 32).toNat = 16 * b.val := by decide +kernel

theorem off9_eq : k1_off9 (word n) b = ![16 * (b.val + 1)] := by
  have hb := batch_lt n b
  have hn := n.isLt
  rw [show k1_off9 (word n) b = ![(Scalar.muli (Scalar.addi (Scf.iv 0#32 1#32 b) 1#32) 16#32 : BitVec 32).toNat] from rfl, iv_word]
  exact congrArg (fun x => ![x]) (next_off ⟨b.val, by omega⟩)
theorem off10_eq : k1_off10 (word n) b = ![16 * (b.val + 1)] := by
  have hb := batch_lt n b
  have hn := n.isLt
  rw [show k1_off10 (word n) b = ![(Scalar.muli (Scalar.addi (Scf.iv 0#32 1#32 b) 1#32) 16#32 : BitVec 32).toNat] from rfl, iv_word]
  exact congrArg (fun x => ![x]) (next_off ⟨b.val, by omega⟩)
theorem off11_eq : k1_off11 (word n) b = ![16 * b.val] := by
  have hb := batch_lt n b
  have hn := n.isLt
  rw [show k1_off11 (word n) b = ![(Scalar.muli (Scf.iv 0#32 1#32 b) 16#32 : BitVec 32).toNat] from rfl, iv_word]
  exact congrArg (fun x => ![x]) (this_off ⟨b.val, by omega⟩)
theorem off12_eq : k1_off12 (word n) b = ![16 * b.val] := by
  have hb := batch_lt n b
  have hn := n.isLt
  rw [show k1_off12 (word n) b = ![(Scalar.muli (Scf.iv 0#32 1#32 b) 16#32 : BitVec 32).toNat] from rfl, iv_word]
  exact congrArg (fun x => ![x]) (this_off ⟨b.val, by omega⟩)

end Batch

/-- The edges of batch `b` still in the list, as the program computes them. -/
def nloc (n : BitVec 32) (b : BitVec 32) : BitVec 32 := Scalar.minsi (Scalar.subi n (Scalar.muli b 16#32)) 16#32

theorem min_word : ∀ k : Fin 769, (Scalar.minsi (word k) 16#32 : BitVec 32) = word (min k.val 16) := by decide +kernel

theorem nloc_eq (n b : ℕ) (hn : n < 769) (h : 16 * b < n) : nloc (word n) (word b) = word (min (n - 16 * b) 16) := by
  have e : (Scalar.subi (word n) (Scalar.muli (word b) 16#32) : BitVec 32) = word (n - 16 * b) := by
    show (BitVec.ofNat 32 n - BitVec.ofNat 32 b * 16#32 : BitVec 32) = BitVec.ofNat 32 (n - 16 * b)
    apply BitVec.eq_of_toNat_eq
    simp only [BitVec.toNat_sub, BitVec.toNat_mul, BitVec.toNat_ofNat]
    omega
  unfold nloc
  rw [e]
  exact min_word ⟨n - 16 * b, by omega⟩

/-- The loop over a batch's pairs of edges, from the number of its edges. -/
def pairLoop (v111 : BitVec 32) : Scf.Loop 32 :=
  let v112 : BitVec 32 := Scalar.addi v111 1#32
  let v118 : BitVec 32 := Scalar.subi (Scalar.extui (Scalar.cmpi .sgt v112 0#32)) (Scalar.extui (Scalar.cmpi .slt v112 0#32))
  let v123 : BitVec 32 := Scalar.subi (Scalar.extui (Scalar.cmpi .sgt 2#32 0#32)) (Scalar.extui (Scalar.cmpi .slt 2#32 0#32))
  let v124 : BitVec 1 := Scalar.cmpi .ne v118 v123
  let v125 : BitVec 32 := Scalar.remsi v112 2#32
  let v126 : BitVec 1 := Scalar.cmpi .ne v125 0#32
  let v127 : BitVec 1 := Scalar.andi v124 v126
  let v113 : BitVec 32 := Scalar.divsi v112 2#32
  let v128 : BitVec 32 := Scalar.subi v113 1#32
  let v129 : BitVec 32 := Scalar.select v127 v128 v113
  let v130 : BitVec 32 := Scalar.subi v129 0#32
  ⟨0#32, Scalar.addi 0#32 (Scalar.muli (Scalar.divsi v130 1#32) 1#32), 1#32⟩

theorem pairLoop_trips : ∀ k : Fin 17, (pairLoop (word k)).trips = (k.val + 1) / 2 := by decide +kernel
theorem pairLoop_ok : ∀ k : Fin 17, (pairLoop (word k)).OK := by decide +kernel

section Pairs

variable (n : Fin 769) (b : Fin (k1_t5_loop (word n)).trips)

theorem t6_loop_eq : k1_t6_loop (word n) b = pairLoop (word (min (n.val - 16 * b.val) 16)) := by
  have hb := batch_lt n b
  have hn := n.isLt
  rw [show k1_t6_loop (word n) b = pairLoop (nloc (word n) (Scf.iv 0#32 1#32 b)) from rfl, iv_word, nloc_eq _ _ hn (by omega)]

theorem t6_trips : (k1_t6_loop (word n) b).trips = (min (n.val - 16 * b.val) 16 + 1) / 2 := by
  rw [t6_loop_eq]; exact pairLoop_trips ⟨min (n.val - 16 * b.val) 16, by omega⟩
theorem t6_ok : (k1_t6_loop (word n) b).OK := by
  rw [t6_loop_eq]; exact pairLoop_ok ⟨min (n.val - 16 * b.val) 16, by omega⟩

variable (t : Fin (k1_t6_loop (word n) b).trips)

theorem pair_lt : 16 * b.val + 2 * t.val < n.val ∧ t.val < 8 ∧ b.val < 48 := by
  have hb := batch_lt n b
  have hn := n.isLt
  have := lt_of_lt_of_eq t.isLt (t6_trips n b)
  omega

theorem par_off : ∀ b : Fin 50, (Scalar.indexCast (Scalar.andi (word b) 1#32) : Index).toNat = b.val % 2 := by decide +kernel
theorem even_off : ∀ t : Fin 9, (Scalar.indexCast (Scalar.muli 2#32 (word t)) : Index).toNat = 2 * t.val := by decide +kernel
theorem odd_off : ∀ t : Fin 9, (Scalar.indexCast (Scalar.addi (Scalar.muli 2#32 (word t)) 1#32) : Index).toNat = 2 * t.val + 1 := by
  decide +kernel

theorem even_eq (f : ℕ) : ![(Scalar.indexCast (Scalar.andi (Scf.iv 0#32 1#32 b) 1#32) : Index).toNat,
      (Scalar.indexCast (Scalar.muli 2#32 (Scf.iv 0#32 1#32 t)) : Index).toNat, f] = ![b.val % 2, 2 * t.val, f] := by
  obtain ⟨_, h1, h2⟩ := pair_lt n b t
  rw [iv_word, iv_word, par_off ⟨b.val, by omega⟩, even_off ⟨t.val, by omega⟩]
theorem odd_eq (f : ℕ) : ![(Scalar.indexCast (Scalar.andi (Scf.iv 0#32 1#32 b) 1#32) : Index).toNat,
      (Scalar.indexCast (Scalar.addi (Scalar.muli 2#32 (Scf.iv 0#32 1#32 t)) 1#32) : Index).toNat, f] = ![b.val % 2, 2 * t.val + 1, f] := by
  obtain ⟨_, h1, h2⟩ := pair_lt n b t
  rw [iv_word, iv_word, par_off ⟨b.val, by omega⟩, odd_off ⟨t.val, by omega⟩]

theorem off13_eq : k1_off13 (word n) b t = ![b.val % 2, 2 * t.val, 16 * 0] := even_eq n b t 0
theorem off14_eq : k1_off14 (word n) b t = ![b.val % 2, 2 * t.val + 1, 16 * 0] := odd_eq n b t 0
theorem off15_eq : k1_off15 (word n) b t = ![b.val % 2, 2 * t.val, 16 * 1] := even_eq n b t 16
theorem off16_eq : k1_off16 (word n) b t = ![b.val % 2, 2 * t.val + 1, 16 * 1] := odd_eq n b t 16
theorem off17_eq : k1_off17 (word n) b t = ![b.val % 2, 2 * t.val, 16 * 2] := even_eq n b t 32
theorem off18_eq : k1_off18 (word n) b t = ![b.val % 2, 2 * t.val + 1, 16 * 2] := odd_eq n b t 32
theorem off19_eq : k1_off19 (word n) b t = ![b.val % 2, 2 * t.val, 16 * 3] := even_eq n b t 48
theorem off20_eq : k1_off20 (word n) b t = ![b.val % 2, 2 * t.val + 1, 16 * 3] := odd_eq n b t 48
theorem off21_eq : k1_off21 (word n) b t = ![b.val % 2, 2 * t.val, 16 * 4] := even_eq n b t 64
theorem off22_eq : k1_off22 (word n) b t = ![b.val % 2, 2 * t.val + 1, 16 * 4] := odd_eq n b t 64
theorem off23_eq : k1_off23 (word n) b t = ![b.val % 2, 2 * t.val, 16 * 5] := even_eq n b t 80
theorem off24_eq : k1_off24 (word n) b t = ![b.val % 2, 2 * t.val + 1, 16 * 5] := odd_eq n b t 80
theorem off25_eq : k1_off25 (word n) b t = ![b.val % 2, 2 * t.val, 16 * 6] := even_eq n b t 96
theorem off26_eq : k1_off26 (word n) b t = ![b.val % 2, 2 * t.val + 1, 16 * 6] := odd_eq n b t 96
theorem off27_eq : k1_off27 (word n) b t = ![b.val % 2, 2 * t.val, 16 * 7] := even_eq n b t 112
theorem off28_eq : k1_off28 (word n) b t = ![b.val % 2, 2 * t.val + 1, 16 * 7] := odd_eq n b t 112

end Pairs

end Cert.Proof.Seg
-- ==== Proof.Checks.lean ====
module

public import proofs.«01_k».proof.Proof.Words

/-! # The side conditions on a chunk's match count hold -/

@[expose] public section

namespace Cert.Proof.Seg

open Cert.KernelIdeal Cert.KernelIdeal.Gen
open Idealize.ShloMosaic Idealize.SL.Sem

theorem list_ok (o : ℕ) (ho : o ≤ 768) : ∀ a, (![o] : Fin 1 → ℕ) a + S16.size a ≤ S784.size a := by
  intro a
  have : a = 0 := Fin.eq_zero a
  subst this
  show o + 16 ≤ 784
  omega

theorem rows_ok (p t f : ℕ) (hp : p < 2) (ht : t < 16) (hf : f ≤ 112) :
    ∀ a, (![p, t, f] : Fin 3 → ℕ) a + S1x1x16.size a ≤ S2x16x128.size a := by
  intro a
  fin_cases a
  · show p + 1 ≤ 2; omega
  · show t + 1 ≤ 16; omega
  · show f + 16 ≤ 128; omega

theorem even_ok (n : Fin 769) (b : Fin (k1_t5_loop (word n)).trips) (t : Fin (k1_t6_loop (word n) b).trips) (f : ℕ) (hf : f ≤ 112) :
    ∀ a, (![b.val % 2, 2 * t.val, f] : Fin 3 → ℕ) a + S1x1x16.size a ≤ S2x16x128.size a :=
  rows_ok _ _ _ (Nat.mod_lt _ (by decide)) (by have := pair_lt n b t; omega) hf
theorem odd_ok (n : Fin 769) (b : Fin (k1_t5_loop (word n)).trips) (t : Fin (k1_t6_loop (word n) b).trips) (f : ℕ) (hf : f ≤ 112) :
    ∀ a, (![b.val % 2, 2 * t.val + 1, f] : Fin 3 → ℕ) a + S1x1x16.size a ≤ S2x16x128.size a :=
  rows_ok _ _ _ (Nat.mod_lt _ (by decide)) (by have := pair_lt n b t; omega) hf

theorem chk5_0 (n : Fin 769) : k1_chk5_0 (word n) := by
  have hn := n.isLt
  refine ⟨t5_ok n, ?_, ?_, ?_, ?_, t6_ok n, ?_, ?_, ?_, ?_, ?_, ?_, ?_, ?_, ?_, ?_, ?_, ?_, ?_, ?_, ?_, ?_, fun _ => Scf.rem_ok _ _,
    ?_, ?_, ?_, ?_, ?_, ?_, ?_, ?_, ?_⟩
  · intro b h; rw [off9_eq]; have := (cond8 n b).mp h; exact list_ok _ (by omega)
  · intro b h; rw [off10_eq]; have := (cond9 n b).mp h; exact list_ok _ (by omega)
  · intro b h; rw [off11_eq]; have := batch_lt n b; exact list_ok _ (by omega)
  · intro b h; rw [off12_eq]; have := batch_lt n b; exact list_ok _ (by omega)
  · intro b t; rw [off13_eq]; exact even_ok n b t _ (by decide)
  · intro b t; rw [off14_eq]; exact odd_ok n b t _ (by decide)
  · intro b t; rw [off15_eq]; exact even_ok n b t _ (by decide)
  · intro b t; rw [off16_eq]; exact odd_ok n b t _ (by decide)
  · intro b t; rw [off17_eq]; exact even_ok n b t _ (by decide)
  · intro b t; rw [off18_eq]; exact odd_ok n b t _ (by decide)
  · intro b t; rw [off19_eq]; exact even_ok n b t _ (by decide)
  · intro b t; rw [off20_eq]; exact odd_ok n b t _ (by decide)
  · intro b t; rw [off21_eq]; exact even_ok n b t _ (by decide)
  · intro b t; rw [off22_eq]; exact odd_ok n b t _ (by decide)
  · intro b t; rw [off23_eq]; exact even_ok n b t _ (by decide)
  · intro b t; rw [off24_eq]; exact odd_ok n b t _ (by decide)
  · intro b t; rw [off25_eq]; exact even_ok n b t _ (by decide)
  · intro b t; rw [off26_eq]; exact odd_ok n b t _ (by decide)
  · intro b t; rw [off27_eq]; exact even_ok n b t _ (by decide)
  · intro b t; rw [off28_eq]; exact odd_ok n b t _ (by decide)
  all_goals exact fun b t => (Scf.rem_no_trip _ _ t).elim

theorem chk5_1 (n : Fin 769) : k1_chk5_1 (word n) := by
  refine ⟨?_, ?_, ?_, ?_, ?_, ?_, ?_, Scf.rem_ok _ _, fun b => (Scf.rem_no_trip _ _ b).elim, fun b => (Scf.rem_no_trip _ _ b).elim,
    fun b => (Scf.rem_no_trip _ _ b).elim, fun b => (Scf.rem_no_trip _ _ b).elim, fun b => (Scf.rem_no_trip _ _ b).elim,
    ?_, ?_, ?_, ?_, ?_, ?_, ?_, ?_, ?_, ?_, ?_, ?_, ?_, ?_, ?_, ?_, ?_, ?_, ?_⟩
  iterate 7 exact fun b t => (Scf.rem_no_trip _ _ t).elim
  all_goals exact fun b => (Scf.rem_no_trip _ _ b).elim

theorem chk5_2 (n : Fin 769) : k1_chk5_2 (word n) := by
  refine ⟨?_, ?_, ?_, ?_, ?_, ?_, ?_, ?_, ?_, ?_, ?_, ?_, ?_, ?_⟩
  all_goals exact fun b => (Scf.rem_no_trip _ _ b).elim

theorem chk5 (n : Fin 769) : k1_chk5 (word n) := ⟨chk5_0 n, chk5_1 n, chk5_2 n⟩

end Cert.Proof.Seg
-- ==== Proof.PairRun.lean ====
module

public import proofs.«01_k».proof.Proof.Pair
public import proofs.«01_k».proof.Proof.Checks

/-! # A pair of edges, and the loop over a batch's pairs -/

@[expose] public section

namespace Cert.Proof.Seg

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

noncomputable section

variable {F : FTy → Type} [FloatOps F] [Named F]

theorem chk_of (v : IVec S16 32) (h : ∀ l : Fin 16, (v (lane l)).toNat < 40960) :
    ∀ a x, ((![v] : Fin 1 → IVec S16 32) a x).toNat < S40960.size a := by
  intro a x
  obtain ⟨l, rfl⟩ := exists_lane x
  have : a = 0 := Fin.eq_zero a
  subst this
  exact h l

theorem list_chk (v : BitVec 32) (h : v.toNat < 784) :
    ∀ a x, ((![broadcast S16 v] : Fin 1 → IVec S16 32) a x).toNat < S784.size a := by
  intro a x
  have : a = 0 := Fin.eq_zero a
  subst this
  exact h

/-- A list's entry `p`. -/
def at1 {α : Type} (f : S784.Idx → α) (p : ℕ) : α := f (Shape.ofLane (d := ![784]) ⟨p % 784, Nat.mod_lt _ (by decide)⟩)

theorem loadIdx_at1 (f : Vec F S784 .i32) (v : BitVec 32) (p : ℕ) (hv : v.toNat = p) (hp : p < 784)
    (h : ∀ a x, ((![broadcast S16 v] : Fin 1 → IVec S16 32) a x).toNat < S784.size a) :
    loadIdx (F := F) (e := .i32) f ![broadcast S16 v] h = fun _ => at1 f p := by
  funext x
  show f (idxAt ![broadcast S16 v] h x) = f (Shape.ofLane (d := ![784]) _)
  congr 1
  funext a
  have : a = 0 := Fin.eq_zero a
  subst this
  apply Fin.ext
  show v.toNat = p % 784
  omega

/-- The eight blocks' lane numbers. -/
def Cols (v13 v15 v17 v19 v21 v23 v25 v27 : IVec S16 32) : Prop :=
  v13 = (fun x => word (16 * 0 + (x 0).val)) ∧ v15 = (fun x => word (16 * 1 + (x 0).val))
    ∧ v17 = (fun x => word (16 * 2 + (x 0).val)) ∧ v19 = (fun x => word (16 * 3 + (x 0).val))
    ∧ v21 = (fun x => word (16 * 4 + (x 0).val)) ∧ v23 = (fun x => word (16 * 5 + (x 0).val))
    ∧ v25 = (fun x => word (16 * 6 + (x 0).val)) ∧ v27 = (fun x => word (16 * 7 + (x 0).val))

theorem pay34_lane (w : BitVec 32) (d n : ℕ) (hw : w.toNat = d) (hd : d < 320) (hn : n < 8) (l : Fin 16) :
    (addi (k1_pay34 (F := F) (fun _ => w)) (fun x => word (16 * n + (x 0).val)) (lane l)).toNat = 128 * d + 16 * n + l.val := by
  show (w * 128#32 + BitVec.ofNat 32 (16 * n + l.val)).toNat = _
  have := l.isLt
  simp only [BitVec.toNat_add, BitVec.toNat_mul, BitVec.toNat_ofNat]
  omega

theorem pay35_lane (w : BitVec 32) (d n : ℕ) (hw : w.toNat = d) (hd : d < 320) (hn : n < 8) (l : Fin 16) :
    (addi (k1_pay35 (F := F) (fun _ => w)) (fun x => word (16 * n + (x 0).val)) (lane l)).toNat = 128 * d + 16 * n + l.val :=
  pay34_lane (F := F) w d n hw hd hn l

section Run

variable (dv : Dev nD) (i : grid1.Coords) {α : Type}

/-- A block: the maxima go one block further. -/
theorem wp_blk {A B : IVec S16 32 → Prop} {dA : ∀ v, Decidable (A v)} {dB : ∀ v, Decidable (B v)} {a b : IVec S16 32}
    {mk : IVec S16 1} {c : BitVec 1} (hmk : mk = fun _ => c)
    {hA hA' : ∀ v, A v → ∀ a x, ((![v] : Fin 1 → IVec S16 32) a x).toNat < S40960.size a}
    {hB hB' : ∀ v, B v → ∀ a x, ((![v] : Fin 1 → IVec S16 32) a x).toNat < S40960.size a}
    {oA : Fin 3 → ℕ} {hoA : ∀ a, oA a + S1x1x16.size a ≤ S2x16x128.size a}
    {oB : Fin 3 → ℕ} {hoB : ∀ a, oB a + S1x1x16.size a ≤ S2x16x128.size a}
    {k : Unit → Prog (Eff F i) α} {Q : α → sProp (RR F)}
    (m M : MB F) (fr : S2x16x128.Idx → F .f32) (q : PosShare TreeShare)
    (d0 d1 n H r0 r1 : ℕ) (R0 R1 : ℕ → F .f32) (hn : n < 8) (hd0 : d0 < 320) (hd1 : d1 < 320)
    (pA : (∀ a' x, ((![a] : Fin 1 → IVec S16 32) a' x).toNat < S40960.size a') → A a)
    (pB : (∀ a' x, ((![b] : Fin 1 → IVec S16 32) a' x).toNat < S40960.size a') → B b)
    (hM : M = if c = 1 then upd (upd m d0 R0) d1 R1 else upd m d0 R0)
    (hia : ∀ l : Fin 16, (a (lane l)).toNat = 128 * d0 + 16 * n + l.val)
    (hib : ∀ l : Fin 16, (b (lane l)).toNat = 128 * d1 + 16 * n + l.val)
    (hH : H < 2) (hr0 : r0 < 16) (hr1 : r1 < 16)
    (eA : oA = ![H, r0, 16 * n]) (eB : oB = ![H, r1, 16 * n])
    (hR0 : ∀ x : S2x16x128.Idx, (x 0).val = H → (x 1).val = r0 → fr x = R0 (x 2).val)
    (hR1 : ∀ x : S2x16x128.Idx, (x 0).val = H → (x 1).val = r1 → fr x = R1 (x 2).val) :
    iprop((mV.view.loc (thr dv i) ↦{fullShare} mid m M n) ∗ (rV.view.loc (thr dv i) ↦[half H]{q} fr))
      ⊢ iprop((((mV.view.loc (thr dv i) ↦{fullShare} mid m M (n + 1))
            ∗ (rV.view.loc (thr dv i) ↦[half H]{q} fr)) -∗ wpT dv i (k ⟨⟩) Q)
        -∗ wpT dv i (blk i A B dA dB a b mk hA hA' hB hB' oA hoA oB hoB >>= k) Q) := by
  subst hmk
  have wA : A a := pA (chk_of a fun l => by rw [hia]; have := l.isLt; omega)
  have wB : B b := pB (chk_of b fun l => by rw [hib]; have := l.isLt; omega)
  have hwa : ∀ l : Fin 16, rowLanes (F := F) fr oA hoA (lane l) = R0 (16 * n + l.val) := fun l => by
    have := l.isLt
    subst eA
    rw [rowLanes_lane fr _ hoA l (fun a => match a with | 0 => ⟨H, hH⟩ | 1 => ⟨r0, hr0⟩ | 2 => ⟨16 * n + l.val, by show _ < 128; omega⟩)
      rfl rfl rfl, hR0 _ rfl rfl]
  have hwb : ∀ l : Fin 16, rowLanes (F := F) fr oB hoB (lane l) = R1 (16 * n + l.val) := fun l => by
    have := l.isLt
    subst eB
    rw [rowLanes_lane fr _ hoB l (fun a => match a with | 0 => ⟨H, hH⟩ | 1 => ⟨r1, hr1⟩ | 2 => ⟨16 * n + l.val, by show _ < 128; omega⟩)
      rfl rfl rfl, hR1 _ rfl rfl]
  iintro ⟨Hm, Hr⟩ Hk
  unfold blk
  simp only [Prog.lift, Prog.bind_op, Prog.bind_ret, Prog.bind_assoc]
  iapply (wp_assume 𝒱₀ (thr dv i) none Set.univ wA)
  iapply (wp_assume 𝒱₀ (thr dv i) none Set.univ wB)
  iapply (wp_rmw dv i (H := H) (by rw [eA]; rfl)) $$ [Hm Hr]
  · isplitl [Hm] <;> iassumption
  iintro ⟨Hm, Hr⟩
  iapply (wp_rmw dv i (H := H) (by rw [eB]; rfl)) $$ [Hm Hr]
  · isplitl [Hm] <;> iassumption
  iintro ⟨Hm, Hr⟩
  subst hM
  rw [block_step m a b c (hA a wA) (hA' a wA) (hB b wB) (hB' b wB) _ _ d0 d1 n R0 R1 hn hia hib hwa hwb]
  iapply Hk
  isplitl [Hm] <;> iassumption

theorem edge0_word (b t : ℕ) (hb : b < 50) (ht : t < 9) :
    (Scalar.addi (Scalar.muli (word b) 16#32) (Scalar.muli 2#32 (word t)) : BitVec 32).toNat = 16 * b + 2 * t := by
  show (BitVec.ofNat 32 b * 16#32 + 2#32 * BitVec.ofNat 32 t).toNat = _
  simp only [BitVec.toNat_add, BitVec.toNat_mul, BitVec.toNat_ofNat]
  omega

theorem edge1_word (b t : ℕ) (hb : b < 50) (ht : t < 9) :
    (Scalar.addi (Scalar.addi (Scalar.muli (word b) 16#32) (Scalar.muli 2#32 (word t))) 1#32 : BitVec 32).toNat = 16 * b + 2 * t + 1 := by
  show (BitVec.ofNat 32 b * 16#32 + 2#32 * BitVec.ofNat 32 t + 1#32).toNat = _
  simp only [BitVec.toNat_add, BitVec.toNat_mul, BitVec.toNat_ofNat]
  omega

theorem second_word : ∀ t : Fin 9, ∀ k : Fin 17,
    (Scalar.cmpi .slt (Scalar.addi (Scalar.muli 2#32 (word t)) 1#32) (word k) = 1 ↔ 2 * t.val + 1 < k.val) := by decide +kernel

/-- A pair of edges: each puts its row into its destination's maxima, the second only if the batch has it. -/
theorem wp_pair {v13 v15 v17 v19 v21 v23 v25 v27 : IVec S16 32} (hc : Cols v13 v15 v17 v19 v21 v23 v25 v27)
    (n : Fin 769) {w : k1_chk5 (word n)} (b : Fin (k1_t5_loop (word n)).trips) (t : Fin (k1_t6_loop (word n) b).trips)
    {k : Unit → Prog (Eff F i) α} {Q : α → sProp (RR F)}
    (m : MB F) (md : S784.Idx → BitVec 32) (fr : S2x16x128.Idx → F .f32) (qd q : PosShare TreeShare) (R : ℕ → ℕ → F .f32)
    (hd : ∀ p, (at1 md p).toNat < 320)
    (hR : ∀ x : S2x16x128.Idx, (x 0).val = b.val % 2 → fr x = R (16 * b.val + (x 1).val) (x 2).val) :
    iprop((mV.view.loc (thr dv i) ↦{fullShare} fold (fun _ => True) (fun p => (at1 md p).toNat) R m (min n.val (16 * b.val + 2 * t.val)))
        ∗ (dV.view.loc (thr dv i) ↦{qd} md) ∗ (rV.view.loc (thr dv i) ↦[half (b.val % 2)]{q} fr))
      ⊢ iprop((((mV.view.loc (thr dv i) ↦{fullShare} fold (fun _ => True) (fun p => (at1 md p).toNat) R m (min n.val (16 * b.val + 2 * (t.val + 1))))
            ∗ (dV.view.loc (thr dv i) ↦{qd} md) ∗ (rV.view.loc (thr dv i) ↦[half (b.val % 2)]{q} fr)) -∗ wpT dv i (k ⟨⟩) Q)
        -∗ wpT dv i (pair i v13 v15 v17 v19 v21 v23 v25 v27 (word n) w b (Scf.iv 0#32 1#32 b) (nloc (word n) (Scf.iv 0#32 1#32 b)) t >>= k) Q) := by
  obtain ⟨rfl, rfl, rfl, rfl, rfl, rfl, rfl, rfl⟩ := hc
  obtain ⟨h1, h2, h3⟩ := pair_lt n b t
  have hn := n.isLt
  have hH : b.val % 2 < 2 := Nat.mod_lt _ (by decide)
  have e0 := edge0_word b.val t.val (by omega) (by omega)
  have e1 := edge1_word b.val t.val (by omega) (by omega)
  rw [← iv_word b.val, ← iv_word t.val] at e0 e1
  have hk : k1_pay33 (word n) b (nloc (word n) (Scf.iv 0#32 1#32 b)) 0#32 1#32 t
      = fun _ => Scalar.cmpi .slt (Scalar.addi (Scalar.muli 2#32 (word t)) 1#32) (word (min (n.val - 16 * b.val) 16)) := by
    rw [← nloc_eq _ _ hn (by omega), ← iv_word t.val, ← iv_word b.val]; rfl
  generalize hcd : Scalar.cmpi .slt (Scalar.addi (Scalar.muli 2#32 (word t)) 1#32) (word (min (n.val - 16 * b.val) 16)) = c at hk
  have hc1 : c = 1 ↔ 16 * b.val + 2 * t.val + 1 < n.val := by
    rw [← hcd, second_word ⟨t.val, by omega⟩ ⟨min (n.val - 16 * b.val) 16, by omega⟩]
    show 2 * t.val + 1 < min (n.val - 16 * b.val) 16 ↔ _
    omega
  have hp0 : min n.val (16 * b.val + 2 * t.val) = 16 * b.val + 2 * t.val := by omega
  rw [hp0]
  generalize hm : fold (fun _ => True) (fun p => (at1 md p).toNat) R m (16 * b.val + 2 * t.val) = m0
  have hM : fold (fun _ => True) (fun p => (at1 md p).toNat) R m (min n.val (16 * b.val + 2 * (t.val + 1)))
      = if c = 1 then upd (upd m0 (at1 md (16 * b.val + 2 * t.val)).toNat (R (16 * b.val + 2 * t.val)))
          (at1 md (16 * b.val + 2 * t.val + 1)).toNat (R (16 * b.val + 2 * t.val + 1))
        else upd m0 (at1 md (16 * b.val + 2 * t.val)).toNat (R (16 * b.val + 2 * t.val)) := by
    subst hm
    by_cases hc : c = 1
    · rw [if_pos hc, show min n.val (16 * b.val + 2 * (t.val + 1)) = 16 * b.val + 2 * t.val + 1 + 1 by have := hc1.mp hc; omega]
      show (if True then upd (if True then upd _ _ _ else _) _ _ else _) = _
      rw [if_pos trivial, if_pos trivial]
    · rw [if_neg hc, show min n.val (16 * b.val + 2 * (t.val + 1)) = 16 * b.val + 2 * t.val + 1 by
        have := mt hc1.mpr hc; omega]
      show (if True then upd _ _ _ else _) = _
      rw [if_pos trivial]
  generalize fold (fun _ => True) (fun p => (at1 md p).toNat) R m (min n.val (16 * b.val + 2 * (t.val + 1))) = M at hM ⊢
  iintro ⟨Hm, Hd, Hr⟩ Hk
  unfold pair
  simp only [Prog.lift, Prog.bind_op, Prog.bind_ret, Prog.bind_assoc]
  iapply (wp_assume 𝒱₀ (thr dv i) none Set.univ (list_chk _ (by rw [e0]; omega)))
  iapply (wp_loadIdx dv i dV (Memref.set_access_whole _) (q := qd) (g := md) (Memref.read_access_whole (Elt F) cc1_scratch4 md)) $$ Hd
  iintro Hd
  simp only [Prog.bind_op, Prog.bind_ret, Prog.bind_assoc]
  iapply (wp_assume 𝒱₀ (thr dv i) none Set.univ (list_chk _ (by rw [e1]; omega)))
  iapply (wp_loadIdx dv i dV (Memref.set_access_whole _) (q := qd) (g := md) (Memref.read_access_whole (Elt F) cc1_scratch4 md)) $$ Hd
  iintro Hd
  rw [loadIdx_at1 (F := F) md _ _ e0 (by omega), loadIdx_at1 (F := F) md _ _ e1 (by omega)]
  rw [← mid_zero m0 M]
  iapply (wp_blk dv i hk m0 M fr q (at1 md (16 * b.val + 2 * t.val)).toNat (at1 md (16 * b.val + 2 * t.val + 1)).toNat 0 (b.val % 2) (2 * t.val) (2 * t.val + 1)
    (R (16 * b.val + 2 * t.val)) (R (16 * b.val + 2 * t.val + 1)) (by decide) (hd _) (hd _) (fun h => ⟨h, h⟩) (fun h => ⟨h, h⟩) hM
    (pay34_lane (F := F) _ _ 0 rfl (hd _) (by decide)) (pay35_lane (F := F) _ _ 0 rfl (hd _) (by decide)) hH (by omega) (by omega)
    (off13_eq n b t) (off14_eq n b t)
    (fun x h0 h1 => by rw [hR x h0, h1]) (fun x h0 h1 => by rw [hR x h0, h1]; rfl)) $$ [Hm Hr]
  · isplitl [Hm] <;> iassumption
  iintro ⟨Hm, Hr⟩
  try simp only [Prog.bind_assoc, Prog.bind_ret]
  iapply (wp_blk dv i hk m0 M fr q (at1 md (16 * b.val + 2 * t.val)).toNat (at1 md (16 * b.val + 2 * t.val + 1)).toNat 1 (b.val % 2) (2 * t.val) (2 * t.val + 1)
    (R (16 * b.val + 2 * t.val)) (R (16 * b.val + 2 * t.val + 1)) (by decide) (hd _) (hd _) (fun h => ⟨h, h⟩) (fun h => ⟨h, h⟩) hM
    (pay34_lane (F := F) _ _ 1 rfl (hd _) (by decide)) (pay35_lane (F := F) _ _ 1 rfl (hd _) (by decide)) hH (by omega) (by omega)
    (off15_eq n b t) (off16_eq n b t)
    (fun x h0 h1 => by rw [hR x h0, h1]) (fun x h0 h1 => by rw [hR x h0, h1]; rfl)) $$ [Hm Hr]
  · isplitl [Hm] <;> iassumption
  iintro ⟨Hm, Hr⟩
  try simp only [Prog.bind_assoc, Prog.bind_ret]
  iapply (wp_blk dv i hk m0 M fr q (at1 md (16 * b.val + 2 * t.val)).toNat (at1 md (16 * b.val + 2 * t.val + 1)).toNat 2 (b.val % 2) (2 * t.val) (2 * t.val + 1)
    (R (16 * b.val + 2 * t.val)) (R (16 * b.val + 2 * t.val + 1)) (by decide) (hd _) (hd _) (fun h => ⟨h, h⟩) (fun h => ⟨h, h⟩) hM
    (pay34_lane (F := F) _ _ 2 rfl (hd _) (by decide)) (pay35_lane (F := F) _ _ 2 rfl (hd _) (by decide)) hH (by omega) (by omega)
    (off17_eq n b t) (off18_eq n b t)
    (fun x h0 h1 => by rw [hR x h0, h1]) (fun x h0 h1 => by rw [hR x h0, h1]; rfl)) $$ [Hm Hr]
  · isplitl [Hm] <;> iassumption
  iintro ⟨Hm, Hr⟩
  try simp only [Prog.bind_assoc, Prog.bind_ret]
  iapply (wp_blk dv i hk m0 M fr q (at1 md (16 * b.val + 2 * t.val)).toNat (at1 md (16 * b.val + 2 * t.val + 1)).toNat 3 (b.val % 2) (2 * t.val) (2 * t.val + 1)
    (R (16 * b.val + 2 * t.val)) (R (16 * b.val + 2 * t.val + 1)) (by decide) (hd _) (hd _) (fun h => ⟨h, h⟩) (fun h => ⟨h, h⟩) hM
    (pay34_lane (F := F) _ _ 3 rfl (hd _) (by decide)) (pay35_lane (F := F) _ _ 3 rfl (hd _) (by decide)) hH (by omega) (by omega)
    (off19_eq n b t) (off20_eq n b t)
    (fun x h0 h1 => by rw [hR x h0, h1]) (fun x h0 h1 => by rw [hR x h0, h1]; rfl)) $$ [Hm Hr]
  · isplitl [Hm] <;> iassumption
  iintro ⟨Hm, Hr⟩
  try simp only [Prog.bind_assoc, Prog.bind_ret]
  iapply (wp_blk dv i hk m0 M fr q (at1 md (16 * b.val + 2 * t.val)).toNat (at1 md (16 * b.val + 2 * t.val + 1)).toNat 4 (b.val % 2) (2 * t.val) (2 * t.val + 1)
    (R (16 * b.val + 2 * t.val)) (R (16 * b.val + 2 * t.val + 1)) (by decide) (hd _) (hd _) (fun h => ⟨h, h⟩) (fun h => ⟨h, h⟩) hM
    (pay34_lane (F := F) _ _ 4 rfl (hd _) (by decide)) (pay35_lane (F := F) _ _ 4 rfl (hd _) (by decide)) hH (by omega) (by omega)
    (off21_eq n b t) (off22_eq n b t)
    (fun x h0 h1 => by rw [hR x h0, h1]) (fun x h0 h1 => by rw [hR x h0, h1]; rfl)) $$ [Hm Hr]
  · isplitl [Hm] <;> iassumption
  iintro ⟨Hm, Hr⟩
  try simp only [Prog.bind_assoc, Prog.bind_ret]
  iapply (wp_blk dv i hk m0 M fr q (at1 md (16 * b.val + 2 * t.val)).toNat (at1 md (16 * b.val + 2 * t.val + 1)).toNat 5 (b.val % 2) (2 * t.val) (2 * t.val + 1)
    (R (16 * b.val + 2 * t.val)) (R (16 * b.val + 2 * t.val + 1)) (by decide) (hd _) (hd _) (fun h => ⟨h, h⟩) (fun h => ⟨h, h⟩) hM
    (pay34_lane (F := F) _ _ 5 rfl (hd _) (by decide)) (pay35_lane (F := F) _ _ 5 rfl (hd _) (by decide)) hH (by omega) (by omega)
    (off23_eq n b t) (off24_eq n b t)
    (fun x h0 h1 => by rw [hR x h0, h1]) (fun x h0 h1 => by rw [hR x h0, h1]; rfl)) $$ [Hm Hr]
  · isplitl [Hm] <;> iassumption
  iintro ⟨Hm, Hr⟩
  try simp only [Prog.bind_assoc, Prog.bind_ret]
  iapply (wp_blk dv i hk m0 M fr q (at1 md (16 * b.val + 2 * t.val)).toNat (at1 md (16 * b.val + 2 * t.val + 1)).toNat 6 (b.val % 2) (2 * t.val) (2 * t.val + 1)
    (R (16 * b.val + 2 * t.val)) (R (16 * b.val + 2 * t.val + 1)) (by decide) (hd _) (hd _) (fun h => ⟨h, h⟩) (fun h => ⟨h, h⟩) hM
    (pay34_lane (F := F) _ _ 6 rfl (hd _) (by decide)) (pay35_lane (F := F) _ _ 6 rfl (hd _) (by decide)) hH (by omega) (by omega)
    (off25_eq n b t) (off26_eq n b t)
    (fun x h0 h1 => by rw [hR x h0, h1]) (fun x h0 h1 => by rw [hR x h0, h1]; rfl)) $$ [Hm Hr]
  · isplitl [Hm] <;> iassumption
  iintro ⟨Hm, Hr⟩
  try simp only [Prog.bind_assoc, Prog.bind_ret]
  iapply (wp_blk dv i hk m0 M fr q (at1 md (16 * b.val + 2 * t.val)).toNat (at1 md (16 * b.val + 2 * t.val + 1)).toNat 7 (b.val % 2) (2 * t.val) (2 * t.val + 1)
    (R (16 * b.val + 2 * t.val)) (R (16 * b.val + 2 * t.val + 1)) (by decide) (hd _) (hd _) (fun h => ⟨h, h⟩) (fun h => ⟨h, h⟩) hM
    (pay34_lane (F := F) _ _ 7 rfl (hd _) (by decide)) (pay35_lane (F := F) _ _ 7 rfl (hd _) (by decide)) hH (by omega) (by omega)
    (off27_eq n b t) (off28_eq n b t)
    (fun x h0 h1 => by rw [hR x h0, h1]) (fun x h0 h1 => by rw [hR x h0, h1]; rfl)) $$ [Hm Hr]
  · isplitl [Hm] <;> iassumption
  iintro ⟨Hm, Hr⟩
  try simp only [Prog.bind_assoc, Prog.bind_ret]
  rw [mid_eight]
  simp only [Prog.pure_eq_ret, Prog.bind_ret]
  iapply Hk
  isplitl [Hm]; iassumption
  isplitl [Hd] <;> iassumption

end Run

end

end Cert.Proof.Seg
-- ==== Proof.Gather.lean ====
module

public import proofs.«01_k».proof.Proof.PairRun
public import Idealize.ShloMosaic.Lib.SparseCore.FromWhole

/-! # Gathering a batch of rows: its start and its wait -/

@[expose] public section

namespace Cert.Proof.Seg

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

noncomputable section

variable {F : FTy → Type} [FloatOps F] [Named F]

/-- A half of the row buffer, as sixteen rows. -/
abbrev rowsBuf (o : Fin 3 → ℕ) (ho : ∀ a, o a + S1x16x128.size a ≤ S2x16x128.size a) : Memref sig .scVector .vmem S16x128 .f32 :=
  (rV.slice (Rect.unit (s := S2x16x128) o S1x16x128.size ho) (fun _ => rfl)).squeeze S16x128 squeezes_S1x16x128_S16x128
/-- Sixteen entries of the list of sources. -/
abbrev offsBuf (o : Fin 1 → ℕ) (ho : ∀ a, o a + S16.size a ≤ S784.size a) : Memref sig .scVector .vmem S16 .i32 :=
  lV.slice (Rect.unit (s := S784) o S16.size ho) (fun _ => rfl)
/-- All the shared rows. -/
abbrev gAll : Memref sig .scVector .shared S10000x128 .f32 :=
  gV.slice (Rect.unit (s := S10000x128) ![0, 0] S10000x128.size inb_S10000x128_S10000x128_0_0) (fun _ => rfl)

/-- Feature `k` of row `r`. -/
def gAt {α : Type} (g : S10000x128.Idx → α) (r k : ℕ) : α :=
  g fun a => match a with | 0 => ⟨r % 10000, Nat.mod_lt _ (by decide)⟩ | 1 => ⟨k % 128, Nat.mod_lt _ (by decide)⟩

theorem rowsBuf_set (h : ℕ) (ho) : (rowsBuf ![h, 0, 0] ho).view.set = half h := by
  refine (View.set_reshape _ _).trans ?_
  refine (View.set_slice_whole _ _).trans ?_
  ext x
  rw [half, Finset.mem_filter, Rect.mem_set_unit]
  constructor
  · intro hx
    have := hx 0
    have e : S1x16x128.size 0 = 1 := rfl
    have e0 : (![h, 0, 0] : Fin 3 → ℕ) 0 = h := rfl
    exact ⟨Finset.mem_univ _, by omega⟩
  · rintro ⟨_, hx⟩ a
    have hb := (x a).isLt
    fin_cases a
    · show h ≤ (x 0).val ∧ (x 0).val < h + 1; omega
    · exact ⟨Nat.zero_le _, lt_of_lt_of_eq (x 1).isLt (show S2x16x128.size 1 = 0 + 16 from rfl)⟩
    · exact ⟨Nat.zero_le _, lt_of_lt_of_eq (x 2).isLt (show S2x16x128.size 2 = 0 + 128 from rfl)⟩

theorem offsBuf_read (ml : S784.Idx → BitVec 32) (p : ℕ) (ho) (x : S16.Idx) :
    (offsBuf ![p] ho).view.read (Elt F) ml x = at1 ml (p + (x 0).val) := by
  have h0 : p + 16 ≤ 784 := ho 0
  have hx : (x 0).val < 16 := (x 0).isLt
  show ml _ = ml _
  congr 1
  funext a
  apply Fin.ext
  fin_cases a
  show p + 1 * (x 0).val = (p + (x 0).val) % 784
  rw [Nat.mod_eq_of_lt (by omega)]; omega

/-- A half of the row buffer with the batch of rows whose numbers the list holds from `p` on. -/
def Rows {α : Type} (g : S10000x128.Idx → α) (ml : S784.Idx → BitVec 32) (h p : ℕ) (fr : S2x16x128.Idx → α) : Prop :=
  ∀ x : S2x16x128.Idx, (x 0).val = h → fr x = gAt g (at1 ml (p + (x 1).val)).toNat (x 2).val

theorem rows_written (g : S10000x128.Idx → F .f32) (ml : S784.Idx → BitVec 32) (h p : ℕ) (ho) (hp)
    (fr : S2x16x128.Idx → F .f32) (hin) :
    Rows g ml h p ((rowsBuf ![h, 0, 0] ho).view.write (Elt F) fr
      (SparseCore.gatherPayload gathers_S10000x128_S16x128 (gAll.view.read (Elt F) g)
        (SparseCore.rows ((offsBuf ![p] hp).view.read (Elt F) ml) rfl hin)) Finset.univ) := by
  intro x hx
  have h1 : (x 1).val < 16 := (x 1).isLt
  have h2 : (x 2).val < 128 := (x 2).isLt
  let y : S16x128.Idx := fun a => match a with | 0 => ⟨(x 1).val, h1⟩ | 1 => ⟨(x 2).val, h2⟩
  have hy : (rowsBuf ![h, 0, 0] ho).view.emb y = x := by
    have e : Shape.reshapeEquiv (Shape.Squeezes.numel_eq squeezes_S1x16x128_S16x128) y
        = (fun a => match a with | 0 => ⟨0, by decide⟩ | 1 => ⟨(x 1).val, h1⟩ | 2 => ⟨(x 2).val, h2⟩ : S1x16x128.Idx) :=
      Shape.reshapeEquiv_eq_of_rowMajor _ (by
        rw [Shape.rowMajor_val_three, Shape.rowMajor_val_two]
        show (0 * 16 + (x 1).val) * 128 + (x 2).val = (x 1).val * 128 + (x 2).val
        omega)
    show (Rect.unit (s := S2x16x128) ![h, 0, 0] S1x16x128.size ho).emb (Shape.reshapeEquiv (Shape.Squeezes.numel_eq squeezes_S1x16x128_S16x128) y) = x
    rw [e]
    funext a
    apply Fin.ext
    fin_cases a
    · show h + 1 * 0 = (x 0).val; omega
    · show 0 + 1 * (x 1).val = (x 1).val; omega
    · show 0 + 1 * (x 2).val = (x 2).val; omega
  rw [← hy, View.write_emb_of_mem _ _ (Finset.mem_univ y), hy]
  have hr : (at1 ml (p + (x 1).val)).toNat < 10000 := by
    have := hin (show S16.Idx from fun a => match a with | 0 => ⟨(x 1).val, h1⟩)
    rw [offsBuf_read (F := F)] at this
    exact this
  show g _ = g _
  congr 1
  funext a
  apply Fin.ext
  fin_cases a
  · show 0 + 1 * (SparseCore.rows ((offsBuf ![p] hp).view.read (Elt F) ml) rfl hin ⟨(x 1).val, h1⟩).val = (at1 ml (p + (x 1).val)).toNat % 10000
    rw [Nat.mod_eq_of_lt hr]
    show 0 + 1 * ((offsBuf ![p] hp).view.read (Elt F) ml (S16.rowMajor.symm ⟨(x 1).val, h1⟩)).toNat = _
    rw [offsBuf_read (F := F)]
    have : ((S16.rowMajor.symm ⟨(x 1).val, h1⟩) 0).val = (x 1).val := by
      have e := congrArg Fin.val (S16.rowMajor.apply_symm_apply ⟨(x 1).val, h1⟩)
      rw [Shape.rowMajor_val_one] at e
      exact e
    rw [this]; omega
  · show 0 + 1 * (x 2).val = (x 2).val % 128
    rw [Nat.mod_eq_of_lt h2]; omega

section Run

variable (dv : Dev nD) (i : grid1.Coords) {α : Type}

/-- A batch's whole credit. -/
abbrev rowsN : ℕ := (rowsBuf ![0, 0, 0] inb_S2x16x128_S1x16x128_0_0_0).view.dmaCredit

/-- What a gather into half `h` borrows, with the half's contents `X`. -/
def Lent (h : ℕ) (qg ql : PosShare TreeShare) (g : S10000x128.Idx → F .f32) (ml : S784.Idx → BitVec 32)
    (X : (S2x16x128.Idx → F .f32) → Prop) : sProp (RR F) :=
  iprop((∃ fr : S2x16x128.Idx → F .f32, ⌜X fr⌝ ∗ (rV.view.loc (thr dv i) ↦[half h]{fullShare} fr))
    ∗ (gV.view.loc (thr dv i) ↦{qg} g) ∗ (lV.view.loc (thr dv i) ↦{ql} ml))

/-- The gather of the batch at `p` into half `h`, under way. -/
def Coming (sem : DmaSem sig) (h p : ℕ) (qg ql : PosShare TreeShare) (g : S10000x128.Idx → F .f32) (ml : S784.Idx → BitVec 32) : sProp (RR F) :=
  Transfers.Flight countersEmb (thr dv i) (.dma sem) (default : HIx 1) rowsN (Lent dv i h qg ql g ml (Rows g ml h p))

theorem wp_start (sem : DmaSem sig) (h p : ℕ) (ho) (o : Fin 1 → ℕ) (hp : ∀ a, o a + S16.size a ≤ S784.size a) (hop : o = ![p])
    {k : PUnit → Prog (Eff F i) α} {Q : α → sProp (RR F)} {h1 h2 h3 h4 h5}
    (qg ql : PosShare TreeShare) (g : S10000x128.Idx → F .f32) (ml : S784.Idx → BitVec 32)
    (hml : ∀ p, (at1 ml p).toNat < 10000) (X : (S2x16x128.Idx → F .f32) → Prop) :
    iprop(Lent dv i h qg ql g ml X ∗ semVal (thr dv i, SemLoc.dma sem) 0)
      ⊢ iprop((Coming dv i sem h p qg ql g ml -∗ wpT dv i (k ⟨⟩) Q)
        -∗ wpT dv i (SparseCore.enqueueIndirectGather h1 gAll (rowsBuf ![h, 0, 0] ho) gathers_S10000x128_S16x128 (offsBuf o hp) rfl sem h2 h3 h4 h5 >>= k) Q) := by
  subst hop
  have hin : ∀ x, ((offsBuf ![p] hp).view.read (Elt F) ml x).toNat < S10000x128.size gathers_S10000x128_S16x128.axis := fun x => by
    rw [offsBuf_read (F := F)]; exact hml _
  unfold Coming
  iintro ⟨H, Hv⟩ Hk
  unfold Lent
  icases H with ⟨⟨%fr, %_, Hr⟩, Hg, Hl⟩
  ihave ⟨Hg, Hgr⟩ := (pointsTo_split_subset (Finset.subset_univ gAll.view.set)).1 $$ Hg
  ihave ⟨Hl, Hlr⟩ := (pointsTo_split_subset (Finset.subset_univ (offsBuf ![p] hp).view.set)).1 $$ Hl
  have hs := rowsBuf_set h ho
  iapply (SparseCore.wp_indirectGatherLocal countersEmb 𝒱₀ (thr dv i) none (default : HIx 1) rowsN (dst := rowsBuf ![h, 0, 0] ho) (src := gAll)
    (offs := offsBuf ![p] hp) (hg := gathers_S10000x128_S16x128) (hn := rfl) (fs := g) (fd := fr) (fo := ml) (show (∑ j, ((rowsBuf ![0, 0, 0] inb_S2x16x128_S1x16x128_0_0_0).slice (S16x128.rowRect gathers_S10000x128_S16x128.axis' j) (S16x128.stride_rowRect gathers_S10000x128_S16x128.axis' j)).view.dmaCredit) = rowsN by decide) (by decide) hin) $$ [Hg Hr Hl Hv]
  · isplitl [Hg]; iexact Hg
    isplitl [Hr]; rw [hs]; iexact Hr
    isplitl [Hl]; iexact Hl
    iexact Hv
  iintro Hf
  iapply Hk
  iapply (Transfers.Flight_mono countersEmb (thr dv i) (D := iprop(((gAll.view.loc (thr dv i) ↦[Finset.univ \ gAll.view.set]{qg} g)
      ∗ ((offsBuf ![p] hp).view.loc (thr dv i) ↦[Finset.univ \ (offsBuf ![p] hp).view.set]{ql} ml))
      ∗ (((rowsBuf ![h, 0, 0] ho).view.loc (thr dv i) ↦[(rowsBuf ![h, 0, 0] ho).view.set]{fullShare} ((rowsBuf ![h, 0, 0] ho).view.write (Elt F) fr
      (SparseCore.gatherPayload gathers_S10000x128_S16x128 (gAll.view.read (Elt F) g)
        (SparseCore.rows ((offsBuf ![p] hp).view.read (Elt F) ml) rfl hin)) Finset.univ))
        ∗ (gAll.view.loc (thr dv i) ↦[gAll.view.set]{qg} g) ∗ ((offsBuf ![p] hp).view.loc (thr dv i) ↦[(offsBuf ![p] hp).view.set]{ql} ml)))) (by
    iintro ⟨⟨Hgr, Hlr⟩, Hr, Hg, Hl⟩
    isplitl [Hr]
    · iexists _
      isplitr
      · ipureintro; exact rows_written g ml h p ho hp fr hin
      rw [hs]; iexact Hr
    isplitl [Hg Hgr]
    · iapply ((pointsTo_split_subset (Finset.subset_univ gAll.view.set)).2)
      isplitl [Hg] <;> iassumption
    · iapply ((pointsTo_split_subset (Finset.subset_univ (offsBuf ![p] hp).view.set)).2)
      isplitl [Hl] <;> iassumption))
  iapply (Transfers.Flight_frame countersEmb (thr dv i))
  isplitl [Hgr Hlr]
  · isplitl [Hgr] <;> iassumption
  · iexact Hf

theorem wp_arrive (sem : DmaSem sig) (h p h' : ℕ) (ho)
    {k : PUnit → Prog (Eff F i) α} {Q : α → sProp (RR F)} {h1 h2}
    (qg ql : PosShare TreeShare) (g : S10000x128.Idx → F .f32) (ml : S784.Idx → BitVec 32)
    (O : CellTallies nD τ sig (HIx 1)) (W : Waits sig (HIx 1)) :
    iprop(Coming dv i sem h p qg ql g ml ∗ owes (thr dv i) O W ∗ Transfers.MayWaits (thr dv i) (default : HIx 1) O)
      ⊢ iprop((iprop(Lent dv i h qg ql g ml (Rows g ml h p) ∗ semVal (thr dv i, SemLoc.dma sem) 0 ∗ owes (thr dv i) O (insert (SemLoc.dma sem, default) W)) -∗ wpT dv i (k ⟨⟩) Q)
        -∗ wpT dv i (SparseCore.waitIndirectGather sem gAll (rowsBuf ![h', 0, 0] ho) h1 h2 >>= k) Q) := by
  iintro ⟨Hc, HO, Hmw⟩ Hk
  unfold Coming
  rw [show (SparseCore.waitIndirectGather sem gAll (rowsBuf ![h', 0, 0] ho) h1 h2 >>= k : Prog (Eff F i) α) = .op (.waitDma2 sem gAll (rowsBuf ![h', 0, 0] ho) h1 h2) k from rfl]
  iapply (Transfers.wp_waitLocalO countersEmb 𝒱₀ (thr dv i) none (default : HIx 1) (dstw := rowsBuf ![h', 0, 0] ho) (N := rowsN) rfl) $$ [Hc HO Hmw]
  · isplitl [Hc]; · iexact Hc
    isplitl [HO]; · iexact HO
    iapply (Transfers.MayWaits.elim (SemLoc.dma sem)) $$ Hmw
  iexact Hk

end Run

end

end Cert.Proof.Seg
-- ==== Proof.Batches.lean ====
module

public import proofs.«01_k».proof.Proof.Gather
public import proofs.«01_k».proof.Proof.Checks

/-! # The batches of a chunk's matches

A batch's rows are gathered while the batch before it is taken into the maxima. -/

@[expose] public section

namespace Cert.Proof.Seg

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

noncomputable section

variable {F : FTy → Type} [FloatOps F] [Named F]

/-- The pairs of a batch. -/
abbrev pairsBody (i : grid1.Coords) (v13 v15 v17 v19 v21 v23 v25 v27 : IVec S16 32) (v63 : BitVec 32) (w : k1_chk5 v63) (b : Fin (k1_t5_loop v63).trips) (arg18 v91 v111 : BitVec 32) :
    Fin (k1_t6_loop v63 b).trips → Unit → Prog (Eff F i) Unit :=
  k1_t6_body (F := F) i srcA (Memref.isWhole_whole _) dstA (Memref.isWhole_whole _) gA (Memref.isWhole_whole _) outA (Memref.isWhole_whole _) mV (Memref.isWhole_whole _) sV (Memref.isWhole_whole _) tV (Memref.isWhole_whole _) lV (Memref.isWhole_whole _) dV (Memref.isWhole_whole _) rV (Memref.isWhole_whole _) gV (Memref.isWhole_whole _) cc1_scratch7 cc1_scratch8 cc1_scratch9 cc1_scratch10 cc1_scoped0 cc1_scoped1 cc1_scoped2 v13 v15 v17 v19 v21 v23 v25 v27 v63 w b arg18 v91 v111
/-- A batch. -/
abbrev batchBody (i : grid1.Coords) (v13 v15 v17 v19 v21 v23 v25 v27 : IVec S16 32) (v63 : BitVec 32) (w : k1_chk5 v63) (v82 : BitVec 32) :
    Fin (k1_t5_loop v63).trips → Unit → Prog (Eff F i) Unit :=
  k1_t5_body (F := F) i srcA (Memref.isWhole_whole _) dstA (Memref.isWhole_whole _) gA (Memref.isWhole_whole _) outA (Memref.isWhole_whole _) mV (Memref.isWhole_whole _) sV (Memref.isWhole_whole _) tV (Memref.isWhole_whole _) lV (Memref.isWhole_whole _) dV (Memref.isWhole_whole _) rV (Memref.isWhole_whole _) gV (Memref.isWhole_whole _) cc1_scratch7 cc1_scratch8 cc1_scratch9 cc1_scratch10 cc1_scoped0 cc1_scoped1 cc1_scoped2 v13 v15 v17 v19 v21 v23 v25 v27 v63 w v82

section Run

variable (dv : Dev nD) (i : grid1.Coords) {α : Type}

/-- The row that the list's entry `p` names. -/
abbrev rowOfEntry (g : S10000x128.Idx → F .f32) (ml : S784.Idx → BitVec 32) : ℕ → ℕ → F .f32 := fun p k => gAt g (at1 ml p).toNat k

/-- The maxima after the list's first `p` entries. -/
abbrev listFold (g : S10000x128.Idx → F .f32) (ml md : S784.Idx → BitVec 32) (m : MB F) (p : ℕ) : MB F :=
  fold (fun _ => True) (fun p => (at1 md p).toNat) (rowOfEntry g ml) m p

theorem wp_pairs {v13 v15 v17 v19 v21 v23 v25 v27 : IVec S16 32} (hc : Cols v13 v15 v17 v19 v21 v23 v25 v27)
    (n : Fin 769) {w : k1_chk5 (word n)} (b : Fin (k1_t5_loop (word n)).trips) {v91 : BitVec 32} {hok}
    {k : Unit → Prog (Eff F i) α} {Q : α → sProp (RR F)}
    (m : MB F) (ml md : S784.Idx → BitVec 32) (g : S10000x128.Idx → F .f32) (fr : S2x16x128.Idx → F .f32)
    (hd : ∀ p, (at1 md p).toNat < 320) (hR : Rows g ml (b.val % 2) (16 * b.val) fr) :
    iprop((mV.view.loc (thr dv i) ↦{fullShare} listFold g ml md m (min n.val (16 * b.val)))
        ∗ (dV.view.loc (thr dv i) ↦{fullShare} md) ∗ (rV.view.loc (thr dv i) ↦[half (b.val % 2)]{fullShare} fr))
      ⊢ iprop((((mV.view.loc (thr dv i) ↦{fullShare} listFold g ml md m (min n.val (16 * (b.val + 1))))
            ∗ (dV.view.loc (thr dv i) ↦{fullShare} md) ∗ (rV.view.loc (thr dv i) ↦[half (b.val % 2)]{fullShare} fr)) -∗ wpT dv i (k ⟨⟩) Q)
        -∗ wpT dv i (Scf.Loop.for (k1_t6_loop (word n) b) hok ⟨⟩ (pairsBody (F := F) i v13 v15 v17 v19 v21 v23 v25 v27 (word n) w b (Scf.iv 0#32 1#32 b) v91 (nloc (word n) (Scf.iv 0#32 1#32 b))) >>= k) Q) := by
  have htr := t6_trips n b
  have hb := batch_lt n b
  have hn := n.isLt
  let I : ℕ → PUnit → sProp (RR F) := fun t _ =>
    iprop((mV.view.loc (thr dv i) ↦{fullShare} listFold g ml md m (min n.val (16 * b.val + 2 * t)))
        ∗ (dV.view.loc (thr dv i) ↦{fullShare} md) ∗ (rV.view.loc (thr dv i) ↦[half (b.val % 2)]{fullShare} fr))
  have hbody : ∀ (t : Fin (k1_t6_loop (word n) b).trips) (acc : PUnit), I t.val acc ⊢ wpT dv i (pairsBody (F := F) i v13 v15 v17 v19 v21 v23 v25 v27 (word n) w b (Scf.iv 0#32 1#32 b) v91 (nloc (word n) (Scf.iv 0#32 1#32 b)) t acc) (I (t.val + 1)) := by
    intro t acc
    rw [show pairsBody (F := F) i v13 v15 v17 v19 v21 v23 v25 v27 (word n) w b (Scf.iv 0#32 1#32 b) v91 (nloc (word n) (Scf.iv 0#32 1#32 b)) t acc
      = (pair i v13 v15 v17 v19 v21 v23 v25 v27 (word n) w b (Scf.iv 0#32 1#32 b) (nloc (word n) (Scf.iv 0#32 1#32 b)) t >>= fun u => .ret u) from (t6_body_eq ..).trans (Prog.bind_pure _).symm]
    iintro ⟨Hm, Hd, Hr⟩
    iapply (wp_pair dv i hc n b t m md fr fullShare fullShare (rowOfEntry g ml) hd hR) $$ [Hm Hd Hr]
    · isplitl [Hm]; iexact Hm
      isplitl [Hd] <;> iassumption
    iintro ⟨Hm, Hd, Hr⟩
    simp only [wp_ret]
    imodintro
    isplitl [Hm]; iexact Hm
    isplitl [Hd] <;> iassumption
  iintro ⟨Hm, Hd, Hr⟩ Hk
  iapply (Scf.wp_for_bind frame (wpE (defs₀ (F := F)) 𝒱₀ (thr dv i) none) Set.univ _ _ _ hok ⟨⟩ _ I hbody) $$ [Hm Hd Hr]
  · isplitl [Hm]; iexact Hm
    isplitl [Hd] <;> iassumption
  iintro %u ⟨Hm, Hd, Hr⟩
  iapply Hk
  isplitl [Hm]
  · rw [show min n.val (16 * (b.val + 1)) = min n.val (16 * b.val + 2 * (k1_t6_loop (word n) b).trips) by rw [htr]; omega]
    iexact Hm
  isplitl [Hd] <;> iassumption

/-- A buffer at rest. -/
abbrev Idle (sem : DmaSem sig) (h : ℕ) (qg ql : PosShare TreeShare) (g : S10000x128.Idx → F .f32) (ml : S784.Idx → BitVec 32) : sProp (RR F) :=
  iprop(Lent dv i h qg ql g ml (fun _ => True) ∗ semVal (thr dv i, SemLoc.dma sem) 0)

/-- The buffer of batch `b`: its rows under way, if the batch exists. -/
abbrev Cur (n : ℕ) (b : ℕ) (sem : DmaSem sig) (h : ℕ) (qg ql : PosShare TreeShare) (g : S10000x128.Idx → F .f32) (ml : S784.Idx → BitVec 32) : sProp (RR F) :=
  if b < (n + 15) / 16 then Coming dv i sem h (16 * b) qg ql g ml else Idle dv i sem h qg ql g ml

/-- The two buffers before batch `b`. -/
abbrev Slots (n b : ℕ) (qg0 qg1 ql0 ql1 : PosShare TreeShare) (g : S10000x128.Idx → F .f32) (ml : S784.Idx → BitVec 32) : sProp (RR F) :=
  if b % 2 = 0 then iprop(Cur dv i n b cc1_scratch9.sem 0 qg0 ql0 g ml ∗ Idle dv i cc1_scratch10.sem 1 qg1 ql1 g ml)
  else iprop(Cur dv i n b cc1_scratch10.sem 1 qg1 ql1 g ml ∗ Idle dv i cc1_scratch9.sem 0 qg0 ql0 g ml)

/-- The waits a tile has done are its own, beyond those it had done before. -/
abbrev Owes (O : CellTallies nD τ sig (HIx 1)) (W : Waits sig (HIx 1)) : sProp (RR F) :=
  iprop(∃ W' : Waits sig (HIx 1), ⌜∀ p ∈ W', p ∈ W ∨ p.2 = none⌝ ∗ owes (thr dv i) O W')

/-- Before batch `b`. -/
abbrev BatchInv (n : ℕ) (O : CellTallies nD τ sig (HIx 1)) (W : Waits sig (HIx 1)) (qg0 qg1 ql0 ql1 : PosShare TreeShare)
    (g : S10000x128.Idx → F .f32) (ml md : S784.Idx → BitVec 32) (m : MB F) (b : ℕ) : sProp (RR F) :=
  iprop(Owes dv i O W ∗ Transfers.MayWaits (thr dv i) (default : HIx 1) O
    ∗ (mV.view.loc (thr dv i) ↦{fullShare} listFold g ml md m (min n (16 * b))) ∗ (dV.view.loc (thr dv i) ↦{fullShare} md)
    ∗ Slots dv i n b qg0 qg1 ql0 ql1 g ml)

/-- The loop over the pairs left over runs no trip. -/
theorem wp_noRest {v63 : BitVec 32} {b : Fin (k1_t5_loop v63).trips} {hok} {body}
    {k : Unit → Prog (Eff F i) α} {Q : α → sProp (RR F)} :
    wpT dv i (k ⟨⟩) Q ⊢ wpT dv i (Scf.Loop.for (k1_t7_loop v63 b) hok ⟨⟩ body >>= k) Q :=
  Scf.wp_for0_bind frame (wpE (defs₀ (F := F)) 𝒱₀ (thr dv i) none) Set.univ _ _ _ hok body (Scf.rem_trips _ _) k Q _ (by iintro H; iexact H)

theorem batch_step {v13 v15 v17 v19 v21 v23 v25 v27 : IVec S16 32} (hc : Cols v13 v15 v17 v19 v21 v23 v25 v27)
    (n : Fin 769) {w : k1_chk5 (word n)} {v82 : BitVec 32} (b : Fin (k1_t5_loop (word n)).trips) (u : Unit)
    (O : CellTallies nD τ sig (HIx 1)) (W : Waits sig (HIx 1)) (qg0 qg1 ql0 ql1 : PosShare TreeShare)
    (g : S10000x128.Idx → F .f32) (ml md : S784.Idx → BitVec 32) (m : MB F)
    (hd : ∀ p, (at1 md p).toNat < 320) (hml : ∀ p, (at1 ml p).toNat < 10000) :
    BatchInv dv i n O W qg0 qg1 ql0 ql1 g ml md m b.val ⊢ wpT dv i (batchBody (F := F) i v13 v15 v17 v19 v21 v23 v25 v27 (word n) w v82 b u) (fun _ => BatchInv dv i n O W qg0 qg1 ql0 ql1 g ml md m (b.val + 1)) := by
  have hb := batch_lt n b
  have hn := n.isLt
  rw [show batchBody (F := F) i v13 v15 v17 v19 v21 v23 v25 v27 (word n) w v82 b u = batchBody (F := F) i v13 v15 v17 v19 v21 v23 v25 v27 (word n) w v82 b ⟨⟩ from rfl]
  unfold batchBody k1_t5_body
  simp only [k1_part10_eq_skeleton]
  unfold k1_part10_skel
  rcases Nat.mod_two_eq_zero_or_one b.val with hpar | hpar <;> by_cases hx : b.val + 1 < (n.val + 15) / 16
  · have hp : b.val % 2 = 0 := hpar
    have hp1 : ¬ (b.val + 1) % 2 = 0 := by omega
    have h8 : ¬ k1_cond8 (word n.val) b = 1#1 := by rw [cond8]; omega
    have h9 : k1_cond9 (word n.val) b = 1#1 := by rw [cond9]; omega
    have h10 : k1_cond10 (word n.val) b = 1#1 := by rw [cond10]; omega
    have h11 : ¬ k1_cond11 (word n.val) b = 1#1 := by rw [cond11]; omega
    simp only [dif_neg h8, dif_pos h9, dif_pos h10, dif_neg h11, Prog.bind_assoc, Prog.bind_ret, Prog.pure_eq_ret]
    simp only [BatchInv, Slots, Cur, Idle, if_pos hb, if_pos hp, if_neg hp1, if_pos hx]
    iintro ⟨⟨%W', %hW', HO⟩, #Hmw, Hm, Hd, Hc, Hi, Hv⟩
    iapply (wp_start dv i cc1_scratch10.sem 1 (16 * (b.val + 1)) inb_S2x16x128_S1x16x128_1_0_0 _ _ (off10_eq n b) qg1 ql1 g ml hml _) $$ [Hi Hv]
    · isplitl [Hi] <;> iassumption
    iintro Hn
    iapply (wp_arrive dv i cc1_scratch9.sem 0 (16 * b.val) 0 inb_S2x16x128_S1x16x128_0_0_0 qg0 ql0 g ml O W') $$ [Hc HO]
    · isplitl [Hc]; iexact Hc
      isplitl [HO]; iexact HO
      iexact Hmw
    iintro ⟨Hl, Hv', HO⟩
    unfold Lent
    icases Hl with ⟨⟨%fr, %hfr, Hr⟩, Hg, Hl⟩
    iapply (wp_pairs dv i hc n b m ml md g fr hd (by rw [hpar]; exact hfr)) $$ [Hm Hd Hr]
    · isplitl [Hm]; iexact Hm
      isplitl [Hd]; iexact Hd
      rw [hpar]; iexact Hr
    rw [hpar]
    iintro ⟨Hm, Hd, Hr⟩
    iapply (wp_noRest dv i)
    simp only [wp_ret]
    imodintro
    isplitl [HO]
    · iexists _
      isplitr
      swap
      · iexact HO
      ipureintro; intro p hp'
      rcases Finset.mem_insert.mp hp' with hp' | hp'
      · exact .inr (hp' ▸ rfl)
      · exact hW' p hp'
    isplitr; iexact Hmw
    isplitl [Hm]; iexact Hm
    isplitl [Hd]; iexact Hd
    isplitl [Hn]; iexact Hn
    isplitl [Hr Hg Hl]
    · isplitl [Hr]
      · iexists fr
        isplitr
        · ipureintro; trivial
        · iexact Hr
      isplitl [Hg] <;> iassumption
    iexact Hv'
  · have hp : b.val % 2 = 0 := hpar
    have hp1 : ¬ (b.val + 1) % 2 = 0 := by omega
    have h8 : ¬ k1_cond8 (word n.val) b = 1#1 := by rw [cond8]; omega
    have h9 : ¬ k1_cond9 (word n.val) b = 1#1 := by rw [cond9]; omega
    have h10 : k1_cond10 (word n.val) b = 1#1 := by rw [cond10]; omega
    have h11 : ¬ k1_cond11 (word n.val) b = 1#1 := by rw [cond11]; omega
    simp only [dif_neg h8, dif_neg h9, dif_pos h10, dif_neg h11, Prog.bind_assoc, Prog.bind_ret, Prog.pure_eq_ret]
    simp only [BatchInv, Slots, Cur, Idle, if_pos hb, if_pos hp, if_neg hp1, if_neg hx]
    iintro ⟨⟨%W', %hW', HO⟩, #Hmw, Hm, Hd, Hc, Hi, Hv⟩
    iapply (wp_arrive dv i cc1_scratch9.sem 0 (16 * b.val) 0 inb_S2x16x128_S1x16x128_0_0_0 qg0 ql0 g ml O W') $$ [Hc HO]
    · isplitl [Hc]; iexact Hc
      isplitl [HO]; iexact HO
      iexact Hmw
    iintro ⟨Hl, Hv', HO⟩
    unfold Lent
    icases Hl with ⟨⟨%fr, %hfr, Hr⟩, Hg, Hl⟩
    iapply (wp_pairs dv i hc n b m ml md g fr hd (by rw [hpar]; exact hfr)) $$ [Hm Hd Hr]
    · isplitl [Hm]; iexact Hm
      isplitl [Hd]; iexact Hd
      rw [hpar]; iexact Hr
    rw [hpar]
    iintro ⟨Hm, Hd, Hr⟩
    iapply (wp_noRest dv i)
    simp only [wp_ret]
    imodintro
    isplitl [HO]
    · iexists _
      isplitr
      swap
      · iexact HO
      ipureintro; intro p hp'
      rcases Finset.mem_insert.mp hp' with hp' | hp'
      · exact .inr (hp' ▸ rfl)
      · exact hW' p hp'
    isplitr; iexact Hmw
    isplitl [Hm]; iexact Hm
    isplitl [Hd]; iexact Hd
    isplitl [Hi Hv]
    · isplitl [Hi] <;> iassumption
    isplitl [Hr Hg Hl]
    · isplitl [Hr]
      · iexists fr
        isplitr
        · ipureintro; trivial
        · iexact Hr
      isplitl [Hg] <;> iassumption
    iexact Hv'
  · have hp : ¬ b.val % 2 = 0 := by omega
    have hp1 : (b.val + 1) % 2 = 0 := by omega
    have h8 : k1_cond8 (word n.val) b = 1#1 := by rw [cond8]; omega
    have h9 : ¬ k1_cond9 (word n.val) b = 1#1 := by rw [cond9]; omega
    have h10 : ¬ k1_cond10 (word n.val) b = 1#1 := by rw [cond10]; omega
    have h11 : k1_cond11 (word n.val) b = 1#1 := by rw [cond11]; omega
    simp only [dif_pos h8, dif_neg h9, dif_neg h10, dif_pos h11, Prog.bind_assoc, Prog.bind_ret, Prog.pure_eq_ret]
    simp only [BatchInv, Slots, Cur, Idle, if_pos hb, if_neg hp, if_pos hp1, if_pos hx]
    iintro ⟨⟨%W', %hW', HO⟩, #Hmw, Hm, Hd, Hc, Hi, Hv⟩
    iapply (wp_start dv i cc1_scratch9.sem 0 (16 * (b.val + 1)) inb_S2x16x128_S1x16x128_0_0_0 _ _ (off9_eq n b) qg0 ql0 g ml hml _) $$ [Hi Hv]
    · isplitl [Hi] <;> iassumption
    iintro Hn
    iapply (wp_arrive dv i cc1_scratch10.sem 1 (16 * b.val) 1 inb_S2x16x128_S1x16x128_1_0_0 qg1 ql1 g ml O W') $$ [Hc HO]
    · isplitl [Hc]; iexact Hc
      isplitl [HO]; iexact HO
      iexact Hmw
    iintro ⟨Hl, Hv', HO⟩
    unfold Lent
    icases Hl with ⟨⟨%fr, %hfr, Hr⟩, Hg, Hl⟩
    iapply (wp_pairs dv i hc n b m ml md g fr hd (by rw [hpar]; exact hfr)) $$ [Hm Hd Hr]
    · isplitl [Hm]; iexact Hm
      isplitl [Hd]; iexact Hd
      rw [hpar]; iexact Hr
    rw [hpar]
    iintro ⟨Hm, Hd, Hr⟩
    iapply (wp_noRest dv i)
    simp only [wp_ret]
    imodintro
    isplitl [HO]
    · iexists _
      isplitr
      swap
      · iexact HO
      ipureintro; intro p hp'
      rcases Finset.mem_insert.mp hp' with hp' | hp'
      · exact .inr (hp' ▸ rfl)
      · exact hW' p hp'
    isplitr; iexact Hmw
    isplitl [Hm]; iexact Hm
    isplitl [Hd]; iexact Hd
    isplitl [Hn]; iexact Hn
    isplitl [Hr Hg Hl]
    · isplitl [Hr]
      · iexists fr
        isplitr
        · ipureintro; trivial
        · iexact Hr
      isplitl [Hg] <;> iassumption
    iexact Hv'
  · have hp : ¬ b.val % 2 = 0 := by omega
    have hp1 : (b.val + 1) % 2 = 0 := by omega
    have h8 : ¬ k1_cond8 (word n.val) b = 1#1 := by rw [cond8]; omega
    have h9 : ¬ k1_cond9 (word n.val) b = 1#1 := by rw [cond9]; omega
    have h10 : ¬ k1_cond10 (word n.val) b = 1#1 := by rw [cond10]; omega
    have h11 : k1_cond11 (word n.val) b = 1#1 := by rw [cond11]; omega
    simp only [dif_neg h8, dif_neg h9, dif_neg h10, dif_pos h11, Prog.bind_assoc, Prog.bind_ret, Prog.pure_eq_ret]
    simp only [BatchInv, Slots, Cur, Idle, if_pos hb, if_neg hp, if_pos hp1, if_neg hx]
    iintro ⟨⟨%W', %hW', HO⟩, #Hmw, Hm, Hd, Hc, Hi, Hv⟩
    iapply (wp_arrive dv i cc1_scratch10.sem 1 (16 * b.val) 1 inb_S2x16x128_S1x16x128_1_0_0 qg1 ql1 g ml O W') $$ [Hc HO]
    · isplitl [Hc]; iexact Hc
      isplitl [HO]; iexact HO
      iexact Hmw
    iintro ⟨Hl, Hv', HO⟩
    unfold Lent
    icases Hl with ⟨⟨%fr, %hfr, Hr⟩, Hg, Hl⟩
    iapply (wp_pairs dv i hc n b m ml md g fr hd (by rw [hpar]; exact hfr)) $$ [Hm Hd Hr]
    · isplitl [Hm]; iexact Hm
      isplitl [Hd]; iexact Hd
      rw [hpar]; iexact Hr
    rw [hpar]
    iintro ⟨Hm, Hd, Hr⟩
    iapply (wp_noRest dv i)
    simp only [wp_ret]
    imodintro
    isplitl [HO]
    · iexists _
      isplitr
      swap
      · iexact HO
      ipureintro; intro p hp'
      rcases Finset.mem_insert.mp hp' with hp' | hp'
      · exact .inr (hp' ▸ rfl)
      · exact hW' p hp'
    isplitr; iexact Hmw
    isplitl [Hm]; iexact Hm
    isplitl [Hd]; iexact Hd
    isplitl [Hi Hv]
    · isplitl [Hi] <;> iassumption
    isplitl [Hr Hg Hl]
    · isplitl [Hr]
      · iexists fr
        isplitr
        · ipureintro; trivial
        · iexact Hr
      isplitl [Hg] <;> iassumption
    iexact Hv'

end Run

end

end Cert.Proof.Seg
-- ==== Proof.Scan.lean ====
module

public import proofs.«01_k».proof.Proof.PairRun

/-! # The scan of a chunk: its matches appended to the lists -/

@[expose] public section

namespace Cert.Proof.Seg

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

noncomputable section

variable {F : FTy → Type} [FloatOps F] [Named F]

/-- A list's entry after lanes are appended to it. -/
theorem storeIdx_at1 (f : Vec F S784 .i32) (ix : IVec S16 32) (v : Vec F S16 .i32) (mk : IVec S16 1)
    (h : ∀ a x, ((![ix] : Fin 1 → IVec S16 32) a x).toNat < S784.size a) (p : ℕ) (hp : p < 784) :
    ((∀ l : Fin 16, mk (lane l) = 1 → (ix (lane l)).toNat ≠ p) →
      at1 (storeIdx (F := F) (e := .i32) (s := S784) (d := ![16]) f ![ix] v mk false h) p = at1 f p)
    ∧ (∀ l : Fin 16, mk (lane l) = 1 → (ix (lane l)).toNat = p →
      (∀ l' : Fin 16, mk (lane l') = 1 → (ix (lane l')).toNat = p → l' = l) →
      at1 (storeIdx (F := F) (e := .i32) (s := S784) (d := ![16]) f ![ix] v mk false h) p = v (lane l)) := by
  have hj : ((Shape.ofLane (d := ![784]) ⟨p % 784, Nat.mod_lt _ (by decide)⟩ : S784.Idx) 0).val = p := Nat.mod_eq_of_lt hp
  constructor
  · intro hm
    exact storeIdx_miss (n := 784) (e := .i32) f ix v mk h _ fun l hl => by rw [hj]; exact hm l hl
  · intro l hl hx hu
    exact storeIdx_hit (n := 784) (e := .i32) f ix v mk h _ l hl (by rw [hj]; exact hx) fun l' h1 h2 => hu l' h1 (by rw [hj] at h2; exact h2)

section Lists

variable (v2 : BitVec 32) (cs cd : ℕ → BitVec 32)

/-- How many of the first `T` edges of the chunk are the tile's. -/
abbrev cnt (T : ℕ) : ℕ := Nat.count (fun e => hitW v2 (cd e)) T

/-- The lists hold the first `T` edges' matches, and words in range everywhere. -/
def ListOK (T : ℕ) (ml md : S784.Idx → BitVec 32) : Prop :=
  (∀ e < T, hitW v2 (cd e) → at1 ml (cnt v2 cd e) = cs e ∧ at1 md (cnt v2 cd e) = cd e - v2)
    ∧ (∀ p, (at1 ml p).toNat < 10000) ∧ ∀ p, (at1 md p).toNat < 320

theorem count_lanes (T : ℕ) (mk : IVec S16 1) (hmk : ∀ l : Fin 16, mk (lane l) = 1 ↔ hitW v2 (cd (T + l.val))) (l : ℕ) (hl : l ≤ 16) :
    cnt v2 cd T + Nat.count (on mk) l = cnt v2 cd (T + l) := by
  induction l with
  | zero => simp [cnt]
  | succ l ih =>
    have ih := ih (by omega)
    have e : on mk l ↔ hitW v2 (cd (T + l)) := by
      rw [← hmk ⟨l, by omega⟩]
      exact ⟨fun ⟨_, h⟩ => h, fun h => ⟨by omega, h⟩⟩
    rw [Nat.count_succ (p := on mk), ← Nat.add_assoc, ih, ← Nat.add_assoc T]
    show _ = Nat.count (fun e => hitW v2 (cd e)) (T + l + 1)
    rw [Nat.count_succ (p := fun e => hitW v2 (cd e))]
    by_cases h : hitW v2 (cd (T + l))
    · rw [if_pos (e.mpr h), if_pos h]
    · rw [if_neg (fun h' => h (e.mp h')), if_neg h]

variable (T : ℕ) (hT : T + 16 ≤ 768) (mk : IVec S16 1) (hmk : ∀ l : Fin 16, mk (lane l) = 1 ↔ hitW v2 (cd (T + l.val)))

include hT hmk

theorem cntAfter_word : cntAfter (word (cnt v2 cd T)) mk = word (cnt v2 cd (T + 16)) := by
  rw [cntAfter_eq, ← count_lanes v2 cd T mk hmk 16 (le_refl _)]
  exact (BitVec.ofNat_add _ _).symm

theorem places_val (l : Fin 16) (h : mk (lane l) = 1) : (places (word (cnt v2 cd T)) mk (lane l)).toNat = cnt v2 cd (T + l.val) := by
  have h1 : cnt v2 cd (T + l.val) ≤ T + l.val := Nat.count_le _
  have := l.isLt
  rw [places_on _ _ _ h, ← BitVec.ofNat_add, count_lanes v2 cd T mk hmk l.val (by omega), BitVec.toNat_ofNat]
  exact Nat.mod_eq_of_lt (by omega)

theorem places_lt (l : Fin 16) : (places (word (cnt v2 cd T)) mk (lane l)).toNat < 784 := by
  by_cases h : mk (lane l) = 1
  · have h1 : cnt v2 cd (T + l.val) ≤ T + l.val := Nat.count_le _
    have := l.isLt
    rw [places_val v2 cd T hT mk hmk l h]; omega
  · rw [places_off _ _ _ h]; decide

theorem places_inj (l l' : Fin 16) (h : mk (lane l) = 1) (h' : mk (lane l') = 1)
    (e : cnt v2 cd (T + l'.val) = cnt v2 cd (T + l.val)) : l' = l := by
  have := Nat.count_injective (p := fun e => hitW v2 (cd e)) ((hmk l').mp h') ((hmk l).mp h) e
  exact Fin.ext (by omega)

theorem app_at (f : Vec F S784 .i32) (x : Vec F S16 .i32)
    (h : ∀ a y, ((![places (word (cnt v2 cd T)) mk] : Fin 1 → IVec S16 32) a y).toNat < S784.size a)
    (g : S784.Idx → BitVec 32) (hg : g = storeIdx (F := F) (e := .i32) (s := S784) (d := ![16]) f ![places (word (cnt v2 cd T)) mk] x mk false h) :
    (∀ e < T, hitW v2 (cd e) → at1 g (cnt v2 cd e) = at1 f (cnt v2 cd e))
    ∧ (∀ l : Fin 16, hitW v2 (cd (T + l.val)) → at1 g (cnt v2 cd (T + l.val)) = x (lane l))
    ∧ ∀ p, at1 g p = at1 f p ∨ ∃ l : Fin 16, mk (lane l) = 1 ∧ at1 g p = x (lane l) := by
  subst hg
  have hplace := places_val v2 cd T hT mk hmk
  refine ⟨fun e he hit => ?_, fun l hit => ?_, fun p => ?_⟩
  · have h1 : cnt v2 cd e ≤ e := Nat.count_le _
    refine (storeIdx_at1 f _ x mk h _ (by omega)).1 fun l hl => ?_
    rw [hplace l hl]
    have : cnt v2 cd e < cnt v2 cd (T + l.val) := Nat.count_strict_mono (p := fun e => hitW v2 (cd e)) hit (by omega)
    omega
  · have h1 : cnt v2 cd (T + l.val) ≤ T + l.val := Nat.count_le _
    have := l.isLt
    have hl := (hmk l).mpr hit
    exact (storeIdx_at1 f _ x mk h _ (by omega)).2 l hl (hplace l hl) fun l' hl' e =>
      places_inj v2 cd T hT mk hmk l l' hl hl' (by rw [← hplace l' hl']; exact e)
  · have ep : ∀ (f : S784.Idx → BitVec 32), at1 f p = at1 f (p % 784) := fun f => by unfold at1; simp only [Nat.mod_mod]
    rw [ep, ep f]
    have hp : p % 784 < 784 := Nat.mod_lt _ (by decide)
    by_cases hx : ∃ l : Fin 16, mk (lane l) = 1 ∧ (places (word (cnt v2 cd T)) mk (lane l)).toNat = p % 784
    · obtain ⟨l, hl, e⟩ := hx
      refine Or.inr ⟨l, hl, (storeIdx_at1 f _ x mk h _ hp).2 l hl e fun l' hl' e' => ?_⟩
      exact places_inj v2 cd T hT mk hmk l l' hl hl' (by rw [← hplace l' hl', ← hplace l hl, e, e'])
    · exact Or.inl ((storeIdx_at1 f _ x mk h _ hp).1 fun l hl e => hx ⟨l, hl, e⟩)

theorem list_step (hs : ∀ e, (cs e).toNat < 10000) (ml md ml' md' : S784.Idx → BitVec 32) (hok : ListOK v2 cs cd T ml md)
    (x y : Vec F S16 .i32) (hx : ∀ l : Fin 16, x (lane l) = cs (T + l.val)) (hy : ∀ l : Fin 16, mk (lane l) = 1 → y (lane l) = cd (T + l.val) - v2)
    (h h' : ∀ a y, ((![places (word (cnt v2 cd T)) mk] : Fin 1 → IVec S16 32) a y).toNat < S784.size a)
    (e1 : ml' = storeIdx (F := F) (e := .i32) (s := S784) (d := ![16]) ml ![places (word (cnt v2 cd T)) mk] x mk false h)
    (e2 : md' = storeIdx (F := F) (e := .i32) (s := S784) (d := ![16]) md ![places (word (cnt v2 cd T)) mk] y mk false h') :
    ListOK v2 cs cd (T + 16) ml' md' := by
  obtain ⟨h1, h2, h3⟩ := hok
  obtain ⟨a1, a2, a3⟩ := app_at v2 cd T hT mk hmk ml x h ml' e1
  obtain ⟨b1, b2, b3⟩ := app_at v2 cd T hT mk hmk md y h' md' e2
  refine ⟨fun e he hit => ?_, fun p => ?_, fun p => ?_⟩
  · by_cases hlt : e < T
    · rw [a1 e hlt hit, b1 e hlt hit]; exact h1 e hlt hit
    · obtain ⟨l, rfl⟩ : ∃ l : Fin 16, e = T + l.val := ⟨⟨e - T, by omega⟩, by show e = T + (e - T); omega⟩
      rw [a2 l hit, b2 l hit, hx l, hy l ((hmk l).mpr hit)]
      exact ⟨rfl, rfl⟩
  · rcases a3 p with e | ⟨l, _, e⟩
    · rw [e]; exact h2 p
    · rw [e, hx l]; exact hs _
  · rcases b3 p with e | ⟨l, hl, e⟩
    · rw [e]; exact h3 p
    · rw [e, hy l hl]; exact (hmk l).mp hl

end Lists

/-- One of the two chunk buffers. -/
def bhalf (h : ℕ) : Finset S2x768.Idx := Finset.univ.filter fun x => (x 0).val = h

theorem chunk_par : ∀ c : Fin 417, (Scalar.indexCast (Scalar.andi (word c) 1#32) : Index).toNat = c.val % 2 := by decide +kernel
theorem chunk_col : ∀ t : Fin 12, ∀ k : Fin 4,
    (Scalar.indexCast (Scalar.muli (Scalar.addi (Scalar.muli 4#32 (word t)) (word k)) 16#32) : Index).toNat = 64 * t.val + 16 * k.val := by decide +kernel

theorem t3_trips : k1_t3_loop.trips = 417 := by decide +kernel
theorem t4_trips : k1_t4_loop.trips = 12 := by decide +kernel

theorem off8_eq (c : Fin k1_t3_loop.trips) (t : Fin k1_t4_loop.trips) (k : Fin 4) :
    k1_off8 c t (word k) = ![c.val % 2, 64 * t.val + 16 * k.val] := by
  have hc := lt_of_lt_of_eq c.isLt t3_trips
  have ht := lt_of_lt_of_eq t.isLt t4_trips
  rw [show k1_off8 c t (word k) = ![(Scalar.indexCast (Scalar.andi (Scf.iv 0#32 1#32 c) 1#32) : Index).toNat,
    (Scalar.indexCast (Scalar.muli (Scalar.addi (Scalar.muli 4#32 (Scf.iv 0#32 1#32 t)) (word k)) 16#32) : Index).toNat] from rfl,
    iv_word, iv_word, chunk_par ⟨c.val, hc⟩, chunk_col ⟨t.val, ht⟩ k]

section Run

variable (dv : Dev nD) (i : grid1.Coords) {α : Type}

/-- Sixteen lanes of a chunk buffer, loaded. -/
theorem wp_ldS (c : Fin k1_t3_loop.trips) (t : Fin k1_t4_loop.trips) (k : Fin 4)
    {kk : Vec F S1x16 .i32 → Prog (Eff F i) α} {Q : α → sProp (RR F)} (q : PosShare TreeShare) (f : S2x768.Idx → BitVec 32) (cx : ℕ → BitVec 32)
    (hf : ∀ x : S2x768.Idx, (x 0).val = c.val % 2 → f x = cx (x 1).val) :
    (sV.view.loc (thr dv i) ↦[bhalf (c.val % 2)]{q} f : sProp (RR F))
      ⊢ iprop((∀ w : Vec F S1x16 .i32, ⌜∀ l : Fin 16, lanes w (lane l) = cx (64 * t.val + 16 * k.val + l.val)⌝ -∗ (sV.view.loc (thr dv i) ↦[bhalf (c.val % 2)]{q} f) -∗ wpT dv i (kk w) Q)
        -∗ wpT dv i (ld i sV c t k >>= kk) Q) := by
  have ht := lt_of_lt_of_eq t.isLt t4_trips
  have hk := k.isLt
  have e8 := off8_eq c t k
  have hsub : (sV.access (Rect.unit (s := S2x768) (k1_off8 c t (word k)) S1x16.size (k1_off8_inb c t k))).set ⊆ bhalf (c.val % 2) := by
    rw [show (sV.access (Rect.unit (s := S2x768) (k1_off8 c t (word k)) S1x16.size (k1_off8_inb c t k))).set
      = (Rect.unit (s := S2x768) (k1_off8 c t (word k)) S1x16.size (k1_off8_inb c t k)).set from View.set_slice_whole _ _]
    intro x hx
    rw [bhalf, Finset.mem_filter]
    refine ⟨Finset.mem_univ _, ?_⟩
    have := Rect.mem_set_unit.mp hx 0
    have e : S1x16.size 0 = 1 := rfl
    have e0 : k1_off8 c t (word k) 0 = c.val % 2 := by rw [e8]; rfl
    omega
  iintro H Hk
  unfold ld
  simp only [Prog.lift, Prog.bind_op, Prog.bind_ret]
  iapply (wp_load_rect 𝒱₀ (thr dv i) none Set.univ (m := sV) (r := Rect.unit (s := S2x768) (k1_off8 c t (word k)) S1x16.size (k1_off8_inb c t k)) (S := bhalf (c.val % 2)) (q := q) hsub) $$ H
  iintro H
  ispecialize Hk $$ %((sV.access (Rect.unit (s := S2x768) (k1_off8 c t (word k)) S1x16.size (k1_off8_inb c t k))).read (Elt F) f)
  iapply Hk $$ [] H
  ipureintro
  intro l
  have hl := l.isLt
  unfold lanes
  rw [shapeCast_apply _ _ (lane l) (show S1x16.Idx from fun a => match a with | 0 => ⟨0, by decide⟩ | 1 => ⟨l.val, l.isLt⟩)
    (by rw [Shape.rowMajor_val_two, Shape.rowMajor_val_one]; simp; rfl)]
  rw [show 64 * t.val + 16 * k.val + l.val = ((show S2x768.Idx from fun a => match a with | 0 => ⟨c.val % 2, Nat.mod_lt _ (by decide)⟩ | 1 => ⟨64 * t.val + 16 * k.val + l.val, by show _ < 768; omega⟩) 1).val from rfl, ← hf _ rfl]
  show f _ = f _
  congr 1
  funext a
  apply Fin.ext
  fin_cases a
  · show k1_off8 c t (word k) 0 + 1 * 0 = c.val % 2
    rw [e8]; rfl
  · show k1_off8 c t (word k) 1 + 1 * l.val = 64 * t.val + 16 * k.val + l.val
    rw [e8]; show 64 * t.val + 16 * k.val + 1 * l.val = _; omega

/-- Sixteen lanes of a chunk buffer, loaded. -/
theorem wp_ldT (c : Fin k1_t3_loop.trips) (t : Fin k1_t4_loop.trips) (k : Fin 4)
    {kk : Vec F S1x16 .i32 → Prog (Eff F i) α} {Q : α → sProp (RR F)} (q : PosShare TreeShare) (f : S2x768.Idx → BitVec 32) (cx : ℕ → BitVec 32)
    (hf : ∀ x : S2x768.Idx, (x 0).val = c.val % 2 → f x = cx (x 1).val) :
    (tV.view.loc (thr dv i) ↦[bhalf (c.val % 2)]{q} f : sProp (RR F))
      ⊢ iprop((∀ w : Vec F S1x16 .i32, ⌜∀ l : Fin 16, lanes w (lane l) = cx (64 * t.val + 16 * k.val + l.val)⌝ -∗ (tV.view.loc (thr dv i) ↦[bhalf (c.val % 2)]{q} f) -∗ wpT dv i (kk w) Q)
        -∗ wpT dv i (ld i tV c t k >>= kk) Q) := by
  have ht := lt_of_lt_of_eq t.isLt t4_trips
  have hk := k.isLt
  have e8 := off8_eq c t k
  have hsub : (tV.access (Rect.unit (s := S2x768) (k1_off8 c t (word k)) S1x16.size (k1_off8_inb c t k))).set ⊆ bhalf (c.val % 2) := by
    rw [show (tV.access (Rect.unit (s := S2x768) (k1_off8 c t (word k)) S1x16.size (k1_off8_inb c t k))).set
      = (Rect.unit (s := S2x768) (k1_off8 c t (word k)) S1x16.size (k1_off8_inb c t k)).set from View.set_slice_whole _ _]
    intro x hx
    rw [bhalf, Finset.mem_filter]
    refine ⟨Finset.mem_univ _, ?_⟩
    have := Rect.mem_set_unit.mp hx 0
    have e : S1x16.size 0 = 1 := rfl
    have e0 : k1_off8 c t (word k) 0 = c.val % 2 := by rw [e8]; rfl
    omega
  iintro H Hk
  unfold ld
  simp only [Prog.lift, Prog.bind_op, Prog.bind_ret]
  iapply (wp_load_rect 𝒱₀ (thr dv i) none Set.univ (m := tV) (r := Rect.unit (s := S2x768) (k1_off8 c t (word k)) S1x16.size (k1_off8_inb c t k)) (S := bhalf (c.val % 2)) (q := q) hsub) $$ H
  iintro H
  ispecialize Hk $$ %((tV.access (Rect.unit (s := S2x768) (k1_off8 c t (word k)) S1x16.size (k1_off8_inb c t k))).read (Elt F) f)
  iapply Hk $$ [] H
  ipureintro
  intro l
  have hl := l.isLt
  unfold lanes
  rw [shapeCast_apply _ _ (lane l) (show S1x16.Idx from fun a => match a with | 0 => ⟨0, by decide⟩ | 1 => ⟨l.val, l.isLt⟩)
    (by rw [Shape.rowMajor_val_two, Shape.rowMajor_val_one]; simp; rfl)]
  rw [show 64 * t.val + 16 * k.val + l.val = ((show S2x768.Idx from fun a => match a with | 0 => ⟨c.val % 2, Nat.mod_lt _ (by decide)⟩ | 1 => ⟨64 * t.val + 16 * k.val + l.val, by show _ < 768; omega⟩) 1).val from rfl, ← hf _ rfl]
  show f _ = f _
  congr 1
  funext a
  apply Fin.ext
  fin_cases a
  · show k1_off8 c t (word k) 0 + 1 * 0 = c.val % 2
    rw [e8]; rfl
  · show k1_off8 c t (word k) 1 + 1 * l.val = 64 * t.val + 16 * k.val + l.val
    rw [e8]; show 64 * t.val + 16 * k.val + 1 * l.val = _; omega

/-- A vector of the scan appends its matches to the lists. -/
theorem wp_app {A : IVec S16 32 → Prop} {dA : ∀ v, Decidable (A v)} {v2 : BitVec 32} (cs cd : ℕ → BitVec 32)
    {h h' : ∀ v, A v → ∀ a x, ((![v] : Fin 1 → IVec S16 32) a x).toNat < S784.size a}
    {k : Unit → Prog (Eff F i) α} {Q : α → sProp (RR F)} (T : ℕ) (hT : T + 16 ≤ 768) (hs : ∀ e, (cs e).toNat < 10000)
    (ds ss : Vec F S16 .i32) (hd : ∀ l : Fin 16, ds (lane l) = cd (T + l.val)) (hx : ∀ l : Fin 16, ss (lane l) = cs (T + l.val))
    (pA : ∀ v, (∀ a' x, ((![v] : Fin 1 → IVec S16 32) a' x).toNat < S784.size a') → A v)
    (r : BitVec 32) (hr : r = word (cnt v2 cd T))
    (ml md : S784.Idx → BitVec 32) (hok : ListOK v2 cs cd T ml md) :
    iprop((lV.view.loc (thr dv i) ↦{fullShare} ml) ∗ (dV.view.loc (thr dv i) ↦{fullShare} md))
      ⊢ iprop((∀ ml' : S784.Idx → BitVec 32, ∀ md' : S784.Idx → BitVec 32, ⌜ListOK v2 cs cd (T + 16) ml' md'⌝ -∗ (lV.view.loc (thr dv i) ↦{fullShare} ml') -∗ (dV.view.loc (thr dv i) ↦{fullShare} md') -∗ wpT dv i (k ⟨⟩) Q)
        -∗ wpT dv i (app i A dA (places r (k1_pay17 (F := F) v2 ds)) (k1_pay17 (F := F) v2 ds) ss (k1_pay13 (F := F) v2 ds) h h' >>= k) Q) := by
  subst hr
  have hmk : ∀ l : Fin 16, k1_pay17 (F := F) v2 ds (lane l) = 1 ↔ hitW v2 (cd (T + l.val)) := fun l => by rw [pay17_iff (F := F), hd]
  have hr : ∀ a x, ((![places (word (cnt v2 cd T)) (k1_pay17 (F := F) v2 ds)] : Fin 1 → IVec S16 32) a x).toNat < S784.size a := by
    intro a x
    obtain ⟨l, rfl⟩ := exists_lane x
    have : a = 0 := Fin.eq_zero a
    subst this
    exact places_lt v2 cd T hT _ hmk l
  iintro ⟨Hl, Hd⟩ Hk
  unfold app
  simp only [Prog.lift, Prog.bind_op, Prog.bind_ret, Prog.bind_assoc]
  iapply (wp_assume 𝒱₀ (thr dv i) none Set.univ (pA _ hr))
  iapply (wp_storeIdx dv i lV (Memref.set_access_whole _) (g := ml)
    (f' := storeIdx (F := F) (e := .i32) (s := S784) (d := ![16]) ml ![places (word (cnt v2 cd T)) (k1_pay17 (F := F) v2 ds)] ss (k1_pay17 (F := F) v2 ds) false hr)
    (Memref.read_access_whole (Elt F) cc1_scratch3 ml) (Memref.write_access_whole_univ (Elt F) cc1_scratch3 ml _)) $$ Hl
  iintro Hl
  iapply (wp_storeIdx dv i dV (Memref.set_access_whole _) (g := md)
    (f' := storeIdx (F := F) (e := .i32) (s := S784) (d := ![16]) md ![places (word (cnt v2 cd T)) (k1_pay17 (F := F) v2 ds)] (k1_pay13 (F := F) v2 ds) (k1_pay17 (F := F) v2 ds) false hr)
    (Memref.read_access_whole (Elt F) cc1_scratch4 md) (Memref.write_access_whole_univ (Elt F) cc1_scratch4 md _)) $$ Hd
  iintro Hd
  iapply Hk $$ [] Hl Hd
  ipureintro
  exact list_step v2 cs cd T hT _ hmk hs ml md _ _ hok ss _ hx (fun l _ => by rw [pay13_lane (F := F), hd]) hr hr rfl rfl

/-- A trip of the scan takes the lists 64 edges further. -/
theorem wp_scanTrip {v2 : BitVec 32} (cs cd : ℕ → BitVec 32) (hs : ∀ e, (cs e).toNat < 10000) (c : Fin k1_t3_loop.trips) (t : Fin k1_t4_loop.trips)
    (r : BitVec 32) (hr : r = word (cnt v2 cd (64 * t.val))) (fs ft : S2x768.Idx → BitVec 32) (qs qt : PosShare TreeShare)
    (hfs : ∀ x : S2x768.Idx, (x 0).val = c.val % 2 → fs x = cs (x 1).val) (hft : ∀ x : S2x768.Idx, (x 0).val = c.val % 2 → ft x = cd (x 1).val)
    (ml md : S784.Idx → BitVec 32) (hok : ListOK v2 cs cd (64 * t.val) ml md) :
    iprop((sV.view.loc (thr dv i) ↦[bhalf (c.val % 2)]{qs} fs) ∗ (tV.view.loc (thr dv i) ↦[bhalf (c.val % 2)]{qt} ft)
        ∗ (lV.view.loc (thr dv i) ↦{fullShare} ml) ∗ (dV.view.loc (thr dv i) ↦{fullShare} md))
      ⊢ wpT dv i (scanTrip (F := F) i v2 c t r) (fun r' => iprop(⌜r' = word (cnt v2 cd (64 * (t.val + 1)))⌝
        ∗ (sV.view.loc (thr dv i) ↦[bhalf (c.val % 2)]{qs} fs) ∗ (tV.view.loc (thr dv i) ↦[bhalf (c.val % 2)]{qt} ft)
        ∗ ∃ ml' md' : S784.Idx → BitVec 32, ⌜ListOK v2 cs cd (64 * (t.val + 1)) ml' md'⌝
          ∗ (lV.view.loc (thr dv i) ↦{fullShare} ml') ∗ (dV.view.loc (thr dv i) ↦{fullShare} md'))) := by
  have ht := lt_of_lt_of_eq t.isLt t4_trips
  iintro ⟨Hs, Ht, Hl, Hd⟩
  unfold scanTrip
  iapply (wp_ldT dv i c t 0 qt ft cd hft) $$ Ht
  iintro %t0 %ht0 Ht
  iapply (wp_ldT dv i c t 1 qt ft cd hft) $$ Ht
  iintro %t1 %ht1 Ht
  iapply (wp_ldT dv i c t 2 qt ft cd hft) $$ Ht
  iintro %t2 %ht2 Ht
  iapply (wp_ldT dv i c t 3 qt ft cd hft) $$ Ht
  iintro %t3 %ht3 Ht
  iapply (wp_ldS dv i c t 0 qs fs cs hfs) $$ Hs
  iintro %s0 %hs0 Hs
  iapply (wp_ldS dv i c t 1 qs fs cs hfs) $$ Hs
  iintro %s1 %hs1 Hs
  iapply (wp_ldS dv i c t 2 qs fs cs hfs) $$ Hs
  iintro %s2 %hs2 Hs
  iapply (wp_ldS dv i c t 3 qs fs cs hfs) $$ Hs
  iintro %s3 %hs3 Hs
  dsimp only
  have hm0 : ∀ l : Fin 16, k1_pay17 (F := F) v2 (lanes t0) (lane l) = 1 ↔ hitW v2 (cd (64 * t.val + l.val)) := fun l => by
    rw [pay17_iff (F := F), ht0]; simp [Nat.add_assoc]
  iapply (wp_app dv i cs cd (64 * t.val) (by omega) hs (lanes t0) (lanes s0) (fun l => by rw [ht0]; simp [Nat.add_assoc]) (fun l => by rw [hs0]; simp [Nat.add_assoc])
    (fun v h => ⟨h, h⟩) _ hr ml md hok) $$ [Hl Hd]
  · isplitl [Hl] <;> iassumption
  iintro %ml1 %md1 %hok1 Hl Hd
  have hr1 := cntAfter_word v2 cd (64 * t.val) (by omega) _ hm0
  rw [← hr] at hr1
  have hm1 : ∀ l : Fin 16, k1_pay17 (F := F) v2 (lanes t1) (lane l) = 1 ↔ hitW v2 (cd (64 * t.val + 16 + l.val)) := fun l => by
    rw [pay17_iff (F := F), ht1]; simp [Nat.add_assoc]
  iapply (wp_app dv i cs cd (64 * t.val + 16) (by omega) hs (lanes t1) (lanes s1) (fun l => by rw [ht1]; simp [Nat.add_assoc]) (fun l => by rw [hs1]; simp [Nat.add_assoc])
    (fun v h => ⟨h, h⟩) _ hr1 ml1 md1 hok1) $$ [Hl Hd]
  · isplitl [Hl] <;> iassumption
  iintro %ml2 %md2 %hok2 Hl Hd
  have hr2 := cntAfter_word v2 cd (64 * t.val + 16) (by omega) _ hm1
  rw [← hr1] at hr2
  have hm2 : ∀ l : Fin 16, k1_pay17 (F := F) v2 (lanes t2) (lane l) = 1 ↔ hitW v2 (cd (64 * t.val + 16 + 16 + l.val)) := fun l => by
    rw [pay17_iff (F := F), ht2]; simp [Nat.add_assoc]
  iapply (wp_app dv i cs cd (64 * t.val + 16 + 16) (by omega) hs (lanes t2) (lanes s2) (fun l => by rw [ht2]; simp [Nat.add_assoc]) (fun l => by rw [hs2]; simp [Nat.add_assoc])
    (fun v h => ⟨h, h⟩) _ hr2 ml2 md2 hok2) $$ [Hl Hd]
  · isplitl [Hl] <;> iassumption
  iintro %ml3 %md3 %hok3 Hl Hd
  have hr3 := cntAfter_word v2 cd (64 * t.val + 16 + 16) (by omega) _ hm2
  rw [← hr2] at hr3
  have hm3 : ∀ l : Fin 16, k1_pay17 (F := F) v2 (lanes t3) (lane l) = 1 ↔ hitW v2 (cd (64 * t.val + 16 + 16 + 16 + l.val)) := fun l => by
    rw [pay17_iff (F := F), ht3]; simp [Nat.add_assoc]
  iapply (wp_app dv i cs cd (64 * t.val + 16 + 16 + 16) (by omega) hs (lanes t3) (lanes s3) (fun l => by rw [ht3]; simp [Nat.add_assoc]) (fun l => by rw [hs3]; simp [Nat.add_assoc])
    (fun v h => ⟨h, h⟩) _ hr3 ml3 md3 hok3) $$ [Hl Hd]
  · isplitl [Hl] <;> iassumption
  iintro %ml4 %md4 %hok4 Hl Hd
  have hr4 := cntAfter_word v2 cd (64 * t.val + 16 + 16 + 16) (by omega) _ hm3
  rw [← hr3] at hr4
  simp only [Prog.pure_eq_ret, wp_ret]
  imodintro
  rw [show 64 * (t.val + 1) = 64 * t.val + 16 + 16 + 16 + 16 by omega]
  isplitr
  · ipureintro; exact hr4
  isplitl [Hs]; iassumption
  isplitl [Ht]; iassumption
  iexists ml4; iexists md4
  isplitr
  · ipureintro; exact hok4
  isplitl [Hl] <;> iassumption

end Run

end

end Cert.Proof.Seg
-- ==== Proof.Copies.lean ====
module

public import proofs.«01_k».proof.Proof.Batches
public import proofs.«01_k».proof.Proof.Scan

/-! # Fetching a chunk of the edges: the start of its two copies and their waits -/

@[expose] public section

namespace Cert.Proof.Seg

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

noncomputable section

variable {F : FTy → Type} [FloatOps F] [Named F]

/-- A half of the sources' buffer, as a row. -/
abbrev bufS (o : Fin 2 → ℕ) (ho : ∀ a, o a + S1x768.size a ≤ S2x768.size a) : Memref sig .scVector .vmem S768 .i32 :=
  (sV.slice (Rect.unit (s := S2x768) o S1x768.size ho) (fun _ => rfl)).squeeze S768 squeezes_S1x768_S768
/-- A half of the destinations' buffer, as a row. -/
abbrev bufT (o : Fin 2 → ℕ) (ho : ∀ a, o a + S1x768.size a ≤ S2x768.size a) : Memref sig .scVector .vmem S768 .i32 :=
  (tV.slice (Rect.unit (s := S2x768) o S1x768.size ho) (fun _ => rfl)).squeeze S768 squeezes_S1x768_S768
/-- A chunk of the sources. -/
abbrev winS (o : Fin 1 → ℕ) (ho : ∀ a, o a + S768.size a ≤ S320256.size a) : Memref sig .scVector .hbm S768 .i32 :=
  srcA.slice (Rect.unit (s := S320256) o S768.size ho) (fun _ => rfl)
/-- A chunk of the destinations. -/
abbrev winT (o : Fin 1 → ℕ) (ho : ∀ a, o a + S768.size a ≤ S320256.size a) : Memref sig .scVector .hbm S768 .i32 :=
  dstA.slice (Rect.unit (s := S320256) o S768.size ho) (fun _ => rfl)

/-- Edge `e`'s entry. -/
def flat (a : S320256.Idx → BitVec 32) (e : ℕ) : BitVec 32 := a fun a => match a with | 0 => ⟨e % 320256, Nat.mod_lt _ (by decide)⟩

/-- The edges of chunk `c`. -/
def win (c : ℕ) : Finset S320256.Idx := Finset.univ.filter fun x => 768 * c ≤ (x 0).val ∧ (x 0).val < 768 * c + 768

theorem bhalf_rect (h : ℕ) (ho) : (Rect.unit (s := S2x768) ![h, 0] S1x768.size ho).set = bhalf h := by
  ext x
  rw [bhalf, Finset.mem_filter, Rect.mem_set_unit]
  constructor
  · intro hx
    have := hx 0
    have e : S1x768.size 0 = 1 := rfl
    have e0 : (![h, 0] : Fin 2 → ℕ) 0 = h := rfl
    exact ⟨Finset.mem_univ _, by omega⟩
  · rintro ⟨_, hx⟩ a
    fin_cases a
    · show h ≤ (x 0).val ∧ (x 0).val < h + 1; omega
    · exact ⟨Nat.zero_le _, lt_of_lt_of_eq (x 1).isLt (show S2x768.size 1 = 0 + 768 from rfl)⟩

theorem bufS_set (h : ℕ) (ho) : (bufS ![h, 0] ho).view.set = bhalf h :=
  (View.set_reshape _ _).trans ((View.set_slice_whole _ _).trans (bhalf_rect h ho))
theorem bufT_set (h : ℕ) (ho) : (bufT ![h, 0] ho).view.set = bhalf h :=
  (View.set_reshape _ _).trans ((View.set_slice_whole _ _).trans (bhalf_rect h ho))

theorem win_rect (c : ℕ) (ho) : (Rect.unit (s := S320256) ![768 * c] S768.size ho).set = win c := by
  ext x
  rw [win, Finset.mem_filter, Rect.mem_set_unit]
  constructor
  · intro hx
    exact ⟨Finset.mem_univ _, hx 0⟩
  · rintro ⟨_, hx⟩ a
    fin_cases a
    exact hx

theorem winS_set (c : ℕ) (ho) : (winS ![768 * c] ho).view.set = win c :=
  (View.set_slice_whole _ _).trans (win_rect c ho)
theorem winT_set (c : ℕ) (ho) : (winT ![768 * c] ho).view.set = win c :=
  (View.set_slice_whole _ _).trans (win_rect c ho)

/-- Half `h` of a buffer holds chunk `c`. -/
def Holds (a : S320256.Idx → BitVec 32) (h c : ℕ) (f : S2x768.Idx → BitVec 32) : Prop :=
  ∀ x : S2x768.Idx, (x 0).val = h → f x = flat a (768 * c + (x 1).val)

/-- Column `j` of a chunk. -/
abbrev col (j : ℕ) (hj : j < 768) : S768.Idx := fun a => match a with | 0 => ⟨j, hj⟩

theorem half_emb (h : ℕ) (ho) (x : S2x768.Idx) (hx : (x 0).val = h) :
    (Rect.unit (s := S2x768) ![h, 0] S1x768.size ho).emb (Shape.reshapeEquiv (Shape.Squeezes.numel_eq squeezes_S1x768_S768) (col (x 1).val (x 1).isLt)) = x := by
  have e : Shape.reshapeEquiv (Shape.Squeezes.numel_eq squeezes_S1x768_S768) (col (x 1).val (x 1).isLt)
      = (fun a => match a with | 0 => ⟨0, by decide⟩ | 1 => ⟨(x 1).val, (x 1).isLt⟩ : S1x768.Idx) :=
    Shape.reshapeEquiv_eq_of_rowMajor _ (by
      rw [Shape.rowMajor_val_two, Shape.rowMajor_val_one]
      show 0 * 768 + (x 1).val = (x 1).val
      omega)
  rw [e]
  funext a
  apply Fin.ext
  fin_cases a
  · show h + 1 * 0 = (x 0).val; omega
  · show 0 + 1 * (x 1).val = (x 1).val; omega

theorem flat_win (a : S320256.Idx → BitVec 32) (c : ℕ) (ho : ∀ a, (![768 * c] : Fin 1 → ℕ) a + S768.size a ≤ S320256.size a) (j : ℕ) (hj : j < 768) :
    a ((Rect.unit (s := S320256) ![768 * c] S768.size ho).emb (col j hj)) = flat a (768 * c + j) := by
  have h0 : 768 * c + 768 ≤ 320256 := ho 0
  unfold flat
  congr 1
  funext a
  apply Fin.ext
  fin_cases a
  show 768 * c + 1 * j = (768 * c + j) % 320256
  rw [Nat.mod_eq_of_lt (by omega)]; omega

theorem holds_bufS (a : S320256.Idx → BitVec 32) (h c : ℕ) (ho) (hw) (f : S2x768.Idx → BitVec 32) :
    Holds a h c ((bufS ![h, 0] ho).view.write (Elt F) f (ReadAs.same.apply ((winS ![768 * c] hw).view.read (Elt F) a)) Finset.univ) := by
  intro x hx
  have hy : (bufS ![h, 0] ho).view.emb (col (x 1).val (x 1).isLt) = x := half_emb h ho x hx
  rw [← hy, View.write_emb_of_mem _ _ (Finset.mem_univ _), hy]
  exact flat_win a c hw _ (x 1).isLt
theorem holds_bufT (a : S320256.Idx → BitVec 32) (h c : ℕ) (ho) (hw) (f : S2x768.Idx → BitVec 32) :
    Holds a h c ((bufT ![h, 0] ho).view.write (Elt F) f (ReadAs.same.apply ((winT ![768 * c] hw).view.read (Elt F) a)) Finset.univ) := by
  intro x hx
  have hy : (bufT ![h, 0] ho).view.emb (col (x 1).val (x 1).isLt) = x := half_emb h ho x hx
  rw [← hy, View.write_emb_of_mem _ _ (Finset.mem_univ _), hy]
  exact flat_win a c hw _ (x 1).isLt

section Run

variable (dv : Dev nD) (i : grid1.Coords) {α : Type}

/-- The credit of one of a chunk's copies. -/
abbrev chunkN : ℕ := (bufS ![0, 0] inb_S2x768_S1x768_0_0).view.dmaCredit

/-- What the two copies of chunk `c` into half `h` deliver. -/
def Delivers (h c : ℕ) (q : PosShare TreeShare) (a b : S320256.Idx → BitVec 32) : Fin 2 → sProp (RR F)
  | 0 => iprop((∃ f : S2x768.Idx → BitVec 32, ⌜Holds a h c f⌝ ∗ (sV.view.loc (thr dv i) ↦[bhalf h]{fullShare} f)) ∗ (srcA.view.loc (thr dv i) ↦[win c]{q} a))
  | 1 => iprop((∃ f : S2x768.Idx → BitVec 32, ⌜Holds b h c f⌝ ∗ (tV.view.loc (thr dv i) ↦[bhalf h]{fullShare} f)) ∗ (dstA.view.loc (thr dv i) ↦[win c]{q} b))

instance (h c : ℕ) (q : PosShare TreeShare) (a b : S320256.Idx → BitVec 32) (t : Fin 2) : Storable (upEmb : UEmb _ (RR F)) (Delivers dv i h c q a b t) := by
  match t with
  | 0 => unfold Delivers; infer_instance
  | 1 => unfold Delivers; infer_instance

/-- The edges, lent to half `h` of the buffers, with what the half holds. -/
def Edges (h : ℕ) (q : PosShare TreeShare) (a b : S320256.Idx → BitVec 32) (X Y : (S2x768.Idx → BitVec 32) → Prop) : sProp (RR F) :=
  iprop((∃ f : S2x768.Idx → BitVec 32, ⌜X f⌝ ∗ (sV.view.loc (thr dv i) ↦[bhalf h]{fullShare} f))
    ∗ (∃ f : S2x768.Idx → BitVec 32, ⌜Y f⌝ ∗ (tV.view.loc (thr dv i) ↦[bhalf h]{fullShare} f))
    ∗ (srcA.view.loc (thr dv i) ↦{q} a) ∗ (dstA.view.loc (thr dv i) ↦{q} b))

/-- Chunk `c` on its way into half `h`. -/
def Fetch (sem : DmaSem sig) (h c : ℕ) (q : PosShare TreeShare) (a b : S320256.Idx → BitVec 32) : sProp (RR F) :=
  iprop(Transfers.Batch countersEmb (thr dv i) (.dma sem) (default : HIx 1) chunkN (Delivers (F := F) dv i h c q a b) 2 0
    ∗ (srcA.view.loc (thr dv i) ↦[Finset.univ \ win c]{q} a) ∗ (dstA.view.loc (thr dv i) ↦[Finset.univ \ win c]{q} b))

theorem wp_fetch (sem : DmaSem sig) (h c : ℕ) (ho) (o : Fin 1 → ℕ) (hw : ∀ a, o a + S768.size a ≤ S320256.size a) (hwo : o = ![768 * c])
    {k : PUnit → Prog (Eff F i) α} {Q : α → sProp (RR F)} {h1 h2 h3 h4 h5 h6}
    (q : PosShare TreeShare) (a b : S320256.Idx → BitVec 32) (X Y : (S2x768.Idx → BitVec 32) → Prop) :
    iprop(Edges dv i h q a b X Y ∗ semVal (thr dv i, SemLoc.dma sem) 0)
      ⊢ iprop((Fetch dv i sem h c q a b -∗ wpT dv i (k ⟨⟩) Q)
        -∗ wpT dv i (Prog.lift (.enqueueDma (winS o hw) (.here (bufS ![h, 0] ho)) (.dma sem) h1 h2 h3) >>= fun _ =>
          Prog.lift (.enqueueDma (winT o hw) (.here (bufT ![h, 0] ho)) (.dma sem) h4 h5 h6) >>= k) Q) := by
  subst hwo
  simp only [Prog.lift, Prog.bind_op, Prog.bind_ret]
  unfold Edges
  iintro ⟨⟨⟨%f, %_, Hs⟩, ⟨%f', %_, Ht⟩, Ha, Hb⟩, Hv⟩ Hk
  imod (Transfers.batch_alloc' countersEmb (thr dv i) (default : HIx 1) chunkN (Delivers (F := F) dv i h c q a b)) $$ Hv with HB
  ihave ⟨Ha, Har⟩ := (pointsTo_split_subset (Finset.subset_univ (win c))).1 $$ Ha
  ihave ⟨Hb, Hbr⟩ := (pointsTo_split_subset (Finset.subset_univ (win c))).1 $$ Hb
  iapply (Transfers.wp_dmaBatch countersEmb 𝒱₀ (thr dv i) none (src := winS ![768 * c] hw) (dst := bufS ![h, 0] ho) (q := q) (fs := a) (fd := f) (default : HIx 1) chunkN
    (show (bufS ![h, 0] ho).view.amount (.dma sem) = chunkN from rfl) (Sd := bhalf h) (subset_of_eq (bufS_set h ho)) (n := 2) (D := Delivers (F := F) dv i h c q a b) (j := 0) (u := 0) (by decide) (Nat.zero_le _) (by
      rw [winS_set]
      unfold Delivers
      iintro ⟨H, Ha⟩
      isplitl [H]
      · iexists _
        isplitr
        swap; iexact H
        ipureintro; exact holds_bufS a h c ho hw f
      · iexact Ha)) $$ [Ha Hs HB]
  · rw [winS_set]
    isplitl [Ha]; iexact Ha
    isplitl [Hs]; iexact Hs
    iexact HB
  iintro HB
  iapply (Transfers.wp_dmaBatch countersEmb 𝒱₀ (thr dv i) none (src := winT ![768 * c] hw) (dst := bufT ![h, 0] ho) (q := q) (fs := b) (fd := f') (default : HIx 1) chunkN
    (show (bufT ![h, 0] ho).view.amount (.dma sem) = chunkN from rfl) (Sd := bhalf h) (subset_of_eq (bufT_set h ho)) (n := 2) (D := Delivers (F := F) dv i h c q a b) (j := 1) (u := 0) (by decide) (Nat.zero_le _) (by
      rw [winT_set]
      unfold Delivers
      iintro ⟨H, Ha⟩
      isplitl [H]
      · iexists _
        isplitr
        swap; iexact H
        ipureintro; exact holds_bufT b h c ho hw f'
      · iexact Ha)) $$ [Hb Ht HB]
  · rw [winT_set]
    isplitl [Hb]; iexact Hb
    isplitl [Ht]; iexact Ht
    iexact HB
  iintro HB
  iapply Hk
  unfold Fetch
  isplitl [HB]; iexact HB
  isplitl [Har] <;> iassumption

theorem wp_fetched (sem : DmaSem sig) (h c : ℕ) (ho) (o : Fin 1 → ℕ) (hw : ∀ a, o a + S768.size a ≤ S320256.size a)
    {k : PUnit → Prog (Eff F i) α} {Q : α → sProp (RR F)} {h1 h2 h3 h4}
    (q : PosShare TreeShare) (a b : S320256.Idx → BitVec 32)
    (O : CellTallies nD τ sig (HIx 1)) (W : Waits sig (HIx 1)) :
    iprop(Fetch dv i sem h c q a b ∗ Owes dv i O W ∗ Transfers.MayWaits (thr dv i) (default : HIx 1) O)
      ⊢ iprop((iprop(Edges dv i h q a b (Holds a h c) (Holds b h c) ∗ semVal (thr dv i, SemLoc.dma sem) 0 ∗ Owes dv i O W) -∗ wpT dv i (k ⟨⟩) Q)
        -∗ wpT dv i (Prog.lift (.waitDma2 sem (winS o hw) (bufS ![h, 0] ho) h1 h2) >>= fun _ =>
          Prog.lift (.waitDma2 sem (winT o hw) (bufT ![h, 0] ho) h3 h4) >>= k) Q) := by
  simp only [Prog.lift, Prog.bind_op, Prog.bind_ret]
  unfold Fetch
  iintro ⟨⟨HB, Har, Hbr⟩, ⟨%W', %hW', HO⟩, #Hmw⟩ Hk
  iapply (Transfers.wp_waitBatchO countersEmb 𝒱₀ (thr dv i) none (dstw := bufS ![h, 0] ho) (default : HIx 1) (N := chunkN) rfl (n := 2) (u := 0) (by decide)) $$ [HB HO]
  · isplitl [HB]; iexact HB
    isplitl [HO]; iexact HO
    iapply (Transfers.MayWaits.elim (SemLoc.dma sem)) $$ Hmw
  iintro ⟨HB, HO⟩
  iapply (Transfers.wp_waitBatchLastO countersEmb 𝒱₀ (thr dv i) none (dstw := bufT ![h, 0] ho) (default : HIx 1) (N := chunkN) rfl (by decide) (n := 2) (u := 0 + chunkN) (by decide)) $$ [HB HO]
  · isplitl [HB]; iexact HB
    isplitl [HO]; iexact HO
    iapply (Transfers.MayWaits.elim (SemLoc.dma sem)) $$ Hmw
  iintro ⟨HD, Hv, HO⟩
  ihave HD := (Entails.of_eq (show bigSep Finset.univ (Delivers (F := F) dv i h c q a b) = iprop(Delivers (F := F) dv i h c q a b 0 ∗ Delivers (F := F) dv i h c q a b 1) from by
    rw [show (Finset.univ : Finset (Fin 2)) = insert 0 {1} from rfl, bigSep_insert (by decide), bigSep_singleton]; rfl)) $$ HD
  unfold Delivers
  icases HD with ⟨⟨Hs, Ha⟩, Ht, Hb⟩
  iapply Hk
  unfold Edges
  isplitl [Hs Ht Ha Hb Har Hbr]
  · isplitl [Hs]; iexact Hs
    isplitl [Ht]; iexact Ht
    isplitl [Ha Har]
    · iapply ((pointsTo_split_subset (Finset.subset_univ (win c))).2)
      isplitl [Ha] <;> iassumption
    · iapply ((pointsTo_split_subset (Finset.subset_univ (win c))).2)
      isplitl [Hb] <;> iassumption
  isplitl [Hv]; iexact Hv
  iexists _
  isplitr
  swap; iexact HO
  ipureintro; intro p hp'
  rcases Finset.mem_insert.mp hp' with hp' | hp'
  · exact .inr (hp' ▸ rfl)
  rcases Finset.mem_insert.mp hp' with hp' | hp'
  · exact .inr (hp' ▸ rfl)
  · exact hW' p hp'

end Run

end

end Cert.Proof.Seg
-- ==== Proof.Chunks.lean ====
module

public import proofs.«01_k».proof.Proof.Copies

/-! # A chunk of the edges

The next chunk is fetched, this one awaited and scanned, and its matches' rows taken into the maxima. -/

@[expose] public section

namespace Cert.Proof.Seg

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

noncomputable section

variable {F : FTy → Type} [FloatOps F] [Named F]

/-- A chunk. -/
abbrev chunkBody (i : grid1.Coords) (v2 : BitVec 32) (v13 v15 v17 v19 v21 v23 v25 v27 : IVec S16 32) :
    Fin k1_t3_loop.trips → Unit → Prog (Eff F i) Unit :=
  k1_t3_body (F := F) i srcA (Memref.isWhole_whole _) dstA (Memref.isWhole_whole _) gA (Memref.isWhole_whole _) outA (Memref.isWhole_whole _) mV (Memref.isWhole_whole _) sV (Memref.isWhole_whole _) tV (Memref.isWhole_whole _) lV (Memref.isWhole_whole _) dV (Memref.isWhole_whole _) rV (Memref.isWhole_whole _) gV (Memref.isWhole_whole _) cc1_scratch7 cc1_scratch8 cc1_scratch9 cc1_scratch10 cc1_scoped0 cc1_scoped1 cc1_scoped2 v2 v13 v15 v17 v19 v21 v23 v25 v27

/-- The scan of a chunk. -/
abbrev scanBody (i : grid1.Coords) (v2 a b : BitVec 32) (c : Fin k1_t3_loop.trips) (v44 : BitVec 32) :
    Fin k1_t4_loop.trips → BitVec 32 → Prog (Eff F i) (BitVec 32) :=
  k1_t4_body (F := F) i srcA (Memref.isWhole_whole _) dstA (Memref.isWhole_whole _) gA (Memref.isWhole_whole _) outA (Memref.isWhole_whole _) mV (Memref.isWhole_whole _) sV (Memref.isWhole_whole _) tV (Memref.isWhole_whole _) lV (Memref.isWhole_whole _) dV (Memref.isWhole_whole _) rV (Memref.isWhole_whole _) gV (Memref.isWhole_whole _) cc1_scratch7 cc1_scratch8 cc1_scratch9 cc1_scratch10 cc1_scoped0 cc1_scoped1 cc1_scoped2 v2 a b c v44

/-- Whether there is a batch. -/
def firstWord (nb : BitVec 32) : BitVec 1 := Scalar.cmpi .ne (Scalar.extui (Scalar.cmpi .sgt nb 0#32) : BitVec 32) 0#32

theorem firstWord_iff : ∀ k : Fin 50, firstWord (word k) = 1#1 ↔ 0 < k.val := by decide +kernel

theorem first_iff (n : Fin 769) : firstWord (batches (word n)) = 1#1 ↔ 0 < (n.val + 15) / 16 := by
  rw [batches_eq]; exact firstWord_iff ⟨(n.val + 15) / 16, by have := n.isLt; omega⟩

/-- The next chunk exists, and this one's number has the parity `p`. -/
def nextChunk (c p : BitVec 32) : BitVec 1 :=
  Scalar.cmpi .ne (Scalar.extui (Scalar.andi (Scalar.cmpi .slt (Scalar.addi c 1#32) 417#32)
    (Scalar.cmpi .eq (Scalar.andi c 1#32) p)) : BitVec 32) 0#32

theorem nextChunk_iff : ∀ c : Fin 417, ∀ p : Fin 2,
    (nextChunk (word c) (word p) = 1#1 ↔ c.val + 1 < 417 ∧ c.val % 2 = p.val) := by decide +kernel
theorem parChunk_iff : ∀ c : Fin 417, ∀ p : Fin 2, (parWord (word c) (word p) = 1#1 ↔ c.val % 2 = p.val) := by
  decide +kernel
theorem nextChunk_off : ∀ c : Fin 417, (Scalar.muli (Scalar.addi (word c) 1#32) 768#32 : BitVec 32).toNat = 768 * (c.val + 1) := by
  decide +kernel

section Words

variable (c : Fin k1_t3_loop.trips)

theorem chunk_lt : c.val < 417 := lt_of_lt_of_eq c.isLt t3_trips

theorem cond3 : k1_cond3 c = 1#1 ↔ c.val + 1 < 417 ∧ c.val % 2 = 1 := by
  rw [show k1_cond3 c = nextChunk (Scf.iv 0#32 1#32 c) (word 1) from rfl, iv_word]
  exact nextChunk_iff ⟨c.val, chunk_lt c⟩ 1
theorem cond4 : k1_cond4 c = 1#1 ↔ c.val + 1 < 417 ∧ c.val % 2 = 0 := by
  rw [show k1_cond4 c = nextChunk (Scf.iv 0#32 1#32 c) (word 0) from rfl, iv_word]
  exact nextChunk_iff ⟨c.val, chunk_lt c⟩ 0
theorem cond5 : k1_cond5 c = 1#1 ↔ c.val % 2 = 0 := by
  rw [show k1_cond5 c = parWord (Scf.iv 0#32 1#32 c) (word 0) from rfl, iv_word]
  exact parChunk_iff ⟨c.val, chunk_lt c⟩ 0
theorem cond6 : k1_cond6 c = 1#1 ↔ c.val % 2 = 1 := by
  rw [show k1_cond6 c = parWord (Scf.iv 0#32 1#32 c) (word 1) from rfl, iv_word]
  exact parChunk_iff ⟨c.val, chunk_lt c⟩ 1
theorem off4_eq : k1_off4 c = ![768 * (c.val + 1)] := by
  rw [show k1_off4 c = ![(Scalar.muli (Scalar.addi (Scf.iv 0#32 1#32 c) 1#32) 768#32 : BitVec 32).toNat] from rfl, iv_word]
  exact congrArg (fun x => ![x]) (nextChunk_off ⟨c.val, chunk_lt c⟩)
theorem off5_eq : k1_off5 c = ![768 * (c.val + 1)] := by
  rw [show k1_off5 c = ![(Scalar.muli (Scalar.addi (Scf.iv 0#32 1#32 c) 1#32) 768#32 : BitVec 32).toNat] from rfl, iv_word]
  exact congrArg (fun x => ![x]) (nextChunk_off ⟨c.val, chunk_lt c⟩)

end Words

/-- The maxima after the first `n` edges, for the tile whose nodes begin at `v2`. -/
abbrev edgeFold (v2 : BitVec 32) (g : S10000x128.Idx → F .f32) (a b : S320256.Idx → BitVec 32) (m : MB F) (n : ℕ) : MB F :=
  fold (fun e => hitW v2 (flat b e)) (fun e => (flat b e - v2).toNat) (fun e k => gAt g (flat a e).toNat k) m n

/-- The list of a chunk's matches stands for its edges. -/
theorem chunk_fold (v2 : BitVec 32) (g : S10000x128.Idx → F .f32) (a b : S320256.Idx → BitVec 32) (m : MB F) (c : ℕ)
    (ml md : S784.Idx → BitVec 32) (hok : ListOK v2 (fun e => flat a (768 * c + e)) (fun e => flat b (768 * c + e)) 768 ml md) :
    listFold g ml md (edgeFold v2 g a b m (768 * c)) (cnt v2 (fun e => flat b (768 * c + e)) 768) = edgeFold v2 g a b m (768 * (c + 1)) := by
  rw [show 768 * (c + 1) = 768 * c + 768 by omega]
  unfold edgeFold listFold
  rw [fold_add]
  exact fold_list _ _ _ _ _ _ _ fun e he hit => by
    obtain ⟨h1, h2⟩ := hok.1 e he hit
    refine ⟨congrArg BitVec.toNat h2, ?_⟩
    funext k
    exact congrArg (fun w : BitVec 32 => gAt g w.toNat k) h1

section Run

variable (dv : Dev nD) (i : grid1.Coords) {α : Type}

theorem wp_scan {v2 v44 : BitVec 32} (cs cd : ℕ → BitVec 32) (hs : ∀ e, (cs e).toNat < 10000) (c : Fin k1_t3_loop.trips)
    (fs ft : S2x768.Idx → BitVec 32)
    (hfs : ∀ x : S2x768.Idx, (x 0).val = c.val % 2 → fs x = cs (x 1).val) (hft : ∀ x : S2x768.Idx, (x 0).val = c.val % 2 → ft x = cd (x 1).val)
    (ml md : S784.Idx → BitVec 32) (hl : ∀ p, (at1 ml p).toNat < 10000) (hd : ∀ p, (at1 md p).toNat < 320) {hok}
    {k : BitVec 32 → Prog (Eff F i) α} {Q : α → sProp (RR F)} :
    iprop((sV.view.loc (thr dv i) ↦[bhalf (c.val % 2)]{fullShare} fs) ∗ (tV.view.loc (thr dv i) ↦[bhalf (c.val % 2)]{fullShare} ft)
        ∗ (lV.view.loc (thr dv i) ↦{fullShare} ml) ∗ (dV.view.loc (thr dv i) ↦{fullShare} md))
      ⊢ iprop((∀ n : Fin 769, ∀ ml' : S784.Idx → BitVec 32, ∀ md' : S784.Idx → BitVec 32,
          ⌜n.val = cnt v2 cd 768 ∧ ListOK v2 cs cd 768 ml' md'⌝ -∗
          iprop((sV.view.loc (thr dv i) ↦[bhalf (c.val % 2)]{fullShare} fs) ∗ (tV.view.loc (thr dv i) ↦[bhalf (c.val % 2)]{fullShare} ft)
            ∗ (lV.view.loc (thr dv i) ↦{fullShare} ml') ∗ (dV.view.loc (thr dv i) ↦{fullShare} md')) -∗ wpT dv i (k (word n)) Q)
        -∗ wpT dv i (Scf.Loop.for k1_t4_loop hok 0#32 (scanBody (F := F) i v2 0#32 1#32 c v44) >>= k) Q) := by
  let I : ℕ → BitVec 32 → sProp (RR F) := fun t r =>
    iprop(⌜r = word (cnt v2 cd (64 * t))⌝ ∗ (sV.view.loc (thr dv i) ↦[bhalf (c.val % 2)]{fullShare} fs) ∗ (tV.view.loc (thr dv i) ↦[bhalf (c.val % 2)]{fullShare} ft)
      ∗ ∃ ml' md' : S784.Idx → BitVec 32, ⌜ListOK v2 cs cd (64 * t) ml' md'⌝ ∗ (lV.view.loc (thr dv i) ↦{fullShare} ml') ∗ (dV.view.loc (thr dv i) ↦{fullShare} md'))
  have hbody : ∀ (t : Fin k1_t4_loop.trips) (r : BitVec 32), I t.val r ⊢ wpT dv i (scanBody (F := F) i v2 0#32 1#32 c v44 t r) (I (t.val + 1)) := by
    intro t r
    rw [show scanBody (F := F) i v2 0#32 1#32 c v44 t r = scanTrip i v2 c t r from t4_body_eq ..]
    iintro ⟨%hr, Hs, Ht, %ml', %md', %h, Hl, Hd⟩
    iapply (wp_scanTrip dv i cs cd hs c t r hr fs ft fullShare fullShare hfs hft ml' md' h) $$ [Hs Ht Hl Hd]
    isplitl [Hs]; iexact Hs
    isplitl [Ht]; iexact Ht
    isplitl [Hl] <;> iassumption
  iintro ⟨Hs, Ht, Hl, Hd⟩ Hk
  iapply (Scf.wp_for_bind frame (wpE (defs₀ (F := F)) 𝒱₀ (thr dv i) none) Set.univ _ _ _ hok 0#32 _ I hbody) $$ [Hs Ht Hl Hd]
  · isplitr
    · ipureintro; rfl
    isplitl [Hs]; iexact Hs
    isplitl [Ht]; iexact Ht
    iexists ml, md
    isplitr
    · ipureintro; exact ⟨fun e he => absurd he (Nat.not_lt_zero _), hl, hd⟩
    isplitl [Hl] <;> iassumption
  iintro %r ⟨%hr, Hs, Ht, %ml', %md', %h, Hl, Hd⟩
  have h64 : 64 * k1_t4_loop.trips = 768 := by rw [t4_trips]
  have hle : cnt v2 cd 768 ≤ 768 := Nat.count_le _
  rw [show Scf.trips k1_t4_loop.lb k1_t4_loop.ub k1_t4_loop.st = k1_t4_loop.trips from rfl, h64] at hr h
  subst hr
  ispecialize Hk $$ %(⟨cnt v2 cd 768, by omega⟩ : Fin 769)
  ispecialize Hk $$ %ml'
  ispecialize Hk $$ %md'
  iapply Hk $$ []
  · ipureintro; exact ⟨rfl, h⟩
  isplitl [Hs]; iexact Hs
  isplitl [Ht]; iexact Ht
  isplitl [Hl] <;> iassumption

/-- The first batch is started, if there is one. -/
theorem wp_first (n : Fin 769) {v85 : BitVec 1} (hv : v85 = 1#1 ↔ 0 < (n.val + 15) / 16) {ho hp}
    {k : PUnit → Prog (Eff F i) α} {Q : α → sProp (RR F)} {h1 h2 h3 h4 h5}
    (qg0 qg1 ql0 ql1 : PosShare TreeShare) (g : S10000x128.Idx → F .f32) (ml : S784.Idx → BitVec 32)
    (hml : ∀ p, (at1 ml p).toNat < 10000) :
    iprop(Idle dv i cc1_scratch9.sem 0 qg0 ql0 g ml ∗ Idle dv i cc1_scratch10.sem 1 qg1 ql1 g ml)
      ⊢ iprop((Slots dv i n 0 qg0 qg1 ql0 ql1 g ml -∗ wpT dv i (k ⟨⟩) Q)
        -∗ wpT dv i (if v85 = 1#1 then SparseCore.enqueueIndirectGather h1 gAll (rowsBuf ![0, 0, 0] ho) gathers_S10000x128_S16x128 (offsBuf ![0] hp) rfl cc1_scratch9.sem h2 h3 h4 h5 >>= k else k ⟨⟩) Q) := by
  by_cases h : 0 < (n.val + 15) / 16
  · rw [if_pos (hv.mpr h)]
    simp only [Slots, Cur, if_pos h, Nat.zero_mod, if_true]
    iintro ⟨H0, H1⟩ Hk
    iapply (wp_start dv i cc1_scratch9.sem 0 (16 * 0) ho _ hp rfl qg0 ql0 g ml hml _) $$ H0
    iintro H0
    iapply Hk
    isplitl [H0] <;> iassumption
  · rw [if_neg (fun e => h (hv.mp e))]
    simp only [Slots, Cur, if_neg h, Nat.zero_mod, if_true]
    iintro ⟨H0, H1⟩ Hk
    iapply Hk
    isplitl [H0] <;> iassumption

/-- The batches, from first to last. -/
theorem wp_batches {v13 v15 v17 v19 v21 v23 v25 v27 : IVec S16 32} (hc : Cols v13 v15 v17 v19 v21 v23 v25 v27)
    (n : Fin 769) {w : k1_chk5 (word n)} {v82 : BitVec 32} {hok}
    {k : Unit → Prog (Eff F i) α} {Q : α → sProp (RR F)}
    (O : CellTallies nD τ sig (HIx 1)) (W : Waits sig (HIx 1)) (qg0 qg1 ql0 ql1 : PosShare TreeShare)
    (g : S10000x128.Idx → F .f32) (ml md : S784.Idx → BitVec 32) (m : MB F)
    (hd : ∀ p, (at1 md p).toNat < 320) (hml : ∀ p, (at1 ml p).toNat < 10000) :
    iprop(Owes dv i O W ∗ Transfers.MayWaits (thr dv i) (default : HIx 1) O ∗ (mV.view.loc (thr dv i) ↦{fullShare} m)
        ∗ (dV.view.loc (thr dv i) ↦{fullShare} md) ∗ Slots dv i n 0 qg0 qg1 ql0 ql1 g ml)
      ⊢ iprop((iprop(Owes dv i O W ∗ (mV.view.loc (thr dv i) ↦{fullShare} listFold g ml md m n)
          ∗ (dV.view.loc (thr dv i) ↦{fullShare} md) ∗ Idle dv i cc1_scratch9.sem 0 qg0 ql0 g ml ∗ Idle dv i cc1_scratch10.sem 1 qg1 ql1 g ml) -∗ wpT dv i (k ⟨⟩) Q)
        -∗ wpT dv i (Scf.Loop.for (k1_t5_loop (word n)) hok ⟨⟩ (batchBody (F := F) i v13 v15 v17 v19 v21 v23 v25 v27 (word n) w v82) >>= k) Q) := by
  have hn := n.isLt
  let I : ℕ → PUnit → sProp (RR F) := fun b _ => BatchInv dv i n O W qg0 qg1 ql0 ql1 g ml md m b
  have hbody : ∀ (b : Fin (k1_t5_loop (word n)).trips) (u : PUnit), I b.val u ⊢ wpT dv i (batchBody (F := F) i v13 v15 v17 v19 v21 v23 v25 v27 (word n) w v82 b u) (I (b.val + 1)) :=
    fun b u => batch_step dv i hc n b u O W qg0 qg1 ql0 ql1 g ml md m hd hml
  iintro ⟨HO, Hmw, Hm, Hd, Hs⟩ Hk
  iapply (Scf.wp_for_bind frame (wpE (defs₀ (F := F)) 𝒱₀ (thr dv i) none) Set.univ _ _ _ hok ⟨⟩ _ I hbody) $$ [HO Hmw Hm Hd Hs]
  · isplitl [HO]; iexact HO
    isplitl [Hmw]; iexact Hmw
    isplitl [Hm]
    · rw [show listFold g ml md m (min n.val (16 * 0)) = m by rw [Nat.mul_zero, Nat.min_zero]; rfl]
      iexact Hm
    isplitl [Hd]; iexact Hd
    iexact Hs
  iintro %u ⟨HO, Hmw, Hm, Hd, Hs⟩
  rw [show Scf.trips (k1_t5_loop (word n)).lb (k1_t5_loop (word n)).ub (k1_t5_loop (word n)).st = (k1_t5_loop (word n)).trips from rfl, t5_trips n]
  have hmin : min n.val (16 * ((n.val + 15) / 16)) = n.val := by omega
  rw [hmin]
  iapply Hk
  isplitl [HO]; iexact HO
  isplitl [Hm]; iexact Hm
  isplitl [Hd]; iexact Hd
  rcases Nat.mod_two_eq_zero_or_one ((n.val + 15) / 16) with hp | hp
  · simp only [Slots, Cur, if_pos hp, if_neg (lt_irrefl ((n.val + 15) / 16))]
    iexact Hs
  · have hp' : ¬ ((n.val + 15) / 16) % 2 = 0 := by omega
    simp only [Slots, Cur, if_neg hp', if_neg (lt_irrefl ((n.val + 15) / 16))]
    icases Hs with ⟨H1, H0⟩
    isplitl [H0] <;> iassumption

/-- The loop over the batches left over runs no trip. -/
theorem wp_noBatch {v63 : BitVec 32} {hok} {body}
    {k : Unit → Prog (Eff F i) α} {Q : α → sProp (RR F)} :
    wpT dv i (k ⟨⟩) Q ⊢ wpT dv i (Scf.Loop.for (k1_t8_loop v63) hok ⟨⟩ body >>= k) Q :=
  Scf.wp_for0_bind frame (wpE (defs₀ (F := F)) 𝒱₀ (thr dv i) none) Set.univ _ _ _ hok body (Scf.rem_trips _ _) k Q _ (by iintro H; iexact H)

/-- A row buffer at rest, without its share of the list. -/
def RowsIdle (sem : DmaSem sig) (h : ℕ) (qg : PosShare TreeShare) (g : S10000x128.Idx → F .f32) : sProp (RR F) :=
  iprop((∃ fr : S2x16x128.Idx → F .f32, (rV.view.loc (thr dv i) ↦[half h]{fullShare} fr)) ∗ (gV.view.loc (thr dv i) ↦{qg} g)
    ∗ semVal (thr dv i, SemLoc.dma sem) 0)

theorem rowsIdle_lend (sem : DmaSem sig) (h : ℕ) (qg ql : PosShare TreeShare) (g : S10000x128.Idx → F .f32) (ml : S784.Idx → BitVec 32) :
    iprop(RowsIdle dv i sem h qg g ∗ (lV.view.loc (thr dv i) ↦{ql} ml)) ⊢ Idle dv i sem h qg ql g ml := by
  unfold RowsIdle Idle Lent
  iintro ⟨⟨⟨%fr, Hr⟩, Hg, Hv⟩, Hl⟩
  isplitl [Hr Hg Hl]
  · isplitl [Hr]
    · iexists fr
      isplitr
      · ipureintro; trivial
      · iexact Hr
    isplitl [Hg] <;> iassumption
  iexact Hv

theorem rowsIdle_back (sem : DmaSem sig) (h : ℕ) (qg ql : PosShare TreeShare) (g : S10000x128.Idx → F .f32) (ml : S784.Idx → BitVec 32) :
    Idle dv i sem h qg ql g ml ⊢ iprop(RowsIdle dv i sem h qg g ∗ (lV.view.loc (thr dv i) ↦{ql} ml)) := by
  unfold RowsIdle Idle Lent
  iintro ⟨⟨⟨%fr, %_, Hr⟩, Hg, Hl⟩, Hv⟩
  isplitl [Hr Hg Hv]
  · isplitl [Hr]
    · iexists fr; iexact Hr
    isplitl [Hg] <;> iassumption
  iexact Hl

/-- Half `h` of the edges' buffers at rest. -/
abbrev EdgesIdle (sem : DmaSem sig) (h : ℕ) (q : PosShare TreeShare) (a b : S320256.Idx → BitVec 32) : sProp (RR F) :=
  iprop(Edges dv i h q a b (fun _ => True) (fun _ => True) ∗ semVal (thr dv i, SemLoc.dma sem) 0)

theorem edges_rest (h : ℕ) (q : PosShare TreeShare) (a b : S320256.Idx → BitVec 32) (X Y : (S2x768.Idx → BitVec 32) → Prop) :
    (Edges dv i h q a b X Y : sProp (RR F)) ⊢ Edges dv i h q a b (fun _ => True) (fun _ => True) := by
  unfold Edges
  iintro ⟨⟨%f, %_, Hs⟩, ⟨%f', %_, Ht⟩, Ha, Hb⟩
  isplitl [Hs]
  · iexists f
    isplitr
    · ipureintro; trivial
    · iexact Hs
  isplitl [Ht]
  · iexists f'
    isplitr
    · ipureintro; trivial
    · iexact Ht
  isplitl [Ha] <;> iassumption

/-- The buffer of chunk `c`: on its way, if the chunk exists. -/
abbrev CurE (c : ℕ) (sem : DmaSem sig) (h : ℕ) (q : PosShare TreeShare) (a b : S320256.Idx → BitVec 32) : sProp (RR F) :=
  if c < 417 then Fetch dv i sem h c q a b else EdgesIdle dv i sem h q a b

/-- The two halves before chunk `c`. -/
abbrev ESlots (c : ℕ) (q0 q1 : PosShare TreeShare) (a b : S320256.Idx → BitVec 32) : sProp (RR F) :=
  if c % 2 = 0 then iprop(CurE dv i c cc1_scratch7.sem 0 q0 a b ∗ EdgesIdle dv i cc1_scratch8.sem 1 q1 a b)
  else iprop(CurE dv i c cc1_scratch8.sem 1 q1 a b ∗ EdgesIdle dv i cc1_scratch7.sem 0 q0 a b)

/-- The two lists, naming nodes. -/
def Lists : sProp (RR F) :=
  iprop(∃ ml md : S784.Idx → BitVec 32, ⌜(∀ p, (at1 ml p).toNat < 10000) ∧ ∀ p, (at1 md p).toNat < 320⌝
    ∗ (lV.view.loc (thr dv i) ↦{fullShare} ml) ∗ (dV.view.loc (thr dv i) ↦{fullShare} md))

/-- Before chunk `c`. -/
abbrev ChunkInv (O : CellTallies nD τ sig (HIx 1)) (W : Waits sig (HIx 1)) (qg0 qg1 q0 q1 : PosShare TreeShare)
    (g : S10000x128.Idx → F .f32) (a b : S320256.Idx → BitVec 32) (v2 : BitVec 32) (m : MB F) (c : ℕ) : sProp (RR F) :=
  iprop(Owes dv i O W ∗ Transfers.MayWaits (thr dv i) (default : HIx 1) O
    ∗ (mV.view.loc (thr dv i) ↦{fullShare} edgeFold v2 g a b m (768 * c)) ∗ Lists dv i
    ∗ RowsIdle dv i cc1_scratch9.sem 0 qg0 g ∗ RowsIdle dv i cc1_scratch10.sem 1 qg1 g
    ∗ ESlots dv i c q0 q1 a b)

theorem chunk_step {v13 v15 v17 v19 v21 v23 v25 v27 : IVec S16 32} (hc : Cols v13 v15 v17 v19 v21 v23 v25 v27)
    (c : Fin k1_t3_loop.trips) (u : Unit)
    (O : CellTallies nD τ sig (HIx 1)) (W : Waits sig (HIx 1)) (qg0 qg1 q0 q1 : PosShare TreeShare)
    (g : S10000x128.Idx → F .f32) (a b : S320256.Idx → BitVec 32) (v2 : BitVec 32) (m : MB F)
    (ha : ∀ e, (flat a e).toNat < 10000) :
    ChunkInv dv i O W qg0 qg1 q0 q1 g a b v2 m c.val ⊢ wpT dv i (chunkBody (F := F) i v2 v13 v15 v17 v19 v21 v23 v25 v27 c u) (fun _ => ChunkInv dv i O W qg0 qg1 q0 q1 g a b v2 m (c.val + 1)) := by
  have hlt := chunk_lt c
  rw [show chunkBody (F := F) i v2 v13 v15 v17 v19 v21 v23 v25 v27 c u = chunkBody (F := F) i v2 v13 v15 v17 v19 v21 v23 v25 v27 c ⟨⟩ from rfl]
  unfold chunkBody k1_t3_body
  simp only [k1_part18_eq_skeleton]
  unfold k1_part18_skel
  rcases Nat.mod_two_eq_zero_or_one c.val with hpar | hpar
  · by_cases hx : c.val + 1 < 417
    · have hp : c.val % 2 = 0 := hpar
      have hp1 : ¬ (c.val + 1) % 2 = 0 := by omega
      have h3 : ¬ k1_cond3 c = 1#1 := by rw [cond3]; omega
      have h4 : k1_cond4 c = 1#1 := by rw [cond4]; omega
      have h5 : k1_cond5 c = 1#1 := by rw [cond5]; omega
      have h6 : ¬ k1_cond6 c = 1#1 := by rw [cond6]; omega
      simp only [dif_neg h3, dif_pos h4, dif_pos h5, dif_neg h6, Prog.bind_assoc, Prog.bind_ret, Prog.pure_eq_ret]
      simp only [ChunkInv, ESlots, CurE, if_pos hlt, if_pos hp, if_neg hp1, if_pos hx]
      iintro ⟨HO, #Hmw, Hm, Hlists, Hr0, Hr1, Hc, Hi⟩
      icases Hi with ⟨Hi, Hv⟩
      iapply (wp_fetch dv i cc1_scratch8.sem 1 (c.val + 1) inb_S2x768_S1x768_1_0 _ _ (off5_eq c) q1 a b (fun _ => True) (fun _ => True)) $$ [Hi Hv]
      · isplitl [Hi] <;> iassumption
      iintro Hi
      iapply (wp_fetched dv i cc1_scratch7.sem 0 c.val inb_S2x768_S1x768_0_0 _ _ q0 a b O W) $$ [Hc HO]
      · isplitl [Hc]; iexact Hc
        isplitl [HO]; iexact HO
        iexact Hmw
      iintro ⟨He, Hv', HO⟩
      unfold Edges Lists
      icases He with ⟨⟨%fs, %hfs, Hs⟩, ⟨%ft, %hft, Ht⟩, Ha, Hb⟩
      icases Hlists with ⟨%ml, %md, %hl, Hl, Hd⟩
      rw [← hpar] at hfs hft
      iapply (wp_scan dv i (v2 := v2) (fun e => flat a (768 * c.val + e)) (fun e => flat b (768 * c.val + e)) (fun e => ha _) c fs ft hfs hft ml md hl.1 hl.2) $$ [Hs Ht Hl Hd]
      · rw [hpar]
        isplitl [Hs]; iexact Hs
        isplitl [Ht]; iexact Ht
        isplitl [Hl] <;> iassumption
      iintro %n %ml %md %hok ⟨Hs, Ht, Hl, Hd⟩
      obtain ⟨hn, hok⟩ := hok
      rw [hpar]
      simp only [Prog.lift, Prog.bind_op, Prog.bind_ret]
      iapply (wp_assume 𝒱₀ (thr dv i) none Set.univ (chk5 n))
      ihave ⟨Hl0, Hl1⟩ := (pointsTo_share (PosShare.mem_left_op_right fullShare)).1 $$ Hl
      iapply (wp_first dv i n (first_iff n) qg0 qg1 fullShare.left fullShare.right g ml hok.2.1) $$ [Hr0 Hl0 Hr1 Hl1]
      · isplitl [Hr0 Hl0]
        · iapply (rowsIdle_lend dv i); isplitl [Hr0] <;> iassumption
        · iapply (rowsIdle_lend dv i); isplitl [Hr1] <;> iassumption
      iintro Hsl
      iapply (wp_batches dv i hc n O W qg0 qg1 fullShare.left fullShare.right g ml md _ hok.2.2 hok.2.1) $$ [HO Hm Hd Hsl]
      · isplitl [HO]; iexact HO
        isplitr; iexact Hmw
        isplitl [Hm]; iexact Hm
        isplitl [Hd] <;> iassumption
      iintro ⟨HO, Hm, Hd, H0, H1⟩
      iapply (wp_noBatch dv i)
      rw [hn, chunk_fold v2 g a b m c.val ml md hok]
      ihave ⟨Hr0, Hl0⟩ := (rowsIdle_back dv i _ _ _ _ g ml) $$ H0
      ihave ⟨Hr1, Hl1⟩ := (rowsIdle_back dv i _ _ _ _ g ml) $$ H1
      ihave Hl := (pointsTo_share (PosShare.mem_left_op_right fullShare)).2 $$ [Hl0 Hl1]
      · isplitl [Hl0] <;> iassumption
      simp only [wp_ret]
      imodintro
      isplitl [HO]; iexact HO
      isplitr; iexact Hmw
      isplitl [Hm]; iexact Hm
      isplitl [Hl Hd]
      · iexists ml, md
        isplitr
        · ipureintro; exact hok.2
        isplitl [Hl] <;> iassumption
      isplitl [Hr0]; iexact Hr0
      isplitl [Hr1]; iexact Hr1
      isplitl [Hi]; iexact Hi
      isplitl [Hs Ht Ha Hb]
      · unfold Edges
        isplitl [Hs]
        · iexists fs
          isplitr
          · ipureintro; trivial
          · iexact Hs
        isplitl [Ht]
        · iexists ft
          isplitr
          · ipureintro; trivial
          · iexact Ht
        isplitl [Ha] <;> iassumption
      iexact Hv'
    · have hp : c.val % 2 = 0 := hpar
      have hp1 : ¬ (c.val + 1) % 2 = 0 := by omega
      have h3 : ¬ k1_cond3 c = 1#1 := by rw [cond3]; omega
      have h4 : ¬ k1_cond4 c = 1#1 := by rw [cond4]; omega
      have h5 : k1_cond5 c = 1#1 := by rw [cond5]; omega
      have h6 : ¬ k1_cond6 c = 1#1 := by rw [cond6]; omega
      simp only [dif_neg h3, dif_neg h4, dif_pos h5, dif_neg h6, Prog.bind_assoc, Prog.bind_ret, Prog.pure_eq_ret]
      simp only [ChunkInv, ESlots, CurE, if_pos hlt, if_pos hp, if_neg hp1, if_neg hx]
      iintro ⟨HO, #Hmw, Hm, Hlists, Hr0, Hr1, Hc, Hi⟩
      iapply (wp_fetched dv i cc1_scratch7.sem 0 c.val inb_S2x768_S1x768_0_0 _ _ q0 a b O W) $$ [Hc HO]
      · isplitl [Hc]; iexact Hc
        isplitl [HO]; iexact HO
        iexact Hmw
      iintro ⟨He, Hv', HO⟩
      unfold Edges Lists
      icases He with ⟨⟨%fs, %hfs, Hs⟩, ⟨%ft, %hft, Ht⟩, Ha, Hb⟩
      icases Hlists with ⟨%ml, %md, %hl, Hl, Hd⟩
      rw [← hpar] at hfs hft
      iapply (wp_scan dv i (v2 := v2) (fun e => flat a (768 * c.val + e)) (fun e => flat b (768 * c.val + e)) (fun e => ha _) c fs ft hfs hft ml md hl.1 hl.2) $$ [Hs Ht Hl Hd]
      · rw [hpar]
        isplitl [Hs]; iexact Hs
        isplitl [Ht]; iexact Ht
        isplitl [Hl] <;> iassumption
      iintro %n %ml %md %hok ⟨Hs, Ht, Hl, Hd⟩
      obtain ⟨hn, hok⟩ := hok
      rw [hpar]
      simp only [Prog.lift, Prog.bind_op, Prog.bind_ret]
      iapply (wp_assume 𝒱₀ (thr dv i) none Set.univ (chk5 n))
      ihave ⟨Hl0, Hl1⟩ := (pointsTo_share (PosShare.mem_left_op_right fullShare)).1 $$ Hl
      iapply (wp_first dv i n (first_iff n) qg0 qg1 fullShare.left fullShare.right g ml hok.2.1) $$ [Hr0 Hl0 Hr1 Hl1]
      · isplitl [Hr0 Hl0]
        · iapply (rowsIdle_lend dv i); isplitl [Hr0] <;> iassumption
        · iapply (rowsIdle_lend dv i); isplitl [Hr1] <;> iassumption
      iintro Hsl
      iapply (wp_batches dv i hc n O W qg0 qg1 fullShare.left fullShare.right g ml md _ hok.2.2 hok.2.1) $$ [HO Hm Hd Hsl]
      · isplitl [HO]; iexact HO
        isplitr; iexact Hmw
        isplitl [Hm]; iexact Hm
        isplitl [Hd] <;> iassumption
      iintro ⟨HO, Hm, Hd, H0, H1⟩
      iapply (wp_noBatch dv i)
      rw [hn, chunk_fold v2 g a b m c.val ml md hok]
      ihave ⟨Hr0, Hl0⟩ := (rowsIdle_back dv i _ _ _ _ g ml) $$ H0
      ihave ⟨Hr1, Hl1⟩ := (rowsIdle_back dv i _ _ _ _ g ml) $$ H1
      ihave Hl := (pointsTo_share (PosShare.mem_left_op_right fullShare)).2 $$ [Hl0 Hl1]
      · isplitl [Hl0] <;> iassumption
      simp only [wp_ret]
      imodintro
      isplitl [HO]; iexact HO
      isplitr; iexact Hmw
      isplitl [Hm]; iexact Hm
      isplitl [Hl Hd]
      · iexists ml, md
        isplitr
        · ipureintro; exact hok.2
        isplitl [Hl] <;> iassumption
      isplitl [Hr0]; iexact Hr0
      isplitl [Hr1]; iexact Hr1
      isplitl [Hi]; iexact Hi
      isplitl [Hs Ht Ha Hb]
      · unfold Edges
        isplitl [Hs]
        · iexists fs
          isplitr
          · ipureintro; trivial
          · iexact Hs
        isplitl [Ht]
        · iexists ft
          isplitr
          · ipureintro; trivial
          · iexact Ht
        isplitl [Ha] <;> iassumption
      iexact Hv'
  · have hp : ¬ c.val % 2 = 0 := by omega
    have hp1 : (c.val + 1) % 2 = 0 := by omega
    have hx : c.val + 1 < 417 := by omega
    have h3 : k1_cond3 c = 1#1 := by rw [cond3]; omega
    have h4 : ¬ k1_cond4 c = 1#1 := by rw [cond4]; omega
    have h5 : ¬ k1_cond5 c = 1#1 := by rw [cond5]; omega
    have h6 : k1_cond6 c = 1#1 := by rw [cond6]; omega
    simp only [dif_pos h3, dif_neg h4, dif_neg h5, dif_pos h6, Prog.bind_assoc, Prog.bind_ret, Prog.pure_eq_ret]
    simp only [ChunkInv, ESlots, CurE, if_pos hlt, if_neg hp, if_pos hp1, if_pos hx]
    iintro ⟨HO, #Hmw, Hm, Hlists, Hr0, Hr1, Hc, Hi⟩
    icases Hi with ⟨Hi, Hv⟩
    iapply (wp_fetch dv i cc1_scratch7.sem 0 (c.val + 1) inb_S2x768_S1x768_0_0 _ _ (off4_eq c) q0 a b (fun _ => True) (fun _ => True)) $$ [Hi Hv]
    · isplitl [Hi] <;> iassumption
    iintro Hi
    iapply (wp_fetched dv i cc1_scratch8.sem 1 c.val inb_S2x768_S1x768_1_0 _ _ q1 a b O W) $$ [Hc HO]
    · isplitl [Hc]; iexact Hc
      isplitl [HO]; iexact HO
      iexact Hmw
    iintro ⟨He, Hv', HO⟩
    unfold Edges Lists
    icases He with ⟨⟨%fs, %hfs, Hs⟩, ⟨%ft, %hft, Ht⟩, Ha, Hb⟩
    icases Hlists with ⟨%ml, %md, %hl, Hl, Hd⟩
    rw [← hpar] at hfs hft
    iapply (wp_scan dv i (v2 := v2) (fun e => flat a (768 * c.val + e)) (fun e => flat b (768 * c.val + e)) (fun e => ha _) c fs ft hfs hft ml md hl.1 hl.2) $$ [Hs Ht Hl Hd]
    · rw [hpar]
      isplitl [Hs]; iexact Hs
      isplitl [Ht]; iexact Ht
      isplitl [Hl] <;> iassumption
    iintro %n %ml %md %hok ⟨Hs, Ht, Hl, Hd⟩
    obtain ⟨hn, hok⟩ := hok
    rw [hpar]
    simp only [Prog.lift, Prog.bind_op, Prog.bind_ret]
    iapply (wp_assume 𝒱₀ (thr dv i) none Set.univ (chk5 n))
    ihave ⟨Hl0, Hl1⟩ := (pointsTo_share (PosShare.mem_left_op_right fullShare)).1 $$ Hl
    iapply (wp_first dv i n (first_iff n) qg0 qg1 fullShare.left fullShare.right g ml hok.2.1) $$ [Hr0 Hl0 Hr1 Hl1]
    · isplitl [Hr0 Hl0]
      · iapply (rowsIdle_lend dv i); isplitl [Hr0] <;> iassumption
      · iapply (rowsIdle_lend dv i); isplitl [Hr1] <;> iassumption
    iintro Hsl
    iapply (wp_batches dv i hc n O W qg0 qg1 fullShare.left fullShare.right g ml md _ hok.2.2 hok.2.1) $$ [HO Hm Hd Hsl]
    · isplitl [HO]; iexact HO
      isplitr; iexact Hmw
      isplitl [Hm]; iexact Hm
      isplitl [Hd] <;> iassumption
    iintro ⟨HO, Hm, Hd, H0, H1⟩
    iapply (wp_noBatch dv i)
    rw [hn, chunk_fold v2 g a b m c.val ml md hok]
    ihave ⟨Hr0, Hl0⟩ := (rowsIdle_back dv i _ _ _ _ g ml) $$ H0
    ihave ⟨Hr1, Hl1⟩ := (rowsIdle_back dv i _ _ _ _ g ml) $$ H1
    ihave Hl := (pointsTo_share (PosShare.mem_left_op_right fullShare)).2 $$ [Hl0 Hl1]
    · isplitl [Hl0] <;> iassumption
    simp only [wp_ret]
    imodintro
    isplitl [HO]; iexact HO
    isplitr; iexact Hmw
    isplitl [Hm]; iexact Hm
    isplitl [Hl Hd]
    · iexists ml, md
      isplitr
      · ipureintro; exact hok.2
      isplitl [Hl] <;> iassumption
    isplitl [Hr0]; iexact Hr0
    isplitl [Hr1]; iexact Hr1
    isplitl [Hi]; iexact Hi
    isplitl [Hs Ht Ha Hb]
    · unfold Edges
      isplitl [Hs]
      · iexists fs
        isplitr
        · ipureintro; trivial
        · iexact Hs
      isplitl [Ht]
      · iexists ft
        isplitr
        · ipureintro; trivial
        · iexact Ht
      isplitl [Ha] <;> iassumption
    iexact Hv'

end Run

end

end Cert.Proof.Seg
-- ==== Proof.Init.lean ====
module

public import proofs.«01_k».proof.Proof.Chunks

/-! # The buffers' first contents

The maxima start at the constant that stands for nothing, the lists at zero. -/

@[expose] public section

namespace Cert.Proof.Seg

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

noncomputable section

variable {F : FTy → Type} [FloatOps F] [Named F]

/-- What the maxima start at. -/
abbrev negC : F .f32 := Named.named κ "neg" 0xFF61B1E6#32

theorem t1_trips : k1_t1_loop.trips = 320 := by decide +kernel
theorem t2_trips : k1_t2_loop.trips = 49 := by decide +kernel

theorem init_word : ∀ t : Fin 320, ∀ r : Fin 8,
    (Scalar.addi (Scalar.muli (word t.val) 128#32) (word (16 * r.val)) : BitVec 32).toNat = 128 * t.val + 16 * r.val := by
  decide +kernel

theorem off2_at (t : Fin k1_t1_loop.trips) (r : Fin 8) : k1_off2 t (word (16 * r.val)) 0 = 128 * t.val + 16 * r.val := by
  rw [show k1_off2 t (word (16 * r.val)) 0 = (Scalar.addi (Scalar.muli (Scf.iv 0#32 1#32 t) 128#32) (word (16 * r.val)) : BitVec 32).toNat from rfl, iv_word]
  exact init_word ⟨t.val, lt_of_lt_of_eq t.isLt t1_trips⟩ r

theorem zero_word : ∀ t : Fin 49, (Scalar.muli (word t.val) 16#32 : BitVec 32).toNat = 16 * t.val := by decide +kernel

theorem off3_at (t : Fin k1_t2_loop.trips) : k1_off3 t 0 = 16 * t.val := by
  rw [show k1_off3 t 0 = (Scalar.muli (Scf.iv 0#32 1#32 t) 16#32 : BitVec 32).toNat from rfl, iv_word]
  exact zero_word ⟨t.val, lt_of_lt_of_eq t.isLt t2_trips⟩

theorem pay107_eq : (k1_pay107 (F := F)) = fun _ => negC := rfl
theorem pay108_eq : k1_pay108 = fun _ => 0#32 := rfl

theorem cols_pay : Cols k1_pay109 k1_pay110 k1_pay111 k1_pay112 k1_pay113 k1_pay114 k1_pay115 k1_pay116 := by
  have e : ∀ n : Fin 8, ∀ x : Fin 16, word x.val + word (16 * n.val) = word (16 * n.val + x.val) := by decide +kernel
  refine ⟨?_, ?_, ?_, ?_, ?_, ?_, ?_, ?_⟩ <;> funext x
  · show BitVec.ofNat 32 (0 * 16 + (x 0).val) + word (16 * 0) = _
    rw [Nat.zero_mul, Nat.zero_add]; exact BitVec.add_zero _
  · show BitVec.ofNat 32 (0 * 16 + (x 0).val) + word (16 * 1) = _
    rw [Nat.zero_mul, Nat.zero_add]; exact e 1 (x 0)
  · show BitVec.ofNat 32 (0 * 16 + (x 0).val) + word (16 * 2) = _
    rw [Nat.zero_mul, Nat.zero_add]; exact e 2 (x 0)
  · show BitVec.ofNat 32 (0 * 16 + (x 0).val) + word (16 * 3) = _
    rw [Nat.zero_mul, Nat.zero_add]; exact e 3 (x 0)
  · show BitVec.ofNat 32 (0 * 16 + (x 0).val) + word (16 * 4) = _
    rw [Nat.zero_mul, Nat.zero_add]; exact e 4 (x 0)
  · show BitVec.ofNat 32 (0 * 16 + (x 0).val) + word (16 * 5) = _
    rw [Nat.zero_mul, Nat.zero_add]; exact e 5 (x 0)
  · show BitVec.ofNat 32 (0 * 16 + (x 0).val) + word (16 * 6) = _
    rw [Nat.zero_mul, Nat.zero_add]; exact e 6 (x 0)
  · show BitVec.ofNat 32 (0 * 16 + (x 0).val) + word (16 * 7) = _
    rw [Nat.zero_mul, Nat.zero_add]; exact e 7 (x 0)

section Run

variable (dv : Dev nD) (i : grid1.Coords) {α : Type}

/-- Sixteen more of the maxima. -/
theorem put_m (f : S40960.Idx → F .f32) (x : F .f32) (p : ℕ) (o : Fin 1 → ℕ) (ho : ∀ a, o a + S16.size a ≤ S40960.size a) (hp : o 0 = p)
    (hf : ∀ j : S40960.Idx, (j 0).val < p → f j = x) (j : S40960.Idx) (hj : (j 0).val < p + 16) :
    ((mV.access (Rect.unit (s := S40960) o S16.size ho)).write (Elt F) f (fun _ => x) Finset.univ) j = x := by
  by_cases h : (j 0).val < p
  · rw [View.write_of_not_mem, hf j h]
    rw [View.setOn_univ, show (mV.access (Rect.unit (s := S40960) o S16.size ho)).set = (Rect.unit (s := S40960) o S16.size ho).set from View.set_slice_whole _ _]
    intro hm
    have := (Rect.mem_set_unit.mp hm 0).1
    omega
  · have e : (mV.access (Rect.unit (s := S40960) o S16.size ho)).emb (lane ⟨(j 0).val - p, by omega⟩) = j := by
      funext a
      obtain rfl : a = 0 := Fin.eq_zero a
      apply Fin.ext
      show o 0 + 1 * ((j 0).val - p) = (j 0).val
      omega
    rw [← e]
    exact View.write_emb_of_mem _ _ (Finset.mem_univ _)

theorem wp_put_m (x : F .f32) (p : ℕ) (o : Fin 1 → ℕ) (ho : ∀ a, o a + S16.size a ≤ S40960.size a) (hp : o 0 = p)
    {w : S16.Idx → F .f32} (hw : w = fun _ => x)
    {k : PUnit → Prog (Eff F i) α} {Q : α → sProp (RR F)} {h1 h2 h3} :
    iprop(∃ f : S40960.Idx → F .f32, ⌜∀ j : S40960.Idx, (j 0).val < p → f j = x⌝ ∗ (mV.view.loc (thr dv i) ↦{fullShare} f))
      ⊢ iprop((iprop(∃ f : S40960.Idx → F .f32, ⌜∀ j : S40960.Idx, (j 0).val < p + 16 → f j = x⌝ ∗ (mV.view.loc (thr dv i) ↦{fullShare} f)) -∗ wpT dv i (k ⟨⟩) Q)
        -∗ wpT dv i (Prog.lift (.load mV (Rect.unit (s := S40960) o S16.size ho).toLoadRect h1) >>= fun _ =>
          Prog.lift (.store mV (Rect.unit (s := S40960) o S16.size ho) w Finset.univ h2 h3) >>= k) Q) := by
  subst hw
  simp only [Prog.lift, Prog.bind_op, Prog.bind_ret]
  iintro ⟨%f, %hf, H⟩ Hk
  iapply (wp_load_rect 𝒱₀ (thr dv i) none Set.univ (m := mV) (r := Rect.unit (s := S40960) o S16.size ho) (S := Finset.univ) (q := fullShare) (Finset.subset_univ _)) $$ H
  iintro H
  iapply (wp_store 𝒱₀ (thr dv i) none Set.univ (m := mV) (r := Rect.unit (s := S40960) o S16.size ho) (S := Finset.univ) (Finset.subset_univ _)) $$ H
  iintro H
  iapply Hk
  iexists _
  isplitr
  swap; iexact H
  ipureintro
  exact put_m (F := F) f x p o ho hp hf

/-- Sixteen more of the sources. -/
theorem put_l (f : S784.Idx → BitVec 32) (x : BitVec 32) (p : ℕ) (o : Fin 1 → ℕ) (ho : ∀ a, o a + S16.size a ≤ S784.size a) (hp : o 0 = p)
    (hf : ∀ j : S784.Idx, (j 0).val < p → f j = x) (j : S784.Idx) (hj : (j 0).val < p + 16) :
    ((lV.access (Rect.unit (s := S784) o S16.size ho)).write (Elt F) f (fun _ => x) Finset.univ) j = x := by
  by_cases h : (j 0).val < p
  · rw [View.write_of_not_mem, hf j h]
    rw [View.setOn_univ, show (lV.access (Rect.unit (s := S784) o S16.size ho)).set = (Rect.unit (s := S784) o S16.size ho).set from View.set_slice_whole _ _]
    intro hm
    have := (Rect.mem_set_unit.mp hm 0).1
    omega
  · have e : (lV.access (Rect.unit (s := S784) o S16.size ho)).emb (lane ⟨(j 0).val - p, by omega⟩) = j := by
      funext a
      obtain rfl : a = 0 := Fin.eq_zero a
      apply Fin.ext
      show o 0 + 1 * ((j 0).val - p) = (j 0).val
      omega
    rw [← e]
    exact View.write_emb_of_mem _ _ (Finset.mem_univ _)

theorem wp_put_l (x : BitVec 32) (p : ℕ) (o : Fin 1 → ℕ) (ho : ∀ a, o a + S16.size a ≤ S784.size a) (hp : o 0 = p)
    {w : S16.Idx → BitVec 32} (hw : w = fun _ => x)
    {k : PUnit → Prog (Eff F i) α} {Q : α → sProp (RR F)} {h1 h2 h3} :
    iprop(∃ f : S784.Idx → BitVec 32, ⌜∀ j : S784.Idx, (j 0).val < p → f j = x⌝ ∗ (lV.view.loc (thr dv i) ↦{fullShare} f))
      ⊢ iprop((iprop(∃ f : S784.Idx → BitVec 32, ⌜∀ j : S784.Idx, (j 0).val < p + 16 → f j = x⌝ ∗ (lV.view.loc (thr dv i) ↦{fullShare} f)) -∗ wpT dv i (k ⟨⟩) Q)
        -∗ wpT dv i (Prog.lift (.load lV (Rect.unit (s := S784) o S16.size ho).toLoadRect h1) >>= fun _ =>
          Prog.lift (.store lV (Rect.unit (s := S784) o S16.size ho) w Finset.univ h2 h3) >>= k) Q) := by
  subst hw
  simp only [Prog.lift, Prog.bind_op, Prog.bind_ret]
  iintro ⟨%f, %hf, H⟩ Hk
  iapply (wp_load_rect 𝒱₀ (thr dv i) none Set.univ (m := lV) (r := Rect.unit (s := S784) o S16.size ho) (S := Finset.univ) (q := fullShare) (Finset.subset_univ _)) $$ H
  iintro H
  iapply (wp_store 𝒱₀ (thr dv i) none Set.univ (m := lV) (r := Rect.unit (s := S784) o S16.size ho) (S := Finset.univ) (Finset.subset_univ _)) $$ H
  iintro H
  iapply Hk
  iexists _
  isplitr
  swap; iexact H
  ipureintro
  exact put_l (F := F) f x p o ho hp hf

/-- Sixteen more of the destinations. -/
theorem put_d (f : S784.Idx → BitVec 32) (x : BitVec 32) (p : ℕ) (o : Fin 1 → ℕ) (ho : ∀ a, o a + S16.size a ≤ S784.size a) (hp : o 0 = p)
    (hf : ∀ j : S784.Idx, (j 0).val < p → f j = x) (j : S784.Idx) (hj : (j 0).val < p + 16) :
    ((dV.access (Rect.unit (s := S784) o S16.size ho)).write (Elt F) f (fun _ => x) Finset.univ) j = x := by
  by_cases h : (j 0).val < p
  · rw [View.write_of_not_mem, hf j h]
    rw [View.setOn_univ, show (dV.access (Rect.unit (s := S784) o S16.size ho)).set = (Rect.unit (s := S784) o S16.size ho).set from View.set_slice_whole _ _]
    intro hm
    have := (Rect.mem_set_unit.mp hm 0).1
    omega
  · have e : (dV.access (Rect.unit (s := S784) o S16.size ho)).emb (lane ⟨(j 0).val - p, by omega⟩) = j := by
      funext a
      obtain rfl : a = 0 := Fin.eq_zero a
      apply Fin.ext
      show o 0 + 1 * ((j 0).val - p) = (j 0).val
      omega
    rw [← e]
    exact View.write_emb_of_mem _ _ (Finset.mem_univ _)

theorem wp_put_d (x : BitVec 32) (p : ℕ) (o : Fin 1 → ℕ) (ho : ∀ a, o a + S16.size a ≤ S784.size a) (hp : o 0 = p)
    {w : S16.Idx → BitVec 32} (hw : w = fun _ => x)
    {k : PUnit → Prog (Eff F i) α} {Q : α → sProp (RR F)} {h1 h2 h3} :
    iprop(∃ f : S784.Idx → BitVec 32, ⌜∀ j : S784.Idx, (j 0).val < p → f j = x⌝ ∗ (dV.view.loc (thr dv i) ↦{fullShare} f))
      ⊢ iprop((iprop(∃ f : S784.Idx → BitVec 32, ⌜∀ j : S784.Idx, (j 0).val < p + 16 → f j = x⌝ ∗ (dV.view.loc (thr dv i) ↦{fullShare} f)) -∗ wpT dv i (k ⟨⟩) Q)
        -∗ wpT dv i (Prog.lift (.load dV (Rect.unit (s := S784) o S16.size ho).toLoadRect h1) >>= fun _ =>
          Prog.lift (.store dV (Rect.unit (s := S784) o S16.size ho) w Finset.univ h2 h3) >>= k) Q) := by
  subst hw
  simp only [Prog.lift, Prog.bind_op, Prog.bind_ret]
  iintro ⟨%f, %hf, H⟩ Hk
  iapply (wp_load_rect 𝒱₀ (thr dv i) none Set.univ (m := dV) (r := Rect.unit (s := S784) o S16.size ho) (S := Finset.univ) (q := fullShare) (Finset.subset_univ _)) $$ H
  iintro H
  iapply (wp_store 𝒱₀ (thr dv i) none Set.univ (m := dV) (r := Rect.unit (s := S784) o S16.size ho) (S := Finset.univ) (Finset.subset_univ _)) $$ H
  iintro H
  iapply Hk
  iexists _
  isplitr
  swap; iexact H
  ipureintro
  exact put_d (F := F) f x p o ho hp hf

/-- Of a loop's body. -/
abbrev initBody : Fin k1_t1_loop.trips → Unit → Prog (Eff F i) Unit := k1_t1_body (F := F) i srcA (Memref.isWhole_whole _) dstA (Memref.isWhole_whole _) gA (Memref.isWhole_whole _) outA (Memref.isWhole_whole _) mV (Memref.isWhole_whole _) sV (Memref.isWhole_whole _) tV (Memref.isWhole_whole _) lV (Memref.isWhole_whole _) dV (Memref.isWhole_whole _) rV (Memref.isWhole_whole _) gV (Memref.isWhole_whole _) cc1_scratch7 cc1_scratch8 cc1_scratch9 cc1_scratch10 cc1_scoped0 cc1_scoped1 cc1_scoped2
abbrev zeroBody (v : IVec S16 32) : Fin k1_t2_loop.trips → Unit → Prog (Eff F i) Unit := k1_t2_body (F := F) i srcA (Memref.isWhole_whole _) dstA (Memref.isWhole_whole _) gA (Memref.isWhole_whole _) outA (Memref.isWhole_whole _) mV (Memref.isWhole_whole _) sV (Memref.isWhole_whole _) tV (Memref.isWhole_whole _) lV (Memref.isWhole_whole _) dV (Memref.isWhole_whole _) rV (Memref.isWhole_whole _) gV (Memref.isWhole_whole _) cc1_scratch7 cc1_scratch8 cc1_scratch9 cc1_scratch10 cc1_scoped0 cc1_scoped1 cc1_scoped2 v

/-- The maxima's first entries, set. -/
abbrev InitInv (n : ℕ) : sProp (RR F) :=
  iprop(∃ f : S40960.Idx → F .f32, ⌜∀ j : S40960.Idx, (j 0).val < n → f j = negC⌝ ∗ (mV.view.loc (thr dv i) ↦{fullShare} f))

theorem init_step (t : Fin k1_t1_loop.trips) (u : Unit) :
    InitInv dv i (128 * t.val) ⊢ wpT dv i (initBody (F := F) i t u) (fun _ => InitInv dv i (128 * (t.val + 1))) := by
  unfold initBody k1_t1_body
  iintro H
  iapply (wp_put_m dv i negC (128 * t.val + 0) _ _ (off2_at t 0) pay107_eq) $$ H
  iintro H
  iapply (wp_put_m dv i negC (128 * t.val + 16) _ _ (off2_at t 1) pay107_eq) $$ H
  iintro H
  iapply (wp_put_m dv i negC (128 * t.val + 32) _ _ (off2_at t 2) pay107_eq) $$ H
  iintro H
  iapply (wp_put_m dv i negC (128 * t.val + 48) _ _ (off2_at t 3) pay107_eq) $$ H
  iintro H
  iapply (wp_put_m dv i negC (128 * t.val + 64) _ _ (off2_at t 4) pay107_eq) $$ H
  iintro H
  iapply (wp_put_m dv i negC (128 * t.val + 80) _ _ (off2_at t 5) pay107_eq) $$ H
  iintro H
  iapply (wp_put_m dv i negC (128 * t.val + 96) _ _ (off2_at t 6) pay107_eq) $$ H
  iintro H
  iapply (wp_put_m dv i negC (128 * t.val + 112) _ _ (off2_at t 7) pay107_eq) $$ H
  iintro H
  simp only [Prog.pure_eq_ret, wp_ret]
  imodintro
  iexact H

theorem wp_init {k : Unit → Prog (Eff F i) α} {Q : α → sProp (RR F)} {hok} :
    iprop(∃ f : S40960.Idx → F .f32, (mV.view.loc (thr dv i) ↦{fullShare} f))
      ⊢ iprop(((mV.view.loc (thr dv i) ↦{fullShare} (fun _ => negC : S40960.Idx → F .f32)) -∗ wpT dv i (k ⟨⟩) Q)
        -∗ wpT dv i (Scf.Loop.for k1_t1_loop hok ⟨⟩ (initBody (F := F) i) >>= k) Q) := by
  iintro ⟨%f, H⟩ Hk
  iapply (Scf.wp_for_bind frame (wpE (defs₀ (F := F)) 𝒱₀ (thr dv i) none) Set.univ _ _ _ hok ⟨⟩ _
    (fun n (_ : Unit) => InitInv (F := F) dv i (128 * n)) (fun t u => init_step dv i t u)) $$ [H]
  · iexists f
    isplitr
    · ipureintro; intro j hj; exact absurd hj (by omega)
    · iexact H
  iintro %u ⟨%f', %hf', H⟩
  rw [show Scf.trips k1_t1_loop.lb k1_t1_loop.ub k1_t1_loop.st = k1_t1_loop.trips from rfl, t1_trips] at hf'
  rw [show f' = fun _ => negC from funext fun j => hf' j (j 0).isLt]
  iapply Hk; iexact H

/-- The lists' first entries, set. -/
abbrev ZeroInv (n : ℕ) : sProp (RR F) :=
  iprop((∃ f : S784.Idx → BitVec 32, ⌜∀ j : S784.Idx, (j 0).val < n → f j = 0#32⌝ ∗ (lV.view.loc (thr dv i) ↦{fullShare} f))
    ∗ ∃ f : S784.Idx → BitVec 32, ⌜∀ j : S784.Idx, (j 0).val < n → f j = 0#32⌝ ∗ (dV.view.loc (thr dv i) ↦{fullShare} f))

theorem zero_step (t : Fin k1_t2_loop.trips) (u : Unit) :
    ZeroInv (F := F) dv i (16 * t.val) ⊢ wpT dv i (zeroBody (F := F) i k1_pay108 t u) (fun _ => ZeroInv dv i (16 * (t.val + 1))) := by
  unfold zeroBody k1_t2_body
  iintro ⟨Hl, Hd⟩
  iapply (wp_put_l dv i 0#32 (16 * t.val) _ _ (off3_at t) pay108_eq) $$ Hl
  iintro Hl
  iapply (wp_put_d dv i 0#32 (16 * t.val) _ _ (off3_at t) pay108_eq) $$ Hd
  iintro Hd
  simp only [Prog.pure_eq_ret, wp_ret]
  imodintro
  isplitl [Hl] <;> iassumption

theorem wp_zero {k : Unit → Prog (Eff F i) α} {Q : α → sProp (RR F)} {hok} :
    iprop((∃ f : S784.Idx → BitVec 32, (lV.view.loc (thr dv i) ↦{fullShare} f)) ∗ ∃ f : S784.Idx → BitVec 32, (dV.view.loc (thr dv i) ↦{fullShare} f))
      ⊢ iprop((Lists (F := F) dv i -∗ wpT dv i (k ⟨⟩) Q)
        -∗ wpT dv i (Scf.Loop.for k1_t2_loop hok ⟨⟩ (zeroBody (F := F) i k1_pay108) >>= k) Q) := by
  iintro ⟨⟨%f, Hl⟩, %f', Hd⟩ Hk
  iapply (Scf.wp_for_bind frame (wpE (defs₀ (F := F)) 𝒱₀ (thr dv i) none) Set.univ _ _ _ hok ⟨⟩ _
    (fun n (_ : Unit) => ZeroInv (F := F) dv i (16 * n)) (fun t u => zero_step dv i t u)) $$ [Hl Hd]
  · isplitl [Hl]
    · iexists f
      isplitr
      · ipureintro; intro j hj; exact absurd hj (by omega)
      · iexact Hl
    · iexists f'
      isplitr
      · ipureintro; intro j hj; exact absurd hj (by omega)
      · iexact Hd
  iintro %u ⟨⟨%ml, %hl, Hl⟩, %md, %hd, Hd⟩
  rw [show Scf.trips k1_t2_loop.lb k1_t2_loop.ub k1_t2_loop.st = k1_t2_loop.trips from rfl, t2_trips] at hl hd
  iapply Hk
  unfold Lists
  iexists ml, md
  isplitr
  · ipureintro
    constructor
    · intro p; unfold at1; rw [hl _ (Fin.isLt _)]; decide
    · intro p; unfold at1; rw [hd _ (Fin.isLt _)]; decide
  isplitl [Hl] <;> iassumption

end Run

end

end Cert.Proof.Seg
-- ==== Proof.Rows.lean ====
module

public import proofs.«01_k».proof.Proof.Init
public import Idealize.ShloMosaic.Lib.SparseCore.FromWhole
public import Idealize.ShloMosaic.Lib.ShareLeaves

/-! # A tile's rows and its part of the result

Each tile copies its block of rows into the shared memory, and at the end its maxima out. -/

@[expose] public section

namespace Cert.Proof.Seg

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

noncomputable section

variable {F : FTy → Type} [FloatOps F] [Named F]

/-- The rows tile `r` copies. -/
def rowSet (r : ℕ) : Finset S10000x128.Idx := Finset.univ.filter fun x => (x 0).val / 640 = r
/-- The elements of the result that task `w` writes. -/
def outSet (w : ℕ) : Finset S1310720.Idx := Finset.univ.filter fun x => (x 0).val / 40960 = w
/-- The `p`-th maximum. -/
def mIx (p : ℕ) : S40960.Idx := Shape.ofLane (d := ![40960]) ⟨p % 40960, Nat.mod_lt _ (by decide)⟩

/-- A tile's number among the thirty-two. -/
abbrev wid (i : grid1.Coords) : ℕ := 2 * (i 1).val + (i 0).val

theorem wid_lt (i : grid1.Coords) : wid i < 32 := by
  have h1 : (i 1).val < 16 := (i 1).isLt
  have h0 : (i 0).val < 2 := (i 0).isLt
  show 2 * (i 1).val + (i 0).val < 32
  omega

theorem cond1_word : ∀ s : Fin 16, (Scalar.cmpi .ne (Scalar.extui (Scalar.cmpi .slt (word s.val) 15#32) : BitVec 32) 0#32 = 1#1) ↔ s.val < 15 := by
  decide +kernel
theorem cond1_iff (i : grid1.Coords) : k1_cond1 i = 1#1 ↔ (i 1).val < 15 := cond1_word (i 1)
theorem cond2_word : ∀ s : Fin 16, (Scalar.cmpi .ne (Scalar.extui (Scalar.cmpi .eq (word s.val) 15#32) : BitVec 32) 0#32 = 1#1) ↔ s.val = 15 := by
  decide +kernel
theorem cond2_iff (i : grid1.Coords) :
    (Scalar.cmpi .ne (Scalar.extui (Scalar.cmpi .eq (BitVec.ofNat 32 (i 1).val) 15#32) : BitVec 32) 0#32 = 1#1) ↔ (i 1).val = 15 := cond2_word (i 1)
theorem off1_word : ∀ s : Fin 16, (Scalar.muli (word s.val) 640#32 : BitVec 32).toNat = 640 * s.val := by decide +kernel
theorem off1_at (i : grid1.Coords) : k1_off1 i 0 = 640 * (i 1).val := off1_word (i 1)
theorem base_word : ∀ c : Fin 2, ∀ s : Fin 16,
    (Scalar.muli (Scalar.addi (Scalar.muli (word s.val) 2#32) (word c.val)) 320#32 : BitVec 32) = word (320 * (2 * s.val + c.val)) := by decide +kernel
theorem base_at (i : grid1.Coords) :
    (Scalar.muli (Scalar.addi (Scalar.muli (BitVec.ofNat 32 (i 1).val) 2#32) (BitVec.ofNat 32 (i 0).val)) 320#32 : BitVec 32) = word (320 * wid i) :=
  base_word (i 0) (i 1)
theorem off81_word : ∀ c : Fin 2, ∀ s : Fin 16,
    (Scalar.muli (Scalar.muli (Scalar.addi (Scalar.muli (word s.val) 2#32) (word c.val)) 320#32) 128#32 : BitVec 32).toNat = 40960 * (2 * s.val + c.val) := by
  decide +kernel
theorem off81_at (i : grid1.Coords) : k1_off81 i 0 = 40960 * wid i := off81_word (i 0) (i 1)

section Run

variable (dv : Dev nD) (i : grid1.Coords) {α : Type}

theorem set_rows640 (o : Fin 2 → ℕ) (ho : ∀ a, o a + S640x128.size a ≤ S10000x128.size a) (r : ℕ) (h1 : o 1 = 0)
    (hr : ∀ p, o 0 ≤ p ∧ p < o 0 + 640 ↔ p / 640 = r ∧ p < 10000) :
    ((gV.slice (Rect.unit (s := S10000x128) o S640x128.size ho) (fun _ => rfl)).view.set) = rowSet r := by
  rw [show (gV.slice (Rect.unit (s := S10000x128) o S640x128.size ho) (fun _ => rfl)).view.set = (Rect.unit (s := S10000x128) o S640x128.size ho).set from View.set_slice_whole _ _]
  ext x
  rw [Rect.mem_set_unit, rowSet, Finset.mem_filter]
  have h0 : (x 0).val < 10000 := (x 0).isLt
  have h128 : (x 1).val < 128 := (x 1).isLt
  have := hr (x 0).val
  constructor
  · intro h
    exact ⟨Finset.mem_univ _, (this.mp (h 0)).1⟩
  · rintro ⟨-, h⟩ a
    fin_cases a
    · exact this.mpr ⟨h, h0⟩
    · show o 1 ≤ (x 1).val ∧ (x 1).val < o 1 + 128
      omega

theorem wp_rows640 (sem : DmaSem sig) (o : Fin 2 → ℕ) (ho : ∀ a, o a + S640x128.size a ≤ S10000x128.size a) (r : ℕ) (h1 : o 1 = 0)
    (hr : ∀ p, o 0 ≤ p ∧ p < o 0 + 640 ↔ p / 640 = r ∧ p < 10000)
    {k : PUnit → Prog (Eff F i) α} {Q : α → sProp (RR F)} {c1 c2 c3 c4 c5} (q : PosShare TreeShare) (g : S10000x128.Idx → F .f32)
    (O : CellTallies nD τ sig (HIx 1)) (W : Waits sig (HIx 1)) :
    iprop((gA.view.loc (thr dv i) ↦{q} g) ∗ (∃ f : S10000x128.Idx → F .f32, (gV.view.loc (thr dv i) ↦[rowSet r]{fullShare} f))
        ∗ semVal (thr dv i, SemLoc.dma sem) 0 ∗ Owes dv i O W ∗ Transfers.MayWaits (thr dv i) (default : HIx 1) O)
      ⊢ iprop((iprop((gA.view.loc (thr dv i) ↦{q} g) ∗ (gV.view.loc (thr dv i) ↦[rowSet r]{fullShare} g)
          ∗ semVal (thr dv i, SemLoc.dma sem) 0 ∗ Owes dv i O W) -∗ wpT dv i (k ⟨⟩) Q)
        -∗ wpT dv i (Prog.lift (.enqueueDma (gA.slice (Rect.unit (s := S10000x128) o S640x128.size ho) (fun _ => rfl))
            (.here (gV.slice (Rect.unit (s := S10000x128) o S640x128.size ho) (fun _ => rfl))) (.dma sem) c1 c2 c3) >>= fun _ =>
          Prog.lift (.waitDma2 sem (gA.slice (Rect.unit (s := S10000x128) o S640x128.size ho) (fun _ => rfl))
            (gV.slice (Rect.unit (s := S10000x128) o S640x128.size ho) (fun _ => rfl)) c4 c5) >>= k) Q) := by
  simp only [Prog.lift, Prog.bind_op, Prog.bind_ret]
  have hset := set_rows640 o ho r h1 hr
  iintro ⟨Hg, ⟨%f, Hd⟩, Hv, ⟨%W', %hW', HO⟩, #Hmw⟩ Hk
  iapply (Transfers.wp_dmaFromWhole countersEmb 𝒱₀ (thr dv i) none (src := gA.slice (Rect.unit (s := S10000x128) o S640x128.size ho) (fun _ => rfl))
    (dst := gV.slice (Rect.unit (s := S10000x128) o S640x128.size ho) (fun _ => rfl)) (q := q) (fs := g) (fd := f) (default : HIx 1)
    ((gV.slice (Rect.unit (s := S10000x128) o S640x128.size ho) (fun _ => rfl)).view.dmaCredit) rfl (show 0 < (gV.slice (Rect.unit (s := S10000x128) ![0, 0] S640x128.size (by decide)) (fun _ => rfl)).view.dmaCredit by decide) (Sd := rowSet r) (subset_of_eq hset)) $$ [Hg Hd Hv]
  · isplitl [Hg]; iexact Hg
    isplitl [Hd] <;> iassumption
  iintro Hf
  iapply (Transfers.wp_waitLocalO countersEmb 𝒱₀ (thr dv i) none (dstw := gV.slice (Rect.unit (s := S10000x128) o S640x128.size ho) (fun _ => rfl)) (default : HIx 1) rfl) $$ [Hf HO]
  · isplitl [Hf]; iexact Hf
    isplitl [HO]; iexact HO
    iapply (Transfers.MayWaits.elim (SemLoc.dma sem)) $$ Hmw
  iintro ⟨⟨Hd, Hg⟩, Hv, HO⟩
  iapply Hk
  isplitl [Hg]; iexact Hg
  isplitl [Hd]
  · iapply (Entails.of_eq (pointsTo_congr (fun x hx => ?_))) $$ Hd
    rw [← hset] at hx
    obtain ⟨y, -, rfl⟩ := Finset.mem_map.mp hx
    exact View.write_emb_of_mem _ _ (Finset.mem_univ y)
  isplitl [Hv]; iexact Hv
  iexists _
  isplitr
  swap; iexact HO
  ipureintro; intro p hp'
  rcases Finset.mem_insert.mp hp' with hp' | hp'
  · exact .inr (hp' ▸ rfl)
  · exact hW' p hp'

theorem set_rows400 (o : Fin 2 → ℕ) (ho : ∀ a, o a + S400x128.size a ≤ S10000x128.size a) (r : ℕ) (h1 : o 1 = 0)
    (hr : ∀ p, o 0 ≤ p ∧ p < o 0 + 400 ↔ p / 640 = r ∧ p < 10000) :
    ((gV.slice (Rect.unit (s := S10000x128) o S400x128.size ho) (fun _ => rfl)).view.set) = rowSet r := by
  rw [show (gV.slice (Rect.unit (s := S10000x128) o S400x128.size ho) (fun _ => rfl)).view.set = (Rect.unit (s := S10000x128) o S400x128.size ho).set from View.set_slice_whole _ _]
  ext x
  rw [Rect.mem_set_unit, rowSet, Finset.mem_filter]
  have h0 : (x 0).val < 10000 := (x 0).isLt
  have h128 : (x 1).val < 128 := (x 1).isLt
  have := hr (x 0).val
  constructor
  · intro h
    exact ⟨Finset.mem_univ _, (this.mp (h 0)).1⟩
  · rintro ⟨-, h⟩ a
    fin_cases a
    · exact this.mpr ⟨h, h0⟩
    · show o 1 ≤ (x 1).val ∧ (x 1).val < o 1 + 128
      omega

theorem wp_rows400 (sem : DmaSem sig) (o : Fin 2 → ℕ) (ho : ∀ a, o a + S400x128.size a ≤ S10000x128.size a) (r : ℕ) (h1 : o 1 = 0)
    (hr : ∀ p, o 0 ≤ p ∧ p < o 0 + 400 ↔ p / 640 = r ∧ p < 10000)
    {k : PUnit → Prog (Eff F i) α} {Q : α → sProp (RR F)} {c1 c2 c3 c4 c5} (q : PosShare TreeShare) (g : S10000x128.Idx → F .f32)
    (O : CellTallies nD τ sig (HIx 1)) (W : Waits sig (HIx 1)) :
    iprop((gA.view.loc (thr dv i) ↦{q} g) ∗ (∃ f : S10000x128.Idx → F .f32, (gV.view.loc (thr dv i) ↦[rowSet r]{fullShare} f))
        ∗ semVal (thr dv i, SemLoc.dma sem) 0 ∗ Owes dv i O W ∗ Transfers.MayWaits (thr dv i) (default : HIx 1) O)
      ⊢ iprop((iprop((gA.view.loc (thr dv i) ↦{q} g) ∗ (gV.view.loc (thr dv i) ↦[rowSet r]{fullShare} g)
          ∗ semVal (thr dv i, SemLoc.dma sem) 0 ∗ Owes dv i O W) -∗ wpT dv i (k ⟨⟩) Q)
        -∗ wpT dv i (Prog.lift (.enqueueDma (gA.slice (Rect.unit (s := S10000x128) o S400x128.size ho) (fun _ => rfl))
            (.here (gV.slice (Rect.unit (s := S10000x128) o S400x128.size ho) (fun _ => rfl))) (.dma sem) c1 c2 c3) >>= fun _ =>
          Prog.lift (.waitDma2 sem (gA.slice (Rect.unit (s := S10000x128) o S400x128.size ho) (fun _ => rfl))
            (gV.slice (Rect.unit (s := S10000x128) o S400x128.size ho) (fun _ => rfl)) c4 c5) >>= k) Q) := by
  simp only [Prog.lift, Prog.bind_op, Prog.bind_ret]
  have hset := set_rows400 o ho r h1 hr
  iintro ⟨Hg, ⟨%f, Hd⟩, Hv, ⟨%W', %hW', HO⟩, #Hmw⟩ Hk
  iapply (Transfers.wp_dmaFromWhole countersEmb 𝒱₀ (thr dv i) none (src := gA.slice (Rect.unit (s := S10000x128) o S400x128.size ho) (fun _ => rfl))
    (dst := gV.slice (Rect.unit (s := S10000x128) o S400x128.size ho) (fun _ => rfl)) (q := q) (fs := g) (fd := f) (default : HIx 1)
    ((gV.slice (Rect.unit (s := S10000x128) o S400x128.size ho) (fun _ => rfl)).view.dmaCredit) rfl (show 0 < (gV.slice (Rect.unit (s := S10000x128) ![0, 0] S400x128.size (by decide)) (fun _ => rfl)).view.dmaCredit by decide) (Sd := rowSet r) (subset_of_eq hset)) $$ [Hg Hd Hv]
  · isplitl [Hg]; iexact Hg
    isplitl [Hd] <;> iassumption
  iintro Hf
  iapply (Transfers.wp_waitLocalO countersEmb 𝒱₀ (thr dv i) none (dstw := gV.slice (Rect.unit (s := S10000x128) o S400x128.size ho) (fun _ => rfl)) (default : HIx 1) rfl) $$ [Hf HO]
  · isplitl [Hf]; iexact Hf
    isplitl [HO]; iexact HO
    iapply (Transfers.MayWaits.elim (SemLoc.dma sem)) $$ Hmw
  iintro ⟨⟨Hd, Hg⟩, Hv, HO⟩
  iapply Hk
  isplitl [Hg]; iexact Hg
  isplitl [Hd]
  · iapply (Entails.of_eq (pointsTo_congr (fun x hx => ?_))) $$ Hd
    rw [← hset] at hx
    obtain ⟨y, -, rfl⟩ := Finset.mem_map.mp hx
    exact View.write_emb_of_mem _ _ (Finset.mem_univ y)
  isplitl [Hv]; iexact Hv
  iexists _
  isplitr
  swap; iexact HO
  ipureintro; intro p hp'
  rcases Finset.mem_insert.mp hp' with hp' | hp'
  · exact .inr (hp' ▸ rfl)
  · exact hW' p hp'

/-- A tile's slice of the result. -/
abbrev outWin (i : grid1.Coords) : Memref sig .scVector .hbm S40960 .f32 :=
  outA.slice (Rect.unit (s := S1310720) (k1_off81 i) S40960.size (k1_off81_inb i)) (fun _ => rfl)

theorem outWin_set : (outWin i).view.set = outSet (wid i) := by
  rw [show (outWin i).view.set = (Rect.unit (s := S1310720) (k1_off81 i) S40960.size (k1_off81_inb i)).set from View.set_slice_whole _ _]
  ext x
  rw [Rect.mem_set_unit, outSet, Finset.mem_filter]
  have e := off81_at i
  have hw := wid_lt i
  constructor
  · intro h
    have h0 : k1_off81 i 0 ≤ (x 0).val ∧ (x 0).val < k1_off81 i 0 + 40960 := h 0
    refine ⟨Finset.mem_univ _, ?_⟩
    omega
  · rintro ⟨-, h⟩ a
    obtain rfl : a = 0 := Fin.eq_zero a
    show k1_off81 i 0 ≤ (x 0).val ∧ (x 0).val < k1_off81 i 0 + 40960
    omega

theorem wp_out (sem : DmaSem sig)
    {k : PUnit → Prog (Eff F i) α} {Q : α → sProp (RR F)} {c1 c2 c3 c4 c5} (f : MB F) (h : S1310720.Idx → F .f32)
    (hh : ∀ x : S1310720.Idx, (x 0).val / 40960 = wid i → h x = f (mIx (x 0).val))
    (O : CellTallies nD τ sig (HIx 1)) (W : Waits sig (HIx 1)) :
    iprop((mV.view.loc (thr dv i) ↦{fullShare} f) ∗ (∃ fo : S1310720.Idx → F .f32, (outA.view.loc (thr dv i) ↦[outSet (wid i)]{fullShare} fo))
        ∗ semVal (thr dv i, SemLoc.dma sem) 0 ∗ Owes dv i O W ∗ Transfers.MayWaits (thr dv i) (default : HIx 1) O)
      ⊢ iprop((iprop((mV.view.loc (thr dv i) ↦{fullShare} f) ∗ (outA.view.loc (thr dv i) ↦[outSet (wid i)]{fullShare} h)
          ∗ semVal (thr dv i, SemLoc.dma sem) 0 ∗ Owes dv i O W) -∗ wpT dv i (k ⟨⟩) Q)
        -∗ wpT dv i (Prog.lift (.enqueueDma mV (.here (outWin i)) (.dma sem) c1 c2 c3) >>= fun _ =>
          Prog.lift (.waitDma2 sem mV (outWin i) c4 c5) >>= k) Q) := by
  simp only [Prog.lift, Prog.bind_op, Prog.bind_ret]
  have hset := outWin_set i
  iintro ⟨Hm, ⟨%fo, Hd⟩, Hv, ⟨%W', %hW', HO⟩, #Hmw⟩ Hk
  iapply (Transfers.wp_dmaFromWhole countersEmb 𝒱₀ (thr dv i) none (src := mV) (dst := outWin i) (q := fullShare) (fs := f) (fd := fo) (default : HIx 1)
    ((outWin i).view.dmaCredit) rfl (show 0 < (outA.slice (Rect.unit (s := S1310720) ![0] S40960.size (by decide)) (fun _ => rfl)).view.dmaCredit by decide) (Sd := outSet (wid i)) (subset_of_eq hset)) $$ [Hm Hd Hv]
  · isplitl [Hm]; iexact Hm
    isplitl [Hd] <;> iassumption
  iintro Hf
  iapply (Transfers.wp_waitLocalO countersEmb 𝒱₀ (thr dv i) none (dstw := outWin i) (default : HIx 1) rfl) $$ [Hf HO]
  · isplitl [Hf]; iexact Hf
    isplitl [HO]; iexact HO
    iapply (Transfers.MayWaits.elim (SemLoc.dma sem)) $$ Hmw
  iintro ⟨⟨Hd, Hm⟩, Hv, HO⟩
  iapply Hk
  isplitl [Hm]; iexact Hm
  isplitl [Hd]
  · iapply (Entails.of_eq (pointsTo_congr (fun x hx => ?_))) $$ Hd
    have hx' := (Finset.mem_filter.mp hx).2
    rw [hh x hx']
    have e : (outWin i).view.emb (mIx (x 0).val) = x := by
      funext a
      obtain rfl : a = 0 := Fin.eq_zero a
      apply Fin.ext
      show k1_off81 i 0 + 1 * ((x 0).val % 40960) = (x 0).val
      rw [off81_at]
      omega
    conv_lhs => rw [← e]
    exact View.write_emb_of_mem _ _ (Finset.mem_univ _)
  isplitl [Hv]; iexact Hv
  iexists _
  isplitr
  swap; iexact HO
  ipureintro; intro p hp'
  rcases Finset.mem_insert.mp hp' with hp' | hp'
  · exact .inr (hp' ▸ rfl)
  · exact hW' p hp'

end Run

end

end Cert.Proof.Seg
-- ==== Proof.Barrier.lean ====
module

public import proofs.«01_k».proof.Proof.Rows

/-! # The barrier

Before it a tile hands every tile of its SparseCore a share of its block of rows; after it a tile holds
its share of all the rows. -/

@[expose] public section

namespace Cert.Proof.Seg

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

noncomputable section

variable {F : FTy → Type} [FloatOps F] [Named F]

/-- SparseCore `c`'s shared rows. -/
abbrev shRef (c : Fin τ.nSC) : DevRef τ sig := ⟨.shared, ⟨0, by decide⟩, c⟩
abbrev shLoc (d : Dev nD) (c : Fin τ.nSC) : Loc nD τ sig := (d, shRef c)

/-- One of sixteen shares of `q`. -/
def tq (q : PosShare TreeShare) (n : ℕ) : PosShare TreeShare := ShareLeaves.leaf 4 q ⟨n % 16, Nat.mod_lt _ (by decide)⟩

theorem pts_tq {ℓ : Loc nD τ sig} (I : Finset (Idx ℓ)) (f : Buf (Elt F) ℓ) (q : PosShare TreeShare) :
    (ℓ ↦[I]{q} f : sProp (RR F)) = bigSep Finset.univ fun j : Fin 16 => ℓ ↦[I]{tq q j.val} f := by
  rw [ShareLeaves.pointsTo_leaves I f 4 q]
  refine bigSep_congr fun j _ => ?_
  unfold tq
  rw [show (⟨j.val % 16, Nat.mod_lt _ (by decide)⟩ : Fin (2 ^ 4)) = j from Fin.ext (Nat.mod_eq_of_lt j.isLt)]

theorem rows_disjoint : ∀ i ∈ (Finset.univ : Finset (Fin 16)), ∀ j ∈ (Finset.univ : Finset (Fin 16)), i ≠ j → Disjoint (rowSet i.val) (rowSet j.val) := by
  intro i _ j _ h
  rw [Finset.disjoint_left]
  intro x hi hj
  exact h (Fin.ext ((Finset.mem_filter.mp hi).2.symm.trans (Finset.mem_filter.mp hj).2))
theorem rows_cover : (Finset.univ : Finset (Fin 16)).biUnion (fun i => rowSet i.val) = Finset.univ := by
  ext x
  simp only [Finset.mem_biUnion, Finset.mem_univ, true_and, iff_true]
  have h : (x 0).val < 10000 := (x 0).isLt
  exact ⟨⟨(x 0).val / 640, by omega⟩, Finset.mem_filter.mpr ⟨Finset.mem_univ _, rfl⟩⟩

theorem pts_rows (d : Dev nD) (c : Fin τ.nSC) (q : PosShare TreeShare) (f : S10000x128.Idx → F .f32) :
    (shLoc d c ↦{q} f : sProp (RR F)) = bigSep Finset.univ fun i : Fin 16 => shLoc d c ↦[rowSet i.val]{q} f := by
  rw [← pointsTo_biUnion Finset.univ (ℓ := shLoc d c) (fun i : Fin 16 => rowSet i.val) rows_disjoint, rows_cover]

/-- A tile's barrier semaphore. -/
abbrev bcell (d : Dev nD) (c : Fin τ.nSC) (j : Fin τ.nSub) : GSem nD τ sig := (V d c j, .reg sc_bar0)

theorem sc_bar0_ne_go : (sc_bar0 : Sem sig) ≠ sc_go := by decide

def isBar (g : GSem nD τ sig) : Bool :=
  match g with
  | ((_, .scVector _ _), sm) => decide (sm = .reg sc_bar0)
  | _ => false

@[simp] theorem isBar_bcell (d : Dev nD) (c : Fin τ.nSC) (j : Fin τ.nSub) : isBar (bcell d c j) = true := by simp [isBar]

section Sched

variable (G : Dev nD → S10000x128.Idx → F .f32)

/-- What tile `n` hands over in tile `j`'s round: `j`'s share of its block of rows, holding what they should. -/
def bPay (g : GSem nD τ sig) (n : ℕ) : sProp (RR F) :=
  match g with
  | ((d, .scVector c j), _) => iprop(shLoc d c ↦[rowSet n]{tq fullShare j.val} G d)
  | _ => iprop(emp)

/-- One round on each cell, of one unit from each tile. -/
def bRd : Rounds.Schedule (GSem nD τ sig) ℕ (RR F) where
  duties g r := if isBar g ∧ r = 0 then (Finset.univ : Finset (Fin τ.nSub)).image Fin.val else ∅
  amount _ _ _ := 1
  payload g _ n := bPay G g n
  amount_pos _ _ _ _ := Nat.one_pos

instance bRd_payload_storable (g : GSem nD τ sig) (r n : ℕ) : BI.Storable (upEmb : UEmb _ (RR F)) ((bRd G).payload g r n) := by
  show BI.Storable upEmb (bPay G g n)
  unfold bPay
  rcases g with ⟨⟨d, _ | c | ⟨c, i⟩⟩, sm⟩ <;> dsimp only <;> infer_instance

theorem bRd_duties₀ (d : Dev nD) (c : Fin τ.nSC) (j : Fin τ.nSub) : (bRd G).duties (bcell d c j) 0 = (Finset.univ : Finset (Fin τ.nSub)).image Fin.val := by
  simp [bRd, isBar]
theorem bRd_duties_succ (g : GSem nD τ sig) (r : ℕ) (hr : 1 ≤ r) : (bRd G).duties g r = ∅ :=
  if_neg fun h => absurd h.2 (Nat.ne_of_gt hr)
theorem bRd_mem₀ (d : Dev nD) (c : Fin τ.nSC) (j i : Fin τ.nSub) : i.val ∈ (bRd G).duties (bcell d c j) 0 := by
  rw [bRd_duties₀]; exact Finset.mem_image_of_mem _ (Finset.mem_univ i)
theorem bRd_expect (d : Dev nD) (c : Fin τ.nSC) (j : Fin τ.nSub) : 0 + grid1.bound 1 = (bRd G).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

end Sched

/-- What a tile owes: a unit on every cell of its SparseCore. -/
def oxV (d : Dev nD) (c : Fin τ.nSC) : CellTallies nD τ sig (HIx 1) := ∑ j : Fin (grid1.bound 1), tallyAt (bcell d c (j.castLE hsub1)) (some 0) 1

theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

theorem oxV_apply_pos {d : Dev nD} {c : Fin τ.nSC} {g : GSem nD τ sig} {ι : HIx 1} (h : 0 < oxV d c g ι) : ∃ j : Fin (grid1.bound 1), g = bcell d c (j.castLE hsub1) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- What the launch deals a tile for its barrier. -/
def bkit (G : Dev nD → S10000x128.Idx → F .f32) (d : Dev nD) (c : Fin τ.nSC) (i : Fin τ.nSub) : sProp (RR F) :=
  iprop((∃ κ : GSem nD τ sig → ℕ, bigSep Finset.univ fun j : Fin (grid1.bound 1) =>
      cellInv EB (bRd G) (κ (bcell d c (j.castLE hsub1))) (bcell d c (j.castLE hsub1)))
    ∗ (bigSep Finset.univ fun j : Fin (grid1.bound 1) => dutyTok EB (bcell d c (j.castLE hsub1)) 0 i.val)
    ∗ (bigSep Finset.univ fun j : Fin (grid1.bound 1) => reached EB (bcell d c (j.castLE hsub1)) 0)
    ∗ atPos EB (bcell d c i) 0 ∅ 0
    ∗ cred (tallyAt (bcell d c i) (some 0) (grid1.bound 1)))

section Run

variable (G : Dev nD → S10000x128.Idx → F .f32) (dv : Dev nD) (i : grid1.Coords) {α : Type}

abbrev cV (i : grid1.Coords) : Fin τ.nSC := (i 0).castLE hcore1
abbrev jV (i : grid1.Coords) : Fin τ.nSub := (i 1).castLE hsub1

theorem pays_intro : (gV.view.loc (thr dv i) ↦[rowSet (i 1).val]{fullShare} G dv : sProp (RR F))
    ⊢ (bigSep Finset.univ fun j : Fin (grid1.bound 1) => (bRd G).payload (bcell dv (cV i) (j.castLE hsub1)) 0 (jV i).val) :=
  Entails.of_eq (pts_tq (F := F) (ℓ := shLoc dv (cV i)) (rowSet (i 1).val) (G dv) fullShare)

theorem pays_elim : (bigSep ((bRd G).duties (bcell dv (cV i) (jV i)) 0 \ ∅) fun n => (bRd G).payload (bcell dv (cV i) (jV i)) 0 n)
    ⊢ (gV.view.loc (thr dv i) ↦{tq fullShare (i 1).val} G dv : sProp (RR F)) := by
  rw [Finset.sdiff_empty, bRd_duties₀, SparseCore.bigSep_image_of_injOn (fun a _ b _ e => Fin.val_injective e)]
  exact Entails.of_eq (pts_rows (F := F) dv (cV i) (tq fullShare (i 1).val) (G dv)).symm

/-- The barrier's part of a tile. -/
theorem wp_barrier {k : PUnit → Prog (Eff F i) α} {Q : α → sProp (RR F)}
    (O : CellTallies nD τ sig (HIx 1)) (W : Waits sig (HIx 1))
    (hOlev : ∀ g ι, 0 < O g ι → 8 * (0 : Fin 1).val + 6 ≤ (K (F := F)).lev g ι) :
    iprop(levAts (K (F := F)).L (K (F := F)).lev ∗ bkit G dv (cV i) (jV i) ∗ (gV.view.loc (thr dv i) ↦[rowSet (i 1).val]{fullShare} G dv)
        ∗ owes (thr dv i) (O + oxV dv (cV i)) W)
      ⊢ iprop((iprop((gV.view.loc (thr dv i) ↦{tq fullShare (i 1).val} G dv) ∗ semVal (bcell dv (cV i) (jV i)) 0
          ∗ ∃ W' : Waits sig (HIx 1), ⌜∀ p ∈ W', p ∈ W ∨ p.2 = some (0 : Fin 1)⌝ ∗ owes (thr dv i) O W') -∗ wpT dv i (k ⟨⟩) Q)
        -∗ wpT dv i (SparseCore.subcoreBarrier sc_bar0 (grid1.bound 1) hsub1 >>= k) Q) := by
  unfold bkit
  iintro ⟨#Hlv, ⟨⟨%κ, #Hinv⟩, Htoks, #Hrch, Hat, Hcred⟩, Hrows, HO⟩ Hk
  ihave Hpays := (pays_intro G dv i) $$ Hrows
  iapply (SparseCore.wp_subcoreBarrier 𝒱₀ none EB (bRd G) dv (sc := cV i) (i := jV i) sc_bar0 (grid1.bound 1) hsub1 (i 1) rfl κ (fun _ => 0) (jV i).val
      (fun j => bRd_mem₀ G dv _ _ _) (fun _ => rfl) (bRd_expect G dv _ _) (some 0) O _) $$ [HO Htoks Hpays Hcred Hat]
  · isplitr; iexact Hinv
    isplitl [HO]; iexact HO
    isplitl [Htoks Hpays]
    · rw [bigSep_sep', bigSep_sep']
      isplitl [Htoks]; iexact Htoks
      isplitl [Hpays]; iexact Hpays
      iexact Hrch
    isplitl [Hcred]; iexact Hcred
    isplitl [Hat]; iexact Hat
    iapply ((K (F := F)).mayOwe_of_bound (thr := V dv (cV i) (jV i)) 3 (fun p hp => by
        rw [Finset.mem_singleton] at hp; subst hp
        show (K (F := F)).lev (bcell dv (cV i) (jV i)) (some 0) ≤ 3
        rw [(K (F := F)).lev_V_reg dv _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  imod (Rounds.cell_close EB (bRd G) (g := bcell dv (cV i) (jV i)) (Set.mem_univ (κ _)) (fun h => h) (bRd_duties_succ G _)) $$ [Hat] with Hbar
  · isplitr
    · iapply (SparseCore.ent (bigSep_elim (Φ := fun j : Fin (grid1.bound 1) =>
        (cellInv EB (bRd G) (κ (bcell dv (cV i) (j.castLE hsub1))) (bcell dv (cV i) (j.castLE hsub1)) : sProp (RR F))) (Finset.mem_univ (i 1)))); iexact Hinv
    · iexact Hat
  ihave Hg := (pays_elim G dv i) $$ Hgot
  iapply Hk
  isplitl [Hg]; iexact Hg
  isplitl [Hbar]; iexact Hbar
  iexists _
  isplitr
  swap; iexact HO
  ipureintro; intro p hp
  rcases Finset.mem_insert.mp hp with hp | hp
  · exact .inr (hp ▸ rfl)
  · exact .inl hp

end Run

end

end Cert.Proof.Seg
-- ==== Proof.Tile.lean ====
module

public import proofs.«01_k».proof.Proof.Barrier

/-! # A tile

Its block of rows, the barrier, the chunks, and its maxima copied out. -/

@[expose] public section

namespace Cert.Proof.Seg

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

noncomputable section

variable {F : FTy → Type} [FloatOps F] [Named F]

theorem bhalf_disj : Disjoint (bhalf 0) (bhalf 1) := by
  rw [Finset.disjoint_left]
  intro x h0 h1
  have := (Finset.mem_filter.mp h0).2.symm.trans (Finset.mem_filter.mp h1).2
  omega
theorem bhalf_union : bhalf 0 ∪ bhalf 1 = Finset.univ := by
  ext x
  have h : (x 0).val < 2 := (x 0).isLt
  simp only [Finset.mem_union, Finset.mem_univ, iff_true, bhalf, Finset.mem_filter, true_and]
  omega
theorem half_disj : Disjoint (half 0) (half 1) := by
  rw [Finset.disjoint_left]
  intro x h0 h1
  have := (Finset.mem_filter.mp h0).2.symm.trans (Finset.mem_filter.mp h1).2
  omega
theorem half_union : half 0 ∪ half 1 = Finset.univ := by
  ext x
  have h : (x 0).val < 2 := (x 0).isLt
  simp only [Finset.mem_union, Finset.mem_univ, iff_true, half, Finset.mem_filter, true_and]
  omega

/-- What the call leaves: at each element, the fold over all the edges. -/
def outV (g : S10000x128.Idx → F .f32) (a b : S320256.Idx → BitVec 32) : S1310720.Idx → F .f32 := fun x =>
  edgeFold (word (320 * ((x 0).val / 40960))) g a b (fun _ => negC) 320256 (mIx (x 0).val)

section Run

variable (dv : Dev nD) (i : grid1.Coords) {α : Type}

theorem halves_s : iprop((∃ f : S2x768.Idx → BitVec 32, (sV.view.loc (thr dv i) ↦[bhalf 0]{fullShare} f)) ∗ ∃ f : S2x768.Idx → BitVec 32, (sV.view.loc (thr dv i) ↦[bhalf 1]{fullShare} f))
    ⊢ (iprop(∃ f : S2x768.Idx → BitVec 32, (sV.view.loc (thr dv i) ↦{fullShare} f)) : sProp (RR F)) := by
  iintro ⟨⟨%f, H0⟩, %f', H1⟩
  iexists ((bhalf 1).piecewise f' f)
  ihave H := (pointsTo_join (ℓ := sV.view.loc (thr dv i)) bhalf_disj) $$ [H0 H1]
  · isplitl [H0] <;> iassumption
  rw [bhalf_union]
  iexact H
theorem halves_t : iprop((∃ f : S2x768.Idx → BitVec 32, (tV.view.loc (thr dv i) ↦[bhalf 0]{fullShare} f)) ∗ ∃ f : S2x768.Idx → BitVec 32, (tV.view.loc (thr dv i) ↦[bhalf 1]{fullShare} f))
    ⊢ (iprop(∃ f : S2x768.Idx → BitVec 32, (tV.view.loc (thr dv i) ↦{fullShare} f)) : sProp (RR F)) := by
  iintro ⟨⟨%f, H0⟩, %f', H1⟩
  iexists ((bhalf 1).piecewise f' f)
  ihave H := (pointsTo_join (ℓ := tV.view.loc (thr dv i)) bhalf_disj) $$ [H0 H1]
  · isplitl [H0] <;> iassumption
  rw [bhalf_union]
  iexact H
theorem halves_r : iprop((∃ f : S2x16x128.Idx → F .f32, (rV.view.loc (thr dv i) ↦[half 0]{fullShare} f)) ∗ ∃ f : S2x16x128.Idx → F .f32, (rV.view.loc (thr dv i) ↦[half 1]{fullShare} f))
    ⊢ (iprop(∃ f : S2x16x128.Idx → F .f32, (rV.view.loc (thr dv i) ↦{fullShare} f)) : sProp (RR F)) := by
  iintro ⟨⟨%f, H0⟩, %f', H1⟩
  iexists ((half 1).piecewise f' f)
  ihave H := (pointsTo_join (ℓ := rV.view.loc (thr dv i)) half_disj) $$ [H0 H1]
  · isplitl [H0] <;> iassumption
  rw [half_union]
  iexact H

/-- After the last chunk nothing is on its way. -/
theorem chunk_end {O : CellTallies nD τ sig (HIx 1)} {W : Waits sig (HIx 1)} {qg0 qg1 q0 q1 : PosShare TreeShare} {g : S10000x128.Idx → F .f32}
    {a b : S320256.Idx → BitVec 32} {v2 : BitVec 32} {m : MB F} :
    ChunkInv dv i O W qg0 qg1 q0 q1 g a b v2 m 417 ⊢ iprop(Owes dv i O W ∗ Transfers.MayWaits (thr dv i) (default : HIx 1) O
      ∗ (mV.view.loc (thr dv i) ↦{fullShare} edgeFold v2 g a b m 320256) ∗ Lists dv i
      ∗ RowsIdle dv i cc1_scratch9.sem 0 qg0 g ∗ RowsIdle dv i cc1_scratch10.sem 1 qg1 g
      ∗ EdgesIdle dv i cc1_scratch8.sem 1 q1 a b ∗ EdgesIdle dv i cc1_scratch7.sem 0 q0 a b) := by
  unfold ChunkInv ESlots
  rw [if_neg (show ¬ 417 % 2 = 0 by decide), CurE, if_neg (show ¬ 417 < 417 by decide)]

variable (G : Dev nD → S10000x128.Idx → F .f32)

/-- What a tile has before the barrier. -/
abbrev HeadPre (q : PosShare TreeShare) (O : CellTallies nD τ sig (HIx 1)) (W : Waits sig (HIx 1)) : sProp (RR F) :=
  iprop(levAts (K (F := F)).L (K (F := F)).lev ∗ bkit G dv (cV i) (jV i) ∗ (gA.view.loc (thr dv i) ↦{q} G dv)
    ∗ (∃ f : S10000x128.Idx → F .f32, (gV.view.loc (thr dv i) ↦[rowSet (i 1).val]{fullShare} f))
    ∗ (∃ f : S40960.Idx → F .f32, (mV.view.loc (thr dv i) ↦{fullShare} f))
    ∗ semVal (thr dv i, SemLoc.dma cc1_scoped0.sem) 0 ∗ semVal (thr dv i, SemLoc.dma cc1_scoped1.sem) 0
    ∗ owes (thr dv i) (O + oxV dv (cV i)) W)
/-- What it has once the maxima are set. -/
abbrev HeadPost (q : PosShare TreeShare) (O : CellTallies nD τ sig (HIx 1)) (W : Waits sig (HIx 1)) : sProp (RR F) :=
  iprop((gA.view.loc (thr dv i) ↦{q} G dv) ∗ (gV.view.loc (thr dv i) ↦{tq fullShare (i 1).val} G dv)
    ∗ (mV.view.loc (thr dv i) ↦{fullShare} (fun _ => negC : S40960.Idx → F .f32))
    ∗ semVal (thr dv i, SemLoc.dma cc1_scoped0.sem) 0 ∗ semVal (thr dv i, SemLoc.dma cc1_scoped1.sem) 0
    ∗ semVal (bcell dv (cV i) (jV i)) 0
    ∗ ∃ W' : Waits sig (HIx 1), ⌜∀ p ∈ W', p ∈ W ∨ p.2 = none ∨ p.2 = some (0 : Fin 1)⌝ ∗ owes (thr dv i) O W')

/-- The barrier and the setting of the maxima. -/
theorem wp_afterRows {k : Unit → Prog (Eff F i) α} {Q : α → sProp (RR F)} {hok} (q : PosShare TreeShare)
    (O : CellTallies nD τ sig (HIx 1)) (W : Waits sig (HIx 1))
    (hOlev : ∀ g ι, 0 < O g ι → 8 * (0 : Fin 1).val + 6 ≤ (K (F := F)).lev g ι) :
    iprop(levAts (K (F := F)).L (K (F := F)).lev ∗ bkit G dv (cV i) (jV i) ∗ (gA.view.loc (thr dv i) ↦{q} G dv)
        ∗ (gV.view.loc (thr dv i) ↦[rowSet (i 1).val]{fullShare} G dv)
        ∗ (∃ f : S40960.Idx → F .f32, (mV.view.loc (thr dv i) ↦{fullShare} f))
        ∗ semVal (thr dv i, SemLoc.dma cc1_scoped0.sem) 0 ∗ semVal (thr dv i, SemLoc.dma cc1_scoped1.sem) 0
        ∗ Owes dv i (O + oxV dv (cV i)) W)
      ⊢ iprop((HeadPost dv i G q O W -∗ wpT dv i (k ⟨⟩) Q)
        -∗ wpT dv i (SparseCore.subcoreBarrier sc_bar0 (grid1.bound 1) hsub1 >>= fun _ =>
          Scf.Loop.for k1_t1_loop hok ⟨⟩ (initBody (F := F) i) >>= k) Q) := by
  iintro ⟨#Hlv, Hkit, Hg, Hrows, Hm, Hv0, Hv1, ⟨%W', %hW', HO⟩⟩ Hk
  iapply (wp_barrier G dv i O W' hOlev) $$ [Hkit Hrows HO]
  · isplitr; iexact Hlv
    isplitl [Hkit]; iexact Hkit
    isplitl [Hrows] <;> iassumption
  iintro ⟨Hgv, Hbar, ⟨%W₁, %hW₁, HO⟩⟩
  iapply (wp_init dv i) $$ Hm
  iintro Hm
  iapply Hk
  isplitl [Hg]; iexact Hg
  isplitl [Hgv]; iexact Hgv
  isplitl [Hm]; iexact Hm
  isplitl [Hv0]; iexact Hv0
  isplitl [Hv1]; iexact Hv1
  isplitl [Hbar]; iexact Hbar
  iexists W₁
  isplitr
  swap; iexact HO
  ipureintro; intro p hp
  rcases hW₁ p hp with h | h
  · rcases hW' p h with h | h
    · exact .inl h
    · exact .inr (.inl h)
  · exact .inr (.inr h)

set_option maxHeartbeats 1000000 in
/-- The first part of a tile. -/
theorem wp_head {k : _ → Prog (Eff F i) α} {Q : α → sProp (RR F)} (q : PosShare TreeShare)
    (O : CellTallies nD τ sig (HIx 1)) (W : Waits sig (HIx 1)) (hO : ∀ g, O g none = 0)
    (hOlev : ∀ g ι, 0 < O g ι → 8 * (0 : Fin 1).val + 6 ≤ (K (F := F)).lev g ι) :
    HeadPre dv i G q O W
      ⊢ iprop((HeadPost dv i G q O W -∗ wpT dv i (k ⟨word (320 * wid i), k1_pay108, k1_pay109, k1_pay110, k1_pay111, k1_pay112, k1_pay113, k1_pay114, k1_pay115, k1_pay116, 0#32, 49#32⟩) Q)
        -∗ wpT dv i (k1_part19_skel (F := F) i srcA (Memref.isWhole_whole _) dstA (Memref.isWhole_whole _) gA (Memref.isWhole_whole _) outA (Memref.isWhole_whole _) mV (Memref.isWhole_whole _) sV (Memref.isWhole_whole _) tV (Memref.isWhole_whole _) lV (Memref.isWhole_whole _) dV (Memref.isWhole_whole _) rV (Memref.isWhole_whole _) gV (Memref.isWhole_whole _) cc1_scratch7 cc1_scratch8 cc1_scratch9 cc1_scratch10 cc1_scoped0 cc1_scoped1 cc1_scoped2 >>= k) Q) := by
  have hlt : (i 1).val < 16 := (i 1).isLt
  have hO' : ∀ g, (O + oxV dv (cV i)) g none = 0 := fun g => by rw [Pi.add_apply, Finsupp.add_apply, hO g, oxV_none]
  unfold k1_part19_skel
  rw [← base_at i]
  by_cases h : (i 1).val < 15
  · have h1 : k1_cond1 i = 1#1 := (cond1_iff i).mpr h
    have h2 : ¬ (Scalar.cmpi .ne (Scalar.extui (Scalar.cmpi .eq (BitVec.ofNat 32 (i 1).val) 15#32) : BitVec 32) 0#32 = 1#1) := by rw [cond2_iff]; omega
    simp only [dif_pos h1, dif_neg h2, Prog.bind_assoc, Prog.bind_ret, Prog.pure_eq_ret]
    iintro ⟨#Hlv, Hkit, Hg, Hrows, Hm, Hv0, Hv1, HO⟩ Hk
    ihave Hmw := (show levAts (K (F := F)).L (K (F := F)).lev ⊢ Transfers.MayWaits (thr dv i) (default : HIx 1) (O + oxV dv (cV i)) from
      (K (F := F)).mayWaits_none (thr := thr dv i) hO') $$ Hlv
    iapply (wp_rows640 dv i cc1_scoped0.sem (k1_off1 i) _ (i 1).val rfl (fun p => by rw [off1_at]; omega) q (G dv) (O + oxV dv (cV i)) W) $$ [Hg Hrows Hv0 HO Hmw]
    · isplitl [Hg]; iexact Hg
      isplitl [Hrows]; iexact Hrows
      isplitl [Hv0]; iexact Hv0
      isplitl [HO]
      · iexists W
        isplitr
        · ipureintro; exact fun p hp => .inl hp
        · iexact HO
      iexact Hmw
    iintro ⟨Hg, Hrows, Hv0, HO⟩
    iapply (wp_afterRows dv i G q O W hOlev) $$ [Hkit Hg Hrows Hm Hv0 Hv1 HO]
    · isplitr; iexact Hlv
      isplitl [Hkit]; iexact Hkit
      isplitl [Hg]; iexact Hg
      isplitl [Hrows]; iexact Hrows
      isplitl [Hm]; iexact Hm
      isplitl [Hv0]; iexact Hv0
      isplitl [Hv1] <;> iassumption
    iexact Hk
  · have h1 : ¬ k1_cond1 i = 1#1 := by rw [cond1_iff]; exact h
    have h2 : (Scalar.cmpi .ne (Scalar.extui (Scalar.cmpi .eq (BitVec.ofNat 32 (i 1).val) 15#32) : BitVec 32) 0#32 = 1#1) := by rw [cond2_iff]; omega
    simp only [dif_neg h1, dif_pos h2, Prog.bind_assoc, Prog.bind_ret, Prog.pure_eq_ret]
    iintro ⟨#Hlv, Hkit, Hg, Hrows, Hm, Hv0, Hv1, HO⟩ Hk
    ihave Hmw := (show levAts (K (F := F)).L (K (F := F)).lev ⊢ Transfers.MayWaits (thr dv i) (default : HIx 1) (O + oxV dv (cV i)) from
      (K (F := F)).mayWaits_none (thr := thr dv i) hO') $$ Hlv
    iapply (wp_rows400 dv i cc1_scoped1.sem ![9600, 0] _ (i 1).val rfl (fun p => by
      show 9600 ≤ p ∧ p < 9600 + 400 ↔ _
      omega) q (G dv) (O + oxV dv (cV i)) W) $$ [Hg Hrows Hv1 HO Hmw]
    · isplitl [Hg]; iexact Hg
      isplitl [Hrows]; iexact Hrows
      isplitl [Hv1]; iexact Hv1
      isplitl [HO]
      · iexists W
        isplitr
        · ipureintro; exact fun p hp => .inl hp
        · iexact HO
      iexact Hmw
    iintro ⟨Hg, Hrows, Hv1, HO⟩
    iapply (wp_afterRows dv i G q O W hOlev) $$ [Hkit Hg Hrows Hm Hv0 Hv1 HO]
    · isplitr; iexact Hlv
      isplitl [Hkit]; iexact Hkit
      isplitl [Hg]; iexact Hg
      isplitl [Hrows]; iexact Hrows
      isplitl [Hm]; iexact Hm
      isplitl [Hv0]; iexact Hv0
      isplitl [Hv1] <;> iassumption
    iexact Hk

/-- What a tile is given. -/
abbrev TileIn (q : PosShare TreeShare) (a b : S320256.Idx → BitVec 32) : sProp (RR F) :=
  iprop((srcA.view.loc (thr dv i) ↦{q} a) ∗ (dstA.view.loc (thr dv i) ↦{q} b) ∗ (gA.view.loc (thr dv i) ↦{q} G dv)
    ∗ (∃ fo : S1310720.Idx → F .f32, (outA.view.loc (thr dv i) ↦[outSet (wid i)]{fullShare} fo))
    ∗ ∃ f : S10000x128.Idx → F .f32, (gV.view.loc (thr dv i) ↦[rowSet (i 1).val]{fullShare} f))
/-- What it gives back. -/
abbrev TileOut (q : PosShare TreeShare) (a b : S320256.Idx → BitVec 32) : sProp (RR F) :=
  iprop((srcA.view.loc (thr dv i) ↦{q} a) ∗ (dstA.view.loc (thr dv i) ↦{q} b) ∗ (gA.view.loc (thr dv i) ↦{q} G dv)
    ∗ (outA.view.loc (thr dv i) ↦[outSet (wid i)]{fullShare} outV (G dv) a b)
    ∗ (gV.view.loc (thr dv i) ↦{tq fullShare (i 1).val} G dv) ∗ semVal (bcell dv (cV i) (jV i)) 0)
/-- Its own buffers. -/
abbrev TileBufs : sProp (RR F) :=
  iprop((∃ f : S40960.Idx → F .f32, (mV.view.loc (thr dv i) ↦{fullShare} f)) ∗ (∃ f : S2x768.Idx → BitVec 32, (sV.view.loc (thr dv i) ↦{fullShare} f))
    ∗ (∃ f : S2x768.Idx → BitVec 32, (tV.view.loc (thr dv i) ↦{fullShare} f)) ∗ (∃ f : S784.Idx → BitVec 32, (lV.view.loc (thr dv i) ↦{fullShare} f))
    ∗ (∃ f : S784.Idx → BitVec 32, (dV.view.loc (thr dv i) ↦{fullShare} f)) ∗ (∃ f : S2x16x128.Idx → F .f32, (rV.view.loc (thr dv i) ↦{fullShare} f)))
/-- Its own semaphores. -/
abbrev TileSems : sProp (RR F) :=
  iprop(semVal (thr dv i, SemLoc.dma cc1_scratch7.sem) 0 ∗ semVal (thr dv i, SemLoc.dma cc1_scratch8.sem) 0
    ∗ semVal (thr dv i, SemLoc.dma cc1_scratch9.sem) 0 ∗ semVal (thr dv i, SemLoc.dma cc1_scratch10.sem) 0
    ∗ semVal (thr dv i, SemLoc.dma cc1_scoped0.sem) 0 ∗ semVal (thr dv i, SemLoc.dma cc1_scoped1.sem) 0 ∗ semVal (thr dv i, SemLoc.dma cc1_scoped2.sem) 0)

set_option maxHeartbeats 2000000 in
/-- A tile's run. -/
theorem tile_run (q : PosShare TreeShare) (a b : S320256.Idx → BitVec 32) (ha : ∀ e, (flat a e).toNat < 10000)
    (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit G dv (cV i) (jV i) ∗ TileIn dv i G q a b ∗ TileBufs dv i ∗ TileSems dv i
        ∗ owes (thr dv i) (O + oxV dv (cV i)) W)
      ⊢ wpT dv i (cc1_sc_segmax_skel (F := F) i srcA (Memref.isWhole_whole _) dstA (Memref.isWhole_whole _) gA (Memref.isWhole_whole _) outA (Memref.isWhole_whole _) mV (Memref.isWhole_whole _) sV (Memref.isWhole_whole _) tV (Memref.isWhole_whole _) lV (Memref.isWhole_whole _) dV (Memref.isWhole_whole _) rV (Memref.isWhole_whole _) gV (Memref.isWhole_whole _) cc1_scratch7 cc1_scratch8 cc1_scratch9 cc1_scratch10 cc1_scoped0 cc1_scoped1 cc1_scoped2) fun _ => iprop(TileOut dv i G q a b ∗ TileBufs dv i ∗ TileSems dv i
          ∗ ∃ W' : Waits sig (HIx 1), ⌜∀ p ∈ W', p ∈ W ∨ p.2 = none ∨ p.2 = some (0 : Fin 1)⌝ ∗ owes (thr dv i) O W') := by
  unfold cc1_sc_segmax_skel
  simp only [k1_part19_eq_skeleton]
  iintro ⟨#Hlv, Hkit, ⟨Ha, Hb, Hg, Hout, Hrows⟩, ⟨Hm, ⟨%fs, Hs⟩, ⟨%ft, Ht⟩, Hl, Hd, ⟨%fr, Hr⟩⟩, ⟨Hv7, Hv8, Hv9, Hv10, Hw0, Hw1, Hw2⟩, HO⟩
  ihave Hmw := (show levAts (K (F := F)).L (K (F := F)).lev ⊢ Transfers.MayWaits (thr dv i) (default : HIx 1) O from
    (K (F := F)).mayWaits_none (thr := thr dv i) hO) $$ Hlv
  icases Hmw with #Hmw
  iapply (wp_head dv i G q O W hO hOlev) $$ [Hkit Hg Hrows Hm Hw0 Hw1 HO]
  · isplitr; iexact Hlv
    isplitl [Hkit]; iexact Hkit
    isplitl [Hg]; iexact Hg
    isplitl [Hrows]; iexact Hrows
    isplitl [Hm]; iexact Hm
    isplitl [Hw0]; iexact Hw0
    isplitl [Hw1] <;> iassumption
  iintro ⟨Hg, Hgv, Hm, Hw0, Hw1, Hbar, ⟨%W₁, %hW₁, HO⟩⟩
  dsimp only
  iapply (wp_zero dv i) $$ [Hl Hd]
  · isplitl [Hl] <;> iassumption
  iintro Hlists
  ihave ⟨Ha0, Ha1⟩ := (pointsTo_share (PosShare.mem_left_op_right q)).1 $$ Ha
  ihave ⟨Hb0, Hb1⟩ := (pointsTo_share (PosShare.mem_left_op_right q)).1 $$ Hb
  ihave ⟨Hg0, Hg1⟩ := (pointsTo_share (PosShare.mem_left_op_right (tq fullShare (i 1).val))).1 $$ Hgv
  rw [← bhalf_union, ← half_union]
  ihave ⟨Hs0, Hs1⟩ := (pointsTo_union bhalf_disj).1 $$ Hs
  ihave ⟨Ht0, Ht1⟩ := (pointsTo_union bhalf_disj).1 $$ Ht
  ihave ⟨Hr0, Hr1⟩ := (pointsTo_union half_disj).1 $$ Hr
  iapply (wp_fetch dv i cc1_scratch7.sem 0 0 inb_S2x768_S1x768_0_0 ![0] inb_S320256_S768_0 rfl q.left a b (fun _ => True) (fun _ => True)) $$ [Hs0 Ht0 Ha0 Hb0 Hv7]
  · isplitr [Hv7]; swap; iexact Hv7
    unfold Edges
    isplitl [Hs0]
    · iexists fs
      isplitr
      · ipureintro; trivial
      · iexact Hs0
    isplitl [Ht0]
    · iexists ft
      isplitr
      · ipureintro; trivial
      · iexact Ht0
    isplitl [Ha0] <;> iassumption
  iintro Hfetch
  iapply (Scf.wp_for_bind frame (wpE (defs₀ (F := F)) 𝒱₀ (thr dv i) none) Set.univ _ _ _ k1_t3_ok ⟨⟩ _
    (fun n (_ : Unit) => ChunkInv (F := F) dv i O W₁ (tq fullShare (i 1).val).left (tq fullShare (i 1).val).right q.left q.right (G dv) a b (word (320 * wid i)) (fun _ => negC) n)
    (fun t u => chunk_step dv i cols_pay t u O W₁ _ _ _ _ (G dv) a b (word (320 * wid i)) (fun _ => negC) ha)) $$ [HO Hm Hlists Hr0 Hr1 Hg0 Hg1 Hv9 Hv10 Hfetch Hs1 Ht1 Ha1 Hb1 Hv8]
  · isplitl [HO]
    · iexists W₁
      isplitr
      · ipureintro; exact fun p hp => .inl hp
      · iexact HO
    isplitr; iexact Hmw
    isplitl [Hm]; iexact Hm
    isplitl [Hlists]; iexact Hlists
    unfold RowsIdle
    isplitl [Hr0 Hg0 Hv9]
    · isplitl [Hr0]
      · iexists fr; iexact Hr0
      isplitl [Hg0] <;> iassumption
    isplitl [Hr1 Hg1 Hv10]
    · isplitl [Hr1]
      · iexists fr; iexact Hr1
      isplitl [Hg1] <;> iassumption
    rw [ESlots, if_pos (show 0 % 2 = 0 from rfl), CurE, if_pos (show 0 < 417 by decide)]
    isplitl [Hfetch]; iexact Hfetch
    isplitr [Hv8]; swap; iexact Hv8
    unfold Edges
    isplitl [Hs1]
    · iexists fs
      isplitr
      · ipureintro; trivial
      · iexact Hs1
    isplitl [Ht1]
    · iexists ft
      isplitr
      · ipureintro; trivial
      · iexact Ht1
    isplitl [Ha1] <;> iassumption
  iintro %u H
  rw [show Scf.trips k1_t3_loop.lb k1_t3_loop.ub k1_t3_loop.st = k1_t3_loop.trips from rfl, t3_trips]
  ihave H := (chunk_end dv i) $$ H
  unfold RowsIdle EdgesIdle Edges
  icases H with ⟨HO, -, Hm, Hlists, ⟨Hr0, Hg0, Hv9⟩, ⟨Hr1, Hg1, Hv10⟩, ⟨⟨⟨%fs1, %_, Hs1⟩, ⟨%ft1, %_, Ht1⟩, Ha1, Hb1⟩, Hv8⟩, ⟨⟨%fs0, %_, Hs0⟩, ⟨%ft0, %_, Ht0⟩, Ha0, Hb0⟩, Hv7⟩
  iapply (wp_out dv i cc1_scoped2.sem _ (outV (G dv) a b) (fun x hx => by
    unfold outV; rw [hx]) O W₁) $$ [Hm Hout Hw2 HO]
  · isplitl [Hm]; iexact Hm
    isplitl [Hout]; iexact Hout
    isplitl [Hw2]; iexact Hw2
    isplitl [HO]; iexact HO
    iexact Hmw
  iintro ⟨Hm, Hout, Hw2, ⟨%W₂, %hW₂, HO⟩⟩
  simp only [Prog.pure_eq_ret, wp_ret]
  imodintro
  isplitl [Ha0 Ha1 Hb0 Hb1 Hg Hout Hg0 Hg1 Hbar]
  · isplitl [Ha0 Ha1]
    · iapply (pointsTo_share (PosShare.mem_left_op_right q)).2
      isplitl [Ha0] <;> iassumption
    isplitl [Hb0 Hb1]
    · iapply (pointsTo_share (PosShare.mem_left_op_right q)).2
      isplitl [Hb0] <;> iassumption
    isplitl [Hg]; iexact Hg
    isplitl [Hout]; iexact Hout
    isplitr [Hbar]; swap; iexact Hbar
    iapply (pointsTo_share (PosShare.mem_left_op_right (tq fullShare (i 1).val))).2
    isplitl [Hg0] <;> iassumption
  isplitl [Hm Hs0 Hs1 Ht0 Ht1 Hlists Hr0 Hr1]
  · isplitl [Hm]
    · iexists _; iexact Hm
    isplitl [Hs0 Hs1]
    · iapply (halves_s dv i)
      isplitl [Hs0]
      · iexists fs0; iexact Hs0
      · iexists fs1; iexact Hs1
    isplitl [Ht0 Ht1]
    · iapply (halves_t dv i)
      isplitl [Ht0]
      · iexists ft0; iexact Ht0
      · iexists ft1; iexact Ht1
    unfold Lists
    icases Hlists with ⟨%ml, %md, %_, Hl, Hd⟩
    isplitl [Hl]
    · iexists ml; iexact Hl
    isplitl [Hd]
    · iexists md; iexact Hd
    iapply (halves_r dv i)
    isplitl [Hr0] <;> iassumption
  isplitl [Hv7 Hv8 Hv9 Hv10 Hw0 Hw1 Hw2]
  · isplitl [Hv7]; iexact Hv7
    isplitl [Hv8]; iexact Hv8
    isplitl [Hv9]; iexact Hv9
    isplitl [Hv10]; iexact Hv10
    isplitl [Hw0]; iexact Hw0
    isplitl [Hw1] <;> iassumption
  iexists W₂
  isplitr
  swap; iexact HO
  ipureintro; intro p hp
  rcases hW₂ p hp with h | h
  · exact hW₁ p h
  · exact .inr (.inl h)

end Run

end

end Cert.Proof.Seg
-- ==== Proof.Call.lean ====
module

public import proofs.«01_k».proof.Proof.Tile

/-! # The call

What a tile owns, what the call hands each SparseCore and each tile, and how a SparseCore's part splits over its tiles. -/

@[expose] public section

namespace Cert.Proof.Seg

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

noncomputable section

variable {F : FTy → Type} [FloatOps F] [Named F]

open Idealize.ShloMosaic.SparseCore.Cfg (ownBufs ownSems0 ownRefs ownCells mem_ownCells mem_ownRefs)

theorem sep_assoc' {P Q R : sProp (RR F)} : iprop((P ∗ Q) ∗ R) = iprop(P ∗ Q ∗ R) := equiv_iff.mp ⟨BI.sep_assoc, BI.sep_assoc'⟩

section Own

variable (dv : Dev nD) (i : grid1.Coords)

/-- A tile's buffer, and a tile's semaphore. -/
abbrev bR (r : Ref sig .scVector) : DevRef τ sig := (Proc.scVector (cV i) (jV i)).devRef r
abbrev cR (s : DmaSem sig) : GSem nD τ sig := (thr dv i, SemLoc.dma s)
theorem bR_ne {x y : Ref sig .scVector} (h : x ≠ y) : bR i x ≠ bR i y := fun e => h (Proc.devRef_injective _ e)
theorem cR_ne {x y : DmaSem sig} (h : x ≠ y) : cR dv i x ≠ cR dv i y := fun e => h (SemLoc.dma.inj (Prod.mk.inj e).2)

/-- A tile's buffers besides those it works on. -/
abbrev restBufs : sProp (RR F) := bigSep (((((((ownRefs (τ := τ) (.scVector (cV i) (jV i))).erase (bR i cc1_scratch0)).erase (bR i cc1_scratch1)).erase (bR i cc1_scratch2)).erase (bR i cc1_scratch3)).erase (bR i cc1_scratch4)).erase (bR i cc1_scratch5)) fun b => iprop(∃ f, ((dv, b) : Loc nD τ sig) ↦{fullShare} f)
abbrev restSems : sProp (RR F) := bigSep ((((((((ownCells (thr dv i)).erase (cR dv i cc1_scratch7.sem)).erase (cR dv i cc1_scratch8.sem)).erase (cR dv i cc1_scratch9.sem)).erase (cR dv i cc1_scratch10.sem)).erase (cR dv i cc1_scoped0.sem)).erase (cR dv i cc1_scoped1.sem)).erase (cR dv i cc1_scoped2.sem)) fun g => semVal g 0

theorem ownBufs_tile : (ownBufs (thr dv i) : sProp (RR F)) = iprop(TileBufs dv i ∗ restBufs dv i) := by
  have h : (ownBufs (thr dv i) : sProp (RR F)) = iprop((∃ f, ((dv, bR i cc1_scratch0) : Loc nD τ sig) ↦{fullShare} f) ∗ (∃ f, ((dv, bR i cc1_scratch1) : Loc nD τ sig) ↦{fullShare} f) ∗ (∃ f, ((dv, bR i cc1_scratch2) : Loc nD τ sig) ↦{fullShare} f) ∗ (∃ f, ((dv, bR i cc1_scratch3) : Loc nD τ sig) ↦{fullShare} f) ∗ (∃ f, ((dv, bR i cc1_scratch4) : Loc nD τ sig) ↦{fullShare} f) ∗ (∃ f, ((dv, bR i cc1_scratch5) : Loc nD τ sig) ↦{fullShare} f) ∗ restBufs dv i) := by
    unfold SparseCore.Cfg.ownBufs
    rw [SparseCore.bigSep_erase' (SparseCore.Cfg.mem_ownRefs_of_owner (p := Proc.scVector (cV i) (jV i)) (b := bR i cc1_scratch0) rfl),
      SparseCore.bigSep_erase' (Finset.mem_erase.mpr ⟨bR_ne i (by decide), (SparseCore.Cfg.mem_ownRefs_of_owner (p := Proc.scVector (cV i) (jV i)) (b := bR i cc1_scratch1) rfl)⟩),
      SparseCore.bigSep_erase' (Finset.mem_erase.mpr ⟨bR_ne i (by decide), (Finset.mem_erase.mpr ⟨bR_ne i (by decide), (SparseCore.Cfg.mem_ownRefs_of_owner (p := Proc.scVector (cV i) (jV i)) (b := bR i cc1_scratch2) rfl)⟩)⟩),
      SparseCore.bigSep_erase' (Finset.mem_erase.mpr ⟨bR_ne i (by decide), (Finset.mem_erase.mpr ⟨bR_ne i (by decide), (Finset.mem_erase.mpr ⟨bR_ne i (by decide), (SparseCore.Cfg.mem_ownRefs_of_owner (p := Proc.scVector (cV i) (jV i)) (b := bR i cc1_scratch3) rfl)⟩)⟩)⟩),
      SparseCore.bigSep_erase' (Finset.mem_erase.mpr ⟨bR_ne i (by decide), (Finset.mem_erase.mpr ⟨bR_ne i (by decide), (Finset.mem_erase.mpr ⟨bR_ne i (by decide), (Finset.mem_erase.mpr ⟨bR_ne i (by decide), (SparseCore.Cfg.mem_ownRefs_of_owner (p := Proc.scVector (cV i) (jV i)) (b := bR i cc1_scratch4) rfl)⟩)⟩)⟩)⟩),
      SparseCore.bigSep_erase' (Finset.mem_erase.mpr ⟨bR_ne i (by decide), (Finset.mem_erase.mpr ⟨bR_ne i (by decide), (Finset.mem_erase.mpr ⟨bR_ne i (by decide), (Finset.mem_erase.mpr ⟨bR_ne i (by decide), (Finset.mem_erase.mpr ⟨bR_ne i (by decide), (SparseCore.Cfg.mem_ownRefs_of_owner (p := Proc.scVector (cV i) (jV i)) (b := bR i cc1_scratch5) rfl)⟩)⟩)⟩)⟩)⟩)]
  rw [h, TileBufs]
  simp only [sep_assoc']
  rfl
theorem ownSems_tile : (ownSems0 (thr dv i) : sProp (RR F)) = iprop(TileSems dv i ∗ restSems dv i) := by
  have h : (ownSems0 (thr dv i) : sProp (RR F)) = iprop(semVal (cR dv i cc1_scratch7.sem) 0 ∗ semVal (cR dv i cc1_scratch8.sem) 0 ∗ semVal (cR dv i cc1_scratch9.sem) 0 ∗ semVal (cR dv i cc1_scratch10.sem) 0 ∗ semVal (cR dv i cc1_scoped0.sem) 0 ∗ semVal (cR dv i cc1_scoped1.sem) 0 ∗ semVal (cR dv i cc1_scoped2.sem) 0 ∗ restSems dv i) := by
    unfold SparseCore.Cfg.ownSems0
    rw [SparseCore.bigSep_erase' ((mem_ownCells (g := cR dv i cc1_scratch7.sem)).mpr ⟨rfl, show (SemLoc.dma cc1_scratch7.sem : SemLoc sig).isScoped .scVector = true by decide⟩),
      SparseCore.bigSep_erase' (Finset.mem_erase.mpr ⟨cR_ne dv i (by decide), ((mem_ownCells (g := cR dv i cc1_scratch8.sem)).mpr ⟨rfl, show (SemLoc.dma cc1_scratch8.sem : SemLoc sig).isScoped .scVector = true by decide⟩)⟩),
      SparseCore.bigSep_erase' (Finset.mem_erase.mpr ⟨cR_ne dv i (by decide), (Finset.mem_erase.mpr ⟨cR_ne dv i (by decide), ((mem_ownCells (g := cR dv i cc1_scratch9.sem)).mpr ⟨rfl, show (SemLoc.dma cc1_scratch9.sem : SemLoc sig).isScoped .scVector = true by decide⟩)⟩)⟩),
      SparseCore.bigSep_erase' (Finset.mem_erase.mpr ⟨cR_ne dv i (by decide), (Finset.mem_erase.mpr ⟨cR_ne dv i (by decide), (Finset.mem_erase.mpr ⟨cR_ne dv i (by decide), ((mem_ownCells (g := cR dv i cc1_scratch10.sem)).mpr ⟨rfl, show (SemLoc.dma cc1_scratch10.sem : SemLoc sig).isScoped .scVector = true by decide⟩)⟩)⟩)⟩),
      SparseCore.bigSep_erase' (Finset.mem_erase.mpr ⟨cR_ne dv i (by decide), (Finset.mem_erase.mpr ⟨cR_ne dv i (by decide), (Finset.mem_erase.mpr ⟨cR_ne dv i (by decide), (Finset.mem_erase.mpr ⟨cR_ne dv i (by decide), ((mem_ownCells (g := cR dv i cc1_scoped0.sem)).mpr ⟨rfl, show (SemLoc.dma cc1_scoped0.sem : SemLoc sig).isScoped .scVector = true by decide⟩)⟩)⟩)⟩)⟩),
      SparseCore.bigSep_erase' (Finset.mem_erase.mpr ⟨cR_ne dv i (by decide), (Finset.mem_erase.mpr ⟨cR_ne dv i (by decide), (Finset.mem_erase.mpr ⟨cR_ne dv i (by decide), (Finset.mem_erase.mpr ⟨cR_ne dv i (by decide), (Finset.mem_erase.mpr ⟨cR_ne dv i (by decide), ((mem_ownCells (g := cR dv i cc1_scoped1.sem)).mpr ⟨rfl, show (SemLoc.dma cc1_scoped1.sem : SemLoc sig).isScoped .scVector = true by decide⟩)⟩)⟩)⟩)⟩)⟩),
      SparseCore.bigSep_erase' (Finset.mem_erase.mpr ⟨cR_ne dv i (by decide), (Finset.mem_erase.mpr ⟨cR_ne dv i (by decide), (Finset.mem_erase.mpr ⟨cR_ne dv i (by decide), (Finset.mem_erase.mpr ⟨cR_ne dv i (by decide), (Finset.mem_erase.mpr ⟨cR_ne dv i (by decide), (Finset.mem_erase.mpr ⟨cR_ne dv i (by decide), ((mem_ownCells (g := cR dv i cc1_scoped2.sem)).mpr ⟨rfl, show (SemLoc.dma cc1_scoped2.sem : SemLoc sig).isScoped .scVector = true by decide⟩)⟩)⟩)⟩)⟩)⟩)⟩)]
  rw [h, TileSems]
  simp only [sep_assoc']

variable (G : Dev nD → S10000x128.Idx → F .f32)

/-- A tile's run, from what the launch hands it. -/
theorem tile_body (hF : (K (F := F)).Facts) (q : PosShare TreeShare) (a b : S320256.Idx → BitVec 32) (ha : ∀ e, (flat a e).toNat < 10000)
    (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit G dv (cV i) (jV i) ∗ TileIn dv i G q a b ∗ scopedBufs (thr dv i) ∗ scopedSems0 (thr dv i)
        ∗ owes (thr dv i) (O + oxV dv (cV i)) W)
      ⊢ wpT dv i (cc1_sc_segmax (F := F) i srcA (Memref.isWhole_whole _) dstA (Memref.isWhole_whole _) gA (Memref.isWhole_whole _) outA (Memref.isWhole_whole _) mV (Memref.isWhole_whole _) sV (Memref.isWhole_whole _) tV (Memref.isWhole_whole _) lV (Memref.isWhole_whole _) dV (Memref.isWhole_whole _) rV (Memref.isWhole_whole _) gV (Memref.isWhole_whole _) cc1_scratch7 cc1_scratch8 cc1_scratch9 cc1_scratch10 cc1_scoped0 cc1_scoped1 cc1_scoped2) fun _ => iprop(TileOut dv i G q a b ∗ scopedBufs (thr dv i) ∗ scopedSems0 (thr dv i)
          ∗ ∃ W' : Waits sig (HIx 1), ⌜∀ p ∈ W', p ∈ W ∨ p.2 = none ∨ p.2 = some (0 : Fin 1)⌝ ∗ owes (thr dv i) O W') := by
  rw [cc1_sc_segmax_eq_skeleton, (K (F := F)).scopedBufs_V hF dv (cV i) (jV i), SparseCore.Cfg.scopedSems0_V (Val := Elt F) dv (cV i) (jV i),
    ownBufs_tile, ownSems_tile]
  iintro ⟨#Hlv, Hkit, Hin, ⟨Hb, Hbr⟩, ⟨Hs, Hsr⟩, HO⟩
  ihave Hw := (tile_run dv i G q a b ha O W hO hOlev) $$ [Hkit Hin Hb Hs HO]
  · isplitr; iexact Hlv
    isplitl [Hkit]; iexact Hkit
    isplitl [Hin]; iexact Hin
    isplitl [Hb]; iexact Hb
    isplitl [Hs] <;> iassumption
  iapply (wp_wand frame (wpE (defs₀ (F := F)) 𝒱₀ (thr dv i) none) Set.univ) $$ Hw
  iintro %u ⟨Hout, Hb, Hs, HO⟩
  isplitl [Hout]; iexact Hout
  isplitl [Hb Hbr]
  · isplitl [Hb] <;> iassumption
  isplitl [Hs Hsr]
  · isplitl [Hs] <;> iassumption
  iexact HO

end Own

end

end Cert.Proof.Seg
-- ==== Proof.Pay.lean ====
module

public import proofs.«01_k».proof.Proof.Call

/-! # What the call hands over

A SparseCore gets a half share of the indices and the rows and its half of the result; a tile gets a sixteenth of
that, and its part of the result and of the shared rows. -/

@[expose] public section

namespace Cert.Proof.Seg

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

noncomputable section

variable {F : FTy → Type} [FloatOps F] [Named F]

open Idealize.ShloMosaic.SparseCore.Cfg (ownBufs ownSems0 ownRefs ownCells mem_ownCells mem_ownRefs)

abbrev aLoc (d : Dev nD) : Loc nD τ sig := (SparseCore.T d).loc main_v5
abbrev bLoc (d : Dev nD) : Loc nD τ sig := (SparseCore.T d).loc main_v8
abbrev gLoc (d : Dev nD) : Loc nD τ sig := (SparseCore.T d).loc main_v11
abbrev oLoc (d : Dev nD) : Loc nD τ sig := (SparseCore.T d).loc main_v12

def coordsV (c : Fin (grid1.bound 0)) (s : Fin (grid1.bound 1)) : grid1.Coords :=
  fun | 0 => c | 1 => s | ⟨_ + 2, h⟩ => absurd h (Nat.not_lt.2 (Nat.le_add_left _ _))

/-- A SparseCore's share of what both read. -/
def coreShare (n : ℕ) : PosShare TreeShare := if n = 0 then fullShare.left else fullShare.right
/-- A SparseCore's part of the result. -/
def coreOut (n : ℕ) : Finset S1310720.Idx := Finset.univ.filter fun x => (x 0).val / 40960 % 2 = n
theorem core_disj : Disjoint (coreOut 0) (coreOut 1) := by
  rw [Finset.disjoint_left]
  intro x h0 h1
  have := (Finset.mem_filter.mp h0).2.symm.trans (Finset.mem_filter.mp h1).2
  omega
theorem core_union : coreOut 0 ∪ coreOut 1 = Finset.univ := by
  ext x
  simp only [Finset.mem_union, Finset.mem_univ, iff_true, coreOut, Finset.mem_filter, true_and]
  omega
theorem outs_disjoint (c : ℕ) : ∀ i ∈ (Finset.univ : Finset (Fin 16)), ∀ j ∈ (Finset.univ : Finset (Fin 16)), i ≠ j →
    Disjoint (outSet (2 * i.val + c)) (outSet (2 * j.val + c)) := by
  intro i _ j _ h
  rw [Finset.disjoint_left]
  intro x hi hj
  have := (Finset.mem_filter.mp hi).2.symm.trans (Finset.mem_filter.mp hj).2
  exact h (Fin.ext (by omega))
theorem outs_cover (c : ℕ) (hc : c < 2) : (Finset.univ : Finset (Fin 16)).biUnion (fun i => outSet (2 * i.val + c)) = coreOut c := by
  ext x
  have h : (x 0).val < 1310720 := (x 0).isLt
  simp only [Finset.mem_biUnion, Finset.mem_univ, true_and, outSet, coreOut, Finset.mem_filter]
  constructor
  · rintro ⟨i, hi⟩; omega
  · intro hx
    exact ⟨⟨(x 0).val / 40960 / 2, by omega⟩, by show _ = 2 * ((x 0).val / 40960 / 2) + c; omega⟩

theorem pts_outs (d : Dev nD) (c : Fin 2) (f : S1310720.Idx → F .f32) :
    (oLoc d ↦[coreOut c.val]{fullShare} f : sProp (RR F)) = bigSep Finset.univ fun i : Fin 16 => oLoc d ↦[outSet (2 * i.val + c.val)]{fullShare} f := by
  rw [← pointsTo_biUnion Finset.univ (ℓ := oLoc d) (fun i : Fin 16 => outSet (2 * i.val + c.val)) (outs_disjoint c.val), outs_cover c.val c.isLt]

section Pay

variable (a b : Dev nD → S320256.Idx → BitVec 32) (g : Dev nD → S10000x128.Idx → F .f32)

/-- What SparseCore `c` is given, and gives back. -/
abbrev CoreIn (d : Dev nD) (c : Fin 2) : sProp (RR F) :=
  iprop((aLoc d ↦{coreShare c.val} a d) ∗ (bLoc d ↦{coreShare c.val} b d) ∗ (gLoc d ↦{coreShare c.val} g d)
    ∗ ∃ fo : S1310720.Idx → F .f32, (oLoc d ↦[coreOut c.val]{fullShare} fo))
abbrev bars (d : Dev nD) (c : Fin 2) : sProp (RR F) := bigSep Finset.univ fun i : Fin 16 => semVal (bcell d c i) 0
abbrev CoreOut (d : Dev nD) (c : Fin 2) : sProp (RR F) :=
  iprop(((aLoc d ↦{coreShare c.val} a d) ∗ (bLoc d ↦{coreShare c.val} b d) ∗ (gLoc d ↦{coreShare c.val} g d)
    ∗ (oLoc d ↦[coreOut c.val]{fullShare} outV (g d) (a d) (b d))) ∗ bars d c)
abbrev TileI (d : Dev nD) (c : Fin 2) (i : Fin 16) : sProp (RR F) := TileIn d (coordsV c i) g (tq (coreShare c.val) i.val) (a d) (b d)
abbrev TileO (d : Dev nD) (c : Fin 2) (i : Fin 16) : sProp (RR F) := TileOut d (coordsV c i) g (tq (coreShare c.val) i.val) (a d) (b d)

/-- A SparseCore's part, and the shared rows, are its tiles' parts. -/
theorem core_split (d : Dev nD) (c : Fin 2) :
    iprop(CoreIn a b g d c ∗ ∃ f : S10000x128.Idx → F .f32, (shLoc d c ↦{fullShare} f)) ⊢ (bigSep Finset.univ fun i : Fin 16 => TileI a b g d c i) := by
  have hT : (bigSep Finset.univ fun i : Fin 16 => TileI a b g d c i)
      = iprop((bigSep Finset.univ fun i : Fin 16 => (aLoc d ↦{tq (coreShare c.val) i.val} a d)) ∗ (bigSep Finset.univ fun i : Fin 16 => (bLoc d ↦{tq (coreShare c.val) i.val} b d))
        ∗ (bigSep Finset.univ fun i : Fin 16 => (gLoc d ↦{tq (coreShare c.val) i.val} g d))
        ∗ (bigSep Finset.univ fun i : Fin 16 => iprop(∃ fo : S1310720.Idx → F .f32, (oLoc d ↦[outSet (2 * i.val + c.val)]{fullShare} fo)))
        ∗ bigSep Finset.univ fun i : Fin 16 => iprop(∃ f : S10000x128.Idx → F .f32, (shLoc d c ↦[rowSet i.val]{fullShare} f))) := by
    rw [← bigSep_sep', ← bigSep_sep', ← bigSep_sep', ← bigSep_sep']
    rfl
  rw [hT]
  iintro ⟨⟨Ha, Hb, Hg, ⟨%fo, Ho⟩⟩, ⟨%f, Hs⟩⟩
  isplitl [Ha]
  · iapply (Entails.of_eq (pts_tq (F := F) (ℓ := aLoc d) Finset.univ (a d) (coreShare c.val))); iexact Ha
  isplitl [Hb]
  · iapply (Entails.of_eq (pts_tq (F := F) (ℓ := bLoc d) Finset.univ (b d) (coreShare c.val))); iexact Hb
  isplitl [Hg]
  · iapply (Entails.of_eq (pts_tq (F := F) (ℓ := gLoc d) Finset.univ (g d) (coreShare c.val))); iexact Hg
  isplitl [Ho]
  · ihave Ho := ((Entails.of_eq (pts_outs d c fo)).trans (SparseCore.ent (bigSep_mono (Φ := fun i : Fin 16 => (oLoc d ↦[outSet (2 * i.val + c.val)]{fullShare} fo : sProp (RR F)))
      (Ψ := fun i => iprop(∃ fo : S1310720.Idx → F .f32, (oLoc d ↦[outSet (2 * i.val + c.val)]{fullShare} fo)))
      fun i _ => BI.BIClass.exists_intro (Φ := fun fo : S1310720.Idx → F .f32 => (oLoc d ↦[outSet (2 * i.val + c.val)]{fullShare} fo : sProp (RR F))) fo))) $$ Ho
    iexact Ho
  · ihave Hs := ((Entails.of_eq (pts_rows d c fullShare f)).trans (SparseCore.ent (bigSep_mono (Φ := fun i : Fin 16 => (shLoc d c ↦[rowSet i.val]{fullShare} f : sProp (RR F)))
      (Ψ := fun i => iprop(∃ f : S10000x128.Idx → F .f32, (shLoc d c ↦[rowSet i.val]{fullShare} f)))
      fun i _ => BI.BIClass.exists_intro (Φ := fun f : S10000x128.Idx → F .f32 => (shLoc d c ↦[rowSet i.val]{fullShare} f : sProp (RR F))) f))) $$ Hs
    iexact Hs

/-- And back, once the tiles are through. -/
theorem core_join (d : Dev nD) (c : Fin 2) :
    (bigSep Finset.univ fun i : Fin 16 => TileO a b g d c i) ⊢ iprop(CoreOut a b g d c ∗ ∃ f : S10000x128.Idx → F .f32, (shLoc d c ↦{fullShare} f)) := by
  have hT : (bigSep Finset.univ fun i : Fin 16 => TileO a b g d c i)
      = iprop((bigSep Finset.univ fun i : Fin 16 => (aLoc d ↦{tq (coreShare c.val) i.val} a d)) ∗ (bigSep Finset.univ fun i : Fin 16 => (bLoc d ↦{tq (coreShare c.val) i.val} b d))
        ∗ (bigSep Finset.univ fun i : Fin 16 => (gLoc d ↦{tq (coreShare c.val) i.val} g d))
        ∗ (bigSep Finset.univ fun i : Fin 16 => (oLoc d ↦[outSet (2 * i.val + c.val)]{fullShare} outV (g d) (a d) (b d)))
        ∗ (bigSep Finset.univ fun i : Fin 16 => (shLoc d c ↦{tq fullShare i.val} g d)) ∗ bars d c) := by
    rw [← bigSep_sep', ← bigSep_sep', ← bigSep_sep', ← bigSep_sep', ← bigSep_sep']
    rfl
  rw [hT, ← pts_outs d c, ← pts_tq (F := F) (ℓ := aLoc d) Finset.univ (a d) (coreShare c.val), ← pts_tq (F := F) (ℓ := bLoc d) Finset.univ (b d) (coreShare c.val),
    ← pts_tq (F := F) (ℓ := gLoc d) Finset.univ (g d) (coreShare c.val), ← pts_tq (F := F) (ℓ := shLoc d c) Finset.univ (g d) fullShare]
  iintro ⟨Ha, Hb, Hg, Ho, Hs, Hbar⟩
  isplitr [Hs]
  · isplitr [Hbar]; swap; iexact Hbar
    isplitl [Ha]; iexact Ha
    isplitl [Hb]; iexact Hb
    isplitl [Hg] <;> iassumption
  · iexists (g d); iexact Hs

/-- What passes between the TensorCore, the sequencers and the tiles. -/
def P : (K (F := F)).Pay (nD := nD) (Val := Elt F) (Name := ℕ) (U := UU) where
  st := fun q d c => match q with | 0 => CoreIn a b g d c
  dn := fun q d c => match q with | 0 => CoreOut a b g d c
  go := fun q d c i => match q with | 0 => TileI a b g d c i
  td := fun q d c i => match q with | 0 => TileO a b g d c i
  x := fun _ thr => match thr with
    | (d, .scVector c i) => bkit g d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · obtain ⟨j, rfl, rfl⟩ := oxV_apply_pos h
      rw [(K (F := F)).lev_V_reg d c (j.castLE hsub1) (show (sc_bar0 : Sem sig) ≠ (K (F := F)).go from sc_bar0_ne_go)]; exact ⟨le_rfl, by decide⟩
  ox_tc := fun _ _ => rfl
  ox_sc := fun _ _ _ h => absurd rfl h
  ox_vc := fun q d c i _ => match q with | 0 => ⟨rfl, c.isLt, i.isLt⟩

instance P_storable : (P a b g).IsStorable where
  st q d c := match q with | 0 => (inferInstance : BI.Storable (upEmb : UEmb _ (RR F)) (CoreIn a b g d c))
  dn q d c := match q with | 0 => (inferInstance : BI.Storable (upEmb : UEmb _ (RR F)) (CoreOut a b g d c))
  go q d c i := match q with | 0 => (inferInstance : BI.Storable (upEmb : UEmb _ (RR F)) (TileI a b g d c i))
  td q d c i := match q with | 0 => (inferInstance : BI.Storable (upEmb : UEmb _ (RR F)) (TileO a b g d c i))

theorem defs₀_vector (c : Fin τ.nSC) (s : Fin τ.nSub) :
    defs₀ (F := F) (.scVector c s) 1 ()
      = SparseCore.onTile hcore1 hsub1 (fun c s => cc1_sc_segmax (coordsV c s) srcA (Memref.isWhole_whole _) dstA (Memref.isWhole_whole _) gA (Memref.isWhole_whole _) outA (Memref.isWhole_whole _) mV (Memref.isWhole_whole _) sV (Memref.isWhole_whole _) tV (Memref.isWhole_whole _) lV (Memref.isWhole_whole _) dV (Memref.isWhole_whole _) rV (Memref.isWhole_whole _) gV (Memref.isWhole_whole _) cc1_scratch7 cc1_scratch8 cc1_scratch9 cc1_scratch10 cc1_scoped0 cc1_scoped1 cc1_scoped2) ⟨⟩ c s := rfl

set_option maxRecDepth 16384 in
/-- Every tile runs. -/
theorem tileObl (ha : ∀ d e, (flat (a d) e).toNat < 10000) (hF : (K (F := F)).Facts) : (K (F := F)).TileObl (D (F := F)) 𝒱 (P a b g) v₀ 0 := by
  intro d c i O W hO hOlev _
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) g hF (tq (coreShare c.val) i.val) (a d) (b d) (ha d) O W hO hOlev

/-- The shared rows are among the sequencer's own buffers. -/
theorem ownBufs_S (d : Dev nD) (c : Fin τ.nSC) :
    (ownBufs (S d c) : sProp (RR F))
      = iprop((∃ f : S10000x128.Idx → F .f32, (shLoc d c ↦{fullShare} f)) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

theorem vecSplit : (K (F := F)).VecSplit (P a b g) 0 := by
  intro d c
  show iprop(CoreIn a b g d c ∗ ownBufs (S d c)) ⊢ |={Set.univ}=> iprop((bigSep Finset.univ fun i : Fin 16 => TileI a b g d c i)
    ∗ ((bigSep Finset.univ fun i : Fin 16 => TileO a b g d c i) -∗ iprop(CoreOut a b g d c ∗ ownBufs (S d c))))
  rw [ownBufs_S]
  iintro ⟨Hin, Hsh, Hrest⟩; imodintro
  isplitl [Hin Hsh]
  · iapply (core_split a b g d c)
    isplitl [Hin] <;> iassumption
  iintro H
  ihave H := (core_join a b g d c) $$ H
  icases H with ⟨Hout, Hsh⟩
  isplitl [Hout]; iexact Hout
  isplitl [Hsh] <;> iassumption

end Pay

end

end Cert.Proof.Seg
-- ==== Proof.Deal.lean ====
module

public import proofs.«01_k».proof.Proof.Pay

/-! # The launch's resources

The barriers' tokens and credits, dealt to the tiles. -/

@[expose] public section

namespace Cert.Proof.Seg

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

noncomputable section

variable {F : FTy → Type} [FloatOps F] [Named F]

section Deal

variable (a b : Dev nD → S320256.Idx → BitVec 32) (g : Dev nD → S10000x128.Idx → F .f32)

/-- A tile: a device, a SparseCore of it, a subcore of that. -/
abbrev Tl : Type := Dev nD × Fin τ.nSC × Fin τ.nSub
/-- A tile's barrier cell. -/
abbrev tcell (x : Tl) : GSem nD τ sig := bcell x.1 x.2.1 x.2.2
theorem tcell_inj : Function.Injective (tcell : Tl → GSem nD τ sig) := fun x y e => by
  obtain ⟨h1, h2⟩ := Prod.mk.inj (Prod.mk.inj e).1
  obtain ⟨h3, h4⟩ := Proc.scVector.inj h2
  exact Prod.ext h1 (Prod.ext h3 h4)

def bCells : Finset (GSem nD τ sig) := (Finset.univ : Finset Tl).image tcell
/-- Each tile's token in each cell of its SparseCore. -/
def bToks : Finset (GSem nD τ sig × ℕ × ℕ) :=
  (Finset.univ : Finset (Tl × Fin (grid1.bound 1))).image fun x => (bcell x.1.1 x.1.2.1 (x.2.castLE hsub1), 0, x.1.2.2.val)
/-- The blocks' part, whatever it is. -/
abbrev uOf (z : UP) : UU := (initOf (K (F := F)).hsCells (K (F := F)).hsToks, ((initOf bCells bToks, z), 1))

theorem ownU_three (x : UH) (y : UB) (z : UP) :
    (ownU ((x, ((y, z), 1)) : UU) : sProp (RR F)) ⊢ iprop(BI.own (EH x) ∗ BI.own (EB y) ∗ BI.own (EP z)) := by
  have h1 : (ownU ((x, ((y, z), 1)) : UU) : sProp (RR F)) ⊢ iprop(BI.own (EH x) ∗ BI.own ((uEmb (nD := nD) (sig := sig) (Ix := HIx 1) (Val := Elt F) (Name := ℕ) (U := UU) (Lvl := ℕ)).toEmb ((1, ((y, z), 1)) : UU))) :=
    BI.own_op_elim ((uEmb (nD := nD) (sig := sig) (Ix := HIx 1) (Val := Elt F) (Name := ℕ) (U := UU) (Lvl := ℕ)).toEmb.op_of_mem (Prod.mk_mem_op (URA.mem_op_one x) (URA.mem_one_op ((y, z), (1 : Counters)))))
  have h2 : (BI.own ((uEmb (nD := nD) (sig := sig) (Ix := HIx 1) (Val := Elt F) (Name := ℕ) (U := UU) (Lvl := ℕ)).toEmb ((1, ((y, z), 1)) : UU)) : sProp (RR F)) ⊢ iprop(BI.own (EB y) ∗ BI.own (EP z)) :=
    BI.own_op_elim ((uEmb (nD := nD) (sig := sig) (Ix := HIx 1) (Val := Elt F) (Name := ℕ) (U := UU) (Lvl := ℕ)).toEmb.op_of_mem (Prod.mk_mem_op (URA.mem_op_one (1 : UH)) (Prod.mk_mem_op (Prod.mk_mem_op (URA.mem_op_one y) (URA.mem_one_op z)) (URA.mem_op_one (1 : Counters)))))
  exact h1.trans (sep_mono_right h2)

theorem over_cells (Φ : GSem nD τ sig → sProp (RR F)) : bigSep bCells Φ = bigSep Finset.univ fun x : Tl => Φ (tcell x) := by
  unfold bCells; exact SparseCore.bigSep_image_of_injOn (fun a _ b _ e => tcell_inj e) Φ

/-- The barriers' counters at zero. -/
theorem counters : ((K (F := F)).freeOn (· ∈ bCells) : sProp (RR F)) ⊢ bigSep bCells fun c => semVal c 0 := by
  rw [over_cells]
  unfold SparseCore.Cfg.freeOn
  refine sep_elim_right.trans (bigSep_mono fun x _ => ?_)
  exact bigSep_elim (Φ := fun sm : SemLoc sig => (semVal (V x.1 x.2.1 x.2.2, sm) 0 : sProp (RR F))) (Finset.mem_filter.mpr
    ⟨Finset.mem_erase.mpr ⟨fun h => sc_bar0_ne_go (SemLoc.reg.inj h), Finset.mem_filter.mpr ⟨Finset.mem_univ _, by decide⟩⟩,
      Finset.mem_image_of_mem tcell (Finset.mem_univ x)⟩)

/-- The cells' invariants. -/
theorem alloc_cells : iprop((bigSep bCells fun c => (semVal c 0 : sProp (RR F))) ∗ bigSep bCells fun c => roundState EB (bRd g) c 0)
    ⊢ |={Set.univ}=> iprop(∃ κ : GSem nD τ sig → ℕ, bigSep bCells fun c => cellInv EB (bRd g) (κ c) c) := by
  refine (Rounds.bodies_intro EB (bRd g) bCells).trans ((inv_alloc_family bCells (Rounds.body EB (bRd g)) ∅ (E := Set.univ)).trans ?_)
  iintro H
  imod H with ⟨%κ, -, Hinv⟩
  imodintro; iexists κ; iexact Hinv

theorem units_add (c : GSem nD τ sig) (ι : HIx 1) (n : ℕ) : ∑ _ : Fin n, tallyAt c ι 1 = (tallyAt c ι n : CellTallies nD τ sig (HIx 1)) := by
  induction n with
  | zero => rw [Finset.univ_eq_empty, Finset.sum_empty, tallyAt_zero]
  | succ n ih => rw [Fin.sum_univ_castSucc, ih, tallyAt_add]

/-- Every tile the credit of its own cell. -/
theorem credits : ((P a b g).oxCred : sProp (RR F)) ⊢ bigSep Finset.univ fun x : Tl => cred (tallyAt (tcell x) (some 0) (grid1.bound 1)) := by
  unfold SparseCore.Cfg.Pay.oxCred
  rw [SparseCore.Cfg.bigSep_threads (fun thr : Thread nD τ => (cred ((P a b g).oxFrom 0 thr) : sProp (RR F)))]
  refine sep_elim_right.trans (sep_elim_right.trans ?_)
  rw [bigSep_univ_prod, bigSep_univ_prod (fun x : Tl => (cred (tallyAt (tcell x) (some 0) (grid1.bound 1)) : sProp (RR F)))]
  refine bigSep_mono fun d _ => ?_
  rw [bigSep_univ_prod, bigSep_univ_prod (fun x : Fin τ.nSC × Fin τ.nSub => (cred (tallyAt (tcell (d, x)) (some 0) (grid1.bound 1)) : sProp (RR F)))]
  refine bigSep_mono fun c _ => ?_
  have hox : ∀ i, (P a b g).oxFrom 0 (V d c i) = oxV d c := fun i => by
    rw [show (0 : ℕ) = (0 : Fin 1).val from rfl, (P a b g).oxFrom_step, (P a b g).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, units_add]; rfl

theorem bigSep_with {I : Type} [DecidableEq I] {R : sProp (RR F)} [BI.Persistent R] {s : Finset I} {Φ Ψ : I → sProp (RR F)}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert x s hx ih =>
    rw [SparseCore.bigSep_insert' hx, SparseCore.bigSep_insert' hx]
    iintro ⟨#HR, H1, H2⟩
    isplitl [H1]
    · iapply (h x (Finset.mem_insert_self _ _)); isplitr; iexact HR
      iexact H1
    · iapply (ih fun i hi => h i (Finset.mem_insert_of_mem hi)); isplitr; iexact HR
      iexact H2

theorem emps {I : Type} (s : Finset I) : (iprop(emp) : sProp (RR F)) ⊢ bigSep s fun _ => iprop(emp) :=
  Entails.of_eq (bigSep_emp_const s).symm

theorem over_toks : (bigSep bToks fun x => (dutyTok EB x.1 x.2.1 x.2.2 : sProp (RR F)))
    = bigSep Finset.univ fun x : Tl => bigSep Finset.univ fun j : Fin (grid1.bound 1) => dutyTok EB (bcell x.1 x.2.1 (j.castLE hsub1)) 0 x.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  obtain rfl : j = j' := Fin.ext (congrArg Fin.val hj)
  obtain rfl : i = i' := Fin.ext e2
  rfl

/-- What all tiles are handed alike. -/
abbrev common : sProp (RR F) :=
  iprop((∃ κ : GSem nD τ sig → ℕ, bigSep Finset.univ fun x : Tl => cellInv EB (bRd g) (κ (tcell x)) (tcell x))
    ∗ bigSep Finset.univ fun x : Tl => reached EB (tcell x) 0)
/-- What each is handed of its own. -/
abbrev ownKit (x : Tl) : sProp (RR F) :=
  iprop(atPos EB (tcell x) 0 ∅ 0
    ∗ (bigSep Finset.univ fun j : Fin (grid1.bound 1) => dutyTok EB (bcell x.1 x.2.1 (j.castLE hsub1)) 0 x.2.2.val)
    ∗ cred (tallyAt (tcell x) (some 0) (grid1.bound 1)))

theorem kit_of (x : Tl) : iprop(common (F := F) g ∗ ownKit x) ⊢ (bkit g x.1 x.2.1 x.2.2 : sProp (RR F)) := by
  obtain ⟨d, c, i⟩ := x
  iintro ⟨⟨#Hinv, #Hr⟩, Hat, Htok, Hcred⟩
  unfold bkit
  isplitr
  · icases Hinv with ⟨%κ, Hinv⟩
    iexists κ
    iapply (SparseCore.ent (bigSep_with (s := (Finset.univ : Finset (Fin (grid1.bound 1)))) (Φ := fun _ => iprop(emp))
      (R := bigSep Finset.univ fun x : Tl => cellInv EB (bRd g) (κ (tcell x)) (tcell x)) fun j _ =>
        sep_elim_left.trans (bigSep_elim (Φ := fun x : Tl => (cellInv EB (bRd g) (κ (tcell x)) (tcell x) : sProp (RR F)))
          (Finset.mem_univ (d, c, Fin.castLE hsub1 j)))))
    isplitl; iexact Hinv
    iapply (SparseCore.ent (emps (F := F) _)); iempintro
  isplitl [Htok]; iexact Htok
  isplitr
  · iapply (SparseCore.ent (bigSep_with (s := (Finset.univ : Finset (Fin (grid1.bound 1)))) (Φ := fun _ => iprop(emp))
      (R := bigSep Finset.univ fun x : Tl => reached EB (tcell x) 0) fun j _ =>
        sep_elim_left.trans (bigSep_elim (Φ := fun x : Tl => (reached EB (tcell x) 0 : sProp (RR F))) (Finset.mem_univ (d, c, Fin.castLE hsub1 j)))))
    isplitl; iexact Hr
    iapply (SparseCore.ent (emps (F := F) _)); iempintro
  isplitl [Hat] <;> iassumption

theorem x_T (d : Dev nD) : (bigSep Finset.univ fun q : Fin 1 => (P a b g).x q (SparseCore.T d)) = iprop(emp) :=
  bigSep_univ_of_subsingleton (0 : Fin 1)
theorem x_S (d : Dev nD) (c : Fin τ.nSC) : (bigSep Finset.univ fun q : Fin 1 => (P a b g).x q (S d c)) = iprop(emp) :=
  bigSep_univ_of_subsingleton (0 : Fin 1)
theorem x_V (d : Dev nD) (c : Fin τ.nSC) (i : Fin τ.nSub) : (bigSep Finset.univ fun q : Fin 1 => (P a b g).x q (V d c i)) = bkit g d c i :=
  bigSep_univ_of_subsingleton (0 : Fin 1)

/-- Each tile its barrier's resources. -/
theorem deal :
    iprop(common (F := F) g ∗ bigSep Finset.univ fun x : Tl => ownKit x)
      ⊢ (bigSep Finset.univ fun thr : Thread nD τ => bigSep Finset.univ fun q : Fin 1 => (P a b g).x q thr : sProp (RR F)) := by
  rw [SparseCore.Cfg.bigSep_threads (fun thr : Thread nD τ => bigSep Finset.univ fun q : Fin 1 => (P a b g).x q thr)]
  simp only [x_T, x_S, x_V]
  iintro ⟨#Hsh, H⟩
  isplitr
  · iapply (SparseCore.ent (emps (F := F) _)); iempintro
  isplitr
  · iapply (SparseCore.ent (emps (F := F) _)); iempintro
  iapply (SparseCore.ent (bigSep_with (R := common (F := F) g) (Φ := ownKit (F := F)) (Ψ := fun x : Tl => bkit g x.1 x.2.1 x.2.2) (s := Finset.univ) fun x _ => kit_of g x))
  isplitr; iexact Hsh
  iexact H

theorem hu₀ (z : UP) (G : Dev nD → sProp (RR F)) (hz : BI.own (EP z) ⊢ (|==> bigSep Finset.univ G : sProp (RR F))) :
    iprop(ownU (uOf (F := F) z) ∗ (P a b g).oxCred ∗ (K (F := F)).freeOn (· ∈ bCells))
    ⊢ |={Set.univ}=> iprop(BI.own (EH (initOf (K (F := F)).hsCells (K (F := F)).hsToks)) ∗ (bigSep Finset.univ G)
        ∗ (bigSep Finset.univ fun thr : Thread nD τ => bigSep Finset.univ fun q : Fin 1 => (P a b g).x q thr) : sProp (RR F)) := by
  iintro ⟨Hu, Hcred, Hfree⟩
  ihave H := (ownU_three _ _ _) $$ Hu
  icases H with ⟨HH, HB, HP⟩
  imod hz $$ HP with HG
  imod (Rounds.fund EB (bRd g) bCells bToks) $$ HB with ⟨Hst, #Hr, Hat, Htok⟩
  ihave Hsems := (counters (F := F)) $$ Hfree
  imod (alloc_cells g) $$ [Hsems Hst] with ⟨%κ, #Hinv⟩
  · isplitl [Hsems] <;> iassumption
  ihave Hcred := (credits a b g) $$ Hcred
  ihave Hinv' := (Entails.of_eq (over_cells (F := F) fun c => cellInv EB (bRd g) (κ c) c)) $$ Hinv
  ihave Hr' := (Entails.of_eq (over_cells (F := F) fun c => reached EB c 0)) $$ Hr
  ihave Hat := (Entails.of_eq (over_cells (F := F) fun c => atPos EB c 0 ∅ 0)) $$ Hat
  ihave Htok := (Entails.of_eq (over_toks (F := F))) $$ Htok
  imodintro
  isplitl [HH]; iexact HH
  isplitl [HG]; iexact HG
  iapply (deal a b g)
  isplitr
  · isplitl
    · iexists κ; iexact Hinv'
    · iexact Hr'
  unfold ownKit
  rw [bigSep_sep', bigSep_sep']
  isplitl [Hat]; iexact Hat
  isplitl [Htok] <;> iassumption

end Deal

end

end Cert.Proof.Seg
-- ==== Proof.Blocks.lean ====
module

public import proofs.«01_k».proof.Proof.Base
public import Idealize.ShloMosaic.Lib.Pipeline.FrameTail
public import Idealize.ShloMosaic.Lib.Pipeline.FrameBody

/-! # How the two dense kernels' blocks are laid out

The staging buffers and the semaphores of the two dense kernels: none is shared, and every array is whole. -/

@[expose] public section

namespace Cert.Proof.Seg

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

noncomputable section

variable {F : FTy → Type} [FloatOps F] [Named F]

open Idealize.ShloMosaic.Pipeline (Dat Cfg Window BodyObligation cellOf)

abbrev semTab : Fin 2 → List (DmaSem sig) := fun
  | ⟨0, _⟩ => Pipeline.specSems spec0
  | ⟨1, _⟩ => Pipeline.specSems spec2
  | ⟨_ + 2, h⟩ => absurd h (Nat.not_lt.2 (Nat.le_add_left _ _))
theorem semsDistinct : ∀ p : Fin 2, (semTab p).Nodup := by decide
theorem semsDisjoint : ∀ p p' : Fin 2, p ≠ p' → (semTab p).Forall (· ∉ semTab p') := by decide
theorem cellOf_inj : Function.Injective (cellOf (nD := nD) (τ := τ) cfgs) :=
  Pipeline.cellOf_injective_of_table cfgs semTab
    (fun | ⟨0, _⟩ => rfl | ⟨1, _⟩ => rfl | ⟨_ + 2, h⟩ => absurd h (Nat.not_lt.2 (Nat.le_add_left _ _))) semsDistinct semsDisjoint

theorem winFacts0 : Pipeline.WinFacts spec0 := by decide
theorem winFacts2 : Pipeline.WinFacts spec2 := by decide
theorem block_pos0 : ∀ w : Fin 3, 0 < (spec0 w).block.numel := by decide
theorem block_pos2 : ∀ w : Fin 5, 0 < (spec2 w).block.numel := by decide
theorem arr_whole0 : ∀ w : Fin 3, (spec0 w).arr.IsWhole := fun
  | 0 => Memref.isWhole_whole _ | 1 => Memref.isWhole_whole _ | 2 => Memref.isWhole_whole _
  | ⟨_ + 3, h⟩ => absurd h (Nat.not_lt.2 (Nat.le_add_left _ _))
theorem arr_whole2 : ∀ w : Fin 5, (spec2 w).arr.IsWhole := fun
  | 0 => Memref.isWhole_whole _ | 1 => Memref.isWhole_whole _ | 2 => Memref.isWhole_whole _ | 3 => Memref.isWhole_whole _
  | 4 => Memref.isWhole_whole _ | ⟨_ + 5, h⟩ => absurd h (Nat.not_lt.2 (Nat.le_add_left _ _))
theorem stage_whole0 : ∀ (w : Fin 3) (s : Fin (spec0 w).nbuf), ((spec0 w).stage s).IsWhole := fun
  | 0 => fun s => hstage0_0 (s.cast nbuf0_0) | 1 => fun s => hstage0_1 (s.cast nbuf0_1) | 2 => fun s => hstage0_2 (s.cast nbuf0_2)
  | ⟨_ + 3, h⟩ => absurd h (Nat.not_lt.2 (Nat.le_add_left _ _))
theorem stage_whole2 : ∀ (w : Fin 5) (s : Fin (spec2 w).nbuf), ((spec2 w).stage s).IsWhole := fun
  | 0 => fun s => hstage2_0 (s.cast nbuf2_0) | 1 => fun s => hstage2_1 (s.cast nbuf2_1) | 2 => fun s => hstage2_2 (s.cast nbuf2_2)
  | 3 => fun s => hstage2_3 (s.cast nbuf2_3) | 4 => fun s => hstage2_4 (s.cast nbuf2_4)
  | ⟨_ + 5, h⟩ => absurd h (Nat.not_lt.2 (Nat.le_add_left _ _))
theorem launch0 : Pipeline.LaunchFacts (nD := nD) (τ := τ) cfgs 0 := ⟨cellOf_inj, winFacts0, block_pos0, arr_whole0, stage_whole0⟩
theorem launch2 : Pipeline.LaunchFacts (nD := nD) (τ := τ) cfgs 1 := ⟨cellOf_inj, winFacts2, block_pos2, arr_whole2, stage_whole2⟩

/-- No kernel reads a table. -/
abbrev adm (p : Fin 2) : (pcfgs (F := F) p).Adm := (cfgs p).toPCfg_adm
theorem pinj : Function.Injective (cellOf (nD := nD) (τ := τ) (Pipeline.pin (pcfgs (F := F)) adm)) := cellOf_inj

/-- What a core owes, and the pairs its waits have recorded, none above the level `n`. -/
def owesBelow (O : Dev nD → CellTallies nD τ sig (HIx 1)) (n : ℕ) (c : Dev nD) : sProp (RR F) :=
  iprop(∃ W, ⌜(K (F := F)).WBelow (T c) W n⌝ ∗ owes (T c) (O c) W)

/-- Proof data of a pipeline the call at hand does not run. -/
def idleDat {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

end

end Cert.Proof.Seg
-- ==== Proof.Dense.lean ====
module

public import proofs.«01_k».proof.Proof.Blocks

/-! # The first dense kernel

Each point multiplies a block of the transposed rows by the lower half of the weights. -/

@[expose] public section

namespace Cert.Proof.Seg

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

noncomputable section

variable {F : FTy → Type} [FloatOps F] [Named F]

open Idealize.ShloMosaic.Pipeline (Dat Cfg Window BodyObligation cellOf)

/-! ## The body -/

abbrev r0_0 : Rect S128x1024 := Rect.unit (s := S128x1024) ![0, 0] S128x1024.size inb_S128x1024_S128x1024_0_0
abbrev r0_1 : Rect S256x128 := Rect.unit (s := S256x128) ![128, 0] S128x128.size inb_S256x128_S128x128_128_0
abbrev r0_2 : Rect S1024x128 := Rect.unit (s := S1024x128) ![0, 0] S1024x128.size inb_S1024x128_S1024x128_0_0

/-- What the body leaves in the result's block. -/
def out0 (x0 : Vec F S128x1024 .f32) (x1 : Vec F S256x128 .f32) : Vec F S1024x128 .f32 :=
  View.canon [⟨r0_2, k0_pay1 (View.ld x0 r0_0) (View.ld x1 r0_1)⟩]

theorem cover0 (p0 : Vec F S1024x128 .f32) (y : (S1024x128 : Shape).Idx) :
    ∃ pc ∈ ([⟨r0_2, p0⟩] : List (View.Piece (Elt F) S1024x128 .f32)), y ∈ pc.1.set :=
  View.cover_of_tiled [⟨r0_2, p0⟩] S1024x128.size (by rfl) y

set_option maxHeartbeats 1000000 in
/-- The body on whole blocks. -/
theorem sound0 (c : Dev nD) (E : Set ℕ) (i : grid0.Coords) (arg1 : Memref sig .tc .vmem S128x1024 .f32) (harg1 : arg1.IsWhole) (arg2 : Memref sig .tc .vmem S256x128 .f32) (harg2 : arg2.IsWhole) (arg3 : Memref sig .tc .vmem S1024x128 .f32) (harg3 : arg3.IsWhole)
    (x0 : Vec F S128x1024 .f32) (x1 : Vec F S256x128 .f32) (Q : PUnit → sProp (RR F)) :
    iprop(owns (T c) arg1 fullShare x0 ∗ owns (T c) arg2 fullShare x1 ∗ (∃ d, owns (T c) arg3 fullShare d)
        ∗ (iprop(owns (T c) arg1 fullShare x0 ∗ owns (T c) arg2 fullShare x1 ∗ owns (T c) arg3 fullShare (out0 x0 x1)) -∗ Q ⟨⟩))
      ⊢ wp frame (wpE (defs₀ (F := F)) Variants.none (T c) none) E (cc0__g_body i arg1 harg1 arg2 harg2 arg3 harg3) Q := by
  rw [cc0__g_body_eq_skeleton]
  unfold cc0__g_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-! ## The proof data -/

theorem bigSep_W0 (Φ : Fin cfg0.W → sProp (RR F)) : bigSep Finset.univ Φ = iprop(Φ 0 ∗ Φ 1 ∗ Φ 2) := by
  rw [bigSep_univ_eq_bigSepL [0, 1, 2] (by decide) (by decide)]; rfl

variable (V : (c : Dev nD) → (b : Ref sig .tc) → Buf (Elt F) ((T c : Thread nD τ).loc b)) (O : Dev nD → CellTallies nD τ sig (HIx 1)) (n : ℕ)

/-- The blocks a point reads. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (c : Dev nD) : Dat τ (Elt F) (HIx 1) ℕ UU ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.scopedRest (Ix := HIx 1) (Name := ℕ) (U := UU) (Lvl := ℕ) (Val := Elt F) spec0 c
  q _ := fullShare
  owed _ := O c
  recorded _ := {p | (K (F := F)).lev (T c, p.1) p.2 ≤ n}

theorem A0_eq (c : Dev nD) (w : Fin cfg0.W) : (dat0 V O n c).A w = V c (Pipeline.arrRef spec0 w) := by dsimp only [dat0]
theorem after0_0 (c : Dev nD) (t : Fin cfg0.N) : (dat0 V O n c).after 0 t = iblk0 V c 0 t := by dsimp only [dat0]
theorem after0_1 (c : Dev nD) (t : Fin cfg0.N) : (dat0 V O n c).after 1 t = iblk0 V c 1 t := by dsimp only [dat0]
theorem after0_2 (c : Dev nD) (t : Fin cfg0.N) : (dat0 V O n c).after 2 t = out0 (iblk0 V c 0 t) (iblk0 V c 1 t) := by dsimp only [dat0]
theorem before0_0 (c : Dev nD) (t : Fin cfg0.N) (d) : (dat0 V O n c).before 0 t d = iblk0 V c 0 t :=
  ((dat0 V O n c).before_in_eq_fetched 0 rfl (fun _ => rfl) (fun _ _ _ => rfl)
      (fun t => by rw [after0_0]; unfold Dat.blockOf iblk0; rw [A0_eq]; try rfl) t d).trans
    (by unfold Dat.fetched Dat.blockOf iblk0; rw [A0_eq]; try rfl)
theorem before0_1 (c : Dev nD) (t : Fin cfg0.N) (d) : (dat0 V O n c).before 1 t d = iblk0 V c 1 t :=
  ((dat0 V O n c).before_in_eq_fetched 1 rfl (fun _ => rfl) (fun _ _ _ => rfl)
      (fun t => by rw [after0_1]; unfold Dat.blockOf iblk0; rw [A0_eq]; try rfl) t d).trans
    (by unfold Dat.fetched Dat.blockOf iblk0; rw [A0_eq]; try rfl)

theorem row0 (t : Fin cfg0.N) : defs₀ (F := F) .tc cfg0.body (cfg0.bodyArgs t (cfg0.slots t))
    = cc0__g_body (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) := rfl

set_option maxHeartbeats 1000000 in
/-- The body at a point: the blocks it reads are as the array has them. -/
theorem body0 (c : Dev nD) : BodyObligation (dat0 V O n c) (defs₀ (F := F)) 𝒱₀ none Set.univ := fun t => by
  rw [bigSep_W0, bigSep_W0, row0]
  rw [show (dat0 V O n c).Φ t.castSucc = (dat0 V O n c).Φ t.succ from rfl,
    show (dat0 V O n c).owesAt none t.castSucc = (dat0 V O n c).owesAt none t.succ from rfl]
  iintro ⟨HΦ, Howes, ⟨%d0, H0⟩, ⟨%d1, H1⟩, ⟨%d2, H2⟩⟩
  rw [before0_0 V O n]
  rw [before0_1 V O n]
  iapply (sound0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Howes]; · iexact Howes
  rw [after0_0, after0_1, after0_2]
  isplitl [H0]; · iexact H0
  isplitl [H1]; · iexact H1
  iexact H2

/-! ## The call -/

def pdats0 : (p : Fin 2) → (c : Dev nD) → Dat τ (Elt F) (HIx 1) ℕ UU ℕ (Pipeline.pin (pcfgs (F := F)) adm p) c
  | ⟨0, _⟩ => fun c => dat0 V O n c
  | ⟨1, _⟩ => fun c => idleDat c

/-- The result's array after the call. -/
def made0 (c : Dev nD) : Buf (Elt F) ((T c : Thread nD τ).loc main_v10) := (dat0 V O n c).arrAt 2 cfg0.N

variable (Vp : (c : Dev nD) → (b : Ref sig .tc) → Buf (Elt F) ((T c : Thread nD τ).loc b))

set_option backward.isDefEq.respectTransparency.types false in
/-- The call, from every buffer at `V` to every buffer at `Vp`. -/
def reg0 (hO : ∀ c g, O c g none = 0) (hVp_out : ∀ c, Vp c main_v10 = made0 V O n c)
    (hVp_ne : ∀ c (b : Ref sig .tc), b ≠ main_v10 → Vp c b = V c b) :
    Pipeline.RegionSeg (pcfgs (F := F)) adm (pdats0 V O n) none defs₀ 𝒱₀ (K (F := F)).L (K (F := F)).lev 0 where
  win := winFacts0.to₀
  block_pos := block_pos0
  stage_whole := stage_whole0
  K := PEmpty
  osem k := k.elim
  ho := Pipeline.OwnSemFacts.none _
  hbody c := (body0 V O n c).loose
  hwaits c := Pipeline.cellsWaits_intro (Pipeline.pin (pcfgs (F := F)) adm) (pdats0 V O n) none 0 c fun w s t =>
    (K (F := F)).mayWait_none _ (hO c)
  pre c := iprop(unscopedBufs c (V c) ∗ owesBelow O n c)
  post c := iprop(unscopedBufs c (Vp c) ∗ owesBelow O n c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats0 V O n) winFacts0 arr_whole0 c
      ((pdats0 V O n 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold owesBelow Pipeline.Dat.owesAt Pipeline.owesWithin
      icases HO with ⟨%W, %hW, HO⟩; iexists W; isplitr
      · ipureintro; exact fun p hp => Or.inl (hW p hp)
      iexact HO
    isplitr; · iempintro
    iexact Hrest
  hin c := by
    rw [show (pdats0 V O n 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none,
      show (pdats0 V O n 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) winFacts0 arr_whole0 c
      (pdats0 V O n) ((pdats0 V O n 0 c).share_full fun _ => rfl) (V c) (Vp c) ((pdats0 V O n 0 c).arrAt · cfg0.N)
      (fun w => by
        fin_cases w
        · exact ((pdats0 V O n 0 c).arrAt_in 0 rfl _).trans (hVp_ne c main_v1 (by decide)).symm
        · exact ((pdats0 V O n 0 c).arrAt_in 1 rfl _).trans (hVp_ne c main_arg2 (by decide)).symm
        · exact (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold owesBelow Pipeline.Dat.owesAt Pipeline.owesWithin
    icases HO with ⟨%W, %hW, HO⟩; iexists W; isplitr
    · ipureintro; intro p hp
      rcases hW hp with h | h
      · exact h
      · obtain ⟨w, s, rfl⟩ := h; exact Nat.zero_le _
    iexact HO

end

end Cert.Proof.Seg
-- ==== Proof.Finish.lean ====
module

public import proofs.«01_k».proof.Proof.Blocks

/-! # The second dense kernel

Each point multiplies a block of the transposed rows by the difference of the two halves of the weights, adds the bias and the maxima, and keeps what is positive. -/

@[expose] public section

namespace Cert.Proof.Seg

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

noncomputable section

variable {F : FTy → Type} [FloatOps F] [Named F]

open Idealize.ShloMosaic.Pipeline (Dat Cfg Window BodyObligation cellOf)

/-! ## The body -/

abbrev r2_0 : Rect S128x1024 := Rect.unit (s := S128x1024) ![0, 0] S128x1024.size inb_S128x1024_S128x1024_0_0
abbrev r2_1 : Rect S256x128 := Rect.unit (s := S256x128) ![0, 0] S128x128.size inb_S256x128_S128x128_0_0
abbrev r2_2 : Rect S256x128 := Rect.unit (s := S256x128) ![128, 0] S128x128.size inb_S256x128_S128x128_128_0
abbrev r2_3 : Rect S1x128 := Rect.unit (s := S1x128) ![0, 0] S1x128.size inb_S1x128_S1x128_0_0
abbrev r2_4 : Rect S1024x128 := Rect.unit (s := S1024x128) ![0, 0] S1024x128.size inb_S1024x128_S1024x128_0_0

/-- What the body leaves in the result's block. -/
def out2 (x0 : Vec F S128x1024 .f32) (x1 : Vec F S256x128 .f32) (x2 : Vec F S1x128 .f32) (x3 : Vec F S1024x128 .f32) : Vec F S1024x128 .f32 :=
  View.canon [⟨r2_4, k2_pay1 (View.ld x0 r2_0) (View.ld x1 r2_1) (View.ld x1 r2_2) (View.ld x2 r2_3) (View.ld x3 r2_4)⟩]

theorem cover2 (p0 : Vec F S1024x128 .f32) (y : (S1024x128 : Shape).Idx) :
    ∃ pc ∈ ([⟨r2_4, p0⟩] : List (View.Piece (Elt F) S1024x128 .f32)), y ∈ pc.1.set :=
  View.cover_of_tiled [⟨r2_4, p0⟩] S1024x128.size (by rfl) y

set_option maxHeartbeats 1000000 in
/-- The body on whole blocks. -/
theorem sound2 (c : Dev nD) (E : Set ℕ) (i : grid2.Coords) (arg1 : Memref sig .tc .vmem S128x1024 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S1024x128 .f32) (harg4 : arg4.IsWhole) (arg5 : Memref sig .tc .vmem S1024x128 .f32) (harg5 : arg5.IsWhole)
    (x0 : Vec F S128x1024 .f32) (x1 : Vec F S256x128 .f32) (x2 : Vec F S1x128 .f32) (x3 : Vec F S1024x128 .f32) (Q : PUnit → sProp (RR F)) :
    iprop(owns (T c) arg1 fullShare x0 ∗ owns (T c) arg2 fullShare x1 ∗ owns (T c) arg3 fullShare x2 ∗ owns (T c) arg4 fullShare x3 ∗ (∃ d, owns (T c) arg5 fullShare d)
        ∗ (iprop(owns (T c) arg1 fullShare x0 ∗ owns (T c) arg2 fullShare x1 ∗ owns (T c) arg3 fullShare x2 ∗ owns (T c) arg4 fullShare x3 ∗ owns (T c) arg5 fullShare (out2 x0 x1 x2 x3)) -∗ Q ⟨⟩))
      ⊢ wp frame (wpE (defs₀ (F := F)) Variants.none (T c) none) E (cc2__ep_body i arg1 harg1 arg2 harg2 arg3 harg3 arg4 harg4 arg5 harg5) Q := by
  rw [cc2__ep_body_eq_skeleton]
  unfold cc2__ep_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2 _)

/-! ## The proof data -/

theorem bigSep_W2 (Φ : Fin cfg2.W → sProp (RR F)) : bigSep Finset.univ Φ = iprop(Φ 0 ∗ Φ 1 ∗ Φ 2 ∗ Φ 3 ∗ Φ 4) := by
  rw [bigSep_univ_eq_bigSepL [0, 1, 2, 3, 4] (by decide) (by decide)]; rfl

variable (V : (c : Dev nD) → (b : Ref sig .tc) → Buf (Elt F) ((T c : Thread nD τ).loc b)) (O : Dev nD → CellTallies nD τ sig (HIx 1)) (n : ℕ)

/-- The blocks a point reads. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (c : Dev nD) : Dat τ (Elt F) (HIx 1) ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2 (iblk2 V c 0 t) (iblk2 V c 1 t) (iblk2 V c 2 t) (iblk2 V c 3 t)
  Φ _ := Pipeline.scopedRest (Ix := HIx 1) (Name := ℕ) (U := UU) (Lvl := ℕ) (Val := Elt F) spec2 c
  q _ := fullShare
  owed _ := O c
  recorded _ := {p | (K (F := F)).lev (T c, p.1) p.2 ≤ n}

theorem A2_eq (c : Dev nD) (w : Fin cfg2.W) : (dat2 V O n c).A w = V c (Pipeline.arrRef spec2 w) := by dsimp only [dat2]
theorem after2_0 (c : Dev nD) (t : Fin cfg2.N) : (dat2 V O n c).after 0 t = iblk2 V c 0 t := by dsimp only [dat2]
theorem after2_1 (c : Dev nD) (t : Fin cfg2.N) : (dat2 V O n c).after 1 t = iblk2 V c 1 t := by dsimp only [dat2]
theorem after2_2 (c : Dev nD) (t : Fin cfg2.N) : (dat2 V O n c).after 2 t = iblk2 V c 2 t := by dsimp only [dat2]
theorem after2_3 (c : Dev nD) (t : Fin cfg2.N) : (dat2 V O n c).after 3 t = iblk2 V c 3 t := by dsimp only [dat2]
theorem after2_4 (c : Dev nD) (t : Fin cfg2.N) : (dat2 V O n c).after 4 t = out2 (iblk2 V c 0 t) (iblk2 V c 1 t) (iblk2 V c 2 t) (iblk2 V c 3 t) := by dsimp only [dat2]
theorem before2_0 (c : Dev nD) (t : Fin cfg2.N) (d) : (dat2 V O n c).before 0 t d = iblk2 V c 0 t :=
  ((dat2 V O n c).before_in_eq_fetched 0 rfl (fun _ => rfl) (fun _ _ _ => rfl)
      (fun t => by rw [after2_0]; unfold Dat.blockOf iblk2; rw [A2_eq]; try rfl) t d).trans
    (by unfold Dat.fetched Dat.blockOf iblk2; rw [A2_eq]; try rfl)
theorem before2_1 (c : Dev nD) (t : Fin cfg2.N) (d) : (dat2 V O n c).before 1 t d = iblk2 V c 1 t :=
  ((dat2 V O n c).before_in_eq_fetched 1 rfl (fun _ => rfl) (fun _ _ _ => rfl)
      (fun t => by rw [after2_1]; unfold Dat.blockOf iblk2; rw [A2_eq]; try rfl) t d).trans
    (by unfold Dat.fetched Dat.blockOf iblk2; rw [A2_eq]; try rfl)
theorem before2_2 (c : Dev nD) (t : Fin cfg2.N) (d) : (dat2 V O n c).before 2 t d = iblk2 V c 2 t :=
  ((dat2 V O n c).before_in_eq_fetched 2 rfl (fun _ => rfl) (fun _ _ _ => rfl)
      (fun t => by rw [after2_2]; unfold Dat.blockOf iblk2; rw [A2_eq]; try rfl) t d).trans
    (by unfold Dat.fetched Dat.blockOf iblk2; rw [A2_eq]; try rfl)
theorem before2_3 (c : Dev nD) (t : Fin cfg2.N) (d) : (dat2 V O n c).before 3 t d = iblk2 V c 3 t :=
  ((dat2 V O n c).before_in_eq_fetched 3 rfl (fun _ => rfl) (fun _ _ _ => rfl)
      (fun t => by rw [after2_3]; unfold Dat.blockOf iblk2; rw [A2_eq]; try rfl) t d).trans
    (by unfold Dat.fetched Dat.blockOf iblk2; rw [A2_eq]; try rfl)

theorem row2 (t : Fin cfg2.N) : defs₀ (F := F) .tc cfg2.body (cfg2.bodyArgs t (cfg2.slots t))
    = cc2__ep_body (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) := rfl

set_option maxHeartbeats 1000000 in
/-- The body at a point: the blocks it reads are as the array has them. -/
theorem body2 (c : Dev nD) : BodyObligation (dat2 V O n c) (defs₀ (F := F)) 𝒱₀ none Set.univ := fun t => by
  rw [bigSep_W2, bigSep_W2, row2]
  rw [show (dat2 V O n c).Φ t.castSucc = (dat2 V O n c).Φ t.succ from rfl,
    show (dat2 V O n c).owesAt none t.castSucc = (dat2 V O n c).owesAt none t.succ from rfl]
  iintro ⟨HΦ, Howes, ⟨%d0, H0⟩, ⟨%d1, H1⟩, ⟨%d2, H2⟩, ⟨%d3, H3⟩, ⟨%d4, H4⟩⟩
  rw [before2_0 V O n]
  rw [before2_1 V O n]
  rw [before2_2 V O n]
  rw [before2_3 V O n]
  iapply (sound2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Howes]; · iexact Howes
  rw [after2_0, after2_1, after2_2, after2_3, after2_4]
  isplitl [H0]; · iexact H0
  isplitl [H1]; · iexact H1
  isplitl [H2]; · iexact H2
  isplitl [H3]; · iexact H3
  iexact H4

/-! ## The call -/

def pdats2 : (p : Fin 2) → (c : Dev nD) → Dat τ (Elt F) (HIx 1) ℕ UU ℕ (Pipeline.pin (pcfgs (F := F)) adm p) c
  | ⟨0, _⟩ => fun c => idleDat c
  | ⟨1, _⟩ => fun c => dat2 V O n c

/-- The result's array after the call. -/
def made2 (c : Dev nD) : Buf (Elt F) ((T c : Thread nD τ).loc main_v14) := (dat2 V O n c).arrAt 4 cfg2.N

variable (Vp : (c : Dev nD) → (b : Ref sig .tc) → Buf (Elt F) ((T c : Thread nD τ).loc b))

set_option backward.isDefEq.respectTransparency.types false in
/-- The call, from every buffer at `V` to every buffer at `Vp`. -/
def reg2 (hO : ∀ c g, O c g none = 0) (hVp_out : ∀ c, Vp c main_v14 = made2 V O n c)
    (hVp_ne : ∀ c (b : Ref sig .tc), b ≠ main_v14 → Vp c b = V c b) :
    Pipeline.RegionSeg (pcfgs (F := F)) adm (pdats2 V O n) none defs₀ 𝒱₀ (K (F := F)).L (K (F := F)).lev 1 where
  win := winFacts2.to₀
  block_pos := block_pos2
  stage_whole := stage_whole2
  K := PEmpty
  osem k := k.elim
  ho := Pipeline.OwnSemFacts.none _
  hbody c := (body2 V O n c).loose
  hwaits c := Pipeline.cellsWaits_intro (Pipeline.pin (pcfgs (F := F)) adm) (pdats2 V O n) none 1 c fun w s t =>
    (K (F := F)).mayWait_none _ (hO c)
  pre c := iprop(unscopedBufs c (V c) ∗ owesBelow O n c)
  post c := iprop(unscopedBufs c (Vp c) ∗ owesBelow O n c)
  X _ := BI.emp
  Y _ := BI.emp
  Z c := Pipeline.unscopedRest (Ix := HIx 1) (Name := ℕ) (U := UU) (Lvl := ℕ) spec2 c (V c)
  hentry c := by
    rw [Pipeline.ownSems0_none]
    have hsplit := Pipeline.arrays_of_unscopedBufs (p := 1) (pcfgs (F := F)) adm (pdats2 V O n) winFacts2 arr_whole2 c
      ((pdats2 V O n 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold owesBelow Pipeline.Dat.owesAt Pipeline.owesWithin
      icases HO with ⟨%W, %hW, HO⟩; iexists W; isplitr
      · ipureintro; exact fun p hp => Or.inl (hW p hp)
      iexact HO
    isplitr; · iempintro
    iexact Hrest
  hin c := by
    rw [show (pdats2 V O n 1 c).Φ 0 = Pipeline.scopedRest (Ix := HIx 1) (Name := ℕ) (U := UU) (Lvl := ℕ) (Val := Elt F) spec2 c from rfl]
    iintro ⟨-, -, Hr⟩; iexact Hr
  hout c := by
    rw [Pipeline.ownSems0_none,
      show (pdats2 V O n 1 c).Φ (Fin.last _) = Pipeline.scopedRest (Ix := HIx 1) (Name := ℕ) (U := UU) (Lvl := ℕ) (Val := Elt F) spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) winFacts2 arr_whole2 c
      (pdats2 V O n) ((pdats2 V O n 1 c).share_full fun _ => rfl) (V c) (Vp c) ((pdats2 V O n 1 c).arrAt · cfg2.N)
      (fun w => by
        fin_cases w
        · exact ((pdats2 V O n 1 c).arrAt_in 0 rfl _).trans (hVp_ne c main_v1 (by decide)).symm
        · exact ((pdats2 V O n 1 c).arrAt_in 1 rfl _).trans (hVp_ne c main_arg2 (by decide)).symm
        · exact ((pdats2 V O n 1 c).arrAt_in 2 rfl _).trans (hVp_ne c main_v9 (by decide)).symm
        · exact ((pdats2 V O n 1 c).arrAt_in 3 rfl _).trans (hVp_ne c main_v13 (by decide)).symm
        · exact (hVp_out c).symm)
      (fun b hb => hVp_ne c b fun h => hb (h ▸ Finset.mem_image.mpr ⟨4, Finset.mem_univ _, rfl⟩))
    iintro ⟨Ha, HO, -, Hrest⟩
    imodintro
    isplitl [Ha Hrest]
    · iapply hjoin; isplitl [Ha] <;> iassumption
    unfold owesBelow Pipeline.Dat.owesAt Pipeline.owesWithin
    icases HO with ⟨%W, %hW, HO⟩; iexists W; isplitr
    · ipureintro; intro p hp
      rcases hW hp with h | h
      · exact h
      · obtain ⟨w, s, rfl⟩ := h; exact Nat.zero_le _
    iexact HO

end

end Cert.Proof.Seg
-- ==== Proof.Main.lean ====
module

public import proofs.«01_k».proof.Proof.Deal
public import proofs.«01_k».proof.Proof.Dense
public import proofs.«01_k».proof.Proof.Finish
public import Idealize.ShloMosaic.Lib.Pipeline.Frame
public import Idealize.ShloMosaic.Lib.SparseCore.Quiescent

/-! # The program's run

The host operations, the two dense kernels and the SparseCore call between them, and what the memory then holds. -/

@[expose] public section

namespace Cert.Proof.Seg

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

noncomputable section

variable {F : FTy → Type} [FloatOps F] [Named F]

section Main

open Idealize.ShloMosaic.StableHlo (held after seq)

/-- The host operations before the first dense kernel. -/
def opsA : List (HloOp τ sig (Elt F)) :=
  [StableHlo.reshape main_arg0 main_v0 (rfl : (.f32 : EltTy) = .f32) shapeCasts_S1x128x10000x1_S128x10000,
   StableHlo.nullary main_c (constantI S_ 32 0#32),
   StableHlo.TRef.unary (.of main_c : StableHlo.TRef sig ⟨S_, .i32⟩) main_call0.v0 (sitofp .f32),
   StableHlo.TRef.binary (.of main_v0 : StableHlo.TRef sig ⟨S128x10000, .f32⟩) main_call0.v0 main_call0.v1 (fun x v => pad S128x10240 ![0, 0] ![0, 240] ![0, 0] x v pads_S128x10000_S128x10240_000_02400 h_S_),
   StableHlo.reshape main_arg1 main_v2 (rfl : (.i32 : EltTy) = .i32) shapeCasts_S2x1x10000x32_S2x320000,
   StableHlo.unary main_v2 main_v3 ((extractStridedSlice S1x320000 ![0, 0] · slices_S2x320000_S1x320000_0_0) : (⟨S2x320000, .i32⟩ : BufTy).Contents (Elt F) → (⟨S1x320000, .i32⟩ : BufTy).Contents (Elt F)),
   StableHlo.reshape main_v3 main_v4 (rfl : (.i32 : EltTy) = .i32) shapeCasts_S1x320000_S320000,
   StableHlo.nullary main_c_0 (constantI S_ 32 0#32),
   StableHlo.TRef.unary (.of main_c_0 : StableHlo.TRef sig ⟨S_, .i32⟩) main_call1.v0 id,
   StableHlo.TRef.binary (.of main_v4 : StableHlo.TRef sig ⟨S320000, .i32⟩) main_call1.v0 main_call1.v1 (fun x v => pad S320256 ![0] ![256] ![0] x v pads_S320000_S320256_02560 h_S_),
   StableHlo.unary main_v2 main_v6 ((extractStridedSlice S1x320000 ![1, 0] · slices_S2x320000_S1x320000_1_0) : (⟨S2x320000, .i32⟩ : BufTy).Contents (Elt F) → (⟨S1x320000, .i32⟩ : BufTy).Contents (Elt F)),
   StableHlo.reshape main_v6 main_v7 (rfl : (.i32 : EltTy) = .i32) shapeCasts_S1x320000_S320000,
   StableHlo.nullary main_c_1 (constantI S_ 32 1073741824#32),
   StableHlo.TRef.binary (.of main_v7 : StableHlo.TRef sig ⟨S320000, .i32⟩) (.of main_c_1 : StableHlo.TRef sig ⟨S_, .i32⟩) main_call2.v0 (fun x v => pad S320256 ![0] ![256] ![0] x v pads_S320000_S320256_02560 h_S_),
   StableHlo.unary main_arg3 main_v9 (broadcastInDim S1x128 ![1] bcast_S128_S1x128_1 : (⟨S128, .f32⟩ : BufTy).Contents (Elt F) → (⟨S1x128, .f32⟩ : BufTy).Contents (Elt F))]
/-- The host operations between it and the SparseCore call. -/
def opsB : List (HloOp τ sig (Elt F)) :=
  [StableHlo.unary main_v10 main_v11 ((extractStridedSlice S10000x128 ![0, 0] · slices_S10240x128_S10000x128_0_0) : (⟨S10240x128, .f32⟩ : BufTy).Contents (Elt F) → (⟨S10000x128, .f32⟩ : BufTy).Contents (Elt F))]
/-- The host operations between the call and the last kernel. -/
def opsC : List (HloOp τ sig (Elt F)) :=
  [StableHlo.reshape main_v12 main_v13 (rfl : (.f32 : EltTy) = .f32) shapeCasts_S1310720_S10240x128]
/-- The host operations after that. -/
def opsD : List (HloOp τ sig (Elt F)) :=
  [StableHlo.unary main_v14 main_v15 ((extractStridedSlice S10000x128 ![0, 0] · slices_S10240x128_S10000x128_0_0) : (⟨S10240x128, .f32⟩ : BufTy).Contents (Elt F) → (⟨S10000x128, .f32⟩ : BufTy).Contents (Elt F)),
   StableHlo.unary main_v15 main_v16 ((transpose S128x10000 [1, 0] · transposes_S10000x128_S128x10000_1_0) : (⟨S10000x128, .f32⟩ : BufTy).Contents (Elt F) → (⟨S128x10000, .f32⟩ : BufTy).Contents (Elt F)),
   StableHlo.unary main_v16 main_v17 (broadcastInDim S1x128x10000x1 ![1, 2] bcast_S128x10000_S1x128x10000x1_1_2 : (⟨S128x10000, .f32⟩ : BufTy).Contents (Elt F) → (⟨S1x128x10000x1, .f32⟩ : BufTy).Contents (Elt F))]

theorem main_eq (d : Dev nD) : main (F := F) d
    = seq opsA >>= fun _ => (Prog.lift (.customCall (SparseCore.inner (Pipeline.entry 0)) ()) >>= fun _ => (seq opsB >>= fun _ => (sc.run d 0 >>= fun _ =>
        (seq opsC >>= fun _ => (Prog.lift (.customCall (SparseCore.inner (Pipeline.entry 1)) ()) >>= fun _ => (seq opsD >>= fun _ => pure ⟨⟩)))))) := rfl

theorem opsA_sub : ∀ op ∈ (opsA (F := F)), op.bufs ⊆ Pipeline.ucRefs τ sig := by
  refine List.forall_iff_forall_mem.mp ?_
  exact ⟨Pipeline.sub_ucRefs _ (StableHlo.reshape_bufs_sub ..),
    Pipeline.sub_ucRefs _ (StableHlo.nullary_bufs_sub ..),
    Pipeline.sub_ucRefs _ (StableHlo.unary_bufs_sub ..),
    Pipeline.sub_ucRefs _ (StableHlo.binary_bufs_sub ..),
    Pipeline.sub_ucRefs _ (StableHlo.reshape_bufs_sub ..),
    Pipeline.sub_ucRefs _ (StableHlo.unary_bufs_sub ..),
    Pipeline.sub_ucRefs _ (StableHlo.reshape_bufs_sub ..),
    Pipeline.sub_ucRefs _ (StableHlo.nullary_bufs_sub ..),
    Pipeline.sub_ucRefs _ (StableHlo.unary_bufs_sub ..),
    Pipeline.sub_ucRefs _ (StableHlo.binary_bufs_sub ..),
    Pipeline.sub_ucRefs _ (StableHlo.unary_bufs_sub ..),
    Pipeline.sub_ucRefs _ (StableHlo.reshape_bufs_sub ..),
    Pipeline.sub_ucRefs _ (StableHlo.nullary_bufs_sub ..),
    Pipeline.sub_ucRefs _ (StableHlo.binary_bufs_sub ..),
    Pipeline.sub_ucRefs _ (StableHlo.unary_bufs_sub ..)⟩
theorem opsA_fresh : ∀ op ∈ (opsA (F := F)), op.fresh = ∅ := by
  exact List.forall_iff_forall_mem.mp ⟨rfl, rfl, rfl, rfl, rfl, rfl, rfl, rfl, rfl, rfl, rfl, rfl, rfl, rfl, rfl⟩
theorem opsB_sub : ∀ op ∈ (opsB (F := F)), op.bufs ⊆ Pipeline.ucRefs τ sig := fun op h => by
  rw [List.mem_singleton.mp h]; exact Pipeline.sub_ucRefs _ (StableHlo.unary_bufs_sub ..)
theorem opsB_fresh : ∀ op ∈ (opsB (F := F)), op.fresh = ∅ := fun op h => by
  rw [List.mem_singleton.mp h]; rfl
theorem opsC_sub : ∀ op ∈ (opsC (F := F)), op.bufs ⊆ Pipeline.ucRefs τ sig := fun op h => by
  rw [List.mem_singleton.mp h]; exact Pipeline.sub_ucRefs _ (StableHlo.reshape_bufs_sub ..)
theorem opsC_fresh : ∀ op ∈ (opsC (F := F)), op.fresh = ∅ := fun op h => by
  rw [List.mem_singleton.mp h]; rfl
theorem opsD_sub : ∀ op ∈ (opsD (F := F)), op.bufs ⊆ Pipeline.ucRefs τ sig := by
  refine List.forall_iff_forall_mem.mp ?_
  exact ⟨Pipeline.sub_ucRefs _ (StableHlo.unary_bufs_sub ..),
    Pipeline.sub_ucRefs _ (StableHlo.unary_bufs_sub ..),
    Pipeline.sub_ucRefs _ (StableHlo.unary_bufs_sub ..)⟩
theorem opsD_fresh : ∀ op ∈ (opsD (F := F)), op.fresh = ∅ := by
  exact List.forall_iff_forall_mem.mp ⟨rfl, rfl, rfl⟩

/-- The levels are among what every thread consults. -/
theorem ctx_lev (a b : Dev nD → S320256.Idx → BitVec 32) (g : Dev nD → S10000x128.Idx → F .f32) (κ : GSem nD τ sig → ℕ) :
    ((K (F := F)).ctx EH (P a b g) κ : sProp (RR F)) ⊢ levAts (K (F := F)).L (K (F := F)).lev := by
  unfold SparseCore.Cfg.ctx; exact sep_elim_left

theorem Otc_none (d : Dev nD) (n : ℕ) (c : GSem nD τ sig) : (K (F := F)).Otc (N := 1) d n c none = 0 := by
  by_contra h
  have := SparseCore.Cfg.lev_of_Otc_pos (K := K (F := F)) (Nat.pos_of_ne_zero h)
  rw [SparseCore.Cfg.lev_none] at this; omega

/-- The level below which the TensorCore waits once it has made `n` calls. -/
abbrev lo (n : ℕ) : ℕ := 8 * (inferInstance : SparseCore.Cfg.Blocks 1 1).fst n

/-- What the TensorCore holds besides what it owes. -/
theorem tcSt_open (d : Dev nD) (n : ℕ) : ∃ R : sProp (RR F),
    ((K (F := F)).tcSt EH d n : sProp (RR F)) = iprop(owesBelow (fun d => (K (F := F)).Otc d n) (lo n) d ∗ R) := ⟨_, rfl⟩

/-- One dense kernel's step. -/
theorem dense_step [∀ e, Nonempty (Elt F e)] (a b : Dev nD → S320256.Idx → BitVec 32) (g : Dev nD → S10000x128.Idx → F .f32) (κ : GSem nD τ sig → ℕ)
    (p : Fin 2) (n : ℕ) (W W' : Dev nD → Valuation τ sig (Elt F))
    {pd : (p : Fin 2) → (c : Dev nD) → Pipeline.Dat τ (Elt F) (HIx 1) ℕ UU ℕ (Pipeline.pin (pcfgs (F := F)) adm p) c}
    (R : Pipeline.RegionSeg pcfgs adm pd none defs₀ 𝒱₀ (K (F := F)).L (K (F := F)).lev p) (d : Dev nD)
    (hpre : R.pre d = iprop(unscopedBufs d (fun b => W d (Proc.devRef .tc b)) ∗ owesBelow (fun d => (K (F := F)).Otc d n) (lo n) d))
    (hpost : R.post d = iprop(unscopedBufs d (fun b => W' d (Proc.devRef .tc b)) ∗ owesBelow (fun d => (K (F := F)).Otc d n) (lo n) d))
    {α : Type} (k : PUnit → Prog (TpuEff nD τ sig (Elt F) (SparseCore.Sig (Pipeline.Sig Λ₀ (Fin 2) fun p => (pcfgs (F := F) p).Adm) 1) .tc) α) (Φ : α → sProp (RR F)) :
    iprop((K (F := F)).ctx EH (P a b g) κ ∗ (K (F := F)).tcSt EH d n ∗ boundary (d.tc : Thread nD τ)
        ∗ held (d.tc : Thread nD τ) (Pipeline.ucRefs τ sig) (W d)
        ∗ (Pipeline.cellsGhost (Pipeline.pin (pcfgs (F := F)) adm) EP p d ∗ Pipeline.toksInit (Pipeline.pin (pcfgs (F := F)) adm) EP p d)
        ∗ (iprop((K (F := F)).tcSt EH d n ∗ boundary (d.tc : Thread nD τ) ∗ held (d.tc : Thread nD τ) (Pipeline.ucRefs τ sig) (W' d))
            -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ
          (Prog.lift (.customCall (SparseCore.inner (Pipeline.entry p)) ()) >>= k) Φ := by
  have hu : ∀ X : Valuation τ sig (Elt F), (unscopedBufs d (fun b => X (Proc.devRef .tc b)) : sProp (RR F)) = held (d.tc : Thread nD τ) (Pipeline.ucRefs τ sig) X :=
    Pipeline.unscopedBufs_held d
  obtain ⟨Rst, hst⟩ := tcSt_open (F := F) d n
  rw [wp_bind, hst]
  refine BI.Entails.trans ?_ ((K (F := F)).wp_liftProg (D (F := F)) 𝒱 (SparseCore.T d) Set.univ none
    (Prog.lift (.customCall (Pipeline.entry p) ())) _)
  refine BI.Entails.trans ?_ (Pipeline.RegionSeg.wp pcfgs adm pd none pinj EP defs₀ 𝒱₀ _ _ R d none (fun _ h => nomatch h) _ _)
  rw [hpre, hpost, hu (W d), hu (W' d), wp_ret]
  change (_ : sProp (RR F)) ⊢ _
  iintro ⟨#Hctx, ⟨HO, Hst⟩, Hb, Hu, ⟨Hg, Ht⟩, Hk⟩
  isplitl [Hst Hk]
  · iintro ⟨Hb, Hu, HO⟩
    imodintro
    iapply Hk
    isplitl [HO Hst]
    · isplitl [HO] <;> iassumption
    isplitl [Hb] <;> iassumption
  isplitl [Hb]; iexact Hb
  isplitl [Hu HO]
  · isplitl [Hu] <;> iassumption
  isplitr
  · iapply (SparseCore.ent (ctx_lev a b g κ)); iexact Hctx
  isplitl [Hg] <;> iassumption

variable (m : (ℓ : Loc nD τ sig) → Buf (Elt F) ℓ) (ρ : Dev nD → PrngReg)

abbrev rA : DevRef τ sig := Proc.devRef .tc main_v5
abbrev rB : DevRef τ sig := Proc.devRef .tc main_v8
abbrev rG : DevRef τ sig := Proc.devRef .tc main_v11
abbrev rO : DevRef τ sig := Proc.devRef .tc main_v12

/-- A device's buffers as its TensorCore sees them. -/
abbrev seen (W : Dev nD → Valuation τ sig (Elt F)) (d : Dev nD) (b : Ref sig .tc) : Buf (Elt F) ((T d : Thread nD τ).loc b) := W d (Proc.devRef .tc b)

/-- What the TensorCore owes before the call and after it, and below which level it waits. -/
abbrev owed (n : ℕ) (d : Dev nD) : CellTallies nD τ sig (HIx 1) := (K (F := F)).Otc d n

/-- The memory at each step of the program. -/
def V1 (d : Dev nD) : Valuation τ sig (Elt F) := after opsA fun b => m (d, b)
def dense (d : Dev nD) : S10240x128.Idx → F .f32 := made0 (seen (V1 m)) (owed (F := F) 0) (lo 0) d
def V2 (d : Dev nD) : Valuation τ sig (Elt F) := Function.update (V1 m d) (Proc.devRef .tc main_v10) (dense m d)
def V3 (d : Dev nD) : Valuation τ sig (Elt F) := after opsB (V2 m d)
def av (d : Dev nD) : S320256.Idx → BitVec 32 := V3 m d rA
def bv (d : Dev nD) : S320256.Idx → BitVec 32 := V3 m d rB
def gv (d : Dev nD) : S10000x128.Idx → F .f32 := V3 m d rG
def V4 (d : Dev nD) : Valuation τ sig (Elt F) := Function.update (V3 m d) rO (outV (gv m d) (av m d) (bv m d))
def V5 (d : Dev nD) : Valuation τ sig (Elt F) := after opsC (V4 m d)
def joined (d : Dev nD) : S10240x128.Idx → F .f32 := made2 (seen (V5 m)) (owed (F := F) 1) (lo 1) d
def V6 (d : Dev nD) : Valuation τ sig (Elt F) := Function.update (V5 m d) (Proc.devRef .tc main_v14) (joined m d)
def V7 (d : Dev nD) : Valuation τ sig (Elt F) := after opsD (V6 m d)

theorem devRef_ne {b b' : Ref sig .tc} (h : b ≠ b') : (Proc.devRef .tc b : DevRef τ sig) ≠ Proc.devRef .tc b' := fun e => h (Proc.devRef_injective _ e)

/-- The two dense kernels' regions. -/
def regA := reg0 (seen (V1 m)) (owed (F := F) 0) (lo 0) (seen (V2 m)) (fun c g => Otc_none c 0 g)
  (fun c => Function.update_self _ _ _) (fun c b h => Function.update_of_ne (devRef_ne h) _ _)
def regB := reg2 (seen (V5 m)) (owed (F := F) 1) (lo 1) (seen (V6 m)) (fun c g => Otc_none c 1 g)
  (fun c => Function.update_self _ _ _) (fun c b h => Function.update_of_ne (devRef_ne h) _ _)

abbrev four : Finset (DevRef τ sig) := {rA, rB, rG, rO}
theorem four_sub : four ⊆ Pipeline.ucRefs τ sig := by decide

theorem held_four (d : Dev nD) (W : Valuation τ sig (Elt F)) :
    (held (d.tc : Thread nD τ) four W : sProp (RR F))
      = iprop((aLoc d ↦{fullShare} W rA) ∗ (bLoc d ↦{fullShare} W rB) ∗ (gLoc d ↦{fullShare} W rG) ∗ oLoc d ↦{fullShare} W rO) := by
  unfold held four
  rw [SparseCore.bigSep_insert' (by decide), SparseCore.bigSep_insert' (by decide), SparseCore.bigSep_insert' (by decide), bigSep_singleton]

theorem two_cores (Φ : Fin 2 → sProp (RR F)) : bigSep (Finset.univ : Finset (Fin 2)) Φ = iprop(Φ 0 ∗ Φ 1) := by
  rw [show (Finset.univ : Finset (Fin 2)) = {0, 1} by decide, SparseCore.bigSep_insert' (by decide), bigSep_singleton]

theorem halve {ℓ : Loc nD τ sig} (f : Buf (Elt F) ℓ) :
    ((ℓ ↦{fullShare} f : sProp (RR F))) ⊣⊢ iprop((ℓ ↦{coreShare 0} f) ∗ ℓ ↦{coreShare 1} f) := by
  have h := pointsTo_share (Ix := HIx 1) (Name := ℕ) (U := UU) (Lvl := ℕ) (ℓ := ℓ) (I := Finset.univ) (f := f) (PosShare.mem_left_op_right fullShare)
  simpa only [coreShare, if_true, if_neg (show ¬ (1 : ℕ) = 0 by decide)] using h

theorem st_eq (d : Dev nD) : (bigSep Finset.univ fun c : Fin ((K (F := F)).nCore 0) => (P (av m) (bv m) (gv m)).st 0 d c)
    = iprop(CoreIn (av m) (bv m) (gv m) d 0 ∗ CoreIn (av m) (bv m) (gv m) d 1) := two_cores _
theorem dn_eq (d : Dev nD) : (bigSep Finset.univ fun c : Fin ((K (F := F)).nCore 0) => (P (av m) (bv m) (gv m)).dn 0 d c)
    = iprop(CoreOut (av m) (bv m) (gv m) d 0 ∗ CoreOut (av m) (bv m) (gv m) d 1) := two_cores _

theorem call_split (d : Dev nD) :
    (held (d.tc : Thread nD τ) four (V3 m d) : sProp (RR F)) ⊢ iprop(CoreIn (av m) (bv m) (gv m) d 0 ∗ CoreIn (av m) (bv m) (gv m) d 1) := by
  rw [held_four]
  iintro ⟨Ha, Hb, Hg, Ho⟩
  ihave Ha := (halve _).mp $$ Ha
  ihave Hb := (halve _).mp $$ Hb
  ihave Hg := (halve _).mp $$ Hg
  icases Ha with ⟨Ha0, Ha1⟩
  icases Hb with ⟨Hb0, Hb1⟩
  icases Hg with ⟨Hg0, Hg1⟩
  rw [← core_union]
  ihave Ho := (pointsTo_union core_disj).mp $$ Ho
  icases Ho with ⟨Ho0, Ho1⟩
  isplitl [Ha0 Hb0 Hg0 Ho0]
  · isplitl [Ha0]; iexact Ha0
    isplitl [Hb0]; iexact Hb0
    isplitl [Hg0]; iexact Hg0
    iexists _; iexact Ho0
  · isplitl [Ha1]; iexact Ha1
    isplitl [Hb1]; iexact Hb1
    isplitl [Hg1]; iexact Hg1
    iexists _; iexact Ho1

theorem call_join (d : Dev nD) :
    iprop(CoreOut (av m) (bv m) (gv m) d 0 ∗ CoreOut (av m) (bv m) (gv m) d 1)
      ⊢ iprop((held (d.tc : Thread nD τ) four (V4 m d) : sProp (RR F)) ∗ bars d 0 ∗ bars d 1) := by
  have hA : V4 m d rA = av m d := Function.update_of_ne (by decide) _ _
  have hB : V4 m d rB = bv m d := Function.update_of_ne (by decide) _ _
  have hG : V4 m d rG = gv m d := Function.update_of_ne (by decide) _ _
  have hO : V4 m d rO = outV (gv m d) (av m d) (bv m d) := Function.update_self _ _ _
  rw [held_four, hA, hB, hG, hO]
  iintro ⟨⟨⟨Ha0, Hb0, Hg0, Ho0⟩, Hz0⟩, ⟨Ha1, Hb1, Hg1, Ho1⟩, Hz1⟩
  isplitr [Hz0 Hz1]
  · isplitl [Ha0 Ha1]
    · iapply (SparseCore.ent (halve (ℓ := aLoc d) (av m d)).mpr)
      isplitl [Ha0]; iexact Ha0
      iexact Ha1
    isplitl [Hb0 Hb1]
    · iapply (SparseCore.ent (halve (ℓ := bLoc d) (bv m d)).mpr)
      isplitl [Hb0]; iexact Hb0
      iexact Hb1
    isplitl [Hg0 Hg1]
    · iapply (SparseCore.ent (halve (ℓ := gLoc d) (gv m d)).mpr)
      isplitl [Hg0]; iexact Hg0
      iexact Hg1
    rw [← core_union]
    iapply (SparseCore.ent (pointsTo_union (ℓ := oLoc d) core_disj).mpr)
    isplitl [Ho0]; iexact Ho0
    iexact Ho1
  · isplitl [Hz0] <;> iassumption

/-- What @main leaves. -/
abbrev FIN (d : Dev nD) : sProp (RR F) := iprop(held (d.tc : Thread nD τ) (Pipeline.ucRefs τ sig) (V7 m d) ∗ bars d 0 ∗ bars d 1)

theorem held_rest (d : Dev nD) :
    (held (d.tc : Thread nD τ) (Pipeline.ucRefs τ sig \ four) (V3 m d) : sProp (RR F)) = held (d.tc : Thread nD τ) (Pipeline.ucRefs τ sig \ four) (V4 m d) :=
  StableHlo.held_congr _ fun b hb => (Function.update_of_ne (fun h => (Finset.mem_sdiff.mp hb).2 (by rw [h]; decide)) _ _).symm

theorem take_four (d : Dev nD) : (held (d.tc : Thread nD τ) (Pipeline.ucRefs τ sig) (after opsB (V2 m d)) : sProp (RR F))
    ⊢ iprop(held (d.tc : Thread nD τ) four (V3 m d) ∗ held (d.tc : Thread nD τ) (Pipeline.ucRefs τ sig \ four) (V3 m d)) :=
  Entails.of_eq (StableHlo.held_sub_split (d.tc : Thread nD τ) four_sub (V3 m d))

/-- What the two dense kernels' blocks start with. -/
abbrev GG (d : Dev nD) : sProp (RR F) :=
  iprop((Pipeline.cellsGhost (Pipeline.pin (pcfgs (F := F)) adm) EP 0 d ∗ Pipeline.toksInit (Pipeline.pin (pcfgs (F := F)) adm) EP 0 d)
    ∗ (Pipeline.cellsGhost (Pipeline.pin (pcfgs (F := F)) adm) EP 1 d ∗ Pipeline.toksInit (Pipeline.pin (pcfgs (F := F)) adm) EP 1 d))
def zz : UP := initOf (Pipeline.cells (Pipeline.pin (pcfgs (F := F)) adm) pinj) (Pipeline.launchToks (Pipeline.pin (pcfgs (F := F)) adm) pinj)

theorem hz : BI.own (EP (zz (F := F))) ⊢ (|==> bigSep Finset.univ (GG (F := F)) : sProp (RR F)) := by
  refine (Pipeline.fund_ghost (Pipeline.pin (pcfgs (F := F)) adm) EP pinj).trans (BI.bupd_mono ?_)
  rw [← bigSep_sep']
  refine bigSep_mono fun d _ => ?_
  rw [two_cores, two_cores]
  change iprop((Pipeline.cellsGhost (Pipeline.pin (pcfgs (F := F)) adm) EP 0 d ∗ Pipeline.cellsGhost (Pipeline.pin (pcfgs (F := F)) adm) EP 1 d) ∗ (Pipeline.toksInit (Pipeline.pin (pcfgs (F := F)) adm) EP 0 d ∗ Pipeline.toksInit (Pipeline.pin (pcfgs (F := F)) adm) EP 1 d)) ⊢ GG d
  iintro ⟨⟨H0, H1⟩, ⟨T0, T1⟩⟩
  isplitl [H0 T0]
  · isplitl [H0] <;> iassumption
  · isplitl [H1] <;> iassumption

/-- @main on a device's TensorCore. -/
theorem hmain [∀ e, Nonempty (Elt F e)] (κ : GSem nD τ sig → ℕ) (d : Dev nD) :
    iprop((K (F := F)).ctx EH (P (av m) (bv m) (gv m)) κ ∗ (K (F := F)).tcSt EH d 0 ∗ (K (F := F)).tcRes m ρ d ∗ GG d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show unscopedBufs d (fun b => m ((SparseCore.T d).loc b))
        = (held (d.tc : Thread nD τ) (Pipeline.ucRefs τ sig) (fun b => m (d, b)) : sProp (RR F))
      from Pipeline.unscopedBufs_held d (fun b => m (d, b)), main_eq]
  iintro ⟨#Hctx, Hst, ⟨Hb, Hu, Hts, -⟩, HG0, HG1⟩
  iapply (StableHlo.wp_seq 𝒱 none Set.univ d (Pipeline.ucRefs τ sig) _ opsA opsA_sub opsA_fresh (fun b => m (d, b))) $$ [Hb Hu]
  · isplitl [Hb] <;> iassumption
  iintro ⟨Hb, Hu⟩
  iapply (dense_step (av m) (bv m) (gv m) κ 0 0 (V1 m) (V2 m) (regA m) d rfl rfl _ _)
  isplitr; iexact Hctx
  isplitl [Hst]; iexact Hst
  isplitl [Hb]; iexact Hb
  isplitl [Hu]; iexact Hu
  isplitl [HG0]; iexact HG0
  iintro ⟨Hst, Hb, Hu⟩
  iapply (StableHlo.wp_seq 𝒱 none Set.univ d (Pipeline.ucRefs τ sig) _ opsB opsB_sub opsB_fresh (V2 m d)) $$ [Hb Hu]
  · isplitl [Hb] <;> iassumption
  iintro ⟨Hb, Hu⟩
  ihave Hu := (take_four m d) $$ Hu
  icases Hu with ⟨Hf, Hr⟩
  ihave Hf := (call_split m d) $$ Hf
  rw [wp_bind]
  iapply ((K (F := F)).wp_run (D (F := F)) 𝒱 (EH := EH) (P := P (av m) (bv m) (gv m)) κ d 0) $$ [Hst Hf Hr Hb Hts HG1]
  isplitr; iexact Hctx
  isplitl [Hst]; iexact Hst
  isplitl [Hf]
  · rw [st_eq]; iexact Hf
  iintro ⟨Hst, Hdn⟩
  ihave Hdn := (Entails.of_eq (dn_eq m d)) $$ Hdn
  ihave Hdn := (call_join m d) $$ Hdn
  icases Hdn with ⟨Hf, Hz⟩
  ihave Hr := (Entails.of_eq (held_rest m d)) $$ Hr
  ihave Hu := (Entails.of_eq (StableHlo.held_sub_split (d.tc : Thread nD τ) four_sub (V4 m d)).symm) $$ [Hf Hr]
  · isplitl [Hf] <;> iassumption
  iapply (StableHlo.wp_seq 𝒱 none Set.univ d (Pipeline.ucRefs τ sig) _ opsC opsC_sub opsC_fresh (V4 m d)) $$ [Hb Hu]
  · isplitl [Hb] <;> iassumption
  iintro ⟨Hb, Hu⟩
  iapply (dense_step (av m) (bv m) (gv m) κ 1 1 (V5 m) (V6 m) (regB m) d rfl rfl _ _)
  isplitr; iexact Hctx
  isplitl [Hst]; iexact Hst
  isplitl [Hb]; iexact Hb
  isplitl [Hu]; iexact Hu
  isplitl [HG1]; iexact HG1
  iintro ⟨Hst, Hb, Hu⟩
  iapply (StableHlo.wp_seq 𝒱 none Set.univ d (Pipeline.ucRefs τ sig) _ opsD opsD_sub opsD_fresh (V6 m d)) $$ [Hb Hu]
  · isplitl [Hb] <;> iassumption
  iintro ⟨Hb, Hu⟩
  rw [wp_pure]
  imodintro
  isplitl [Hst]; iexact Hst
  isplitr [Hb Hts]
  · isplitl [Hu]; iexact Hu
    iexact Hz
  isplitl [Hb] <;> iassumption

/-- What the last memory is. -/
def fq (d : Dev nD) (s' : Phys nD τ sig (Elt F)) : Prop :=
  (∀ b ∈ Pipeline.ucRefs τ sig, s'.mem.mem (d, b) = V7 m d b) ∧ ∀ (c : Fin 2) (i : Fin 16), s'.mem.sem (bcell d c i) = 0

theorem held_elim (d : Dev nD) (S : Finset (DevRef τ sig)) (W : Valuation τ sig (Elt F)) (b : DevRef τ sig) (hb : b ∈ S) :
    (held (d.tc : Thread nD τ) S W : sProp (RR F)) ⊢ ((d, b) : Loc nD τ sig) ↦{fullShare} W b := by
  unfold held; exact bigSep_elim hb
theorem held_read (d : Dev nD) (S : Finset (DevRef τ sig)) (W : Valuation τ sig (Elt F)) (b : DevRef τ sig) (hb : b ∈ S) (s' : Phys nD τ sig (Elt F)) :
    iprop(held (d.tc : Thread nD τ) S W ∗ SI s') ⊢ (⌜s'.mem.mem (d, b) = W b⌝ : sProp (RR F)) := by
  iintro ⟨Hx, HSI⟩
  ihave Hx := (held_elim d S W b hb) $$ Hx
  ihave H := (SI_pointsTo_agree (st := s') (ℓ := (d, b)) (I := Finset.univ) (q := fullShare) (f := W b)) $$ [HSI Hx]
  · isplitl [HSI] <;> iassumption
  icases H with %hx
  ipureintro; exact funext fun i => hx i (Finset.mem_univ i)

theorem bars_read (d : Dev nD) (c : Fin 2) (i : Fin 16) (s' : Phys nD τ sig (Elt F)) :
    iprop(bars d c ∗ SI s') ⊢ (⌜s'.mem.sem (bcell d c i) = 0⌝ : sProp (RR F)) :=
  (sep_mono_left (SparseCore.ent (bigSep_elim (Finset.mem_univ i)))).trans (SparseCore.Cfg.semVal_zero_read _ s')

theorem hfin (d : Dev nD) (s' : Phys nD τ sig (Elt F)) : iprop(FIN m d ∗ SI s') ⊢ (⌜fq m d s'⌝ : sProp (RR F)) :=
  fun x hx => ⟨fun b hb => ((sep_mono_left sep_elim_left).trans (held_read d _ (V7 m d) b hb s')) x hx, fun c i =>
    match c with
    | 0 => ((sep_mono_left (sep_elim_right.trans sep_elim_left)).trans (bars_read d 0 i s')) x hx
    | 1 => ((sep_mono_left (sep_elim_right.trans sep_elim_right)).trans (bars_read d 1 i s')) x hx⟩

theorem hA (s' : Phys nD τ sig (Elt F)) (h : ∀ d, fq m d s') (c : GSem nD τ sig) (hc : c ∈ bCells) : s'.mem.sem c = 0 := by
  obtain ⟨⟨d, c, i⟩, hx, rfl⟩ := Finset.mem_image.mp hc
  exact (h d).2 c i

/-- The program runs to that memory, every counter at zero. -/
theorem run_main [∀ e, Nonempty (Elt F e)] (ha : ∀ d e, (flat (av m d) e).toNat < 10000) :
    θ_run (Cert.KernelIdeal.defs (F := F)) (Cert.KernelIdeal.threads (F := F)) ⟨m, fun _ => 0, ρ⟩
      fun r => (∀ d, ∀ b ∈ Pipeline.ucRefs τ sig, r.2.mem (d, b) = V7 m d b) ∧ r.2.sem = fun _ => 0 :=
  SparseCore.Cfg.θ_run_sc_quiescent (K := K (F := F)) (D := D (F := F)) (𝒱 := 𝒱) (EH := EH) (P := P (av m) (bv m) (gv m)) (hA := hA m) facts v₀
    (fun q hq => match q with | 0 => nomatch hq)
    (fun q _ => match q with | 0 => tileObl (av m) (bv m) (gv m) ha facts)
    (fun q _ => match q with | 0 => vecSplit (av m) (bv m) (gv m))
    m ρ main GG (FIN m) (uOf (F := F) zz) (hu₀ (av m) (bv m) (gv m) zz GG hz) (hmain m ρ) (fq m) (hfin m) _ (fun _ h hz => ⟨fun d => (h d).1, hz⟩)

end Main

end

end Cert.Proof.Seg
-- ==== Proof.RefRun.lean ====
module

public import proofs.«01_k».proof.ReferenceIdeal
public import proofs.«01_k».proof.Proof.Gen.ReferenceIdeal
public import Idealize.ShloMosaic.Lib.StableHlo
public import Idealize.ShloMosaic.Lib.StableHlo.Run
public import Idealize.ShloMosaic.Lib.StableHlo.ReadAt
public import Idealize.ShloMosaic.Lib.Pipeline.Quiescent

/-! # The reference's run

The reference is host operations only: its run, what its result holds as a term over its arguments, and that the arguments stay. -/

@[expose] public section

namespace Cert.Proof.Ref

open Cert.ReferenceIdeal Cert.ReferenceIdeal.Gen
open Idealize.ShloMosaic Idealize.SL.Sem
open Idealize.ShloMosaic.StableHlo (after seq launchContents tcRefs)

noncomputable section

variable {F : FTy → Type} [FloatOps F]

/-- The reference's operations up to the rows taken, and those after them. -/
def opsP : List (HloOp τ sig (Elt F)) :=
  [StableHlo.reshape main_arg0 main_v0 (rfl : (.f32 : EltTy) = .f32) shapeCasts_S1x128x10000x1_S1x128x10000,
   StableHlo.unary main_v0 main_v1 ((transpose S1x10000x128 [0, 2, 1] · transposes_S1x128x10000_S1x10000x128_0_2_1) : (⟨S1x128x10000, .f32⟩ : BufTy).Contents (Elt F) → (⟨S1x10000x128, .f32⟩ : BufTy).Contents (Elt F)),
   StableHlo.reshape main_v1 main_v2 (rfl : (.f32 : EltTy) = .f32) shapeCasts_S1x10000x128_S10000x128,
   StableHlo.reshape main_arg1 main_v3 (rfl : (.i32 : EltTy) = .i32) shapeCasts_S2x1x10000x32_S2x320000,
   StableHlo.unary main_v3 main_v4 ((extractStridedSlice S1x320000 ![0, 0] · slices_S2x320000_S1x320000_0_0) : (⟨S2x320000, .i32⟩ : BufTy).Contents (Elt F) → (⟨S1x320000, .i32⟩ : BufTy).Contents (Elt F)),
   StableHlo.reshape main_v4 main_v5 (rfl : (.i32 : EltTy) = .i32) shapeCasts_S1x320000_S320000,
   StableHlo.unary main_v3 main_v6 ((extractStridedSlice S1x320000 ![1, 0] · slices_S2x320000_S1x320000_1_0) : (⟨S2x320000, .i32⟩ : BufTy).Contents (Elt F) → (⟨S1x320000, .i32⟩ : BufTy).Contents (Elt F)),
   StableHlo.reshape main_v6 main_v7 (rfl : (.i32 : EltTy) = .i32) shapeCasts_S1x320000_S320000,
   StableHlo.TRef.nullary main_call0.c (constantI S_ 32 0#32),
   StableHlo.TRef.unary main_call0.c main_call0.v0 (broadcastInDim S320000 ![] bcast_S_S320000),
   StableHlo.TRef.binary (.of main_v7 : StableHlo.TRef sig ⟨S320000, .i32⟩) main_call0.v0 main_call0.v1 (cmpi .slt),
   StableHlo.TRef.nullary main_call0.c_0 (constantI S_ 32 10000#32),
   StableHlo.TRef.unary main_call0.c_0 main_call0.v2 (broadcastInDim S320000 ![] bcast_S_S320000),
   StableHlo.TRef.binary (.of main_v7 : StableHlo.TRef sig ⟨S320000, .i32⟩) main_call0.v2 main_call0.v3 addi,
   StableHlo.TRef.ternary main_call0.v1 main_call0.v3 (.of main_v7 : StableHlo.TRef sig ⟨S320000, .i32⟩) main_call0.call0.v0 select,
   StableHlo.TRef.unary main_call0.call0.v0 main_call0.v5 (broadcastInDim S320000x1 ![0] bcast_S320000_S320000x1_0),
   StableHlo.TRef.nullary main_call0.c_1 (constantI S1 32 9999#32),
   StableHlo.TRef.nullary main_call0.c_2 (constantI S_ 32 0#32),
   StableHlo.TRef.unary main_call0.c_2 main_call0.v6 (broadcastInDim S320000x1 ![] bcast_S_S320000x1),
   StableHlo.TRef.binary main_call0.v5 main_call0.v6 main_call0.v7 (cmpi .sge),
   StableHlo.TRef.unary main_call0.c_1 main_call0.v8 (broadcastInDim S1x1 ![1] bcast_S1_S1x1_1),
   StableHlo.TRef.unary main_call0.v8 main_call0.v9 (broadcastInDim S320000x1 ![0, 1] bcast_S1x1_S320000x1_0_1),
   StableHlo.TRef.binary main_call0.v5 main_call0.v9 main_call0.v10 (cmpi .sle),
   StableHlo.TRef.binary main_call0.v7 main_call0.v10 main_call0.v11 andi,
   StableHlo.TRef.nullary main_call0.c_3 (constantI S_ 1 1#1),
   StableHlo.TRef.binary main_call0.v11 main_call0.c_3 main_call0.v12 (fun x v => Host.reduce IntOp.andi x v reducesTo_S320000x1_S320000_d1 h_S_),
   StableHlo.TRef.binary (.of main_v2 : StableHlo.TRef sig ⟨S10000x128, .f32⟩) main_call0.v5 main_call0.v13 (fun x i => Host.gather gather_S10000x128_S320000x1_S320000x128_1_0_n_n_0_1_1128 x i),
   StableHlo.TRef.unary main_call0.v12 main_call0.v14 (broadcastInDim S320000x128 ![0] bcast_S320000_S320000x128_0),
   StableHlo.TRef.nullary main_call0.cst (constant S_ .f32 0x7FC00000#32),
   StableHlo.TRef.unary main_call0.cst main_call0.v15 (broadcastInDim S320000x128 ![] bcast_S_S320000x128),
   StableHlo.TRef.ternary main_call0.v14 main_call0.v13 main_call0.v15 main_call0.v16 select,
   StableHlo.TRef.nullary main_call1.c (constantI S_ 32 0#32),
   StableHlo.TRef.unary main_call1.c main_call1.v0 (broadcastInDim S320000 ![] bcast_S_S320000),
   StableHlo.TRef.binary (.of main_v5 : StableHlo.TRef sig ⟨S320000, .i32⟩) main_call1.v0 main_call1.v1 (cmpi .slt),
   StableHlo.TRef.nullary main_call1.c_0 (constantI S_ 32 10000#32),
   StableHlo.TRef.unary main_call1.c_0 main_call1.v2 (broadcastInDim S320000 ![] bcast_S_S320000),
   StableHlo.TRef.binary (.of main_v5 : StableHlo.TRef sig ⟨S320000, .i32⟩) main_call1.v2 main_call1.v3 addi,
   StableHlo.TRef.ternary main_call1.v1 main_call1.v3 (.of main_v5 : StableHlo.TRef sig ⟨S320000, .i32⟩) main_call1.call0.v0 select,
   StableHlo.TRef.unary main_call1.call0.v0 main_call1.v5 (broadcastInDim S320000x1 ![0] bcast_S320000_S320000x1_0),
   StableHlo.TRef.nullary main_call1.c_1 (constantI S1 32 9999#32),
   StableHlo.TRef.nullary main_call1.c_2 (constantI S_ 32 0#32),
   StableHlo.TRef.unary main_call1.c_2 main_call1.v6 (broadcastInDim S320000x1 ![] bcast_S_S320000x1),
   StableHlo.TRef.binary main_call1.v5 main_call1.v6 main_call1.v7 (cmpi .sge),
   StableHlo.TRef.unary main_call1.c_1 main_call1.v8 (broadcastInDim S1x1 ![1] bcast_S1_S1x1_1),
   StableHlo.TRef.unary main_call1.v8 main_call1.v9 (broadcastInDim S320000x1 ![0, 1] bcast_S1x1_S320000x1_0_1),
   StableHlo.TRef.binary main_call1.v5 main_call1.v9 main_call1.v10 (cmpi .sle),
   StableHlo.TRef.binary main_call1.v7 main_call1.v10 main_call1.v11 andi,
   StableHlo.TRef.nullary main_call1.c_3 (constantI S_ 1 1#1),
   StableHlo.TRef.binary main_call1.v11 main_call1.c_3 main_call1.v12 (fun x v => Host.reduce IntOp.andi x v reducesTo_S320000x1_S320000_d1 h_S_),
   StableHlo.TRef.binary (.of main_v2 : StableHlo.TRef sig ⟨S10000x128, .f32⟩) main_call1.v5 main_call1.v13 (fun x i => Host.gather gather_S10000x128_S320000x1_S320000x128_1_0_n_n_0_1_1128 x i),
   StableHlo.TRef.unary main_call1.v12 main_call1.v14 (broadcastInDim S320000x128 ![0] bcast_S320000_S320000x128_0),
   StableHlo.TRef.nullary main_call1.cst (constant S_ .f32 0x7FC00000#32),
   StableHlo.TRef.unary main_call1.cst main_call1.v15 (broadcastInDim S320000x128 ![] bcast_S_S320000x128),
   StableHlo.TRef.ternary main_call1.v14 main_call1.v13 main_call1.v15 main_call1.v16 select]
def opsQ : List (HloOp τ sig (Elt F)) :=
  [StableHlo.binary main_v9 main_v8 main_v10 (subf : (⟨S320000x128, .f32⟩ : BufTy).Contents (Elt F) → (⟨S320000x128, .f32⟩ : BufTy).Contents (Elt F) → (⟨S320000x128, .f32⟩ : BufTy).Contents (Elt F)),
   StableHlo.binary main_v8 main_v10 main_v11 ((fun a b => concatenate S320000x256 1 [⟨S320000x128, a⟩, ⟨S320000x128, b⟩] concatenates_S320000x128_S320000x128_S320000x256_d1) : (⟨S320000x128, .f32⟩ : BufTy).Contents (Elt F) → (⟨S320000x128, .f32⟩ : BufTy).Contents (Elt F) → (⟨S320000x256, .f32⟩ : BufTy).Contents (Elt F)),
   StableHlo.binary main_v11 main_arg2 main_v12 ((fun l r => Host.dotGeneral dot_S320000x256_S256x128_S320000x128_1_0_0_1_n_n none l r) : (⟨S320000x256, .f32⟩ : BufTy).Contents (Elt F) → (⟨S256x128, .f32⟩ : BufTy).Contents (Elt F) → (⟨S320000x128, .f32⟩ : BufTy).Contents (Elt F)),
   StableHlo.unary main_arg3 main_v13 (broadcastInDim S1x128 ![1] bcast_S128_S1x128_1 : (⟨S128, .f32⟩ : BufTy).Contents (Elt F) → (⟨S1x128, .f32⟩ : BufTy).Contents (Elt F)),
   StableHlo.unary main_v13 main_v14 (broadcastInDim S320000x128 ![0, 1] bcast_S1x128_S320000x128_0_1 : (⟨S1x128, .f32⟩ : BufTy).Contents (Elt F) → (⟨S320000x128, .f32⟩ : BufTy).Contents (Elt F)),
   StableHlo.binary main_v12 main_v14 main_v15 (addf : (⟨S320000x128, .f32⟩ : BufTy).Contents (Elt F) → (⟨S320000x128, .f32⟩ : BufTy).Contents (Elt F) → (⟨S320000x128, .f32⟩ : BufTy).Contents (Elt F)),
   StableHlo.nullary main_cst (constant S_ .f32 0x00000000#32),
   StableHlo.unary main_cst main_v16 (broadcastInDim S320000x128 ![] bcast_S_S320000x128 : (⟨S_, .f32⟩ : BufTy).Contents (Elt F) → (⟨S320000x128, .f32⟩ : BufTy).Contents (Elt F)),
   StableHlo.binary main_v15 main_v16 main_v17 (maximumf : (⟨S320000x128, .f32⟩ : BufTy).Contents (Elt F) → (⟨S320000x128, .f32⟩ : BufTy).Contents (Elt F) → (⟨S320000x128, .f32⟩ : BufTy).Contents (Elt F)),
   StableHlo.unary main_v7 main_v18 (broadcastInDim S1x320000x1 ![1] bcast_S320000_S1x320000x1_1 : (⟨S320000, .i32⟩ : BufTy).Contents (Elt F) → (⟨S1x320000x1, .i32⟩ : BufTy).Contents (Elt F)),
   StableHlo.nullary main_v19 (iotaInDim S10000 32 0),
   StableHlo.unary main_v19 main_v20 (broadcastInDim S10000x1x1 ![0] bcast_S10000_S10000x1x1_0 : (⟨S10000, .i32⟩ : BufTy).Contents (Elt F) → (⟨S10000x1x1, .i32⟩ : BufTy).Contents (Elt F)),
   StableHlo.unary main_v18 main_v21 (broadcastInDim S10000x320000x1 ![0, 1, 2] bcast_S1x320000x1_S10000x320000x1_0_1_2 : (⟨S1x320000x1, .i32⟩ : BufTy).Contents (Elt F) → (⟨S10000x320000x1, .i32⟩ : BufTy).Contents (Elt F)),
   StableHlo.unary main_v20 main_v22 (broadcastInDim S10000x320000x1 ![0, 1, 2] bcast_S10000x1x1_S10000x320000x1_0_1_2 : (⟨S10000x1x1, .i32⟩ : BufTy).Contents (Elt F) → (⟨S10000x320000x1, .i32⟩ : BufTy).Contents (Elt F)),
   StableHlo.binary main_v21 main_v22 main_v23 (cmpi .eq : (⟨S10000x320000x1, .i32⟩ : BufTy).Contents (Elt F) → (⟨S10000x320000x1, .i32⟩ : BufTy).Contents (Elt F) → (⟨S10000x320000x1, .i1⟩ : BufTy).Contents (Elt F)),
   StableHlo.unary main_v17 main_v24 (broadcastInDim S1x320000x128 ![1, 2] bcast_S320000x128_S1x320000x128_1_2 : (⟨S320000x128, .f32⟩ : BufTy).Contents (Elt F) → (⟨S1x320000x128, .f32⟩ : BufTy).Contents (Elt F)),
   StableHlo.nullary main_cst_0 (constant S_ .f32 0x00000000#32),
   StableHlo.TRef.unary (.of main_cst_0 : StableHlo.TRef sig ⟨S_, .f32⟩) main_call2.v0 id,
   StableHlo.TRef.unary (.of main_v23 : StableHlo.TRef sig ⟨S10000x320000x1, .i1⟩) main_call2.v1 (broadcastInDim S10000x320000x128 ![0, 1, 2] bcast_S10000x320000x1_S10000x320000x128_0_1_2),
   StableHlo.TRef.unary (.of main_v24 : StableHlo.TRef sig ⟨S1x320000x128, .f32⟩) main_call2.v2 (broadcastInDim S10000x320000x128 ![0, 1, 2] bcast_S1x320000x128_S10000x320000x128_0_1_2),
   StableHlo.TRef.unary main_call2.v0 main_call2.v3 (broadcastInDim S10000x320000x128 ![] bcast_S_S10000x320000x128),
   StableHlo.TRef.ternary main_call2.v1 main_call2.v2 main_call2.v3 main_call2.v4 select,
   StableHlo.nullary main_cst_1 (constant S_ .f32 0xFF800000#32),
   StableHlo.binary main_v25 main_cst_1 main_v26 ((fun x v => Host.reduce FloatOps.maximumf x v reducesTo_S10000x320000x128_S10000x128_d1 h_S_) : (⟨S10000x320000x128, .f32⟩ : BufTy).Contents (Elt F) → (⟨S_, .f32⟩ : BufTy).Contents (Elt F) → (⟨S10000x128, .f32⟩ : BufTy).Contents (Elt F)),
   StableHlo.reshape main_v26 main_v27 (rfl : (.f32 : EltTy) = .f32) shapeCasts_S10000x128_S1x10000x128,
   StableHlo.unary main_v27 main_v28 ((transpose S1x128x10000 [0, 2, 1] · transposes_S1x10000x128_S1x128x10000_0_2_1) : (⟨S1x10000x128, .f32⟩ : BufTy).Contents (Elt F) → (⟨S1x128x10000, .f32⟩ : BufTy).Contents (Elt F)),
   StableHlo.unary main_v28 main_v29 (broadcastInDim S1x128x10000x1 ![0, 1, 2] bcast_S1x128x10000_S1x128x10000x1_0_1_2 : (⟨S1x128x10000, .f32⟩ : BufTy).Contents (Elt F) → (⟨S1x128x10000x1, .f32⟩ : BufTy).Contents (Elt F))]
/-- The reference's operations, in order. -/
def ops : List (HloOp τ sig (Elt F)) := opsP ++ opsQ

theorem main_eq (d : Dev nD) : main (F := F) d = seq ops := rfl

theorem ops_sub : (ops (F := F)).Forall fun op => op.bufs ⊆ tcRefs τ sig :=
  ⟨StableHlo.reshape_bufs_sub ..,
   StableHlo.unary_bufs_sub ..,
   StableHlo.reshape_bufs_sub ..,
   StableHlo.reshape_bufs_sub ..,
   StableHlo.unary_bufs_sub ..,
   StableHlo.reshape_bufs_sub ..,
   StableHlo.unary_bufs_sub ..,
   StableHlo.reshape_bufs_sub ..,
   StableHlo.nullary_bufs_sub ..,
   StableHlo.unary_bufs_sub ..,
   StableHlo.binary_bufs_sub ..,
   StableHlo.nullary_bufs_sub ..,
   StableHlo.unary_bufs_sub ..,
   StableHlo.binary_bufs_sub ..,
   StableHlo.ternary_bufs_sub ..,
   StableHlo.unary_bufs_sub ..,
   StableHlo.nullary_bufs_sub ..,
   StableHlo.nullary_bufs_sub ..,
   StableHlo.unary_bufs_sub ..,
   StableHlo.binary_bufs_sub ..,
   StableHlo.unary_bufs_sub ..,
   StableHlo.unary_bufs_sub ..,
   StableHlo.binary_bufs_sub ..,
   StableHlo.binary_bufs_sub ..,
   StableHlo.nullary_bufs_sub ..,
   StableHlo.binary_bufs_sub ..,
   StableHlo.binary_bufs_sub ..,
   StableHlo.unary_bufs_sub ..,
   StableHlo.nullary_bufs_sub ..,
   StableHlo.unary_bufs_sub ..,
   StableHlo.ternary_bufs_sub ..,
   StableHlo.nullary_bufs_sub ..,
   StableHlo.unary_bufs_sub ..,
   StableHlo.binary_bufs_sub ..,
   StableHlo.nullary_bufs_sub ..,
   StableHlo.unary_bufs_sub ..,
   StableHlo.binary_bufs_sub ..,
   StableHlo.ternary_bufs_sub ..,
   StableHlo.unary_bufs_sub ..,
   StableHlo.nullary_bufs_sub ..,
   StableHlo.nullary_bufs_sub ..,
   StableHlo.unary_bufs_sub ..,
   StableHlo.binary_bufs_sub ..,
   StableHlo.unary_bufs_sub ..,
   StableHlo.unary_bufs_sub ..,
   StableHlo.binary_bufs_sub ..,
   StableHlo.binary_bufs_sub ..,
   StableHlo.nullary_bufs_sub ..,
   StableHlo.binary_bufs_sub ..,
   StableHlo.binary_bufs_sub ..,
   StableHlo.unary_bufs_sub ..,
   StableHlo.nullary_bufs_sub ..,
   StableHlo.unary_bufs_sub ..,
   StableHlo.ternary_bufs_sub ..,
   StableHlo.binary_bufs_sub ..,
   StableHlo.binary_bufs_sub ..,
   StableHlo.binary_bufs_sub ..,
   StableHlo.unary_bufs_sub ..,
   StableHlo.unary_bufs_sub ..,
   StableHlo.binary_bufs_sub ..,
   StableHlo.nullary_bufs_sub ..,
   StableHlo.unary_bufs_sub ..,
   StableHlo.binary_bufs_sub ..,
   StableHlo.unary_bufs_sub ..,
   StableHlo.nullary_bufs_sub ..,
   StableHlo.unary_bufs_sub ..,
   StableHlo.unary_bufs_sub ..,
   StableHlo.unary_bufs_sub ..,
   StableHlo.binary_bufs_sub ..,
   StableHlo.unary_bufs_sub ..,
   StableHlo.nullary_bufs_sub ..,
   StableHlo.unary_bufs_sub ..,
   StableHlo.unary_bufs_sub ..,
   StableHlo.unary_bufs_sub ..,
   StableHlo.unary_bufs_sub ..,
   StableHlo.ternary_bufs_sub ..,
   StableHlo.nullary_bufs_sub ..,
   StableHlo.binary_bufs_sub ..,
   StableHlo.reshape_bufs_sub ..,
   StableHlo.unary_bufs_sub ..,
   StableHlo.unary_bufs_sub ..⟩

theorem ops_fresh : ∀ op ∈ (ops (F := F)), op.fresh = ∅ :=
  List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Row `r` of the edges, flattened. -/
def srcs (x : IVec S2x1x10000x32 32) : IVec S320000 32 :=
  shapeCast S320000 (extractStridedSlice S1x320000 ![0, 0] (shapeCast S2x320000 x shapeCasts_S2x1x10000x32_S2x320000) slices_S2x320000_S1x320000_0_0) shapeCasts_S1x320000_S320000
def dsts (x : IVec S2x1x10000x32 32) : IVec S320000 32 :=
  shapeCast S320000 (extractStridedSlice S1x320000 ![1, 0] (shapeCast S2x320000 x shapeCasts_S2x1x10000x32_S2x320000) slices_S2x320000_S1x320000_1_0) shapeCasts_S1x320000_S320000

/-- The index column `take` reads at. -/
def takeIx (s : IVec S320000 32) : IVec S320000x1 32 :=
  broadcastInDim S320000x1 ![0] bcast_S320000_S320000x1_0
    (select (cmpi .slt s (broadcastInDim S320000 ![] bcast_S_S320000 (constantI S_ 32 0#32)))
      (addi s (broadcastInDim S320000 ![] bcast_S_S320000 (constantI S_ 32 10000#32))) s)
/-- Which of them are in range. -/
def takeOk (s : IVec S320000 32) : IVec S320000 1 :=
  Host.reduce IntOp.andi
    (andi (cmpi .sge (takeIx s) (broadcastInDim S320000x1 ![] bcast_S_S320000x1 (constantI S_ 32 0#32)))
      (cmpi .sle (takeIx s) (broadcastInDim S320000x1 ![0, 1] bcast_S1x1_S320000x1_0_1 (broadcastInDim S1x1 ![1] bcast_S1_S1x1_1 (constantI S1 32 9999#32)))))
    (constantI S_ 1 1#1) reducesTo_S320000x1_S320000_d1 h_S_
/-- `take`: the rows of `x` at `s`. -/
def takeF (x : FVec F S10000x128 .f32) (s : IVec S320000 32) : FVec F S320000x128 .f32 :=
  select (broadcastInDim S320000x128 ![0] bcast_S320000_S320000x128_0 (takeOk s))
    (Host.gather gather_S10000x128_S320000x1_S320000x128_1_0_n_n_0_1_1128 x (takeIx s))
    (broadcastInDim S320000x128 ![] bcast_S_S320000x128 (constant S_ .f32 0x7FC00000#32))
/-- Which edges go to which node. -/
def onto (t : IVec S320000 32) : IVec S10000x320000x1 1 :=
  cmpi .eq (broadcastInDim S10000x320000x1 ![0, 1, 2] bcast_S1x320000x1_S10000x320000x1_0_1_2 (broadcastInDim S1x320000x1 ![1] bcast_S320000_S1x320000x1_1 t))
    (broadcastInDim S10000x320000x1 ![0, 1, 2] bcast_S10000x1x1_S10000x320000x1_0_1_2 (broadcastInDim S10000x1x1 ![0] bcast_S10000_S10000x1x1_0 (iotaInDim S10000 32 0)))
/-- Each node's rows, the others replaced by `c`. -/
def spread (t : IVec S320000 32) (y : FVec F S320000x128 .f32) (c : FVec F S_ .f32) : FVec F S10000x320000x128 .f32 :=
  select (broadcastInDim S10000x320000x128 ![0, 1, 2] bcast_S10000x320000x1_S10000x320000x128_0_1_2 (onto t))
    (broadcastInDim S10000x320000x128 ![0, 1, 2] bcast_S1x320000x128_S10000x320000x128_0_1_2 (broadcastInDim S1x320000x128 ![1, 2] bcast_S320000x128_S1x320000x128_1_2 y))
    (broadcastInDim S10000x320000x128 ![] bcast_S_S10000x320000x128 c)
/-- The maximum over the edges. -/
def maxE (z : FVec F S10000x320000x128 .f32) : FVec F S10000x128 .f32 :=
  Host.reduce FloatOps.maximumf z (constant S_ .f32 0xFF800000#32) reducesTo_S10000x320000x128_S10000x128_d1 h_S_

/-- The nodes' features, a row each. -/
def nodes (x : FVec F S1x128x10000x1 .f32) : FVec F S10000x128 .f32 :=
  shapeCast S10000x128 (transpose S1x10000x128 [0, 2, 1] (shapeCast S1x128x10000 x shapeCasts_S1x128x10000x1_S1x128x10000) transposes_S1x128x10000_S1x10000x128_0_2_1) shapeCasts_S1x10000x128_S10000x128
/-- Each edge's message: the features it ends at, and what the features it starts from add to them. -/
def msg (xi xj : FVec F S320000x128 .f32) : FVec F S320000x256 .f32 :=
  concatenate S320000x256 1 [⟨S320000x128, xi⟩, ⟨S320000x128, subf xj xi⟩] concatenates_S320000x128_S320000x128_S320000x256_d1
/-- The bias, a row for each edge. -/
def bias (b : FVec F S128 .f32) : FVec F S320000x128 .f32 :=
  broadcastInDim S320000x128 ![0, 1] bcast_S1x128_S320000x128_0_1 (broadcastInDim S1x128 ![1] bcast_S128_S1x128_1 b)
/-- The layer's output on each edge. -/
def layer (y : FVec F S320000x256 .f32) (W : FVec F S256x128 .f32) (b : FVec F S128 .f32) : FVec F S320000x128 .f32 :=
  maximumf (addf (Host.dotGeneral dot_S320000x256_S256x128_S320000x128_1_0_0_1_n_n none y W) (bias b))
    (broadcastInDim S320000x128 ![] bcast_S_S320000x128 (constant S_ .f32 0x00000000#32))
/-- Each node's maximum, in the features' layout. -/
def laid (z : FVec F S10000x128 .f32) : FVec F S1x128x10000x1 .f32 :=
  broadcastInDim S1x128x10000x1 ![0, 1, 2] bcast_S1x128x10000_S1x128x10000x1_0_1_2
    (transpose S1x128x10000 [0, 2, 1] (shapeCast S1x10000x128 z shapeCasts_S10000x128_S1x10000x128) transposes_S1x10000x128_S1x128x10000_0_2_1)

/-- The reference's result over its arguments. -/
def out (x : FVec F S1x128x10000x1 .f32) (ei : IVec S2x1x10000x32 32) (W : FVec F S256x128 .f32) (b : FVec F S128 .f32) : FVec F S1x128x10000x1 .f32 :=
  laid (maxE (spread (dsts ei) (layer (msg (takeF (nodes x) (dsts ei)) (takeF (nodes x) (srcs ei))) W b) (constant S_ .f32 0x00000000#32)))

set_option maxRecDepth 8000 in
theorem P_i (V : Valuation τ sig (Elt F)) : after opsP V (Proc.devRef .tc main_v8) = takeF (nodes (V (Proc.devRef .tc main_arg0))) (dsts (V (Proc.devRef .tc main_arg1))) := by
  unfold opsP
  after_reads_simp
  try simp -implicitDefEqProofs only [StableHlo.TRef.toBuf, StableHlo.TRef.ofBuf, cast_cast, cast_eq]
  clean_types
  unfold takeF takeOk takeIx nodes dsts
  rfl

set_option maxRecDepth 8000 in
theorem P_j (V : Valuation τ sig (Elt F)) : after opsP V (Proc.devRef .tc main_v9) = takeF (nodes (V (Proc.devRef .tc main_arg0))) (srcs (V (Proc.devRef .tc main_arg1))) := by
  unfold opsP
  after_reads_simp
  try simp -implicitDefEqProofs only [StableHlo.TRef.toBuf, StableHlo.TRef.ofBuf, cast_cast, cast_eq]
  clean_types
  unfold takeF takeOk takeIx nodes srcs
  rfl

set_option maxRecDepth 8000 in
theorem P_t (V : Valuation τ sig (Elt F)) : after opsP V (Proc.devRef .tc main_v7) = dsts (V (Proc.devRef .tc main_arg1)) := by
  unfold opsP
  after_reads_simp
  try simp -implicitDefEqProofs only [StableHlo.TRef.toBuf, StableHlo.TRef.ofBuf, cast_cast, cast_eq]
  clean_types
  unfold dsts
  rfl

set_option maxRecDepth 8000 in
theorem P_0 (V : Valuation τ sig (Elt F)) : after opsP V (Proc.devRef .tc main_arg0) = V (Proc.devRef .tc main_arg0) := by
  unfold opsP
  after_reads_simp

set_option maxRecDepth 8000 in
theorem P_1 (V : Valuation τ sig (Elt F)) : after opsP V (Proc.devRef .tc main_arg1) = V (Proc.devRef .tc main_arg1) := by
  unfold opsP
  after_reads_simp

set_option maxRecDepth 8000 in
theorem P_2 (V : Valuation τ sig (Elt F)) : after opsP V (Proc.devRef .tc main_arg2) = V (Proc.devRef .tc main_arg2) := by
  unfold opsP
  after_reads_simp

set_option maxRecDepth 8000 in
theorem P_3 (V : Valuation τ sig (Elt F)) : after opsP V (Proc.devRef .tc main_arg3) = V (Proc.devRef .tc main_arg3) := by
  unfold opsP
  after_reads_simp

set_option maxRecDepth 8000 in
theorem Q_out (V : Valuation τ sig (Elt F)) : after opsQ V (Proc.devRef .tc main_v29)
    = laid (maxE (spread (V (Proc.devRef .tc main_v7)) (layer (msg (V (Proc.devRef .tc main_v8)) (V (Proc.devRef .tc main_v9))) (V (Proc.devRef .tc main_arg2)) (V (Proc.devRef .tc main_arg3))) (constant S_ .f32 0x00000000#32))) := by
  unfold opsQ
  after_reads_simp
  try simp -implicitDefEqProofs only [StableHlo.TRef.toBuf, StableHlo.TRef.ofBuf, cast_cast, cast_eq]
  clean_types
  unfold laid maxE spread onto layer bias msg
  rfl

set_option maxRecDepth 8000 in
theorem Q_0 (V : Valuation τ sig (Elt F)) : after opsQ V (Proc.devRef .tc main_arg0) = V (Proc.devRef .tc main_arg0) := by
  unfold opsQ
  after_reads_simp

set_option maxRecDepth 8000 in
theorem Q_1 (V : Valuation τ sig (Elt F)) : after opsQ V (Proc.devRef .tc main_arg1) = V (Proc.devRef .tc main_arg1) := by
  unfold opsQ
  after_reads_simp

set_option maxRecDepth 8000 in
theorem Q_2 (V : Valuation τ sig (Elt F)) : after opsQ V (Proc.devRef .tc main_arg2) = V (Proc.devRef .tc main_arg2) := by
  unfold opsQ
  after_reads_simp

set_option maxRecDepth 8000 in
theorem Q_3 (V : Valuation τ sig (Elt F)) : after opsQ V (Proc.devRef .tc main_arg3) = V (Proc.devRef .tc main_arg3) := by
  unfold opsQ
  after_reads_simp

theorem out_eq (V : Valuation τ sig (Elt F)) :
    after ops V (Proc.devRef .tc main_v29) = out (V (Proc.devRef .tc main_arg0)) (V (Proc.devRef .tc main_arg1)) (V (Proc.devRef .tc main_arg2)) (V (Proc.devRef .tc main_arg3)) := by
  unfold ops
  rw [StableHlo.after_append, Q_out, P_i, P_j, P_t, P_2, P_3]
  rfl

theorem arg0_eq (V : Valuation τ sig (Elt F)) : after ops V (Proc.devRef .tc main_arg0) = V (Proc.devRef .tc main_arg0) := by
  unfold ops
  rw [StableHlo.after_append, Q_0, P_0]

theorem arg1_eq (V : Valuation τ sig (Elt F)) : after ops V (Proc.devRef .tc main_arg1) = V (Proc.devRef .tc main_arg1) := by
  unfold ops
  rw [StableHlo.after_append, Q_1, P_1]

theorem arg2_eq (V : Valuation τ sig (Elt F)) : after ops V (Proc.devRef .tc main_arg2) = V (Proc.devRef .tc main_arg2) := by
  unfold ops
  rw [StableHlo.after_append, Q_2, P_2]

theorem arg3_eq (V : Valuation τ sig (Elt F)) : after ops V (Proc.devRef .tc main_arg3) = V (Proc.devRef .tc main_arg3) := by
  unfold ops
  rw [StableHlo.after_append, Q_3, P_3]

/-- The reference runs, and every buffer then holds what the operations leave in it. -/
theorem run (m : (ℓ : Loc nD τ sig) → Buf (Elt F) ℓ) (ρ : Dev nD → PrngReg) :
    θ_run (defs (F := F)) (onTc (τ := τ) (main (F := F))) ⟨m, fun _ => 0, ρ⟩ fun r =>
      (∀ (d : Dev nD) (b : Ref sig .tc), r.2.mem ((d.tc : Thread nD τ).loc b) = after ops (launchContents m d) (Proc.devRef .tc b))
      ∧ r.2.sem = fun _ => 0 :=
  (θ_run _ _ _).mono (fun r h => ⟨h, sem_eq_zero_of_no_sems (by decide) r.2⟩)
    (StableHlo.run_seq (by decide) (by decide) defs main (fun _ => ops) main_eq (fun _ => ops_sub) m ρ (fun _ => ops_fresh))

/-- The same, read at the result and at the arguments. -/
theorem run_out (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_v29) = out (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 :=
  (θ_run _ _ _).mono (fun r h => ⟨fun c => ⟨(h.1 c main_v29).trans (out_eq _), (h.1 c main_arg0).trans (arg0_eq _), (h.1 c main_arg1).trans (arg1_eq _), (h.1 c main_arg2).trans (arg2_eq _), (h.1 c main_arg3).trans (arg3_eq _)⟩, h.2⟩)
    (run m ρ)

end

end Cert.Proof.Ref
-- ==== Proof.RefVal.lean ====
module

public import proofs.«01_k».proof.Proof.RefRun
public import Idealize.ShloMosaic.PureOps.Ideal
public import Idealize.ShloMosaic.PureOps.Ideal.Laws
public import Idealize.ShloMosaic.Lib.ValueIdxCore
public import Idealize.ShloMosaic.Lib.IdealHost
public import Idealize.ShloMosaic.Lib.ReduceAll
public import Idealize.ShloMosaic.Lib.Pipeline.Value
public import Idealize.ShloMosaic.Lib.Pointwise.ElementwiseCore
public import Idealize.ShloMosaic.Lib.Pointwise.Reshape
public import Idealize.ShloMosaic.Lib.Pointwise.Contract
public import Idealize.ShloMosaic.Lib.KernelVsHost

/-! # The reference's value, read at an index -/

@[expose] public section

namespace Cert.Proof.Ref

open Cert.ReferenceIdeal Cert.ReferenceIdeal.Gen
open Idealize.ShloMosaic hiding ix0 ix1 ix2 ix3 ix4
open Idealize.ShloMosaic.ValueIdx

noncomputable section

variable {F : FTy → Type} [FloatOps F]

/-- An index in range is not negative, and is left as it is. -/
theorem takeIx_apply (s : IVec S320000 32) (e : Fin 320000) (z : Fin 1) (h : (s (ix1 e)).toNat < 10000) :
    takeIx s (ix2 e z) = s (ix1 e) := by
  unfold takeIx
  rw [broadcastInDim_apply (k := ix1 e) (hk := by intro a; match a with | ⟨0, _⟩ => rfl), select_apply, cmpi_apply, broadcastInDim_scalar_apply]
  have h0 : IntOp.cmpi .slt (s (ix1 e)) (constantI S_ 32 0#32 ix0) = 0#1 := by
    show BitVec.ofBool ((s (ix1 e)).slt 0#32) = 0#1
    have : (s (ix1 e)).slt 0#32 = false := by
      rw [BitVec.slt_eq_decide, decide_eq_false_iff_not, BitVec.toInt_eq_toNat_of_lt (by omega)]
      have : (0#32 : BitVec 32).toInt = 0 := by decide
      omega
    rw [this]; rfl
  rw [h0]; rfl

/-- Such an index is in range. -/
theorem takeOk_apply (s : IVec S320000 32) (e : Fin 320000) (h : (s (ix1 e)).toNat < 10000) : takeOk s (ix1 e) = 1#1 := by
  unfold takeOk
  rw [Host.reduce_eq_fold_single IntOp.andi _ _ _ (by decide)]
  have hl : ∀ k : Fin 1, (show S320000x1.Reduces [1] S320000 by decide).lift (ix1 e) k = ix2 e k := fun k => by
    funext a; match a with | ⟨0, _⟩ => rfl | ⟨1, _⟩ => rfl
  have hone : ∀ k : Fin 1, (andi (cmpi .sge (takeIx s) (broadcastInDim S320000x1 ![] bcast_S_S320000x1 (constantI S_ 32 0#32)))
      (cmpi .sle (takeIx s) (broadcastInDim S320000x1 ![0, 1] bcast_S1x1_S320000x1_0_1 (broadcastInDim S1x1 ![1] bcast_S1_S1x1_1 (constantI S1 32 9999#32))))) (ix2 e k) = 1#1 := by
    intro k
    rw [andi_apply, cmpi_apply, cmpi_apply, takeIx_apply s e k h, broadcastInDim_scalar_apply]
    have ht := BitVec.toInt_eq_toNat_of_lt (show 2 * (s (ix1 e)).toNat < 2 ^ 32 by omega)
    have h0 : IntOp.cmpi .sge (s (ix1 e)) (constantI S_ 32 0#32 ix0) = 1#1 := by
      show BitVec.ofBool ((0#32).sle (s (ix1 e))) = 1#1
      have : (0#32).sle (s (ix1 e)) = true := by
        rw [BitVec.sle_eq_decide, decide_eq_true_iff, ht]
        have : (0#32 : BitVec 32).toInt = 0 := by decide
        omega
      rw [this]; rfl
    have h1 : IntOp.cmpi .sle (s (ix1 e)) (broadcastInDim S320000x1 ![0, 1] bcast_S1x1_S320000x1_0_1 (broadcastInDim S1x1 ![1] bcast_S1_S1x1_1 (constantI S1 32 9999#32)) (ix2 e k)) = 1#1 := by
      show BitVec.ofBool ((s (ix1 e)).sle 9999#32) = 1#1
      have : (s (ix1 e)).sle 9999#32 = true := by
        rw [BitVec.sle_eq_decide, decide_eq_true_iff, ht]
        have : (9999#32 : BitVec 32).toInt = 9999 := by decide
        omega
      rw [this]; rfl
    rw [h0, h1]; rfl
  have hfun : ((andi (cmpi .sge (takeIx s) (broadcastInDim S320000x1 ![] bcast_S_S320000x1 (constantI S_ 32 0#32)))
      (cmpi .sle (takeIx s) (broadcastInDim S320000x1 ![0, 1] bcast_S1x1_S320000x1_0_1 (broadcastInDim S1x1 ![1] bcast_S1_S1x1_1 (constantI S1 32 9999#32)))))
      ∘ (show S320000x1.Reduces [1] S320000 by decide).lift (ix1 e)) = fun _ : Fin 1 => 1#1 := by
    funext k; show _ = _
    rw [Function.comp_apply, hl k]; exact hone k
  rw [hfun]
  rfl

/-- The gather of whole rows, read at an index. -/
theorem gather_row (x : FVec F S10000x128 .f32) (i : IVec S320000x1 32) (e : Fin 320000) (k : Fin 128) :
    Host.gather gather_S10000x128_S320000x1_S320000x128_1_0_n_n_0_1_1128 x i (ix2 e k)
      = x (ix2 ⟨min (i (ix2 e 0)).toInt.toNat 9999, by omega⟩ k) := by
  unfold Host.gather
  congr 1
  funext a
  refine Fin.ext ?_
  match a with
  | ⟨0, _⟩ =>
    show GatherDims.start _ (ix2 e k) i 0 + GatherDims.batchCoord _ (ix2 e k) 0 + GatherDims.offCoord _ (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S10000x128_S320000x1_S320000x128_1_0_n_n_0_1_1128.startIndexMap from List.mem_singleton.mpr rfl)]
    have hsi : gather_S10000x128_S320000x1_S320000x128_1_0_n_n_0_1_1128.siIdx (ix2 e k)
        ⟨List.idxOf (0 : Fin 2) gather_S10000x128_S320000x1_S320000x128_1_0_n_n_0_1_1128.startIndexMap,
          List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show GatherDims.start _ (ix2 e k) i 1 + GatherDims.batchCoord _ (ix2 e k) 1 + GatherDims.offCoord _ (ix2 e k) 1 = _
    rw [GatherDims.batchCoord_eq_zero _ _ _ List.not_mem_nil]
    unfold GatherDims.start
    rw [dif_neg (show (1 : Fin 2) ∉ gather_S10000x128_S320000x1_S320000x128_1_0_n_n_0_1_1128.startIndexMap from by decide)]
    simp only [Nat.zero_add]
    rfl

/-- `take` at an index in range is the row there. -/
theorem takeF_apply (x : FVec F S10000x128 .f32) (s : IVec S320000 32) (e : Fin 320000) (k : Fin 128) (h : (s (ix1 e)).toNat < 10000) :
    takeF x s (ix2 e k) = x (ix2 ⟨(s (ix1 e)).toNat, h⟩ k) := by
  unfold takeF
  rw [select_apply, broadcastInDim_apply (k := ix1 e) (hk := by intro a; match a with | ⟨0, _⟩ => rfl), takeOk_apply s e h, select_one, gather_row]
  have ht := BitVec.toInt_eq_toNat_of_lt (show 2 * (s (ix1 e)).toNat < 2 ^ 32 by omega)
  congr 2
  refine Fin.ext ?_
  show min (takeIx s (ix2 e 0)).toInt.toNat 9999 = _
  rw [takeIx_apply s e 0 h, ht]; show min (s (ix1 e)).toNat 9999 = (s (ix1 e)).toNat; omega

theorem onto_apply (t : IVec S320000 32) (n : Fin 10000) (e : Fin 320000) (z : Fin 1) :
    onto t (ix3 n e z) = if (t (ix1 e)).toNat = n.val then 1#1 else 0#1 := by
  unfold onto
  rw [cmpi_apply, broadcastInDim_apply (k := ix3 0 e 0) (hk := by intro a; match a with | ⟨0, _⟩ => rfl | ⟨1, _⟩ => rfl | ⟨2, _⟩ => rfl),
    broadcastInDim_apply (k := ix1 e) (hk := by intro a; match a with | ⟨0, _⟩ => rfl),
    broadcastInDim_apply (k := ix3 n 0 0) (hk := by intro a; match a with | ⟨0, _⟩ => rfl | ⟨1, _⟩ => rfl | ⟨2, _⟩ => rfl),
    broadcastInDim_apply (k := ix1 n) (hk := by intro a; match a with | ⟨0, _⟩ => rfl), iotaInDim_apply]
  show BitVec.ofBool (t (ix1 e) == BitVec.ofNat 32 n.val) = _
  have hn := n.isLt
  by_cases hc : (t (ix1 e)).toNat = n.val
  · rw [if_pos hc, show t (ix1 e) = BitVec.ofNat 32 n.val from BitVec.eq_of_toNat_eq (by rw [hc, BitVec.toNat_ofNat]; omega), beq_self_eq_true]; rfl
  · rw [if_neg hc, beq_false_of_ne (fun h => hc (by rw [h, BitVec.toNat_ofNat]; omega))]; rfl

theorem spread_apply (t : IVec S320000 32) (y : FVec F S320000x128 .f32) (c : FVec F S_ .f32) (n : Fin 10000) (e : Fin 320000) (k : Fin 128) :
    spread t y c (ix3 n e k) = if (t (ix1 e)).toNat = n.val then y (ix2 e k) else c ix0 := by
  unfold spread
  rw [select_apply, broadcastInDim_apply (k := ix3 n e 0) (hk := by intro a; match a with | ⟨0, _⟩ => rfl | ⟨1, _⟩ => rfl | ⟨2, _⟩ => rfl), onto_apply,
    broadcastInDim_apply (k := ix3 0 e k) (hk := by intro a; match a with | ⟨0, _⟩ => rfl | ⟨1, _⟩ => rfl | ⟨2, _⟩ => rfl),
    broadcastInDim_apply (k := ix2 e k) (hk := by intro a; match a with | ⟨0, _⟩ => rfl | ⟨1, _⟩ => rfl),
    broadcastInDim_scalar_apply]
  split
  · exact select_one _ _
  · exact select_zero _ _

theorem negInf_bot : constant (F := Ideal) S_ .f32 0xFF800000#32 = fun _ => (⊥ : EReal) := by
  funext i
  show Ideal.ofBits .f32 0xFF800000#32 = ⊥
  simp [Ideal.ofBits, Ideal.ieee]

/-- The maximum over the edges is the supremum. -/
theorem maxE_apply (z : FVec Ideal S10000x320000x128 .f32) (n : Fin 10000) (k : Fin 128) :
    maxE z (ix2 n k) = Finset.univ.sup fun e : Fin 320000 => (z (ix3 n e k) : EReal) := by
  unfold maxE
  rw [Host.reduce_eq_fold_single FloatOps.maximumf _ _ _ (by decide), negInf_bot]
  have hl : (z ∘ (show S10000x320000x128.Reduces [1] S10000x128 by decide).lift (ix2 n k)) = fun e : Fin 320000 => z (ix3 n e k) := by
    funext e
    refine congrArg z ?_
    funext a; match a with | ⟨0, _⟩ => rfl | ⟨1, _⟩ => rfl | ⟨2, _⟩ => rfl
  rw [hl]
  rfl

/-- A node's features. -/
theorem nodes_apply (x : FVec F S1x128x10000x1 .f32) (n : Fin 10000) (c : Fin 128) : nodes x (ix2 n c) = x (ix4 0 c n 0) := by
  unfold nodes
  have hn := n.isLt
  have hc := c.isLt
  rw [shapeCast_apply (k := ix3 0 n c) (hk := by
      rw [rowMajor_val2 (σ0 := 128) (h0 := rfl), rowMajor_val3 (σ0 := 1280000) (σ1 := 128) (h0 := rfl) (h1 := rfl)]
      show 0 * 1280000 + n.val * 128 + c.val = n.val * 128 + c.val
      omega),
    transpose_apply (k := ix3 0 c n) (hk := by intro a; match a with | ⟨0, _⟩ => rfl | ⟨1, _⟩ => rfl | ⟨2, _⟩ => rfl)]
  exact shapeCast_apply _ _ _ _ (by
      rw [rowMajor_val3 (σ0 := 1280000) (σ1 := 10000) (h0 := rfl) (h1 := rfl), rowMajor_val4 (σ0 := 1280000) (σ1 := 10000) (σ2 := 1) (h0 := rfl) (h1 := rfl) (h2 := rfl)]
      show 0 * 1280000 + c.val * 10000 + n.val * 1 + 0 = 0 * 1280000 + c.val * 10000 + n.val
      omega)

/-- The result's layout. -/
theorem laid_apply (z : FVec F S10000x128 .f32) (n : Fin 10000) (k : Fin 128) : laid z (ix4 0 k n 0) = z (ix2 n k) := by
  unfold laid
  have hn := n.isLt
  have hk := k.isLt
  rw [broadcastInDim_apply (k := ix3 0 k n) (hk := by intro a; match a with | ⟨0, _⟩ => rfl | ⟨1, _⟩ => rfl | ⟨2, _⟩ => rfl),
    transpose_apply (k := ix3 0 n k) (hk := by intro a; match a with | ⟨0, _⟩ => rfl | ⟨1, _⟩ => rfl | ⟨2, _⟩ => rfl)]
  exact shapeCast_apply _ _ _ _ (by
      rw [rowMajor_val2 (σ0 := 128) (h0 := rfl), rowMajor_val3 (σ0 := 1280000) (σ1 := 128) (h0 := rfl) (h1 := rfl)]
      show n.val * 128 + k.val = 0 * 1280000 + n.val * 128 + k.val
      omega)

/-- An edge's output: both halves of the message against the weights, the bias added, cut off at zero. -/
theorem layer_apply (xi xj : FVec Ideal S320000x128 .f32) (W : FVec Ideal S256x128 .f32) (b : FVec Ideal S128 .f32) (e : Fin 320000) (k : Fin 128) :
    (layer (msg xi xj) W b (ix2 e k) : EReal)
      = max (((∑ c : Fin 128, (xi (ix2 e c) : EReal) * (W (ix2 ⟨c.val, by omega⟩ k) : EReal))
          + ∑ c : Fin 128, ((xj (ix2 e c) : EReal) - (xi (ix2 e c) : EReal)) * (W (ix2 ⟨128 + c.val, by omega⟩ k) : EReal)) + (b (ix1 k) : EReal)) 0 := by
  pointwise [layer, msg, bias]
  rw [show FloatOps.ofBits (F := Ideal) FTy.f32 0#32 = (0 : EReal) from Ideal.ofBits_zero_f32]
  rfl

theorem zero_read : constant (F := Ideal) S_ .f32 0x00000000#32 ix0 = (0 : EReal) := Ideal.ofBits_zero_f32

/-- The reference's result at a node and an output: the maximum, over the edges that go to the node, of their outputs. -/
theorem out_apply (x : FVec Ideal S1x128x10000x1 .f32) (ei : IVec S2x1x10000x32 32) (W : FVec Ideal S256x128 .f32) (b : FVec Ideal S128 .f32)
    (h : ∀ e, (srcs ei (ix1 e)).toNat < 10000) (n : Fin 10000) (k : Fin 128) :
    (out x ei W b (ix4 0 k n 0) : EReal)
      = Finset.univ.sup fun e : Fin 320000 => if (dsts ei (ix1 e)).toNat = n.val then
          max (((∑ c : Fin 128, (x (ix4 0 c n 0) : EReal) * (W (ix2 ⟨c.val, by omega⟩ k) : EReal))
            + ∑ c : Fin 128, ((x (ix4 0 c ⟨(srcs ei (ix1 e)).toNat, h e⟩ 0) : EReal) - (x (ix4 0 c n 0) : EReal)) * (W (ix2 ⟨128 + c.val, by omega⟩ k) : EReal))
            + (b (ix1 k) : EReal)) 0 else (0 : EReal) := by
  unfold out
  rw [laid_apply, maxE_apply]
  refine congrArg _ (funext fun e => ?_)
  rw [spread_apply, zero_read]
  by_cases hd : (dsts ei (ix1 e)).toNat = n.val
  · rw [if_pos hd, if_pos hd, layer_apply]
    have hn : (dsts ei (ix1 e)).toNat < 10000 := by have := n.isLt; omega
    have h1 : ∀ c : Fin 128, takeF (nodes x) (dsts ei) (ix2 e c) = x (ix4 0 c n 0) := fun c => by
      rw [takeF_apply _ _ _ _ hn, nodes_apply, show (⟨_, hn⟩ : Fin 10000) = n from Fin.ext hd]
    have h2 : ∀ c : Fin 128, takeF (nodes x) (srcs ei) (ix2 e c) = x (ix4 0 c ⟨(srcs ei (ix1 e)).toNat, h e⟩ 0) := fun c => by
      rw [takeF_apply _ _ _ _ (h e), nodes_apply]
    simp only [h1, h2]
  · rw [if_neg hd, if_neg hd]

end

end Cert.Proof.Ref
-- ==== Proof.DenseVal.lean ====
module

public import proofs.«01_k».proof.Proof.Dense
public import proofs.«01_k».proof.Proof.Finish
public import Idealize.ShloMosaic.PureOps.Ideal
public import Idealize.ShloMosaic.PureOps.Ideal.Laws
public import Idealize.ShloMosaic.Lib.ValueIdxCore
public import Idealize.ShloMosaic.Lib.Pipeline.Value
public import Idealize.ShloMosaic.Lib.Pipeline.ValueKit
public import Idealize.ShloMosaic.Lib.Pointwise
public import Idealize.ShloMosaic.Lib.KernelVsHost

/-! # What the dense kernels compute -/

@[expose] public section

namespace Cert.Proof.Seg

open Cert.KernelIdeal Cert.KernelIdeal.Gen
open Idealize.ShloMosaic
open Idealize.ShloMosaic.SparseCore (S V T)
open Idealize.ShloMosaic.SparseCore.Cfg (HIx Pay)
open Idealize.ShloMosaic.Pipeline (Dat Cfg Window)

noncomputable section

theorem idx0 : ∀ t : Fin grid0.N, win0_0.index t = ![0, t.val] ∧ win0_1.index t = ![0, 0] ∧ win0_2.index t = ![t.val, 0] := by decide +kernel
theorem idx2 : ∀ t : Fin grid2.N, win2_0.index t = ![0, t.val] ∧ win2_1.index t = ![0, 0] ∧ win2_2.index t = ![0, 0] ∧ win2_3.index t = ![t.val, 0] ∧ win2_4.index t = ![t.val, 0] := by decide +kernel

theorem out0_eq (x0 : Vec Ideal S128x1024 .f32) (x1 : Vec Ideal S256x128 .f32) (r : Fin 1024) (o : Fin 128) :
    (out0 x0 x1 (ix2 r o) : EReal) = ∑ c : Fin 128, (x0 (ix2 c r) : EReal) * (x1 (ix2 ⟨128 + c.val, by omega⟩ o) : EReal) := by
  unfold out0
  rw [View.canon_cons_unit_lit (h := by decide)]
  pointwise [k0_pay1]

theorem out2_eq (x0 : Vec Ideal S128x1024 .f32) (x1 : Vec Ideal S256x128 .f32) (x2 : Vec Ideal S1x128 .f32) (x3 : Vec Ideal S1024x128 .f32) (r : Fin 1024) (o : Fin 128) :
    (out2 x0 x1 x2 x3 (ix2 r o) : EReal)
      = max (((∑ c : Fin 128, (x0 (ix2 c r) : EReal) * ((x1 (ix2 ⟨c.val, by omega⟩ o) : EReal) - (x1 (ix2 ⟨128 + c.val, by omega⟩ o) : EReal))) + (x2 (ix2 0 o) : EReal)) + (x3 (ix2 r o) : EReal)) 0 := by
  unfold out2
  rw [View.canon_cons_unit_lit (h := by decide)]
  pointwise [k2_pay1]

/-- The rows against the lower half of the weights. -/
def prodG (xt : FVec Ideal S128x10240 .f32) (W : FVec Ideal S256x128 .f32) : FVec Ideal S10240x128 .f32 := fun j =>
  (∑ c : Fin 128, (xt (ix2 c (j 0)) : EReal) * (W (ix2 ⟨128 + c.val, by omega⟩ (j 1)) : EReal) : EReal)

/-- The rows against the difference of the halves, with the bias and the maxima. -/
def joinG (xt : FVec Ideal S128x10240 .f32) (W : FVec Ideal S256x128 .f32) (b : FVec Ideal S1x128 .f32) (m : FVec Ideal S10240x128 .f32) : FVec Ideal S10240x128 .f32 := fun j =>
  (max (((∑ c : Fin 128, (xt (ix2 c (j 0)) : EReal) * ((W (ix2 ⟨c.val, by omega⟩ (j 1)) : EReal) - (W (ix2 ⟨128 + c.val, by omega⟩ (j 1)) : EReal))) + (b (ix2 0 (j 1)) : EReal)) + (m j : EReal)) 0 : EReal)

variable (V : (c : Dev nD) → (b : Ref sig .tc) → Buf (Elt Ideal) ((T c : Thread nD τ).loc b)) (O : Dev nD → CellTallies nD τ sig (HIx 1)) (n : ℕ)

set_option maxHeartbeats 2000000 in
theorem made0_eq (c : Dev nD) : made0 V O n c = prodG (V c main_v1) (V c main_arg2) := by
  unfold made0
  refine (dat0 V O n c).arrAt_eq_of_covers 2 _ (by decide +kernel) fun t hf y => ?_
  blk_simp
  rw [after0_2]
  refine (congrArg (out0 _ _) (eq_ix2 y)).trans ((out0_eq _ _ (y 0) (y 1)).trans ?_)
  unfold prodG
  refine Finset.sum_congr rfl fun k _ => ?_
  congr 1
  · blk_ext [iblk0, idx0 t]
  · blk_ext [iblk0, idx0 t]

set_option maxHeartbeats 2000000 in
theorem made2_eq (c : Dev nD) : made2 V O n c = joinG (V c main_v1) (V c main_arg2) (V c main_v9) (V c main_v13) := by
  unfold made2
  refine (dat2 V O n c).arrAt_eq_of_covers 4 _ (by decide +kernel) fun t hf y => ?_
  blk_simp
  rw [after2_4]
  refine (congrArg (out2 _ _ _ _) (eq_ix2 y)).trans ((out2_eq _ _ _ _ (y 0) (y 1)).trans ?_)
  unfold joinG
  congr 1
  congr 1
  · congr 1
    · refine Finset.sum_congr rfl fun k _ => ?_
      congr 1
      · blk_ext [iblk2, idx2 t]
      · congr 1
        · blk_ext [iblk2, idx2 t]
        · blk_ext [iblk2, idx2 t]
    · blk_ext [iblk2, idx2 t]
  · blk_ext [iblk2, idx2 t]

end

end Cert.Proof.Seg
-- ==== Proof.Algebra.lean ====
module

public import Idealize.ShloMosaic.PureOps.Ideal
public import Mathlib.Data.EReal.Operations
public import Mathlib.Algebra.BigOperators.Ring.Finset
public import Mathlib.Data.Finset.Lattice.Fold

/-! # The edge convolution, factored

An edge's output is a part of its destination alone, and a part of its source alone; so the maximum over the edges that go to a node is the first part with the maximum of the second. -/

@[expose] public section

namespace Cert.Proof.Algebra

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Adding one value to a maximum that may be over nothing. -/
theorem add_sup {ι : Type} (s : Finset ι) (y : EReal) (f : ι → EReal) : y + s.sup f = s.sup fun e => y + f e :=
  Finset.comp_sup_eq_sup_comp (fun z => y + z) (fun a b => Monotone.map_sup (f := fun z : EReal => y + z) (fun _ _ h => add_le_add_right h y) a b) (EReal.add_bot y)

/-- The factored form's maximum is the maximum of the edges' outputs. -/
theorem factored {ι κ : Type} [Fintype ι] [Nonempty ι] [Fintype κ] (P : ι → Prop) [DecidablePred P]
    (xi wt wb : κ → EReal) (xs : ι → κ → EReal) (b : EReal)
    (hxi : ∀ c, ∃ r : ℝ, xi c = r) (hwt : ∀ c, ∃ r : ℝ, wt c = r) (hwb : ∀ c, ∃ r : ℝ, wb c = r) (hxs : ∀ e c, ∃ r : ℝ, xs e c = r) :
    max (((∑ c, xi c * (wt c - wb c)) + b) + Finset.univ.sup fun e => if P e then ∑ c, xs e c * wb c else ⊥) 0
      = Finset.univ.sup fun e => if P e then max (((∑ c, xi c * wt c) + ∑ c, (xs e c - xi c) * wb c) + b) 0 else 0 := by
  choose xi' hxi using hxi
  choose wt' hwt using hwt
  choose wb' hwb using hwb
  choose xs' hxs using hxs
  have h1 : ∀ e, ((∑ c, xi c * wt c) + ∑ c, (xs e c - xi c) * wb c) = (∑ c, xi c * (wt c - wb c)) + ∑ c, xs e c * wb c := by
    intro e
    simp only [hxi, hwt, hwb, hxs, ← EReal.coe_sub, ← EReal.coe_mul, ← coe_sum, ← EReal.coe_add]
    rw [← Finset.sum_add_distrib, ← Finset.sum_add_distrib]
    refine congrArg _ (Finset.sum_congr rfl fun c _ => ?_)
    ring
  have h2 : ∀ e, (if P e then max (((∑ c, xi c * wt c) + ∑ c, (xs e c - xi c) * wb c) + b) 0 else 0)
      = (((∑ c, xi c * (wt c - wb c)) + b) + if P e then ∑ c, xs e c * wb c else ⊥) ⊔ (0 : EReal) := by
    intro e
    split
    · rw [h1 e, add_right_comm]
    · rw [EReal.add_bot, bot_sup_eq]
  simp only [h2]
  rw [show (fun e => (((∑ c, xi c * (wt c - wb c)) + b) + if P e then ∑ c, xs e c * wb c else ⊥) ⊔ (0 : EReal))
      = (fun e => ((∑ c, xi c * (wt c - wb c)) + b) + if P e then ∑ c, xs e c * wb c else ⊥) ⊔ fun _ => (0 : EReal) from rfl,
    Finset.sup_sup, Finset.sup_const Finset.univ_nonempty, add_sup]

end Cert.Proof.Algebra
-- ==== Proof.Value.lean ====
module

public import proofs.«01_k».proof.Proof.Tile
public import proofs.«01_k».proof.Proof.RefVal
public import proofs.«01_k».proof.Proof.DenseVal
public import proofs.«01_k».proof.Proof.Assume
public import proofs.«01_k».proof.Proof.Algebra
public import Idealize.ShloMosaic.PureOps.IdealRules
public import Idealize.ShloMosaic.Lib.KernelVsHost
public import Idealize.ShloMosaic.Lib.Pointwise.Reshape

/-! # What the whole program computes

The padded lists of the edges, read at an edge; the run over the edges as a supremum; the rows and the result's layout; and that the result is the reference's. -/

@[expose] public section

namespace Cert.Proof.Seg

open Cert.KernelIdeal Cert.KernelIdeal.Gen
open Idealize.ShloMosaic hiding ix0 ix1 ix2 ix3 ix4 eq_ix2
open Idealize.ShloMosaic.ValueIdx

noncomputable section

variable {F : FTy → Type} [FloatOps F] [Named F]

/-- The sources and the destinations of the edges. -/
def srcs (x : IVec S2x1x10000x32 32) : IVec S320000 32 :=
  shapeCast S320000 (extractStridedSlice S1x320000 ![0, 0] (shapeCast S2x320000 x shapeCasts_S2x1x10000x32_S2x320000) slices_S2x320000_S1x320000_0_0) shapeCasts_S1x320000_S320000
def dsts (x : IVec S2x1x10000x32 32) : IVec S320000 32 :=
  shapeCast S320000 (extractStridedSlice S1x320000 ![1, 0] (shapeCast S2x320000 x shapeCasts_S2x1x10000x32_S2x320000) slices_S2x320000_S1x320000_1_0) shapeCasts_S1x320000_S320000

/-- The padded list of the edges' ends. -/
def padded (s : IVec S320000 32) (c : BitVec 32) : IVec S320256 32 :=
  pad S320256 ![0] ![256] ![0] s (constantI S_ 32 c) pads_S320000_S320256_02560 h_S_

theorem flat_padded (s : IVec S320000 32) (c : BitVec 32) (e : ℕ) (he : e < 320256) :
    flat (padded s c) e = if h : e < 320000 then s (ix1 ⟨e, h⟩) else c := by
  unfold flat padded
  split
  · rename_i h
    exact pad_apply_of_inside _ _ _ _ _ _ _ _ (ix1 ⟨e, h⟩) (fun a => by
      match a with
      | ⟨0, _⟩ => show e % 320256 = 0 + e * (0 + 1); omega)
  · rename_i h
    rw [pad_apply_of_not_inside _ _ _ _ _ _ _ _ (0 : Fin 1) (by
      show ¬(0 ≤ e % 320256 ∧ (e % 320256 - 0) % (0 + 1) = 0 ∧ (e % 320256 - 0) / (0 + 1) < 320000)
      omega)]
    rfl

/-- The tiles' maxima as rows. -/
def asRows (o : S1310720.Idx → F .f32) : FVec F S10240x128 .f32 := shapeCast S10240x128 (o : FVec F S1310720 .f32) shapeCasts_S1310720_S10240x128

theorem asRows_apply (o : S1310720.Idx → F .f32) (n : Fin 10240) (k : Fin 128) :
    asRows o (ix2 n k) = o (ix1 ⟨n.val * 128 + k.val, by omega⟩) := by
  unfold asRows
  exact shapeCast_apply _ _ _ _ (by
    rw [rowMajor_val1, rowMajor_val2 (σ0 := 128) (h0 := rfl)])

/-- The first ten thousand rows. -/
def cut (z : FVec F S10240x128 .f32) : FVec F S10000x128 .f32 := extractStridedSlice S10000x128 ![0, 0] z slices_S10240x128_S10000x128_0_0

theorem cut_apply (z : FVec F S10240x128 .f32) (n : Fin 10000) (k : Fin 128) : cut z (ix2 n k) = z (ix2 ⟨n.val, by omega⟩ k) := by
  unfold cut
  have hn := n.isLt
  rw [extractStridedSlice_apply (k := ix2 ⟨n.val, by omega⟩ k) (hk := by
    intro a
    match a with
    | ⟨0, _⟩ => show n.val = 0 + n.val; omega
    | ⟨1, _⟩ => show k.val = 0 + k.val; omega)]

/-- The nodes' features, one column each, padded. -/
def featT (x : FVec F S1x128x10000x1 .f32) : FVec F S128x10240 .f32 :=
  pad S128x10240 ![0, 0] ![0, 240] ![0, 0] (shapeCast S128x10000 x shapeCasts_S1x128x10000x1_S128x10000) (sitofp .f32 (constantI S_ 32 0#32)) pads_S128x10000_S128x10240_000_02400 h_S_

theorem featT_apply (x : FVec F S1x128x10000x1 .f32) (c : Fin 128) (n : Fin 10000) : featT x (ix2 c ⟨n.val, by omega⟩) = x (ix4 0 c n 0) := by
  unfold featT
  have hn := n.isLt
  have hc := c.isLt
  rw [pad_apply_of_inside _ _ _ _ _ _ _ _ (ix2 c n) (fun a => by
    match a with
    | ⟨0, _⟩ => show c.val = 0 + c.val * (0 + 1); omega
    | ⟨1, _⟩ => show n.val = 0 + n.val * (0 + 1); omega)]
  exact shapeCast_apply _ _ _ _ (by
      rw [rowMajor_val2 (σ0 := 10000) (h0 := rfl), rowMajor_val4 (σ0 := 1280000) (σ1 := 10000) (σ2 := 1) (h0 := rfl) (h1 := rfl) (h2 := rfl)]
      show 0 * 1280000 + c.val * 10000 + n.val * 1 + 0 = c.val * 10000 + n.val
      omega)

/-- The bias as a row. -/
def rowB (b : FVec F S128 .f32) : FVec F S1x128 .f32 := broadcastInDim S1x128 ![1] bcast_S128_S1x128_1 b

theorem rowB_apply (b : FVec F S128 .f32) (k : Fin 128) : rowB b (ix2 0 k) = b (ix1 k) := by
  unfold rowB
  rw [broadcastInDim_apply (k := ix1 k) (hk := by intro a; match a with | ⟨0, _⟩ => rfl)]

/-- The result's layout. -/
def laid (z : FVec F S10240x128 .f32) : FVec F S1x128x10000x1 .f32 :=
  broadcastInDim S1x128x10000x1 ![1, 2] bcast_S128x10000_S1x128x10000x1_1_2 (transpose S128x10000 [1, 0] (cut z) transposes_S10000x128_S128x10000_1_0)

theorem laid_apply (z : FVec F S10240x128 .f32) (n : Fin 10000) (k : Fin 128) : laid z (ix4 0 k n 0) = z (ix2 ⟨n.val, by omega⟩ k) := by
  unfold laid
  rw [broadcastInDim_apply (k := ix2 k n) (hk := by intro a; match a with | ⟨0, _⟩ => rfl | ⟨1, _⟩ => rfl),
    transpose_apply (k := ix2 n k) (hk := by intro a; match a with | ⟨0, _⟩ => rfl | ⟨1, _⟩ => rfl), cut_apply]

/-- Edge `e` is the `e % 32`-th neighbour of point `e / 32`. -/
theorem srcs_apply (x : IVec S2x1x10000x32 32) (e : Fin 320000) :
    srcs x (ix1 e) = x (ix4 0 0 ⟨e.val / 32, by omega⟩ ⟨e.val % 32, by omega⟩) := by
  unfold srcs
  have he := e.isLt
  rw [shapeCast_apply (k := ix2 0 e) (hk := by
      rw [rowMajor_val1, rowMajor_val2 (σ0 := 320000) (h0 := rfl)]
      show 0 * 320000 + e.val = e.val
      omega),
    extractStridedSlice_apply (k := ix2 0 e) (hk := by
      intro a
      match a with
      | ⟨0, _⟩ => rfl
      | ⟨1, _⟩ => show e.val = 0 + e.val; omega)]
  exact shapeCast_apply _ _ _ _ (by
      rw [rowMajor_val2 (σ0 := 320000) (h0 := rfl), rowMajor_val4 (σ0 := 320000) (σ1 := 320000) (σ2 := 32) (h0 := rfl) (h1 := rfl) (h2 := rfl)]
      show 0 * 320000 + 0 * 320000 + e.val / 32 * 32 + e.val % 32 = 0 * 320000 + e.val
      omega)

/-- What the precondition says of every source. -/
theorem srcs_lt (x : IVec S2x1x10000x32 32) (f : FVec F S1x128x10000x1 .f32) (W : FVec F S256x128 .f32) (b : FVec F S128 .f32) (h : Cert.Pre_sources_in_range.fn f x W b = fun _ => 1#1) (e : Fin 320000) :
    (srcs x (ix1 e)).toNat < 10000 := by
  have he := e.isLt
  have h1 := Host.reduce_andi_all _ _ _ _ ix0 (congrFun h ix0) (ix3 0 ⟨e.val / 32, by omega⟩ ⟨e.val % 32, by omega⟩)
  beta_reduce at h1
  rw [andi_apply, cmpi_apply, cmpi_apply, broadcastInDim_scalar_apply, broadcastInDim_scalar_apply,
    shapeCast_apply (k := ix4 0 0 ⟨e.val / 32, by omega⟩ ⟨e.val % 32, by omega⟩) (hk := by
      rw [rowMajor_val3 (σ0 := 320000) (σ1 := 32) (h0 := rfl) (h1 := rfl), rowMajor_val4 (σ0 := 320000) (σ1 := 320000) (σ2 := 32) (h0 := rfl) (h1 := rfl) (h2 := rfl)]
      show 0 * 320000 + 0 * 320000 + e.val / 32 * 32 + e.val % 32 = 0 * 320000 + e.val / 32 * 32 + e.val % 32
      omega),
    extractStridedSlice_apply (k := ix4 0 0 ⟨e.val / 32, by omega⟩ ⟨e.val % 32, by omega⟩) (hk := by
      intro a
      match a with
      | ⟨0, _⟩ => rfl
      | ⟨1, _⟩ => rfl
      | ⟨2, _⟩ => show e.val / 32 = 0 + e.val / 32; omega
      | ⟨3, _⟩ => show e.val % 32 = 0 + e.val % 32; omega)] at h1
  rw [srcs_apply]
  generalize x (ix4 0 0 ⟨e.val / 32, by omega⟩ ⟨e.val % 32, by omega⟩) = w at h1 ⊢
  have h2 : ∀ b c : Bool, IntOp.andi (BitVec.ofBool b) (BitVec.ofBool c) = 1#1 → b = true ∧ c = true := by decide
  have h3 : (0#32).sle w = true ∧ w.slt 10000#32 = true := h2 _ _ h1
  have h4 := h3.1
  have h5 := h3.2
  rw [BitVec.sle_eq_decide, decide_eq_true_iff] at h4
  rw [BitVec.slt_eq_decide, decide_eq_true_iff] at h5
  rw [show (0#32 : BitVec 32).toInt = 0 by decide] at h4
  rw [show (10000#32 : BitVec 32).toInt = 10000 by decide] at h5
  have h6 : w.toInt = w.toNat := by
    rw [BitVec.toInt_eq_toNat_cond] at h4 ⊢
    split at h4 <;> [skip; (have := w.isLt; omega)]
    rename_i hh
    rw [if_pos hh]
  omega

/-! ## At the ideal instance -/

theorem negC_bot : (negC (F := Ideal)) = (⊥ : EReal) := IdealRules.named_const.ideal_named_scalar (κ := κ) (name := "neg") _ _ rfl

/-- The run over the first `n` edges is the supremum over those that hit. -/
theorem fold_sup (hit : ℕ → Prop) [DecidablePred hit] (D : ℕ → ℕ) (R : ℕ → ℕ → Ideal .f32) (n : ℕ) (j : S40960.Idx) :
    fold hit D R (fun _ => (⊥ : EReal)) n j
      = ((Finset.range n).sup fun e => if hit e ∧ (j 0).val / 128 = D e then (R e ((j 0).val % 128) : EReal) else ⊥ : EReal) := by
  induction n with
  | zero => rfl
  | succ n ih =>
    rw [Finset.range_add_one, Finset.sup_insert]
    unfold fold
    by_cases hh : hit n
    · rw [if_pos hh]
      unfold upd
      by_cases hd : (j 0).val / 128 = D n
      · rw [if_pos hd, ih, if_pos ⟨hh, hd⟩]
        exact max_comm _ _
      · rw [if_neg hd, ih, if_neg (fun h => hd h.2), bot_sup_eq]
    · rw [if_neg hh, ih, if_neg (fun h => hh h.1), bot_sup_eq]

theorem edgeFold_sup (v2 : BitVec 32) (g : FVec Ideal S10000x128 .f32) (a b : S320256.Idx → BitVec 32) (n : ℕ) (j : S40960.Idx) :
    edgeFold v2 g a b (fun _ => negC) n j
      = ((Finset.range n).sup fun e => if hitW v2 (flat b e) ∧ (j 0).val / 128 = (flat b e - v2).toNat then (gAt g (flat a e).toNat ((j 0).val % 128) : EReal) else ⊥ : EReal) := by
  rw [show (fun _ : S40960.Idx => negC (F := Ideal)) = fun _ => (⊥ : EReal) from funext fun _ => negC_bot]
  exact fold_sup _ _ _ n j

/-- An edge hits a tile, at the node it goes to. -/
theorem hit_iff (b : BitVec 32) (n : ℕ) (hn : n < 10240) :
    (hitW (word (320 * (n / 320))) b ∧ n % 320 = (b - word (320 * (n / 320))).toNat) ↔ b.toNat = n := by
  unfold hitW
  rw [BitVec.toNat_sub, BitVec.toNat_ofNat]
  have hb := b.isLt
  have h1 : 320 * (n / 320) % 2 ^ 32 = 320 * (n / 320) := by omega
  rw [h1]
  constructor
  · rintro ⟨h2, h3⟩; omega
  · intro h; omega

/-- Each node's maximum over the edges that go to it. -/
def edgeMax (x : IVec S2x1x10000x32 32) (g : FVec Ideal S10000x128 .f32) (n k : ℕ) : EReal :=
  Finset.univ.sup fun e : Fin 320000 => if (dsts x (ix1 e)).toNat = n then (gAt g (srcs x (ix1 e)).toNat k : EReal) else ⊥

theorem asRows_out (x : IVec S2x1x10000x32 32) (g : FVec Ideal S10000x128 .f32) (n : Fin 10240) (k : Fin 128) :
    (asRows (outV g (padded (srcs x) 0#32) (padded (dsts x) 1073741824#32)) (ix2 n k) : EReal) = edgeMax x g n.val k.val := by
  have hn := n.isLt
  have hk := k.isLt
  rw [asRows_apply]
  unfold outV
  rw [edgeFold_sup]
  have hx : (ix1 (⟨n.val * 128 + k.val, by omega⟩ : Fin 1310720) (0 : Fin 1)).val = n.val * 128 + k.val := rfl
  have hj : (mIx (n.val * 128 + k.val) 0).val = (n.val * 128 + k.val) % 40960 := rfl
  rw [hx, hj, show 320 * ((n.val * 128 + k.val) / 40960) = 320 * (n.val / 320) by omega,
    show (n.val * 128 + k.val) % 40960 / 128 = n.val % 320 by omega, show (n.val * 128 + k.val) % 40960 % 128 = k.val by omega]
  unfold edgeMax
  apply le_antisymm
  · refine Finset.sup_le fun e he => ?_
    have he' := Finset.mem_range.mp he
    split
    · rename_i hc
      have hc' := (hit_iff _ n.val (by omega)).mp hc
      rw [flat_padded _ _ e he'] at hc' ⊢
      rw [flat_padded _ _ e he'] at *
      by_cases h : e < 320000
      · rw [dif_pos h] at hc' ⊢
        refine le_trans ?_ (Finset.le_sup (Finset.mem_univ (⟨e, h⟩ : Fin 320000)))
        rw [if_pos hc']
      · rw [dif_neg h] at hc'
        have : (1073741824#32 : BitVec 32).toNat = 1073741824 := rfl
        omega
    · exact bot_le
  · refine Finset.sup_le fun e _ => ?_
    have he := e.isLt
    split
    · rename_i hc
      refine le_trans ?_ (Finset.le_sup (Finset.mem_range.mpr (show e.val < 320256 by omega)))
      rw [flat_padded _ _ e.val (by omega), flat_padded _ _ e.val (by omega), dif_pos he, dif_pos he, if_pos ((hit_iff _ n.val (by omega)).mpr hc)]
    · exact bot_le

/-- The rows against the lower half of the weights, which the tiles read. -/
def table (x : FVec Ideal S1x128x10000x1 .f32) (W : FVec Ideal S256x128 .f32) : FVec Ideal S10000x128 .f32 := cut (prodG (featT x) W)

/-- The program's result. -/
def whole (x : FVec Ideal S1x128x10000x1 .f32) (ei : IVec S2x1x10000x32 32) (W : FVec Ideal S256x128 .f32) (b : FVec Ideal S128 .f32) : FVec Ideal S1x128x10000x1 .f32 :=
  laid (joinG (featT x) W (rowB b) (asRows (outV (table x W) (padded (srcs ei) 0#32) (padded (dsts ei) 1073741824#32))))

theorem table_apply (x : FVec Ideal S1x128x10000x1 .f32) (W : FVec Ideal S256x128 .f32) (n : Fin 10000) (k : Fin 128) :
    (table x W (ix2 n k) : EReal) = ∑ c : Fin 128, (x (ix4 0 c n 0) : EReal) * (W (ix2 ⟨128 + c.val, by omega⟩ k) : EReal) := by
  unfold table
  rw [cut_apply]
  show (∑ c : Fin 128, (featT x (ix2 c ⟨n.val, by omega⟩) : EReal) * (W (ix2 ⟨128 + c.val, by omega⟩ k) : EReal)) = _
  exact Finset.sum_congr rfl fun c _ => by rw [featT_apply]

theorem whole_apply (x : FVec Ideal S1x128x10000x1 .f32) (ei : IVec S2x1x10000x32 32) (W : FVec Ideal S256x128 .f32) (b : FVec Ideal S128 .f32)
    (h : ∀ e, (srcs ei (ix1 e)).toNat < 10000) (n : Fin 10000) (k : Fin 128) :
    (whole x ei W b (ix4 0 k n 0) : EReal)
      = max (((∑ c : Fin 128, (x (ix4 0 c n 0) : EReal) * ((W (ix2 ⟨c.val, by omega⟩ k) : EReal) - (W (ix2 ⟨128 + c.val, by omega⟩ k) : EReal))) + (b (ix1 k) : EReal))
          + Finset.univ.sup fun e : Fin 320000 => if (dsts ei (ix1 e)).toNat = n.val then
              ∑ c : Fin 128, (x (ix4 0 c ⟨(srcs ei (ix1 e)).toNat, h e⟩ 0) : EReal) * (W (ix2 ⟨128 + c.val, by omega⟩ k) : EReal) else (⊥ : EReal)) 0 := by
  unfold whole
  rw [laid_apply]
  show max (((∑ c : Fin 128, (featT x (ix2 c ⟨n.val, by omega⟩) : EReal) * ((W (ix2 ⟨c.val, by omega⟩ k) : EReal) - (W (ix2 ⟨128 + c.val, by omega⟩ k) : EReal))) + (rowB b (ix2 0 k) : EReal))
    + (asRows (outV (table x W) (padded (srcs ei) 0#32) (padded (dsts ei) 1073741824#32)) (ix2 ⟨n.val, by omega⟩ k) : EReal)) 0 = _
  rw [asRows_out, rowB_apply]
  have h1 : ∀ e : Fin 320000, gAt (table x W) (srcs ei (ix1 e)).toNat k.val = ∑ c : Fin 128, (x (ix4 0 c ⟨(srcs ei (ix1 e)).toNat, h e⟩ 0) : EReal) * (W (ix2 ⟨128 + c.val, by omega⟩ k) : EReal) := fun e => by
    rw [← table_apply]
    unfold gAt
    refine congrArg (table x W) ?_
    funext a
    refine Fin.ext ?_
    match a with
    | ⟨0, _⟩ => exact Nat.mod_eq_of_lt (h e)
    | ⟨1, _⟩ => exact Nat.mod_eq_of_lt k.isLt
  unfold edgeMax
  simp only [h1, featT_apply]

/-- The two results are the same, the features and the weights being finite. -/
theorem same_out (x : FVec Ideal S1x128x10000x1 .f32) (ei : IVec S2x1x10000x32 32) (W : FVec Ideal S256x128 .f32) (b : FVec Ideal S128 .f32)
    (hp : Cert.Pre_sources_in_range_finite.fn x ei W b = fun _ => 1#1) : whole x ei W b = Ref.out x ei W b := by
  have h : ∀ e, (srcs ei (ix1 e)).toNat < 10000 := srcs_lt ei x W b (Assume.in_range x ei W b hp)
  have hx := Assume.x_real x ei W b hp
  have hW := Assume.W_real x ei W b hp
  funext j
  have hj : j = ix4 0 (j 1) (j 2) 0 := by
    funext a
    match a with
    | ⟨0, _⟩ => exact Fin.ext (by have := (j 0).isLt; show (j 0).val = 0; have h0 : (S1x128x10000x1).size 0 = 1 := rfl; omega)
    | ⟨1, _⟩ => rfl
    | ⟨2, _⟩ => rfl
    | ⟨3, _⟩ => exact Fin.ext (by have := (j 3).isLt; show (j 3).val = 0; have h0 : (S1x128x10000x1).size 3 = 1 := rfl; omega)
  rw [hj]
  exact (whole_apply x ei W b h (j 2) (j 1)).trans ((Algebra.factored _ _ _ _ _ _ (fun _ => hx _) (fun _ => hW _) (fun _ => hW _) (fun _ _ => hx _)).trans
    (Ref.out_apply x ei W b h (j 2) (j 1)).symm)

end

end Cert.Proof.Seg
-- ==== Proof.Host.lean ====
module

public import proofs.«01_k».proof.Proof.Main
public import proofs.«01_k».proof.Proof.Value
public import Idealize.ShloMosaic.Lib.StableHlo.ReadAt

/-! # The program's run, read at its arguments and its result -/

@[expose] public section

namespace Cert.Proof.Seg

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

noncomputable section

variable {F : FTy → Type} [FloatOps F] [Named F]

section Host

open Idealize.ShloMosaic.StableHlo (after)

variable (m : (ℓ : Loc nD τ sig) → Buf (Elt F) ℓ) (ρ : Dev nD → PrngReg) (d : Dev nD)

abbrev rX : DevRef τ sig := Proc.devRef .tc main_arg0
abbrev rE : DevRef τ sig := Proc.devRef .tc main_arg1
abbrev rW : DevRef τ sig := Proc.devRef .tc main_arg2
abbrev rC : DevRef τ sig := Proc.devRef .tc main_arg3
abbrev rR : DevRef τ sig := Proc.devRef .tc main_v17

/-! What each stretch of host operations leaves. -/

theorem A_a (V : Valuation τ sig (Elt F)) : after opsA V (Proc.devRef .tc main_v5) = padded (srcs (V (Proc.devRef .tc main_arg1))) 0#32 := by
  unfold opsA
  after_reads_simp
  try simp -implicitDefEqProofs only [StableHlo.TRef.toBuf, StableHlo.TRef.ofBuf, cast_cast, cast_eq]
  clean_types
  unfold padded srcs
  rfl
theorem A_b (V : Valuation τ sig (Elt F)) : after opsA V (Proc.devRef .tc main_v8) = padded (dsts (V (Proc.devRef .tc main_arg1))) 1073741824#32 := by
  unfold opsA
  after_reads_simp
  try simp -implicitDefEqProofs only [StableHlo.TRef.toBuf, StableHlo.TRef.ofBuf, cast_cast, cast_eq]
  clean_types
  unfold padded dsts
  rfl
theorem A_t (V : Valuation τ sig (Elt F)) : after opsA V (Proc.devRef .tc main_v1) = featT (V (Proc.devRef .tc main_arg0)) := by
  unfold opsA
  after_reads_simp
  try simp -implicitDefEqProofs only [StableHlo.TRef.toBuf, StableHlo.TRef.ofBuf, cast_cast, cast_eq]
  clean_types
  unfold featT
  rfl
theorem A_r (V : Valuation τ sig (Elt F)) : after opsA V (Proc.devRef .tc main_v9) = rowB (V (Proc.devRef .tc main_arg3)) := by
  unfold opsA
  after_reads_simp
  try simp -implicitDefEqProofs only [StableHlo.TRef.toBuf, StableHlo.TRef.ofBuf, cast_cast, cast_eq]
  clean_types
  unfold rowB
  rfl
theorem A_0 (V : Valuation τ sig (Elt F)) : after opsA V (Proc.devRef .tc main_arg0) = V (Proc.devRef .tc main_arg0) := by
  unfold opsA
  after_reads_simp
theorem A_1 (V : Valuation τ sig (Elt F)) : after opsA V (Proc.devRef .tc main_arg1) = V (Proc.devRef .tc main_arg1) := by
  unfold opsA
  after_reads_simp
theorem A_2 (V : Valuation τ sig (Elt F)) : after opsA V (Proc.devRef .tc main_arg2) = V (Proc.devRef .tc main_arg2) := by
  unfold opsA
  after_reads_simp
theorem A_3 (V : Valuation τ sig (Elt F)) : after opsA V (Proc.devRef .tc main_arg3) = V (Proc.devRef .tc main_arg3) := by
  unfold opsA
  after_reads_simp
theorem B_g (V : Valuation τ sig (Elt F)) : after opsB V (Proc.devRef .tc main_v11) = cut (V (Proc.devRef .tc main_v10)) := by
  unfold opsB
  after_reads_simp
  try simp -implicitDefEqProofs only [StableHlo.TRef.toBuf, StableHlo.TRef.ofBuf, cast_cast, cast_eq]
  clean_types
  unfold cut
  rfl
theorem B_a (V : Valuation τ sig (Elt F)) : after opsB V (Proc.devRef .tc main_v5) = V (Proc.devRef .tc main_v5) := by
  unfold opsB
  after_reads_simp
theorem B_b (V : Valuation τ sig (Elt F)) : after opsB V (Proc.devRef .tc main_v8) = V (Proc.devRef .tc main_v8) := by
  unfold opsB
  after_reads_simp
theorem B_t (V : Valuation τ sig (Elt F)) : after opsB V (Proc.devRef .tc main_v1) = V (Proc.devRef .tc main_v1) := by
  unfold opsB
  after_reads_simp
theorem B_r (V : Valuation τ sig (Elt F)) : after opsB V (Proc.devRef .tc main_v9) = V (Proc.devRef .tc main_v9) := by
  unfold opsB
  after_reads_simp
theorem B_0 (V : Valuation τ sig (Elt F)) : after opsB V (Proc.devRef .tc main_arg0) = V (Proc.devRef .tc main_arg0) := by
  unfold opsB
  after_reads_simp
theorem B_1 (V : Valuation τ sig (Elt F)) : after opsB V (Proc.devRef .tc main_arg1) = V (Proc.devRef .tc main_arg1) := by
  unfold opsB
  after_reads_simp
theorem B_2 (V : Valuation τ sig (Elt F)) : after opsB V (Proc.devRef .tc main_arg2) = V (Proc.devRef .tc main_arg2) := by
  unfold opsB
  after_reads_simp
theorem B_3 (V : Valuation τ sig (Elt F)) : after opsB V (Proc.devRef .tc main_arg3) = V (Proc.devRef .tc main_arg3) := by
  unfold opsB
  after_reads_simp
theorem C_t (V : Valuation τ sig (Elt F)) : after opsC V (Proc.devRef .tc main_v1) = V (Proc.devRef .tc main_v1) := by
  unfold opsC
  after_reads_simp
theorem C_r (V : Valuation τ sig (Elt F)) : after opsC V (Proc.devRef .tc main_v9) = V (Proc.devRef .tc main_v9) := by
  unfold opsC
  after_reads_simp
theorem C_0 (V : Valuation τ sig (Elt F)) : after opsC V (Proc.devRef .tc main_arg0) = V (Proc.devRef .tc main_arg0) := by
  unfold opsC
  after_reads_simp
theorem C_1 (V : Valuation τ sig (Elt F)) : after opsC V (Proc.devRef .tc main_arg1) = V (Proc.devRef .tc main_arg1) := by
  unfold opsC
  after_reads_simp
theorem C_2 (V : Valuation τ sig (Elt F)) : after opsC V (Proc.devRef .tc main_arg2) = V (Proc.devRef .tc main_arg2) := by
  unfold opsC
  after_reads_simp
theorem C_3 (V : Valuation τ sig (Elt F)) : after opsC V (Proc.devRef .tc main_arg3) = V (Proc.devRef .tc main_arg3) := by
  unfold opsC
  after_reads_simp
theorem C_m (V : Valuation τ sig (Elt F)) : after opsC V (Proc.devRef .tc main_v13) = asRows (V (Proc.devRef .tc main_v12)) := by
  unfold opsC
  after_reads_simp
  try simp -implicitDefEqProofs only [StableHlo.TRef.toBuf, StableHlo.TRef.ofBuf, cast_cast, cast_eq]
  clean_types
  unfold asRows
  rfl
theorem D_o (V : Valuation τ sig (Elt F)) : after opsD V (Proc.devRef .tc main_v17) = laid (V (Proc.devRef .tc main_v14)) := by
  unfold opsD
  after_reads_simp
  try simp -implicitDefEqProofs only [StableHlo.TRef.toBuf, StableHlo.TRef.ofBuf, cast_cast, cast_eq]
  clean_types
  unfold laid cut
  rfl
theorem D_0 (V : Valuation τ sig (Elt F)) : after opsD V (Proc.devRef .tc main_arg0) = V (Proc.devRef .tc main_arg0) := by
  unfold opsD
  after_reads_simp
theorem D_1 (V : Valuation τ sig (Elt F)) : after opsD V (Proc.devRef .tc main_arg1) = V (Proc.devRef .tc main_arg1) := by
  unfold opsD
  after_reads_simp
theorem D_2 (V : Valuation τ sig (Elt F)) : after opsD V (Proc.devRef .tc main_arg2) = V (Proc.devRef .tc main_arg2) := by
  unfold opsD
  after_reads_simp
theorem D_3 (V : Valuation τ sig (Elt F)) : after opsD V (Proc.devRef .tc main_arg3) = V (Proc.devRef .tc main_arg3) := by
  unfold opsD
  after_reads_simp

theorem V2_ne (b : Ref sig .tc) (h : b ≠ main_v10) : V2 m d (Proc.devRef .tc b) = V1 m d (Proc.devRef .tc b) := Function.update_of_ne (devRef_ne h) _ _
theorem V4_ne (b : Ref sig .tc) (h : b ≠ main_v12) : V4 m d (Proc.devRef .tc b) = V3 m d (Proc.devRef .tc b) := Function.update_of_ne (devRef_ne h) _ _
theorem V6_ne (b : Ref sig .tc) (h : b ≠ main_v14) : V6 m d (Proc.devRef .tc b) = V5 m d (Proc.devRef .tc b) := Function.update_of_ne (devRef_ne h) _ _

theorem av_eq : av m d = padded (srcs (m (d, rE))) 0#32 := (B_a _).trans ((V2_ne m d main_v5 (by decide)).trans (A_a _))
theorem bv_eq : bv m d = padded (dsts (m (d, rE))) 1073741824#32 := (B_b _).trans ((V2_ne m d main_v8 (by decide)).trans (A_b _))
theorem gv_eq : gv m d = cut (dense m d) := (B_g _).trans (congrArg cut (Function.update_self (Proc.devRef .tc main_v10) _ _))
theorem V1_t : V1 m d (Proc.devRef .tc main_v1) = featT (m (d, rX)) := A_t _
theorem V5_t : V5 m d (Proc.devRef .tc main_v1) = featT (m (d, rX)) := (C_t _).trans ((V4_ne m d main_v1 (by decide)).trans ((B_t _).trans ((V2_ne m d main_v1 (by decide)).trans (V1_t m d))))
theorem V1_r : V1 m d (Proc.devRef .tc main_v9) = rowB (m (d, rC)) := A_r _
theorem V5_r : V5 m d (Proc.devRef .tc main_v9) = rowB (m (d, rC)) := (C_r _).trans ((V4_ne m d main_v9 (by decide)).trans ((B_r _).trans ((V2_ne m d main_v9 (by decide)).trans (V1_r m d))))
theorem V1_0 : V1 m d (Proc.devRef .tc main_arg0) = m (d, rX) := A_0 _
theorem V5_0 : V5 m d (Proc.devRef .tc main_arg0) = m (d, rX) := (C_0 _).trans ((V4_ne m d main_arg0 (by decide)).trans ((B_0 _).trans ((V2_ne m d main_arg0 (by decide)).trans (V1_0 m d))))
theorem V7_0 : V7 m d (Proc.devRef .tc main_arg0) = m (d, rX) := (D_0 _).trans ((V6_ne m d main_arg0 (by decide)).trans (V5_0 m d))
theorem V1_1 : V1 m d (Proc.devRef .tc main_arg1) = m (d, rE) := A_1 _
theorem V5_1 : V5 m d (Proc.devRef .tc main_arg1) = m (d, rE) := (C_1 _).trans ((V4_ne m d main_arg1 (by decide)).trans ((B_1 _).trans ((V2_ne m d main_arg1 (by decide)).trans (V1_1 m d))))
theorem V7_1 : V7 m d (Proc.devRef .tc main_arg1) = m (d, rE) := (D_1 _).trans ((V6_ne m d main_arg1 (by decide)).trans (V5_1 m d))
theorem V1_2 : V1 m d (Proc.devRef .tc main_arg2) = m (d, rW) := A_2 _
theorem V5_2 : V5 m d (Proc.devRef .tc main_arg2) = m (d, rW) := (C_2 _).trans ((V4_ne m d main_arg2 (by decide)).trans ((B_2 _).trans ((V2_ne m d main_arg2 (by decide)).trans (V1_2 m d))))
theorem V7_2 : V7 m d (Proc.devRef .tc main_arg2) = m (d, rW) := (D_2 _).trans ((V6_ne m d main_arg2 (by decide)).trans (V5_2 m d))
theorem V1_3 : V1 m d (Proc.devRef .tc main_arg3) = m (d, rC) := A_3 _
theorem V5_3 : V5 m d (Proc.devRef .tc main_arg3) = m (d, rC) := (C_3 _).trans ((V4_ne m d main_arg3 (by decide)).trans ((B_3 _).trans ((V2_ne m d main_arg3 (by decide)).trans (V1_3 m d))))
theorem V7_3 : V7 m d (Proc.devRef .tc main_arg3) = m (d, rC) := (D_3 _).trans ((V6_ne m d main_arg3 (by decide)).trans (V5_3 m d))
theorem V5_m : V5 m d (Proc.devRef .tc main_v13) = asRows (outV (gv m d) (av m d) (bv m d)) := (C_m _).trans (congrArg asRows (Function.update_self rO _ _))
theorem V7_o : V7 m d rR = laid (joined m d) := (D_o _).trans (congrArg laid (Function.update_self (Proc.devRef .tc main_v14) _ _))

/-- The sources are in range of the table, the padding being the first row. -/
theorem flat_av_lt (h : ∀ d : Dev nD, ∀ e, (srcs (m (d, rE)) (ValueIdx.ix1 e)).toNat < 10000) (d : Dev nD) (e : ℕ) : (flat (av m d) e).toNat < 10000 := by
  rw [show flat (av m d) e = flat (av m d) (e % 320256) by unfold flat; simp only [Nat.mod_mod], av_eq, flat_padded _ _ _ (Nat.mod_lt _ (by decide))]
  split
  · exact h d _
  · decide

/-- The program's run: the arguments stay, the result is laid out from what the last kernel makes, and every counter ends at zero. -/
theorem run_out [∀ e, Nonempty (Elt F e)] (h : ∀ d : Dev nD, ∀ e, (srcs (m (d, rE)) (ValueIdx.ix1 e)).toNat < 10000) :
    θ_run (Cert.KernelIdeal.defs (F := F)) (Cert.KernelIdeal.threads (F := F)) ⟨m, fun _ => 0, ρ⟩ fun r =>
      (∀ c : Dev nD, r.2.mem ((c.tc : Thread nD τ).loc main_v17) = laid (joined m c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 :=
  (θ_run _ _ _).mono (fun r hr => ⟨fun c => ⟨(hr.1 c rR (by decide)).trans (V7_o m c),
      (hr.1 c rX (by decide)).trans (V7_0 m c), (hr.1 c rE (by decide)).trans (V7_1 m c),
      (hr.1 c rW (by decide)).trans (V7_2 m c), (hr.1 c rC (by decide)).trans (V7_3 m c)⟩, hr.2⟩)
    (run_main m ρ (flat_av_lt m h))

end Host

section Ideal

variable (m : (ℓ : Loc nD τ sig) → Buf (Elt Ideal) ℓ) (d : Dev nD)

theorem dense_eq : dense m d = prodG (featT (m (d, rX))) (m (d, rW)) := by
  unfold dense
  rw [made0_eq]
  exact congrArg₂ prodG (V1_t m d) (V1_2 m d)

theorem joinG_congr {t t' : FVec Ideal S128x10240 .f32} {w w' : FVec Ideal S256x128 .f32} {b b' : FVec Ideal S1x128 .f32} {z z' : FVec Ideal S10240x128 .f32}
    (ht : t = t') (hw : w = w') (hb : b = b') (hz : z = z') : joinG t w b z = joinG t' w' b' z' := by rw [ht, hw, hb, hz]

theorem joined_eq : joined m d = joinG (featT (m (d, rX))) (m (d, rW)) (rowB (m (d, rC)))
    (asRows (outV (table (m (d, rX)) (m (d, rW))) (padded (srcs (m (d, rE))) 0#32) (padded (dsts (m (d, rE))) 1073741824#32))) := by
  unfold joined
  rw [made2_eq]
  have h4 : V5 m d (Proc.devRef .tc main_v13) = asRows (outV (table (m (d, rX)) (m (d, rW))) (padded (srcs (m (d, rE))) 0#32) (padded (dsts (m (d, rE))) 1073741824#32)) := by
    rw [V5_m, gv_eq, dense_eq, av_eq, bv_eq]
    rfl
  exact joinG_congr (V5_t m d) (V5_2 m d) (V5_r m d) h4

/-- The program's result at the ideal instance. -/
theorem result_eq : laid (joined m d) = whole (m (d, rX)) (m (d, rE)) (m (d, rW)) (m (d, rC)) := by
  rw [joined_eq]
  rfl

end Ideal

end

end Cert.Proof.Seg
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_sources_in_range
public import proofs.«01_k».proof.Proof.Assume
public import proofs.«01_k».proof.Proof.Host

/-! # The certificate's claims -/

@[expose] public section

namespace Cert.Proof

open Idealize.ShloMosaic Idealize.SL.Sem

noncomputable section

/-- On the machine's words a named constant is its own bits, as the program has them. -/
@[reducible] def bitsNamed : Named Bits := ⟨fun _ _ {t} b => Scalar.ofBits t b⟩

attribute [local instance] bitsNamed

/-- The one program's run at words: the arguments stay and the counters end at zero. -/
theorem run_words (m : (ℓ : Loc Cert.KernelIdeal.nD Cert.KernelIdeal.τ Cert.KernelIdeal.sig) → Buf (Elt Bits) ℓ) (ρ : Dev Cert.KernelIdeal.nD → PrngReg)
    (h : ∀ d : Dev Cert.KernelIdeal.nD, ∀ e, (Seg.srcs (m (d, Seg.rE)) (ValueIdx.ix1 e)).toNat < 10000) :
    θ_run (Cert.KernelIdeal.defs (F := Bits)) (Cert.KernelIdeal.threads (F := Bits)) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run _ _ _).mono (fun _ h => ⟨fun c => (h.1 c).2, h.2⟩) (Seg.run_out (F := Bits) m ρ h)

set_option maxHeartbeats 0 in
set_option maxRecDepth 10000 in
/-- The two programs' bodies are the same text but for the constant, which is the same word. -/
theorem bodies_same : Cert.Kernel.defs₀ (F := Bits) = Cert.KernelIdeal.defs₀ (F := Bits) := by
  funext p l a
  rcases p with _ | _ | _ <;> rcases l with ⟨_ | _ | _ | l, hl⟩ <;> rfl
/-- So are the tables that hold them. -/
theorem defs_same : Cert.Kernel.defs (F := Bits) = Cert.KernelIdeal.defs (F := Bits) :=
  congrArg (fun D => (Cert.KernelIdeal.sc (F := Bits)).defs (Pipeline.defs (Cert.KernelIdeal.pcfgs (F := Bits)) D)) bodies_same
set_option maxRecDepth 4000 in
theorem threads_same : Cert.Kernel.threads (F := Bits) = Cert.KernelIdeal.threads (F := Bits) := rfl

/-- The program on words is that program, the constant being its bits. -/
theorem frame_kernel : Cert.quiescent_Kernel := by
  intro m ρ hp
  have h := run_words m ρ fun d e => Seg.srcs_lt _ _ _ _ (hp d) e
  rw [← defs_same, ← threads_same] at h
  exact h

/-- The same at the ideal instance, under either precondition. -/
theorem frame_ideal : Cert.quiescent_KernelIdeal := fun m ρ hp =>
  (θ_run Cert.KernelIdeal.defs _ _).mono (fun _ h => ⟨fun c => (h.1 c).2, h.2⟩)
    (Seg.run_out (F := Ideal) m ρ fun d e => Seg.srcs_lt _ _ _ _ (hp d) e)

theorem frame_ideal_finite : Cert.quiescent_KernelIdeal_pre_sources_in_range_finite := fun m ρ hp =>
  (θ_run Cert.KernelIdeal.defs _ _).mono (fun _ h => ⟨fun c => (h.1 c).2, h.2⟩)
    (Seg.run_out (F := Ideal) m ρ fun d e => Seg.srcs_lt _ _ _ _ (Assume.in_range _ _ _ _ (hp d)) e)

/-- The reference runs with its arguments unchanged. -/
theorem frame_ref : Cert.quiescent_ReferenceIdeal := fun m ρ _ =>
  (θ_run Cert.ReferenceIdeal.defs _ _).mono (fun _ h => ⟨fun c => (h.1 c).2, h.2⟩) (Ref.run_out m ρ)

theorem frame_ref_finite : Cert.quiescent_ReferenceIdeal_pre_sources_in_range_finite := fun m ρ _ =>
  (θ_run Cert.ReferenceIdeal.defs _ _).mono (fun _ h => ⟨fun c => (h.1 c).2, h.2⟩) (Ref.run_out m ρ)

/-- The one named constant is the bottom. -/
theorem preserved : Cert.preserves_Kernel_KernelIdeal :=
  IdealRules.named_const.statement (κ := Cert.KernelIdeal.κ) (name := "neg") _ _ _ rfl

/-- The two end with the same result. -/
theorem same : Cert.algebraic_KernelIdeal_ReferenceIdeal_pre_sources_in_range_finite := by
  intro m ρ m' ρ' hp ha
  have hs : ∀ (d : Dev Cert.KernelIdeal.nD) e, (Seg.srcs (m (d, Seg.rE)) (ValueIdx.ix1 e)).toNat < 10000 :=
    fun d e => Seg.srcs_lt _ _ _ _ (Assume.in_range _ _ _ _ (hp d)) e
  refine ⟨fun c => (Ref.out (F := Ideal) (m (c, Seg.rX)) (m (c, Seg.rE)) (m (c, Seg.rW)) (m (c, Seg.rC)) : FVec Ideal Cert.KernelIdeal.S1x128x10000x1 .f32), ?_, ?_⟩
  · exact (θ_run Cert.KernelIdeal.defs _ _).mono
      (fun _ h c => ⟨(h.1 c).1.trans ((Seg.result_eq m c).trans (Seg.same_out _ _ _ _ (hp c))), (h.1 c).2⟩)
      (Seg.run_out (F := Ideal) m ρ hs)
  · exact (θ_run Cert.ReferenceIdeal.defs _ _).mono
      (fun _ h c => ⟨(h.1 c).1.trans (by rw [(ha c).1, (ha c).2.1, (ha c).2.2.1, (ha c).2.2.2]), (h.1 c).2⟩) (Ref.run_out m' ρ')

/-- Everything the certificate claims. -/
theorem claim : Cert.Claim :=
  ⟨Cert.Kernel.Gen.facts, Cert.KernelIdeal.Gen.facts, Cert.ReferenceIdeal.Gen.facts, Cert.Pre_sources_in_range.Gen.facts, Assume.facts,
    frame_kernel, frame_ideal, frame_ideal_finite, frame_ref, frame_ref_finite, preserved, same⟩

end

end Cert.Proof
